-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S400000x5x4 : Shape := ⟨3, ![400000, 5, 4]⟩
abbrev S400000 : Shape := ⟨1, ![400000]⟩
abbrev S2000000 : Shape := ⟨1, ![2000000]⟩
abbrev S4x32 : Shape := ⟨2, ![4, 32]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel

variable [Facts]

def fn {F : FTy → Type} [FloatOps F] (main_arg0 : FVec F S400000x5x4 .f32) (main_arg1 : IVec S400000 32) (main_arg2 : IVec S2000000 32) (main_arg3 : FVec F S4x32 .f32) : IVec S_ 1 :=
  let main_c : IVec S_ 32 := constantI S_ 32 400000#32
  let main_v0 : IVec S2000000 32 := broadcastInDim S2000000 ![] bcast_S_S2000000 main_c
  let main_v1 : IVec S2000000 1 := cmpi .slt main_arg2 main_v0
  let main_c_0 : IVec S_ 1 := constantI S_ 1 1#1
  let main_v2 : IVec S_ 1 := (fun x v => Host.reduce IntOp.andi x v reducesTo_S2000000_S_d0 h_S_) main_v1 main_c_0
  main_v2
-- ==== Kernel.lean ====
abbrev S400000x5x4 : Shape := ⟨3, ![400000, 5, 4]⟩
abbrev S400000 : Shape := ⟨1, ![400000]⟩
abbrev S2000000 : Shape := ⟨1, ![2000000]⟩
abbrev S4x32 : Shape := ⟨2, ![4, 32]⟩
abbrev S_ : Shape := ⟨0, ![]⟩
abbrev S409600x5x4 : Shape := ⟨3, ![409600, 5, 4]⟩
abbrev S12800x32x5x4 : Shape := ⟨4, ![12800, 32, 5, 4]⟩
abbrev S12800x5x32x4 : Shape := ⟨4, ![12800, 5, 32, 4]⟩
abbrev S12800x640 : Shape := ⟨2, ![12800, 640]⟩
abbrev S409600 : Shape := ⟨1, ![409600]⟩
abbrev S409600x4 : Shape := ⟨2, ![409600, 4]⟩
abbrev S1638400 : Shape := ⟨1, ![1638400]⟩
abbrev S12800x128 : Shape := ⟨2, ![12800, 128]⟩
abbrev S512x640 : Shape := ⟨2, ![512, 640]⟩
abbrev S512x128 : Shape := ⟨2, ![512, 128]⟩
abbrev S3125x1x640 : Shape := ⟨3, ![3125, 1, 640]⟩
abbrev S1x4x1x32 : Shape := ⟨4, ![1, 4, 1, 32]⟩
abbrev S32x4x1x32 : Shape := ⟨4, ![32, 4, 1, 32]⟩
abbrev S128x32 : Shape := ⟨2, ![128, 32]⟩
abbrev S2000000x32 : Shape := ⟨2, ![2000000, 32]⟩
abbrev S1x1x640 : Shape := ⟨3, ![1, 1, 640]⟩
abbrev S640x32 : Shape := ⟨2, ![640, 32]⟩
abbrev S640x128 : Shape := ⟨2, ![640, 128]⟩
abbrev S1x640 : Shape := ⟨2, ![1, 640]⟩
abbrev S32x640 : Shape := ⟨2, ![32, 640]⟩
abbrev S32x128 : Shape := ⟨2, ![32, 128]⟩
abbrev S1x1x1 : Shape := ⟨3, ![1, 1, 1]⟩
abbrev S8x128 : Shape := ⟨2, ![8, 128]⟩
abbrev S1x128 : Shape := ⟨2, ![1, 128]⟩

abbrev nBuf : Space → Nat
  | .hbm => 33
  | .vmem => 13
  | .smem => 2
  | _ => 0

abbrev bufTy : (tb : Table) → Fin (tcTables nBuf tb) → BufTy
  | .hbm, ⟨0, _⟩ => ⟨S400000x5x4, .f32⟩
  | .hbm, ⟨1, _⟩ => ⟨S400000, .i32⟩
  | .hbm, ⟨2, _⟩ => ⟨S2000000, .i32⟩
  | .hbm, ⟨3, _⟩ => ⟨S4x32, .f32⟩
  | .hbm, ⟨4, _⟩ => ⟨S_, .i32⟩
  | .hbm, ⟨5, _⟩ => ⟨S_, .f32⟩
  | .hbm, ⟨6, _⟩ => ⟨S409600x5x4, .f32⟩
  | .hbm, ⟨7, _⟩ => ⟨S12800x32x5x4, .f32⟩
  | .hbm, ⟨8, _⟩ => ⟨S12800x5x32x4, .f32⟩
  | .hbm, ⟨9, _⟩ => ⟨S12800x640, .f32⟩
  | .hbm, ⟨10, _⟩ => ⟨S_, .i32⟩
  | .hbm, ⟨11, _⟩ => ⟨S_, .i32⟩
  | .hbm, ⟨12, _⟩ => ⟨S409600, .i32⟩
  | .hbm, ⟨13, _⟩ => ⟨S409600x4, .i32⟩
  | .hbm, ⟨14, _⟩ => ⟨S1638400, .i32⟩
  | .hbm, ⟨15, _⟩ => ⟨S12800x128, .i32⟩
  | .hbm, ⟨16, _⟩ => ⟨S12800x128, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S3125x1x640, .i32⟩
  | .hbm, ⟨28, _⟩ => ⟨S3125x1x640, .i32⟩
  | .hbm, ⟨29, _⟩ => ⟨S1x4x1x32, .f32⟩
  | .hbm, ⟨30, _⟩ => ⟨S32x4x1x32, .f32⟩
  | .hbm, ⟨31, _⟩ => ⟨S128x32, .f32⟩
  | .hbm, ⟨32, _⟩ => ⟨S2000000x32, .f32⟩
  | .local _ .vmem, ⟨0, _⟩ => ⟨S512x640, .f32⟩
  | .local _ .vmem, ⟨1, _⟩ => ⟨S512x640, .f32⟩
  | .local _ .vmem, ⟨2, _⟩ => ⟨S512x128, .i32⟩
  | .local _ .vmem, ⟨3, _⟩ => ⟨S512x128, .i32⟩
  | .local _ .vmem, ⟨4, _⟩ => ⟨S512x128, .f32⟩
  | .local _ .vmem, ⟨5, _⟩ => ⟨S512x128, .f32⟩
  | .local _ .vmem, ⟨6, _⟩ => ⟨S1x1x640, .i32⟩
  | .local _ .vmem, ⟨7, _⟩ => ⟨S1x1x640, .i32⟩
  | .local _ .vmem, ⟨8, _⟩ => ⟨S128x32, .f32⟩
  | .local _ .vmem, ⟨9, _⟩ => ⟨S12800x128, .f32⟩
  | .local _ .vmem, ⟨10, _⟩ => ⟨S640x32, .f32⟩
  | .local _ .vmem, ⟨11, _⟩ => ⟨S640x32, .f32⟩
  | .local _ .vmem, ⟨12, _⟩ => ⟨S640x128, .f32⟩
  | .local _ .smem, ⟨0, _⟩ => ⟨S1x1x640, .i32⟩
  | .local _ .smem, ⟨1, _⟩ => ⟨S1x1x640, .i32⟩
  | _, _ => ⟨S400000x5x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![3125], ![false]⟩

def k1_mult1 (v25 : BitVec 32) : BitVec 32 :=
  let c3_i32 : BitVec 32 := 3#32
  let v26 : BitVec 32 := Scalar.shrsi v25 c3_i32
  let c3_i32_9 : BitVec 32 := 3#32
  let v27 : BitVec 32 := Scalar.shli v26 c3_i32_9
  v27

def k1_off1 (v25 : BitVec 32) : Fin 2 → Nat :=
  let c3_i32 : BitVec 32 := 3#32
  let v26 : BitVec 32 := Scalar.shrsi v25 c3_i32
  let c3_i32_9 : BitVec 32 := 3#32
  let v27 : BitVec 32 := Scalar.shli v26 c3_i32_9
  let v28 : BitVec 32 := v27
  let v29 : Index := Scalar.indexCast v28
  let c0_10 : Index := 0#32
  ![v29.toNat, 0]

def k1_chk1 (v25 : BitVec 32) : Prop :=
  (8 ∣ (k1_mult1 v25).toNat) ∧
  (∀ a, (k1_off1 v25) a + S8x128.size a ≤ S12800x128.size a)
theorem k1_mult1_dvd : ∀ (v25 : BitVec 32) (k1_hw1 : k1_chk1 v25), 8 ∣ (k1_mult1 v25).toNat := fun v25 k1_hw1 => k1_hw1.1
theorem k1_off1_inb : ∀ (v25 : BitVec 32) (k1_hw1 : k1_chk1 v25), ∀ a, (k1_off1 v25) a + S8x128.size a ≤ S12800x128.size a := fun v25 k1_hw1 => k1_hw1.2

def k1_mult2 (v39 : BitVec 32) : BitVec 32 :=
  let c3_i32_16 : BitVec 32 := 3#32
  let v40 : BitVec 32 := Scalar.shrsi v39 c3_i32_16
  let c3_i32_17 : BitVec 32 := 3#32
  let v41 : BitVec 32 := Scalar.shli v40 c3_i32_17
  v41

def k1_off2 (v39 : BitVec 32) : Fin 2 → Nat :=
  let c3_i32_16 : BitVec 32 := 3#32
  let v40 : BitVec 32 := Scalar.shrsi v39 c3_i32_16
  let c3_i32_17 : BitVec 32 := 3#32
  let v41 : BitVec 32 := Scalar.shli v40 c3_i32_17
  let v42 : BitVec 32 := v41
  let v43 : Index := Scalar.indexCast v42
  let c0_18 : Index := 0#32
  ![v43.toNat, 0]

def k1_chk2 (v39 : BitVec 32) : Prop :=
  (8 ∣ (k1_mult2 v39).toNat) ∧
  (∀ a, (k1_off2 v39) a + S8x128.size a ≤ S12800x128.size a)
theorem k1_mult2_dvd : ∀ (v39 : BitVec 32) (k1_hw2 : k1_chk2 v39), 8 ∣ (k1_mult2 v39).toNat := fun v39 k1_hw2 => k1_hw2.1
theorem k1_off2_inb : ∀ (v39 : BitVec 32) (k1_hw2 : k1_chk2 v39), ∀ a, (k1_off2 v39) a + S8x128.size a ≤ S12800x128.size a := fun v39 k1_hw2 => k1_hw2.2

def k1_mult3 (v53 : BitVec 32) : BitVec 32 :=
  let c3_i32_24 : BitVec 32 := 3#32
  let v54 : BitVec 32 := Scalar.shrsi v53 c3_i32_24
  let c3_i32_25 : BitVec 32 := 3#32
  let v55 : BitVec 32 := Scalar.shli v54 c3_i32_25
  v55

def k1_off3 (v53 : BitVec 32) : Fin 2 → Nat :=
  let c3_i32_24 : BitVec 32 := 3#32
  let v54 : BitVec 32 := Scalar.shrsi v53 c3_i32_24
  let c3_i32_25 : BitVec 32 := 3#32
  let v55 : BitVec 32 := Scalar.shli v54 c3_i32_25
  let v56 : BitVec 32 := v55
  let v57 : Index := Scalar.indexCast v56
  let c0_26 : Index := 0#32
  ![v57.toNat, 0]

def k1_chk3 (v53 : BitVec 32) : Prop :=
  (8 ∣ (k1_mult3 v53).toNat) ∧
  (∀ a, (k1_off3 v53) a + S8x128.size a ≤ S12800x128.size a)
theorem k1_mult3_dvd : ∀ (v53 : BitVec 32) (k1_hw3 : k1_chk3 v53), 8 ∣ (k1_mult3 v53).toNat := fun v53 k1_hw3 => k1_hw3.1
theorem k1_off3_inb : ∀ (v53 : BitVec 32) (k1_hw3 : k1_chk3 v53), ∀ a, (k1_off3 v53) a + S8x128.size a ≤ S12800x128.size a := fun v53 k1_hw3 => k1_hw3.2

def k1_mult4 (v67 : BitVec 32) : BitVec 32 :=
  let c3_i32_33 : BitVec 32 := 3#32
  let v68 : BitVec 32 := Scalar.shrsi v67 c3_i32_33
  let c3_i32_34 : BitVec 32 := 3#32
  let v69 : BitVec 32 := Scalar.shli v68 c3_i32_34
  v69

def k1_off4 (v67 : BitVec 32) : Fin 2 → Nat :=
  let c3_i32_33 : BitVec 32 := 3#32
  let v68 : BitVec 32 := Scalar.shrsi v67 c3_i32_33
  let c3_i32_34 : BitVec 32 := 3#32
  let v69 : BitVec 32 := Scalar.shli v68 c3_i32_34
  let v70 : BitVec 32 := v69
  let v71 : Index := Scalar.indexCast v70
  let c0_35 : Index := 0#32
  ![v71.toNat, 0]

def k1_chk4 (v67 : BitVec 32) : Prop :=
  (8 ∣ (k1_mult4 v67).toNat) ∧
  (∀ a, (k1_off4 v67) a + S8x128.size a ≤ S12800x128.size a)
theorem k1_mult4_dvd : ∀ (v67 : BitVec 32) (k1_hw4 : k1_chk4 v67), 8 ∣ (k1_mult4 v67).toNat := fun v67 k1_hw4 => k1_hw4.1
theorem k1_off4_inb : ∀ (v67 : BitVec 32) (k1_hw4 : k1_chk4 v67), ∀ a, (k1_off4 v67) a + S8x128.size a ≤ S12800x128.size a := fun v67 k1_hw4 => k1_hw4.2

def k1_mult5 (v81 : BitVec 32) : BitVec 32 :=
  let c3_i32_42 : BitVec 32 := 3#32
  let v82 : BitVec 32 := Scalar.shrsi v81 c3_i32_42
  let c3_i32_43 : BitVec 32 := 3#32
  let v83 : BitVec 32 := Scalar.shli v82 c3_i32_43
  v83

def k1_off5 (v81 : BitVec 32) : Fin 2 → Nat :=
  let c3_i32_42 : BitVec 32 := 3#32
  let v82 : BitVec 32 := Scalar.shrsi v81 c3_i32_42
  let c3_i32_43 : BitVec 32 := 3#32
  let v83 : BitVec 32 := Scalar.shli v82 c3_i32_43
  let v84 : BitVec 32 := v83
  let v85 : Index := Scalar.indexCast v84
  let c0_44 : Index := 0#32
  ![v85.toNat, 0]

def k1_chk5 (v81 : BitVec 32) : Prop :=
  (8 ∣ (k1_mult5 v81).toNat) ∧
  (∀ a, (k1_off5 v81) a + S8x128.size a ≤ S12800x128.size a)
theorem k1_mult5_dvd : ∀ (v81 : BitVec 32) (k1_hw5 : k1_chk5 v81), 8 ∣ (k1_mult5 v81).toNat := fun v81 k1_hw5 => k1_hw5.1
theorem k1_off5_inb : ∀ (v81 : BitVec 32) (k1_hw5 : k1_chk5 v81), ∀ a, (k1_off5 v81) a + S8x128.size a ≤ S12800x128.size a := fun v81 k1_hw5 => k1_hw5.2

def k1_mult6 (v95 : BitVec 32) : BitVec 32 :=
  let c3_i32_50 : BitVec 32 := 3#32
  let v96 : BitVec 32 := Scalar.shrsi v95 c3_i32_50
  let c3_i32_51 : BitVec 32 := 3#32
  let v97 : BitVec 32 := Scalar.shli v96 c3_i32_51
  v97

def k1_off6 (v95 : BitVec 32) : Fin 2 → Nat :=
  let c3_i32_50 : BitVec 32 := 3#32
  let v96 : BitVec 32 := Scalar.shrsi v95 c3_i32_50
  let c3_i32_51 : BitVec 32 := 3#32
  let v97 : BitVec 32 := Scalar.shli v96 c3_i32_51
  let v98 : BitVec 32 := v97
  let v99 : Index := Scalar.indexCast v98
  let c0_52 : Index := 0#32
  ![v99.toNat, 0]

def k1_chk6 (v95 : BitVec 32) : Prop :=
  (8 ∣ (k1_mult6 v95).toNat) ∧
  (∀ a, (k1_off6 v95) a + S8x128.size a ≤ S12800x128.size a)
theorem k1_mult6_dvd : ∀ (v95 : BitVec 32) (k1_hw6 : k1_chk6 v95), 8 ∣ (k1_mult6 v95).toNat := fun v95 k1_hw6 => k1_hw6.1
theorem k1_off6_inb : ∀ (v95 : BitVec 32) (k1_hw6 : k1_chk6 v95), ∀ a, (k1_off6 v95) a + S8x128.size a ≤ S12800x128.size a := fun v95 k1_hw6 => k1_hw6.2

def k1_mult7 (v109 : BitVec 32) : BitVec 32 :=
  let c3_i32_58 : BitVec 32 := 3#32
  let v110 : BitVec 32 := Scalar.shrsi v109 c3_i32_58
  let c3_i32_59 : BitVec 32 := 3#32
  let v111 : BitVec 32 := Scalar.shli v110 c3_i32_59
  v111

def k1_off7 (v109 : BitVec 32) : Fin 2 → Nat :=
  let c3_i32_58 : BitVec 32 := 3#32
  let v110 : BitVec 32 := Scalar.shrsi v109 c3_i32_58
  let c3_i32_59 : BitVec 32 := 3#32
  let v111 : BitVec 32 := Scalar.shli v110 c3_i32_59
  let v112 : BitVec 32 := v111
  let v113 : Index := Scalar.indexCast v112
  let c0_60 : Index := 0#32
  ![v113.toNat, 0]

def k1_chk7 (v109 : BitVec 32) : Prop :=
  (8 ∣ (k1_mult7 v109).toNat) ∧
  (∀ a, (k1_off7 v109) a + S8x128.size a ≤ S12800x128.size a)
theorem k1_mult7_dvd : ∀ (v109 : BitVec 32) (k1_hw7 : k1_chk7 v109), 8 ∣ (k1_mult7 v109).toNat := fun v109 k1_hw7 => k1_hw7.1
theorem k1_off7_inb : ∀ (v109 : BitVec 32) (k1_hw7 : k1_chk7 v109), ∀ a, (k1_off7 v109) a + S8x128.size a ≤ S12800x128.size a := fun v109 k1_hw7 => k1_hw7.2

def k1_mult8 (v123 : BitVec 32) : BitVec 32 :=
  let c3_i32_66 : BitVec 32 := 3#32
  let v124 : BitVec 32 := Scalar.shrsi v123 c3_i32_66
  let c3_i32_67 : BitVec 32 := 3#32
  let v125 : BitVec 32 := Scalar.shli v124 c3_i32_67
  v125

def k1_off8 (v123 : BitVec 32) : Fin 2 → Nat :=
  let c3_i32_66 : BitVec 32 := 3#32
  let v124 : BitVec 32 := Scalar.shrsi v123 c3_i32_66
  let c3_i32_67 : BitVec 32 := 3#32
  let v125 : BitVec 32 := Scalar.shli v124 c3_i32_67
  let v126 : BitVec 32 := v125
  let v127 : Index := Scalar.indexCast v126
  let c0_68 : Index := 0#32
  ![v127.toNat, 0]

def k1_chk8 (v123 : BitVec 32) : Prop :=
  (8 ∣ (k1_mult8 v123).toNat) ∧
  (∀ a, (k1_off8 v123) a + S8x128.size a ≤ S12800x128.size a)
theorem k1_mult8_dvd : ∀ (v123 : BitVec 32) (k1_hw8 : k1_chk8 v123), 8 ∣ (k1_mult8 v123).toNat := fun v123 k1_hw8 => k1_hw8.1
theorem k1_off8_inb : ∀ (v123 : BitVec 32) (k1_hw8 : k1_chk8 v123), ∀ a, (k1_off8 v123) a + S8x128.size a ≤ S12800x128.size a := fun v123 k1_hw8 => k1_hw8.2

def k1_mult9 (v137 : BitVec 32) : BitVec 32 :=
  let c3_i32_75 : BitVec 32 := 3#32
  let v138 : BitVec 32 := Scalar.shrsi v137 c3_i32_75
  let c3_i32_76 : BitVec 32 := 3#32
  let v139 : BitVec 32 := Scalar.shli v138 c3_i32_76
  v139

def k1_off9 (v137 : BitVec 32) : Fin 2 → Nat :=
  let c3_i32_75 : BitVec 32 := 3#32
  let v138 : BitVec 32 := Scalar.shrsi v137 c3_i32_75
  let c3_i32_76 : BitVec 32 := 3#32
  let v139 : BitVec 32 := Scalar.shli v138 c3_i32_76
  let v140 : BitVec 32 := v139
  let v141 : Index := Scalar.indexCast v140
  let c0_77 : Index := 0#32
  ![v141.toNat, 0]

def k1_chk9 (v137 : BitVec 32) : Prop :=
  (8 ∣ (k1_mult9 v137).toNat) ∧
  (∀ a, (k1_off9 v137) a + S8x128.size a ≤ S12800x128.size a)
theorem k1_mult9_dvd : ∀ (v137 : BitVec 32) (k1_hw9 : k1_chk9 v137), 8 ∣ (k1_mult9 v137).toNat := fun v137 k1_hw9 => k1_hw9.1
theorem k1_off9_inb : ∀ (v137 : BitVec 32) (k1_hw9 : k1_chk9 v137), ∀ a, (k1_off9 v137) a + S8x128.size a ≤ S12800x128.size a := fun v137 k1_hw9 => k1_hw9.2

def k1_mult10 (v151 : BitVec 32) : BitVec 32 :=
  let c3_i32_83 : BitVec 32 := 3#32
  let v152 : BitVec 32 := Scalar.shrsi v151 c3_i32_83
  let c3_i32_84 : BitVec 32 := 3#32
  let v153 : BitVec 32 := Scalar.shli v152 c3_i32_84
  v153

def k1_off10 (v151 : BitVec 32) : Fin 2 → Nat :=
  let c3_i32_83 : BitVec 32 := 3#32
  let v152 : BitVec 32 := Scalar.shrsi v151 c3_i32_83
  let c3_i32_84 : BitVec 32 := 3#32
  let v153 : BitVec 32 := Scalar.shli v152 c3_i32_84
  let v154 : BitVec 32 := v153
  let v155 : Index := Scalar.indexCast v154
  let c0_85 : Index := 0#32
  ![v155.toNat, 0]

def k1_chk10 (v151 : BitVec 32) : Prop :=
  (8 ∣ (k1_mult10 v151).toNat) ∧
  (∀ a, (k1_off10 v151) a + S8x128.size a ≤ S12800x128.size a)
theorem k1_mult10_dvd : ∀ (v151 : BitVec 32) (k1_hw10 : k1_chk10 v151), 8 ∣ (k1_mult10 v151).toNat := fun v151 k1_hw10 => k1_hw10.1
theorem k1_off10_inb : ∀ (v151 : BitVec 32) (k1_hw10 : k1_chk10 v151), ∀ a, (k1_off10 v151) a + S8x128.size a ≤ S12800x128.size a := fun v151 k1_hw10 => k1_hw10.2

def k1_mult11 (v165 : BitVec 32) : BitVec 32 :=
  let c3_i32_91 : BitVec 32 := 3#32
  let v166 : BitVec 32 := Scalar.shrsi v165 c3_i32_91
  let c3_i32_92 : BitVec 32 := 3#32
  let v167 : BitVec 32 := Scalar.shli v166 c3_i32_92
  v167

def k1_off11 (v165 : BitVec 32) : Fin 2 → Nat :=
  let c3_i32_91 : BitVec 32 := 3#32
  let v166 : BitVec 32 := Scalar.shrsi v165 c3_i32_91
  let c3_i32_92 : BitVec 32 := 3#32
  let v167 : BitVec 32 := Scalar.shli v166 c3_i32_92
  let v168 : BitVec 32 := v167
  let v169 : Index := Scalar.indexCast v168
  let c0_93 : Index := 0#32
  ![v169.toNat, 0]

def k1_chk11 (v165 : BitVec 32) : Prop :=
  (8 ∣ (k1_mult11 v165).toNat) ∧
  (∀ a, (k1_off11 v165) a + S8x128.size a ≤ S12800x128.size a)
theorem k1_mult11_dvd : ∀ (v165 : BitVec 32) (k1_hw11 : k1_chk11 v165), 8 ∣ (k1_mult11 v165).toNat := fun v165 k1_hw11 => k1_hw11.1
theorem k1_off11_inb : ∀ (v165 : BitVec 32) (k1_hw11 : k1_chk11 v165), ∀ a, (k1_off11 v165) a + S8x128.size a ≤ S12800x128.size a := fun v165 k1_hw11 => k1_hw11.2

def k1_mult12 (v179 : BitVec 32) : BitVec 32 :=
  let c3_i32_99 : BitVec 32 := 3#32
  let v180 : BitVec 32 := Scalar.shrsi v179 c3_i32_99
  let c3_i32_100 : BitVec 32 := 3#32
  let v181 : BitVec 32 := Scalar.shli v180 c3_i32_100
  v181

def k1_off12 (v179 : BitVec 32) : Fin 2 → Nat :=
  let c3_i32_99 : BitVec 32 := 3#32
  let v180 : BitVec 32 := Scalar.shrsi v179 c3_i32_99
  let c3_i32_100 : BitVec 32 := 3#32
  let v181 : BitVec 32 := Scalar.shli v180 c3_i32_100
  let v182 : BitVec 32 := v181
  let v183 : Index := Scalar.indexCast v182
  let c0_101 : Index := 0#32
  ![v183.toNat, 0]

def k1_chk12 (v179 : BitVec 32) : Prop :=
  (8 ∣ (k1_mult12 v179).toNat) ∧
  (∀ a, (k1_off12 v179) a + S8x128.size a ≤ S12800x128.size a)
theorem k1_mult12_dvd : ∀ (v179 : BitVec 32) (k1_hw12 : k1_chk12 v179), 8 ∣ (k1_mult12 v179).toNat := fun v179 k1_hw12 => k1_hw12.1
theorem k1_off12_inb : ∀ (v179 : BitVec 32) (k1_hw12 : k1_chk12 v179), ∀ a, (k1_off12 v179) a + S8x128.size a ≤ S12800x128.size a := fun v179 k1_hw12 => k1_hw12.2

def k1_mult13 (v193 : BitVec 32) : BitVec 32 :=
  let c3_i32_107 : BitVec 32 := 3#32
  let v194 : BitVec 32 := Scalar.shrsi v193 c3_i32_107
  let c3_i32_108 : BitVec 32 := 3#32
  let v195 : BitVec 32 := Scalar.shli v194 c3_i32_108
  v195

def k1_off13 (v193 : BitVec 32) : Fin 2 → Nat :=
  let c3_i32_107 : BitVec 32 := 3#32
  let v194 : BitVec 32 := Scalar.shrsi v193 c3_i32_107
  let c3_i32_108 : BitVec 32 := 3#32
  let v195 : BitVec 32 := Scalar.shli v194 c3_i32_108
  let v196 : BitVec 32 := v195
  let v197 : Index := Scalar.indexCast v196
  let c0_109 : Index := 0#32
  ![v197.toNat, 0]

def k1_chk13 (v193 : BitVec 32) : Prop :=
  (8 ∣ (k1_mult13 v193).toNat) ∧
  (∀ a, (k1_off13 v193) a + S8x128.size a ≤ S12800x128.size a)
theorem k1_mult13_dvd : ∀ (v193 : BitVec 32) (k1_hw13 : k1_chk13 v193), 8 ∣ (k1_mult13 v193).toNat := fun v193 k1_hw13 => k1_hw13.1
theorem k1_off13_inb : ∀ (v193 : BitVec 32) (k1_hw13 : k1_chk13 v193), ∀ a, (k1_off13 v193) a + S8x128.size a ≤ S12800x128.size a := fun v193 k1_hw13 => k1_hw13.2

def k1_mult14 (v207 : BitVec 32) : BitVec 32 :=
  let c3_i32_115 : BitVec 32 := 3#32
  let v208 : BitVec 32 := Scalar.shrsi v207 c3_i32_115
  let c3_i32_116 : BitVec 32 := 3#32
  let v209 : BitVec 32 := Scalar.shli v208 c3_i32_116
  v209

def k1_off14 (v207 : BitVec 32) : Fin 2 → Nat :=
  let c3_i32_115 : BitVec 32 := 3#32
  let v208 : BitVec 32 := Scalar.shrsi v207 c3_i32_115
  let c3_i32_116 : BitVec 32 := 3#32
  let v209 : BitVec 32 := Scalar.shli v208 c3_i32_116
  let v210 : BitVec 32 := v209
  let v211 : Index := Scalar.indexCast v210
  let c0_117 : Index := 0#32
  ![v211.toNat, 0]

def k1_chk14 (v207 : BitVec 32) : Prop :=
  (8 ∣ (k1_mult14 v207).toNat) ∧
  (∀ a, (k1_off14 v207) a + S8x128.size a ≤ S12800x128.size a)
theorem k1_mult14_dvd : ∀ (v207 : BitVec 32) (k1_hw14 : k1_chk14 v207), 8 ∣ (k1_mult14 v207).toNat := fun v207 k1_hw14 => k1_hw14.1
theorem k1_off14_inb : ∀ (v207 : BitVec 32) (k1_hw14 : k1_chk14 v207), ∀ a, (k1_off14 v207) a + S8x128.size a ≤ S12800x128.size a := fun v207 k1_hw14 => k1_hw14.2

def k1_mult15 (v221 : BitVec 32) : BitVec 32 :=
  let c3_i32_123 : BitVec 32 := 3#32
  let v222 : BitVec 32 := Scalar.shrsi v221 c3_i32_123
  let c3_i32_124 : BitVec 32 := 3#32
  let v223 : BitVec 32 := Scalar.shli v222 c3_i32_124
  v223

def k1_off15 (v221 : BitVec 32) : Fin 2 → Nat :=
  let c3_i32_123 : BitVec 32 := 3#32
  let v222 : BitVec 32 := Scalar.shrsi v221 c3_i32_123
  let c3_i32_124 : BitVec 32 := 3#32
  let v223 : BitVec 32 := Scalar.shli v222 c3_i32_124
  let v224 : BitVec 32 := v223
  let v225 : Index := Scalar.indexCast v224
  let c0_125 : Index := 0#32
  ![v225.toNat, 0]

def k1_chk15 (v221 : BitVec 32) : Prop :=
  (8 ∣ (k1_mult15 v221).toNat) ∧
  (∀ a, (k1_off15 v221) a + S8x128.size a ≤ S12800x128.size a)
theorem k1_mult15_dvd : ∀ (v221 : BitVec 32) (k1_hw15 : k1_chk15 v221), 8 ∣ (k1_mult15 v221).toNat := fun v221 k1_hw15 => k1_hw15.1
theorem k1_off15_inb : ∀ (v221 : BitVec 32) (k1_hw15 : k1_chk15 v221), ∀ a, (k1_off15 v221) a + S8x128.size a ≤ S12800x128.size a := fun v221 k1_hw15 => k1_hw15.2

def k1_mult16 (v235 : BitVec 32) : BitVec 32 :=
  let c3_i32_131 : BitVec 32 := 3#32
  let v236 : BitVec 32 := Scalar.shrsi v235 c3_i32_131
  let c3_i32_132 : BitVec 32 := 3#32
  let v237 : BitVec 32 := Scalar.shli v236 c3_i32_132
  v237

def k1_off16 (v235 : BitVec 32) : Fin 2 → Nat :=
  let c3_i32_131 : BitVec 32 := 3#32
  let v236 : BitVec 32 := Scalar.shrsi v235 c3_i32_131
  let c3_i32_132 : BitVec 32 := 3#32
  let v237 : BitVec 32 := Scalar.shli v236 c3_i32_132
  let v238 : BitVec 32 := v237
  let v239 : Index := Scalar.indexCast v238
  let c0_133 : Index := 0#32
  ![v239.toNat, 0]

def k1_chk16 (v235 : BitVec 32) : Prop :=
  (8 ∣ (k1_mult16 v235).toNat) ∧
  (∀ a, (k1_off16 v235) a + S8x128.size a ≤ S12800x128.size a)
theorem k1_mult16_dvd : ∀ (v235 : BitVec 32) (k1_hw16 : k1_chk16 v235), 8 ∣ (k1_mult16 v235).toNat := fun v235 k1_hw16 => k1_hw16.1
theorem k1_off16_inb : ∀ (v235 : BitVec 32) (k1_hw16 : k1_chk16 v235), ∀ a, (k1_off16 v235) a + S8x128.size a ≤ S12800x128.size a := fun v235 k1_hw16 => k1_hw16.2

def k1_mult17 (v249 : BitVec 32) : BitVec 32 :=
  let c3_i32_139 : BitVec 32 := 3#32
  let v250 : BitVec 32 := Scalar.shrsi v249 c3_i32_139
  let c3_i32_140 : BitVec 32 := 3#32
  let v251 : BitVec 32 := Scalar.shli v250 c3_i32_140
  v251

def k1_off17 (v249 : BitVec 32) : Fin 2 → Nat :=
  let c3_i32_139 : BitVec 32 := 3#32
  let v250 : BitVec 32 := Scalar.shrsi v249 c3_i32_139
  let c3_i32_140 : BitVec 32 := 3#32
  let v251 : BitVec 32 := Scalar.shli v250 c3_i32_140
  let v252 : BitVec 32 := v251
  let v253 : Index := Scalar.indexCast v252
  let c0_141 : Index := 0#32
  ![v253.toNat, 0]

def k1_chk17 (v249 : BitVec 32) : Prop :=
  (8 ∣ (k1_mult17 v249).toNat) ∧
  (∀ a, (k1_off17 v249) a + S8x128.size a ≤ S12800x128.size a)
theorem k1_mult17_dvd : ∀ (v249 : BitVec 32) (k1_hw17 : k1_chk17 v249), 8 ∣ (k1_mult17 v249).toNat := fun v249 k1_hw17 => k1_hw17.1
theorem k1_off17_inb : ∀ (v249 : BitVec 32) (k1_hw17 : k1_chk17 v249), ∀ a, (k1_off17 v249) a + S8x128.size a ≤ S12800x128.size a := fun v249 k1_hw17 => k1_hw17.2

def k1_mult18 (v263 : BitVec 32) : BitVec 32 :=
  let c3_i32_147 : BitVec 32 := 3#32
  let v264 : BitVec 32 := Scalar.shrsi v263 c3_i32_147
  let c3_i32_148 : BitVec 32 := 3#32
  let v265 : BitVec 32 := Scalar.shli v264 c3_i32_148
  v265

def k1_off18 (v263 : BitVec 32) : Fin 2 → Nat :=
  let c3_i32_147 : BitVec 32 := 3#32
  let v264 : BitVec 32 := Scalar.shrsi v263 c3_i32_147
  let c3_i32_148 : BitVec 32 := 3#32
  let v265 : BitVec 32 := Scalar.shli v264 c3_i32_148
  let v266 : BitVec 32 := v265
  let v267 : Index := Scalar.indexCast v266
  let c0_149 : Index := 0#32
  ![v267.toNat, 0]

def k1_chk18 (v263 : BitVec 32) : Prop :=
  (8 ∣ (k1_mult18 v263).toNat) ∧
  (∀ a, (k1_off18 v263) a + S8x128.size a ≤ S12800x128.size a)
theorem k1_mult18_dvd : ∀ (v263 : BitVec 32) (k1_hw18 : k1_chk18 v263), 8 ∣ (k1_mult18 v263).toNat := fun v263 k1_hw18 => k1_hw18.1
theorem k1_off18_inb : ∀ (v263 : BitVec 32) (k1_hw18 : k1_chk18 v263), ∀ a, (k1_off18 v263) a + S8x128.size a ≤ S12800x128.size a := fun v263 k1_hw18 => k1_hw18.2

def k1_mult19 (v277 : BitVec 32) : BitVec 32 :=
  let c3_i32_155 : BitVec 32 := 3#32
  let v278 : BitVec 32 := Scalar.shrsi v277 c3_i32_155
  let c3_i32_156 : BitVec 32 := 3#32
  let v279 : BitVec 32 := Scalar.shli v278 c3_i32_156
  v279

def k1_off19 (v277 : BitVec 32) : Fin 2 → Nat :=
  let c3_i32_155 : BitVec 32 := 3#32
  let v278 : BitVec 32 := Scalar.shrsi v277 c3_i32_155
  let c3_i32_156 : BitVec 32 := 3#32
  let v279 : BitVec 32 := Scalar.shli v278 c3_i32_156
  let v280 : BitVec 32 := v279
  let v281 : Index := Scalar.indexCast v280
  let c0_157 : Index := 0#32
  ![v281.toNat, 0]

def k1_chk19 (v277 : BitVec 32) : Prop :=
  (8 ∣ (k1_mult19 v277).toNat) ∧
  (∀ a, (k1_off19 v277) a + S8x128.size a ≤ S12800x128.size a)
theorem k1_mult19_dvd : ∀ (v277 : BitVec 32) (k1_hw19 : k1_chk19 v277), 8 ∣ (k1_mult19 v277).toNat := fun v277 k1_hw19 => k1_hw19.1
theorem k1_off19_inb : ∀ (v277 : BitVec 32) (k1_hw19 : k1_chk19 v277), ∀ a, (k1_off19 v277) a + S8x128.size a ≤ S12800x128.size a := fun v277 k1_hw19 => k1_hw19.2

def k1_mult20 (v291 : BitVec 32) : BitVec 32 :=
  let c3_i32_163 : BitVec 32 := 3#32
  let v292 : BitVec 32 := Scalar.shrsi v291 c3_i32_163
  let c3_i32_164 : BitVec 32 := 3#32
  let v293 : BitVec 32 := Scalar.shli v292 c3_i32_164
  v293

def k1_off20 (v291 : BitVec 32) : Fin 2 → Nat :=
  let c3_i32_163 : BitVec 32 := 3#32
  let v292 : BitVec 32 := Scalar.shrsi v291 c3_i32_163
  let c3_i32_164 : BitVec 32 := 3#32
  let v293 : BitVec 32 := Scalar.shli v292 c3_i32_164
  let v294 : BitVec 32 := v293
  let v295 : Index := Scalar.indexCast v294
  let c0_165 : Index := 0#32
  ![v295.toNat, 0]

def k1_chk20 (v291 : BitVec 32) : Prop :=
  (8 ∣ (k1_mult20 v291).toNat) ∧
  (∀ a, (k1_off20 v291) a + S8x128.size a ≤ S12800x128.size a)
theorem k1_mult20_dvd : ∀ (v291 : BitVec 32) (k1_hw20 : k1_chk20 v291), 8 ∣ (k1_mult20 v291).toNat := fun v291 k1_hw20 => k1_hw20.1
theorem k1_off20_inb : ∀ (v291 : BitVec 32) (k1_hw20 : k1_chk20 v291), ∀ a, (k1_off20 v291) a + S8x128.size a ≤ S12800x128.size a := fun v291 k1_hw20 => k1_hw20.2

def k1_mult21 (v305 : BitVec 32) : BitVec 32 :=
  let c3_i32_171 : BitVec 32 := 3#32
  let v306 : BitVec 32 := Scalar.shrsi v305 c3_i32_171
  let c3_i32_172 : BitVec 32 := 3#32
  let v307 : BitVec 32 := Scalar.shli v306 c3_i32_172
  v307

def k1_off21 (v305 : BitVec 32) : Fin 2 → Nat :=
  let c3_i32_171 : BitVec 32 := 3#32
  let v306 : BitVec 32 := Scalar.shrsi v305 c3_i32_171
  let c3_i32_172 : BitVec 32 := 3#32
  let v307 : BitVec 32 := Scalar.shli v306 c3_i32_172
  let v308 : BitVec 32 := v307
  let v309 : Index := Scalar.indexCast v308
  let c0_173 : Index := 0#32
  ![v309.toNat, 0]

def k1_chk21 (v305 : BitVec 32) : Prop :=
  (8 ∣ (k1_mult21 v305).toNat) ∧
  (∀ a, (k1_off21 v305) a + S8x128.size a ≤ S12800x128.size a)
theorem k1_mult21_dvd : ∀ (v305 : BitVec 32) (k1_hw21 : k1_chk21 v305), 8 ∣ (k1_mult21 v305).toNat := fun v305 k1_hw21 => k1_hw21.1
theorem k1_off21_inb : ∀ (v305 : BitVec 32) (k1_hw21 : k1_chk21 v305), ∀ a, (k1_off21 v305) a + S8x128.size a ≤ S12800x128.size a := fun v305 k1_hw21 => k1_hw21.2

def k1_mult22 (v319 : BitVec 32) : BitVec 32 :=
  let c3_i32_179 : BitVec 32 := 3#32
  let v320 : BitVec 32 := Scalar.shrsi v319 c3_i32_179
  let c3_i32_180 : BitVec 32 := 3#32
  let v321 : BitVec 32 := Scalar.shli v320 c3_i32_180
  v321

def k1_off22 (v319 : BitVec 32) : Fin 2 → Nat :=
  let c3_i32_179 : BitVec 32 := 3#32
  let v320 : BitVec 32 := Scalar.shrsi v319 c3_i32_179
  let c3_i32_180 : BitVec 32 := 3#32
  let v321 : BitVec 32 := Scalar.shli v320 c3_i32_180
  let v322 : BitVec 32 := v321
  let v323 : Index := Scalar.indexCast v322
  let c0_181 : Index := 0#32
  ![v323.toNat, 0]

def k1_chk22 (v319 : BitVec 32) : Prop :=
  (8 ∣ (k1_mult22 v319).toNat) ∧
  (∀ a, (k1_off22 v319) a + S8x128.size a ≤ S12800x128.size a)
theorem k1_mult22_dvd : ∀ (v319 : BitVec 32) (k1_hw22 : k1_chk22 v319), 8 ∣ (k1_mult22 v319).toNat := fun v319 k1_hw22 => k1_hw22.1
theorem k1_off22_inb : ∀ (v319 : BitVec 32) (k1_hw22 : k1_chk22 v319), ∀ a, (k1_off22 v319) a + S8x128.size a ≤ S12800x128.size a := fun v319 k1_hw22 => k1_hw22.2

def k1_mult23 (v333 : BitVec 32) : BitVec 32 :=
  let c3_i32_187 : BitVec 32 := 3#32
  let v334 : BitVec 32 := Scalar.shrsi v333 c3_i32_187
  let c3_i32_188 : BitVec 32 := 3#32
  let v335 : BitVec 32 := Scalar.shli v334 c3_i32_188
  v335

def k1_off23 (v333 : BitVec 32) : Fin 2 → Nat :=
  let c3_i32_187 : BitVec 32 := 3#32
  let v334 : BitVec 32 := Scalar.shrsi v333 c3_i32_187
  let c3_i32_188 : BitVec 32 := 3#32
  let v335 : BitVec 32 := Scalar.shli v334 c3_i32_188
  let v336 : BitVec 32 := v335
  let v337 : Index := Scalar.indexCast v336
  let c0_189 : Index := 0#32
  ![v337.toNat, 0]

def k1_chk23 (v333 : BitVec 32) : Prop :=
  (8 ∣ (k1_mult23 v333).toNat) ∧
  (∀ a, (k1_off23 v333) a + S8x128.size a ≤ S12800x128.size a)
theorem k1_mult23_dvd : ∀ (v333 : BitVec 32) (k1_hw23 : k1_chk23 v333), 8 ∣ (k1_mult23 v333).toNat := fun v333 k1_hw23 => k1_hw23.1
theorem k1_off23_inb : ∀ (v333 : BitVec 32) (k1_hw23 : k1_chk23 v333), ∀ a, (k1_off23 v333) a + S8x128.size a ≤ S12800x128.size a := fun v333 k1_hw23 => k1_hw23.2

def k1_mult24 (v347 : BitVec 32) : BitVec 32 :=
  let c3_i32_195 : BitVec 32 := 3#32
  let v348 : BitVec 32 := Scalar.shrsi v347 c3_i32_195
  let c3_i32_196 : BitVec 32 := 3#32
  let v349 : BitVec 32 := Scalar.shli v348 c3_i32_196
  v349

def k1_off24 (v347 : BitVec 32) : Fin 2 → Nat :=
  let c3_i32_195 : BitVec 32 := 3#32
  let v348 : BitVec 32 := Scalar.shrsi v347 c3_i32_195
  let c3_i32_196 : BitVec 32 := 3#32
  let v349 : BitVec 32 := Scalar.shli v348 c3_i32_196
  let v350 : BitVec 32 := v349
  let v351 : Index := Scalar.indexCast v350
  let c0_197 : Index := 0#32
  ![v351.toNat, 0]

def k1_chk24 (v347 : BitVec 32) : Prop :=
  (8 ∣ (k1_mult24 v347).toNat) ∧
  (∀ a, (k1_off24 v347) a + S8x128.size a ≤ S12800x128.size a)
theorem k1_mult24_dvd : ∀ (v347 : BitVec 32) (k1_hw24 : k1_chk24 v347), 8 ∣ (k1_mult24 v347).toNat := fun v347 k1_hw24 => k1_hw24.1
theorem k1_off24_inb : ∀ (v347 : BitVec 32) (k1_hw24 : k1_chk24 v347), ∀ a, (k1_off24 v347) a + S8x128.size a ≤ S12800x128.size a := fun v347 k1_hw24 => k1_hw24.2

def k1_mult25 (v361 : BitVec 32) : BitVec 32 :=
  let c3_i32_203 : BitVec 32 := 3#32
  let v362 : BitVec 32 := Scalar.shrsi v361 c3_i32_203
  let c3_i32_204 : BitVec 32 := 3#32
  let v363 : BitVec 32 := Scalar.shli v362 c3_i32_204
  v363

def k1_off25 (v361 : BitVec 32) : Fin 2 → Nat :=
  let c3_i32_203 : BitVec 32 := 3#32
  let v362 : BitVec 32 := Scalar.shrsi v361 c3_i32_203
  let c3_i32_204 : BitVec 32 := 3#32
  let v363 : BitVec 32 := Scalar.shli v362 c3_i32_204
  let v364 : BitVec 32 := v363
  let v365 : Index := Scalar.indexCast v364
  let c0_205 : Index := 0#32
  ![v365.toNat, 0]

def k1_chk25 (v361 : BitVec 32) : Prop :=
  (8 ∣ (k1_mult25 v361).toNat) ∧
  (∀ a, (k1_off25 v361) a + S8x128.size a ≤ S12800x128.size a)
theorem k1_mult25_dvd : ∀ (v361 : BitVec 32) (k1_hw25 : k1_chk25 v361), 8 ∣ (k1_mult25 v361).toNat := fun v361 k1_hw25 => k1_hw25.1
theorem k1_off25_inb : ∀ (v361 : BitVec 32) (k1_hw25 : k1_chk25 v361), ∀ a, (k1_off25 v361) a + S8x128.size a ≤ S12800x128.size a := fun v361 k1_hw25 => k1_hw25.2

def k1_mult26 (v375 : BitVec 32) : BitVec 32 :=
  let c3_i32_211 : BitVec 32 := 3#32
  let v376 : BitVec 32 := Scalar.shrsi v375 c3_i32_211
  let c3_i32_212 : BitVec 32 := 3#32
  let v377 : BitVec 32 := Scalar.shli v376 c3_i32_212
  v377

def k1_off26 (v375 : BitVec 32) : Fin 2 → Nat :=
  let c3_i32_211 : BitVec 32 := 3#32
  let v376 : BitVec 32 := Scalar.shrsi v375 c3_i32_211
  let c3_i32_212 : BitVec 32 := 3#32
  let v377 : BitVec 32 := Scalar.shli v376 c3_i32_212
  let v378 : BitVec 32 := v377
  let v379 : Index := Scalar.indexCast v378
  let c0_213 : Index := 0#32
  ![v379.toNat, 0]

def k1_chk26 (v375 : BitVec 32) : Prop :=
  (8 ∣ (k1_mult26 v375).toNat) ∧
  (∀ a, (k1_off26 v375) a + S8x128.size a ≤ S12800x128.size a)
theorem k1_mult26_dvd : ∀ (v375 : BitVec 32) (k1_hw26 : k1_chk26 v375), 8 ∣ (k1_mult26 v375).toNat := fun v375 k1_hw26 => k1_hw26.1
theorem k1_off26_inb : ∀ (v375 : BitVec 32) (k1_hw26 : k1_chk26 v375), ∀ a, (k1_off26 v375) a + S8x128.size a ≤ S12800x128.size a := fun v375 k1_hw26 => k1_hw26.2

def k1_mult27 (v389 : BitVec 32) : BitVec 32 :=
  let c3_i32_219 : BitVec 32 := 3#32
  let v390 : BitVec 32 := Scalar.shrsi v389 c3_i32_219
  let c3_i32_220 : BitVec 32 := 3#32
  let v391 : BitVec 32 := Scalar.shli v390 c3_i32_220
  v391

def k1_off27 (v389 : BitVec 32) : Fin 2 → Nat :=
  let c3_i32_219 : BitVec 32 := 3#32
  let v390 : BitVec 32 := Scalar.shrsi v389 c3_i32_219
  let c3_i32_220 : BitVec 32 := 3#32
  let v391 : BitVec 32 := Scalar.shli v390 c3_i32_220
  let v392 : BitVec 32 := v391
  let v393 : Index := Scalar.indexCast v392
  let c0_221 : Index := 0#32
  ![v393.toNat, 0]

def k1_chk27 (v389 : BitVec 32) : Prop :=
  (8 ∣ (k1_mult27 v389).toNat) ∧
  (∀ a, (k1_off27 v389) a + S8x128.size a ≤ S12800x128.size a)
theorem k1_mult27_dvd : ∀ (v389 : BitVec 32) (k1_hw27 : k1_chk27 v389), 8 ∣ (k1_mult27 v389).toNat := fun v389 k1_hw27 => k1_hw27.1
theorem k1_off27_inb : ∀ (v389 : BitVec 32) (k1_hw27 : k1_chk27 v389), ∀ a, (k1_off27 v389) a + S8x128.size a ≤ S12800x128.size a := fun v389 k1_hw27 => k1_hw27.2

def k1_mult28 (v403 : BitVec 32) : BitVec 32 :=
  let c3_i32_227 : BitVec 32 := 3#32
  let v404 : BitVec 32 := Scalar.shrsi v403 c3_i32_227
  let c3_i32_228 : BitVec 32 := 3#32
  let v405 : BitVec 32 := Scalar.shli v404 c3_i32_228
  v405

def k1_off28 (v403 : BitVec 32) : Fin 2 → Nat :=
  let c3_i32_227 : BitVec 32 := 3#32
  let v404 : BitVec 32 := Scalar.shrsi v403 c3_i32_227
  let c3_i32_228 : BitVec 32 := 3#32
  let v405 : BitVec 32 := Scalar.shli v404 c3_i32_228
  let v406 : BitVec 32 := v405
  let v407 : Index := Scalar.indexCast v406
  let c0_229 : Index := 0#32
  ![v407.toNat, 0]

def k1_chk28 (v403 : BitVec 32) : Prop :=
  (8 ∣ (k1_mult28 v403).toNat) ∧
  (∀ a, (k1_off28 v403) a + S8x128.size a ≤ S12800x128.size a)
theorem k1_mult28_dvd : ∀ (v403 : BitVec 32) (k1_hw28 : k1_chk28 v403), 8 ∣ (k1_mult28 v403).toNat := fun v403 k1_hw28 => k1_hw28.1
theorem k1_off28_inb : ∀ (v403 : BitVec 32) (k1_hw28 : k1_chk28 v403), ∀ a, (k1_off28 v403) a + S8x128.size a ≤ S12800x128.size a := fun v403 k1_hw28 => k1_hw28.2

def k1_mult29 (v417 : BitVec 32) : BitVec 32 :=
  let c3_i32_235 : BitVec 32 := 3#32
  let v418 : BitVec 32 := Scalar.shrsi v417 c3_i32_235
  let c3_i32_236 : BitVec 32 := 3#32
  let v419 : BitVec 32 := Scalar.shli v418 c3_i32_236
  v419

def k1_off29 (v417 : BitVec 32) : Fin 2 → Nat :=
  let c3_i32_235 : BitVec 32 := 3#32
  let v418 : BitVec 32 := Scalar.shrsi v417 c3_i32_235
  let c3_i32_236 : BitVec 32 := 3#32
  let v419 : BitVec 32 := Scalar.shli v418 c3_i32_236
  let v420 : BitVec 32 := v419
  let v421 : Index := Scalar.indexCast v420
  let c0_237 : Index := 0#32
  ![v421.toNat, 0]

def k1_chk29 (v417 : BitVec 32) : Prop :=
  (8 ∣ (k1_mult29 v417).toNat) ∧
  (∀ a, (k1_off29 v417) a + S8x128.size a ≤ S12800x128.size a)
theorem k1_mult29_dvd : ∀ (v417 : BitVec 32) (k1_hw29 : k1_chk29 v417), 8 ∣ (k1_mult29 v417).toNat := fun v417 k1_hw29 => k1_hw29.1
theorem k1_off29_inb : ∀ (v417 : BitVec 32) (k1_hw29 : k1_chk29 v417), ∀ a, (k1_off29 v417) a + S8x128.size a ≤ S12800x128.size a := fun v417 k1_hw29 => k1_hw29.2

def k1_mult30 (v431 : BitVec 32) : BitVec 32 :=
  let c3_i32_243 : BitVec 32 := 3#32
  let v432 : BitVec 32 := Scalar.shrsi v431 c3_i32_243
  let c3_i32_244 : BitVec 32 := 3#32
  let v433 : BitVec 32 := Scalar.shli v432 c3_i32_244
  v433

def k1_off30 (v431 : BitVec 32) : Fin 2 → Nat :=
  let c3_i32_243 : BitVec 32 := 3#32
  let v432 : BitVec 32 := Scalar.shrsi v431 c3_i32_243
  let c3_i32_244 : BitVec 32 := 3#32
  let v433 : BitVec 32 := Scalar.shli v432 c3_i32_244
  let v434 : BitVec 32 := v433
  let v435 : Index := Scalar.indexCast v434
  let c0_245 : Index := 0#32
  ![v435.toNat, 0]

def k1_chk30 (v431 : BitVec 32) : Prop :=
  (8 ∣ (k1_mult30 v431).toNat) ∧
  (∀ a, (k1_off30 v431) a + S8x128.size a ≤ S12800x128.size a)
theorem k1_mult30_dvd : ∀ (v431 : BitVec 32) (k1_hw30 : k1_chk30 v431), 8 ∣ (k1_mult30 v431).toNat := fun v431 k1_hw30 => k1_hw30.1
theorem k1_off30_inb : ∀ (v431 : BitVec 32) (k1_hw30 : k1_chk30 v431), ∀ a, (k1_off30 v431) a + S8x128.size a ≤ S12800x128.size a := fun v431 k1_hw30 => k1_hw30.2

def k1_mult31 (v445 : BitVec 32) : BitVec 32 :=
  let c3_i32_251 : BitVec 32 := 3#32
  let v446 : BitVec 32 := Scalar.shrsi v445 c3_i32_251
  let c3_i32_252 : BitVec 32 := 3#32
  let v447 : BitVec 32 := Scalar.shli v446 c3_i32_252
  v447

def k1_off31 (v445 : BitVec 32) : Fin 2 → Nat :=
  let c3_i32_251 : BitVec 32 := 3#32
  let v446 : BitVec 32 := Scalar.shrsi v445 c3_i32_251
  let c3_i32_252 : BitVec 32 := 3#32
  let v447 : BitVec 32 := Scalar.shli v446 c3_i32_252
  let v448 : BitVec 32 := v447
  let v449 : Index := Scalar.indexCast v448
  let c0_253 : Index := 0#32
  ![v449.toNat, 0]

def k1_chk31 (v445 : BitVec 32) : Prop :=
  (8 ∣ (k1_mult31 v445).toNat) ∧
  (∀ a, (k1_off31 v445) a + S8x128.size a ≤ S12800x128.size a)
theorem k1_mult31_dvd : ∀ (v445 : BitVec 32) (k1_hw31 : k1_chk31 v445), 8 ∣ (k1_mult31 v445).toNat := fun v445 k1_hw31 => k1_hw31.1
theorem k1_off31_inb : ∀ (v445 : BitVec 32) (k1_hw31 : k1_chk31 v445), ∀ a, (k1_off31 v445) a + S8x128.size a ≤ S12800x128.size a := fun v445 k1_hw31 => k1_hw31.2

def k1_mult32 (v459 : BitVec 32) : BitVec 32 :=
  let c3_i32_259 : BitVec 32 := 3#32
  let v460 : BitVec 32 := Scalar.shrsi v459 c3_i32_259
  let c3_i32_260 : BitVec 32 := 3#32
  let v461 : BitVec 32 := Scalar.shli v460 c3_i32_260
  v461

def k1_off32 (v459 : BitVec 32) : Fin 2 → Nat :=
  let c3_i32_259 : BitVec 32 := 3#32
  let v460 : BitVec 32 := Scalar.shrsi v459 c3_i32_259
  let c3_i32_260 : BitVec 32 := 3#32
  let v461 : BitVec 32 := Scalar.shli v460 c3_i32_260
  let v462 : BitVec 32 := v461
  let v463 : Index := Scalar.indexCast v462
  let c0_261 : Index := 0#32
  ![v463.toNat, 0]

def k1_chk32 (v459 : BitVec 32) : Prop :=
  (8 ∣ (k1_mult32 v459).toNat) ∧
  (∀ a, (k1_off32 v459) a + S8x128.size a ≤ S12800x128.size a)
theorem k1_mult32_dvd : ∀ (v459 : BitVec 32) (k1_hw32 : k1_chk32 v459), 8 ∣ (k1_mult32 v459).toNat := fun v459 k1_hw32 => k1_hw32.1
theorem k1_off32_inb : ∀ (v459 : BitVec 32) (k1_hw32 : k1_chk32 v459), ∀ a, (k1_off32 v459) a + S8x128.size a ≤ S12800x128.size a := fun v459 k1_hw32 => k1_hw32.2

def k1_mult33 (v473 : BitVec 32) : BitVec 32 :=
  let c3_i32_268 : BitVec 32 := 3#32
  let v474 : BitVec 32 := Scalar.shrsi v473 c3_i32_268
  let c3_i32_269 : BitVec 32 := 3#32
  let v475 : BitVec 32 := Scalar.shli v474 c3_i32_269
  v475

def k1_off33 (v473 : BitVec 32) : Fin 2 → Nat :=
  let c3_i32_268 : BitVec 32 := 3#32
  let v474 : BitVec 32 := Scalar.shrsi v473 c3_i32_268
  let c3_i32_269 : BitVec 32 := 3#32
  let v475 : BitVec 32 := Scalar.shli v474 c3_i32_269
  let v476 : BitVec 32 := v475
  let v477 : Index := Scalar.indexCast v476
  let c0_270 : Index := 0#32
  ![v477.toNat, 0]

def k1_chk33 (v473 : BitVec 32) : Prop :=
  (8 ∣ (k1_mult33 v473).toNat) ∧
  (∀ a, (k1_off33 v473) a + S8x128.size a ≤ S12800x128.size a)
theorem k1_mult33_dvd : ∀ (v473 : BitVec 32) (k1_hw33 : k1_chk33 v473), 8 ∣ (k1_mult33 v473).toNat := fun v473 k1_hw33 => k1_hw33.1
theorem k1_off33_inb : ∀ (v473 : BitVec 32) (k1_hw33 : k1_chk33 v473), ∀ a, (k1_off33 v473) a + S8x128.size a ≤ S12800x128.size a := fun v473 k1_hw33 => k1_hw33.2

def k1_mult34 (v487 : BitVec 32) : BitVec 32 :=
  let c3_i32_276 : BitVec 32 := 3#32
  let v488 : BitVec 32 := Scalar.shrsi v487 c3_i32_276
  let c3_i32_277 : BitVec 32 := 3#32
  let v489 : BitVec 32 := Scalar.shli v488 c3_i32_277
  v489

def k1_off34 (v487 : BitVec 32) : Fin 2 → Nat :=
  let c3_i32_276 : BitVec 32 := 3#32
  let v488 : BitVec 32 := Scalar.shrsi v487 c3_i32_276
  let c3_i32_277 : BitVec 32 := 3#32
  let v489 : BitVec 32 := Scalar.shli v488 c3_i32_277
  let v490 : BitVec 32 := v489
  let v491 : Index := Scalar.indexCast v490
  let c0_278 : Index := 0#32
  ![v491.toNat, 0]

def k1_chk34 (v487 : BitVec 32) : Prop :=
  (8 ∣ (k1_mult34 v487).toNat) ∧
  (∀ a, (k1_off34 v487) a + S8x128.size a ≤ S12800x128.size a)
theorem k1_mult34_dvd : ∀ (v487 : BitVec 32) (k1_hw34 : k1_chk34 v487), 8 ∣ (k1_mult34 v487).toNat := fun v487 k1_hw34 => k1_hw34.1
theorem k1_off34_inb : ∀ (v487 : BitVec 32) (k1_hw34 : k1_chk34 v487), ∀ a, (k1_off34 v487) a + S8x128.size a ≤ S12800x128.size a := fun v487 k1_hw34 => k1_hw34.2

def k1_mult35 (v501 : BitVec 32) : BitVec 32 :=
  let c3_i32_284 : BitVec 32 := 3#32
  let v502 : BitVec 32 := Scalar.shrsi v501 c3_i32_284
  let c3_i32_285 : BitVec 32 := 3#32
  let v503 : BitVec 32 := Scalar.shli v502 c3_i32_285
  v503

def k1_off35 (v501 : BitVec 32) : Fin 2 → Nat :=
  let c3_i32_284 : BitVec 32 := 3#32
  let v502 : BitVec 32 := Scalar.shrsi v501 c3_i32_284
  let c3_i32_285 : BitVec 32 := 3#32
  let v503 : BitVec 32 := Scalar.shli v502 c3_i32_285
  let v504 : BitVec 32 := v503
  let v505 : Index := Scalar.indexCast v504
  let c0_286 : Index := 0#32
  ![v505.toNat, 0]

def k1_chk35 (v501 : BitVec 32) : Prop :=
  (8 ∣ (k1_mult35 v501).toNat) ∧
  (∀ a, (k1_off35 v501) a + S8x128.size a ≤ S12800x128.size a)
theorem k1_mult35_dvd : ∀ (v501 : BitVec 32) (k1_hw35 : k1_chk35 v501), 8 ∣ (k1_mult35 v501).toNat := fun v501 k1_hw35 => k1_hw35.1
theorem k1_off35_inb : ∀ (v501 : BitVec 32) (k1_hw35 : k1_chk35 v501), ∀ a, (k1_off35 v501) a + S8x128.size a ≤ S12800x128.size a := fun v501 k1_hw35 => k1_hw35.2

def k1_mult36 (v515 : BitVec 32) : BitVec 32 :=
  let c3_i32_292 : BitVec 32 := 3#32
  let v516 : BitVec 32 := Scalar.shrsi v515 c3_i32_292
  let c3_i32_293 : BitVec 32 := 3#32
  let v517 : BitVec 32 := Scalar.shli v516 c3_i32_293
  v517

def k1_off36 (v515 : BitVec 32) : Fin 2 → Nat :=
  let c3_i32_292 : BitVec 32 := 3#32
  let v516 : BitVec 32 := Scalar.shrsi v515 c3_i32_292
  let c3_i32_293 : BitVec 32 := 3#32
  let v517 : BitVec 32 := Scalar.shli v516 c3_i32_293
  let v518 : BitVec 32 := v517
  let v519 : Index := Scalar.indexCast v518
  let c0_294 : Index := 0#32
  ![v519.toNat, 0]

def k1_chk36 (v515 : BitVec 32) : Prop :=
  (8 ∣ (k1_mult36 v515).toNat) ∧
  (∀ a, (k1_off36 v515) a + S8x128.size a ≤ S12800x128.size a)
theorem k1_mult36_dvd : ∀ (v515 : BitVec 32) (k1_hw36 : k1_chk36 v515), 8 ∣ (k1_mult36 v515).toNat := fun v515 k1_hw36 => k1_hw36.1
theorem k1_off36_inb : ∀ (v515 : BitVec 32) (k1_hw36 : k1_chk36 v515), ∀ a, (k1_off36 v515) a + S8x128.size a ≤ S12800x128.size a := fun v515 k1_hw36 => k1_hw36.2

def k1_mult37 (v529 : BitVec 32) : BitVec 32 :=
  let c3_i32_300 : BitVec 32 := 3#32
  let v530 : BitVec 32 := Scalar.shrsi v529 c3_i32_300
  let c3_i32_301 : BitVec 32 := 3#32
  let v531 : BitVec 32 := Scalar.shli v530 c3_i32_301
  v531

def k1_off37 (v529 : BitVec 32) : Fin 2 → Nat :=
  let c3_i32_300 : BitVec 32 := 3#32
  let v530 : BitVec 32 := Scalar.shrsi v529 c3_i32_300
  let c3_i32_301 : BitVec 32 := 3#32
  let v531 : BitVec 32 := Scalar.shli v530 c3_i32_301
  let v532 : BitVec 32 := v531
  let v533 : Index := Scalar.indexCast v532
  let c0_302 : Index := 0#32
  ![v533.toNat, 0]

def k1_chk37 (v529 : BitVec 32) : Prop :=
  (8 ∣ (k1_mult37 v529).toNat) ∧
  (∀ a, (k1_off37 v529) a + S8x128.size a ≤ S12800x128.size a)
theorem k1_mult37_dvd : ∀ (v529 : BitVec 32) (k1_hw37 : k1_chk37 v529), 8 ∣ (k1_mult37 v529).toNat := fun v529 k1_hw37 => k1_hw37.1
theorem k1_off37_inb : ∀ (v529 : BitVec 32) (k1_hw37 : k1_chk37 v529), ∀ a, (k1_off37 v529) a + S8x128.size a ≤ S12800x128.size a := fun v529 k1_hw37 => k1_hw37.2

def k1_mult38 (v543 : BitVec 32) : BitVec 32 :=
  let c3_i32_308 : BitVec 32 := 3#32
  let v544 : BitVec 32 := Scalar.shrsi v543 c3_i32_308
  let c3_i32_309 : BitVec 32 := 3#32
  let v545 : BitVec 32 := Scalar.shli v544 c3_i32_309
  v545

def k1_off38 (v543 : BitVec 32) : Fin 2 → Nat :=
  let c3_i32_308 : BitVec 32 := 3#32
  let v544 : BitVec 32 := Scalar.shrsi v543 c3_i32_308
  let c3_i32_309 : BitVec 32 := 3#32
  let v545 : BitVec 32 := Scalar.shli v544 c3_i32_309
  let v546 : BitVec 32 := v545
  let v547 : Index := Scalar.indexCast v546
  let c0_310 : Index := 0#32
  ![v547.toNat, 0]

def k1_chk38 (v543 : BitVec 32) : Prop :=
  (8 ∣ (k1_mult38 v543).toNat) ∧
  (∀ a, (k1_off38 v543) a + S8x128.size a ≤ S12800x128.size a)
theorem k1_mult38_dvd : ∀ (v543 : BitVec 32) (k1_hw38 : k1_chk38 v543), 8 ∣ (k1_mult38 v543).toNat := fun v543 k1_hw38 => k1_hw38.1
theorem k1_off38_inb : ∀ (v543 : BitVec 32) (k1_hw38 : k1_chk38 v543), ∀ a, (k1_off38 v543) a + S8x128.size a ≤ S12800x128.size a := fun v543 k1_hw38 => k1_hw38.2

def k1_mult39 (v557 : BitVec 32) : BitVec 32 :=
  let c3_i32_316 : BitVec 32 := 3#32
  let v558 : BitVec 32 := Scalar.shrsi v557 c3_i32_316
  let c3_i32_317 : BitVec 32 := 3#32
  let v559 : BitVec 32 := Scalar.shli v558 c3_i32_317
  v559

def k1_off39 (v557 : BitVec 32) : Fin 2 → Nat :=
  let c3_i32_316 : BitVec 32 := 3#32
  let v558 : BitVec 32 := Scalar.shrsi v557 c3_i32_316
  let c3_i32_317 : BitVec 32 := 3#32
  let v559 : BitVec 32 := Scalar.shli v558 c3_i32_317
  let v560 : BitVec 32 := v559
  let v561 : Index := Scalar.indexCast v560
  let c0_318 : Index := 0#32
  ![v561.toNat, 0]

def k1_chk39 (v557 : BitVec 32) : Prop :=
  (8 ∣ (k1_mult39 v557).toNat) ∧
  (∀ a, (k1_off39 v557) a + S8x128.size a ≤ S12800x128.size a)
theorem k1_mult39_dvd : ∀ (v557 : BitVec 32) (k1_hw39 : k1_chk39 v557), 8 ∣ (k1_mult39 v557).toNat := fun v557 k1_hw39 => k1_hw39.1
theorem k1_off39_inb : ∀ (v557 : BitVec 32) (k1_hw39 : k1_chk39 v557), ∀ a, (k1_off39 v557) a + S8x128.size a ≤ S12800x128.size a := fun v557 k1_hw39 => k1_hw39.2

def k1_mult40 (v571 : BitVec 32) : BitVec 32 :=
  let c3_i32_324 : BitVec 32 := 3#32
  let v572 : BitVec 32 := Scalar.shrsi v571 c3_i32_324
  let c3_i32_325 : BitVec 32 := 3#32
  let v573 : BitVec 32 := Scalar.shli v572 c3_i32_325
  v573

def k1_off40 (v571 : BitVec 32) : Fin 2 → Nat :=
  let c3_i32_324 : BitVec 32 := 3#32
  let v572 : BitVec 32 := Scalar.shrsi v571 c3_i32_324
  let c3_i32_325 : BitVec 32 := 3#32
  let v573 : BitVec 32 := Scalar.shli v572 c3_i32_325
  let v574 : BitVec 32 := v573
  let v575 : Index := Scalar.indexCast v574
  let c0_326 : Index := 0#32
  ![v575.toNat, 0]

def k1_chk40 (v571 : BitVec 32) : Prop :=
  (8 ∣ (k1_mult40 v571).toNat) ∧
  (∀ a, (k1_off40 v571) a + S8x128.size a ≤ S12800x128.size a)
theorem k1_mult40_dvd : ∀ (v571 : BitVec 32) (k1_hw40 : k1_chk40 v571), 8 ∣ (k1_mult40 v571).toNat := fun v571 k1_hw40 => k1_hw40.1
theorem k1_off40_inb : ∀ (v571 : BitVec 32) (k1_hw40 : k1_chk40 v571), ∀ a, (k1_off40 v571) a + S8x128.size a ≤ S12800x128.size a := fun v571 k1_hw40 => k1_hw40.2

def k1_mult41 (v585 : BitVec 32) : BitVec 32 :=
  let c3_i32_332 : BitVec 32 := 3#32
  let v586 : BitVec 32 := Scalar.shrsi v585 c3_i32_332
  let c3_i32_333 : BitVec 32 := 3#32
  let v587 : BitVec 32 := Scalar.shli v586 c3_i32_333
  v587

def k1_off41 (v585 : BitVec 32) : Fin 2 → Nat :=
  let c3_i32_332 : BitVec 32 := 3#32
  let v586 : BitVec 32 := Scalar.shrsi v585 c3_i32_332
  let c3_i32_333 : BitVec 32 := 3#32
  let v587 : BitVec 32 := Scalar.shli v586 c3_i32_333
  let v588 : BitVec 32 := v587
  let v589 : Index := Scalar.indexCast v588
  let c0_334 : Index := 0#32
  ![v589.toNat, 0]

def k1_chk41 (v585 : BitVec 32) : Prop :=
  (8 ∣ (k1_mult41 v585).toNat) ∧
  (∀ a, (k1_off41 v585) a + S8x128.size a ≤ S12800x128.size a)
theorem k1_mult41_dvd : ∀ (v585 : BitVec 32) (k1_hw41 : k1_chk41 v585), 8 ∣ (k1_mult41 v585).toNat := fun v585 k1_hw41 => k1_hw41.1
theorem k1_off41_inb : ∀ (v585 : BitVec 32) (k1_hw41 : k1_chk41 v585), ∀ a, (k1_off41 v585) a + S8x128.size a ≤ S12800x128.size a := fun v585 k1_hw41 => k1_hw41.2

def k1_mult42 (v599 : BitVec 32) : BitVec 32 :=
  let c3_i32_340 : BitVec 32 := 3#32
  let v600 : BitVec 32 := Scalar.shrsi v599 c3_i32_340
  let c3_i32_341 : BitVec 32 := 3#32
  let v601 : BitVec 32 := Scalar.shli v600 c3_i32_341
  v601

def k1_off42 (v599 : BitVec 32) : Fin 2 → Nat :=
  let c3_i32_340 : BitVec 32 := 3#32
  let v600 : BitVec 32 := Scalar.shrsi v599 c3_i32_340
  let c3_i32_341 : BitVec 32 := 3#32
  let v601 : BitVec 32 := Scalar.shli v600 c3_i32_341
  let v602 : BitVec 32 := v601
  let v603 : Index := Scalar.indexCast v602
  let c0_342 : Index := 0#32
  ![v603.toNat, 0]

def k1_chk42 (v599 : BitVec 32) : Prop :=
  (8 ∣ (k1_mult42 v599).toNat) ∧
  (∀ a, (k1_off42 v599) a + S8x128.size a ≤ S12800x128.size a)
theorem k1_mult42_dvd : ∀ (v599 : BitVec 32) (k1_hw42 : k1_chk42 v599), 8 ∣ (k1_mult42 v599).toNat := fun v599 k1_hw42 => k1_hw42.1
theorem k1_off42_inb : ∀ (v599 : BitVec 32) (k1_hw42 : k1_chk42 v599), ∀ a, (k1_off42 v599) a + S8x128.size a ≤ S12800x128.size a := fun v599 k1_hw42 => k1_hw42.2

def k1_mult43 (v613 : BitVec 32) : BitVec 32 :=
  let c3_i32_348 : BitVec 32 := 3#32
  let v614 : BitVec 32 := Scalar.shrsi v613 c3_i32_348
  let c3_i32_349 : BitVec 32 := 3#32
  let v615 : BitVec 32 := Scalar.shli v614 c3_i32_349
  v615

def k1_off43 (v613 : BitVec 32) : Fin 2 → Nat :=
  let c3_i32_348 : BitVec 32 := 3#32
  let v614 : BitVec 32 := Scalar.shrsi v613 c3_i32_348
  let c3_i32_349 : BitVec 32 := 3#32
  let v615 : BitVec 32 := Scalar.shli v614 c3_i32_349
  let v616 : BitVec 32 := v615
  let v617 : Index := Scalar.indexCast v616
  let c0_350 : Index := 0#32
  ![v617.toNat, 0]

def k1_chk43 (v613 : BitVec 32) : Prop :=
  (8 ∣ (k1_mult43 v613).toNat) ∧
  (∀ a, (k1_off43 v613) a + S8x128.size a ≤ S12800x128.size a)
theorem k1_mult43_dvd : ∀ (v613 : BitVec 32) (k1_hw43 : k1_chk43 v613), 8 ∣ (k1_mult43 v613).toNat := fun v613 k1_hw43 => k1_hw43.1
theorem k1_off43_inb : ∀ (v613 : BitVec 32) (k1_hw43 : k1_chk43 v613), ∀ a, (k1_off43 v613) a + S8x128.size a ≤ S12800x128.size a := fun v613 k1_hw43 => k1_hw43.2

def k1_mult44 (v627 : BitVec 32) : BitVec 32 :=
  let c3_i32_356 : BitVec 32 := 3#32
  let v628 : BitVec 32 := Scalar.shrsi v627 c3_i32_356
  let c3_i32_357 : BitVec 32 := 3#32
  let v629 : BitVec 32 := Scalar.shli v628 c3_i32_357
  v629

def k1_off44 (v627 : BitVec 32) : Fin 2 → Nat :=
  let c3_i32_356 : BitVec 32 := 3#32
  let v628 : BitVec 32 := Scalar.shrsi v627 c3_i32_356
  let c3_i32_357 : BitVec 32 := 3#32
  let v629 : BitVec 32 := Scalar.shli v628 c3_i32_357
  let v630 : BitVec 32 := v629
  let v631 : Index := Scalar.indexCast v630
  let c0_358 : Index := 0#32
  ![v631.toNat, 0]

def k1_chk44 (v627 : BitVec 32) : Prop :=
  (8 ∣ (k1_mult44 v627).toNat) ∧
  (∀ a, (k1_off44 v627) a + S8x128.size a ≤ S12800x128.size a)
theorem k1_mult44_dvd : ∀ (v627 : BitVec 32) (k1_hw44 : k1_chk44 v627), 8 ∣ (k1_mult44 v627).toNat := fun v627 k1_hw44 => k1_hw44.1
theorem k1_off44_inb : ∀ (v627 : BitVec 32) (k1_hw44 : k1_chk44 v627), ∀ a, (k1_off44 v627) a + S8x128.size a ≤ S12800x128.size a := fun v627 k1_hw44 => k1_hw44.2

def k1_mult45 (v641 : BitVec 32) : BitVec 32 :=
  let c3_i32_364 : BitVec 32 := 3#32
  let v642 : BitVec 32 := Scalar.shrsi v641 c3_i32_364
  let c3_i32_365 : BitVec 32 := 3#32
  let v643 : BitVec 32 := Scalar.shli v642 c3_i32_365
  v643

def k1_off45 (v641 : BitVec 32) : Fin 2 → Nat :=
  let c3_i32_364 : BitVec 32 := 3#32
  let v642 : BitVec 32 := Scalar.shrsi v641 c3_i32_364
  let c3_i32_365 : BitVec 32 := 3#32
  let v643 : BitVec 32 := Scalar.shli v642 c3_i32_365
  let v644 : BitVec 32 := v643
  let v645 : Index := Scalar.indexCast v644
  let c0_366 : Index := 0#32
  ![v645.toNat, 0]

def k1_chk45 (v641 : BitVec 32) : Prop :=
  (8 ∣ (k1_mult45 v641).toNat) ∧
  (∀ a, (k1_off45 v641) a + S8x128.size a ≤ S12800x128.size a)
theorem k1_mult45_dvd : ∀ (v641 : BitVec 32) (k1_hw45 : k1_chk45 v641), 8 ∣ (k1_mult45 v641).toNat := fun v641 k1_hw45 => k1_hw45.1
theorem k1_off45_inb : ∀ (v641 : BitVec 32) (k1_hw45 : k1_chk45 v641), ∀ a, (k1_off45 v641) a + S8x128.size a ≤ S12800x128.size a := fun v641 k1_hw45 => k1_hw45.2

def k1_mult46 (v655 : BitVec 32) : BitVec 32 :=
  let c3_i32_372 : BitVec 32 := 3#32
  let v656 : BitVec 32 := Scalar.shrsi v655 c3_i32_372
  let c3_i32_373 : BitVec 32 := 3#32
  let v657 : BitVec 32 := Scalar.shli v656 c3_i32_373
  v657

def k1_off46 (v655 : BitVec 32) : Fin 2 → Nat :=
  let c3_i32_372 : BitVec 32 := 3#32
  let v656 : BitVec 32 := Scalar.shrsi v655 c3_i32_372
  let c3_i32_373 : BitVec 32 := 3#32
  let v657 : BitVec 32 := Scalar.shli v656 c3_i32_373
  let v658 : BitVec 32 := v657
  let v659 : Index := Scalar.indexCast v658
  let c0_374 : Index := 0#32
  ![v659.toNat, 0]

def k1_chk46 (v655 : BitVec 32) : Prop :=
  (8 ∣ (k1_mult46 v655).toNat) ∧
  (∀ a, (k1_off46 v655) a + S8x128.size a ≤ S12800x128.size a)
theorem k1_mult46_dvd : ∀ (v655 : BitVec 32) (k1_hw46 : k1_chk46 v655), 8 ∣ (k1_mult46 v655).toNat := fun v655 k1_hw46 => k1_hw46.1
theorem k1_off46_inb : ∀ (v655 : BitVec 32) (k1_hw46 : k1_chk46 v655), ∀ a, (k1_off46 v655) a + S8x128.size a ≤ S12800x128.size a := fun v655 k1_hw46 => k1_hw46.2

def k1_mult47 (v669 : BitVec 32) : BitVec 32 :=
  let c3_i32_380 : BitVec 32 := 3#32
  let v670 : BitVec 32 := Scalar.shrsi v669 c3_i32_380
  let c3_i32_381 : BitVec 32 := 3#32
  let v671 : BitVec 32 := Scalar.shli v670 c3_i32_381
  v671

def k1_off47 (v669 : BitVec 32) : Fin 2 → Nat :=
  let c3_i32_380 : BitVec 32 := 3#32
  let v670 : BitVec 32 := Scalar.shrsi v669 c3_i32_380
  let c3_i32_381 : BitVec 32 := 3#32
  let v671 : BitVec 32 := Scalar.shli v670 c3_i32_381
  let v672 : BitVec 32 := v671
  let v673 : Index := Scalar.indexCast v672
  let c0_382 : Index := 0#32
  ![v673.toNat, 0]

def k1_chk47 (v669 : BitVec 32) : Prop :=
  (8 ∣ (k1_mult47 v669).toNat) ∧
  (∀ a, (k1_off47 v669) a + S8x128.size a ≤ S12800x128.size a)
theorem k1_mult47_dvd : ∀ (v669 : BitVec 32) (k1_hw47 : k1_chk47 v669), 8 ∣ (k1_mult47 v669).toNat := fun v669 k1_hw47 => k1_hw47.1
theorem k1_off47_inb : ∀ (v669 : BitVec 32) (k1_hw47 : k1_chk47 v669), ∀ a, (k1_off47 v669) a + S8x128.size a ≤ S12800x128.size a := fun v669 k1_hw47 => k1_hw47.2

def k1_mult48 (v683 : BitVec 32) : BitVec 32 :=
  let c3_i32_388 : BitVec 32 := 3#32
  let v684 : BitVec 32 := Scalar.shrsi v683 c3_i32_388
  let c3_i32_389 : BitVec 32 := 3#32
  let v685 : BitVec 32 := Scalar.shli v684 c3_i32_389
  v685

def k1_off48 (v683 : BitVec 32) : Fin 2 → Nat :=
  let c3_i32_388 : BitVec 32 := 3#32
  let v684 : BitVec 32 := Scalar.shrsi v683 c3_i32_388
  let c3_i32_389 : BitVec 32 := 3#32
  let v685 : BitVec 32 := Scalar.shli v684 c3_i32_389
  let v686 : BitVec 32 := v685
  let v687 : Index := Scalar.indexCast v686
  let c0_390 : Index := 0#32
  ![v687.toNat, 0]

def k1_chk48 (v683 : BitVec 32) : Prop :=
  (8 ∣ (k1_mult48 v683).toNat) ∧
  (∀ a, (k1_off48 v683) a + S8x128.size a ≤ S12800x128.size a)
theorem k1_mult48_dvd : ∀ (v683 : BitVec 32) (k1_hw48 : k1_chk48 v683), 8 ∣ (k1_mult48 v683).toNat := fun v683 k1_hw48 => k1_hw48.1
theorem k1_off48_inb : ∀ (v683 : BitVec 32) (k1_hw48 : k1_chk48 v683), ∀ a, (k1_off48 v683) a + S8x128.size a ≤ S12800x128.size a := fun v683 k1_hw48 => k1_hw48.2

def k1_mult49 (v697 : BitVec 32) : BitVec 32 :=
  let c3_i32_396 : BitVec 32 := 3#32
  let v698 : BitVec 32 := Scalar.shrsi v697 c3_i32_396
  let c3_i32_397 : BitVec 32 := 3#32
  let v699 : BitVec 32 := Scalar.shli v698 c3_i32_397
  v699

def k1_off49 (v697 : BitVec 32) : Fin 2 → Nat :=
  let c3_i32_396 : BitVec 32 := 3#32
  let v698 : BitVec 32 := Scalar.shrsi v697 c3_i32_396
  let c3_i32_397 : BitVec 32 := 3#32
  let v699 : BitVec 32 := Scalar.shli v698 c3_i32_397
  let v700 : BitVec 32 := v699
  let v701 : Index := Scalar.indexCast v700
  let c0_398 : Index := 0#32
  ![v701.toNat, 0]

def k1_chk49 (v697 : BitVec 32) : Prop :=
  (8 ∣ (k1_mult49 v697).toNat) ∧
  (∀ a, (k1_off49 v697) a + S8x128.size a ≤ S12800x128.size a)
theorem k1_mult49_dvd : ∀ (v697 : BitVec 32) (k1_hw49 : k1_chk49 v697), 8 ∣ (k1_mult49 v697).toNat := fun v697 k1_hw49 => k1_hw49.1
theorem k1_off49_inb : ∀ (v697 : BitVec 32) (k1_hw49 : k1_chk49 v697), ∀ a, (k1_off49 v697) a + S8x128.size a ≤ S12800x128.size a := fun v697 k1_hw49 => k1_hw49.2

def k1_mult50 (v711 : BitVec 32) : BitVec 32 :=
  let c3_i32_404 : BitVec 32 := 3#32
  let v712 : BitVec 32 := Scalar.shrsi v711 c3_i32_404
  let c3_i32_405 : BitVec 32 := 3#32
  let v713 : BitVec 32 := Scalar.shli v712 c3_i32_405
  v713

def k1_off50 (v711 : BitVec 32) : Fin 2 → Nat :=
  let c3_i32_404 : BitVec 32 := 3#32
  let v712 : BitVec 32 := Scalar.shrsi v711 c3_i32_404
  let c3_i32_405 : BitVec 32 := 3#32
  let v713 : BitVec 32 := Scalar.shli v712 c3_i32_405
  let v714 : BitVec 32 := v713
  let v715 : Index := Scalar.indexCast v714
  let c0_406 : Index := 0#32
  ![v715.toNat, 0]

def k1_chk50 (v711 : BitVec 32) : Prop :=
  (8 ∣ (k1_mult50 v711).toNat) ∧
  (∀ a, (k1_off50 v711) a + S8x128.size a ≤ S12800x128.size a)
theorem k1_mult50_dvd : ∀ (v711 : BitVec 32) (k1_hw50 : k1_chk50 v711), 8 ∣ (k1_mult50 v711).toNat := fun v711 k1_hw50 => k1_hw50.1
theorem k1_off50_inb : ∀ (v711 : BitVec 32) (k1_hw50 : k1_chk50 v711), ∀ a, (k1_off50 v711) a + S8x128.size a ≤ S12800x128.size a := fun v711 k1_hw50 => k1_hw50.2

def k1_mult51 (v725 : BitVec 32) : BitVec 32 :=
  let c3_i32_412 : BitVec 32 := 3#32
  let v726 : BitVec 32 := Scalar.shrsi v725 c3_i32_412
  let c3_i32_413 : BitVec 32 := 3#32
  let v727 : BitVec 32 := Scalar.shli v726 c3_i32_413
  v727

def k1_off51 (v725 : BitVec 32) : Fin 2 → Nat :=
  let c3_i32_412 : BitVec 32 := 3#32
  let v726 : BitVec 32 := Scalar.shrsi v725 c3_i32_412
  let c3_i32_413 : BitVec 32 := 3#32
  let v727 : BitVec 32 := Scalar.shli v726 c3_i32_413
  let v728 : BitVec 32 := v727
  let v729 : Index := Scalar.indexCast v728
  let c0_414 : Index := 0#32
  ![v729.toNat, 0]

def k1_chk51 (v725 : BitVec 32) : Prop :=
  (8 ∣ (k1_mult51 v725).toNat) ∧
  (∀ a, (k1_off51 v725) a + S8x128.size a ≤ S12800x128.size a)
theorem k1_mult51_dvd : ∀ (v725 : BitVec 32) (k1_hw51 : k1_chk51 v725), 8 ∣ (k1_mult51 v725).toNat := fun v725 k1_hw51 => k1_hw51.1
theorem k1_off51_inb : ∀ (v725 : BitVec 32) (k1_hw51 : k1_chk51 v725), ∀ a, (k1_off51 v725) a + S8x128.size a ≤ S12800x128.size a := fun v725 k1_hw51 => k1_hw51.2

def k1_mult52 (v739 : BitVec 32) : BitVec 32 :=
  let c3_i32_420 : BitVec 32 := 3#32
  let v740 : BitVec 32 := Scalar.shrsi v739 c3_i32_420
  let c3_i32_421 : BitVec 32 := 3#32
  let v741 : BitVec 32 := Scalar.shli v740 c3_i32_421
  v741

def k1_off52 (v739 : BitVec 32) : Fin 2 → Nat :=
  let c3_i32_420 : BitVec 32 := 3#32
  let v740 : BitVec 32 := Scalar.shrsi v739 c3_i32_420
  let c3_i32_421 : BitVec 32 := 3#32
  let v741 : BitVec 32 := Scalar.shli v740 c3_i32_421
  let v742 : BitVec 32 := v741
  let v743 : Index := Scalar.indexCast v742
  let c0_422 : Index := 0#32
  ![v743.toNat, 0]

def k1_chk52 (v739 : BitVec 32) : Prop :=
  (8 ∣ (k1_mult52 v739).toNat) ∧
  (∀ a, (k1_off52 v739) a + S8x128.size a ≤ S12800x128.size a)
theorem k1_mult52_dvd : ∀ (v739 : BitVec 32) (k1_hw52 : k1_chk52 v739), 8 ∣ (k1_mult52 v739).toNat := fun v739 k1_hw52 => k1_hw52.1
theorem k1_off52_inb : ∀ (v739 : BitVec 32) (k1_hw52 : k1_chk52 v739), ∀ a, (k1_off52 v739) a + S8x128.size a ≤ S12800x128.size a := fun v739 k1_hw52 => k1_hw52.2

def k1_mult53 (v753 : BitVec 32) : BitVec 32 :=
  let c3_i32_428 : BitVec 32 := 3#32
  let v754 : BitVec 32 := Scalar.shrsi v753 c3_i32_428
  let c3_i32_429 : BitVec 32 := 3#32
  let v755 : BitVec 32 := Scalar.shli v754 c3_i32_429
  v755

def k1_off53 (v753 : BitVec 32) : Fin 2 → Nat :=
  let c3_i32_428 : BitVec 32 := 3#32
  let v754 : BitVec 32 := Scalar.shrsi v753 c3_i32_428
  let c3_i32_429 : BitVec 32 := 3#32
  let v755 : BitVec 32 := Scalar.shli v754 c3_i32_429
  let v756 : BitVec 32 := v755
  let v757 : Index := Scalar.indexCast v756
  let c0_430 : Index := 0#32
  ![v757.toNat, 0]

def k1_chk53 (v753 : BitVec 32) : Prop :=
  (8 ∣ (k1_mult53 v753).toNat) ∧
  (∀ a, (k1_off53 v753) a + S8x128.size a ≤ S12800x128.size a)
theorem k1_mult53_dvd : ∀ (v753 : BitVec 32) (k1_hw53 : k1_chk53 v753), 8 ∣ (k1_mult53 v753).toNat := fun v753 k1_hw53 => k1_hw53.1
theorem k1_off53_inb : ∀ (v753 : BitVec 32) (k1_hw53 : k1_chk53 v753), ∀ a, (k1_off53 v753) a + S8x128.size a ≤ S12800x128.size a := fun v753 k1_hw53 => k1_hw53.2

def k1_mult54 (v767 : BitVec 32) : BitVec 32 :=
  let c3_i32_436 : BitVec 32 := 3#32
  let v768 : BitVec 32 := Scalar.shrsi v767 c3_i32_436
  let c3_i32_437 : BitVec 32 := 3#32
  let v769 : BitVec 32 := Scalar.shli v768 c3_i32_437
  v769

def k1_off54 (v767 : BitVec 32) : Fin 2 → Nat :=
  let c3_i32_436 : BitVec 32 := 3#32
  let v768 : BitVec 32 := Scalar.shrsi v767 c3_i32_436
  let c3_i32_437 : BitVec 32 := 3#32
  let v769 : BitVec 32 := Scalar.shli v768 c3_i32_437
  let v770 : BitVec 32 := v769
  let v771 : Index := Scalar.indexCast v770
  let c0_438 : Index := 0#32
  ![v771.toNat, 0]

def k1_chk54 (v767 : BitVec 32) : Prop :=
  (8 ∣ (k1_mult54 v767).toNat) ∧
  (∀ a, (k1_off54 v767) a + S8x128.size a ≤ S12800x128.size a)
theorem k1_mult54_dvd : ∀ (v767 : BitVec 32) (k1_hw54 : k1_chk54 v767), 8 ∣ (k1_mult54 v767).toNat := fun v767 k1_hw54 => k1_hw54.1
theorem k1_off54_inb : ∀ (v767 : BitVec 32) (k1_hw54 : k1_chk54 v767), ∀ a, (k1_off54 v767) a + S8x128.size a ≤ S12800x128.size a := fun v767 k1_hw54 => k1_hw54.2

def k1_mult55 (v781 : BitVec 32) : BitVec 32 :=
  let c3_i32_444 : BitVec 32 := 3#32
  let v782 : BitVec 32 := Scalar.shrsi v781 c3_i32_444
  let c3_i32_445 : BitVec 32 := 3#32
  let v783 : BitVec 32 := Scalar.shli v782 c3_i32_445
  v783

def k1_off55 (v781 : BitVec 32) : Fin 2 → Nat :=
  let c3_i32_444 : BitVec 32 := 3#32
  let v782 : BitVec 32 := Scalar.shrsi v781 c3_i32_444
  let c3_i32_445 : BitVec 32 := 3#32
  let v783 : BitVec 32 := Scalar.shli v782 c3_i32_445
  let v784 : BitVec 32 := v783
  let v785 : Index := Scalar.indexCast v784
  let c0_446 : Index := 0#32
  ![v785.toNat, 0]

def k1_chk55 (v781 : BitVec 32) : Prop :=
  (8 ∣ (k1_mult55 v781).toNat) ∧
  (∀ a, (k1_off55 v781) a + S8x128.size a ≤ S12800x128.size a)
theorem k1_mult55_dvd : ∀ (v781 : BitVec 32) (k1_hw55 : k1_chk55 v781), 8 ∣ (k1_mult55 v781).toNat := fun v781 k1_hw55 => k1_hw55.1
theorem k1_off55_inb : ∀ (v781 : BitVec 32) (k1_hw55 : k1_chk55 v781), ∀ a, (k1_off55 v781) a + S8x128.size a ≤ S12800x128.size a := fun v781 k1_hw55 => k1_hw55.2

def k1_mult56 (v795 : BitVec 32) : BitVec 32 :=
  let c3_i32_452 : BitVec 32 := 3#32
  let v796 : BitVec 32 := Scalar.shrsi v795 c3_i32_452
  let c3_i32_453 : BitVec 32 := 3#32
  let v797 : BitVec 32 := Scalar.shli v796 c3_i32_453
  v797

def k1_off56 (v795 : BitVec 32) : Fin 2 → Nat :=
  let c3_i32_452 : BitVec 32 := 3#32
  let v796 : BitVec 32 := Scalar.shrsi v795 c3_i32_452
  let c3_i32_453 : BitVec 32 := 3#32
  let v797 : BitVec 32 := Scalar.shli v796 c3_i32_453
  let v798 : BitVec 32 := v797
  let v799 : Index := Scalar.indexCast v798
  let c0_454 : Index := 0#32
  ![v799.toNat, 0]

def k1_chk56 (v795 : BitVec 32) : Prop :=
  (8 ∣ (k1_mult56 v795).toNat) ∧
  (∀ a, (k1_off56 v795) a + S8x128.size a ≤ S12800x128.size a)
theorem k1_mult56_dvd : ∀ (v795 : BitVec 32) (k1_hw56 : k1_chk56 v795), 8 ∣ (k1_mult56 v795).toNat := fun v795 k1_hw56 => k1_hw56.1
theorem k1_off56_inb : ∀ (v795 : BitVec 32) (k1_hw56 : k1_chk56 v795), ∀ a, (k1_off56 v795) a + S8x128.size a ≤ S12800x128.size a := fun v795 k1_hw56 => k1_hw56.2

def k1_mult57 (v809 : BitVec 32) : BitVec 32 :=
  let c3_i32_460 : BitVec 32 := 3#32
  let v810 : BitVec 32 := Scalar.shrsi v809 c3_i32_460
  let c3_i32_461 : BitVec 32 := 3#32
  let v811 : BitVec 32 := Scalar.shli v810 c3_i32_461
  v811

def k1_off57 (v809 : BitVec 32) : Fin 2 → Nat :=
  let c3_i32_460 : BitVec 32 := 3#32
  let v810 : BitVec 32 := Scalar.shrsi v809 c3_i32_460
  let c3_i32_461 : BitVec 32 := 3#32
  let v811 : BitVec 32 := Scalar.shli v810 c3_i32_461
  let v812 : BitVec 32 := v811
  let v813 : Index := Scalar.indexCast v812
  let c0_462 : Index := 0#32
  ![v813.toNat, 0]

def k1_chk57 (v809 : BitVec 32) : Prop :=
  (8 ∣ (k1_mult57 v809).toNat) ∧
  (∀ a, (k1_off57 v809) a + S8x128.size a ≤ S12800x128.size a)
theorem k1_mult57_dvd : ∀ (v809 : BitVec 32) (k1_hw57 : k1_chk57 v809), 8 ∣ (k1_mult57 v809).toNat := fun v809 k1_hw57 => k1_hw57.1
theorem k1_off57_inb : ∀ (v809 : BitVec 32) (k1_hw57 : k1_chk57 v809), ∀ a, (k1_off57 v809) a + S8x128.size a ≤ S12800x128.size a := fun v809 k1_hw57 => k1_hw57.2

def k1_mult58 (v823 : BitVec 32) : BitVec 32 :=
  let c3_i32_468 : BitVec 32 := 3#32
  let v824 : BitVec 32 := Scalar.shrsi v823 c3_i32_468
  let c3_i32_469 : BitVec 32 := 3#32
  let v825 : BitVec 32 := Scalar.shli v824 c3_i32_469
  v825

def k1_off58 (v823 : BitVec 32) : Fin 2 → Nat :=
  let c3_i32_468 : BitVec 32 := 3#32
  let v824 : BitVec 32 := Scalar.shrsi v823 c3_i32_468
  let c3_i32_469 : BitVec 32 := 3#32
  let v825 : BitVec 32 := Scalar.shli v824 c3_i32_469
  let v826 : BitVec 32 := v825
  let v827 : Index := Scalar.indexCast v826
  let c0_470 : Index := 0#32
  ![v827.toNat, 0]

def k1_chk58 (v823 : BitVec 32) : Prop :=
  (8 ∣ (k1_mult58 v823).toNat) ∧
  (∀ a, (k1_off58 v823) a + S8x128.size a ≤ S12800x128.size a)
theorem k1_mult58_dvd : ∀ (v823 : BitVec 32) (k1_hw58 : k1_chk58 v823), 8 ∣ (k1_mult58 v823).toNat := fun v823 k1_hw58 => k1_hw58.1
theorem k1_off58_inb : ∀ (v823 : BitVec 32) (k1_hw58 : k1_chk58 v823), ∀ a, (k1_off58 v823) a + S8x128.size a ≤ S12800x128.size a := fun v823 k1_hw58 => k1_hw58.2

def k1_mult59 (v837 : BitVec 32) : BitVec 32 :=
  let c3_i32_476 : BitVec 32 := 3#32
  let v838 : BitVec 32 := Scalar.shrsi v837 c3_i32_476
  let c3_i32_477 : BitVec 32 := 3#32
  let v839 : BitVec 32 := Scalar.shli v838 c3_i32_477
  v839

def k1_off59 (v837 : BitVec 32) : Fin 2 → Nat :=
  let c3_i32_476 : BitVec 32 := 3#32
  let v838 : BitVec 32 := Scalar.shrsi v837 c3_i32_476
  let c3_i32_477 : BitVec 32 := 3#32
  let v839 : BitVec 32 := Scalar.shli v838 c3_i32_477
  let v840 : BitVec 32 := v839
  let v841 : Index := Scalar.indexCast v840
  let c0_478 : Index := 0#32
  ![v841.toNat, 0]

def k1_chk59 (v837 : BitVec 32) : Prop :=
  (8 ∣ (k1_mult59 v837).toNat) ∧
  (∀ a, (k1_off59 v837) a + S8x128.size a ≤ S12800x128.size a)
theorem k1_mult59_dvd : ∀ (v837 : BitVec 32) (k1_hw59 : k1_chk59 v837), 8 ∣ (k1_mult59 v837).toNat := fun v837 k1_hw59 => k1_hw59.1
theorem k1_off59_inb : ∀ (v837 : BitVec 32) (k1_hw59 : k1_chk59 v837), ∀ a, (k1_off59 v837) a + S8x128.size a ≤ S12800x128.size a := fun v837 k1_hw59 => k1_hw59.2

def k1_mult60 (v851 : BitVec 32) : BitVec 32 :=
  let c3_i32_484 : BitVec 32 := 3#32
  let v852 : BitVec 32 := Scalar.shrsi v851 c3_i32_484
  let c3_i32_485 : BitVec 32 := 3#32
  let v853 : BitVec 32 := Scalar.shli v852 c3_i32_485
  v853

def k1_off60 (v851 : BitVec 32) : Fin 2 → Nat :=
  let c3_i32_484 : BitVec 32 := 3#32
  let v852 : BitVec 32 := Scalar.shrsi v851 c3_i32_484
  let c3_i32_485 : BitVec 32 := 3#32
  let v853 : BitVec 32 := Scalar.shli v852 c3_i32_485
  let v854 : BitVec 32 := v853
  let v855 : Index := Scalar.indexCast v854
  let c0_486 : Index := 0#32
  ![v855.toNat, 0]

def k1_chk60 (v851 : BitVec 32) : Prop :=
  (8 ∣ (k1_mult60 v851).toNat) ∧
  (∀ a, (k1_off60 v851) a + S8x128.size a ≤ S12800x128.size a)
theorem k1_mult60_dvd : ∀ (v851 : BitVec 32) (k1_hw60 : k1_chk60 v851), 8 ∣ (k1_mult60 v851).toNat := fun v851 k1_hw60 => k1_hw60.1
theorem k1_off60_inb : ∀ (v851 : BitVec 32) (k1_hw60 : k1_chk60 v851), ∀ a, (k1_off60 v851) a + S8x128.size a ≤ S12800x128.size a := fun v851 k1_hw60 => k1_hw60.2

def k1_mult61 (v865 : BitVec 32) : BitVec 32 :=
  let c3_i32_492 : BitVec 32 := 3#32
  let v866 : BitVec 32 := Scalar.shrsi v865 c3_i32_492
  let c3_i32_493 : BitVec 32 := 3#32
  let v867 : BitVec 32 := Scalar.shli v866 c3_i32_493
  v867

def k1_off61 (v865 : BitVec 32) : Fin 2 → Nat :=
  let c3_i32_492 : BitVec 32 := 3#32
  let v866 : BitVec 32 := Scalar.shrsi v865 c3_i32_492
  let c3_i32_493 : BitVec 32 := 3#32
  let v867 : BitVec 32 := Scalar.shli v866 c3_i32_493
  let v868 : BitVec 32 := v867
  let v869 : Index := Scalar.indexCast v868
  let c0_494 : Index := 0#32
  ![v869.toNat, 0]

def k1_chk61 (v865 : BitVec 32) : Prop :=
  (8 ∣ (k1_mult61 v865).toNat) ∧
  (∀ a, (k1_off61 v865) a + S8x128.size a ≤ S12800x128.size a)
theorem k1_mult61_dvd : ∀ (v865 : BitVec 32) (k1_hw61 : k1_chk61 v865), 8 ∣ (k1_mult61 v865).toNat := fun v865 k1_hw61 => k1_hw61.1
theorem k1_off61_inb : ∀ (v865 : BitVec 32) (k1_hw61 : k1_chk61 v865), ∀ a, (k1_off61 v865) a + S8x128.size a ≤ S12800x128.size a := fun v865 k1_hw61 => k1_hw61.2

def k1_mult62 (v879 : BitVec 32) : BitVec 32 :=
  let c3_i32_500 : BitVec 32 := 3#32
  let v880 : BitVec 32 := Scalar.shrsi v879 c3_i32_500
  let c3_i32_501 : BitVec 32 := 3#32
  let v881 : BitVec 32 := Scalar.shli v880 c3_i32_501
  v881

def k1_off62 (v879 : BitVec 32) : Fin 2 → Nat :=
  let c3_i32_500 : BitVec 32 := 3#32
  let v880 : BitVec 32 := Scalar.shrsi v879 c3_i32_500
  let c3_i32_501 : BitVec 32 := 3#32
  let v881 : BitVec 32 := Scalar.shli v880 c3_i32_501
  let v882 : BitVec 32 := v881
  let v883 : Index := Scalar.indexCast v882
  let c0_502 : Index := 0#32
  ![v883.toNat, 0]

def k1_chk62 (v879 : BitVec 32) : Prop :=
  (8 ∣ (k1_mult62 v879).toNat) ∧
  (∀ a, (k1_off62 v879) a + S8x128.size a ≤ S12800x128.size a)
theorem k1_mult62_dvd : ∀ (v879 : BitVec 32) (k1_hw62 : k1_chk62 v879), 8 ∣ (k1_mult62 v879).toNat := fun v879 k1_hw62 => k1_hw62.1
theorem k1_off62_inb : ∀ (v879 : BitVec 32) (k1_hw62 : k1_chk62 v879), ∀ a, (k1_off62 v879) a + S8x128.size a ≤ S12800x128.size a := fun v879 k1_hw62 => k1_hw62.2

def k1_mult63 (v893 : BitVec 32) : BitVec 32 :=
  let c3_i32_508 : BitVec 32 := 3#32
  let v894 : BitVec 32 := Scalar.shrsi v893 c3_i32_508
  let c3_i32_509 : BitVec 32 := 3#32
  let v895 : BitVec 32 := Scalar.shli v894 c3_i32_509
  v895

def k1_off63 (v893 : BitVec 32) : Fin 2 → Nat :=
  let c3_i32_508 : BitVec 32 := 3#32
  let v894 : BitVec 32 := Scalar.shrsi v893 c3_i32_508
  let c3_i32_509 : BitVec 32 := 3#32
  let v895 : BitVec 32 := Scalar.shli v894 c3_i32_509
  let v896 : BitVec 32 := v895
  let v897 : Index := Scalar.indexCast v896
  let c0_510 : Index := 0#32
  ![v897.toNat, 0]

def k1_chk63 (v893 : BitVec 32) : Prop :=
  (8 ∣ (k1_mult63 v893).toNat) ∧
  (∀ a, (k1_off63 v893) a + S8x128.size a ≤ S12800x128.size a)
theorem k1_mult63_dvd : ∀ (v893 : BitVec 32) (k1_hw63 : k1_chk63 v893), 8 ∣ (k1_mult63 v893).toNat := fun v893 k1_hw63 => k1_hw63.1
theorem k1_off63_inb : ∀ (v893 : BitVec 32) (k1_hw63 : k1_chk63 v893), ∀ a, (k1_off63 v893) a + S8x128.size a ≤ S12800x128.size a := fun v893 k1_hw63 => k1_hw63.2

def k1_mult64 (v907 : BitVec 32) : BitVec 32 :=
  let c3_i32_516 : BitVec 32 := 3#32
  let v908 : BitVec 32 := Scalar.shrsi v907 c3_i32_516
  let c3_i32_517 : BitVec 32 := 3#32
  let v909 : BitVec 32 := Scalar.shli v908 c3_i32_517
  v909

def k1_off64 (v907 : BitVec 32) : Fin 2 → Nat :=
  let c3_i32_516 : BitVec 32 := 3#32
  let v908 : BitVec 32 := Scalar.shrsi v907 c3_i32_516
  let c3_i32_517 : BitVec 32 := 3#32
  let v909 : BitVec 32 := Scalar.shli v908 c3_i32_517
  let v910 : BitVec 32 := v909
  let v911 : Index := Scalar.indexCast v910
  let c0_518 : Index := 0#32
  ![v911.toNat, 0]

def k1_chk64 (v907 : BitVec 32) : Prop :=
  (8 ∣ (k1_mult64 v907).toNat) ∧
  (∀ a, (k1_off64 v907) a + S8x128.size a ≤ S12800x128.size a)
theorem k1_mult64_dvd : ∀ (v907 : BitVec 32) (k1_hw64 : k1_chk64 v907), 8 ∣ (k1_mult64 v907).toNat := fun v907 k1_hw64 => k1_hw64.1
theorem k1_off64_inb : ∀ (v907 : BitVec 32) (k1_hw64 : k1_chk64 v907), ∀ a, (k1_off64 v907) a + S8x128.size a ≤ S12800x128.size a := fun v907 k1_hw64 => k1_hw64.2

def k1_mult65 (v921 : BitVec 32) : BitVec 32 :=
  let c3_i32_524 : BitVec 32 := 3#32
  let v922 : BitVec 32 := Scalar.shrsi v921 c3_i32_524
  let c3_i32_525 : BitVec 32 := 3#32
  let v923 : BitVec 32 := Scalar.shli v922 c3_i32_525
  v923

def k1_off65 (v921 : BitVec 32) : Fin 2 → Nat :=
  let c3_i32_524 : BitVec 32 := 3#32
  let v922 : BitVec 32 := Scalar.shrsi v921 c3_i32_524
  let c3_i32_525 : BitVec 32 := 3#32
  let v923 : BitVec 32 := Scalar.shli v922 c3_i32_525
  let v924 : BitVec 32 := v923
  let v925 : Index := Scalar.indexCast v924
  let c0_526 : Index := 0#32
  ![v925.toNat, 0]

def k1_chk65 (v921 : BitVec 32) : Prop :=
  (8 ∣ (k1_mult65 v921).toNat) ∧
  (∀ a, (k1_off65 v921) a + S8x128.size a ≤ S12800x128.size a)
theorem k1_mult65_dvd : ∀ (v921 : BitVec 32) (k1_hw65 : k1_chk65 v921), 8 ∣ (k1_mult65 v921).toNat := fun v921 k1_hw65 => k1_hw65.1
theorem k1_off65_inb : ∀ (v921 : BitVec 32) (k1_hw65 : k1_chk65 v921), ∀ a, (k1_off65 v921) a + S8x128.size a ≤ S12800x128.size a := fun v921 k1_hw65 => k1_hw65.2

def k1_mult66 (v935 : BitVec 32) : BitVec 32 :=
  let c3_i32_532 : BitVec 32 := 3#32
  let v936 : BitVec 32 := Scalar.shrsi v935 c3_i32_532
  let c3_i32_533 : BitVec 32 := 3#32
  let v937 : BitVec 32 := Scalar.shli v936 c3_i32_533
  v937

def k1_off66 (v935 : BitVec 32) : Fin 2 → Nat :=
  let c3_i32_532 : BitVec 32 := 3#32
  let v936 : BitVec 32 := Scalar.shrsi v935 c3_i32_532
  let c3_i32_533 : BitVec 32 := 3#32
  let v937 : BitVec 32 := Scalar.shli v936 c3_i32_533
  let v938 : BitVec 32 := v937
  let v939 : Index := Scalar.indexCast v938
  let c0_534 : Index := 0#32
  ![v939.toNat, 0]

def k1_chk66 (v935 : BitVec 32) : Prop :=
  (8 ∣ (k1_mult66 v935).toNat) ∧
  (∀ a, (k1_off66 v935) a + S8x128.size a ≤ S12800x128.size a)
theorem k1_mult66_dvd : ∀ (v935 : BitVec 32) (k1_hw66 : k1_chk66 v935), 8 ∣ (k1_mult66 v935).toNat := fun v935 k1_hw66 => k1_hw66.1
theorem k1_off66_inb : ∀ (v935 : BitVec 32) (k1_hw66 : k1_chk66 v935), ∀ a, (k1_off66 v935) a + S8x128.size a ≤ S12800x128.size a := fun v935 k1_hw66 => k1_hw66.2

def k1_mult67 (v949 : BitVec 32) : BitVec 32 :=
  let c3_i32_540 : BitVec 32 := 3#32
  let v950 : BitVec 32 := Scalar.shrsi v949 c3_i32_540
  let c3_i32_541 : BitVec 32 := 3#32
  let v951 : BitVec 32 := Scalar.shli v950 c3_i32_541
  v951

def k1_off67 (v949 : BitVec 32) : Fin 2 → Nat :=
  let c3_i32_540 : BitVec 32 := 3#32
  let v950 : BitVec 32 := Scalar.shrsi v949 c3_i32_540
  let c3_i32_541 : BitVec 32 := 3#32
  let v951 : BitVec 32 := Scalar.shli v950 c3_i32_541
  let v952 : BitVec 32 := v951
  let v953 : Index := Scalar.indexCast v952
  let c0_542 : Index := 0#32
  ![v953.toNat, 0]

def k1_chk67 (v949 : BitVec 32) : Prop :=
  (8 ∣ (k1_mult67 v949).toNat) ∧
  (∀ a, (k1_off67 v949) a + S8x128.size a ≤ S12800x128.size a)
theorem k1_mult67_dvd : ∀ (v949 : BitVec 32) (k1_hw67 : k1_chk67 v949), 8 ∣ (k1_mult67 v949).toNat := fun v949 k1_hw67 => k1_hw67.1
theorem k1_off67_inb : ∀ (v949 : BitVec 32) (k1_hw67 : k1_chk67 v949), ∀ a, (k1_off67 v949) a + S8x128.size a ≤ S12800x128.size a := fun v949 k1_hw67 => k1_hw67.2

def k1_mult68 (v963 : BitVec 32) : BitVec 32 :=
  let c3_i32_548 : BitVec 32 := 3#32
  let v964 : BitVec 32 := Scalar.shrsi v963 c3_i32_548
  let c3_i32_549 : BitVec 32 := 3#32
  let v965 : BitVec 32 := Scalar.shli v964 c3_i32_549
  v965

def k1_off68 (v963 : BitVec 32) : Fin 2 → Nat :=
  let c3_i32_548 : BitVec 32 := 3#32
  let v964 : BitVec 32 := Scalar.shrsi v963 c3_i32_548
  let c3_i32_549 : BitVec 32 := 3#32
  let v965 : BitVec 32 := Scalar.shli v964 c3_i32_549
  let v966 : BitVec 32 := v965
  let v967 : Index := Scalar.indexCast v966
  let c0_550 : Index := 0#32
  ![v967.toNat, 0]

def k1_chk68 (v963 : BitVec 32) : Prop :=
  (8 ∣ (k1_mult68 v963).toNat) ∧
  (∀ a, (k1_off68 v963) a + S8x128.size a ≤ S12800x128.size a)
theorem k1_mult68_dvd : ∀ (v963 : BitVec 32) (k1_hw68 : k1_chk68 v963), 8 ∣ (k1_mult68 v963).toNat := fun v963 k1_hw68 => k1_hw68.1
theorem k1_off68_inb : ∀ (v963 : BitVec 32) (k1_hw68 : k1_chk68 v963), ∀ a, (k1_off68 v963) a + S8x128.size a ≤ S12800x128.size a := fun v963 k1_hw68 => k1_hw68.2

def k1_mult69 (v977 : BitVec 32) : BitVec 32 :=
  let c3_i32_556 : BitVec 32 := 3#32
  let v978 : BitVec 32 := Scalar.shrsi v977 c3_i32_556
  let c3_i32_557 : BitVec 32 := 3#32
  let v979 : BitVec 32 := Scalar.shli v978 c3_i32_557
  v979

def k1_off69 (v977 : BitVec 32) : Fin 2 → Nat :=
  let c3_i32_556 : BitVec 32 := 3#32
  let v978 : BitVec 32 := Scalar.shrsi v977 c3_i32_556
  let c3_i32_557 : BitVec 32 := 3#32
  let v979 : BitVec 32 := Scalar.shli v978 c3_i32_557
  let v980 : BitVec 32 := v979
  let v981 : Index := Scalar.indexCast v980
  let c0_558 : Index := 0#32
  ![v981.toNat, 0]

def k1_chk69 (v977 : BitVec 32) : Prop :=
  (8 ∣ (k1_mult69 v977).toNat) ∧
  (∀ a, (k1_off69 v977) a + S8x128.size a ≤ S12800x128.size a)
theorem k1_mult69_dvd : ∀ (v977 : BitVec 32) (k1_hw69 : k1_chk69 v977), 8 ∣ (k1_mult69 v977).toNat := fun v977 k1_hw69 => k1_hw69.1
theorem k1_off69_inb : ∀ (v977 : BitVec 32) (k1_hw69 : k1_chk69 v977), ∀ a, (k1_off69 v977) a + S8x128.size a ≤ S12800x128.size a := fun v977 k1_hw69 => k1_hw69.2

def k1_mult70 (v991 : BitVec 32) : BitVec 32 :=
  let c3_i32_564 : BitVec 32 := 3#32
  let v992 : BitVec 32 := Scalar.shrsi v991 c3_i32_564
  let c3_i32_565 : BitVec 32 := 3#32
  let v993 : BitVec 32 := Scalar.shli v992 c3_i32_565
  v993

def k1_off70 (v991 : BitVec 32) : Fin 2 → Nat :=
  let c3_i32_564 : BitVec 32 := 3#32
  let v992 : BitVec 32 := Scalar.shrsi v991 c3_i32_564
  let c3_i32_565 : BitVec 32 := 3#32
  let v993 : BitVec 32 := Scalar.shli v992 c3_i32_565
  let v994 : BitVec 32 := v993
  let v995 : Index := Scalar.indexCast v994
  let c0_566 : Index := 0#32
  ![v995.toNat, 0]

def k1_chk70 (v991 : BitVec 32) : Prop :=
  (8 ∣ (k1_mult70 v991).toNat) ∧
  (∀ a, (k1_off70 v991) a + S8x128.size a ≤ S12800x128.size a)
theorem k1_mult70_dvd : ∀ (v991 : BitVec 32) (k1_hw70 : k1_chk70 v991), 8 ∣ (k1_mult70 v991).toNat := fun v991 k1_hw70 => k1_hw70.1
theorem k1_off70_inb : ∀ (v991 : BitVec 32) (k1_hw70 : k1_chk70 v991), ∀ a, (k1_off70 v991) a + S8x128.size a ≤ S12800x128.size a := fun v991 k1_hw70 => k1_hw70.2

def k1_mult71 (v1005 : BitVec 32) : BitVec 32 :=
  let c3_i32_572 : BitVec 32 := 3#32
  let v1006 : BitVec 32 := Scalar.shrsi v1005 c3_i32_572
  let c3_i32_573 : BitVec 32 := 3#32
  let v1007 : BitVec 32 := Scalar.shli v1006 c3_i32_573
  v1007

def k1_off71 (v1005 : BitVec 32) : Fin 2 → Nat :=
  let c3_i32_572 : BitVec 32 := 3#32
  let v1006 : BitVec 32 := Scalar.shrsi v1005 c3_i32_572
  let c3_i32_573 : BitVec 32 := 3#32
  let v1007 : BitVec 32 := Scalar.shli v1006 c3_i32_573
  let v1008 : BitVec 32 := v1007
  let v1009 : Index := Scalar.indexCast v1008
  let c0_574 : Index := 0#32
  ![v1009.toNat, 0]

def k1_chk71 (v1005 : BitVec 32) : Prop :=
  (8 ∣ (k1_mult71 v1005).toNat) ∧
  (∀ a, (k1_off71 v1005) a + S8x128.size a ≤ S12800x128.size a)
theorem k1_mult71_dvd : ∀ (v1005 : BitVec 32) (k1_hw71 : k1_chk71 v1005), 8 ∣ (k1_mult71 v1005).toNat := fun v1005 k1_hw71 => k1_hw71.1
theorem k1_off71_inb : ∀ (v1005 : BitVec 32) (k1_hw71 : k1_chk71 v1005), ∀ a, (k1_off71 v1005) a + S8x128.size a ≤ S12800x128.size a := fun v1005 k1_hw71 => k1_hw71.2

def k1_mult72 (v1019 : BitVec 32) : BitVec 32 :=
  let c3_i32_580 : BitVec 32 := 3#32
  let v1020 : BitVec 32 := Scalar.shrsi v1019 c3_i32_580
  let c3_i32_581 : BitVec 32 := 3#32
  let v1021 : BitVec 32 := Scalar.shli v1020 c3_i32_581
  v1021

def k1_off72 (v1019 : BitVec 32) : Fin 2 → Nat :=
  let c3_i32_580 : BitVec 32 := 3#32
  let v1020 : BitVec 32 := Scalar.shrsi v1019 c3_i32_580
  let c3_i32_581 : BitVec 32 := 3#32
  let v1021 : BitVec 32 := Scalar.shli v1020 c3_i32_581
  let v1022 : BitVec 32 := v1021
  let v1023 : Index := Scalar.indexCast v1022
  let c0_582 : Index := 0#32
  ![v1023.toNat, 0]

def k1_chk72 (v1019 : BitVec 32) : Prop :=
  (8 ∣ (k1_mult72 v1019).toNat) ∧
  (∀ a, (k1_off72 v1019) a + S8x128.size a ≤ S12800x128.size a)
theorem k1_mult72_dvd : ∀ (v1019 : BitVec 32) (k1_hw72 : k1_chk72 v1019), 8 ∣ (k1_mult72 v1019).toNat := fun v1019 k1_hw72 => k1_hw72.1
theorem k1_off72_inb : ∀ (v1019 : BitVec 32) (k1_hw72 : k1_chk72 v1019), ∀ a, (k1_off72 v1019) a + S8x128.size a ≤ S12800x128.size a := fun v1019 k1_hw72 => k1_hw72.2

def k1_mult73 (v1033 : BitVec 32) : BitVec 32 :=
  let c3_i32_588 : BitVec 32 := 3#32
  let v1034 : BitVec 32 := Scalar.shrsi v1033 c3_i32_588
  let c3_i32_589 : BitVec 32 := 3#32
  let v1035 : BitVec 32 := Scalar.shli v1034 c3_i32_589
  v1035

def k1_off73 (v1033 : BitVec 32) : Fin 2 → Nat :=
  let c3_i32_588 : BitVec 32 := 3#32
  let v1034 : BitVec 32 := Scalar.shrsi v1033 c3_i32_588
  let c3_i32_589 : BitVec 32 := 3#32
  let v1035 : BitVec 32 := Scalar.shli v1034 c3_i32_589
  let v1036 : BitVec 32 := v1035
  let v1037 : Index := Scalar.indexCast v1036
  let c0_590 : Index := 0#32
  ![v1037.toNat, 0]

def k1_chk73 (v1033 : BitVec 32) : Prop :=
  (8 ∣ (k1_mult73 v1033).toNat) ∧
  (∀ a, (k1_off73 v1033) a + S8x128.size a ≤ S12800x128.size a)
theorem k1_mult73_dvd : ∀ (v1033 : BitVec 32) (k1_hw73 : k1_chk73 v1033), 8 ∣ (k1_mult73 v1033).toNat := fun v1033 k1_hw73 => k1_hw73.1
theorem k1_off73_inb : ∀ (v1033 : BitVec 32) (k1_hw73 : k1_chk73 v1033), ∀ a, (k1_off73 v1033) a + S8x128.size a ≤ S12800x128.size a := fun v1033 k1_hw73 => k1_hw73.2

def k1_mult74 (v1047 : BitVec 32) : BitVec 32 :=
  let c3_i32_596 : BitVec 32 := 3#32
  let v1048 : BitVec 32 := Scalar.shrsi v1047 c3_i32_596
  let c3_i32_597 : BitVec 32 := 3#32
  let v1049 : BitVec 32 := Scalar.shli v1048 c3_i32_597
  v1049

def k1_off74 (v1047 : BitVec 32) : Fin 2 → Nat :=
  let c3_i32_596 : BitVec 32 := 3#32
  let v1048 : BitVec 32 := Scalar.shrsi v1047 c3_i32_596
  let c3_i32_597 : BitVec 32 := 3#32
  let v1049 : BitVec 32 := Scalar.shli v1048 c3_i32_597
  let v1050 : BitVec 32 := v1049
  let v1051 : Index := Scalar.indexCast v1050
  let c0_598 : Index := 0#32
  ![v1051.toNat, 0]

def k1_chk74 (v1047 : BitVec 32) : Prop :=
  (8 ∣ (k1_mult74 v1047).toNat) ∧
  (∀ a, (k1_off74 v1047) a + S8x128.size a ≤ S12800x128.size a)
theorem k1_mult74_dvd : ∀ (v1047 : BitVec 32) (k1_hw74 : k1_chk74 v1047), 8 ∣ (k1_mult74 v1047).toNat := fun v1047 k1_hw74 => k1_hw74.1
theorem k1_off74_inb : ∀ (v1047 : BitVec 32) (k1_hw74 : k1_chk74 v1047), ∀ a, (k1_off74 v1047) a + S8x128.size a ≤ S12800x128.size a := fun v1047 k1_hw74 => k1_hw74.2

def k1_mult75 (v1061 : BitVec 32) : BitVec 32 :=
  let c3_i32_604 : BitVec 32 := 3#32
  let v1062 : BitVec 32 := Scalar.shrsi v1061 c3_i32_604
  let c3_i32_605 : BitVec 32 := 3#32
  let v1063 : BitVec 32 := Scalar.shli v1062 c3_i32_605
  v1063

def k1_off75 (v1061 : BitVec 32) : Fin 2 → Nat :=
  let c3_i32_604 : BitVec 32 := 3#32
  let v1062 : BitVec 32 := Scalar.shrsi v1061 c3_i32_604
  let c3_i32_605 : BitVec 32 := 3#32
  let v1063 : BitVec 32 := Scalar.shli v1062 c3_i32_605
  let v1064 : BitVec 32 := v1063
  let v1065 : Index := Scalar.indexCast v1064
  let c0_606 : Index := 0#32
  ![v1065.toNat, 0]

def k1_chk75 (v1061 : BitVec 32) : Prop :=
  (8 ∣ (k1_mult75 v1061).toNat) ∧
  (∀ a, (k1_off75 v1061) a + S8x128.size a ≤ S12800x128.size a)
theorem k1_mult75_dvd : ∀ (v1061 : BitVec 32) (k1_hw75 : k1_chk75 v1061), 8 ∣ (k1_mult75 v1061).toNat := fun v1061 k1_hw75 => k1_hw75.1
theorem k1_off75_inb : ∀ (v1061 : BitVec 32) (k1_hw75 : k1_chk75 v1061), ∀ a, (k1_off75 v1061) a + S8x128.size a ≤ S12800x128.size a := fun v1061 k1_hw75 => k1_hw75.2

def k1_mult76 (v1075 : BitVec 32) : BitVec 32 :=
  let c3_i32_612 : BitVec 32 := 3#32
  let v1076 : BitVec 32 := Scalar.shrsi v1075 c3_i32_612
  let c3_i32_613 : BitVec 32 := 3#32
  let v1077 : BitVec 32 := Scalar.shli v1076 c3_i32_613
  v1077

def k1_off76 (v1075 : BitVec 32) : Fin 2 → Nat :=
  let c3_i32_612 : BitVec 32 := 3#32
  let v1076 : BitVec 32 := Scalar.shrsi v1075 c3_i32_612
  let c3_i32_613 : BitVec 32 := 3#32
  let v1077 : BitVec 32 := Scalar.shli v1076 c3_i32_613
  let v1078 : BitVec 32 := v1077
  let v1079 : Index := Scalar.indexCast v1078
  let c0_614 : Index := 0#32
  ![v1079.toNat, 0]

def k1_chk76 (v1075 : BitVec 32) : Prop :=
  (8 ∣ (k1_mult76 v1075).toNat) ∧
  (∀ a, (k1_off76 v1075) a + S8x128.size a ≤ S12800x128.size a)
theorem k1_mult76_dvd : ∀ (v1075 : BitVec 32) (k1_hw76 : k1_chk76 v1075), 8 ∣ (k1_mult76 v1075).toNat := fun v1075 k1_hw76 => k1_hw76.1
theorem k1_off76_inb : ∀ (v1075 : BitVec 32) (k1_hw76 : k1_chk76 v1075), ∀ a, (k1_off76 v1075) a + S8x128.size a ≤ S12800x128.size a := fun v1075 k1_hw76 => k1_hw76.2

def k1_mult77 (v1089 : BitVec 32) : BitVec 32 :=
  let c3_i32_620 : BitVec 32 := 3#32
  let v1090 : BitVec 32 := Scalar.shrsi v1089 c3_i32_620
  let c3_i32_621 : BitVec 32 := 3#32
  let v1091 : BitVec 32 := Scalar.shli v1090 c3_i32_621
  v1091

def k1_off77 (v1089 : BitVec 32) : Fin 2 → Nat :=
  let c3_i32_620 : BitVec 32 := 3#32
  let v1090 : BitVec 32 := Scalar.shrsi v1089 c3_i32_620
  let c3_i32_621 : BitVec 32 := 3#32
  let v1091 : BitVec 32 := Scalar.shli v1090 c3_i32_621
  let v1092 : BitVec 32 := v1091
  let v1093 : Index := Scalar.indexCast v1092
  let c0_622 : Index := 0#32
  ![v1093.toNat, 0]

def k1_chk77 (v1089 : BitVec 32) : Prop :=
  (8 ∣ (k1_mult77 v1089).toNat) ∧
  (∀ a, (k1_off77 v1089) a + S8x128.size a ≤ S12800x128.size a)
theorem k1_mult77_dvd : ∀ (v1089 : BitVec 32) (k1_hw77 : k1_chk77 v1089), 8 ∣ (k1_mult77 v1089).toNat := fun v1089 k1_hw77 => k1_hw77.1
theorem k1_off77_inb : ∀ (v1089 : BitVec 32) (k1_hw77 : k1_chk77 v1089), ∀ a, (k1_off77 v1089) a + S8x128.size a ≤ S12800x128.size a := fun v1089 k1_hw77 => k1_hw77.2

def k1_mult78 (v1103 : BitVec 32) : BitVec 32 :=
  let c3_i32_628 : BitVec 32 := 3#32
  let v1104 : BitVec 32 := Scalar.shrsi v1103 c3_i32_628
  let c3_i32_629 : BitVec 32 := 3#32
  let v1105 : BitVec 32 := Scalar.shli v1104 c3_i32_629
  v1105

def k1_off78 (v1103 : BitVec 32) : Fin 2 → Nat :=
  let c3_i32_628 : BitVec 32 := 3#32
  let v1104 : BitVec 32 := Scalar.shrsi v1103 c3_i32_628
  let c3_i32_629 : BitVec 32 := 3#32
  let v1105 : BitVec 32 := Scalar.shli v1104 c3_i32_629
  let v1106 : BitVec 32 := v1105
  let v1107 : Index := Scalar.indexCast v1106
  let c0_630 : Index := 0#32
  ![v1107.toNat, 0]

def k1_chk78 (v1103 : BitVec 32) : Prop :=
  (8 ∣ (k1_mult78 v1103).toNat) ∧
  (∀ a, (k1_off78 v1103) a + S8x128.size a ≤ S12800x128.size a)
theorem k1_mult78_dvd : ∀ (v1103 : BitVec 32) (k1_hw78 : k1_chk78 v1103), 8 ∣ (k1_mult78 v1103).toNat := fun v1103 k1_hw78 => k1_hw78.1
theorem k1_off78_inb : ∀ (v1103 : BitVec 32) (k1_hw78 : k1_chk78 v1103), ∀ a, (k1_off78 v1103) a + S8x128.size a ≤ S12800x128.size a := fun v1103 k1_hw78 => k1_hw78.2

def k1_mult79 (v1117 : BitVec 32) : BitVec 32 :=
  let c3_i32_636 : BitVec 32 := 3#32
  let v1118 : BitVec 32 := Scalar.shrsi v1117 c3_i32_636
  let c3_i32_637 : BitVec 32 := 3#32
  let v1119 : BitVec 32 := Scalar.shli v1118 c3_i32_637
  v1119

def k1_off79 (v1117 : BitVec 32) : Fin 2 → Nat :=
  let c3_i32_636 : BitVec 32 := 3#32
  let v1118 : BitVec 32 := Scalar.shrsi v1117 c3_i32_636
  let c3_i32_637 : BitVec 32 := 3#32
  let v1119 : BitVec 32 := Scalar.shli v1118 c3_i32_637
  let v1120 : BitVec 32 := v1119
  let v1121 : Index := Scalar.indexCast v1120
  let c0_638 : Index := 0#32
  ![v1121.toNat, 0]

def k1_chk79 (v1117 : BitVec 32) : Prop :=
  (8 ∣ (k1_mult79 v1117).toNat) ∧
  (∀ a, (k1_off79 v1117) a + S8x128.size a ≤ S12800x128.size a)
theorem k1_mult79_dvd : ∀ (v1117 : BitVec 32) (k1_hw79 : k1_chk79 v1117), 8 ∣ (k1_mult79 v1117).toNat := fun v1117 k1_hw79 => k1_hw79.1
theorem k1_off79_inb : ∀ (v1117 : BitVec 32) (k1_hw79 : k1_chk79 v1117), ∀ a, (k1_off79 v1117) a + S8x128.size a ≤ S12800x128.size a := fun v1117 k1_hw79 => k1_hw79.2

def k1_mult80 (v1131 : BitVec 32) : BitVec 32 :=
  let c3_i32_644 : BitVec 32 := 3#32
  let v1132 : BitVec 32 := Scalar.shrsi v1131 c3_i32_644
  let c3_i32_645 : BitVec 32 := 3#32
  let v1133 : BitVec 32 := Scalar.shli v1132 c3_i32_645
  v1133

def k1_off80 (v1131 : BitVec 32) : Fin 2 → Nat :=
  let c3_i32_644 : BitVec 32 := 3#32
  let v1132 : BitVec 32 := Scalar.shrsi v1131 c3_i32_644
  let c3_i32_645 : BitVec 32 := 3#32
  let v1133 : BitVec 32 := Scalar.shli v1132 c3_i32_645
  let v1134 : BitVec 32 := v1133
  let v1135 : Index := Scalar.indexCast v1134
  let c0_646 : Index := 0#32
  ![v1135.toNat, 0]

def k1_chk80 (v1131 : BitVec 32) : Prop :=
  (8 ∣ (k1_mult80 v1131).toNat) ∧
  (∀ a, (k1_off80 v1131) a + S8x128.size a ≤ S12800x128.size a)
theorem k1_mult80_dvd : ∀ (v1131 : BitVec 32) (k1_hw80 : k1_chk80 v1131), 8 ∣ (k1_mult80 v1131).toNat := fun v1131 k1_hw80 => k1_hw80.1
theorem k1_off80_inb : ∀ (v1131 : BitVec 32) (k1_hw80 : k1_chk80 v1131), ∀ a, (k1_off80 v1131) a + S8x128.size a ≤ S12800x128.size a := fun v1131 k1_hw80 => k1_hw80.2

def k1_mult81 (v1145 : BitVec 32) : BitVec 32 :=
  let c3_i32_652 : BitVec 32 := 3#32
  let v1146 : BitVec 32 := Scalar.shrsi v1145 c3_i32_652
  let c3_i32_653 : BitVec 32 := 3#32
  let v1147 : BitVec 32 := Scalar.shli v1146 c3_i32_653
  v1147

def k1_off81 (v1145 : BitVec 32) : Fin 2 → Nat :=
  let c3_i32_652 : BitVec 32 := 3#32
  let v1146 : BitVec 32 := Scalar.shrsi v1145 c3_i32_652
  let c3_i32_653 : BitVec 32 := 3#32
  let v1147 : BitVec 32 := Scalar.shli v1146 c3_i32_653
  let v1148 : BitVec 32 := v1147
  let v1149 : Index := Scalar.indexCast v1148
  let c0_654 : Index := 0#32
  ![v1149.toNat, 0]

def k1_chk81 (v1145 : BitVec 32) : Prop :=
  (8 ∣ (k1_mult81 v1145).toNat) ∧
  (∀ a, (k1_off81 v1145) a + S8x128.size a ≤ S12800x128.size a)
theorem k1_mult81_dvd : ∀ (v1145 : BitVec 32) (k1_hw81 : k1_chk81 v1145), 8 ∣ (k1_mult81 v1145).toNat := fun v1145 k1_hw81 => k1_hw81.1
theorem k1_off81_inb : ∀ (v1145 : BitVec 32) (k1_hw81 : k1_chk81 v1145), ∀ a, (k1_off81 v1145) a + S8x128.size a ≤ S12800x128.size a := fun v1145 k1_hw81 => k1_hw81.2

def k1_mult82 (v1159 : BitVec 32) : BitVec 32 :=
  let c3_i32_660 : BitVec 32 := 3#32
  let v1160 : BitVec 32 := Scalar.shrsi v1159 c3_i32_660
  let c3_i32_661 : BitVec 32 := 3#32
  let v1161 : BitVec 32 := Scalar.shli v1160 c3_i32_661
  v1161

def k1_off82 (v1159 : BitVec 32) : Fin 2 → Nat :=
  let c3_i32_660 : BitVec 32 := 3#32
  let v1160 : BitVec 32 := Scalar.shrsi v1159 c3_i32_660
  let c3_i32_661 : BitVec 32 := 3#32
  let v1161 : BitVec 32 := Scalar.shli v1160 c3_i32_661
  let v1162 : BitVec 32 := v1161
  let v1163 : Index := Scalar.indexCast v1162
  let c0_662 : Index := 0#32
  ![v1163.toNat, 0]

def k1_chk82 (v1159 : BitVec 32) : Prop :=
  (8 ∣ (k1_mult82 v1159).toNat) ∧
  (∀ a, (k1_off82 v1159) a + S8x128.size a ≤ S12800x128.size a)
theorem k1_mult82_dvd : ∀ (v1159 : BitVec 32) (k1_hw82 : k1_chk82 v1159), 8 ∣ (k1_mult82 v1159).toNat := fun v1159 k1_hw82 => k1_hw82.1
theorem k1_off82_inb : ∀ (v1159 : BitVec 32) (k1_hw82 : k1_chk82 v1159), ∀ a, (k1_off82 v1159) a + S8x128.size a ≤ S12800x128.size a := fun v1159 k1_hw82 => k1_hw82.2

def k1_mult83 (v1173 : BitVec 32) : BitVec 32 :=
  let c3_i32_668 : BitVec 32 := 3#32
  let v1174 : BitVec 32 := Scalar.shrsi v1173 c3_i32_668
  let c3_i32_669 : BitVec 32 := 3#32
  let v1175 : BitVec 32 := Scalar.shli v1174 c3_i32_669
  v1175

def k1_off83 (v1173 : BitVec 32) : Fin 2 → Nat :=
  let c3_i32_668 : BitVec 32 := 3#32
  let v1174 : BitVec 32 := Scalar.shrsi v1173 c3_i32_668
  let c3_i32_669 : BitVec 32 := 3#32
  let v1175 : BitVec 32 := Scalar.shli v1174 c3_i32_669
  let v1176 : BitVec 32 := v1175
  let v1177 : Index := Scalar.indexCast v1176
  let c0_670 : Index := 0#32
  ![v1177.toNat, 0]

def k1_chk83 (v1173 : BitVec 32) : Prop :=
  (8 ∣ (k1_mult83 v1173).toNat) ∧
  (∀ a, (k1_off83 v1173) a + S8x128.size a ≤ S12800x128.size a)
theorem k1_mult83_dvd : ∀ (v1173 : BitVec 32) (k1_hw83 : k1_chk83 v1173), 8 ∣ (k1_mult83 v1173).toNat := fun v1173 k1_hw83 => k1_hw83.1
theorem k1_off83_inb : ∀ (v1173 : BitVec 32) (k1_hw83 : k1_chk83 v1173), ∀ a, (k1_off83 v1173) a + S8x128.size a ≤ S12800x128.size a := fun v1173 k1_hw83 => k1_hw83.2

def k1_mult84 (v1187 : BitVec 32) : BitVec 32 :=
  let c3_i32_676 : BitVec 32 := 3#32
  let v1188 : BitVec 32 := Scalar.shrsi v1187 c3_i32_676
  let c3_i32_677 : BitVec 32 := 3#32
  let v1189 : BitVec 32 := Scalar.shli v1188 c3_i32_677
  v1189

def k1_off84 (v1187 : BitVec 32) : Fin 2 → Nat :=
  let c3_i32_676 : BitVec 32 := 3#32
  let v1188 : BitVec 32 := Scalar.shrsi v1187 c3_i32_676
  let c3_i32_677 : BitVec 32 := 3#32
  let v1189 : BitVec 32 := Scalar.shli v1188 c3_i32_677
  let v1190 : BitVec 32 := v1189
  let v1191 : Index := Scalar.indexCast v1190
  let c0_678 : Index := 0#32
  ![v1191.toNat, 0]

def k1_chk84 (v1187 : BitVec 32) : Prop :=
  (8 ∣ (k1_mult84 v1187).toNat) ∧
  (∀ a, (k1_off84 v1187) a + S8x128.size a ≤ S12800x128.size a)
theorem k1_mult84_dvd : ∀ (v1187 : BitVec 32) (k1_hw84 : k1_chk84 v1187), 8 ∣ (k1_mult84 v1187).toNat := fun v1187 k1_hw84 => k1_hw84.1
theorem k1_off84_inb : ∀ (v1187 : BitVec 32) (k1_hw84 : k1_chk84 v1187), ∀ a, (k1_off84 v1187) a + S8x128.size a ≤ S12800x128.size a := fun v1187 k1_hw84 => k1_hw84.2

def k1_mult85 (v1201 : BitVec 32) : BitVec 32 :=
  let c3_i32_684 : BitVec 32 := 3#32
  let v1202 : BitVec 32 := Scalar.shrsi v1201 c3_i32_684
  let c3_i32_685 : BitVec 32 := 3#32
  let v1203 : BitVec 32 := Scalar.shli v1202 c3_i32_685
  v1203

def k1_off85 (v1201 : BitVec 32) : Fin 2 → Nat :=
  let c3_i32_684 : BitVec 32 := 3#32
  let v1202 : BitVec 32 := Scalar.shrsi v1201 c3_i32_684
  let c3_i32_685 : BitVec 32 := 3#32
  let v1203 : BitVec 32 := Scalar.shli v1202 c3_i32_685
  let v1204 : BitVec 32 := v1203
  let v1205 : Index := Scalar.indexCast v1204
  let c0_686 : Index := 0#32
  ![v1205.toNat, 0]

def k1_chk85 (v1201 : BitVec 32) : Prop :=
  (8 ∣ (k1_mult85 v1201).toNat) ∧
  (∀ a, (k1_off85 v1201) a + S8x128.size a ≤ S12800x128.size a)
theorem k1_mult85_dvd : ∀ (v1201 : BitVec 32) (k1_hw85 : k1_chk85 v1201), 8 ∣ (k1_mult85 v1201).toNat := fun v1201 k1_hw85 => k1_hw85.1
theorem k1_off85_inb : ∀ (v1201 : BitVec 32) (k1_hw85 : k1_chk85 v1201), ∀ a, (k1_off85 v1201) a + S8x128.size a ≤ S12800x128.size a := fun v1201 k1_hw85 => k1_hw85.2

def k1_mult86 (v1215 : BitVec 32) : BitVec 32 :=
  let c3_i32_692 : BitVec 32 := 3#32
  let v1216 : BitVec 32 := Scalar.shrsi v1215 c3_i32_692
  let c3_i32_693 : BitVec 32 := 3#32
  let v1217 : BitVec 32 := Scalar.shli v1216 c3_i32_693
  v1217

def k1_off86 (v1215 : BitVec 32) : Fin 2 → Nat :=
  let c3_i32_692 : BitVec 32 := 3#32
  let v1216 : BitVec 32 := Scalar.shrsi v1215 c3_i32_692
  let c3_i32_693 : BitVec 32 := 3#32
  let v1217 : BitVec 32 := Scalar.shli v1216 c3_i32_693
  let v1218 : BitVec 32 := v1217
  let v1219 : Index := Scalar.indexCast v1218
  let c0_694 : Index := 0#32
  ![v1219.toNat, 0]

def k1_chk86 (v1215 : BitVec 32) : Prop :=
  (8 ∣ (k1_mult86 v1215).toNat) ∧
  (∀ a, (k1_off86 v1215) a + S8x128.size a ≤ S12800x128.size a)
theorem k1_mult86_dvd : ∀ (v1215 : BitVec 32) (k1_hw86 : k1_chk86 v1215), 8 ∣ (k1_mult86 v1215).toNat := fun v1215 k1_hw86 => k1_hw86.1
theorem k1_off86_inb : ∀ (v1215 : BitVec 32) (k1_hw86 : k1_chk86 v1215), ∀ a, (k1_off86 v1215) a + S8x128.size a ≤ S12800x128.size a := fun v1215 k1_hw86 => k1_hw86.2

def k1_mult87 (v1229 : BitVec 32) : BitVec 32 :=
  let c3_i32_700 : BitVec 32 := 3#32
  let v1230 : BitVec 32 := Scalar.shrsi v1229 c3_i32_700
  let c3_i32_701 : BitVec 32 := 3#32
  let v1231 : BitVec 32 := Scalar.shli v1230 c3_i32_701
  v1231

def k1_off87 (v1229 : BitVec 32) : Fin 2 → Nat :=
  let c3_i32_700 : BitVec 32 := 3#32
  let v1230 : BitVec 32 := Scalar.shrsi v1229 c3_i32_700
  let c3_i32_701 : BitVec 32 := 3#32
  let v1231 : BitVec 32 := Scalar.shli v1230 c3_i32_701
  let v1232 : BitVec 32 := v1231
  let v1233 : Index := Scalar.indexCast v1232
  let c0_702 : Index := 0#32
  ![v1233.toNat, 0]

def k1_chk87 (v1229 : BitVec 32) : Prop :=
  (8 ∣ (k1_mult87 v1229).toNat) ∧
  (∀ a, (k1_off87 v1229) a + S8x128.size a ≤ S12800x128.size a)
theorem k1_mult87_dvd : ∀ (v1229 : BitVec 32) (k1_hw87 : k1_chk87 v1229), 8 ∣ (k1_mult87 v1229).toNat := fun v1229 k1_hw87 => k1_hw87.1
theorem k1_off87_inb : ∀ (v1229 : BitVec 32) (k1_hw87 : k1_chk87 v1229), ∀ a, (k1_off87 v1229) a + S8x128.size a ≤ S12800x128.size a := fun v1229 k1_hw87 => k1_hw87.2

def k1_mult88 (v1243 : BitVec 32) : BitVec 32 :=
  let c3_i32_708 : BitVec 32 := 3#32
  let v1244 : BitVec 32 := Scalar.shrsi v1243 c3_i32_708
  let c3_i32_709 : BitVec 32 := 3#32
  let v1245 : BitVec 32 := Scalar.shli v1244 c3_i32_709
  v1245

def k1_off88 (v1243 : BitVec 32) : Fin 2 → Nat :=
  let c3_i32_708 : BitVec 32 := 3#32
  let v1244 : BitVec 32 := Scalar.shrsi v1243 c3_i32_708
  let c3_i32_709 : BitVec 32 := 3#32
  let v1245 : BitVec 32 := Scalar.shli v1244 c3_i32_709
  let v1246 : BitVec 32 := v1245
  let v1247 : Index := Scalar.indexCast v1246
  let c0_710 : Index := 0#32
  ![v1247.toNat, 0]

def k1_chk88 (v1243 : BitVec 32) : Prop :=
  (8 ∣ (k1_mult88 v1243).toNat) ∧
  (∀ a, (k1_off88 v1243) a + S8x128.size a ≤ S12800x128.size a)
theorem k1_mult88_dvd : ∀ (v1243 : BitVec 32) (k1_hw88 : k1_chk88 v1243), 8 ∣ (k1_mult88 v1243).toNat := fun v1243 k1_hw88 => k1_hw88.1
theorem k1_off88_inb : ∀ (v1243 : BitVec 32) (k1_hw88 : k1_chk88 v1243), ∀ a, (k1_off88 v1243) a + S8x128.size a ≤ S12800x128.size a := fun v1243 k1_hw88 => k1_hw88.2

def k1_mult89 (v1257 : BitVec 32) : BitVec 32 :=
  let c3_i32_716 : BitVec 32 := 3#32
  let v1258 : BitVec 32 := Scalar.shrsi v1257 c3_i32_716
  let c3_i32_717 : BitVec 32 := 3#32
  let v1259 : BitVec 32 := Scalar.shli v1258 c3_i32_717
  v1259

def k1_off89 (v1257 : BitVec 32) : Fin 2 → Nat :=
  let c3_i32_716 : BitVec 32 := 3#32
  let v1258 : BitVec 32 := Scalar.shrsi v1257 c3_i32_716
  let c3_i32_717 : BitVec 32 := 3#32
  let v1259 : BitVec 32 := Scalar.shli v1258 c3_i32_717
  let v1260 : BitVec 32 := v1259
  let v1261 : Index := Scalar.indexCast v1260
  let c0_718 : Index := 0#32
  ![v1261.toNat, 0]

def k1_chk89 (v1257 : BitVec 32) : Prop :=
  (8 ∣ (k1_mult89 v1257).toNat) ∧
  (∀ a, (k1_off89 v1257) a + S8x128.size a ≤ S12800x128.size a)
theorem k1_mult89_dvd : ∀ (v1257 : BitVec 32) (k1_hw89 : k1_chk89 v1257), 8 ∣ (k1_mult89 v1257).toNat := fun v1257 k1_hw89 => k1_hw89.1
theorem k1_off89_inb : ∀ (v1257 : BitVec 32) (k1_hw89 : k1_chk89 v1257), ∀ a, (k1_off89 v1257) a + S8x128.size a ≤ S12800x128.size a := fun v1257 k1_hw89 => k1_hw89.2

def k1_mult90 (v1271 : BitVec 32) : BitVec 32 :=
  let c3_i32_724 : BitVec 32 := 3#32
  let v1272 : BitVec 32 := Scalar.shrsi v1271 c3_i32_724
  let c3_i32_725 : BitVec 32 := 3#32
  let v1273 : BitVec 32 := Scalar.shli v1272 c3_i32_725
  v1273

def k1_off90 (v1271 : BitVec 32) : Fin 2 → Nat :=
  let c3_i32_724 : BitVec 32 := 3#32
  let v1272 : BitVec 32 := Scalar.shrsi v1271 c3_i32_724
  let c3_i32_725 : BitVec 32 := 3#32
  let v1273 : BitVec 32 := Scalar.shli v1272 c3_i32_725
  let v1274 : BitVec 32 := v1273
  let v1275 : Index := Scalar.indexCast v1274
  let c0_726 : Index := 0#32
  ![v1275.toNat, 0]

def k1_chk90 (v1271 : BitVec 32) : Prop :=
  (8 ∣ (k1_mult90 v1271).toNat) ∧
  (∀ a, (k1_off90 v1271) a + S8x128.size a ≤ S12800x128.size a)
theorem k1_mult90_dvd : ∀ (v1271 : BitVec 32) (k1_hw90 : k1_chk90 v1271), 8 ∣ (k1_mult90 v1271).toNat := fun v1271 k1_hw90 => k1_hw90.1
theorem k1_off90_inb : ∀ (v1271 : BitVec 32) (k1_hw90 : k1_chk90 v1271), ∀ a, (k1_off90 v1271) a + S8x128.size a ≤ S12800x128.size a := fun v1271 k1_hw90 => k1_hw90.2

def k1_mult91 (v1285 : BitVec 32) : BitVec 32 :=
  let c3_i32_732 : BitVec 32 := 3#32
  let v1286 : BitVec 32 := Scalar.shrsi v1285 c3_i32_732
  let c3_i32_733 : BitVec 32 := 3#32
  let v1287 : BitVec 32 := Scalar.shli v1286 c3_i32_733
  v1287

def k1_off91 (v1285 : BitVec 32) : Fin 2 → Nat :=
  let c3_i32_732 : BitVec 32 := 3#32
  let v1286 : BitVec 32 := Scalar.shrsi v1285 c3_i32_732
  let c3_i32_733 : BitVec 32 := 3#32
  let v1287 : BitVec 32 := Scalar.shli v1286 c3_i32_733
  let v1288 : BitVec 32 := v1287
  let v1289 : Index := Scalar.indexCast v1288
  let c0_734 : Index := 0#32
  ![v1289.toNat, 0]

def k1_chk91 (v1285 : BitVec 32) : Prop :=
  (8 ∣ (k1_mult91 v1285).toNat) ∧
  (∀ a, (k1_off91 v1285) a + S8x128.size a ≤ S12800x128.size a)
theorem k1_mult91_dvd : ∀ (v1285 : BitVec 32) (k1_hw91 : k1_chk91 v1285), 8 ∣ (k1_mult91 v1285).toNat := fun v1285 k1_hw91 => k1_hw91.1
theorem k1_off91_inb : ∀ (v1285 : BitVec 32) (k1_hw91 : k1_chk91 v1285), ∀ a, (k1_off91 v1285) a + S8x128.size a ≤ S12800x128.size a := fun v1285 k1_hw91 => k1_hw91.2

def k1_mult92 (v1299 : BitVec 32) : BitVec 32 :=
  let c3_i32_740 : BitVec 32 := 3#32
  let v1300 : BitVec 32 := Scalar.shrsi v1299 c3_i32_740
  let c3_i32_741 : BitVec 32 := 3#32
  let v1301 : BitVec 32 := Scalar.shli v1300 c3_i32_741
  v1301

def k1_off92 (v1299 : BitVec 32) : Fin 2 → Nat :=
  let c3_i32_740 : BitVec 32 := 3#32
  let v1300 : BitVec 32 := Scalar.shrsi v1299 c3_i32_740
  let c3_i32_741 : BitVec 32 := 3#32
  let v1301 : BitVec 32 := Scalar.shli v1300 c3_i32_741
  let v1302 : BitVec 32 := v1301
  let v1303 : Index := Scalar.indexCast v1302
  let c0_742 : Index := 0#32
  ![v1303.toNat, 0]

def k1_chk92 (v1299 : BitVec 32) : Prop :=
  (8 ∣ (k1_mult92 v1299).toNat) ∧
  (∀ a, (k1_off92 v1299) a + S8x128.size a ≤ S12800x128.size a)
theorem k1_mult92_dvd : ∀ (v1299 : BitVec 32) (k1_hw92 : k1_chk92 v1299), 8 ∣ (k1_mult92 v1299).toNat := fun v1299 k1_hw92 => k1_hw92.1
theorem k1_off92_inb : ∀ (v1299 : BitVec 32) (k1_hw92 : k1_chk92 v1299), ∀ a, (k1_off92 v1299) a + S8x128.size a ≤ S12800x128.size a := fun v1299 k1_hw92 => k1_hw92.2

def k1_mult93 (v1313 : BitVec 32) : BitVec 32 :=
  let c3_i32_748 : BitVec 32 := 3#32
  let v1314 : BitVec 32 := Scalar.shrsi v1313 c3_i32_748
  let c3_i32_749 : BitVec 32 := 3#32
  let v1315 : BitVec 32 := Scalar.shli v1314 c3_i32_749
  v1315

def k1_off93 (v1313 : BitVec 32) : Fin 2 → Nat :=
  let c3_i32_748 : BitVec 32 := 3#32
  let v1314 : BitVec 32 := Scalar.shrsi v1313 c3_i32_748
  let c3_i32_749 : BitVec 32 := 3#32
  let v1315 : BitVec 32 := Scalar.shli v1314 c3_i32_749
  let v1316 : BitVec 32 := v1315
  let v1317 : Index := Scalar.indexCast v1316
  let c0_750 : Index := 0#32
  ![v1317.toNat, 0]

def k1_chk93 (v1313 : BitVec 32) : Prop :=
  (8 ∣ (k1_mult93 v1313).toNat) ∧
  (∀ a, (k1_off93 v1313) a + S8x128.size a ≤ S12800x128.size a)
theorem k1_mult93_dvd : ∀ (v1313 : BitVec 32) (k1_hw93 : k1_chk93 v1313), 8 ∣ (k1_mult93 v1313).toNat := fun v1313 k1_hw93 => k1_hw93.1
theorem k1_off93_inb : ∀ (v1313 : BitVec 32) (k1_hw93 : k1_chk93 v1313), ∀ a, (k1_off93 v1313) a + S8x128.size a ≤ S12800x128.size a := fun v1313 k1_hw93 => k1_hw93.2

def k1_mult94 (v1327 : BitVec 32) : BitVec 32 :=
  let c3_i32_756 : BitVec 32 := 3#32
  let v1328 : BitVec 32 := Scalar.shrsi v1327 c3_i32_756
  let c3_i32_757 : BitVec 32 := 3#32
  let v1329 : BitVec 32 := Scalar.shli v1328 c3_i32_757
  v1329

def k1_off94 (v1327 : BitVec 32) : Fin 2 → Nat :=
  let c3_i32_756 : BitVec 32 := 3#32
  let v1328 : BitVec 32 := Scalar.shrsi v1327 c3_i32_756
  let c3_i32_757 : BitVec 32 := 3#32
  let v1329 : BitVec 32 := Scalar.shli v1328 c3_i32_757
  let v1330 : BitVec 32 := v1329
  let v1331 : Index := Scalar.indexCast v1330
  let c0_758 : Index := 0#32
  ![v1331.toNat, 0]

def k1_chk94 (v1327 : BitVec 32) : Prop :=
  (8 ∣ (k1_mult94 v1327).toNat) ∧
  (∀ a, (k1_off94 v1327) a + S8x128.size a ≤ S12800x128.size a)
theorem k1_mult94_dvd : ∀ (v1327 : BitVec 32) (k1_hw94 : k1_chk94 v1327), 8 ∣ (k1_mult94 v1327).toNat := fun v1327 k1_hw94 => k1_hw94.1
theorem k1_off94_inb : ∀ (v1327 : BitVec 32) (k1_hw94 : k1_chk94 v1327), ∀ a, (k1_off94 v1327) a + S8x128.size a ≤ S12800x128.size a := fun v1327 k1_hw94 => k1_hw94.2

def k1_mult95 (v1341 : BitVec 32) : BitVec 32 :=
  let c3_i32_764 : BitVec 32 := 3#32
  let v1342 : BitVec 32 := Scalar.shrsi v1341 c3_i32_764
  let c3_i32_765 : BitVec 32 := 3#32
  let v1343 : BitVec 32 := Scalar.shli v1342 c3_i32_765
  v1343

def k1_off95 (v1341 : BitVec 32) : Fin 2 → Nat :=
  let c3_i32_764 : BitVec 32 := 3#32
  let v1342 : BitVec 32 := Scalar.shrsi v1341 c3_i32_764
  let c3_i32_765 : BitVec 32 := 3#32
  let v1343 : BitVec 32 := Scalar.shli v1342 c3_i32_765
  let v1344 : BitVec 32 := v1343
  let v1345 : Index := Scalar.indexCast v1344
  let c0_766 : Index := 0#32
  ![v1345.toNat, 0]

def k1_chk95 (v1341 : BitVec 32) : Prop :=
  (8 ∣ (k1_mult95 v1341).toNat) ∧
  (∀ a, (k1_off95 v1341) a + S8x128.size a ≤ S12800x128.size a)
theorem k1_mult95_dvd : ∀ (v1341 : BitVec 32) (k1_hw95 : k1_chk95 v1341), 8 ∣ (k1_mult95 v1341).toNat := fun v1341 k1_hw95 => k1_hw95.1
theorem k1_off95_inb : ∀ (v1341 : BitVec 32) (k1_hw95 : k1_chk95 v1341), ∀ a, (k1_off95 v1341) a + S8x128.size a ≤ S12800x128.size a := fun v1341 k1_hw95 => k1_hw95.2

def k1_mult96 (v1355 : BitVec 32) : BitVec 32 :=
  let c3_i32_772 : BitVec 32 := 3#32
  let v1356 : BitVec 32 := Scalar.shrsi v1355 c3_i32_772
  let c3_i32_773 : BitVec 32 := 3#32
  let v1357 : BitVec 32 := Scalar.shli v1356 c3_i32_773
  v1357

def k1_off96 (v1355 : BitVec 32) : Fin 2 → Nat :=
  let c3_i32_772 : BitVec 32 := 3#32
  let v1356 : BitVec 32 := Scalar.shrsi v1355 c3_i32_772
  let c3_i32_773 : BitVec 32 := 3#32
  let v1357 : BitVec 32 := Scalar.shli v1356 c3_i32_773
  let v1358 : BitVec 32 := v1357
  let v1359 : Index := Scalar.indexCast v1358
  let c0_774 : Index := 0#32
  ![v1359.toNat, 0]

def k1_chk96 (v1355 : BitVec 32) : Prop :=
  (8 ∣ (k1_mult96 v1355).toNat) ∧
  (∀ a, (k1_off96 v1355) a + S8x128.size a ≤ S12800x128.size a)
theorem k1_mult96_dvd : ∀ (v1355 : BitVec 32) (k1_hw96 : k1_chk96 v1355), 8 ∣ (k1_mult96 v1355).toNat := fun v1355 k1_hw96 => k1_hw96.1
theorem k1_off96_inb : ∀ (v1355 : BitVec 32) (k1_hw96 : k1_chk96 v1355), ∀ a, (k1_off96 v1355) a + S8x128.size a ≤ S12800x128.size a := fun v1355 k1_hw96 => k1_hw96.2

def k1_mult97 (v1369 : BitVec 32) : BitVec 32 :=
  let c3_i32_780 : BitVec 32 := 3#32
  let v1370 : BitVec 32 := Scalar.shrsi v1369 c3_i32_780
  let c3_i32_781 : BitVec 32 := 3#32
  let v1371 : BitVec 32 := Scalar.shli v1370 c3_i32_781
  v1371

def k1_off97 (v1369 : BitVec 32) : Fin 2 → Nat :=
  let c3_i32_780 : BitVec 32 := 3#32
  let v1370 : BitVec 32 := Scalar.shrsi v1369 c3_i32_780
  let c3_i32_781 : BitVec 32 := 3#32
  let v1371 : BitVec 32 := Scalar.shli v1370 c3_i32_781
  let v1372 : BitVec 32 := v1371
  let v1373 : Index := Scalar.indexCast v1372
  let c0_782 : Index := 0#32
  ![v1373.toNat, 0]

def k1_chk97 (v1369 : BitVec 32) : Prop :=
  (8 ∣ (k1_mult97 v1369).toNat) ∧
  (∀ a, (k1_off97 v1369) a + S8x128.size a ≤ S12800x128.size a)
theorem k1_mult97_dvd : ∀ (v1369 : BitVec 32) (k1_hw97 : k1_chk97 v1369), 8 ∣ (k1_mult97 v1369).toNat := fun v1369 k1_hw97 => k1_hw97.1
theorem k1_off97_inb : ∀ (v1369 : BitVec 32) (k1_hw97 : k1_chk97 v1369), ∀ a, (k1_off97 v1369) a + S8x128.size a ≤ S12800x128.size a := fun v1369 k1_hw97 => k1_hw97.2

def k1_mult98 (v1383 : BitVec 32) : BitVec 32 :=
  let c3_i32_788 : BitVec 32 := 3#32
  let v1384 : BitVec 32 := Scalar.shrsi v1383 c3_i32_788
  let c3_i32_789 : BitVec 32 := 3#32
  let v1385 : BitVec 32 := Scalar.shli v1384 c3_i32_789
  v1385

def k1_off98 (v1383 : BitVec 32) : Fin 2 → Nat :=
  let c3_i32_788 : BitVec 32 := 3#32
  let v1384 : BitVec 32 := Scalar.shrsi v1383 c3_i32_788
  let c3_i32_789 : BitVec 32 := 3#32
  let v1385 : BitVec 32 := Scalar.shli v1384 c3_i32_789
  let v1386 : BitVec 32 := v1385
  let v1387 : Index := Scalar.indexCast v1386
  let c0_790 : Index := 0#32
  ![v1387.toNat, 0]

def k1_chk98 (v1383 : BitVec 32) : Prop :=
  (8 ∣ (k1_mult98 v1383).toNat) ∧
  (∀ a, (k1_off98 v1383) a + S8x128.size a ≤ S12800x128.size a)
theorem k1_mult98_dvd : ∀ (v1383 : BitVec 32) (k1_hw98 : k1_chk98 v1383), 8 ∣ (k1_mult98 v1383).toNat := fun v1383 k1_hw98 => k1_hw98.1
theorem k1_off98_inb : ∀ (v1383 : BitVec 32) (k1_hw98 : k1_chk98 v1383), ∀ a, (k1_off98 v1383) a + S8x128.size a ≤ S12800x128.size a := fun v1383 k1_hw98 => k1_hw98.2

def k1_mult99 (v1397 : BitVec 32) : BitVec 32 :=
  let c3_i32_796 : BitVec 32 := 3#32
  let v1398 : BitVec 32 := Scalar.shrsi v1397 c3_i32_796
  let c3_i32_797 : BitVec 32 := 3#32
  let v1399 : BitVec 32 := Scalar.shli v1398 c3_i32_797
  v1399

def k1_off99 (v1397 : BitVec 32) : Fin 2 → Nat :=
  let c3_i32_796 : BitVec 32 := 3#32
  let v1398 : BitVec 32 := Scalar.shrsi v1397 c3_i32_796
  let c3_i32_797 : BitVec 32 := 3#32
  let v1399 : BitVec 32 := Scalar.shli v1398 c3_i32_797
  let v1400 : BitVec 32 := v1399
  let v1401 : Index := Scalar.indexCast v1400
  let c0_798 : Index := 0#32
  ![v1401.toNat, 0]

def k1_chk99 (v1397 : BitVec 32) : Prop :=
  (8 ∣ (k1_mult99 v1397).toNat) ∧
  (∀ a, (k1_off99 v1397) a + S8x128.size a ≤ S12800x128.size a)
theorem k1_mult99_dvd : ∀ (v1397 : BitVec 32) (k1_hw99 : k1_chk99 v1397), 8 ∣ (k1_mult99 v1397).toNat := fun v1397 k1_hw99 => k1_hw99.1
theorem k1_off99_inb : ∀ (v1397 : BitVec 32) (k1_hw99 : k1_chk99 v1397), ∀ a, (k1_off99 v1397) a + S8x128.size a ≤ S12800x128.size a := fun v1397 k1_hw99 => k1_hw99.2

def k1_mult100 (v1411 : BitVec 32) : BitVec 32 :=
  let c3_i32_804 : BitVec 32 := 3#32
  let v1412 : BitVec 32 := Scalar.shrsi v1411 c3_i32_804
  let c3_i32_805 : BitVec 32 := 3#32
  let v1413 : BitVec 32 := Scalar.shli v1412 c3_i32_805
  v1413

def k1_off100 (v1411 : BitVec 32) : Fin 2 → Nat :=
  let c3_i32_804 : BitVec 32 := 3#32
  let v1412 : BitVec 32 := Scalar.shrsi v1411 c3_i32_804
  let c3_i32_805 : BitVec 32 := 3#32
  let v1413 : BitVec 32 := Scalar.shli v1412 c3_i32_805
  let v1414 : BitVec 32 := v1413
  let v1415 : Index := Scalar.indexCast v1414
  let c0_806 : Index := 0#32
  ![v1415.toNat, 0]

def k1_chk100 (v1411 : BitVec 32) : Prop :=
  (8 ∣ (k1_mult100 v1411).toNat) ∧
  (∀ a, (k1_off100 v1411) a + S8x128.size a ≤ S12800x128.size a)
theorem k1_mult100_dvd : ∀ (v1411 : BitVec 32) (k1_hw100 : k1_chk100 v1411), 8 ∣ (k1_mult100 v1411).toNat := fun v1411 k1_hw100 => k1_hw100.1
theorem k1_off100_inb : ∀ (v1411 : BitVec 32) (k1_hw100 : k1_chk100 v1411), ∀ a, (k1_off100 v1411) a + S8x128.size a ≤ S12800x128.size a := fun v1411 k1_hw100 => k1_hw100.2

def k1_mult101 (v1425 : BitVec 32) : BitVec 32 :=
  let c3_i32_812 : BitVec 32 := 3#32
  let v1426 : BitVec 32 := Scalar.shrsi v1425 c3_i32_812
  let c3_i32_813 : BitVec 32 := 3#32
  let v1427 : BitVec 32 := Scalar.shli v1426 c3_i32_813
  v1427

def k1_off101 (v1425 : BitVec 32) : Fin 2 → Nat :=
  let c3_i32_812 : BitVec 32 := 3#32
  let v1426 : BitVec 32 := Scalar.shrsi v1425 c3_i32_812
  let c3_i32_813 : BitVec 32 := 3#32
  let v1427 : BitVec 32 := Scalar.shli v1426 c3_i32_813
  let v1428 : BitVec 32 := v1427
  let v1429 : Index := Scalar.indexCast v1428
  let c0_814 : Index := 0#32
  ![v1429.toNat, 0]

def k1_chk101 (v1425 : BitVec 32) : Prop :=
  (8 ∣ (k1_mult101 v1425).toNat) ∧
  (∀ a, (k1_off101 v1425) a + S8x128.size a ≤ S12800x128.size a)
theorem k1_mult101_dvd : ∀ (v1425 : BitVec 32) (k1_hw101 : k1_chk101 v1425), 8 ∣ (k1_mult101 v1425).toNat := fun v1425 k1_hw101 => k1_hw101.1
theorem k1_off101_inb : ∀ (v1425 : BitVec 32) (k1_hw101 : k1_chk101 v1425), ∀ a, (k1_off101 v1425) a + S8x128.size a ≤ S12800x128.size a := fun v1425 k1_hw101 => k1_hw101.2

def k1_mult102 (v1439 : BitVec 32) : BitVec 32 :=
  let c3_i32_820 : BitVec 32 := 3#32
  let v1440 : BitVec 32 := Scalar.shrsi v1439 c3_i32_820
  let c3_i32_821 : BitVec 32 := 3#32
  let v1441 : BitVec 32 := Scalar.shli v1440 c3_i32_821
  v1441

def k1_off102 (v1439 : BitVec 32) : Fin 2 → Nat :=
  let c3_i32_820 : BitVec 32 := 3#32
  let v1440 : BitVec 32 := Scalar.shrsi v1439 c3_i32_820
  let c3_i32_821 : BitVec 32 := 3#32
  let v1441 : BitVec 32 := Scalar.shli v1440 c3_i32_821
  let v1442 : BitVec 32 := v1441
  let v1443 : Index := Scalar.indexCast v1442
  let c0_822 : Index := 0#32
  ![v1443.toNat, 0]

def k1_chk102 (v1439 : BitVec 32) : Prop :=
  (8 ∣ (k1_mult102 v1439).toNat) ∧
  (∀ a, (k1_off102 v1439) a + S8x128.size a ≤ S12800x128.size a)
theorem k1_mult102_dvd : ∀ (v1439 : BitVec 32) (k1_hw102 : k1_chk102 v1439), 8 ∣ (k1_mult102 v1439).toNat := fun v1439 k1_hw102 => k1_hw102.1
theorem k1_off102_inb : ∀ (v1439 : BitVec 32) (k1_hw102 : k1_chk102 v1439), ∀ a, (k1_off102 v1439) a + S8x128.size a ≤ S12800x128.size a := fun v1439 k1_hw102 => k1_hw102.2

def k1_mult103 (v1453 : BitVec 32) : BitVec 32 :=
  let c3_i32_828 : BitVec 32 := 3#32
  let v1454 : BitVec 32 := Scalar.shrsi v1453 c3_i32_828
  let c3_i32_829 : BitVec 32 := 3#32
  let v1455 : BitVec 32 := Scalar.shli v1454 c3_i32_829
  v1455

def k1_off103 (v1453 : BitVec 32) : Fin 2 → Nat :=
  let c3_i32_828 : BitVec 32 := 3#32
  let v1454 : BitVec 32 := Scalar.shrsi v1453 c3_i32_828
  let c3_i32_829 : BitVec 32 := 3#32
  let v1455 : BitVec 32 := Scalar.shli v1454 c3_i32_829
  let v1456 : BitVec 32 := v1455
  let v1457 : Index := Scalar.indexCast v1456
  let c0_830 : Index := 0#32
  ![v1457.toNat, 0]

def k1_chk103 (v1453 : BitVec 32) : Prop :=
  (8 ∣ (k1_mult103 v1453).toNat) ∧
  (∀ a, (k1_off103 v1453) a + S8x128.size a ≤ S12800x128.size a)
theorem k1_mult103_dvd : ∀ (v1453 : BitVec 32) (k1_hw103 : k1_chk103 v1453), 8 ∣ (k1_mult103 v1453).toNat := fun v1453 k1_hw103 => k1_hw103.1
theorem k1_off103_inb : ∀ (v1453 : BitVec 32) (k1_hw103 : k1_chk103 v1453), ∀ a, (k1_off103 v1453) a + S8x128.size a ≤ S12800x128.size a := fun v1453 k1_hw103 => k1_hw103.2

def k1_mult104 (v1467 : BitVec 32) : BitVec 32 :=
  let c3_i32_836 : BitVec 32 := 3#32
  let v1468 : BitVec 32 := Scalar.shrsi v1467 c3_i32_836
  let c3_i32_837 : BitVec 32 := 3#32
  let v1469 : BitVec 32 := Scalar.shli v1468 c3_i32_837
  v1469

def k1_off104 (v1467 : BitVec 32) : Fin 2 → Nat :=
  let c3_i32_836 : BitVec 32 := 3#32
  let v1468 : BitVec 32 := Scalar.shrsi v1467 c3_i32_836
  let c3_i32_837 : BitVec 32 := 3#32
  let v1469 : BitVec 32 := Scalar.shli v1468 c3_i32_837
  let v1470 : BitVec 32 := v1469
  let v1471 : Index := Scalar.indexCast v1470
  let c0_838 : Index := 0#32
  ![v1471.toNat, 0]

def k1_chk104 (v1467 : BitVec 32) : Prop :=
  (8 ∣ (k1_mult104 v1467).toNat) ∧
  (∀ a, (k1_off104 v1467) a + S8x128.size a ≤ S12800x128.size a)
theorem k1_mult104_dvd : ∀ (v1467 : BitVec 32) (k1_hw104 : k1_chk104 v1467), 8 ∣ (k1_mult104 v1467).toNat := fun v1467 k1_hw104 => k1_hw104.1
theorem k1_off104_inb : ∀ (v1467 : BitVec 32) (k1_hw104 : k1_chk104 v1467), ∀ a, (k1_off104 v1467) a + S8x128.size a ≤ S12800x128.size a := fun v1467 k1_hw104 => k1_hw104.2

def k1_mult105 (v1481 : BitVec 32) : BitVec 32 :=
  let c3_i32_844 : BitVec 32 := 3#32
  let v1482 : BitVec 32 := Scalar.shrsi v1481 c3_i32_844
  let c3_i32_845 : BitVec 32 := 3#32
  let v1483 : BitVec 32 := Scalar.shli v1482 c3_i32_845
  v1483

def k1_off105 (v1481 : BitVec 32) : Fin 2 → Nat :=
  let c3_i32_844 : BitVec 32 := 3#32
  let v1482 : BitVec 32 := Scalar.shrsi v1481 c3_i32_844
  let c3_i32_845 : BitVec 32 := 3#32
  let v1483 : BitVec 32 := Scalar.shli v1482 c3_i32_845
  let v1484 : BitVec 32 := v1483
  let v1485 : Index := Scalar.indexCast v1484
  let c0_846 : Index := 0#32
  ![v1485.toNat, 0]

def k1_chk105 (v1481 : BitVec 32) : Prop :=
  (8 ∣ (k1_mult105 v1481).toNat) ∧
  (∀ a, (k1_off105 v1481) a + S8x128.size a ≤ S12800x128.size a)
theorem k1_mult105_dvd : ∀ (v1481 : BitVec 32) (k1_hw105 : k1_chk105 v1481), 8 ∣ (k1_mult105 v1481).toNat := fun v1481 k1_hw105 => k1_hw105.1
theorem k1_off105_inb : ∀ (v1481 : BitVec 32) (k1_hw105 : k1_chk105 v1481), ∀ a, (k1_off105 v1481) a + S8x128.size a ≤ S12800x128.size a := fun v1481 k1_hw105 => k1_hw105.2

def k1_mult106 (v1495 : BitVec 32) : BitVec 32 :=
  let c3_i32_852 : BitVec 32 := 3#32
  let v1496 : BitVec 32 := Scalar.shrsi v1495 c3_i32_852
  let c3_i32_853 : BitVec 32 := 3#32
  let v1497 : BitVec 32 := Scalar.shli v1496 c3_i32_853
  v1497

def k1_off106 (v1495 : BitVec 32) : Fin 2 → Nat :=
  let c3_i32_852 : BitVec 32 := 3#32
  let v1496 : BitVec 32 := Scalar.shrsi v1495 c3_i32_852
  let c3_i32_853 : BitVec 32 := 3#32
  let v1497 : BitVec 32 := Scalar.shli v1496 c3_i32_853
  let v1498 : BitVec 32 := v1497
  let v1499 : Index := Scalar.indexCast v1498
  let c0_854 : Index := 0#32
  ![v1499.toNat, 0]

def k1_chk106 (v1495 : BitVec 32) : Prop :=
  (8 ∣ (k1_mult106 v1495).toNat) ∧
  (∀ a, (k1_off106 v1495) a + S8x128.size a ≤ S12800x128.size a)
theorem k1_mult106_dvd : ∀ (v1495 : BitVec 32) (k1_hw106 : k1_chk106 v1495), 8 ∣ (k1_mult106 v1495).toNat := fun v1495 k1_hw106 => k1_hw106.1
theorem k1_off106_inb : ∀ (v1495 : BitVec 32) (k1_hw106 : k1_chk106 v1495), ∀ a, (k1_off106 v1495) a + S8x128.size a ≤ S12800x128.size a := fun v1495 k1_hw106 => k1_hw106.2

def k1_mult107 (v1509 : BitVec 32) : BitVec 32 :=
  let c3_i32_860 : BitVec 32 := 3#32
  let v1510 : BitVec 32 := Scalar.shrsi v1509 c3_i32_860
  let c3_i32_861 : BitVec 32 := 3#32
  let v1511 : BitVec 32 := Scalar.shli v1510 c3_i32_861
  v1511

def k1_off107 (v1509 : BitVec 32) : Fin 2 → Nat :=
  let c3_i32_860 : BitVec 32 := 3#32
  let v1510 : BitVec 32 := Scalar.shrsi v1509 c3_i32_860
  let c3_i32_861 : BitVec 32 := 3#32
  let v1511 : BitVec 32 := Scalar.shli v1510 c3_i32_861
  let v1512 : BitVec 32 := v1511
  let v1513 : Index := Scalar.indexCast v1512
  let c0_862 : Index := 0#32
  ![v1513.toNat, 0]

def k1_chk107 (v1509 : BitVec 32) : Prop :=
  (8 ∣ (k1_mult107 v1509).toNat) ∧
  (∀ a, (k1_off107 v1509) a + S8x128.size a ≤ S12800x128.size a)
theorem k1_mult107_dvd : ∀ (v1509 : BitVec 32) (k1_hw107 : k1_chk107 v1509), 8 ∣ (k1_mult107 v1509).toNat := fun v1509 k1_hw107 => k1_hw107.1
theorem k1_off107_inb : ∀ (v1509 : BitVec 32) (k1_hw107 : k1_chk107 v1509), ∀ a, (k1_off107 v1509) a + S8x128.size a ≤ S12800x128.size a := fun v1509 k1_hw107 => k1_hw107.2

def k1_mult108 (v1523 : BitVec 32) : BitVec 32 :=
  let c3_i32_868 : BitVec 32 := 3#32
  let v1524 : BitVec 32 := Scalar.shrsi v1523 c3_i32_868
  let c3_i32_869 : BitVec 32 := 3#32
  let v1525 : BitVec 32 := Scalar.shli v1524 c3_i32_869
  v1525

def k1_off108 (v1523 : BitVec 32) : Fin 2 → Nat :=
  let c3_i32_868 : BitVec 32 := 3#32
  let v1524 : BitVec 32 := Scalar.shrsi v1523 c3_i32_868
  let c3_i32_869 : BitVec 32 := 3#32
  let v1525 : BitVec 32 := Scalar.shli v1524 c3_i32_869
  let v1526 : BitVec 32 := v1525
  let v1527 : Index := Scalar.indexCast v1526
  let c0_870 : Index := 0#32
  ![v1527.toNat, 0]

def k1_chk108 (v1523 : BitVec 32) : Prop :=
  (8 ∣ (k1_mult108 v1523).toNat) ∧
  (∀ a, (k1_off108 v1523) a + S8x128.size a ≤ S12800x128.size a)
theorem k1_mult108_dvd : ∀ (v1523 : BitVec 32) (k1_hw108 : k1_chk108 v1523), 8 ∣ (k1_mult108 v1523).toNat := fun v1523 k1_hw108 => k1_hw108.1
theorem k1_off108_inb : ∀ (v1523 : BitVec 32) (k1_hw108 : k1_chk108 v1523), ∀ a, (k1_off108 v1523) a + S8x128.size a ≤ S12800x128.size a := fun v1523 k1_hw108 => k1_hw108.2

def k1_mult109 (v1537 : BitVec 32) : BitVec 32 :=
  let c3_i32_876 : BitVec 32 := 3#32
  let v1538 : BitVec 32 := Scalar.shrsi v1537 c3_i32_876
  let c3_i32_877 : BitVec 32 := 3#32
  let v1539 : BitVec 32 := Scalar.shli v1538 c3_i32_877
  v1539

def k1_off109 (v1537 : BitVec 32) : Fin 2 → Nat :=
  let c3_i32_876 : BitVec 32 := 3#32
  let v1538 : BitVec 32 := Scalar.shrsi v1537 c3_i32_876
  let c3_i32_877 : BitVec 32 := 3#32
  let v1539 : BitVec 32 := Scalar.shli v1538 c3_i32_877
  let v1540 : BitVec 32 := v1539
  let v1541 : Index := Scalar.indexCast v1540
  let c0_878 : Index := 0#32
  ![v1541.toNat, 0]

def k1_chk109 (v1537 : BitVec 32) : Prop :=
  (8 ∣ (k1_mult109 v1537).toNat) ∧
  (∀ a, (k1_off109 v1537) a + S8x128.size a ≤ S12800x128.size a)
theorem k1_mult109_dvd : ∀ (v1537 : BitVec 32) (k1_hw109 : k1_chk109 v1537), 8 ∣ (k1_mult109 v1537).toNat := fun v1537 k1_hw109 => k1_hw109.1
theorem k1_off109_inb : ∀ (v1537 : BitVec 32) (k1_hw109 : k1_chk109 v1537), ∀ a, (k1_off109 v1537) a + S8x128.size a ≤ S12800x128.size a := fun v1537 k1_hw109 => k1_hw109.2

def k1_mult110 (v1551 : BitVec 32) : BitVec 32 :=
  let c3_i32_884 : BitVec 32 := 3#32
  let v1552 : BitVec 32 := Scalar.shrsi v1551 c3_i32_884
  let c3_i32_885 : BitVec 32 := 3#32
  let v1553 : BitVec 32 := Scalar.shli v1552 c3_i32_885
  v1553

def k1_off110 (v1551 : BitVec 32) : Fin 2 → Nat :=
  let c3_i32_884 : BitVec 32 := 3#32
  let v1552 : BitVec 32 := Scalar.shrsi v1551 c3_i32_884
  let c3_i32_885 : BitVec 32 := 3#32
  let v1553 : BitVec 32 := Scalar.shli v1552 c3_i32_885
  let v1554 : BitVec 32 := v1553
  let v1555 : Index := Scalar.indexCast v1554
  let c0_886 : Index := 0#32
  ![v1555.toNat, 0]

def k1_chk110 (v1551 : BitVec 32) : Prop :=
  (8 ∣ (k1_mult110 v1551).toNat) ∧
  (∀ a, (k1_off110 v1551) a + S8x128.size a ≤ S12800x128.size a)
theorem k1_mult110_dvd : ∀ (v1551 : BitVec 32) (k1_hw110 : k1_chk110 v1551), 8 ∣ (k1_mult110 v1551).toNat := fun v1551 k1_hw110 => k1_hw110.1
theorem k1_off110_inb : ∀ (v1551 : BitVec 32) (k1_hw110 : k1_chk110 v1551), ∀ a, (k1_off110 v1551) a + S8x128.size a ≤ S12800x128.size a := fun v1551 k1_hw110 => k1_hw110.2

def k1_mult111 (v1565 : BitVec 32) : BitVec 32 :=
  let c3_i32_892 : BitVec 32 := 3#32
  let v1566 : BitVec 32 := Scalar.shrsi v1565 c3_i32_892
  let c3_i32_893 : BitVec 32 := 3#32
  let v1567 : BitVec 32 := Scalar.shli v1566 c3_i32_893
  v1567

def k1_off111 (v1565 : BitVec 32) : Fin 2 → Nat :=
  let c3_i32_892 : BitVec 32 := 3#32
  let v1566 : BitVec 32 := Scalar.shrsi v1565 c3_i32_892
  let c3_i32_893 : BitVec 32 := 3#32
  let v1567 : BitVec 32 := Scalar.shli v1566 c3_i32_893
  let v1568 : BitVec 32 := v1567
  let v1569 : Index := Scalar.indexCast v1568
  let c0_894 : Index := 0#32
  ![v1569.toNat, 0]

def k1_chk111 (v1565 : BitVec 32) : Prop :=
  (8 ∣ (k1_mult111 v1565).toNat) ∧
  (∀ a, (k1_off111 v1565) a + S8x128.size a ≤ S12800x128.size a)
theorem k1_mult111_dvd : ∀ (v1565 : BitVec 32) (k1_hw111 : k1_chk111 v1565), 8 ∣ (k1_mult111 v1565).toNat := fun v1565 k1_hw111 => k1_hw111.1
theorem k1_off111_inb : ∀ (v1565 : BitVec 32) (k1_hw111 : k1_chk111 v1565), ∀ a, (k1_off111 v1565) a + S8x128.size a ≤ S12800x128.size a := fun v1565 k1_hw111 => k1_hw111.2

def k1_mult112 (v1579 : BitVec 32) : BitVec 32 :=
  let c3_i32_900 : BitVec 32 := 3#32
  let v1580 : BitVec 32 := Scalar.shrsi v1579 c3_i32_900
  let c3_i32_901 : BitVec 32 := 3#32
  let v1581 : BitVec 32 := Scalar.shli v1580 c3_i32_901
  v1581

def k1_off112 (v1579 : BitVec 32) : Fin 2 → Nat :=
  let c3_i32_900 : BitVec 32 := 3#32
  let v1580 : BitVec 32 := Scalar.shrsi v1579 c3_i32_900
  let c3_i32_901 : BitVec 32 := 3#32
  let v1581 : BitVec 32 := Scalar.shli v1580 c3_i32_901
  let v1582 : BitVec 32 := v1581
  let v1583 : Index := Scalar.indexCast v1582
  let c0_902 : Index := 0#32
  ![v1583.toNat, 0]

def k1_chk112 (v1579 : BitVec 32) : Prop :=
  (8 ∣ (k1_mult112 v1579).toNat) ∧
  (∀ a, (k1_off112 v1579) a + S8x128.size a ≤ S12800x128.size a)
theorem k1_mult112_dvd : ∀ (v1579 : BitVec 32) (k1_hw112 : k1_chk112 v1579), 8 ∣ (k1_mult112 v1579).toNat := fun v1579 k1_hw112 => k1_hw112.1
theorem k1_off112_inb : ∀ (v1579 : BitVec 32) (k1_hw112 : k1_chk112 v1579), ∀ a, (k1_off112 v1579) a + S8x128.size a ≤ S12800x128.size a := fun v1579 k1_hw112 => k1_hw112.2

def k1_mult113 (v1593 : BitVec 32) : BitVec 32 :=
  let c3_i32_908 : BitVec 32 := 3#32
  let v1594 : BitVec 32 := Scalar.shrsi v1593 c3_i32_908
  let c3_i32_909 : BitVec 32 := 3#32
  let v1595 : BitVec 32 := Scalar.shli v1594 c3_i32_909
  v1595

def k1_off113 (v1593 : BitVec 32) : Fin 2 → Nat :=
  let c3_i32_908 : BitVec 32 := 3#32
  let v1594 : BitVec 32 := Scalar.shrsi v1593 c3_i32_908
  let c3_i32_909 : BitVec 32 := 3#32
  let v1595 : BitVec 32 := Scalar.shli v1594 c3_i32_909
  let v1596 : BitVec 32 := v1595
  let v1597 : Index := Scalar.indexCast v1596
  let c0_910 : Index := 0#32
  ![v1597.toNat, 0]

def k1_chk113 (v1593 : BitVec 32) : Prop :=
  (8 ∣ (k1_mult113 v1593).toNat) ∧
  (∀ a, (k1_off113 v1593) a + S8x128.size a ≤ S12800x128.size a)
theorem k1_mult113_dvd : ∀ (v1593 : BitVec 32) (k1_hw113 : k1_chk113 v1593), 8 ∣ (k1_mult113 v1593).toNat := fun v1593 k1_hw113 => k1_hw113.1
theorem k1_off113_inb : ∀ (v1593 : BitVec 32) (k1_hw113 : k1_chk113 v1593), ∀ a, (k1_off113 v1593) a + S8x128.size a ≤ S12800x128.size a := fun v1593 k1_hw113 => k1_hw113.2

def k1_mult114 (v1607 : BitVec 32) : BitVec 32 :=
  let c3_i32_916 : BitVec 32 := 3#32
  let v1608 : BitVec 32 := Scalar.shrsi v1607 c3_i32_916
  let c3_i32_917 : BitVec 32 := 3#32
  let v1609 : BitVec 32 := Scalar.shli v1608 c3_i32_917
  v1609

def k1_off114 (v1607 : BitVec 32) : Fin 2 → Nat :=
  let c3_i32_916 : BitVec 32 := 3#32
  let v1608 : BitVec 32 := Scalar.shrsi v1607 c3_i32_916
  let c3_i32_917 : BitVec 32 := 3#32
  let v1609 : BitVec 32 := Scalar.shli v1608 c3_i32_917
  let v1610 : BitVec 32 := v1609
  let v1611 : Index := Scalar.indexCast v1610
  let c0_918 : Index := 0#32
  ![v1611.toNat, 0]

def k1_chk114 (v1607 : BitVec 32) : Prop :=
  (8 ∣ (k1_mult114 v1607).toNat) ∧
  (∀ a, (k1_off114 v1607) a + S8x128.size a ≤ S12800x128.size a)
theorem k1_mult114_dvd : ∀ (v1607 : BitVec 32) (k1_hw114 : k1_chk114 v1607), 8 ∣ (k1_mult114 v1607).toNat := fun v1607 k1_hw114 => k1_hw114.1
theorem k1_off114_inb : ∀ (v1607 : BitVec 32) (k1_hw114 : k1_chk114 v1607), ∀ a, (k1_off114 v1607) a + S8x128.size a ≤ S12800x128.size a := fun v1607 k1_hw114 => k1_hw114.2

def k1_mult115 (v1621 : BitVec 32) : BitVec 32 :=
  let c3_i32_924 : BitVec 32 := 3#32
  let v1622 : BitVec 32 := Scalar.shrsi v1621 c3_i32_924
  let c3_i32_925 : BitVec 32 := 3#32
  let v1623 : BitVec 32 := Scalar.shli v1622 c3_i32_925
  v1623

def k1_off115 (v1621 : BitVec 32) : Fin 2 → Nat :=
  let c3_i32_924 : BitVec 32 := 3#32
  let v1622 : BitVec 32 := Scalar.shrsi v1621 c3_i32_924
  let c3_i32_925 : BitVec 32 := 3#32
  let v1623 : BitVec 32 := Scalar.shli v1622 c3_i32_925
  let v1624 : BitVec 32 := v1623
  let v1625 : Index := Scalar.indexCast v1624
  let c0_926 : Index := 0#32
  ![v1625.toNat, 0]

def k1_chk115 (v1621 : BitVec 32) : Prop :=
  (8 ∣ (k1_mult115 v1621).toNat) ∧
  (∀ a, (k1_off115 v1621) a + S8x128.size a ≤ S12800x128.size a)
theorem k1_mult115_dvd : ∀ (v1621 : BitVec 32) (k1_hw115 : k1_chk115 v1621), 8 ∣ (k1_mult115 v1621).toNat := fun v1621 k1_hw115 => k1_hw115.1
theorem k1_off115_inb : ∀ (v1621 : BitVec 32) (k1_hw115 : k1_chk115 v1621), ∀ a, (k1_off115 v1621) a + S8x128.size a ≤ S12800x128.size a := fun v1621 k1_hw115 => k1_hw115.2

def k1_mult116 (v1635 : BitVec 32) : BitVec 32 :=
  let c3_i32_932 : BitVec 32 := 3#32
  let v1636 : BitVec 32 := Scalar.shrsi v1635 c3_i32_932
  let c3_i32_933 : BitVec 32 := 3#32
  let v1637 : BitVec 32 := Scalar.shli v1636 c3_i32_933
  v1637

def k1_off116 (v1635 : BitVec 32) : Fin 2 → Nat :=
  let c3_i32_932 : BitVec 32 := 3#32
  let v1636 : BitVec 32 := Scalar.shrsi v1635 c3_i32_932
  let c3_i32_933 : BitVec 32 := 3#32
  let v1637 : BitVec 32 := Scalar.shli v1636 c3_i32_933
  let v1638 : BitVec 32 := v1637
  let v1639 : Index := Scalar.indexCast v1638
  let c0_934 : Index := 0#32
  ![v1639.toNat, 0]

def k1_chk116 (v1635 : BitVec 32) : Prop :=
  (8 ∣ (k1_mult116 v1635).toNat) ∧
  (∀ a, (k1_off116 v1635) a + S8x128.size a ≤ S12800x128.size a)
theorem k1_mult116_dvd : ∀ (v1635 : BitVec 32) (k1_hw116 : k1_chk116 v1635), 8 ∣ (k1_mult116 v1635).toNat := fun v1635 k1_hw116 => k1_hw116.1
theorem k1_off116_inb : ∀ (v1635 : BitVec 32) (k1_hw116 : k1_chk116 v1635), ∀ a, (k1_off116 v1635) a + S8x128.size a ≤ S12800x128.size a := fun v1635 k1_hw116 => k1_hw116.2

def k1_mult117 (v1649 : BitVec 32) : BitVec 32 :=
  let c3_i32_940 : BitVec 32 := 3#32
  let v1650 : BitVec 32 := Scalar.shrsi v1649 c3_i32_940
  let c3_i32_941 : BitVec 32 := 3#32
  let v1651 : BitVec 32 := Scalar.shli v1650 c3_i32_941
  v1651

def k1_off117 (v1649 : BitVec 32) : Fin 2 → Nat :=
  let c3_i32_940 : BitVec 32 := 3#32
  let v1650 : BitVec 32 := Scalar.shrsi v1649 c3_i32_940
  let c3_i32_941 : BitVec 32 := 3#32
  let v1651 : BitVec 32 := Scalar.shli v1650 c3_i32_941
  let v1652 : BitVec 32 := v1651
  let v1653 : Index := Scalar.indexCast v1652
  let c0_942 : Index := 0#32
  ![v1653.toNat, 0]

def k1_chk117 (v1649 : BitVec 32) : Prop :=
  (8 ∣ (k1_mult117 v1649).toNat) ∧
  (∀ a, (k1_off117 v1649) a + S8x128.size a ≤ S12800x128.size a)
theorem k1_mult117_dvd : ∀ (v1649 : BitVec 32) (k1_hw117 : k1_chk117 v1649), 8 ∣ (k1_mult117 v1649).toNat := fun v1649 k1_hw117 => k1_hw117.1
theorem k1_off117_inb : ∀ (v1649 : BitVec 32) (k1_hw117 : k1_chk117 v1649), ∀ a, (k1_off117 v1649) a + S8x128.size a ≤ S12800x128.size a := fun v1649 k1_hw117 => k1_hw117.2

def k1_mult118 (v1663 : BitVec 32) : BitVec 32 :=
  let c3_i32_948 : BitVec 32 := 3#32
  let v1664 : BitVec 32 := Scalar.shrsi v1663 c3_i32_948
  let c3_i32_949 : BitVec 32 := 3#32
  let v1665 : BitVec 32 := Scalar.shli v1664 c3_i32_949
  v1665

def k1_off118 (v1663 : BitVec 32) : Fin 2 → Nat :=
  let c3_i32_948 : BitVec 32 := 3#32
  let v1664 : BitVec 32 := Scalar.shrsi v1663 c3_i32_948
  let c3_i32_949 : BitVec 32 := 3#32
  let v1665 : BitVec 32 := Scalar.shli v1664 c3_i32_949
  let v1666 : BitVec 32 := v1665
  let v1667 : Index := Scalar.indexCast v1666
  let c0_950 : Index := 0#32
  ![v1667.toNat, 0]

def k1_chk118 (v1663 : BitVec 32) : Prop :=
  (8 ∣ (k1_mult118 v1663).toNat) ∧
  (∀ a, (k1_off118 v1663) a + S8x128.size a ≤ S12800x128.size a)
theorem k1_mult118_dvd : ∀ (v1663 : BitVec 32) (k1_hw118 : k1_chk118 v1663), 8 ∣ (k1_mult118 v1663).toNat := fun v1663 k1_hw118 => k1_hw118.1
theorem k1_off118_inb : ∀ (v1663 : BitVec 32) (k1_hw118 : k1_chk118 v1663), ∀ a, (k1_off118 v1663) a + S8x128.size a ≤ S12800x128.size a := fun v1663 k1_hw118 => k1_hw118.2

def k1_mult119 (v1677 : BitVec 32) : BitVec 32 :=
  let c3_i32_956 : BitVec 32 := 3#32
  let v1678 : BitVec 32 := Scalar.shrsi v1677 c3_i32_956
  let c3_i32_957 : BitVec 32 := 3#32
  let v1679 : BitVec 32 := Scalar.shli v1678 c3_i32_957
  v1679

def k1_off119 (v1677 : BitVec 32) : Fin 2 → Nat :=
  let c3_i32_956 : BitVec 32 := 3#32
  let v1678 : BitVec 32 := Scalar.shrsi v1677 c3_i32_956
  let c3_i32_957 : BitVec 32 := 3#32
  let v1679 : BitVec 32 := Scalar.shli v1678 c3_i32_957
  let v1680 : BitVec 32 := v1679
  let v1681 : Index := Scalar.indexCast v1680
  let c0_958 : Index := 0#32
  ![v1681.toNat, 0]

def k1_chk119 (v1677 : BitVec 32) : Prop :=
  (8 ∣ (k1_mult119 v1677).toNat) ∧
  (∀ a, (k1_off119 v1677) a + S8x128.size a ≤ S12800x128.size a)
theorem k1_mult119_dvd : ∀ (v1677 : BitVec 32) (k1_hw119 : k1_chk119 v1677), 8 ∣ (k1_mult119 v1677).toNat := fun v1677 k1_hw119 => k1_hw119.1
theorem k1_off119_inb : ∀ (v1677 : BitVec 32) (k1_hw119 : k1_chk119 v1677), ∀ a, (k1_off119 v1677) a + S8x128.size a ≤ S12800x128.size a := fun v1677 k1_hw119 => k1_hw119.2

def k1_mult120 (v1691 : BitVec 32) : BitVec 32 :=
  let c3_i32_964 : BitVec 32 := 3#32
  let v1692 : BitVec 32 := Scalar.shrsi v1691 c3_i32_964
  let c3_i32_965 : BitVec 32 := 3#32
  let v1693 : BitVec 32 := Scalar.shli v1692 c3_i32_965
  v1693

def k1_off120 (v1691 : BitVec 32) : Fin 2 → Nat :=
  let c3_i32_964 : BitVec 32 := 3#32
  let v1692 : BitVec 32 := Scalar.shrsi v1691 c3_i32_964
  let c3_i32_965 : BitVec 32 := 3#32
  let v1693 : BitVec 32 := Scalar.shli v1692 c3_i32_965
  let v1694 : BitVec 32 := v1693
  let v1695 : Index := Scalar.indexCast v1694
  let c0_966 : Index := 0#32
  ![v1695.toNat, 0]

def k1_chk120 (v1691 : BitVec 32) : Prop :=
  (8 ∣ (k1_mult120 v1691).toNat) ∧
  (∀ a, (k1_off120 v1691) a + S8x128.size a ≤ S12800x128.size a)
theorem k1_mult120_dvd : ∀ (v1691 : BitVec 32) (k1_hw120 : k1_chk120 v1691), 8 ∣ (k1_mult120 v1691).toNat := fun v1691 k1_hw120 => k1_hw120.1
theorem k1_off120_inb : ∀ (v1691 : BitVec 32) (k1_hw120 : k1_chk120 v1691), ∀ a, (k1_off120 v1691) a + S8x128.size a ≤ S12800x128.size a := fun v1691 k1_hw120 => k1_hw120.2

def k1_mult121 (v1705 : BitVec 32) : BitVec 32 :=
  let c3_i32_972 : BitVec 32 := 3#32
  let v1706 : BitVec 32 := Scalar.shrsi v1705 c3_i32_972
  let c3_i32_973 : BitVec 32 := 3#32
  let v1707 : BitVec 32 := Scalar.shli v1706 c3_i32_973
  v1707

def k1_off121 (v1705 : BitVec 32) : Fin 2 → Nat :=
  let c3_i32_972 : BitVec 32 := 3#32
  let v1706 : BitVec 32 := Scalar.shrsi v1705 c3_i32_972
  let c3_i32_973 : BitVec 32 := 3#32
  let v1707 : BitVec 32 := Scalar.shli v1706 c3_i32_973
  let v1708 : BitVec 32 := v1707
  let v1709 : Index := Scalar.indexCast v1708
  let c0_974 : Index := 0#32
  ![v1709.toNat, 0]

def k1_chk121 (v1705 : BitVec 32) : Prop :=
  (8 ∣ (k1_mult121 v1705).toNat) ∧
  (∀ a, (k1_off121 v1705) a + S8x128.size a ≤ S12800x128.size a)
theorem k1_mult121_dvd : ∀ (v1705 : BitVec 32) (k1_hw121 : k1_chk121 v1705), 8 ∣ (k1_mult121 v1705).toNat := fun v1705 k1_hw121 => k1_hw121.1
theorem k1_off121_inb : ∀ (v1705 : BitVec 32) (k1_hw121 : k1_chk121 v1705), ∀ a, (k1_off121 v1705) a + S8x128.size a ≤ S12800x128.size a := fun v1705 k1_hw121 => k1_hw121.2

def k1_mult122 (v1719 : BitVec 32) : BitVec 32 :=
  let c3_i32_980 : BitVec 32 := 3#32
  let v1720 : BitVec 32 := Scalar.shrsi v1719 c3_i32_980
  let c3_i32_981 : BitVec 32 := 3#32
  let v1721 : BitVec 32 := Scalar.shli v1720 c3_i32_981
  v1721

def k1_off122 (v1719 : BitVec 32) : Fin 2 → Nat :=
  let c3_i32_980 : BitVec 32 := 3#32
  let v1720 : BitVec 32 := Scalar.shrsi v1719 c3_i32_980
  let c3_i32_981 : BitVec 32 := 3#32
  let v1721 : BitVec 32 := Scalar.shli v1720 c3_i32_981
  let v1722 : BitVec 32 := v1721
  let v1723 : Index := Scalar.indexCast v1722
  let c0_982 : Index := 0#32
  ![v1723.toNat, 0]

def k1_chk122 (v1719 : BitVec 32) : Prop :=
  (8 ∣ (k1_mult122 v1719).toNat) ∧
  (∀ a, (k1_off122 v1719) a + S8x128.size a ≤ S12800x128.size a)
theorem k1_mult122_dvd : ∀ (v1719 : BitVec 32) (k1_hw122 : k1_chk122 v1719), 8 ∣ (k1_mult122 v1719).toNat := fun v1719 k1_hw122 => k1_hw122.1
theorem k1_off122_inb : ∀ (v1719 : BitVec 32) (k1_hw122 : k1_chk122 v1719), ∀ a, (k1_off122 v1719) a + S8x128.size a ≤ S12800x128.size a := fun v1719 k1_hw122 => k1_hw122.2

def k1_mult123 (v1733 : BitVec 32) : BitVec 32 :=
  let c3_i32_988 : BitVec 32 := 3#32
  let v1734 : BitVec 32 := Scalar.shrsi v1733 c3_i32_988
  let c3_i32_989 : BitVec 32 := 3#32
  let v1735 : BitVec 32 := Scalar.shli v1734 c3_i32_989
  v1735

def k1_off123 (v1733 : BitVec 32) : Fin 2 → Nat :=
  let c3_i32_988 : BitVec 32 := 3#32
  let v1734 : BitVec 32 := Scalar.shrsi v1733 c3_i32_988
  let c3_i32_989 : BitVec 32 := 3#32
  let v1735 : BitVec 32 := Scalar.shli v1734 c3_i32_989
  let v1736 : BitVec 32 := v1735
  let v1737 : Index := Scalar.indexCast v1736
  let c0_990 : Index := 0#32
  ![v1737.toNat, 0]

def k1_chk123 (v1733 : BitVec 32) : Prop :=
  (8 ∣ (k1_mult123 v1733).toNat) ∧
  (∀ a, (k1_off123 v1733) a + S8x128.size a ≤ S12800x128.size a)
theorem k1_mult123_dvd : ∀ (v1733 : BitVec 32) (k1_hw123 : k1_chk123 v1733), 8 ∣ (k1_mult123 v1733).toNat := fun v1733 k1_hw123 => k1_hw123.1
theorem k1_off123_inb : ∀ (v1733 : BitVec 32) (k1_hw123 : k1_chk123 v1733), ∀ a, (k1_off123 v1733) a + S8x128.size a ≤ S12800x128.size a := fun v1733 k1_hw123 => k1_hw123.2

def k1_mult124 (v1747 : BitVec 32) : BitVec 32 :=
  let c3_i32_996 : BitVec 32 := 3#32
  let v1748 : BitVec 32 := Scalar.shrsi v1747 c3_i32_996
  let c3_i32_997 : BitVec 32 := 3#32
  let v1749 : BitVec 32 := Scalar.shli v1748 c3_i32_997
  v1749

def k1_off124 (v1747 : BitVec 32) : Fin 2 → Nat :=
  let c3_i32_996 : BitVec 32 := 3#32
  let v1748 : BitVec 32 := Scalar.shrsi v1747 c3_i32_996
  let c3_i32_997 : BitVec 32 := 3#32
  let v1749 : BitVec 32 := Scalar.shli v1748 c3_i32_997
  let v1750 : BitVec 32 := v1749
  let v1751 : Index := Scalar.indexCast v1750
  let c0_998 : Index := 0#32
  ![v1751.toNat, 0]

def k1_chk124 (v1747 : BitVec 32) : Prop :=
  (8 ∣ (k1_mult124 v1747).toNat) ∧
  (∀ a, (k1_off124 v1747) a + S8x128.size a ≤ S12800x128.size a)
theorem k1_mult124_dvd : ∀ (v1747 : BitVec 32) (k1_hw124 : k1_chk124 v1747), 8 ∣ (k1_mult124 v1747).toNat := fun v1747 k1_hw124 => k1_hw124.1
theorem k1_off124_inb : ∀ (v1747 : BitVec 32) (k1_hw124 : k1_chk124 v1747), ∀ a, (k1_off124 v1747) a + S8x128.size a ≤ S12800x128.size a := fun v1747 k1_hw124 => k1_hw124.2

def k1_mult125 (v1761 : BitVec 32) : BitVec 32 :=
  let c3_i32_1004 : BitVec 32 := 3#32
  let v1762 : BitVec 32 := Scalar.shrsi v1761 c3_i32_1004
  let c3_i32_1005 : BitVec 32 := 3#32
  let v1763 : BitVec 32 := Scalar.shli v1762 c3_i32_1005
  v1763

def k1_off125 (v1761 : BitVec 32) : Fin 2 → Nat :=
  let c3_i32_1004 : BitVec 32 := 3#32
  let v1762 : BitVec 32 := Scalar.shrsi v1761 c3_i32_1004
  let c3_i32_1005 : BitVec 32 := 3#32
  let v1763 : BitVec 32 := Scalar.shli v1762 c3_i32_1005
  let v1764 : BitVec 32 := v1763
  let v1765 : Index := Scalar.indexCast v1764
  let c0_1006 : Index := 0#32
  ![v1765.toNat, 0]

def k1_chk125 (v1761 : BitVec 32) : Prop :=
  (8 ∣ (k1_mult125 v1761).toNat) ∧
  (∀ a, (k1_off125 v1761) a + S8x128.size a ≤ S12800x128.size a)
theorem k1_mult125_dvd : ∀ (v1761 : BitVec 32) (k1_hw125 : k1_chk125 v1761), 8 ∣ (k1_mult125 v1761).toNat := fun v1761 k1_hw125 => k1_hw125.1
theorem k1_off125_inb : ∀ (v1761 : BitVec 32) (k1_hw125 : k1_chk125 v1761), ∀ a, (k1_off125 v1761) a + S8x128.size a ≤ S12800x128.size a := fun v1761 k1_hw125 => k1_hw125.2

def k1_mult126 (v1775 : BitVec 32) : BitVec 32 :=
  let c3_i32_1012 : BitVec 32 := 3#32
  let v1776 : BitVec 32 := Scalar.shrsi v1775 c3_i32_1012
  let c3_i32_1013 : BitVec 32 := 3#32
  let v1777 : BitVec 32 := Scalar.shli v1776 c3_i32_1013
  v1777

def k1_off126 (v1775 : BitVec 32) : Fin 2 → Nat :=
  let c3_i32_1012 : BitVec 32 := 3#32
  let v1776 : BitVec 32 := Scalar.shrsi v1775 c3_i32_1012
  let c3_i32_1013 : BitVec 32 := 3#32
  let v1777 : BitVec 32 := Scalar.shli v1776 c3_i32_1013
  let v1778 : BitVec 32 := v1777
  let v1779 : Index := Scalar.indexCast v1778
  let c0_1014 : Index := 0#32
  ![v1779.toNat, 0]

def k1_chk126 (v1775 : BitVec 32) : Prop :=
  (8 ∣ (k1_mult126 v1775).toNat) ∧
  (∀ a, (k1_off126 v1775) a + S8x128.size a ≤ S12800x128.size a)
theorem k1_mult126_dvd : ∀ (v1775 : BitVec 32) (k1_hw126 : k1_chk126 v1775), 8 ∣ (k1_mult126 v1775).toNat := fun v1775 k1_hw126 => k1_hw126.1
theorem k1_off126_inb : ∀ (v1775 : BitVec 32) (k1_hw126 : k1_chk126 v1775), ∀ a, (k1_off126 v1775) a + S8x128.size a ≤ S12800x128.size a := fun v1775 k1_hw126 => k1_hw126.2

def k1_mult127 (v1789 : BitVec 32) : BitVec 32 :=
  let c3_i32_1020 : BitVec 32 := 3#32
  let v1790 : BitVec 32 := Scalar.shrsi v1789 c3_i32_1020
  let c3_i32_1021 : BitVec 32 := 3#32
  let v1791 : BitVec 32 := Scalar.shli v1790 c3_i32_1021
  v1791

def k1_off127 (v1789 : BitVec 32) : Fin 2 → Nat :=
  let c3_i32_1020 : BitVec 32 := 3#32
  let v1790 : BitVec 32 := Scalar.shrsi v1789 c3_i32_1020
  let c3_i32_1021 : BitVec 32 := 3#32
  let v1791 : BitVec 32 := Scalar.shli v1790 c3_i32_1021
  let v1792 : BitVec 32 := v1791
  let v1793 : Index := Scalar.indexCast v1792
  let c0_1022 : Index := 0#32
  ![v1793.toNat, 0]

def k1_chk127 (v1789 : BitVec 32) : Prop :=
  (8 ∣ (k1_mult127 v1789).toNat) ∧
  (∀ a, (k1_off127 v1789) a + S8x128.size a ≤ S12800x128.size a)
theorem k1_mult127_dvd : ∀ (v1789 : BitVec 32) (k1_hw127 : k1_chk127 v1789), 8 ∣ (k1_mult127 v1789).toNat := fun v1789 k1_hw127 => k1_hw127.1
theorem k1_off127_inb : ∀ (v1789 : BitVec 32) (k1_hw127 : k1_chk127 v1789), ∀ a, (k1_off127 v1789) a + S8x128.size a ≤ S12800x128.size a := fun v1789 k1_hw127 => k1_hw127.2

def k1_mult128 (v1803 : BitVec 32) : BitVec 32 :=
  let c3_i32_1028 : BitVec 32 := 3#32
  let v1804 : BitVec 32 := Scalar.shrsi v1803 c3_i32_1028
  let c3_i32_1029 : BitVec 32 := 3#32
  let v1805 : BitVec 32 := Scalar.shli v1804 c3_i32_1029
  v1805

def k1_off128 (v1803 : BitVec 32) : Fin 2 → Nat :=
  let c3_i32_1028 : BitVec 32 := 3#32
  let v1804 : BitVec 32 := Scalar.shrsi v1803 c3_i32_1028
  let c3_i32_1029 : BitVec 32 := 3#32
  let v1805 : BitVec 32 := Scalar.shli v1804 c3_i32_1029
  let v1806 : BitVec 32 := v1805
  let v1807 : Index := Scalar.indexCast v1806
  let c0_1030 : Index := 0#32
  ![v1807.toNat, 0]

def k1_chk128 (v1803 : BitVec 32) : Prop :=
  (8 ∣ (k1_mult128 v1803).toNat) ∧
  (∀ a, (k1_off128 v1803) a + S8x128.size a ≤ S12800x128.size a)
theorem k1_mult128_dvd : ∀ (v1803 : BitVec 32) (k1_hw128 : k1_chk128 v1803), 8 ∣ (k1_mult128 v1803).toNat := fun v1803 k1_hw128 => k1_hw128.1
theorem k1_off128_inb : ∀ (v1803 : BitVec 32) (k1_hw128 : k1_chk128 v1803), ∀ a, (k1_off128 v1803) a + S8x128.size a ≤ S12800x128.size a := fun v1803 k1_hw128 => k1_hw128.2

def k1_mult129 (v1817 : BitVec 32) : BitVec 32 :=
  let c3_i32_1036 : BitVec 32 := 3#32
  let v1818 : BitVec 32 := Scalar.shrsi v1817 c3_i32_1036
  let c3_i32_1037 : BitVec 32 := 3#32
  let v1819 : BitVec 32 := Scalar.shli v1818 c3_i32_1037
  v1819

def k1_off129 (v1817 : BitVec 32) : Fin 2 → Nat :=
  let c3_i32_1036 : BitVec 32 := 3#32
  let v1818 : BitVec 32 := Scalar.shrsi v1817 c3_i32_1036
  let c3_i32_1037 : BitVec 32 := 3#32
  let v1819 : BitVec 32 := Scalar.shli v1818 c3_i32_1037
  let v1820 : BitVec 32 := v1819
  let v1821 : Index := Scalar.indexCast v1820
  let c0_1038 : Index := 0#32
  ![v1821.toNat, 0]

def k1_chk129 (v1817 : BitVec 32) : Prop :=
  (8 ∣ (k1_mult129 v1817).toNat) ∧
  (∀ a, (k1_off129 v1817) a + S8x128.size a ≤ S12800x128.size a)
theorem k1_mult129_dvd : ∀ (v1817 : BitVec 32) (k1_hw129 : k1_chk129 v1817), 8 ∣ (k1_mult129 v1817).toNat := fun v1817 k1_hw129 => k1_hw129.1
theorem k1_off129_inb : ∀ (v1817 : BitVec 32) (k1_hw129 : k1_chk129 v1817), ∀ a, (k1_off129 v1817) a + S8x128.size a ≤ S12800x128.size a := fun v1817 k1_hw129 => k1_hw129.2

def k1_mult130 (v1831 : BitVec 32) : BitVec 32 :=
  let c3_i32_1044 : BitVec 32 := 3#32
  let v1832 : BitVec 32 := Scalar.shrsi v1831 c3_i32_1044
  let c3_i32_1045 : BitVec 32 := 3#32
  let v1833 : BitVec 32 := Scalar.shli v1832 c3_i32_1045
  v1833

def k1_off130 (v1831 : BitVec 32) : Fin 2 → Nat :=
  let c3_i32_1044 : BitVec 32 := 3#32
  let v1832 : BitVec 32 := Scalar.shrsi v1831 c3_i32_1044
  let c3_i32_1045 : BitVec 32 := 3#32
  let v1833 : BitVec 32 := Scalar.shli v1832 c3_i32_1045
  let v1834 : BitVec 32 := v1833
  let v1835 : Index := Scalar.indexCast v1834
  let c0_1046 : Index := 0#32
  ![v1835.toNat, 0]

def k1_chk130 (v1831 : BitVec 32) : Prop :=
  (8 ∣ (k1_mult130 v1831).toNat) ∧
  (∀ a, (k1_off130 v1831) a + S8x128.size a ≤ S12800x128.size a)
theorem k1_mult130_dvd : ∀ (v1831 : BitVec 32) (k1_hw130 : k1_chk130 v1831), 8 ∣ (k1_mult130 v1831).toNat := fun v1831 k1_hw130 => k1_hw130.1
theorem k1_off130_inb : ∀ (v1831 : BitVec 32) (k1_hw130 : k1_chk130 v1831), ∀ a, (k1_off130 v1831) a + S8x128.size a ≤ S12800x128.size a := fun v1831 k1_hw130 => k1_hw130.2

def k1_mult131 (v1845 : BitVec 32) : BitVec 32 :=
  let c3_i32_1052 : BitVec 32 := 3#32
  let v1846 : BitVec 32 := Scalar.shrsi v1845 c3_i32_1052
  let c3_i32_1053 : BitVec 32 := 3#32
  let v1847 : BitVec 32 := Scalar.shli v1846 c3_i32_1053
  v1847

def k1_off131 (v1845 : BitVec 32) : Fin 2 → Nat :=
  let c3_i32_1052 : BitVec 32 := 3#32
  let v1846 : BitVec 32 := Scalar.shrsi v1845 c3_i32_1052
  let c3_i32_1053 : BitVec 32 := 3#32
  let v1847 : BitVec 32 := Scalar.shli v1846 c3_i32_1053
  let v1848 : BitVec 32 := v1847
  let v1849 : Index := Scalar.indexCast v1848
  let c0_1054 : Index := 0#32
  ![v1849.toNat, 0]

def k1_chk131 (v1845 : BitVec 32) : Prop :=
  (8 ∣ (k1_mult131 v1845).toNat) ∧
  (∀ a, (k1_off131 v1845) a + S8x128.size a ≤ S12800x128.size a)
theorem k1_mult131_dvd : ∀ (v1845 : BitVec 32) (k1_hw131 : k1_chk131 v1845), 8 ∣ (k1_mult131 v1845).toNat := fun v1845 k1_hw131 => k1_hw131.1
theorem k1_off131_inb : ∀ (v1845 : BitVec 32) (k1_hw131 : k1_chk131 v1845), ∀ a, (k1_off131 v1845) a + S8x128.size a ≤ S12800x128.size a := fun v1845 k1_hw131 => k1_hw131.2

def k1_mult132 (v1859 : BitVec 32) : BitVec 32 :=
  let c3_i32_1060 : BitVec 32 := 3#32
  let v1860 : BitVec 32 := Scalar.shrsi v1859 c3_i32_1060
  let c3_i32_1061 : BitVec 32 := 3#32
  let v1861 : BitVec 32 := Scalar.shli v1860 c3_i32_1061
  v1861

def k1_off132 (v1859 : BitVec 32) : Fin 2 → Nat :=
  let c3_i32_1060 : BitVec 32 := 3#32
  let v1860 : BitVec 32 := Scalar.shrsi v1859 c3_i32_1060
  let c3_i32_1061 : BitVec 32 := 3#32
  let v1861 : BitVec 32 := Scalar.shli v1860 c3_i32_1061
  let v1862 : BitVec 32 := v1861
  let v1863 : Index := Scalar.indexCast v1862
  let c0_1062 : Index := 0#32
  ![v1863.toNat, 0]

def k1_chk132 (v1859 : BitVec 32) : Prop :=
  (8 ∣ (k1_mult132 v1859).toNat) ∧
  (∀ a, (k1_off132 v1859) a + S8x128.size a ≤ S12800x128.size a)
theorem k1_mult132_dvd : ∀ (v1859 : BitVec 32) (k1_hw132 : k1_chk132 v1859), 8 ∣ (k1_mult132 v1859).toNat := fun v1859 k1_hw132 => k1_hw132.1
theorem k1_off132_inb : ∀ (v1859 : BitVec 32) (k1_hw132 : k1_chk132 v1859), ∀ a, (k1_off132 v1859) a + S8x128.size a ≤ S12800x128.size a := fun v1859 k1_hw132 => k1_hw132.2

def k1_mult133 (v1873 : BitVec 32) : BitVec 32 :=
  let c3_i32_1068 : BitVec 32 := 3#32
  let v1874 : BitVec 32 := Scalar.shrsi v1873 c3_i32_1068
  let c3_i32_1069 : BitVec 32 := 3#32
  let v1875 : BitVec 32 := Scalar.shli v1874 c3_i32_1069
  v1875

def k1_off133 (v1873 : BitVec 32) : Fin 2 → Nat :=
  let c3_i32_1068 : BitVec 32 := 3#32
  let v1874 : BitVec 32 := Scalar.shrsi v1873 c3_i32_1068
  let c3_i32_1069 : BitVec 32 := 3#32
  let v1875 : BitVec 32 := Scalar.shli v1874 c3_i32_1069
  let v1876 : BitVec 32 := v1875
  let v1877 : Index := Scalar.indexCast v1876
  let c0_1070 : Index := 0#32
  ![v1877.toNat, 0]

def k1_chk133 (v1873 : BitVec 32) : Prop :=
  (8 ∣ (k1_mult133 v1873).toNat) ∧
  (∀ a, (k1_off133 v1873) a + S8x128.size a ≤ S12800x128.size a)
theorem k1_mult133_dvd : ∀ (v1873 : BitVec 32) (k1_hw133 : k1_chk133 v1873), 8 ∣ (k1_mult133 v1873).toNat := fun v1873 k1_hw133 => k1_hw133.1
theorem k1_off133_inb : ∀ (v1873 : BitVec 32) (k1_hw133 : k1_chk133 v1873), ∀ a, (k1_off133 v1873) a + S8x128.size a ≤ S12800x128.size a := fun v1873 k1_hw133 => k1_hw133.2

def k1_mult134 (v1887 : BitVec 32) : BitVec 32 :=
  let c3_i32_1076 : BitVec 32 := 3#32
  let v1888 : BitVec 32 := Scalar.shrsi v1887 c3_i32_1076
  let c3_i32_1077 : BitVec 32 := 3#32
  let v1889 : BitVec 32 := Scalar.shli v1888 c3_i32_1077
  v1889

def k1_off134 (v1887 : BitVec 32) : Fin 2 → Nat :=
  let c3_i32_1076 : BitVec 32 := 3#32
  let v1888 : BitVec 32 := Scalar.shrsi v1887 c3_i32_1076
  let c3_i32_1077 : BitVec 32 := 3#32
  let v1889 : BitVec 32 := Scalar.shli v1888 c3_i32_1077
  let v1890 : BitVec 32 := v1889
  let v1891 : Index := Scalar.indexCast v1890
  let c0_1078 : Index := 0#32
  ![v1891.toNat, 0]

def k1_chk134 (v1887 : BitVec 32) : Prop :=
  (8 ∣ (k1_mult134 v1887).toNat) ∧
  (∀ a, (k1_off134 v1887) a + S8x128.size a ≤ S12800x128.size a)
theorem k1_mult134_dvd : ∀ (v1887 : BitVec 32) (k1_hw134 : k1_chk134 v1887), 8 ∣ (k1_mult134 v1887).toNat := fun v1887 k1_hw134 => k1_hw134.1
theorem k1_off134_inb : ∀ (v1887 : BitVec 32) (k1_hw134 : k1_chk134 v1887), ∀ a, (k1_off134 v1887) a + S8x128.size a ≤ S12800x128.size a := fun v1887 k1_hw134 => k1_hw134.2

def k1_mult135 (v1901 : BitVec 32) : BitVec 32 :=
  let c3_i32_1084 : BitVec 32 := 3#32
  let v1902 : BitVec 32 := Scalar.shrsi v1901 c3_i32_1084
  let c3_i32_1085 : BitVec 32 := 3#32
  let v1903 : BitVec 32 := Scalar.shli v1902 c3_i32_1085
  v1903

def k1_off135 (v1901 : BitVec 32) : Fin 2 → Nat :=
  let c3_i32_1084 : BitVec 32 := 3#32
  let v1902 : BitVec 32 := Scalar.shrsi v1901 c3_i32_1084
  let c3_i32_1085 : BitVec 32 := 3#32
  let v1903 : BitVec 32 := Scalar.shli v1902 c3_i32_1085
  let v1904 : BitVec 32 := v1903
  let v1905 : Index := Scalar.indexCast v1904
  let c0_1086 : Index := 0#32
  ![v1905.toNat, 0]

def k1_chk135 (v1901 : BitVec 32) : Prop :=
  (8 ∣ (k1_mult135 v1901).toNat) ∧
  (∀ a, (k1_off135 v1901) a + S8x128.size a ≤ S12800x128.size a)
theorem k1_mult135_dvd : ∀ (v1901 : BitVec 32) (k1_hw135 : k1_chk135 v1901), 8 ∣ (k1_mult135 v1901).toNat := fun v1901 k1_hw135 => k1_hw135.1
theorem k1_off135_inb : ∀ (v1901 : BitVec 32) (k1_hw135 : k1_chk135 v1901), ∀ a, (k1_off135 v1901) a + S8x128.size a ≤ S12800x128.size a := fun v1901 k1_hw135 => k1_hw135.2

def k1_mult136 (v1915 : BitVec 32) : BitVec 32 :=
  let c3_i32_1092 : BitVec 32 := 3#32
  let v1916 : BitVec 32 := Scalar.shrsi v1915 c3_i32_1092
  let c3_i32_1093 : BitVec 32 := 3#32
  let v1917 : BitVec 32 := Scalar.shli v1916 c3_i32_1093
  v1917

def k1_off136 (v1915 : BitVec 32) : Fin 2 → Nat :=
  let c3_i32_1092 : BitVec 32 := 3#32
  let v1916 : BitVec 32 := Scalar.shrsi v1915 c3_i32_1092
  let c3_i32_1093 : BitVec 32 := 3#32
  let v1917 : BitVec 32 := Scalar.shli v1916 c3_i32_1093
  let v1918 : BitVec 32 := v1917
  let v1919 : Index := Scalar.indexCast v1918
  let c0_1094 : Index := 0#32
  ![v1919.toNat, 0]

def k1_chk136 (v1915 : BitVec 32) : Prop :=
  (8 ∣ (k1_mult136 v1915).toNat) ∧
  (∀ a, (k1_off136 v1915) a + S8x128.size a ≤ S12800x128.size a)
theorem k1_mult136_dvd : ∀ (v1915 : BitVec 32) (k1_hw136 : k1_chk136 v1915), 8 ∣ (k1_mult136 v1915).toNat := fun v1915 k1_hw136 => k1_hw136.1
theorem k1_off136_inb : ∀ (v1915 : BitVec 32) (k1_hw136 : k1_chk136 v1915), ∀ a, (k1_off136 v1915) a + S8x128.size a ≤ S12800x128.size a := fun v1915 k1_hw136 => k1_hw136.2

def k1_mult137 (v1929 : BitVec 32) : BitVec 32 :=
  let c3_i32_1100 : BitVec 32 := 3#32
  let v1930 : BitVec 32 := Scalar.shrsi v1929 c3_i32_1100
  let c3_i32_1101 : BitVec 32 := 3#32
  let v1931 : BitVec 32 := Scalar.shli v1930 c3_i32_1101
  v1931

def k1_off137 (v1929 : BitVec 32) : Fin 2 → Nat :=
  let c3_i32_1100 : BitVec 32 := 3#32
  let v1930 : BitVec 32 := Scalar.shrsi v1929 c3_i32_1100
  let c3_i32_1101 : BitVec 32 := 3#32
  let v1931 : BitVec 32 := Scalar.shli v1930 c3_i32_1101
  let v1932 : BitVec 32 := v1931
  let v1933 : Index := Scalar.indexCast v1932
  let c0_1102 : Index := 0#32
  ![v1933.toNat, 0]

def k1_chk137 (v1929 : BitVec 32) : Prop :=
  (8 ∣ (k1_mult137 v1929).toNat) ∧
  (∀ a, (k1_off137 v1929) a + S8x128.size a ≤ S12800x128.size a)
theorem k1_mult137_dvd : ∀ (v1929 : BitVec 32) (k1_hw137 : k1_chk137 v1929), 8 ∣ (k1_mult137 v1929).toNat := fun v1929 k1_hw137 => k1_hw137.1
theorem k1_off137_inb : ∀ (v1929 : BitVec 32) (k1_hw137 : k1_chk137 v1929), ∀ a, (k1_off137 v1929) a + S8x128.size a ≤ S12800x128.size a := fun v1929 k1_hw137 => k1_hw137.2

def k1_mult138 (v1943 : BitVec 32) : BitVec 32 :=
  let c3_i32_1108 : BitVec 32 := 3#32
  let v1944 : BitVec 32 := Scalar.shrsi v1943 c3_i32_1108
  let c3_i32_1109 : BitVec 32 := 3#32
  let v1945 : BitVec 32 := Scalar.shli v1944 c3_i32_1109
  v1945

def k1_off138 (v1943 : BitVec 32) : Fin 2 → Nat :=
  let c3_i32_1108 : BitVec 32 := 3#32
  let v1944 : BitVec 32 := Scalar.shrsi v1943 c3_i32_1108
  let c3_i32_1109 : BitVec 32 := 3#32
  let v1945 : BitVec 32 := Scalar.shli v1944 c3_i32_1109
  let v1946 : BitVec 32 := v1945
  let v1947 : Index := Scalar.indexCast v1946
  let c0_1110 : Index := 0#32
  ![v1947.toNat, 0]

def k1_chk138 (v1943 : BitVec 32) : Prop :=
  (8 ∣ (k1_mult138 v1943).toNat) ∧
  (∀ a, (k1_off138 v1943) a + S8x128.size a ≤ S12800x128.size a)
theorem k1_mult138_dvd : ∀ (v1943 : BitVec 32) (k1_hw138 : k1_chk138 v1943), 8 ∣ (k1_mult138 v1943).toNat := fun v1943 k1_hw138 => k1_hw138.1
theorem k1_off138_inb : ∀ (v1943 : BitVec 32) (k1_hw138 : k1_chk138 v1943), ∀ a, (k1_off138 v1943) a + S8x128.size a ≤ S12800x128.size a := fun v1943 k1_hw138 => k1_hw138.2

def k1_mult139 (v1957 : BitVec 32) : BitVec 32 :=
  let c3_i32_1116 : BitVec 32 := 3#32
  let v1958 : BitVec 32 := Scalar.shrsi v1957 c3_i32_1116
  let c3_i32_1117 : BitVec 32 := 3#32
  let v1959 : BitVec 32 := Scalar.shli v1958 c3_i32_1117
  v1959

def k1_off139 (v1957 : BitVec 32) : Fin 2 → Nat :=
  let c3_i32_1116 : BitVec 32 := 3#32
  let v1958 : BitVec 32 := Scalar.shrsi v1957 c3_i32_1116
  let c3_i32_1117 : BitVec 32 := 3#32
  let v1959 : BitVec 32 := Scalar.shli v1958 c3_i32_1117
  let v1960 : BitVec 32 := v1959
  let v1961 : Index := Scalar.indexCast v1960
  let c0_1118 : Index := 0#32
  ![v1961.toNat, 0]

def k1_chk139 (v1957 : BitVec 32) : Prop :=
  (8 ∣ (k1_mult139 v1957).toNat) ∧
  (∀ a, (k1_off139 v1957) a + S8x128.size a ≤ S12800x128.size a)
theorem k1_mult139_dvd : ∀ (v1957 : BitVec 32) (k1_hw139 : k1_chk139 v1957), 8 ∣ (k1_mult139 v1957).toNat := fun v1957 k1_hw139 => k1_hw139.1
theorem k1_off139_inb : ∀ (v1957 : BitVec 32) (k1_hw139 : k1_chk139 v1957), ∀ a, (k1_off139 v1957) a + S8x128.size a ≤ S12800x128.size a := fun v1957 k1_hw139 => k1_hw139.2

def k1_mult140 (v1971 : BitVec 32) : BitVec 32 :=
  let c3_i32_1124 : BitVec 32 := 3#32
  let v1972 : BitVec 32 := Scalar.shrsi v1971 c3_i32_1124
  let c3_i32_1125 : BitVec 32 := 3#32
  let v1973 : BitVec 32 := Scalar.shli v1972 c3_i32_1125
  v1973

def k1_off140 (v1971 : BitVec 32) : Fin 2 → Nat :=
  let c3_i32_1124 : BitVec 32 := 3#32
  let v1972 : BitVec 32 := Scalar.shrsi v1971 c3_i32_1124
  let c3_i32_1125 : BitVec 32 := 3#32
  let v1973 : BitVec 32 := Scalar.shli v1972 c3_i32_1125
  let v1974 : BitVec 32 := v1973
  let v1975 : Index := Scalar.indexCast v1974
  let c0_1126 : Index := 0#32
  ![v1975.toNat, 0]

def k1_chk140 (v1971 : BitVec 32) : Prop :=
  (8 ∣ (k1_mult140 v1971).toNat) ∧
  (∀ a, (k1_off140 v1971) a + S8x128.size a ≤ S12800x128.size a)
theorem k1_mult140_dvd : ∀ (v1971 : BitVec 32) (k1_hw140 : k1_chk140 v1971), 8 ∣ (k1_mult140 v1971).toNat := fun v1971 k1_hw140 => k1_hw140.1
theorem k1_off140_inb : ∀ (v1971 : BitVec 32) (k1_hw140 : k1_chk140 v1971), ∀ a, (k1_off140 v1971) a + S8x128.size a ≤ S12800x128.size a := fun v1971 k1_hw140 => k1_hw140.2

def k1_mult141 (v1985 : BitVec 32) : BitVec 32 :=
  let c3_i32_1132 : BitVec 32 := 3#32
  let v1986 : BitVec 32 := Scalar.shrsi v1985 c3_i32_1132
  let c3_i32_1133 : BitVec 32 := 3#32
  let v1987 : BitVec 32 := Scalar.shli v1986 c3_i32_1133
  v1987

def k1_off141 (v1985 : BitVec 32) : Fin 2 → Nat :=
  let c3_i32_1132 : BitVec 32 := 3#32
  let v1986 : BitVec 32 := Scalar.shrsi v1985 c3_i32_1132
  let c3_i32_1133 : BitVec 32 := 3#32
  let v1987 : BitVec 32 := Scalar.shli v1986 c3_i32_1133
  let v1988 : BitVec 32 := v1987
  let v1989 : Index := Scalar.indexCast v1988
  let c0_1134 : Index := 0#32
  ![v1989.toNat, 0]

def k1_chk141 (v1985 : BitVec 32) : Prop :=
  (8 ∣ (k1_mult141 v1985).toNat) ∧
  (∀ a, (k1_off141 v1985) a + S8x128.size a ≤ S12800x128.size a)
theorem k1_mult141_dvd : ∀ (v1985 : BitVec 32) (k1_hw141 : k1_chk141 v1985), 8 ∣ (k1_mult141 v1985).toNat := fun v1985 k1_hw141 => k1_hw141.1
theorem k1_off141_inb : ∀ (v1985 : BitVec 32) (k1_hw141 : k1_chk141 v1985), ∀ a, (k1_off141 v1985) a + S8x128.size a ≤ S12800x128.size a := fun v1985 k1_hw141 => k1_hw141.2

def k1_mult142 (v1999 : BitVec 32) : BitVec 32 :=
  let c3_i32_1140 : BitVec 32 := 3#32
  let v2000 : BitVec 32 := Scalar.shrsi v1999 c3_i32_1140
  let c3_i32_1141 : BitVec 32 := 3#32
  let v2001 : BitVec 32 := Scalar.shli v2000 c3_i32_1141
  v2001

def k1_off142 (v1999 : BitVec 32) : Fin 2 → Nat :=
  let c3_i32_1140 : BitVec 32 := 3#32
  let v2000 : BitVec 32 := Scalar.shrsi v1999 c3_i32_1140
  let c3_i32_1141 : BitVec 32 := 3#32
  let v2001 : BitVec 32 := Scalar.shli v2000 c3_i32_1141
  let v2002 : BitVec 32 := v2001
  let v2003 : Index := Scalar.indexCast v2002
  let c0_1142 : Index := 0#32
  ![v2003.toNat, 0]

def k1_chk142 (v1999 : BitVec 32) : Prop :=
  (8 ∣ (k1_mult142 v1999).toNat) ∧
  (∀ a, (k1_off142 v1999) a + S8x128.size a ≤ S12800x128.size a)
theorem k1_mult142_dvd : ∀ (v1999 : BitVec 32) (k1_hw142 : k1_chk142 v1999), 8 ∣ (k1_mult142 v1999).toNat := fun v1999 k1_hw142 => k1_hw142.1
theorem k1_off142_inb : ∀ (v1999 : BitVec 32) (k1_hw142 : k1_chk142 v1999), ∀ a, (k1_off142 v1999) a + S8x128.size a ≤ S12800x128.size a := fun v1999 k1_hw142 => k1_hw142.2

def k1_mult143 (v2013 : BitVec 32) : BitVec 32 :=
  let c3_i32_1148 : BitVec 32 := 3#32
  let v2014 : BitVec 32 := Scalar.shrsi v2013 c3_i32_1148
  let c3_i32_1149 : BitVec 32 := 3#32
  let v2015 : BitVec 32 := Scalar.shli v2014 c3_i32_1149
  v2015

def k1_off143 (v2013 : BitVec 32) : Fin 2 → Nat :=
  let c3_i32_1148 : BitVec 32 := 3#32
  let v2014 : BitVec 32 := Scalar.shrsi v2013 c3_i32_1148
  let c3_i32_1149 : BitVec 32 := 3#32
  let v2015 : BitVec 32 := Scalar.shli v2014 c3_i32_1149
  let v2016 : BitVec 32 := v2015
  let v2017 : Index := Scalar.indexCast v2016
  let c0_1150 : Index := 0#32
  ![v2017.toNat, 0]

def k1_chk143 (v2013 : BitVec 32) : Prop :=
  (8 ∣ (k1_mult143 v2013).toNat) ∧
  (∀ a, (k1_off143 v2013) a + S8x128.size a ≤ S12800x128.size a)
theorem k1_mult143_dvd : ∀ (v2013 : BitVec 32) (k1_hw143 : k1_chk143 v2013), 8 ∣ (k1_mult143 v2013).toNat := fun v2013 k1_hw143 => k1_hw143.1
theorem k1_off143_inb : ∀ (v2013 : BitVec 32) (k1_hw143 : k1_chk143 v2013), ∀ a, (k1_off143 v2013) a + S8x128.size a ≤ S12800x128.size a := fun v2013 k1_hw143 => k1_hw143.2

def k1_mult144 (v2027 : BitVec 32) : BitVec 32 :=
  let c3_i32_1156 : BitVec 32 := 3#32
  let v2028 : BitVec 32 := Scalar.shrsi v2027 c3_i32_1156
  let c3_i32_1157 : BitVec 32 := 3#32
  let v2029 : BitVec 32 := Scalar.shli v2028 c3_i32_1157
  v2029

def k1_off144 (v2027 : BitVec 32) : Fin 2 → Nat :=
  let c3_i32_1156 : BitVec 32 := 3#32
  let v2028 : BitVec 32 := Scalar.shrsi v2027 c3_i32_1156
  let c3_i32_1157 : BitVec 32 := 3#32
  let v2029 : BitVec 32 := Scalar.shli v2028 c3_i32_1157
  let v2030 : BitVec 32 := v2029
  let v2031 : Index := Scalar.indexCast v2030
  let c0_1158 : Index := 0#32
  ![v2031.toNat, 0]

def k1_chk144 (v2027 : BitVec 32) : Prop :=
  (8 ∣ (k1_mult144 v2027).toNat) ∧
  (∀ a, (k1_off144 v2027) a + S8x128.size a ≤ S12800x128.size a)
theorem k1_mult144_dvd : ∀ (v2027 : BitVec 32) (k1_hw144 : k1_chk144 v2027), 8 ∣ (k1_mult144 v2027).toNat := fun v2027 k1_hw144 => k1_hw144.1
theorem k1_off144_inb : ∀ (v2027 : BitVec 32) (k1_hw144 : k1_chk144 v2027), ∀ a, (k1_off144 v2027) a + S8x128.size a ≤ S12800x128.size a := fun v2027 k1_hw144 => k1_hw144.2

def k1_mult145 (v2041 : BitVec 32) : BitVec 32 :=
  let c3_i32_1164 : BitVec 32 := 3#32
  let v2042 : BitVec 32 := Scalar.shrsi v2041 c3_i32_1164
  let c3_i32_1165 : BitVec 32 := 3#32
  let v2043 : BitVec 32 := Scalar.shli v2042 c3_i32_1165
  v2043

def k1_off145 (v2041 : BitVec 32) : Fin 2 → Nat :=
  let c3_i32_1164 : BitVec 32 := 3#32
  let v2042 : BitVec 32 := Scalar.shrsi v2041 c3_i32_1164
  let c3_i32_1165 : BitVec 32 := 3#32
  let v2043 : BitVec 32 := Scalar.shli v2042 c3_i32_1165
  let v2044 : BitVec 32 := v2043
  let v2045 : Index := Scalar.indexCast v2044
  let c0_1166 : Index := 0#32
  ![v2045.toNat, 0]

def k1_chk145 (v2041 : BitVec 32) : Prop :=
  (8 ∣ (k1_mult145 v2041).toNat) ∧
  (∀ a, (k1_off145 v2041) a + S8x128.size a ≤ S12800x128.size a)
theorem k1_mult145_dvd : ∀ (v2041 : BitVec 32) (k1_hw145 : k1_chk145 v2041), 8 ∣ (k1_mult145 v2041).toNat := fun v2041 k1_hw145 => k1_hw145.1
theorem k1_off145_inb : ∀ (v2041 : BitVec 32) (k1_hw145 : k1_chk145 v2041), ∀ a, (k1_off145 v2041) a + S8x128.size a ≤ S12800x128.size a := fun v2041 k1_hw145 => k1_hw145.2

def k1_mult146 (v2055 : BitVec 32) : BitVec 32 :=
  let c3_i32_1172 : BitVec 32 := 3#32
  let v2056 : BitVec 32 := Scalar.shrsi v2055 c3_i32_1172
  let c3_i32_1173 : BitVec 32 := 3#32
  let v2057 : BitVec 32 := Scalar.shli v2056 c3_i32_1173
  v2057

def k1_off146 (v2055 : BitVec 32) : Fin 2 → Nat :=
  let c3_i32_1172 : BitVec 32 := 3#32
  let v2056 : BitVec 32 := Scalar.shrsi v2055 c3_i32_1172
  let c3_i32_1173 : BitVec 32 := 3#32
  let v2057 : BitVec 32 := Scalar.shli v2056 c3_i32_1173
  let v2058 : BitVec 32 := v2057
  let v2059 : Index := Scalar.indexCast v2058
  let c0_1174 : Index := 0#32
  ![v2059.toNat, 0]

def k1_chk146 (v2055 : BitVec 32) : Prop :=
  (8 ∣ (k1_mult146 v2055).toNat) ∧
  (∀ a, (k1_off146 v2055) a + S8x128.size a ≤ S12800x128.size a)
theorem k1_mult146_dvd : ∀ (v2055 : BitVec 32) (k1_hw146 : k1_chk146 v2055), 8 ∣ (k1_mult146 v2055).toNat := fun v2055 k1_hw146 => k1_hw146.1
theorem k1_off146_inb : ∀ (v2055 : BitVec 32) (k1_hw146 : k1_chk146 v2055), ∀ a, (k1_off146 v2055) a + S8x128.size a ≤ S12800x128.size a := fun v2055 k1_hw146 => k1_hw146.2

def k1_mult147 (v2069 : BitVec 32) : BitVec 32 :=
  let c3_i32_1180 : BitVec 32 := 3#32
  let v2070 : BitVec 32 := Scalar.shrsi v2069 c3_i32_1180
  let c3_i32_1181 : BitVec 32 := 3#32
  let v2071 : BitVec 32 := Scalar.shli v2070 c3_i32_1181
  v2071

def k1_off147 (v2069 : BitVec 32) : Fin 2 → Nat :=
  let c3_i32_1180 : BitVec 32 := 3#32
  let v2070 : BitVec 32 := Scalar.shrsi v2069 c3_i32_1180
  let c3_i32_1181 : BitVec 32 := 3#32
  let v2071 : BitVec 32 := Scalar.shli v2070 c3_i32_1181
  let v2072 : BitVec 32 := v2071
  let v2073 : Index := Scalar.indexCast v2072
  let c0_1182 : Index := 0#32
  ![v2073.toNat, 0]

def k1_chk147 (v2069 : BitVec 32) : Prop :=
  (8 ∣ (k1_mult147 v2069).toNat) ∧
  (∀ a, (k1_off147 v2069) a + S8x128.size a ≤ S12800x128.size a)
theorem k1_mult147_dvd : ∀ (v2069 : BitVec 32) (k1_hw147 : k1_chk147 v2069), 8 ∣ (k1_mult147 v2069).toNat := fun v2069 k1_hw147 => k1_hw147.1
theorem k1_off147_inb : ∀ (v2069 : BitVec 32) (k1_hw147 : k1_chk147 v2069), ∀ a, (k1_off147 v2069) a + S8x128.size a ≤ S12800x128.size a := fun v2069 k1_hw147 => k1_hw147.2

def k1_mult148 (v2083 : BitVec 32) : BitVec 32 :=
  let c3_i32_1188 : BitVec 32 := 3#32
  let v2084 : BitVec 32 := Scalar.shrsi v2083 c3_i32_1188
  let c3_i32_1189 : BitVec 32 := 3#32
  let v2085 : BitVec 32 := Scalar.shli v2084 c3_i32_1189
  v2085

def k1_off148 (v2083 : BitVec 32) : Fin 2 → Nat :=
  let c3_i32_1188 : BitVec 32 := 3#32
  let v2084 : BitVec 32 := Scalar.shrsi v2083 c3_i32_1188
  let c3_i32_1189 : BitVec 32 := 3#32
  let v2085 : BitVec 32 := Scalar.shli v2084 c3_i32_1189
  let v2086 : BitVec 32 := v2085
  let v2087 : Index := Scalar.indexCast v2086
  let c0_1190 : Index := 0#32
  ![v2087.toNat, 0]

def k1_chk148 (v2083 : BitVec 32) : Prop :=
  (8 ∣ (k1_mult148 v2083).toNat) ∧
  (∀ a, (k1_off148 v2083) a + S8x128.size a ≤ S12800x128.size a)
theorem k1_mult148_dvd : ∀ (v2083 : BitVec 32) (k1_hw148 : k1_chk148 v2083), 8 ∣ (k1_mult148 v2083).toNat := fun v2083 k1_hw148 => k1_hw148.1
theorem k1_off148_inb : ∀ (v2083 : BitVec 32) (k1_hw148 : k1_chk148 v2083), ∀ a, (k1_off148 v2083) a + S8x128.size a ≤ S12800x128.size a := fun v2083 k1_hw148 => k1_hw148.2

def k1_mult149 (v2097 : BitVec 32) : BitVec 32 :=
  let c3_i32_1196 : BitVec 32 := 3#32
  let v2098 : BitVec 32 := Scalar.shrsi v2097 c3_i32_1196
  let c3_i32_1197 : BitVec 32 := 3#32
  let v2099 : BitVec 32 := Scalar.shli v2098 c3_i32_1197
  v2099

def k1_off149 (v2097 : BitVec 32) : Fin 2 → Nat :=
  let c3_i32_1196 : BitVec 32 := 3#32
  let v2098 : BitVec 32 := Scalar.shrsi v2097 c3_i32_1196
  let c3_i32_1197 : BitVec 32 := 3#32
  let v2099 : BitVec 32 := Scalar.shli v2098 c3_i32_1197
  let v2100 : BitVec 32 := v2099
  let v2101 : Index := Scalar.indexCast v2100
  let c0_1198 : Index := 0#32
  ![v2101.toNat, 0]

def k1_chk149 (v2097 : BitVec 32) : Prop :=
  (8 ∣ (k1_mult149 v2097).toNat) ∧
  (∀ a, (k1_off149 v2097) a + S8x128.size a ≤ S12800x128.size a)
theorem k1_mult149_dvd : ∀ (v2097 : BitVec 32) (k1_hw149 : k1_chk149 v2097), 8 ∣ (k1_mult149 v2097).toNat := fun v2097 k1_hw149 => k1_hw149.1
theorem k1_off149_inb : ∀ (v2097 : BitVec 32) (k1_hw149 : k1_chk149 v2097), ∀ a, (k1_off149 v2097) a + S8x128.size a ≤ S12800x128.size a := fun v2097 k1_hw149 => k1_hw149.2

def k1_mult150 (v2111 : BitVec 32) : BitVec 32 :=
  let c3_i32_1204 : BitVec 32 := 3#32
  let v2112 : BitVec 32 := Scalar.shrsi v2111 c3_i32_1204
  let c3_i32_1205 : BitVec 32 := 3#32
  let v2113 : BitVec 32 := Scalar.shli v2112 c3_i32_1205
  v2113

def k1_off150 (v2111 : BitVec 32) : Fin 2 → Nat :=
  let c3_i32_1204 : BitVec 32 := 3#32
  let v2112 : BitVec 32 := Scalar.shrsi v2111 c3_i32_1204
  let c3_i32_1205 : BitVec 32 := 3#32
  let v2113 : BitVec 32 := Scalar.shli v2112 c3_i32_1205
  let v2114 : BitVec 32 := v2113
  let v2115 : Index := Scalar.indexCast v2114
  let c0_1206 : Index := 0#32
  ![v2115.toNat, 0]

def k1_chk150 (v2111 : BitVec 32) : Prop :=
  (8 ∣ (k1_mult150 v2111).toNat) ∧
  (∀ a, (k1_off150 v2111) a + S8x128.size a ≤ S12800x128.size a)
theorem k1_mult150_dvd : ∀ (v2111 : BitVec 32) (k1_hw150 : k1_chk150 v2111), 8 ∣ (k1_mult150 v2111).toNat := fun v2111 k1_hw150 => k1_hw150.1
theorem k1_off150_inb : ∀ (v2111 : BitVec 32) (k1_hw150 : k1_chk150 v2111), ∀ a, (k1_off150 v2111) a + S8x128.size a ≤ S12800x128.size a := fun v2111 k1_hw150 => k1_hw150.2

def k1_mult151 (v2125 : BitVec 32) : BitVec 32 :=
  let c3_i32_1212 : BitVec 32 := 3#32
  let v2126 : BitVec 32 := Scalar.shrsi v2125 c3_i32_1212
  let c3_i32_1213 : BitVec 32 := 3#32
  let v2127 : BitVec 32 := Scalar.shli v2126 c3_i32_1213
  v2127

def k1_off151 (v2125 : BitVec 32) : Fin 2 → Nat :=
  let c3_i32_1212 : BitVec 32 := 3#32
  let v2126 : BitVec 32 := Scalar.shrsi v2125 c3_i32_1212
  let c3_i32_1213 : BitVec 32 := 3#32
  let v2127 : BitVec 32 := Scalar.shli v2126 c3_i32_1213
  let v2128 : BitVec 32 := v2127
  let v2129 : Index := Scalar.indexCast v2128
  let c0_1214 : Index := 0#32
  ![v2129.toNat, 0]

def k1_chk151 (v2125 : BitVec 32) : Prop :=
  (8 ∣ (k1_mult151 v2125).toNat) ∧
  (∀ a, (k1_off151 v2125) a + S8x128.size a ≤ S12800x128.size a)
theorem k1_mult151_dvd : ∀ (v2125 : BitVec 32) (k1_hw151 : k1_chk151 v2125), 8 ∣ (k1_mult151 v2125).toNat := fun v2125 k1_hw151 => k1_hw151.1
theorem k1_off151_inb : ∀ (v2125 : BitVec 32) (k1_hw151 : k1_chk151 v2125), ∀ a, (k1_off151 v2125) a + S8x128.size a ≤ S12800x128.size a := fun v2125 k1_hw151 => k1_hw151.2

def k1_mult152 (v2139 : BitVec 32) : BitVec 32 :=
  let c3_i32_1220 : BitVec 32 := 3#32
  let v2140 : BitVec 32 := Scalar.shrsi v2139 c3_i32_1220
  let c3_i32_1221 : BitVec 32 := 3#32
  let v2141 : BitVec 32 := Scalar.shli v2140 c3_i32_1221
  v2141

def k1_off152 (v2139 : BitVec 32) : Fin 2 → Nat :=
  let c3_i32_1220 : BitVec 32 := 3#32
  let v2140 : BitVec 32 := Scalar.shrsi v2139 c3_i32_1220
  let c3_i32_1221 : BitVec 32 := 3#32
  let v2141 : BitVec 32 := Scalar.shli v2140 c3_i32_1221
  let v2142 : BitVec 32 := v2141
  let v2143 : Index := Scalar.indexCast v2142
  let c0_1222 : Index := 0#32
  ![v2143.toNat, 0]

def k1_chk152 (v2139 : BitVec 32) : Prop :=
  (8 ∣ (k1_mult152 v2139).toNat) ∧
  (∀ a, (k1_off152 v2139) a + S8x128.size a ≤ S12800x128.size a)
theorem k1_mult152_dvd : ∀ (v2139 : BitVec 32) (k1_hw152 : k1_chk152 v2139), 8 ∣ (k1_mult152 v2139).toNat := fun v2139 k1_hw152 => k1_hw152.1
theorem k1_off152_inb : ∀ (v2139 : BitVec 32) (k1_hw152 : k1_chk152 v2139), ∀ a, (k1_off152 v2139) a + S8x128.size a ≤ S12800x128.size a := fun v2139 k1_hw152 => k1_hw152.2

def k1_mult153 (v2153 : BitVec 32) : BitVec 32 :=
  let c3_i32_1228 : BitVec 32 := 3#32
  let v2154 : BitVec 32 := Scalar.shrsi v2153 c3_i32_1228
  let c3_i32_1229 : BitVec 32 := 3#32
  let v2155 : BitVec 32 := Scalar.shli v2154 c3_i32_1229
  v2155

def k1_off153 (v2153 : BitVec 32) : Fin 2 → Nat :=
  let c3_i32_1228 : BitVec 32 := 3#32
  let v2154 : BitVec 32 := Scalar.shrsi v2153 c3_i32_1228
  let c3_i32_1229 : BitVec 32 := 3#32
  let v2155 : BitVec 32 := Scalar.shli v2154 c3_i32_1229
  let v2156 : BitVec 32 := v2155
  let v2157 : Index := Scalar.indexCast v2156
  let c0_1230 : Index := 0#32
  ![v2157.toNat, 0]

def k1_chk153 (v2153 : BitVec 32) : Prop :=
  (8 ∣ (k1_mult153 v2153).toNat) ∧
  (∀ a, (k1_off153 v2153) a + S8x128.size a ≤ S12800x128.size a)
theorem k1_mult153_dvd : ∀ (v2153 : BitVec 32) (k1_hw153 : k1_chk153 v2153), 8 ∣ (k1_mult153 v2153).toNat := fun v2153 k1_hw153 => k1_hw153.1
theorem k1_off153_inb : ∀ (v2153 : BitVec 32) (k1_hw153 : k1_chk153 v2153), ∀ a, (k1_off153 v2153) a + S8x128.size a ≤ S12800x128.size a := fun v2153 k1_hw153 => k1_hw153.2

def k1_mult154 (v2167 : BitVec 32) : BitVec 32 :=
  let c3_i32_1236 : BitVec 32 := 3#32
  let v2168 : BitVec 32 := Scalar.shrsi v2167 c3_i32_1236
  let c3_i32_1237 : BitVec 32 := 3#32
  let v2169 : BitVec 32 := Scalar.shli v2168 c3_i32_1237
  v2169

def k1_off154 (v2167 : BitVec 32) : Fin 2 → Nat :=
  let c3_i32_1236 : BitVec 32 := 3#32
  let v2168 : BitVec 32 := Scalar.shrsi v2167 c3_i32_1236
  let c3_i32_1237 : BitVec 32 := 3#32
  let v2169 : BitVec 32 := Scalar.shli v2168 c3_i32_1237
  let v2170 : BitVec 32 := v2169
  let v2171 : Index := Scalar.indexCast v2170
  let c0_1238 : Index := 0#32
  ![v2171.toNat, 0]

def k1_chk154 (v2167 : BitVec 32) : Prop :=
  (8 ∣ (k1_mult154 v2167).toNat) ∧
  (∀ a, (k1_off154 v2167) a + S8x128.size a ≤ S12800x128.size a)
theorem k1_mult154_dvd : ∀ (v2167 : BitVec 32) (k1_hw154 : k1_chk154 v2167), 8 ∣ (k1_mult154 v2167).toNat := fun v2167 k1_hw154 => k1_hw154.1
theorem k1_off154_inb : ∀ (v2167 : BitVec 32) (k1_hw154 : k1_chk154 v2167), ∀ a, (k1_off154 v2167) a + S8x128.size a ≤ S12800x128.size a := fun v2167 k1_hw154 => k1_hw154.2

def k1_mult155 (v2181 : BitVec 32) : BitVec 32 :=
  let c3_i32_1244 : BitVec 32 := 3#32
  let v2182 : BitVec 32 := Scalar.shrsi v2181 c3_i32_1244
  let c3_i32_1245 : BitVec 32 := 3#32
  let v2183 : BitVec 32 := Scalar.shli v2182 c3_i32_1245
  v2183

def k1_off155 (v2181 : BitVec 32) : Fin 2 → Nat :=
  let c3_i32_1244 : BitVec 32 := 3#32
  let v2182 : BitVec 32 := Scalar.shrsi v2181 c3_i32_1244
  let c3_i32_1245 : BitVec 32 := 3#32
  let v2183 : BitVec 32 := Scalar.shli v2182 c3_i32_1245
  let v2184 : BitVec 32 := v2183
  let v2185 : Index := Scalar.indexCast v2184
  let c0_1246 : Index := 0#32
  ![v2185.toNat, 0]

def k1_chk155 (v2181 : BitVec 32) : Prop :=
  (8 ∣ (k1_mult155 v2181).toNat) ∧
  (∀ a, (k1_off155 v2181) a + S8x128.size a ≤ S12800x128.size a)
theorem k1_mult155_dvd : ∀ (v2181 : BitVec 32) (k1_hw155 : k1_chk155 v2181), 8 ∣ (k1_mult155 v2181).toNat := fun v2181 k1_hw155 => k1_hw155.1
theorem k1_off155_inb : ∀ (v2181 : BitVec 32) (k1_hw155 : k1_chk155 v2181), ∀ a, (k1_off155 v2181) a + S8x128.size a ≤ S12800x128.size a := fun v2181 k1_hw155 => k1_hw155.2

def k1_mult156 (v2195 : BitVec 32) : BitVec 32 :=
  let c3_i32_1252 : BitVec 32 := 3#32
  let v2196 : BitVec 32 := Scalar.shrsi v2195 c3_i32_1252
  let c3_i32_1253 : BitVec 32 := 3#32
  let v2197 : BitVec 32 := Scalar.shli v2196 c3_i32_1253
  v2197

def k1_off156 (v2195 : BitVec 32) : Fin 2 → Nat :=
  let c3_i32_1252 : BitVec 32 := 3#32
  let v2196 : BitVec 32 := Scalar.shrsi v2195 c3_i32_1252
  let c3_i32_1253 : BitVec 32 := 3#32
  let v2197 : BitVec 32 := Scalar.shli v2196 c3_i32_1253
  let v2198 : BitVec 32 := v2197
  let v2199 : Index := Scalar.indexCast v2198
  let c0_1254 : Index := 0#32
  ![v2199.toNat, 0]

def k1_chk156 (v2195 : BitVec 32) : Prop :=
  (8 ∣ (k1_mult156 v2195).toNat) ∧
  (∀ a, (k1_off156 v2195) a + S8x128.size a ≤ S12800x128.size a)
theorem k1_mult156_dvd : ∀ (v2195 : BitVec 32) (k1_hw156 : k1_chk156 v2195), 8 ∣ (k1_mult156 v2195).toNat := fun v2195 k1_hw156 => k1_hw156.1
theorem k1_off156_inb : ∀ (v2195 : BitVec 32) (k1_hw156 : k1_chk156 v2195), ∀ a, (k1_off156 v2195) a + S8x128.size a ≤ S12800x128.size a := fun v2195 k1_hw156 => k1_hw156.2

def k1_mult157 (v2209 : BitVec 32) : BitVec 32 :=
  let c3_i32_1260 : BitVec 32 := 3#32
  let v2210 : BitVec 32 := Scalar.shrsi v2209 c3_i32_1260
  let c3_i32_1261 : BitVec 32 := 3#32
  let v2211 : BitVec 32 := Scalar.shli v2210 c3_i32_1261
  v2211

def k1_off157 (v2209 : BitVec 32) : Fin 2 → Nat :=
  let c3_i32_1260 : BitVec 32 := 3#32
  let v2210 : BitVec 32 := Scalar.shrsi v2209 c3_i32_1260
  let c3_i32_1261 : BitVec 32 := 3#32
  let v2211 : BitVec 32 := Scalar.shli v2210 c3_i32_1261
  let v2212 : BitVec 32 := v2211
  let v2213 : Index := Scalar.indexCast v2212
  let c0_1262 : Index := 0#32
  ![v2213.toNat, 0]

def k1_chk157 (v2209 : BitVec 32) : Prop :=
  (8 ∣ (k1_mult157 v2209).toNat) ∧
  (∀ a, (k1_off157 v2209) a + S8x128.size a ≤ S12800x128.size a)
theorem k1_mult157_dvd : ∀ (v2209 : BitVec 32) (k1_hw157 : k1_chk157 v2209), 8 ∣ (k1_mult157 v2209).toNat := fun v2209 k1_hw157 => k1_hw157.1
theorem k1_off157_inb : ∀ (v2209 : BitVec 32) (k1_hw157 : k1_chk157 v2209), ∀ a, (k1_off157 v2209) a + S8x128.size a ≤ S12800x128.size a := fun v2209 k1_hw157 => k1_hw157.2

def k1_mult158 (v2223 : BitVec 32) : BitVec 32 :=
  let c3_i32_1268 : BitVec 32 := 3#32
  let v2224 : BitVec 32 := Scalar.shrsi v2223 c3_i32_1268
  let c3_i32_1269 : BitVec 32 := 3#32
  let v2225 : BitVec 32 := Scalar.shli v2224 c3_i32_1269
  v2225

def k1_off158 (v2223 : BitVec 32) : Fin 2 → Nat :=
  let c3_i32_1268 : BitVec 32 := 3#32
  let v2224 : BitVec 32 := Scalar.shrsi v2223 c3_i32_1268
  let c3_i32_1269 : BitVec 32 := 3#32
  let v2225 : BitVec 32 := Scalar.shli v2224 c3_i32_1269
  let v2226 : BitVec 32 := v2225
  let v2227 : Index := Scalar.indexCast v2226
  let c0_1270 : Index := 0#32
  ![v2227.toNat, 0]

def k1_chk158 (v2223 : BitVec 32) : Prop :=
  (8 ∣ (k1_mult158 v2223).toNat) ∧
  (∀ a, (k1_off158 v2223) a + S8x128.size a ≤ S12800x128.size a)
theorem k1_mult158_dvd : ∀ (v2223 : BitVec 32) (k1_hw158 : k1_chk158 v2223), 8 ∣ (k1_mult158 v2223).toNat := fun v2223 k1_hw158 => k1_hw158.1
theorem k1_off158_inb : ∀ (v2223 : BitVec 32) (k1_hw158 : k1_chk158 v2223), ∀ a, (k1_off158 v2223) a + S8x128.size a ≤ S12800x128.size a := fun v2223 k1_hw158 => k1_hw158.2

def k1_mult159 (v2237 : BitVec 32) : BitVec 32 :=
  let c3_i32_1276 : BitVec 32 := 3#32
  let v2238 : BitVec 32 := Scalar.shrsi v2237 c3_i32_1276
  let c3_i32_1277 : BitVec 32 := 3#32
  let v2239 : BitVec 32 := Scalar.shli v2238 c3_i32_1277
  v2239

def k1_off159 (v2237 : BitVec 32) : Fin 2 → Nat :=
  let c3_i32_1276 : BitVec 32 := 3#32
  let v2238 : BitVec 32 := Scalar.shrsi v2237 c3_i32_1276
  let c3_i32_1277 : BitVec 32 := 3#32
  let v2239 : BitVec 32 := Scalar.shli v2238 c3_i32_1277
  let v2240 : BitVec 32 := v2239
  let v2241 : Index := Scalar.indexCast v2240
  let c0_1278 : Index := 0#32
  ![v2241.toNat, 0]

def k1_chk159 (v2237 : BitVec 32) : Prop :=
  (8 ∣ (k1_mult159 v2237).toNat) ∧
  (∀ a, (k1_off159 v2237) a + S8x128.size a ≤ S12800x128.size a)
theorem k1_mult159_dvd : ∀ (v2237 : BitVec 32) (k1_hw159 : k1_chk159 v2237), 8 ∣ (k1_mult159 v2237).toNat := fun v2237 k1_hw159 => k1_hw159.1
theorem k1_off159_inb : ∀ (v2237 : BitVec 32) (k1_hw159 : k1_chk159 v2237), ∀ a, (k1_off159 v2237) a + S8x128.size a ≤ S12800x128.size a := fun v2237 k1_hw159 => k1_hw159.2

def k1_mult160 (v2251 : BitVec 32) : BitVec 32 :=
  let c3_i32_1284 : BitVec 32 := 3#32
  let v2252 : BitVec 32 := Scalar.shrsi v2251 c3_i32_1284
  let c3_i32_1285 : BitVec 32 := 3#32
  let v2253 : BitVec 32 := Scalar.shli v2252 c3_i32_1285
  v2253

def k1_off160 (v2251 : BitVec 32) : Fin 2 → Nat :=
  let c3_i32_1284 : BitVec 32 := 3#32
  let v2252 : BitVec 32 := Scalar.shrsi v2251 c3_i32_1284
  let c3_i32_1285 : BitVec 32 := 3#32
  let v2253 : BitVec 32 := Scalar.shli v2252 c3_i32_1285
  let v2254 : BitVec 32 := v2253
  let v2255 : Index := Scalar.indexCast v2254
  let c0_1286 : Index := 0#32
  ![v2255.toNat, 0]

def k1_chk160 (v2251 : BitVec 32) : Prop :=
  (8 ∣ (k1_mult160 v2251).toNat) ∧
  (∀ a, (k1_off160 v2251) a + S8x128.size a ≤ S12800x128.size a)
theorem k1_mult160_dvd : ∀ (v2251 : BitVec 32) (k1_hw160 : k1_chk160 v2251), 8 ∣ (k1_mult160 v2251).toNat := fun v2251 k1_hw160 => k1_hw160.1
theorem k1_off160_inb : ∀ (v2251 : BitVec 32) (k1_hw160 : k1_chk160 v2251), ∀ a, (k1_off160 v2251) a + S8x128.size a ≤ S12800x128.size a := fun v2251 k1_hw160 => k1_hw160.2

def k1_mult161 (v2265 : BitVec 32) : BitVec 32 :=
  let c3_i32_1292 : BitVec 32 := 3#32
  let v2266 : BitVec 32 := Scalar.shrsi v2265 c3_i32_1292
  let c3_i32_1293 : BitVec 32 := 3#32
  let v2267 : BitVec 32 := Scalar.shli v2266 c3_i32_1293
  v2267

def k1_off161 (v2265 : BitVec 32) : Fin 2 → Nat :=
  let c3_i32_1292 : BitVec 32 := 3#32
  let v2266 : BitVec 32 := Scalar.shrsi v2265 c3_i32_1292
  let c3_i32_1293 : BitVec 32 := 3#32
  let v2267 : BitVec 32 := Scalar.shli v2266 c3_i32_1293
  let v2268 : BitVec 32 := v2267
  let v2269 : Index := Scalar.indexCast v2268
  let c0_1294 : Index := 0#32
  ![v2269.toNat, 0]

def k1_chk161 (v2265 : BitVec 32) : Prop :=
  (8 ∣ (k1_mult161 v2265).toNat) ∧
  (∀ a, (k1_off161 v2265) a + S8x128.size a ≤ S12800x128.size a)
theorem k1_mult161_dvd : ∀ (v2265 : BitVec 32) (k1_hw161 : k1_chk161 v2265), 8 ∣ (k1_mult161 v2265).toNat := fun v2265 k1_hw161 => k1_hw161.1
theorem k1_off161_inb : ∀ (v2265 : BitVec 32) (k1_hw161 : k1_chk161 v2265), ∀ a, (k1_off161 v2265) a + S8x128.size a ≤ S12800x128.size a := fun v2265 k1_hw161 => k1_hw161.2

def k1_mult162 (v2279 : BitVec 32) : BitVec 32 :=
  let c3_i32_1300 : BitVec 32 := 3#32
  let v2280 : BitVec 32 := Scalar.shrsi v2279 c3_i32_1300
  let c3_i32_1301 : BitVec 32 := 3#32
  let v2281 : BitVec 32 := Scalar.shli v2280 c3_i32_1301
  v2281

def k1_off162 (v2279 : BitVec 32) : Fin 2 → Nat :=
  let c3_i32_1300 : BitVec 32 := 3#32
  let v2280 : BitVec 32 := Scalar.shrsi v2279 c3_i32_1300
  let c3_i32_1301 : BitVec 32 := 3#32
  let v2281 : BitVec 32 := Scalar.shli v2280 c3_i32_1301
  let v2282 : BitVec 32 := v2281
  let v2283 : Index := Scalar.indexCast v2282
  let c0_1302 : Index := 0#32
  ![v2283.toNat, 0]

def k1_chk162 (v2279 : BitVec 32) : Prop :=
  (8 ∣ (k1_mult162 v2279).toNat) ∧
  (∀ a, (k1_off162 v2279) a + S8x128.size a ≤ S12800x128.size a)
theorem k1_mult162_dvd : ∀ (v2279 : BitVec 32) (k1_hw162 : k1_chk162 v2279), 8 ∣ (k1_mult162 v2279).toNat := fun v2279 k1_hw162 => k1_hw162.1
theorem k1_off162_inb : ∀ (v2279 : BitVec 32) (k1_hw162 : k1_chk162 v2279), ∀ a, (k1_off162 v2279) a + S8x128.size a ≤ S12800x128.size a := fun v2279 k1_hw162 => k1_hw162.2

def k1_mult163 (v2293 : BitVec 32) : BitVec 32 :=
  let c3_i32_1308 : BitVec 32 := 3#32
  let v2294 : BitVec 32 := Scalar.shrsi v2293 c3_i32_1308
  let c3_i32_1309 : BitVec 32 := 3#32
  let v2295 : BitVec 32 := Scalar.shli v2294 c3_i32_1309
  v2295

def k1_off163 (v2293 : BitVec 32) : Fin 2 → Nat :=
  let c3_i32_1308 : BitVec 32 := 3#32
  let v2294 : BitVec 32 := Scalar.shrsi v2293 c3_i32_1308
  let c3_i32_1309 : BitVec 32 := 3#32
  let v2295 : BitVec 32 := Scalar.shli v2294 c3_i32_1309
  let v2296 : BitVec 32 := v2295
  let v2297 : Index := Scalar.indexCast v2296
  let c0_1310 : Index := 0#32
  ![v2297.toNat, 0]

def k1_chk163 (v2293 : BitVec 32) : Prop :=
  (8 ∣ (k1_mult163 v2293).toNat) ∧
  (∀ a, (k1_off163 v2293) a + S8x128.size a ≤ S12800x128.size a)
theorem k1_mult163_dvd : ∀ (v2293 : BitVec 32) (k1_hw163 : k1_chk163 v2293), 8 ∣ (k1_mult163 v2293).toNat := fun v2293 k1_hw163 => k1_hw163.1
theorem k1_off163_inb : ∀ (v2293 : BitVec 32) (k1_hw163 : k1_chk163 v2293), ∀ a, (k1_off163 v2293) a + S8x128.size a ≤ S12800x128.size a := fun v2293 k1_hw163 => k1_hw163.2

def k1_mult164 (v2307 : BitVec 32) : BitVec 32 :=
  let c3_i32_1316 : BitVec 32 := 3#32
  let v2308 : BitVec 32 := Scalar.shrsi v2307 c3_i32_1316
  let c3_i32_1317 : BitVec 32 := 3#32
  let v2309 : BitVec 32 := Scalar.shli v2308 c3_i32_1317
  v2309

def k1_off164 (v2307 : BitVec 32) : Fin 2 → Nat :=
  let c3_i32_1316 : BitVec 32 := 3#32
  let v2308 : BitVec 32 := Scalar.shrsi v2307 c3_i32_1316
  let c3_i32_1317 : BitVec 32 := 3#32
  let v2309 : BitVec 32 := Scalar.shli v2308 c3_i32_1317
  let v2310 : BitVec 32 := v2309
  let v2311 : Index := Scalar.indexCast v2310
  let c0_1318 : Index := 0#32
  ![v2311.toNat, 0]

def k1_chk164 (v2307 : BitVec 32) : Prop :=
  (8 ∣ (k1_mult164 v2307).toNat) ∧
  (∀ a, (k1_off164 v2307) a + S8x128.size a ≤ S12800x128.size a)
theorem k1_mult164_dvd : ∀ (v2307 : BitVec 32) (k1_hw164 : k1_chk164 v2307), 8 ∣ (k1_mult164 v2307).toNat := fun v2307 k1_hw164 => k1_hw164.1
theorem k1_off164_inb : ∀ (v2307 : BitVec 32) (k1_hw164 : k1_chk164 v2307), ∀ a, (k1_off164 v2307) a + S8x128.size a ≤ S12800x128.size a := fun v2307 k1_hw164 => k1_hw164.2

def k1_mult165 (v2321 : BitVec 32) : BitVec 32 :=
  let c3_i32_1324 : BitVec 32 := 3#32
  let v2322 : BitVec 32 := Scalar.shrsi v2321 c3_i32_1324
  let c3_i32_1325 : BitVec 32 := 3#32
  let v2323 : BitVec 32 := Scalar.shli v2322 c3_i32_1325
  v2323

def k1_off165 (v2321 : BitVec 32) : Fin 2 → Nat :=
  let c3_i32_1324 : BitVec 32 := 3#32
  let v2322 : BitVec 32 := Scalar.shrsi v2321 c3_i32_1324
  let c3_i32_1325 : BitVec 32 := 3#32
  let v2323 : BitVec 32 := Scalar.shli v2322 c3_i32_1325
  let v2324 : BitVec 32 := v2323
  let v2325 : Index := Scalar.indexCast v2324
  let c0_1326 : Index := 0#32
  ![v2325.toNat, 0]

def k1_chk165 (v2321 : BitVec 32) : Prop :=
  (8 ∣ (k1_mult165 v2321).toNat) ∧
  (∀ a, (k1_off165 v2321) a + S8x128.size a ≤ S12800x128.size a)
theorem k1_mult165_dvd : ∀ (v2321 : BitVec 32) (k1_hw165 : k1_chk165 v2321), 8 ∣ (k1_mult165 v2321).toNat := fun v2321 k1_hw165 => k1_hw165.1
theorem k1_off165_inb : ∀ (v2321 : BitVec 32) (k1_hw165 : k1_chk165 v2321), ∀ a, (k1_off165 v2321) a + S8x128.size a ≤ S12800x128.size a := fun v2321 k1_hw165 => k1_hw165.2

def k1_mult166 (v2335 : BitVec 32) : BitVec 32 :=
  let c3_i32_1332 : BitVec 32 := 3#32
  let v2336 : BitVec 32 := Scalar.shrsi v2335 c3_i32_1332
  let c3_i32_1333 : BitVec 32 := 3#32
  let v2337 : BitVec 32 := Scalar.shli v2336 c3_i32_1333
  v2337

def k1_off166 (v2335 : BitVec 32) : Fin 2 → Nat :=
  let c3_i32_1332 : BitVec 32 := 3#32
  let v2336 : BitVec 32 := Scalar.shrsi v2335 c3_i32_1332
  let c3_i32_1333 : BitVec 32 := 3#32
  let v2337 : BitVec 32 := Scalar.shli v2336 c3_i32_1333
  let v2338 : BitVec 32 := v2337
  let v2339 : Index := Scalar.indexCast v2338
  let c0_1334 : Index := 0#32
  ![v2339.toNat, 0]

def k1_chk166 (v2335 : BitVec 32) : Prop :=
  (8 ∣ (k1_mult166 v2335).toNat) ∧
  (∀ a, (k1_off166 v2335) a + S8x128.size a ≤ S12800x128.size a)
theorem k1_mult166_dvd : ∀ (v2335 : BitVec 32) (k1_hw166 : k1_chk166 v2335), 8 ∣ (k1_mult166 v2335).toNat := fun v2335 k1_hw166 => k1_hw166.1
theorem k1_off166_inb : ∀ (v2335 : BitVec 32) (k1_hw166 : k1_chk166 v2335), ∀ a, (k1_off166 v2335) a + S8x128.size a ≤ S12800x128.size a := fun v2335 k1_hw166 => k1_hw166.2

def k1_mult167 (v2349 : BitVec 32) : BitVec 32 :=
  let c3_i32_1340 : BitVec 32 := 3#32
  let v2350 : BitVec 32 := Scalar.shrsi v2349 c3_i32_1340
  let c3_i32_1341 : BitVec 32 := 3#32
  let v2351 : BitVec 32 := Scalar.shli v2350 c3_i32_1341
  v2351

def k1_off167 (v2349 : BitVec 32) : Fin 2 → Nat :=
  let c3_i32_1340 : BitVec 32 := 3#32
  let v2350 : BitVec 32 := Scalar.shrsi v2349 c3_i32_1340
  let c3_i32_1341 : BitVec 32 := 3#32
  let v2351 : BitVec 32 := Scalar.shli v2350 c3_i32_1341
  let v2352 : BitVec 32 := v2351
  let v2353 : Index := Scalar.indexCast v2352
  let c0_1342 : Index := 0#32
  ![v2353.toNat, 0]

def k1_chk167 (v2349 : BitVec 32) : Prop :=
  (8 ∣ (k1_mult167 v2349).toNat) ∧
  (∀ a, (k1_off167 v2349) a + S8x128.size a ≤ S12800x128.size a)
theorem k1_mult167_dvd : ∀ (v2349 : BitVec 32) (k1_hw167 : k1_chk167 v2349), 8 ∣ (k1_mult167 v2349).toNat := fun v2349 k1_hw167 => k1_hw167.1
theorem k1_off167_inb : ∀ (v2349 : BitVec 32) (k1_hw167 : k1_chk167 v2349), ∀ a, (k1_off167 v2349) a + S8x128.size a ≤ S12800x128.size a := fun v2349 k1_hw167 => k1_hw167.2

def k1_mult168 (v2363 : BitVec 32) : BitVec 32 :=
  let c3_i32_1348 : BitVec 32 := 3#32
  let v2364 : BitVec 32 := Scalar.shrsi v2363 c3_i32_1348
  let c3_i32_1349 : BitVec 32 := 3#32
  let v2365 : BitVec 32 := Scalar.shli v2364 c3_i32_1349
  v2365

def k1_off168 (v2363 : BitVec 32) : Fin 2 → Nat :=
  let c3_i32_1348 : BitVec 32 := 3#32
  let v2364 : BitVec 32 := Scalar.shrsi v2363 c3_i32_1348
  let c3_i32_1349 : BitVec 32 := 3#32
  let v2365 : BitVec 32 := Scalar.shli v2364 c3_i32_1349
  let v2366 : BitVec 32 := v2365
  let v2367 : Index := Scalar.indexCast v2366
  let c0_1350 : Index := 0#32
  ![v2367.toNat, 0]

def k1_chk168 (v2363 : BitVec 32) : Prop :=
  (8 ∣ (k1_mult168 v2363).toNat) ∧
  (∀ a, (k1_off168 v2363) a + S8x128.size a ≤ S12800x128.size a)
theorem k1_mult168_dvd : ∀ (v2363 : BitVec 32) (k1_hw168 : k1_chk168 v2363), 8 ∣ (k1_mult168 v2363).toNat := fun v2363 k1_hw168 => k1_hw168.1
theorem k1_off168_inb : ∀ (v2363 : BitVec 32) (k1_hw168 : k1_chk168 v2363), ∀ a, (k1_off168 v2363) a + S8x128.size a ≤ S12800x128.size a := fun v2363 k1_hw168 => k1_hw168.2

def k1_mult169 (v2377 : BitVec 32) : BitVec 32 :=
  let c3_i32_1356 : BitVec 32 := 3#32
  let v2378 : BitVec 32 := Scalar.shrsi v2377 c3_i32_1356
  let c3_i32_1357 : BitVec 32 := 3#32
  let v2379 : BitVec 32 := Scalar.shli v2378 c3_i32_1357
  v2379

def k1_off169 (v2377 : BitVec 32) : Fin 2 → Nat :=
  let c3_i32_1356 : BitVec 32 := 3#32
  let v2378 : BitVec 32 := Scalar.shrsi v2377 c3_i32_1356
  let c3_i32_1357 : BitVec 32 := 3#32
  let v2379 : BitVec 32 := Scalar.shli v2378 c3_i32_1357
  let v2380 : BitVec 32 := v2379
  let v2381 : Index := Scalar.indexCast v2380
  let c0_1358 : Index := 0#32
  ![v2381.toNat, 0]

def k1_chk169 (v2377 : BitVec 32) : Prop :=
  (8 ∣ (k1_mult169 v2377).toNat) ∧
  (∀ a, (k1_off169 v2377) a + S8x128.size a ≤ S12800x128.size a)
theorem k1_mult169_dvd : ∀ (v2377 : BitVec 32) (k1_hw169 : k1_chk169 v2377), 8 ∣ (k1_mult169 v2377).toNat := fun v2377 k1_hw169 => k1_hw169.1
theorem k1_off169_inb : ∀ (v2377 : BitVec 32) (k1_hw169 : k1_chk169 v2377), ∀ a, (k1_off169 v2377) a + S8x128.size a ≤ S12800x128.size a := fun v2377 k1_hw169 => k1_hw169.2

def k1_mult170 (v2391 : BitVec 32) : BitVec 32 :=
  let c3_i32_1364 : BitVec 32 := 3#32
  let v2392 : BitVec 32 := Scalar.shrsi v2391 c3_i32_1364
  let c3_i32_1365 : BitVec 32 := 3#32
  let v2393 : BitVec 32 := Scalar.shli v2392 c3_i32_1365
  v2393

def k1_off170 (v2391 : BitVec 32) : Fin 2 → Nat :=
  let c3_i32_1364 : BitVec 32 := 3#32
  let v2392 : BitVec 32 := Scalar.shrsi v2391 c3_i32_1364
  let c3_i32_1365 : BitVec 32 := 3#32
  let v2393 : BitVec 32 := Scalar.shli v2392 c3_i32_1365
  let v2394 : BitVec 32 := v2393
  let v2395 : Index := Scalar.indexCast v2394
  let c0_1366 : Index := 0#32
  ![v2395.toNat, 0]

def k1_chk170 (v2391 : BitVec 32) : Prop :=
  (8 ∣ (k1_mult170 v2391).toNat) ∧
  (∀ a, (k1_off170 v2391) a + S8x128.size a ≤ S12800x128.size a)
theorem k1_mult170_dvd : ∀ (v2391 : BitVec 32) (k1_hw170 : k1_chk170 v2391), 8 ∣ (k1_mult170 v2391).toNat := fun v2391 k1_hw170 => k1_hw170.1
theorem k1_off170_inb : ∀ (v2391 : BitVec 32) (k1_hw170 : k1_chk170 v2391), ∀ a, (k1_off170 v2391) a + S8x128.size a ≤ S12800x128.size a := fun v2391 k1_hw170 => k1_hw170.2

def k1_mult171 (v2405 : BitVec 32) : BitVec 32 :=
  let c3_i32_1372 : BitVec 32 := 3#32
  let v2406 : BitVec 32 := Scalar.shrsi v2405 c3_i32_1372
  let c3_i32_1373 : BitVec 32 := 3#32
  let v2407 : BitVec 32 := Scalar.shli v2406 c3_i32_1373
  v2407

def k1_off171 (v2405 : BitVec 32) : Fin 2 → Nat :=
  let c3_i32_1372 : BitVec 32 := 3#32
  let v2406 : BitVec 32 := Scalar.shrsi v2405 c3_i32_1372
  let c3_i32_1373 : BitVec 32 := 3#32
  let v2407 : BitVec 32 := Scalar.shli v2406 c3_i32_1373
  let v2408 : BitVec 32 := v2407
  let v2409 : Index := Scalar.indexCast v2408
  let c0_1374 : Index := 0#32
  ![v2409.toNat, 0]

def k1_chk171 (v2405 : BitVec 32) : Prop :=
  (8 ∣ (k1_mult171 v2405).toNat) ∧
  (∀ a, (k1_off171 v2405) a + S8x128.size a ≤ S12800x128.size a)
theorem k1_mult171_dvd : ∀ (v2405 : BitVec 32) (k1_hw171 : k1_chk171 v2405), 8 ∣ (k1_mult171 v2405).toNat := fun v2405 k1_hw171 => k1_hw171.1
theorem k1_off171_inb : ∀ (v2405 : BitVec 32) (k1_hw171 : k1_chk171 v2405), ∀ a, (k1_off171 v2405) a + S8x128.size a ≤ S12800x128.size a := fun v2405 k1_hw171 => k1_hw171.2

def k1_mult172 (v2419 : BitVec 32) : BitVec 32 :=
  let c3_i32_1380 : BitVec 32 := 3#32
  let v2420 : BitVec 32 := Scalar.shrsi v2419 c3_i32_1380
  let c3_i32_1381 : BitVec 32 := 3#32
  let v2421 : BitVec 32 := Scalar.shli v2420 c3_i32_1381
  v2421

def k1_off172 (v2419 : BitVec 32) : Fin 2 → Nat :=
  let c3_i32_1380 : BitVec 32 := 3#32
  let v2420 : BitVec 32 := Scalar.shrsi v2419 c3_i32_1380
  let c3_i32_1381 : BitVec 32 := 3#32
  let v2421 : BitVec 32 := Scalar.shli v2420 c3_i32_1381
  let v2422 : BitVec 32 := v2421
  let v2423 : Index := Scalar.indexCast v2422
  let c0_1382 : Index := 0#32
  ![v2423.toNat, 0]

def k1_chk172 (v2419 : BitVec 32) : Prop :=
  (8 ∣ (k1_mult172 v2419).toNat) ∧
  (∀ a, (k1_off172 v2419) a + S8x128.size a ≤ S12800x128.size a)
theorem k1_mult172_dvd : ∀ (v2419 : BitVec 32) (k1_hw172 : k1_chk172 v2419), 8 ∣ (k1_mult172 v2419).toNat := fun v2419 k1_hw172 => k1_hw172.1
theorem k1_off172_inb : ∀ (v2419 : BitVec 32) (k1_hw172 : k1_chk172 v2419), ∀ a, (k1_off172 v2419) a + S8x128.size a ≤ S12800x128.size a := fun v2419 k1_hw172 => k1_hw172.2

def k1_mult173 (v2433 : BitVec 32) : BitVec 32 :=
  let c3_i32_1388 : BitVec 32 := 3#32
  let v2434 : BitVec 32 := Scalar.shrsi v2433 c3_i32_1388
  let c3_i32_1389 : BitVec 32 := 3#32
  let v2435 : BitVec 32 := Scalar.shli v2434 c3_i32_1389
  v2435

def k1_off173 (v2433 : BitVec 32) : Fin 2 → Nat :=
  let c3_i32_1388 : BitVec 32 := 3#32
  let v2434 : BitVec 32 := Scalar.shrsi v2433 c3_i32_1388
  let c3_i32_1389 : BitVec 32 := 3#32
  let v2435 : BitVec 32 := Scalar.shli v2434 c3_i32_1389
  let v2436 : BitVec 32 := v2435
  let v2437 : Index := Scalar.indexCast v2436
  let c0_1390 : Index := 0#32
  ![v2437.toNat, 0]

def k1_chk173 (v2433 : BitVec 32) : Prop :=
  (8 ∣ (k1_mult173 v2433).toNat) ∧
  (∀ a, (k1_off173 v2433) a + S8x128.size a ≤ S12800x128.size a)
theorem k1_mult173_dvd : ∀ (v2433 : BitVec 32) (k1_hw173 : k1_chk173 v2433), 8 ∣ (k1_mult173 v2433).toNat := fun v2433 k1_hw173 => k1_hw173.1
theorem k1_off173_inb : ∀ (v2433 : BitVec 32) (k1_hw173 : k1_chk173 v2433), ∀ a, (k1_off173 v2433) a + S8x128.size a ≤ S12800x128.size a := fun v2433 k1_hw173 => k1_hw173.2

def k1_mult174 (v2447 : BitVec 32) : BitVec 32 :=
  let c3_i32_1396 : BitVec 32 := 3#32
  let v2448 : BitVec 32 := Scalar.shrsi v2447 c3_i32_1396
  let c3_i32_1397 : BitVec 32 := 3#32
  let v2449 : BitVec 32 := Scalar.shli v2448 c3_i32_1397
  v2449

def k1_off174 (v2447 : BitVec 32) : Fin 2 → Nat :=
  let c3_i32_1396 : BitVec 32 := 3#32
  let v2448 : BitVec 32 := Scalar.shrsi v2447 c3_i32_1396
  let c3_i32_1397 : BitVec 32 := 3#32
  let v2449 : BitVec 32 := Scalar.shli v2448 c3_i32_1397
  let v2450 : BitVec 32 := v2449
  let v2451 : Index := Scalar.indexCast v2450
  let c0_1398 : Index := 0#32
  ![v2451.toNat, 0]

def k1_chk174 (v2447 : BitVec 32) : Prop :=
  (8 ∣ (k1_mult174 v2447).toNat) ∧
  (∀ a, (k1_off174 v2447) a + S8x128.size a ≤ S12800x128.size a)
theorem k1_mult174_dvd : ∀ (v2447 : BitVec 32) (k1_hw174 : k1_chk174 v2447), 8 ∣ (k1_mult174 v2447).toNat := fun v2447 k1_hw174 => k1_hw174.1
theorem k1_off174_inb : ∀ (v2447 : BitVec 32) (k1_hw174 : k1_chk174 v2447), ∀ a, (k1_off174 v2447) a + S8x128.size a ≤ S12800x128.size a := fun v2447 k1_hw174 => k1_hw174.2

def k1_mult175 (v2461 : BitVec 32) : BitVec 32 :=
  let c3_i32_1404 : BitVec 32 := 3#32
  let v2462 : BitVec 32 := Scalar.shrsi v2461 c3_i32_1404
  let c3_i32_1405 : BitVec 32 := 3#32
  let v2463 : BitVec 32 := Scalar.shli v2462 c3_i32_1405
  v2463

def k1_off175 (v2461 : BitVec 32) : Fin 2 → Nat :=
  let c3_i32_1404 : BitVec 32 := 3#32
  let v2462 : BitVec 32 := Scalar.shrsi v2461 c3_i32_1404
  let c3_i32_1405 : BitVec 32 := 3#32
  let v2463 : BitVec 32 := Scalar.shli v2462 c3_i32_1405
  let v2464 : BitVec 32 := v2463
  let v2465 : Index := Scalar.indexCast v2464
  let c0_1406 : Index := 0#32
  ![v2465.toNat, 0]

def k1_chk175 (v2461 : BitVec 32) : Prop :=
  (8 ∣ (k1_mult175 v2461).toNat) ∧
  (∀ a, (k1_off175 v2461) a + S8x128.size a ≤ S12800x128.size a)
theorem k1_mult175_dvd : ∀ (v2461 : BitVec 32) (k1_hw175 : k1_chk175 v2461), 8 ∣ (k1_mult175 v2461).toNat := fun v2461 k1_hw175 => k1_hw175.1
theorem k1_off175_inb : ∀ (v2461 : BitVec 32) (k1_hw175 : k1_chk175 v2461), ∀ a, (k1_off175 v2461) a + S8x128.size a ≤ S12800x128.size a := fun v2461 k1_hw175 => k1_hw175.2

def k1_mult176 (v2475 : BitVec 32) : BitVec 32 :=
  let c3_i32_1412 : BitVec 32 := 3#32
  let v2476 : BitVec 32 := Scalar.shrsi v2475 c3_i32_1412
  let c3_i32_1413 : BitVec 32 := 3#32
  let v2477 : BitVec 32 := Scalar.shli v2476 c3_i32_1413
  v2477

def k1_off176 (v2475 : BitVec 32) : Fin 2 → Nat :=
  let c3_i32_1412 : BitVec 32 := 3#32
  let v2476 : BitVec 32 := Scalar.shrsi v2475 c3_i32_1412
  let c3_i32_1413 : BitVec 32 := 3#32
  let v2477 : BitVec 32 := Scalar.shli v2476 c3_i32_1413
  let v2478 : BitVec 32 := v2477
  let v2479 : Index := Scalar.indexCast v2478
  let c0_1414 : Index := 0#32
  ![v2479.toNat, 0]

def k1_chk176 (v2475 : BitVec 32) : Prop :=
  (8 ∣ (k1_mult176 v2475).toNat) ∧
  (∀ a, (k1_off176 v2475) a + S8x128.size a ≤ S12800x128.size a)
theorem k1_mult176_dvd : ∀ (v2475 : BitVec 32) (k1_hw176 : k1_chk176 v2475), 8 ∣ (k1_mult176 v2475).toNat := fun v2475 k1_hw176 => k1_hw176.1
theorem k1_off176_inb : ∀ (v2475 : BitVec 32) (k1_hw176 : k1_chk176 v2475), ∀ a, (k1_off176 v2475) a + S8x128.size a ≤ S12800x128.size a := fun v2475 k1_hw176 => k1_hw176.2

def k1_mult177 (v2489 : BitVec 32) : BitVec 32 :=
  let c3_i32_1420 : BitVec 32 := 3#32
  let v2490 : BitVec 32 := Scalar.shrsi v2489 c3_i32_1420
  let c3_i32_1421 : BitVec 32 := 3#32
  let v2491 : BitVec 32 := Scalar.shli v2490 c3_i32_1421
  v2491

def k1_off177 (v2489 : BitVec 32) : Fin 2 → Nat :=
  let c3_i32_1420 : BitVec 32 := 3#32
  let v2490 : BitVec 32 := Scalar.shrsi v2489 c3_i32_1420
  let c3_i32_1421 : BitVec 32 := 3#32
  let v2491 : BitVec 32 := Scalar.shli v2490 c3_i32_1421
  let v2492 : BitVec 32 := v2491
  let v2493 : Index := Scalar.indexCast v2492
  let c0_1422 : Index := 0#32
  ![v2493.toNat, 0]

def k1_chk177 (v2489 : BitVec 32) : Prop :=
  (8 ∣ (k1_mult177 v2489).toNat) ∧
  (∀ a, (k1_off177 v2489) a + S8x128.size a ≤ S12800x128.size a)
theorem k1_mult177_dvd : ∀ (v2489 : BitVec 32) (k1_hw177 : k1_chk177 v2489), 8 ∣ (k1_mult177 v2489).toNat := fun v2489 k1_hw177 => k1_hw177.1
theorem k1_off177_inb : ∀ (v2489 : BitVec 32) (k1_hw177 : k1_chk177 v2489), ∀ a, (k1_off177 v2489) a + S8x128.size a ≤ S12800x128.size a := fun v2489 k1_hw177 => k1_hw177.2

def k1_mult178 (v2503 : BitVec 32) : BitVec 32 :=
  let c3_i32_1428 : BitVec 32 := 3#32
  let v2504 : BitVec 32 := Scalar.shrsi v2503 c3_i32_1428
  let c3_i32_1429 : BitVec 32 := 3#32
  let v2505 : BitVec 32 := Scalar.shli v2504 c3_i32_1429
  v2505

def k1_off178 (v2503 : BitVec 32) : Fin 2 → Nat :=
  let c3_i32_1428 : BitVec 32 := 3#32
  let v2504 : BitVec 32 := Scalar.shrsi v2503 c3_i32_1428
  let c3_i32_1429 : BitVec 32 := 3#32
  let v2505 : BitVec 32 := Scalar.shli v2504 c3_i32_1429
  let v2506 : BitVec 32 := v2505
  let v2507 : Index := Scalar.indexCast v2506
  let c0_1430 : Index := 0#32
  ![v2507.toNat, 0]

def k1_chk178 (v2503 : BitVec 32) : Prop :=
  (8 ∣ (k1_mult178 v2503).toNat) ∧
  (∀ a, (k1_off178 v2503) a + S8x128.size a ≤ S12800x128.size a)
theorem k1_mult178_dvd : ∀ (v2503 : BitVec 32) (k1_hw178 : k1_chk178 v2503), 8 ∣ (k1_mult178 v2503).toNat := fun v2503 k1_hw178 => k1_hw178.1
theorem k1_off178_inb : ∀ (v2503 : BitVec 32) (k1_hw178 : k1_chk178 v2503), ∀ a, (k1_off178 v2503) a + S8x128.size a ≤ S12800x128.size a := fun v2503 k1_hw178 => k1_hw178.2

def k1_mult179 (v2517 : BitVec 32) : BitVec 32 :=
  let c3_i32_1436 : BitVec 32 := 3#32
  let v2518 : BitVec 32 := Scalar.shrsi v2517 c3_i32_1436
  let c3_i32_1437 : BitVec 32 := 3#32
  let v2519 : BitVec 32 := Scalar.shli v2518 c3_i32_1437
  v2519

def k1_off179 (v2517 : BitVec 32) : Fin 2 → Nat :=
  let c3_i32_1436 : BitVec 32 := 3#32
  let v2518 : BitVec 32 := Scalar.shrsi v2517 c3_i32_1436
  let c3_i32_1437 : BitVec 32 := 3#32
  let v2519 : BitVec 32 := Scalar.shli v2518 c3_i32_1437
  let v2520 : BitVec 32 := v2519
  let v2521 : Index := Scalar.indexCast v2520
  let c0_1438 : Index := 0#32
  ![v2521.toNat, 0]

def k1_chk179 (v2517 : BitVec 32) : Prop :=
  (8 ∣ (k1_mult179 v2517).toNat) ∧
  (∀ a, (k1_off179 v2517) a + S8x128.size a ≤ S12800x128.size a)
theorem k1_mult179_dvd : ∀ (v2517 : BitVec 32) (k1_hw179 : k1_chk179 v2517), 8 ∣ (k1_mult179 v2517).toNat := fun v2517 k1_hw179 => k1_hw179.1
theorem k1_off179_inb : ∀ (v2517 : BitVec 32) (k1_hw179 : k1_chk179 v2517), ∀ a, (k1_off179 v2517) a + S8x128.size a ≤ S12800x128.size a := fun v2517 k1_hw179 => k1_hw179.2

def k1_mult180 (v2531 : BitVec 32) : BitVec 32 :=
  let c3_i32_1444 : BitVec 32 := 3#32
  let v2532 : BitVec 32 := Scalar.shrsi v2531 c3_i32_1444
  let c3_i32_1445 : BitVec 32 := 3#32
  let v2533 : BitVec 32 := Scalar.shli v2532 c3_i32_1445
  v2533

def k1_off180 (v2531 : BitVec 32) : Fin 2 → Nat :=
  let c3_i32_1444 : BitVec 32 := 3#32
  let v2532 : BitVec 32 := Scalar.shrsi v2531 c3_i32_1444
  let c3_i32_1445 : BitVec 32 := 3#32
  let v2533 : BitVec 32 := Scalar.shli v2532 c3_i32_1445
  let v2534 : BitVec 32 := v2533
  let v2535 : Index := Scalar.indexCast v2534
  let c0_1446 : Index := 0#32
  ![v2535.toNat, 0]

def k1_chk180 (v2531 : BitVec 32) : Prop :=
  (8 ∣ (k1_mult180 v2531).toNat) ∧
  (∀ a, (k1_off180 v2531) a + S8x128.size a ≤ S12800x128.size a)
theorem k1_mult180_dvd : ∀ (v2531 : BitVec 32) (k1_hw180 : k1_chk180 v2531), 8 ∣ (k1_mult180 v2531).toNat := fun v2531 k1_hw180 => k1_hw180.1
theorem k1_off180_inb : ∀ (v2531 : BitVec 32) (k1_hw180 : k1_chk180 v2531), ∀ a, (k1_off180 v2531) a + S8x128.size a ≤ S12800x128.size a := fun v2531 k1_hw180 => k1_hw180.2

def k1_mult181 (v2545 : BitVec 32) : BitVec 32 :=
  let c3_i32_1452 : BitVec 32 := 3#32
  let v2546 : BitVec 32 := Scalar.shrsi v2545 c3_i32_1452
  let c3_i32_1453 : BitVec 32 := 3#32
  let v2547 : BitVec 32 := Scalar.shli v2546 c3_i32_1453
  v2547

def k1_off181 (v2545 : BitVec 32) : Fin 2 → Nat :=
  let c3_i32_1452 : BitVec 32 := 3#32
  let v2546 : BitVec 32 := Scalar.shrsi v2545 c3_i32_1452
  let c3_i32_1453 : BitVec 32 := 3#32
  let v2547 : BitVec 32 := Scalar.shli v2546 c3_i32_1453
  let v2548 : BitVec 32 := v2547
  let v2549 : Index := Scalar.indexCast v2548
  let c0_1454 : Index := 0#32
  ![v2549.toNat, 0]

def k1_chk181 (v2545 : BitVec 32) : Prop :=
  (8 ∣ (k1_mult181 v2545).toNat) ∧
  (∀ a, (k1_off181 v2545) a + S8x128.size a ≤ S12800x128.size a)
theorem k1_mult181_dvd : ∀ (v2545 : BitVec 32) (k1_hw181 : k1_chk181 v2545), 8 ∣ (k1_mult181 v2545).toNat := fun v2545 k1_hw181 => k1_hw181.1
theorem k1_off181_inb : ∀ (v2545 : BitVec 32) (k1_hw181 : k1_chk181 v2545), ∀ a, (k1_off181 v2545) a + S8x128.size a ≤ S12800x128.size a := fun v2545 k1_hw181 => k1_hw181.2

def k1_mult182 (v2559 : BitVec 32) : BitVec 32 :=
  let c3_i32_1460 : BitVec 32 := 3#32
  let v2560 : BitVec 32 := Scalar.shrsi v2559 c3_i32_1460
  let c3_i32_1461 : BitVec 32 := 3#32
  let v2561 : BitVec 32 := Scalar.shli v2560 c3_i32_1461
  v2561

def k1_off182 (v2559 : BitVec 32) : Fin 2 → Nat :=
  let c3_i32_1460 : BitVec 32 := 3#32
  let v2560 : BitVec 32 := Scalar.shrsi v2559 c3_i32_1460
  let c3_i32_1461 : BitVec 32 := 3#32
  let v2561 : BitVec 32 := Scalar.shli v2560 c3_i32_1461
  let v2562 : BitVec 32 := v2561
  let v2563 : Index := Scalar.indexCast v2562
  let c0_1462 : Index := 0#32
  ![v2563.toNat, 0]

def k1_chk182 (v2559 : BitVec 32) : Prop :=
  (8 ∣ (k1_mult182 v2559).toNat) ∧
  (∀ a, (k1_off182 v2559) a + S8x128.size a ≤ S12800x128.size a)
theorem k1_mult182_dvd : ∀ (v2559 : BitVec 32) (k1_hw182 : k1_chk182 v2559), 8 ∣ (k1_mult182 v2559).toNat := fun v2559 k1_hw182 => k1_hw182.1
theorem k1_off182_inb : ∀ (v2559 : BitVec 32) (k1_hw182 : k1_chk182 v2559), ∀ a, (k1_off182 v2559) a + S8x128.size a ≤ S12800x128.size a := fun v2559 k1_hw182 => k1_hw182.2

def k1_mult183 (v2573 : BitVec 32) : BitVec 32 :=
  let c3_i32_1468 : BitVec 32 := 3#32
  let v2574 : BitVec 32 := Scalar.shrsi v2573 c3_i32_1468
  let c3_i32_1469 : BitVec 32 := 3#32
  let v2575 : BitVec 32 := Scalar.shli v2574 c3_i32_1469
  v2575

def k1_off183 (v2573 : BitVec 32) : Fin 2 → Nat :=
  let c3_i32_1468 : BitVec 32 := 3#32
  let v2574 : BitVec 32 := Scalar.shrsi v2573 c3_i32_1468
  let c3_i32_1469 : BitVec 32 := 3#32
  let v2575 : BitVec 32 := Scalar.shli v2574 c3_i32_1469
  let v2576 : BitVec 32 := v2575
  let v2577 : Index := Scalar.indexCast v2576
  let c0_1470 : Index := 0#32
  ![v2577.toNat, 0]

def k1_chk183 (v2573 : BitVec 32) : Prop :=
  (8 ∣ (k1_mult183 v2573).toNat) ∧
  (∀ a, (k1_off183 v2573) a + S8x128.size a ≤ S12800x128.size a)
theorem k1_mult183_dvd : ∀ (v2573 : BitVec 32) (k1_hw183 : k1_chk183 v2573), 8 ∣ (k1_mult183 v2573).toNat := fun v2573 k1_hw183 => k1_hw183.1
theorem k1_off183_inb : ∀ (v2573 : BitVec 32) (k1_hw183 : k1_chk183 v2573), ∀ a, (k1_off183 v2573) a + S8x128.size a ≤ S12800x128.size a := fun v2573 k1_hw183 => k1_hw183.2

def k1_mult184 (v2587 : BitVec 32) : BitVec 32 :=
  let c3_i32_1476 : BitVec 32 := 3#32
  let v2588 : BitVec 32 := Scalar.shrsi v2587 c3_i32_1476
  let c3_i32_1477 : BitVec 32 := 3#32
  let v2589 : BitVec 32 := Scalar.shli v2588 c3_i32_1477
  v2589

def k1_off184 (v2587 : BitVec 32) : Fin 2 → Nat :=
  let c3_i32_1476 : BitVec 32 := 3#32
  let v2588 : BitVec 32 := Scalar.shrsi v2587 c3_i32_1476
  let c3_i32_1477 : BitVec 32 := 3#32
  let v2589 : BitVec 32 := Scalar.shli v2588 c3_i32_1477
  let v2590 : BitVec 32 := v2589
  let v2591 : Index := Scalar.indexCast v2590
  let c0_1478 : Index := 0#32
  ![v2591.toNat, 0]

def k1_chk184 (v2587 : BitVec 32) : Prop :=
  (8 ∣ (k1_mult184 v2587).toNat) ∧
  (∀ a, (k1_off184 v2587) a + S8x128.size a ≤ S12800x128.size a)
theorem k1_mult184_dvd : ∀ (v2587 : BitVec 32) (k1_hw184 : k1_chk184 v2587), 8 ∣ (k1_mult184 v2587).toNat := fun v2587 k1_hw184 => k1_hw184.1
theorem k1_off184_inb : ∀ (v2587 : BitVec 32) (k1_hw184 : k1_chk184 v2587), ∀ a, (k1_off184 v2587) a + S8x128.size a ≤ S12800x128.size a := fun v2587 k1_hw184 => k1_hw184.2

def k1_mult185 (v2601 : BitVec 32) : BitVec 32 :=
  let c3_i32_1484 : BitVec 32 := 3#32
  let v2602 : BitVec 32 := Scalar.shrsi v2601 c3_i32_1484
  let c3_i32_1485 : BitVec 32 := 3#32
  let v2603 : BitVec 32 := Scalar.shli v2602 c3_i32_1485
  v2603

def k1_off185 (v2601 : BitVec 32) : Fin 2 → Nat :=
  let c3_i32_1484 : BitVec 32 := 3#32
  let v2602 : BitVec 32 := Scalar.shrsi v2601 c3_i32_1484
  let c3_i32_1485 : BitVec 32 := 3#32
  let v2603 : BitVec 32 := Scalar.shli v2602 c3_i32_1485
  let v2604 : BitVec 32 := v2603
  let v2605 : Index := Scalar.indexCast v2604
  let c0_1486 : Index := 0#32
  ![v2605.toNat, 0]

def k1_chk185 (v2601 : BitVec 32) : Prop :=
  (8 ∣ (k1_mult185 v2601).toNat) ∧
  (∀ a, (k1_off185 v2601) a + S8x128.size a ≤ S12800x128.size a)
theorem k1_mult185_dvd : ∀ (v2601 : BitVec 32) (k1_hw185 : k1_chk185 v2601), 8 ∣ (k1_mult185 v2601).toNat := fun v2601 k1_hw185 => k1_hw185.1
theorem k1_off185_inb : ∀ (v2601 : BitVec 32) (k1_hw185 : k1_chk185 v2601), ∀ a, (k1_off185 v2601) a + S8x128.size a ≤ S12800x128.size a := fun v2601 k1_hw185 => k1_hw185.2

def k1_mult186 (v2615 : BitVec 32) : BitVec 32 :=
  let c3_i32_1492 : BitVec 32 := 3#32
  let v2616 : BitVec 32 := Scalar.shrsi v2615 c3_i32_1492
  let c3_i32_1493 : BitVec 32 := 3#32
  let v2617 : BitVec 32 := Scalar.shli v2616 c3_i32_1493
  v2617

def k1_off186 (v2615 : BitVec 32) : Fin 2 → Nat :=
  let c3_i32_1492 : BitVec 32 := 3#32
  let v2616 : BitVec 32 := Scalar.shrsi v2615 c3_i32_1492
  let c3_i32_1493 : BitVec 32 := 3#32
  let v2617 : BitVec 32 := Scalar.shli v2616 c3_i32_1493
  let v2618 : BitVec 32 := v2617
  let v2619 : Index := Scalar.indexCast v2618
  let c0_1494 : Index := 0#32
  ![v2619.toNat, 0]

def k1_chk186 (v2615 : BitVec 32) : Prop :=
  (8 ∣ (k1_mult186 v2615).toNat) ∧
  (∀ a, (k1_off186 v2615) a + S8x128.size a ≤ S12800x128.size a)
theorem k1_mult186_dvd : ∀ (v2615 : BitVec 32) (k1_hw186 : k1_chk186 v2615), 8 ∣ (k1_mult186 v2615).toNat := fun v2615 k1_hw186 => k1_hw186.1
theorem k1_off186_inb : ∀ (v2615 : BitVec 32) (k1_hw186 : k1_chk186 v2615), ∀ a, (k1_off186 v2615) a + S8x128.size a ≤ S12800x128.size a := fun v2615 k1_hw186 => k1_hw186.2

def k1_mult187 (v2629 : BitVec 32) : BitVec 32 :=
  let c3_i32_1500 : BitVec 32 := 3#32
  let v2630 : BitVec 32 := Scalar.shrsi v2629 c3_i32_1500
  let c3_i32_1501 : BitVec 32 := 3#32
  let v2631 : BitVec 32 := Scalar.shli v2630 c3_i32_1501
  v2631

def k1_off187 (v2629 : BitVec 32) : Fin 2 → Nat :=
  let c3_i32_1500 : BitVec 32 := 3#32
  let v2630 : BitVec 32 := Scalar.shrsi v2629 c3_i32_1500
  let c3_i32_1501 : BitVec 32 := 3#32
  let v2631 : BitVec 32 := Scalar.shli v2630 c3_i32_1501
  let v2632 : BitVec 32 := v2631
  let v2633 : Index := Scalar.indexCast v2632
  let c0_1502 : Index := 0#32
  ![v2633.toNat, 0]

def k1_chk187 (v2629 : BitVec 32) : Prop :=
  (8 ∣ (k1_mult187 v2629).toNat) ∧
  (∀ a, (k1_off187 v2629) a + S8x128.size a ≤ S12800x128.size a)
theorem k1_mult187_dvd : ∀ (v2629 : BitVec 32) (k1_hw187 : k1_chk187 v2629), 8 ∣ (k1_mult187 v2629).toNat := fun v2629 k1_hw187 => k1_hw187.1
theorem k1_off187_inb : ∀ (v2629 : BitVec 32) (k1_hw187 : k1_chk187 v2629), ∀ a, (k1_off187 v2629) a + S8x128.size a ≤ S12800x128.size a := fun v2629 k1_hw187 => k1_hw187.2

def k1_mult188 (v2643 : BitVec 32) : BitVec 32 :=
  let c3_i32_1508 : BitVec 32 := 3#32
  let v2644 : BitVec 32 := Scalar.shrsi v2643 c3_i32_1508
  let c3_i32_1509 : BitVec 32 := 3#32
  let v2645 : BitVec 32 := Scalar.shli v2644 c3_i32_1509
  v2645

def k1_off188 (v2643 : BitVec 32) : Fin 2 → Nat :=
  let c3_i32_1508 : BitVec 32 := 3#32
  let v2644 : BitVec 32 := Scalar.shrsi v2643 c3_i32_1508
  let c3_i32_1509 : BitVec 32 := 3#32
  let v2645 : BitVec 32 := Scalar.shli v2644 c3_i32_1509
  let v2646 : BitVec 32 := v2645
  let v2647 : Index := Scalar.indexCast v2646
  let c0_1510 : Index := 0#32
  ![v2647.toNat, 0]

def k1_chk188 (v2643 : BitVec 32) : Prop :=
  (8 ∣ (k1_mult188 v2643).toNat) ∧
  (∀ a, (k1_off188 v2643) a + S8x128.size a ≤ S12800x128.size a)
theorem k1_mult188_dvd : ∀ (v2643 : BitVec 32) (k1_hw188 : k1_chk188 v2643), 8 ∣ (k1_mult188 v2643).toNat := fun v2643 k1_hw188 => k1_hw188.1
theorem k1_off188_inb : ∀ (v2643 : BitVec 32) (k1_hw188 : k1_chk188 v2643), ∀ a, (k1_off188 v2643) a + S8x128.size a ≤ S12800x128.size a := fun v2643 k1_hw188 => k1_hw188.2

def k1_mult189 (v2657 : BitVec 32) : BitVec 32 :=
  let c3_i32_1516 : BitVec 32 := 3#32
  let v2658 : BitVec 32 := Scalar.shrsi v2657 c3_i32_1516
  let c3_i32_1517 : BitVec 32 := 3#32
  let v2659 : BitVec 32 := Scalar.shli v2658 c3_i32_1517
  v2659

def k1_off189 (v2657 : BitVec 32) : Fin 2 → Nat :=
  let c3_i32_1516 : BitVec 32 := 3#32
  let v2658 : BitVec 32 := Scalar.shrsi v2657 c3_i32_1516
  let c3_i32_1517 : BitVec 32 := 3#32
  let v2659 : BitVec 32 := Scalar.shli v2658 c3_i32_1517
  let v2660 : BitVec 32 := v2659
  let v2661 : Index := Scalar.indexCast v2660
  let c0_1518 : Index := 0#32
  ![v2661.toNat, 0]

def k1_chk189 (v2657 : BitVec 32) : Prop :=
  (8 ∣ (k1_mult189 v2657).toNat) ∧
  (∀ a, (k1_off189 v2657) a + S8x128.size a ≤ S12800x128.size a)
theorem k1_mult189_dvd : ∀ (v2657 : BitVec 32) (k1_hw189 : k1_chk189 v2657), 8 ∣ (k1_mult189 v2657).toNat := fun v2657 k1_hw189 => k1_hw189.1
theorem k1_off189_inb : ∀ (v2657 : BitVec 32) (k1_hw189 : k1_chk189 v2657), ∀ a, (k1_off189 v2657) a + S8x128.size a ≤ S12800x128.size a := fun v2657 k1_hw189 => k1_hw189.2

def k1_mult190 (v2671 : BitVec 32) : BitVec 32 :=
  let c3_i32_1524 : BitVec 32 := 3#32
  let v2672 : BitVec 32 := Scalar.shrsi v2671 c3_i32_1524
  let c3_i32_1525 : BitVec 32 := 3#32
  let v2673 : BitVec 32 := Scalar.shli v2672 c3_i32_1525
  v2673

def k1_off190 (v2671 : BitVec 32) : Fin 2 → Nat :=
  let c3_i32_1524 : BitVec 32 := 3#32
  let v2672 : BitVec 32 := Scalar.shrsi v2671 c3_i32_1524
  let c3_i32_1525 : BitVec 32 := 3#32
  let v2673 : BitVec 32 := Scalar.shli v2672 c3_i32_1525
  let v2674 : BitVec 32 := v2673
  let v2675 : Index := Scalar.indexCast v2674
  let c0_1526 : Index := 0#32
  ![v2675.toNat, 0]

def k1_chk190 (v2671 : BitVec 32) : Prop :=
  (8 ∣ (k1_mult190 v2671).toNat) ∧
  (∀ a, (k1_off190 v2671) a + S8x128.size a ≤ S12800x128.size a)
theorem k1_mult190_dvd : ∀ (v2671 : BitVec 32) (k1_hw190 : k1_chk190 v2671), 8 ∣ (k1_mult190 v2671).toNat := fun v2671 k1_hw190 => k1_hw190.1
theorem k1_off190_inb : ∀ (v2671 : BitVec 32) (k1_hw190 : k1_chk190 v2671), ∀ a, (k1_off190 v2671) a + S8x128.size a ≤ S12800x128.size a := fun v2671 k1_hw190 => k1_hw190.2

def k1_mult191 (v2685 : BitVec 32) : BitVec 32 :=
  let c3_i32_1532 : BitVec 32 := 3#32
  let v2686 : BitVec 32 := Scalar.shrsi v2685 c3_i32_1532
  let c3_i32_1533 : BitVec 32 := 3#32
  let v2687 : BitVec 32 := Scalar.shli v2686 c3_i32_1533
  v2687

def k1_off191 (v2685 : BitVec 32) : Fin 2 → Nat :=
  let c3_i32_1532 : BitVec 32 := 3#32
  let v2686 : BitVec 32 := Scalar.shrsi v2685 c3_i32_1532
  let c3_i32_1533 : BitVec 32 := 3#32
  let v2687 : BitVec 32 := Scalar.shli v2686 c3_i32_1533
  let v2688 : BitVec 32 := v2687
  let v2689 : Index := Scalar.indexCast v2688
  let c0_1534 : Index := 0#32
  ![v2689.toNat, 0]

def k1_chk191 (v2685 : BitVec 32) : Prop :=
  (8 ∣ (k1_mult191 v2685).toNat) ∧
  (∀ a, (k1_off191 v2685) a + S8x128.size a ≤ S12800x128.size a)
theorem k1_mult191_dvd : ∀ (v2685 : BitVec 32) (k1_hw191 : k1_chk191 v2685), 8 ∣ (k1_mult191 v2685).toNat := fun v2685 k1_hw191 => k1_hw191.1
theorem k1_off191_inb : ∀ (v2685 : BitVec 32) (k1_hw191 : k1_chk191 v2685), ∀ a, (k1_off191 v2685) a + S8x128.size a ≤ S12800x128.size a := fun v2685 k1_hw191 => k1_hw191.2

def k1_mult192 (v2699 : BitVec 32) : BitVec 32 :=
  let c3_i32_1540 : BitVec 32 := 3#32
  let v2700 : BitVec 32 := Scalar.shrsi v2699 c3_i32_1540
  let c3_i32_1541 : BitVec 32 := 3#32
  let v2701 : BitVec 32 := Scalar.shli v2700 c3_i32_1541
  v2701

def k1_off192 (v2699 : BitVec 32) : Fin 2 → Nat :=
  let c3_i32_1540 : BitVec 32 := 3#32
  let v2700 : BitVec 32 := Scalar.shrsi v2699 c3_i32_1540
  let c3_i32_1541 : BitVec 32 := 3#32
  let v2701 : BitVec 32 := Scalar.shli v2700 c3_i32_1541
  let v2702 : BitVec 32 := v2701
  let v2703 : Index := Scalar.indexCast v2702
  let c0_1542 : Index := 0#32
  ![v2703.toNat, 0]

def k1_chk192 (v2699 : BitVec 32) : Prop :=
  (8 ∣ (k1_mult192 v2699).toNat) ∧
  (∀ a, (k1_off192 v2699) a + S8x128.size a ≤ S12800x128.size a)
theorem k1_mult192_dvd : ∀ (v2699 : BitVec 32) (k1_hw192 : k1_chk192 v2699), 8 ∣ (k1_mult192 v2699).toNat := fun v2699 k1_hw192 => k1_hw192.1
theorem k1_off192_inb : ∀ (v2699 : BitVec 32) (k1_hw192 : k1_chk192 v2699), ∀ a, (k1_off192 v2699) a + S8x128.size a ≤ S12800x128.size a := fun v2699 k1_hw192 => k1_hw192.2

def k1_mult193 (v2713 : BitVec 32) : BitVec 32 :=
  let c3_i32_1548 : BitVec 32 := 3#32
  let v2714 : BitVec 32 := Scalar.shrsi v2713 c3_i32_1548
  let c3_i32_1549 : BitVec 32 := 3#32
  let v2715 : BitVec 32 := Scalar.shli v2714 c3_i32_1549
  v2715

def k1_off193 (v2713 : BitVec 32) : Fin 2 → Nat :=
  let c3_i32_1548 : BitVec 32 := 3#32
  let v2714 : BitVec 32 := Scalar.shrsi v2713 c3_i32_1548
  let c3_i32_1549 : BitVec 32 := 3#32
  let v2715 : BitVec 32 := Scalar.shli v2714 c3_i32_1549
  let v2716 : BitVec 32 := v2715
  let v2717 : Index := Scalar.indexCast v2716
  let c0_1550 : Index := 0#32
  ![v2717.toNat, 0]

def k1_chk193 (v2713 : BitVec 32) : Prop :=
  (8 ∣ (k1_mult193 v2713).toNat) ∧
  (∀ a, (k1_off193 v2713) a + S8x128.size a ≤ S12800x128.size a)
theorem k1_mult193_dvd : ∀ (v2713 : BitVec 32) (k1_hw193 : k1_chk193 v2713), 8 ∣ (k1_mult193 v2713).toNat := fun v2713 k1_hw193 => k1_hw193.1
theorem k1_off193_inb : ∀ (v2713 : BitVec 32) (k1_hw193 : k1_chk193 v2713), ∀ a, (k1_off193 v2713) a + S8x128.size a ≤ S12800x128.size a := fun v2713 k1_hw193 => k1_hw193.2

def k1_mult194 (v2727 : BitVec 32) : BitVec 32 :=
  let c3_i32_1556 : BitVec 32 := 3#32
  let v2728 : BitVec 32 := Scalar.shrsi v2727 c3_i32_1556
  let c3_i32_1557 : BitVec 32 := 3#32
  let v2729 : BitVec 32 := Scalar.shli v2728 c3_i32_1557
  v2729

def k1_off194 (v2727 : BitVec 32) : Fin 2 → Nat :=
  let c3_i32_1556 : BitVec 32 := 3#32
  let v2728 : BitVec 32 := Scalar.shrsi v2727 c3_i32_1556
  let c3_i32_1557 : BitVec 32 := 3#32
  let v2729 : BitVec 32 := Scalar.shli v2728 c3_i32_1557
  let v2730 : BitVec 32 := v2729
  let v2731 : Index := Scalar.indexCast v2730
  let c0_1558 : Index := 0#32
  ![v2731.toNat, 0]

def k1_chk194 (v2727 : BitVec 32) : Prop :=
  (8 ∣ (k1_mult194 v2727).toNat) ∧
  (∀ a, (k1_off194 v2727) a + S8x128.size a ≤ S12800x128.size a)
theorem k1_mult194_dvd : ∀ (v2727 : BitVec 32) (k1_hw194 : k1_chk194 v2727), 8 ∣ (k1_mult194 v2727).toNat := fun v2727 k1_hw194 => k1_hw194.1
theorem k1_off194_inb : ∀ (v2727 : BitVec 32) (k1_hw194 : k1_chk194 v2727), ∀ a, (k1_off194 v2727) a + S8x128.size a ≤ S12800x128.size a := fun v2727 k1_hw194 => k1_hw194.2

def k1_mult195 (v2741 : BitVec 32) : BitVec 32 :=
  let c3_i32_1564 : BitVec 32 := 3#32
  let v2742 : BitVec 32 := Scalar.shrsi v2741 c3_i32_1564
  let c3_i32_1565 : BitVec 32 := 3#32
  let v2743 : BitVec 32 := Scalar.shli v2742 c3_i32_1565
  v2743

def k1_off195 (v2741 : BitVec 32) : Fin 2 → Nat :=
  let c3_i32_1564 : BitVec 32 := 3#32
  let v2742 : BitVec 32 := Scalar.shrsi v2741 c3_i32_1564
  let c3_i32_1565 : BitVec 32 := 3#32
  let v2743 : BitVec 32 := Scalar.shli v2742 c3_i32_1565
  let v2744 : BitVec 32 := v2743
  let v2745 : Index := Scalar.indexCast v2744
  let c0_1566 : Index := 0#32
  ![v2745.toNat, 0]

def k1_chk195 (v2741 : BitVec 32) : Prop :=
  (8 ∣ (k1_mult195 v2741).toNat) ∧
  (∀ a, (k1_off195 v2741) a + S8x128.size a ≤ S12800x128.size a)
theorem k1_mult195_dvd : ∀ (v2741 : BitVec 32) (k1_hw195 : k1_chk195 v2741), 8 ∣ (k1_mult195 v2741).toNat := fun v2741 k1_hw195 => k1_hw195.1
theorem k1_off195_inb : ∀ (v2741 : BitVec 32) (k1_hw195 : k1_chk195 v2741), ∀ a, (k1_off195 v2741) a + S8x128.size a ≤ S12800x128.size a := fun v2741 k1_hw195 => k1_hw195.2

def k1_mult196 (v2755 : BitVec 32) : BitVec 32 :=
  let c3_i32_1572 : BitVec 32 := 3#32
  let v2756 : BitVec 32 := Scalar.shrsi v2755 c3_i32_1572
  let c3_i32_1573 : BitVec 32 := 3#32
  let v2757 : BitVec 32 := Scalar.shli v2756 c3_i32_1573
  v2757

def k1_off196 (v2755 : BitVec 32) : Fin 2 → Nat :=
  let c3_i32_1572 : BitVec 32 := 3#32
  let v2756 : BitVec 32 := Scalar.shrsi v2755 c3_i32_1572
  let c3_i32_1573 : BitVec 32 := 3#32
  let v2757 : BitVec 32 := Scalar.shli v2756 c3_i32_1573
  let v2758 : BitVec 32 := v2757
  let v2759 : Index := Scalar.indexCast v2758
  let c0_1574 : Index := 0#32
  ![v2759.toNat, 0]

def k1_chk196 (v2755 : BitVec 32) : Prop :=
  (8 ∣ (k1_mult196 v2755).toNat) ∧
  (∀ a, (k1_off196 v2755) a + S8x128.size a ≤ S12800x128.size a)
theorem k1_mult196_dvd : ∀ (v2755 : BitVec 32) (k1_hw196 : k1_chk196 v2755), 8 ∣ (k1_mult196 v2755).toNat := fun v2755 k1_hw196 => k1_hw196.1
theorem k1_off196_inb : ∀ (v2755 : BitVec 32) (k1_hw196 : k1_chk196 v2755), ∀ a, (k1_off196 v2755) a + S8x128.size a ≤ S12800x128.size a := fun v2755 k1_hw196 => k1_hw196.2

def k1_mult197 (v2769 : BitVec 32) : BitVec 32 :=
  let c3_i32_1580 : BitVec 32 := 3#32
  let v2770 : BitVec 32 := Scalar.shrsi v2769 c3_i32_1580
  let c3_i32_1581 : BitVec 32 := 3#32
  let v2771 : BitVec 32 := Scalar.shli v2770 c3_i32_1581
  v2771

def k1_off197 (v2769 : BitVec 32) : Fin 2 → Nat :=
  let c3_i32_1580 : BitVec 32 := 3#32
  let v2770 : BitVec 32 := Scalar.shrsi v2769 c3_i32_1580
  let c3_i32_1581 : BitVec 32 := 3#32
  let v2771 : BitVec 32 := Scalar.shli v2770 c3_i32_1581
  let v2772 : BitVec 32 := v2771
  let v2773 : Index := Scalar.indexCast v2772
  let c0_1582 : Index := 0#32
  ![v2773.toNat, 0]

def k1_chk197 (v2769 : BitVec 32) : Prop :=
  (8 ∣ (k1_mult197 v2769).toNat) ∧
  (∀ a, (k1_off197 v2769) a + S8x128.size a ≤ S12800x128.size a)
theorem k1_mult197_dvd : ∀ (v2769 : BitVec 32) (k1_hw197 : k1_chk197 v2769), 8 ∣ (k1_mult197 v2769).toNat := fun v2769 k1_hw197 => k1_hw197.1
theorem k1_off197_inb : ∀ (v2769 : BitVec 32) (k1_hw197 : k1_chk197 v2769), ∀ a, (k1_off197 v2769) a + S8x128.size a ≤ S12800x128.size a := fun v2769 k1_hw197 => k1_hw197.2

def k1_mult198 (v2783 : BitVec 32) : BitVec 32 :=
  let c3_i32_1588 : BitVec 32 := 3#32
  let v2784 : BitVec 32 := Scalar.shrsi v2783 c3_i32_1588
  let c3_i32_1589 : BitVec 32 := 3#32
  let v2785 : BitVec 32 := Scalar.shli v2784 c3_i32_1589
  v2785

def k1_off198 (v2783 : BitVec 32) : Fin 2 → Nat :=
  let c3_i32_1588 : BitVec 32 := 3#32
  let v2784 : BitVec 32 := Scalar.shrsi v2783 c3_i32_1588
  let c3_i32_1589 : BitVec 32 := 3#32
  let v2785 : BitVec 32 := Scalar.shli v2784 c3_i32_1589
  let v2786 : BitVec 32 := v2785
  let v2787 : Index := Scalar.indexCast v2786
  let c0_1590 : Index := 0#32
  ![v2787.toNat, 0]

def k1_chk198 (v2783 : BitVec 32) : Prop :=
  (8 ∣ (k1_mult198 v2783).toNat) ∧
  (∀ a, (k1_off198 v2783) a + S8x128.size a ≤ S12800x128.size a)
theorem k1_mult198_dvd : ∀ (v2783 : BitVec 32) (k1_hw198 : k1_chk198 v2783), 8 ∣ (k1_mult198 v2783).toNat := fun v2783 k1_hw198 => k1_hw198.1
theorem k1_off198_inb : ∀ (v2783 : BitVec 32) (k1_hw198 : k1_chk198 v2783), ∀ a, (k1_off198 v2783) a + S8x128.size a ≤ S12800x128.size a := fun v2783 k1_hw198 => k1_hw198.2

def k1_mult199 (v2797 : BitVec 32) : BitVec 32 :=
  let c3_i32_1596 : BitVec 32 := 3#32
  let v2798 : BitVec 32 := Scalar.shrsi v2797 c3_i32_1596
  let c3_i32_1597 : BitVec 32 := 3#32
  let v2799 : BitVec 32 := Scalar.shli v2798 c3_i32_1597
  v2799

def k1_off199 (v2797 : BitVec 32) : Fin 2 → Nat :=
  let c3_i32_1596 : BitVec 32 := 3#32
  let v2798 : BitVec 32 := Scalar.shrsi v2797 c3_i32_1596
  let c3_i32_1597 : BitVec 32 := 3#32
  let v2799 : BitVec 32 := Scalar.shli v2798 c3_i32_1597
  let v2800 : BitVec 32 := v2799
  let v2801 : Index := Scalar.indexCast v2800
  let c0_1598 : Index := 0#32
  ![v2801.toNat, 0]

def k1_chk199 (v2797 : BitVec 32) : Prop :=
  (8 ∣ (k1_mult199 v2797).toNat) ∧
  (∀ a, (k1_off199 v2797) a + S8x128.size a ≤ S12800x128.size a)
theorem k1_mult199_dvd : ∀ (v2797 : BitVec 32) (k1_hw199 : k1_chk199 v2797), 8 ∣ (k1_mult199 v2797).toNat := fun v2797 k1_hw199 => k1_hw199.1
theorem k1_off199_inb : ∀ (v2797 : BitVec 32) (k1_hw199 : k1_chk199 v2797), ∀ a, (k1_off199 v2797) a + S8x128.size a ≤ S12800x128.size a := fun v2797 k1_hw199 => k1_hw199.2

def k1_mult200 (v2811 : BitVec 32) : BitVec 32 :=
  let c3_i32_1604 : BitVec 32 := 3#32
  let v2812 : BitVec 32 := Scalar.shrsi v2811 c3_i32_1604
  let c3_i32_1605 : BitVec 32 := 3#32
  let v2813 : BitVec 32 := Scalar.shli v2812 c3_i32_1605
  v2813

def k1_off200 (v2811 : BitVec 32) : Fin 2 → Nat :=
  let c3_i32_1604 : BitVec 32 := 3#32
  let v2812 : BitVec 32 := Scalar.shrsi v2811 c3_i32_1604
  let c3_i32_1605 : BitVec 32 := 3#32
  let v2813 : BitVec 32 := Scalar.shli v2812 c3_i32_1605
  let v2814 : BitVec 32 := v2813
  let v2815 : Index := Scalar.indexCast v2814
  let c0_1606 : Index := 0#32
  ![v2815.toNat, 0]

def k1_chk200 (v2811 : BitVec 32) : Prop :=
  (8 ∣ (k1_mult200 v2811).toNat) ∧
  (∀ a, (k1_off200 v2811) a + S8x128.size a ≤ S12800x128.size a)
theorem k1_mult200_dvd : ∀ (v2811 : BitVec 32) (k1_hw200 : k1_chk200 v2811), 8 ∣ (k1_mult200 v2811).toNat := fun v2811 k1_hw200 => k1_hw200.1
theorem k1_off200_inb : ∀ (v2811 : BitVec 32) (k1_hw200 : k1_chk200 v2811), ∀ a, (k1_off200 v2811) a + S8x128.size a ≤ S12800x128.size a := fun v2811 k1_hw200 => k1_hw200.2

def k1_mult201 (v2825 : BitVec 32) : BitVec 32 :=
  let c3_i32_1612 : BitVec 32 := 3#32
  let v2826 : BitVec 32 := Scalar.shrsi v2825 c3_i32_1612
  let c3_i32_1613 : BitVec 32 := 3#32
  let v2827 : BitVec 32 := Scalar.shli v2826 c3_i32_1613
  v2827

def k1_off201 (v2825 : BitVec 32) : Fin 2 → Nat :=
  let c3_i32_1612 : BitVec 32 := 3#32
  let v2826 : BitVec 32 := Scalar.shrsi v2825 c3_i32_1612
  let c3_i32_1613 : BitVec 32 := 3#32
  let v2827 : BitVec 32 := Scalar.shli v2826 c3_i32_1613
  let v2828 : BitVec 32 := v2827
  let v2829 : Index := Scalar.indexCast v2828
  let c0_1614 : Index := 0#32
  ![v2829.toNat, 0]

def k1_chk201 (v2825 : BitVec 32) : Prop :=
  (8 ∣ (k1_mult201 v2825).toNat) ∧
  (∀ a, (k1_off201 v2825) a + S8x128.size a ≤ S12800x128.size a)
theorem k1_mult201_dvd : ∀ (v2825 : BitVec 32) (k1_hw201 : k1_chk201 v2825), 8 ∣ (k1_mult201 v2825).toNat := fun v2825 k1_hw201 => k1_hw201.1
theorem k1_off201_inb : ∀ (v2825 : BitVec 32) (k1_hw201 : k1_chk201 v2825), ∀ a, (k1_off201 v2825) a + S8x128.size a ≤ S12800x128.size a := fun v2825 k1_hw201 => k1_hw201.2

def k1_mult202 (v2839 : BitVec 32) : BitVec 32 :=
  let c3_i32_1620 : BitVec 32 := 3#32
  let v2840 : BitVec 32 := Scalar.shrsi v2839 c3_i32_1620
  let c3_i32_1621 : BitVec 32 := 3#32
  let v2841 : BitVec 32 := Scalar.shli v2840 c3_i32_1621
  v2841

def k1_off202 (v2839 : BitVec 32) : Fin 2 → Nat :=
  let c3_i32_1620 : BitVec 32 := 3#32
  let v2840 : BitVec 32 := Scalar.shrsi v2839 c3_i32_1620
  let c3_i32_1621 : BitVec 32 := 3#32
  let v2841 : BitVec 32 := Scalar.shli v2840 c3_i32_1621
  let v2842 : BitVec 32 := v2841
  let v2843 : Index := Scalar.indexCast v2842
  let c0_1622 : Index := 0#32
  ![v2843.toNat, 0]

def k1_chk202 (v2839 : BitVec 32) : Prop :=
  (8 ∣ (k1_mult202 v2839).toNat) ∧
  (∀ a, (k1_off202 v2839) a + S8x128.size a ≤ S12800x128.size a)
theorem k1_mult202_dvd : ∀ (v2839 : BitVec 32) (k1_hw202 : k1_chk202 v2839), 8 ∣ (k1_mult202 v2839).toNat := fun v2839 k1_hw202 => k1_hw202.1
theorem k1_off202_inb : ∀ (v2839 : BitVec 32) (k1_hw202 : k1_chk202 v2839), ∀ a, (k1_off202 v2839) a + S8x128.size a ≤ S12800x128.size a := fun v2839 k1_hw202 => k1_hw202.2

def k1_mult203 (v2853 : BitVec 32) : BitVec 32 :=
  let c3_i32_1628 : BitVec 32 := 3#32
  let v2854 : BitVec 32 := Scalar.shrsi v2853 c3_i32_1628
  let c3_i32_1629 : BitVec 32 := 3#32
  let v2855 : BitVec 32 := Scalar.shli v2854 c3_i32_1629
  v2855

def k1_off203 (v2853 : BitVec 32) : Fin 2 → Nat :=
  let c3_i32_1628 : BitVec 32 := 3#32
  let v2854 : BitVec 32 := Scalar.shrsi v2853 c3_i32_1628
  let c3_i32_1629 : BitVec 32 := 3#32
  let v2855 : BitVec 32 := Scalar.shli v2854 c3_i32_1629
  let v2856 : BitVec 32 := v2855
  let v2857 : Index := Scalar.indexCast v2856
  let c0_1630 : Index := 0#32
  ![v2857.toNat, 0]

def k1_chk203 (v2853 : BitVec 32) : Prop :=
  (8 ∣ (k1_mult203 v2853).toNat) ∧
  (∀ a, (k1_off203 v2853) a + S8x128.size a ≤ S12800x128.size a)
theorem k1_mult203_dvd : ∀ (v2853 : BitVec 32) (k1_hw203 : k1_chk203 v2853), 8 ∣ (k1_mult203 v2853).toNat := fun v2853 k1_hw203 => k1_hw203.1
theorem k1_off203_inb : ∀ (v2853 : BitVec 32) (k1_hw203 : k1_chk203 v2853), ∀ a, (k1_off203 v2853) a + S8x128.size a ≤ S12800x128.size a := fun v2853 k1_hw203 => k1_hw203.2

def k1_mult204 (v2867 : BitVec 32) : BitVec 32 :=
  let c3_i32_1636 : BitVec 32 := 3#32
  let v2868 : BitVec 32 := Scalar.shrsi v2867 c3_i32_1636
  let c3_i32_1637 : BitVec 32 := 3#32
  let v2869 : BitVec 32 := Scalar.shli v2868 c3_i32_1637
  v2869

def k1_off204 (v2867 : BitVec 32) : Fin 2 → Nat :=
  let c3_i32_1636 : BitVec 32 := 3#32
  let v2868 : BitVec 32 := Scalar.shrsi v2867 c3_i32_1636
  let c3_i32_1637 : BitVec 32 := 3#32
  let v2869 : BitVec 32 := Scalar.shli v2868 c3_i32_1637
  let v2870 : BitVec 32 := v2869
  let v2871 : Index := Scalar.indexCast v2870
  let c0_1638 : Index := 0#32
  ![v2871.toNat, 0]

def k1_chk204 (v2867 : BitVec 32) : Prop :=
  (8 ∣ (k1_mult204 v2867).toNat) ∧
  (∀ a, (k1_off204 v2867) a + S8x128.size a ≤ S12800x128.size a)
theorem k1_mult204_dvd : ∀ (v2867 : BitVec 32) (k1_hw204 : k1_chk204 v2867), 8 ∣ (k1_mult204 v2867).toNat := fun v2867 k1_hw204 => k1_hw204.1
theorem k1_off204_inb : ∀ (v2867 : BitVec 32) (k1_hw204 : k1_chk204 v2867), ∀ a, (k1_off204 v2867) a + S8x128.size a ≤ S12800x128.size a := fun v2867 k1_hw204 => k1_hw204.2

def k1_mult205 (v2881 : BitVec 32) : BitVec 32 :=
  let c3_i32_1644 : BitVec 32 := 3#32
  let v2882 : BitVec 32 := Scalar.shrsi v2881 c3_i32_1644
  let c3_i32_1645 : BitVec 32 := 3#32
  let v2883 : BitVec 32 := Scalar.shli v2882 c3_i32_1645
  v2883

def k1_off205 (v2881 : BitVec 32) : Fin 2 → Nat :=
  let c3_i32_1644 : BitVec 32 := 3#32
  let v2882 : BitVec 32 := Scalar.shrsi v2881 c3_i32_1644
  let c3_i32_1645 : BitVec 32 := 3#32
  let v2883 : BitVec 32 := Scalar.shli v2882 c3_i32_1645
  let v2884 : BitVec 32 := v2883
  let v2885 : Index := Scalar.indexCast v2884
  let c0_1646 : Index := 0#32
  ![v2885.toNat, 0]

def k1_chk205 (v2881 : BitVec 32) : Prop :=
  (8 ∣ (k1_mult205 v2881).toNat) ∧
  (∀ a, (k1_off205 v2881) a + S8x128.size a ≤ S12800x128.size a)
theorem k1_mult205_dvd : ∀ (v2881 : BitVec 32) (k1_hw205 : k1_chk205 v2881), 8 ∣ (k1_mult205 v2881).toNat := fun v2881 k1_hw205 => k1_hw205.1
theorem k1_off205_inb : ∀ (v2881 : BitVec 32) (k1_hw205 : k1_chk205 v2881), ∀ a, (k1_off205 v2881) a + S8x128.size a ≤ S12800x128.size a := fun v2881 k1_hw205 => k1_hw205.2

def k1_mult206 (v2895 : BitVec 32) : BitVec 32 :=
  let c3_i32_1652 : BitVec 32 := 3#32
  let v2896 : BitVec 32 := Scalar.shrsi v2895 c3_i32_1652
  let c3_i32_1653 : BitVec 32 := 3#32
  let v2897 : BitVec 32 := Scalar.shli v2896 c3_i32_1653
  v2897

def k1_off206 (v2895 : BitVec 32) : Fin 2 → Nat :=
  let c3_i32_1652 : BitVec 32 := 3#32
  let v2896 : BitVec 32 := Scalar.shrsi v2895 c3_i32_1652
  let c3_i32_1653 : BitVec 32 := 3#32
  let v2897 : BitVec 32 := Scalar.shli v2896 c3_i32_1653
  let v2898 : BitVec 32 := v2897
  let v2899 : Index := Scalar.indexCast v2898
  let c0_1654 : Index := 0#32
  ![v2899.toNat, 0]

def k1_chk206 (v2895 : BitVec 32) : Prop :=
  (8 ∣ (k1_mult206 v2895).toNat) ∧
  (∀ a, (k1_off206 v2895) a + S8x128.size a ≤ S12800x128.size a)
theorem k1_mult206_dvd : ∀ (v2895 : BitVec 32) (k1_hw206 : k1_chk206 v2895), 8 ∣ (k1_mult206 v2895).toNat := fun v2895 k1_hw206 => k1_hw206.1
theorem k1_off206_inb : ∀ (v2895 : BitVec 32) (k1_hw206 : k1_chk206 v2895), ∀ a, (k1_off206 v2895) a + S8x128.size a ≤ S12800x128.size a := fun v2895 k1_hw206 => k1_hw206.2

def k1_mult207 (v2909 : BitVec 32) : BitVec 32 :=
  let c3_i32_1660 : BitVec 32 := 3#32
  let v2910 : BitVec 32 := Scalar.shrsi v2909 c3_i32_1660
  let c3_i32_1661 : BitVec 32 := 3#32
  let v2911 : BitVec 32 := Scalar.shli v2910 c3_i32_1661
  v2911

def k1_off207 (v2909 : BitVec 32) : Fin 2 → Nat :=
  let c3_i32_1660 : BitVec 32 := 3#32
  let v2910 : BitVec 32 := Scalar.shrsi v2909 c3_i32_1660
  let c3_i32_1661 : BitVec 32 := 3#32
  let v2911 : BitVec 32 := Scalar.shli v2910 c3_i32_1661
  let v2912 : BitVec 32 := v2911
  let v2913 : Index := Scalar.indexCast v2912
  let c0_1662 : Index := 0#32
  ![v2913.toNat, 0]

def k1_chk207 (v2909 : BitVec 32) : Prop :=
  (8 ∣ (k1_mult207 v2909).toNat) ∧
  (∀ a, (k1_off207 v2909) a + S8x128.size a ≤ S12800x128.size a)
theorem k1_mult207_dvd : ∀ (v2909 : BitVec 32) (k1_hw207 : k1_chk207 v2909), 8 ∣ (k1_mult207 v2909).toNat := fun v2909 k1_hw207 => k1_hw207.1
theorem k1_off207_inb : ∀ (v2909 : BitVec 32) (k1_hw207 : k1_chk207 v2909), ∀ a, (k1_off207 v2909) a + S8x128.size a ≤ S12800x128.size a := fun v2909 k1_hw207 => k1_hw207.2

def k1_mult208 (v2923 : BitVec 32) : BitVec 32 :=
  let c3_i32_1668 : BitVec 32 := 3#32
  let v2924 : BitVec 32 := Scalar.shrsi v2923 c3_i32_1668
  let c3_i32_1669 : BitVec 32 := 3#32
  let v2925 : BitVec 32 := Scalar.shli v2924 c3_i32_1669
  v2925

def k1_off208 (v2923 : BitVec 32) : Fin 2 → Nat :=
  let c3_i32_1668 : BitVec 32 := 3#32
  let v2924 : BitVec 32 := Scalar.shrsi v2923 c3_i32_1668
  let c3_i32_1669 : BitVec 32 := 3#32
  let v2925 : BitVec 32 := Scalar.shli v2924 c3_i32_1669
  let v2926 : BitVec 32 := v2925
  let v2927 : Index := Scalar.indexCast v2926
  let c0_1670 : Index := 0#32
  ![v2927.toNat, 0]

def k1_chk208 (v2923 : BitVec 32) : Prop :=
  (8 ∣ (k1_mult208 v2923).toNat) ∧
  (∀ a, (k1_off208 v2923) a + S8x128.size a ≤ S12800x128.size a)
theorem k1_mult208_dvd : ∀ (v2923 : BitVec 32) (k1_hw208 : k1_chk208 v2923), 8 ∣ (k1_mult208 v2923).toNat := fun v2923 k1_hw208 => k1_hw208.1
theorem k1_off208_inb : ∀ (v2923 : BitVec 32) (k1_hw208 : k1_chk208 v2923), ∀ a, (k1_off208 v2923) a + S8x128.size a ≤ S12800x128.size a := fun v2923 k1_hw208 => k1_hw208.2

def k1_mult209 (v2937 : BitVec 32) : BitVec 32 :=
  let c3_i32_1676 : BitVec 32 := 3#32
  let v2938 : BitVec 32 := Scalar.shrsi v2937 c3_i32_1676
  let c3_i32_1677 : BitVec 32 := 3#32
  let v2939 : BitVec 32 := Scalar.shli v2938 c3_i32_1677
  v2939

def k1_off209 (v2937 : BitVec 32) : Fin 2 → Nat :=
  let c3_i32_1676 : BitVec 32 := 3#32
  let v2938 : BitVec 32 := Scalar.shrsi v2937 c3_i32_1676
  let c3_i32_1677 : BitVec 32 := 3#32
  let v2939 : BitVec 32 := Scalar.shli v2938 c3_i32_1677
  let v2940 : BitVec 32 := v2939
  let v2941 : Index := Scalar.indexCast v2940
  let c0_1678 : Index := 0#32
  ![v2941.toNat, 0]

def k1_chk209 (v2937 : BitVec 32) : Prop :=
  (8 ∣ (k1_mult209 v2937).toNat) ∧
  (∀ a, (k1_off209 v2937) a + S8x128.size a ≤ S12800x128.size a)
theorem k1_mult209_dvd : ∀ (v2937 : BitVec 32) (k1_hw209 : k1_chk209 v2937), 8 ∣ (k1_mult209 v2937).toNat := fun v2937 k1_hw209 => k1_hw209.1
theorem k1_off209_inb : ∀ (v2937 : BitVec 32) (k1_hw209 : k1_chk209 v2937), ∀ a, (k1_off209 v2937) a + S8x128.size a ≤ S12800x128.size a := fun v2937 k1_hw209 => k1_hw209.2

def k1_mult210 (v2951 : BitVec 32) : BitVec 32 :=
  let c3_i32_1684 : BitVec 32 := 3#32
  let v2952 : BitVec 32 := Scalar.shrsi v2951 c3_i32_1684
  let c3_i32_1685 : BitVec 32 := 3#32
  let v2953 : BitVec 32 := Scalar.shli v2952 c3_i32_1685
  v2953

def k1_off210 (v2951 : BitVec 32) : Fin 2 → Nat :=
  let c3_i32_1684 : BitVec 32 := 3#32
  let v2952 : BitVec 32 := Scalar.shrsi v2951 c3_i32_1684
  let c3_i32_1685 : BitVec 32 := 3#32
  let v2953 : BitVec 32 := Scalar.shli v2952 c3_i32_1685
  let v2954 : BitVec 32 := v2953
  let v2955 : Index := Scalar.indexCast v2954
  let c0_1686 : Index := 0#32
  ![v2955.toNat, 0]

def k1_chk210 (v2951 : BitVec 32) : Prop :=
  (8 ∣ (k1_mult210 v2951).toNat) ∧
  (∀ a, (k1_off210 v2951) a + S8x128.size a ≤ S12800x128.size a)
theorem k1_mult210_dvd : ∀ (v2951 : BitVec 32) (k1_hw210 : k1_chk210 v2951), 8 ∣ (k1_mult210 v2951).toNat := fun v2951 k1_hw210 => k1_hw210.1
theorem k1_off210_inb : ∀ (v2951 : BitVec 32) (k1_hw210 : k1_chk210 v2951), ∀ a, (k1_off210 v2951) a + S8x128.size a ≤ S12800x128.size a := fun v2951 k1_hw210 => k1_hw210.2

def k1_mult211 (v2965 : BitVec 32) : BitVec 32 :=
  let c3_i32_1692 : BitVec 32 := 3#32
  let v2966 : BitVec 32 := Scalar.shrsi v2965 c3_i32_1692
  let c3_i32_1693 : BitVec 32 := 3#32
  let v2967 : BitVec 32 := Scalar.shli v2966 c3_i32_1693
  v2967

def k1_off211 (v2965 : BitVec 32) : Fin 2 → Nat :=
  let c3_i32_1692 : BitVec 32 := 3#32
  let v2966 : BitVec 32 := Scalar.shrsi v2965 c3_i32_1692
  let c3_i32_1693 : BitVec 32 := 3#32
  let v2967 : BitVec 32 := Scalar.shli v2966 c3_i32_1693
  let v2968 : BitVec 32 := v2967
  let v2969 : Index := Scalar.indexCast v2968
  let c0_1694 : Index := 0#32
  ![v2969.toNat, 0]

def k1_chk211 (v2965 : BitVec 32) : Prop :=
  (8 ∣ (k1_mult211 v2965).toNat) ∧
  (∀ a, (k1_off211 v2965) a + S8x128.size a ≤ S12800x128.size a)
theorem k1_mult211_dvd : ∀ (v2965 : BitVec 32) (k1_hw211 : k1_chk211 v2965), 8 ∣ (k1_mult211 v2965).toNat := fun v2965 k1_hw211 => k1_hw211.1
theorem k1_off211_inb : ∀ (v2965 : BitVec 32) (k1_hw211 : k1_chk211 v2965), ∀ a, (k1_off211 v2965) a + S8x128.size a ≤ S12800x128.size a := fun v2965 k1_hw211 => k1_hw211.2

def k1_mult212 (v2979 : BitVec 32) : BitVec 32 :=
  let c3_i32_1700 : BitVec 32 := 3#32
  let v2980 : BitVec 32 := Scalar.shrsi v2979 c3_i32_1700
  let c3_i32_1701 : BitVec 32 := 3#32
  let v2981 : BitVec 32 := Scalar.shli v2980 c3_i32_1701
  v2981

def k1_off212 (v2979 : BitVec 32) : Fin 2 → Nat :=
  let c3_i32_1700 : BitVec 32 := 3#32
  let v2980 : BitVec 32 := Scalar.shrsi v2979 c3_i32_1700
  let c3_i32_1701 : BitVec 32 := 3#32
  let v2981 : BitVec 32 := Scalar.shli v2980 c3_i32_1701
  let v2982 : BitVec 32 := v2981
  let v2983 : Index := Scalar.indexCast v2982
  let c0_1702 : Index := 0#32
  ![v2983.toNat, 0]

def k1_chk212 (v2979 : BitVec 32) : Prop :=
  (8 ∣ (k1_mult212 v2979).toNat) ∧
  (∀ a, (k1_off212 v2979) a + S8x128.size a ≤ S12800x128.size a)
theorem k1_mult212_dvd : ∀ (v2979 : BitVec 32) (k1_hw212 : k1_chk212 v2979), 8 ∣ (k1_mult212 v2979).toNat := fun v2979 k1_hw212 => k1_hw212.1
theorem k1_off212_inb : ∀ (v2979 : BitVec 32) (k1_hw212 : k1_chk212 v2979), ∀ a, (k1_off212 v2979) a + S8x128.size a ≤ S12800x128.size a := fun v2979 k1_hw212 => k1_hw212.2

def k1_mult213 (v2993 : BitVec 32) : BitVec 32 :=
  let c3_i32_1708 : BitVec 32 := 3#32
  let v2994 : BitVec 32 := Scalar.shrsi v2993 c3_i32_1708
  let c3_i32_1709 : BitVec 32 := 3#32
  let v2995 : BitVec 32 := Scalar.shli v2994 c3_i32_1709
  v2995

def k1_off213 (v2993 : BitVec 32) : Fin 2 → Nat :=
  let c3_i32_1708 : BitVec 32 := 3#32
  let v2994 : BitVec 32 := Scalar.shrsi v2993 c3_i32_1708
  let c3_i32_1709 : BitVec 32 := 3#32
  let v2995 : BitVec 32 := Scalar.shli v2994 c3_i32_1709
  let v2996 : BitVec 32 := v2995
  let v2997 : Index := Scalar.indexCast v2996
  let c0_1710 : Index := 0#32
  ![v2997.toNat, 0]

def k1_chk213 (v2993 : BitVec 32) : Prop :=
  (8 ∣ (k1_mult213 v2993).toNat) ∧
  (∀ a, (k1_off213 v2993) a + S8x128.size a ≤ S12800x128.size a)
theorem k1_mult213_dvd : ∀ (v2993 : BitVec 32) (k1_hw213 : k1_chk213 v2993), 8 ∣ (k1_mult213 v2993).toNat := fun v2993 k1_hw213 => k1_hw213.1
theorem k1_off213_inb : ∀ (v2993 : BitVec 32) (k1_hw213 : k1_chk213 v2993), ∀ a, (k1_off213 v2993) a + S8x128.size a ≤ S12800x128.size a := fun v2993 k1_hw213 => k1_hw213.2

def k1_mult214 (v3007 : BitVec 32) : BitVec 32 :=
  let c3_i32_1716 : BitVec 32 := 3#32
  let v3008 : BitVec 32 := Scalar.shrsi v3007 c3_i32_1716
  let c3_i32_1717 : BitVec 32 := 3#32
  let v3009 : BitVec 32 := Scalar.shli v3008 c3_i32_1717
  v3009

def k1_off214 (v3007 : BitVec 32) : Fin 2 → Nat :=
  let c3_i32_1716 : BitVec 32 := 3#32
  let v3008 : BitVec 32 := Scalar.shrsi v3007 c3_i32_1716
  let c3_i32_1717 : BitVec 32 := 3#32
  let v3009 : BitVec 32 := Scalar.shli v3008 c3_i32_1717
  let v3010 : BitVec 32 := v3009
  let v3011 : Index := Scalar.indexCast v3010
  let c0_1718 : Index := 0#32
  ![v3011.toNat, 0]

def k1_chk214 (v3007 : BitVec 32) : Prop :=
  (8 ∣ (k1_mult214 v3007).toNat) ∧
  (∀ a, (k1_off214 v3007) a + S8x128.size a ≤ S12800x128.size a)
theorem k1_mult214_dvd : ∀ (v3007 : BitVec 32) (k1_hw214 : k1_chk214 v3007), 8 ∣ (k1_mult214 v3007).toNat := fun v3007 k1_hw214 => k1_hw214.1
theorem k1_off214_inb : ∀ (v3007 : BitVec 32) (k1_hw214 : k1_chk214 v3007), ∀ a, (k1_off214 v3007) a + S8x128.size a ≤ S12800x128.size a := fun v3007 k1_hw214 => k1_hw214.2

def k1_mult215 (v3021 : BitVec 32) : BitVec 32 :=
  let c3_i32_1724 : BitVec 32 := 3#32
  let v3022 : BitVec 32 := Scalar.shrsi v3021 c3_i32_1724
  let c3_i32_1725 : BitVec 32 := 3#32
  let v3023 : BitVec 32 := Scalar.shli v3022 c3_i32_1725
  v3023

def k1_off215 (v3021 : BitVec 32) : Fin 2 → Nat :=
  let c3_i32_1724 : BitVec 32 := 3#32
  let v3022 : BitVec 32 := Scalar.shrsi v3021 c3_i32_1724
  let c3_i32_1725 : BitVec 32 := 3#32
  let v3023 : BitVec 32 := Scalar.shli v3022 c3_i32_1725
  let v3024 : BitVec 32 := v3023
  let v3025 : Index := Scalar.indexCast v3024
  let c0_1726 : Index := 0#32
  ![v3025.toNat, 0]

def k1_chk215 (v3021 : BitVec 32) : Prop :=
  (8 ∣ (k1_mult215 v3021).toNat) ∧
  (∀ a, (k1_off215 v3021) a + S8x128.size a ≤ S12800x128.size a)
theorem k1_mult215_dvd : ∀ (v3021 : BitVec 32) (k1_hw215 : k1_chk215 v3021), 8 ∣ (k1_mult215 v3021).toNat := fun v3021 k1_hw215 => k1_hw215.1
theorem k1_off215_inb : ∀ (v3021 : BitVec 32) (k1_hw215 : k1_chk215 v3021), ∀ a, (k1_off215 v3021) a + S8x128.size a ≤ S12800x128.size a := fun v3021 k1_hw215 => k1_hw215.2

def k1_mult216 (v3035 : BitVec 32) : BitVec 32 :=
  let c3_i32_1732 : BitVec 32 := 3#32
  let v3036 : BitVec 32 := Scalar.shrsi v3035 c3_i32_1732
  let c3_i32_1733 : BitVec 32 := 3#32
  let v3037 : BitVec 32 := Scalar.shli v3036 c3_i32_1733
  v3037

def k1_off216 (v3035 : BitVec 32) : Fin 2 → Nat :=
  let c3_i32_1732 : BitVec 32 := 3#32
  let v3036 : BitVec 32 := Scalar.shrsi v3035 c3_i32_1732
  let c3_i32_1733 : BitVec 32 := 3#32
  let v3037 : BitVec 32 := Scalar.shli v3036 c3_i32_1733
  let v3038 : BitVec 32 := v3037
  let v3039 : Index := Scalar.indexCast v3038
  let c0_1734 : Index := 0#32
  ![v3039.toNat, 0]

def k1_chk216 (v3035 : BitVec 32) : Prop :=
  (8 ∣ (k1_mult216 v3035).toNat) ∧
  (∀ a, (k1_off216 v3035) a + S8x128.size a ≤ S12800x128.size a)
theorem k1_mult216_dvd : ∀ (v3035 : BitVec 32) (k1_hw216 : k1_chk216 v3035), 8 ∣ (k1_mult216 v3035).toNat := fun v3035 k1_hw216 => k1_hw216.1
theorem k1_off216_inb : ∀ (v3035 : BitVec 32) (k1_hw216 : k1_chk216 v3035), ∀ a, (k1_off216 v3035) a + S8x128.size a ≤ S12800x128.size a := fun v3035 k1_hw216 => k1_hw216.2

def k1_mult217 (v3049 : BitVec 32) : BitVec 32 :=
  let c3_i32_1740 : BitVec 32 := 3#32
  let v3050 : BitVec 32 := Scalar.shrsi v3049 c3_i32_1740
  let c3_i32_1741 : BitVec 32 := 3#32
  let v3051 : BitVec 32 := Scalar.shli v3050 c3_i32_1741
  v3051

def k1_off217 (v3049 : BitVec 32) : Fin 2 → Nat :=
  let c3_i32_1740 : BitVec 32 := 3#32
  let v3050 : BitVec 32 := Scalar.shrsi v3049 c3_i32_1740
  let c3_i32_1741 : BitVec 32 := 3#32
  let v3051 : BitVec 32 := Scalar.shli v3050 c3_i32_1741
  let v3052 : BitVec 32 := v3051
  let v3053 : Index := Scalar.indexCast v3052
  let c0_1742 : Index := 0#32
  ![v3053.toNat, 0]

def k1_chk217 (v3049 : BitVec 32) : Prop :=
  (8 ∣ (k1_mult217 v3049).toNat) ∧
  (∀ a, (k1_off217 v3049) a + S8x128.size a ≤ S12800x128.size a)
theorem k1_mult217_dvd : ∀ (v3049 : BitVec 32) (k1_hw217 : k1_chk217 v3049), 8 ∣ (k1_mult217 v3049).toNat := fun v3049 k1_hw217 => k1_hw217.1
theorem k1_off217_inb : ∀ (v3049 : BitVec 32) (k1_hw217 : k1_chk217 v3049), ∀ a, (k1_off217 v3049) a + S8x128.size a ≤ S12800x128.size a := fun v3049 k1_hw217 => k1_hw217.2

def k1_mult218 (v3063 : BitVec 32) : BitVec 32 :=
  let c3_i32_1748 : BitVec 32 := 3#32
  let v3064 : BitVec 32 := Scalar.shrsi v3063 c3_i32_1748
  let c3_i32_1749 : BitVec 32 := 3#32
  let v3065 : BitVec 32 := Scalar.shli v3064 c3_i32_1749
  v3065

def k1_off218 (v3063 : BitVec 32) : Fin 2 → Nat :=
  let c3_i32_1748 : BitVec 32 := 3#32
  let v3064 : BitVec 32 := Scalar.shrsi v3063 c3_i32_1748
  let c3_i32_1749 : BitVec 32 := 3#32
  let v3065 : BitVec 32 := Scalar.shli v3064 c3_i32_1749
  let v3066 : BitVec 32 := v3065
  let v3067 : Index := Scalar.indexCast v3066
  let c0_1750 : Index := 0#32
  ![v3067.toNat, 0]

def k1_chk218 (v3063 : BitVec 32) : Prop :=
  (8 ∣ (k1_mult218 v3063).toNat) ∧
  (∀ a, (k1_off218 v3063) a + S8x128.size a ≤ S12800x128.size a)
theorem k1_mult218_dvd : ∀ (v3063 : BitVec 32) (k1_hw218 : k1_chk218 v3063), 8 ∣ (k1_mult218 v3063).toNat := fun v3063 k1_hw218 => k1_hw218.1
theorem k1_off218_inb : ∀ (v3063 : BitVec 32) (k1_hw218 : k1_chk218 v3063), ∀ a, (k1_off218 v3063) a + S8x128.size a ≤ S12800x128.size a := fun v3063 k1_hw218 => k1_hw218.2

def k1_mult219 (v3077 : BitVec 32) : BitVec 32 :=
  let c3_i32_1756 : BitVec 32 := 3#32
  let v3078 : BitVec 32 := Scalar.shrsi v3077 c3_i32_1756
  let c3_i32_1757 : BitVec 32 := 3#32
  let v3079 : BitVec 32 := Scalar.shli v3078 c3_i32_1757
  v3079

def k1_off219 (v3077 : BitVec 32) : Fin 2 → Nat :=
  let c3_i32_1756 : BitVec 32 := 3#32
  let v3078 : BitVec 32 := Scalar.shrsi v3077 c3_i32_1756
  let c3_i32_1757 : BitVec 32 := 3#32
  let v3079 : BitVec 32 := Scalar.shli v3078 c3_i32_1757
  let v3080 : BitVec 32 := v3079
  let v3081 : Index := Scalar.indexCast v3080
  let c0_1758 : Index := 0#32
  ![v3081.toNat, 0]

def k1_chk219 (v3077 : BitVec 32) : Prop :=
  (8 ∣ (k1_mult219 v3077).toNat) ∧
  (∀ a, (k1_off219 v3077) a + S8x128.size a ≤ S12800x128.size a)
theorem k1_mult219_dvd : ∀ (v3077 : BitVec 32) (k1_hw219 : k1_chk219 v3077), 8 ∣ (k1_mult219 v3077).toNat := fun v3077 k1_hw219 => k1_hw219.1
theorem k1_off219_inb : ∀ (v3077 : BitVec 32) (k1_hw219 : k1_chk219 v3077), ∀ a, (k1_off219 v3077) a + S8x128.size a ≤ S12800x128.size a := fun v3077 k1_hw219 => k1_hw219.2

def k1_mult220 (v3091 : BitVec 32) : BitVec 32 :=
  let c3_i32_1764 : BitVec 32 := 3#32
  let v3092 : BitVec 32 := Scalar.shrsi v3091 c3_i32_1764
  let c3_i32_1765 : BitVec 32 := 3#32
  let v3093 : BitVec 32 := Scalar.shli v3092 c3_i32_1765
  v3093

def k1_off220 (v3091 : BitVec 32) : Fin 2 → Nat :=
  let c3_i32_1764 : BitVec 32 := 3#32
  let v3092 : BitVec 32 := Scalar.shrsi v3091 c3_i32_1764
  let c3_i32_1765 : BitVec 32 := 3#32
  let v3093 : BitVec 32 := Scalar.shli v3092 c3_i32_1765
  let v3094 : BitVec 32 := v3093
  let v3095 : Index := Scalar.indexCast v3094
  let c0_1766 : Index := 0#32
  ![v3095.toNat, 0]

def k1_chk220 (v3091 : BitVec 32) : Prop :=
  (8 ∣ (k1_mult220 v3091).toNat) ∧
  (∀ a, (k1_off220 v3091) a + S8x128.size a ≤ S12800x128.size a)
theorem k1_mult220_dvd : ∀ (v3091 : BitVec 32) (k1_hw220 : k1_chk220 v3091), 8 ∣ (k1_mult220 v3091).toNat := fun v3091 k1_hw220 => k1_hw220.1
theorem k1_off220_inb : ∀ (v3091 : BitVec 32) (k1_hw220 : k1_chk220 v3091), ∀ a, (k1_off220 v3091) a + S8x128.size a ≤ S12800x128.size a := fun v3091 k1_hw220 => k1_hw220.2

def k1_mult221 (v3105 : BitVec 32) : BitVec 32 :=
  let c3_i32_1772 : BitVec 32 := 3#32
  let v3106 : BitVec 32 := Scalar.shrsi v3105 c3_i32_1772
  let c3_i32_1773 : BitVec 32 := 3#32
  let v3107 : BitVec 32 := Scalar.shli v3106 c3_i32_1773
  v3107

def k1_off221 (v3105 : BitVec 32) : Fin 2 → Nat :=
  let c3_i32_1772 : BitVec 32 := 3#32
  let v3106 : BitVec 32 := Scalar.shrsi v3105 c3_i32_1772
  let c3_i32_1773 : BitVec 32 := 3#32
  let v3107 : BitVec 32 := Scalar.shli v3106 c3_i32_1773
  let v3108 : BitVec 32 := v3107
  let v3109 : Index := Scalar.indexCast v3108
  let c0_1774 : Index := 0#32
  ![v3109.toNat, 0]

def k1_chk221 (v3105 : BitVec 32) : Prop :=
  (8 ∣ (k1_mult221 v3105).toNat) ∧
  (∀ a, (k1_off221 v3105) a + S8x128.size a ≤ S12800x128.size a)
theorem k1_mult221_dvd : ∀ (v3105 : BitVec 32) (k1_hw221 : k1_chk221 v3105), 8 ∣ (k1_mult221 v3105).toNat := fun v3105 k1_hw221 => k1_hw221.1
theorem k1_off221_inb : ∀ (v3105 : BitVec 32) (k1_hw221 : k1_chk221 v3105), ∀ a, (k1_off221 v3105) a + S8x128.size a ≤ S12800x128.size a := fun v3105 k1_hw221 => k1_hw221.2

def k1_mult222 (v3119 : BitVec 32) : BitVec 32 :=
  let c3_i32_1780 : BitVec 32 := 3#32
  let v3120 : BitVec 32 := Scalar.shrsi v3119 c3_i32_1780
  let c3_i32_1781 : BitVec 32 := 3#32
  let v3121 : BitVec 32 := Scalar.shli v3120 c3_i32_1781
  v3121

def k1_off222 (v3119 : BitVec 32) : Fin 2 → Nat :=
  let c3_i32_1780 : BitVec 32 := 3#32
  let v3120 : BitVec 32 := Scalar.shrsi v3119 c3_i32_1780
  let c3_i32_1781 : BitVec 32 := 3#32
  let v3121 : BitVec 32 := Scalar.shli v3120 c3_i32_1781
  let v3122 : BitVec 32 := v3121
  let v3123 : Index := Scalar.indexCast v3122
  let c0_1782 : Index := 0#32
  ![v3123.toNat, 0]

def k1_chk222 (v3119 : BitVec 32) : Prop :=
  (8 ∣ (k1_mult222 v3119).toNat) ∧
  (∀ a, (k1_off222 v3119) a + S8x128.size a ≤ S12800x128.size a)
theorem k1_mult222_dvd : ∀ (v3119 : BitVec 32) (k1_hw222 : k1_chk222 v3119), 8 ∣ (k1_mult222 v3119).toNat := fun v3119 k1_hw222 => k1_hw222.1
theorem k1_off222_inb : ∀ (v3119 : BitVec 32) (k1_hw222 : k1_chk222 v3119), ∀ a, (k1_off222 v3119) a + S8x128.size a ≤ S12800x128.size a := fun v3119 k1_hw222 => k1_hw222.2

def k1_mult223 (v3133 : BitVec 32) : BitVec 32 :=
  let c3_i32_1788 : BitVec 32 := 3#32
  let v3134 : BitVec 32 := Scalar.shrsi v3133 c3_i32_1788
  let c3_i32_1789 : BitVec 32 := 3#32
  let v3135 : BitVec 32 := Scalar.shli v3134 c3_i32_1789
  v3135

def k1_off223 (v3133 : BitVec 32) : Fin 2 → Nat :=
  let c3_i32_1788 : BitVec 32 := 3#32
  let v3134 : BitVec 32 := Scalar.shrsi v3133 c3_i32_1788
  let c3_i32_1789 : BitVec 32 := 3#32
  let v3135 : BitVec 32 := Scalar.shli v3134 c3_i32_1789
  let v3136 : BitVec 32 := v3135
  let v3137 : Index := Scalar.indexCast v3136
  let c0_1790 : Index := 0#32
  ![v3137.toNat, 0]

def k1_chk223 (v3133 : BitVec 32) : Prop :=
  (8 ∣ (k1_mult223 v3133).toNat) ∧
  (∀ a, (k1_off223 v3133) a + S8x128.size a ≤ S12800x128.size a)
theorem k1_mult223_dvd : ∀ (v3133 : BitVec 32) (k1_hw223 : k1_chk223 v3133), 8 ∣ (k1_mult223 v3133).toNat := fun v3133 k1_hw223 => k1_hw223.1
theorem k1_off223_inb : ∀ (v3133 : BitVec 32) (k1_hw223 : k1_chk223 v3133), ∀ a, (k1_off223 v3133) a + S8x128.size a ≤ S12800x128.size a := fun v3133 k1_hw223 => k1_hw223.2

def k1_mult224 (v3147 : BitVec 32) : BitVec 32 :=
  let c3_i32_1796 : BitVec 32 := 3#32
  let v3148 : BitVec 32 := Scalar.shrsi v3147 c3_i32_1796
  let c3_i32_1797 : BitVec 32 := 3#32
  let v3149 : BitVec 32 := Scalar.shli v3148 c3_i32_1797
  v3149

def k1_off224 (v3147 : BitVec 32) : Fin 2 → Nat :=
  let c3_i32_1796 : BitVec 32 := 3#32
  let v3148 : BitVec 32 := Scalar.shrsi v3147 c3_i32_1796
  let c3_i32_1797 : BitVec 32 := 3#32
  let v3149 : BitVec 32 := Scalar.shli v3148 c3_i32_1797
  let v3150 : BitVec 32 := v3149
  let v3151 : Index := Scalar.indexCast v3150
  let c0_1798 : Index := 0#32
  ![v3151.toNat, 0]

def k1_chk224 (v3147 : BitVec 32) : Prop :=
  (8 ∣ (k1_mult224 v3147).toNat) ∧
  (∀ a, (k1_off224 v3147) a + S8x128.size a ≤ S12800x128.size a)
theorem k1_mult224_dvd : ∀ (v3147 : BitVec 32) (k1_hw224 : k1_chk224 v3147), 8 ∣ (k1_mult224 v3147).toNat := fun v3147 k1_hw224 => k1_hw224.1
theorem k1_off224_inb : ∀ (v3147 : BitVec 32) (k1_hw224 : k1_chk224 v3147), ∀ a, (k1_off224 v3147) a + S8x128.size a ≤ S12800x128.size a := fun v3147 k1_hw224 => k1_hw224.2

def k1_mult225 (v3161 : BitVec 32) : BitVec 32 :=
  let c3_i32_1804 : BitVec 32 := 3#32
  let v3162 : BitVec 32 := Scalar.shrsi v3161 c3_i32_1804
  let c3_i32_1805 : BitVec 32 := 3#32
  let v3163 : BitVec 32 := Scalar.shli v3162 c3_i32_1805
  v3163

def k1_off225 (v3161 : BitVec 32) : Fin 2 → Nat :=
  let c3_i32_1804 : BitVec 32 := 3#32
  let v3162 : BitVec 32 := Scalar.shrsi v3161 c3_i32_1804
  let c3_i32_1805 : BitVec 32 := 3#32
  let v3163 : BitVec 32 := Scalar.shli v3162 c3_i32_1805
  let v3164 : BitVec 32 := v3163
  let v3165 : Index := Scalar.indexCast v3164
  let c0_1806 : Index := 0#32
  ![v3165.toNat, 0]

def k1_chk225 (v3161 : BitVec 32) : Prop :=
  (8 ∣ (k1_mult225 v3161).toNat) ∧
  (∀ a, (k1_off225 v3161) a + S8x128.size a ≤ S12800x128.size a)
theorem k1_mult225_dvd : ∀ (v3161 : BitVec 32) (k1_hw225 : k1_chk225 v3161), 8 ∣ (k1_mult225 v3161).toNat := fun v3161 k1_hw225 => k1_hw225.1
theorem k1_off225_inb : ∀ (v3161 : BitVec 32) (k1_hw225 : k1_chk225 v3161), ∀ a, (k1_off225 v3161) a + S8x128.size a ≤ S12800x128.size a := fun v3161 k1_hw225 => k1_hw225.2

def k1_mult226 (v3175 : BitVec 32) : BitVec 32 :=
  let c3_i32_1812 : BitVec 32 := 3#32
  let v3176 : BitVec 32 := Scalar.shrsi v3175 c3_i32_1812
  let c3_i32_1813 : BitVec 32 := 3#32
  let v3177 : BitVec 32 := Scalar.shli v3176 c3_i32_1813
  v3177

def k1_off226 (v3175 : BitVec 32) : Fin 2 → Nat :=
  let c3_i32_1812 : BitVec 32 := 3#32
  let v3176 : BitVec 32 := Scalar.shrsi v3175 c3_i32_1812
  let c3_i32_1813 : BitVec 32 := 3#32
  let v3177 : BitVec 32 := Scalar.shli v3176 c3_i32_1813
  let v3178 : BitVec 32 := v3177
  let v3179 : Index := Scalar.indexCast v3178
  let c0_1814 : Index := 0#32
  ![v3179.toNat, 0]

def k1_chk226 (v3175 : BitVec 32) : Prop :=
  (8 ∣ (k1_mult226 v3175).toNat) ∧
  (∀ a, (k1_off226 v3175) a + S8x128.size a ≤ S12800x128.size a)
theorem k1_mult226_dvd : ∀ (v3175 : BitVec 32) (k1_hw226 : k1_chk226 v3175), 8 ∣ (k1_mult226 v3175).toNat := fun v3175 k1_hw226 => k1_hw226.1
theorem k1_off226_inb : ∀ (v3175 : BitVec 32) (k1_hw226 : k1_chk226 v3175), ∀ a, (k1_off226 v3175) a + S8x128.size a ≤ S12800x128.size a := fun v3175 k1_hw226 => k1_hw226.2

def k1_mult227 (v3189 : BitVec 32) : BitVec 32 :=
  let c3_i32_1820 : BitVec 32 := 3#32
  let v3190 : BitVec 32 := Scalar.shrsi v3189 c3_i32_1820
  let c3_i32_1821 : BitVec 32 := 3#32
  let v3191 : BitVec 32 := Scalar.shli v3190 c3_i32_1821
  v3191

def k1_off227 (v3189 : BitVec 32) : Fin 2 → Nat :=
  let c3_i32_1820 : BitVec 32 := 3#32
  let v3190 : BitVec 32 := Scalar.shrsi v3189 c3_i32_1820
  let c3_i32_1821 : BitVec 32 := 3#32
  let v3191 : BitVec 32 := Scalar.shli v3190 c3_i32_1821
  let v3192 : BitVec 32 := v3191
  let v3193 : Index := Scalar.indexCast v3192
  let c0_1822 : Index := 0#32
  ![v3193.toNat, 0]

def k1_chk227 (v3189 : BitVec 32) : Prop :=
  (8 ∣ (k1_mult227 v3189).toNat) ∧
  (∀ a, (k1_off227 v3189) a + S8x128.size a ≤ S12800x128.size a)
theorem k1_mult227_dvd : ∀ (v3189 : BitVec 32) (k1_hw227 : k1_chk227 v3189), 8 ∣ (k1_mult227 v3189).toNat := fun v3189 k1_hw227 => k1_hw227.1
theorem k1_off227_inb : ∀ (v3189 : BitVec 32) (k1_hw227 : k1_chk227 v3189), ∀ a, (k1_off227 v3189) a + S8x128.size a ≤ S12800x128.size a := fun v3189 k1_hw227 => k1_hw227.2

def k1_mult228 (v3203 : BitVec 32) : BitVec 32 :=
  let c3_i32_1828 : BitVec 32 := 3#32
  let v3204 : BitVec 32 := Scalar.shrsi v3203 c3_i32_1828
  let c3_i32_1829 : BitVec 32 := 3#32
  let v3205 : BitVec 32 := Scalar.shli v3204 c3_i32_1829
  v3205

def k1_off228 (v3203 : BitVec 32) : Fin 2 → Nat :=
  let c3_i32_1828 : BitVec 32 := 3#32
  let v3204 : BitVec 32 := Scalar.shrsi v3203 c3_i32_1828
  let c3_i32_1829 : BitVec 32 := 3#32
  let v3205 : BitVec 32 := Scalar.shli v3204 c3_i32_1829
  let v3206 : BitVec 32 := v3205
  let v3207 : Index := Scalar.indexCast v3206
  let c0_1830 : Index := 0#32
  ![v3207.toNat, 0]

def k1_chk228 (v3203 : BitVec 32) : Prop :=
  (8 ∣ (k1_mult228 v3203).toNat) ∧
  (∀ a, (k1_off228 v3203) a + S8x128.size a ≤ S12800x128.size a)
theorem k1_mult228_dvd : ∀ (v3203 : BitVec 32) (k1_hw228 : k1_chk228 v3203), 8 ∣ (k1_mult228 v3203).toNat := fun v3203 k1_hw228 => k1_hw228.1
theorem k1_off228_inb : ∀ (v3203 : BitVec 32) (k1_hw228 : k1_chk228 v3203), ∀ a, (k1_off228 v3203) a + S8x128.size a ≤ S12800x128.size a := fun v3203 k1_hw228 => k1_hw228.2

def k1_mult229 (v3217 : BitVec 32) : BitVec 32 :=
  let c3_i32_1836 : BitVec 32 := 3#32
  let v3218 : BitVec 32 := Scalar.shrsi v3217 c3_i32_1836
  let c3_i32_1837 : BitVec 32 := 3#32
  let v3219 : BitVec 32 := Scalar.shli v3218 c3_i32_1837
  v3219

def k1_off229 (v3217 : BitVec 32) : Fin 2 → Nat :=
  let c3_i32_1836 : BitVec 32 := 3#32
  let v3218 : BitVec 32 := Scalar.shrsi v3217 c3_i32_1836
  let c3_i32_1837 : BitVec 32 := 3#32
  let v3219 : BitVec 32 := Scalar.shli v3218 c3_i32_1837
  let v3220 : BitVec 32 := v3219
  let v3221 : Index := Scalar.indexCast v3220
  let c0_1838 : Index := 0#32
  ![v3221.toNat, 0]

def k1_chk229 (v3217 : BitVec 32) : Prop :=
  (8 ∣ (k1_mult229 v3217).toNat) ∧
  (∀ a, (k1_off229 v3217) a + S8x128.size a ≤ S12800x128.size a)
theorem k1_mult229_dvd : ∀ (v3217 : BitVec 32) (k1_hw229 : k1_chk229 v3217), 8 ∣ (k1_mult229 v3217).toNat := fun v3217 k1_hw229 => k1_hw229.1
theorem k1_off229_inb : ∀ (v3217 : BitVec 32) (k1_hw229 : k1_chk229 v3217), ∀ a, (k1_off229 v3217) a + S8x128.size a ≤ S12800x128.size a := fun v3217 k1_hw229 => k1_hw229.2

def k1_mult230 (v3231 : BitVec 32) : BitVec 32 :=
  let c3_i32_1844 : BitVec 32 := 3#32
  let v3232 : BitVec 32 := Scalar.shrsi v3231 c3_i32_1844
  let c3_i32_1845 : BitVec 32 := 3#32
  let v3233 : BitVec 32 := Scalar.shli v3232 c3_i32_1845
  v3233

def k1_off230 (v3231 : BitVec 32) : Fin 2 → Nat :=
  let c3_i32_1844 : BitVec 32 := 3#32
  let v3232 : BitVec 32 := Scalar.shrsi v3231 c3_i32_1844
  let c3_i32_1845 : BitVec 32 := 3#32
  let v3233 : BitVec 32 := Scalar.shli v3232 c3_i32_1845
  let v3234 : BitVec 32 := v3233
  let v3235 : Index := Scalar.indexCast v3234
  let c0_1846 : Index := 0#32
  ![v3235.toNat, 0]

def k1_chk230 (v3231 : BitVec 32) : Prop :=
  (8 ∣ (k1_mult230 v3231).toNat) ∧
  (∀ a, (k1_off230 v3231) a + S8x128.size a ≤ S12800x128.size a)
theorem k1_mult230_dvd : ∀ (v3231 : BitVec 32) (k1_hw230 : k1_chk230 v3231), 8 ∣ (k1_mult230 v3231).toNat := fun v3231 k1_hw230 => k1_hw230.1
theorem k1_off230_inb : ∀ (v3231 : BitVec 32) (k1_hw230 : k1_chk230 v3231), ∀ a, (k1_off230 v3231) a + S8x128.size a ≤ S12800x128.size a := fun v3231 k1_hw230 => k1_hw230.2

def k1_mult231 (v3245 : BitVec 32) : BitVec 32 :=
  let c3_i32_1852 : BitVec 32 := 3#32
  let v3246 : BitVec 32 := Scalar.shrsi v3245 c3_i32_1852
  let c3_i32_1853 : BitVec 32 := 3#32
  let v3247 : BitVec 32 := Scalar.shli v3246 c3_i32_1853
  v3247

def k1_off231 (v3245 : BitVec 32) : Fin 2 → Nat :=
  let c3_i32_1852 : BitVec 32 := 3#32
  let v3246 : BitVec 32 := Scalar.shrsi v3245 c3_i32_1852
  let c3_i32_1853 : BitVec 32 := 3#32
  let v3247 : BitVec 32 := Scalar.shli v3246 c3_i32_1853
  let v3248 : BitVec 32 := v3247
  let v3249 : Index := Scalar.indexCast v3248
  let c0_1854 : Index := 0#32
  ![v3249.toNat, 0]

def k1_chk231 (v3245 : BitVec 32) : Prop :=
  (8 ∣ (k1_mult231 v3245).toNat) ∧
  (∀ a, (k1_off231 v3245) a + S8x128.size a ≤ S12800x128.size a)
theorem k1_mult231_dvd : ∀ (v3245 : BitVec 32) (k1_hw231 : k1_chk231 v3245), 8 ∣ (k1_mult231 v3245).toNat := fun v3245 k1_hw231 => k1_hw231.1
theorem k1_off231_inb : ∀ (v3245 : BitVec 32) (k1_hw231 : k1_chk231 v3245), ∀ a, (k1_off231 v3245) a + S8x128.size a ≤ S12800x128.size a := fun v3245 k1_hw231 => k1_hw231.2

def k1_mult232 (v3259 : BitVec 32) : BitVec 32 :=
  let c3_i32_1860 : BitVec 32 := 3#32
  let v3260 : BitVec 32 := Scalar.shrsi v3259 c3_i32_1860
  let c3_i32_1861 : BitVec 32 := 3#32
  let v3261 : BitVec 32 := Scalar.shli v3260 c3_i32_1861
  v3261

def k1_off232 (v3259 : BitVec 32) : Fin 2 → Nat :=
  let c3_i32_1860 : BitVec 32 := 3#32
  let v3260 : BitVec 32 := Scalar.shrsi v3259 c3_i32_1860
  let c3_i32_1861 : BitVec 32 := 3#32
  let v3261 : BitVec 32 := Scalar.shli v3260 c3_i32_1861
  let v3262 : BitVec 32 := v3261
  let v3263 : Index := Scalar.indexCast v3262
  let c0_1862 : Index := 0#32
  ![v3263.toNat, 0]

def k1_chk232 (v3259 : BitVec 32) : Prop :=
  (8 ∣ (k1_mult232 v3259).toNat) ∧
  (∀ a, (k1_off232 v3259) a + S8x128.size a ≤ S12800x128.size a)
theorem k1_mult232_dvd : ∀ (v3259 : BitVec 32) (k1_hw232 : k1_chk232 v3259), 8 ∣ (k1_mult232 v3259).toNat := fun v3259 k1_hw232 => k1_hw232.1
theorem k1_off232_inb : ∀ (v3259 : BitVec 32) (k1_hw232 : k1_chk232 v3259), ∀ a, (k1_off232 v3259) a + S8x128.size a ≤ S12800x128.size a := fun v3259 k1_hw232 => k1_hw232.2

def k1_mult233 (v3273 : BitVec 32) : BitVec 32 :=
  let c3_i32_1868 : BitVec 32 := 3#32
  let v3274 : BitVec 32 := Scalar.shrsi v3273 c3_i32_1868
  let c3_i32_1869 : BitVec 32 := 3#32
  let v3275 : BitVec 32 := Scalar.shli v3274 c3_i32_1869
  v3275

def k1_off233 (v3273 : BitVec 32) : Fin 2 → Nat :=
  let c3_i32_1868 : BitVec 32 := 3#32
  let v3274 : BitVec 32 := Scalar.shrsi v3273 c3_i32_1868
  let c3_i32_1869 : BitVec 32 := 3#32
  let v3275 : BitVec 32 := Scalar.shli v3274 c3_i32_1869
  let v3276 : BitVec 32 := v3275
  let v3277 : Index := Scalar.indexCast v3276
  let c0_1870 : Index := 0#32
  ![v3277.toNat, 0]

def k1_chk233 (v3273 : BitVec 32) : Prop :=
  (8 ∣ (k1_mult233 v3273).toNat) ∧
  (∀ a, (k1_off233 v3273) a + S8x128.size a ≤ S12800x128.size a)
theorem k1_mult233_dvd : ∀ (v3273 : BitVec 32) (k1_hw233 : k1_chk233 v3273), 8 ∣ (k1_mult233 v3273).toNat := fun v3273 k1_hw233 => k1_hw233.1
theorem k1_off233_inb : ∀ (v3273 : BitVec 32) (k1_hw233 : k1_chk233 v3273), ∀ a, (k1_off233 v3273) a + S8x128.size a ≤ S12800x128.size a := fun v3273 k1_hw233 => k1_hw233.2

def k1_mult234 (v3287 : BitVec 32) : BitVec 32 :=
  let c3_i32_1876 : BitVec 32 := 3#32
  let v3288 : BitVec 32 := Scalar.shrsi v3287 c3_i32_1876
  let c3_i32_1877 : BitVec 32 := 3#32
  let v3289 : BitVec 32 := Scalar.shli v3288 c3_i32_1877
  v3289

def k1_off234 (v3287 : BitVec 32) : Fin 2 → Nat :=
  let c3_i32_1876 : BitVec 32 := 3#32
  let v3288 : BitVec 32 := Scalar.shrsi v3287 c3_i32_1876
  let c3_i32_1877 : BitVec 32 := 3#32
  let v3289 : BitVec 32 := Scalar.shli v3288 c3_i32_1877
  let v3290 : BitVec 32 := v3289
  let v3291 : Index := Scalar.indexCast v3290
  let c0_1878 : Index := 0#32
  ![v3291.toNat, 0]

def k1_chk234 (v3287 : BitVec 32) : Prop :=
  (8 ∣ (k1_mult234 v3287).toNat) ∧
  (∀ a, (k1_off234 v3287) a + S8x128.size a ≤ S12800x128.size a)
theorem k1_mult234_dvd : ∀ (v3287 : BitVec 32) (k1_hw234 : k1_chk234 v3287), 8 ∣ (k1_mult234 v3287).toNat := fun v3287 k1_hw234 => k1_hw234.1
theorem k1_off234_inb : ∀ (v3287 : BitVec 32) (k1_hw234 : k1_chk234 v3287), ∀ a, (k1_off234 v3287) a + S8x128.size a ≤ S12800x128.size a := fun v3287 k1_hw234 => k1_hw234.2

def k1_mult235 (v3301 : BitVec 32) : BitVec 32 :=
  let c3_i32_1884 : BitVec 32 := 3#32
  let v3302 : BitVec 32 := Scalar.shrsi v3301 c3_i32_1884
  let c3_i32_1885 : BitVec 32 := 3#32
  let v3303 : BitVec 32 := Scalar.shli v3302 c3_i32_1885
  v3303

def k1_off235 (v3301 : BitVec 32) : Fin 2 → Nat :=
  let c3_i32_1884 : BitVec 32 := 3#32
  let v3302 : BitVec 32 := Scalar.shrsi v3301 c3_i32_1884
  let c3_i32_1885 : BitVec 32 := 3#32
  let v3303 : BitVec 32 := Scalar.shli v3302 c3_i32_1885
  let v3304 : BitVec 32 := v3303
  let v3305 : Index := Scalar.indexCast v3304
  let c0_1886 : Index := 0#32
  ![v3305.toNat, 0]

def k1_chk235 (v3301 : BitVec 32) : Prop :=
  (8 ∣ (k1_mult235 v3301).toNat) ∧
  (∀ a, (k1_off235 v3301) a + S8x128.size a ≤ S12800x128.size a)
theorem k1_mult235_dvd : ∀ (v3301 : BitVec 32) (k1_hw235 : k1_chk235 v3301), 8 ∣ (k1_mult235 v3301).toNat := fun v3301 k1_hw235 => k1_hw235.1
theorem k1_off235_inb : ∀ (v3301 : BitVec 32) (k1_hw235 : k1_chk235 v3301), ∀ a, (k1_off235 v3301) a + S8x128.size a ≤ S12800x128.size a := fun v3301 k1_hw235 => k1_hw235.2

def k1_mult236 (v3315 : BitVec 32) : BitVec 32 :=
  let c3_i32_1892 : BitVec 32 := 3#32
  let v3316 : BitVec 32 := Scalar.shrsi v3315 c3_i32_1892
  let c3_i32_1893 : BitVec 32 := 3#32
  let v3317 : BitVec 32 := Scalar.shli v3316 c3_i32_1893
  v3317

def k1_off236 (v3315 : BitVec 32) : Fin 2 → Nat :=
  let c3_i32_1892 : BitVec 32 := 3#32
  let v3316 : BitVec 32 := Scalar.shrsi v3315 c3_i32_1892
  let c3_i32_1893 : BitVec 32 := 3#32
  let v3317 : BitVec 32 := Scalar.shli v3316 c3_i32_1893
  let v3318 : BitVec 32 := v3317
  let v3319 : Index := Scalar.indexCast v3318
  let c0_1894 : Index := 0#32
  ![v3319.toNat, 0]

def k1_chk236 (v3315 : BitVec 32) : Prop :=
  (8 ∣ (k1_mult236 v3315).toNat) ∧
  (∀ a, (k1_off236 v3315) a + S8x128.size a ≤ S12800x128.size a)
theorem k1_mult236_dvd : ∀ (v3315 : BitVec 32) (k1_hw236 : k1_chk236 v3315), 8 ∣ (k1_mult236 v3315).toNat := fun v3315 k1_hw236 => k1_hw236.1
theorem k1_off236_inb : ∀ (v3315 : BitVec 32) (k1_hw236 : k1_chk236 v3315), ∀ a, (k1_off236 v3315) a + S8x128.size a ≤ S12800x128.size a := fun v3315 k1_hw236 => k1_hw236.2

def k1_mult237 (v3329 : BitVec 32) : BitVec 32 :=
  let c3_i32_1900 : BitVec 32 := 3#32
  let v3330 : BitVec 32 := Scalar.shrsi v3329 c3_i32_1900
  let c3_i32_1901 : BitVec 32 := 3#32
  let v3331 : BitVec 32 := Scalar.shli v3330 c3_i32_1901
  v3331

def k1_off237 (v3329 : BitVec 32) : Fin 2 → Nat :=
  let c3_i32_1900 : BitVec 32 := 3#32
  let v3330 : BitVec 32 := Scalar.shrsi v3329 c3_i32_1900
  let c3_i32_1901 : BitVec 32 := 3#32
  let v3331 : BitVec 32 := Scalar.shli v3330 c3_i32_1901
  let v3332 : BitVec 32 := v3331
  let v3333 : Index := Scalar.indexCast v3332
  let c0_1902 : Index := 0#32
  ![v3333.toNat, 0]

def k1_chk237 (v3329 : BitVec 32) : Prop :=
  (8 ∣ (k1_mult237 v3329).toNat) ∧
  (∀ a, (k1_off237 v3329) a + S8x128.size a ≤ S12800x128.size a)
theorem k1_mult237_dvd : ∀ (v3329 : BitVec 32) (k1_hw237 : k1_chk237 v3329), 8 ∣ (k1_mult237 v3329).toNat := fun v3329 k1_hw237 => k1_hw237.1
theorem k1_off237_inb : ∀ (v3329 : BitVec 32) (k1_hw237 : k1_chk237 v3329), ∀ a, (k1_off237 v3329) a + S8x128.size a ≤ S12800x128.size a := fun v3329 k1_hw237 => k1_hw237.2

def k1_mult238 (v3343 : BitVec 32) : BitVec 32 :=
  let c3_i32_1908 : BitVec 32 := 3#32
  let v3344 : BitVec 32 := Scalar.shrsi v3343 c3_i32_1908
  let c3_i32_1909 : BitVec 32 := 3#32
  let v3345 : BitVec 32 := Scalar.shli v3344 c3_i32_1909
  v3345

def k1_off238 (v3343 : BitVec 32) : Fin 2 → Nat :=
  let c3_i32_1908 : BitVec 32 := 3#32
  let v3344 : BitVec 32 := Scalar.shrsi v3343 c3_i32_1908
  let c3_i32_1909 : BitVec 32 := 3#32
  let v3345 : BitVec 32 := Scalar.shli v3344 c3_i32_1909
  let v3346 : BitVec 32 := v3345
  let v3347 : Index := Scalar.indexCast v3346
  let c0_1910 : Index := 0#32
  ![v3347.toNat, 0]

def k1_chk238 (v3343 : BitVec 32) : Prop :=
  (8 ∣ (k1_mult238 v3343).toNat) ∧
  (∀ a, (k1_off238 v3343) a + S8x128.size a ≤ S12800x128.size a)
theorem k1_mult238_dvd : ∀ (v3343 : BitVec 32) (k1_hw238 : k1_chk238 v3343), 8 ∣ (k1_mult238 v3343).toNat := fun v3343 k1_hw238 => k1_hw238.1
theorem k1_off238_inb : ∀ (v3343 : BitVec 32) (k1_hw238 : k1_chk238 v3343), ∀ a, (k1_off238 v3343) a + S8x128.size a ≤ S12800x128.size a := fun v3343 k1_hw238 => k1_hw238.2

def k1_mult239 (v3357 : BitVec 32) : BitVec 32 :=
  let c3_i32_1916 : BitVec 32 := 3#32
  let v3358 : BitVec 32 := Scalar.shrsi v3357 c3_i32_1916
  let c3_i32_1917 : BitVec 32 := 3#32
  let v3359 : BitVec 32 := Scalar.shli v3358 c3_i32_1917
  v3359

def k1_off239 (v3357 : BitVec 32) : Fin 2 → Nat :=
  let c3_i32_1916 : BitVec 32 := 3#32
  let v3358 : BitVec 32 := Scalar.shrsi v3357 c3_i32_1916
  let c3_i32_1917 : BitVec 32 := 3#32
  let v3359 : BitVec 32 := Scalar.shli v3358 c3_i32_1917
  let v3360 : BitVec 32 := v3359
  let v3361 : Index := Scalar.indexCast v3360
  let c0_1918 : Index := 0#32
  ![v3361.toNat, 0]

def k1_chk239 (v3357 : BitVec 32) : Prop :=
  (8 ∣ (k1_mult239 v3357).toNat) ∧
  (∀ a, (k1_off239 v3357) a + S8x128.size a ≤ S12800x128.size a)
theorem k1_mult239_dvd : ∀ (v3357 : BitVec 32) (k1_hw239 : k1_chk239 v3357), 8 ∣ (k1_mult239 v3357).toNat := fun v3357 k1_hw239 => k1_hw239.1
theorem k1_off239_inb : ∀ (v3357 : BitVec 32) (k1_hw239 : k1_chk239 v3357), ∀ a, (k1_off239 v3357) a + S8x128.size a ≤ S12800x128.size a := fun v3357 k1_hw239 => k1_hw239.2

def k1_mult240 (v3371 : BitVec 32) : BitVec 32 :=
  let c3_i32_1924 : BitVec 32 := 3#32
  let v3372 : BitVec 32 := Scalar.shrsi v3371 c3_i32_1924
  let c3_i32_1925 : BitVec 32 := 3#32
  let v3373 : BitVec 32 := Scalar.shli v3372 c3_i32_1925
  v3373

def k1_off240 (v3371 : BitVec 32) : Fin 2 → Nat :=
  let c3_i32_1924 : BitVec 32 := 3#32
  let v3372 : BitVec 32 := Scalar.shrsi v3371 c3_i32_1924
  let c3_i32_1925 : BitVec 32 := 3#32
  let v3373 : BitVec 32 := Scalar.shli v3372 c3_i32_1925
  let v3374 : BitVec 32 := v3373
  let v3375 : Index := Scalar.indexCast v3374
  let c0_1926 : Index := 0#32
  ![v3375.toNat, 0]

def k1_chk240 (v3371 : BitVec 32) : Prop :=
  (8 ∣ (k1_mult240 v3371).toNat) ∧
  (∀ a, (k1_off240 v3371) a + S8x128.size a ≤ S12800x128.size a)
theorem k1_mult240_dvd : ∀ (v3371 : BitVec 32) (k1_hw240 : k1_chk240 v3371), 8 ∣ (k1_mult240 v3371).toNat := fun v3371 k1_hw240 => k1_hw240.1
theorem k1_off240_inb : ∀ (v3371 : BitVec 32) (k1_hw240 : k1_chk240 v3371), ∀ a, (k1_off240 v3371) a + S8x128.size a ≤ S12800x128.size a := fun v3371 k1_hw240 => k1_hw240.2

def k1_mult241 (v3385 : BitVec 32) : BitVec 32 :=
  let c3_i32_1932 : BitVec 32 := 3#32
  let v3386 : BitVec 32 := Scalar.shrsi v3385 c3_i32_1932
  let c3_i32_1933 : BitVec 32 := 3#32
  let v3387 : BitVec 32 := Scalar.shli v3386 c3_i32_1933
  v3387

def k1_off241 (v3385 : BitVec 32) : Fin 2 → Nat :=
  let c3_i32_1932 : BitVec 32 := 3#32
  let v3386 : BitVec 32 := Scalar.shrsi v3385 c3_i32_1932
  let c3_i32_1933 : BitVec 32 := 3#32
  let v3387 : BitVec 32 := Scalar.shli v3386 c3_i32_1933
  let v3388 : BitVec 32 := v3387
  let v3389 : Index := Scalar.indexCast v3388
  let c0_1934 : Index := 0#32
  ![v3389.toNat, 0]

def k1_chk241 (v3385 : BitVec 32) : Prop :=
  (8 ∣ (k1_mult241 v3385).toNat) ∧
  (∀ a, (k1_off241 v3385) a + S8x128.size a ≤ S12800x128.size a)
theorem k1_mult241_dvd : ∀ (v3385 : BitVec 32) (k1_hw241 : k1_chk241 v3385), 8 ∣ (k1_mult241 v3385).toNat := fun v3385 k1_hw241 => k1_hw241.1
theorem k1_off241_inb : ∀ (v3385 : BitVec 32) (k1_hw241 : k1_chk241 v3385), ∀ a, (k1_off241 v3385) a + S8x128.size a ≤ S12800x128.size a := fun v3385 k1_hw241 => k1_hw241.2

def k1_mult242 (v3399 : BitVec 32) : BitVec 32 :=
  let c3_i32_1940 : BitVec 32 := 3#32
  let v3400 : BitVec 32 := Scalar.shrsi v3399 c3_i32_1940
  let c3_i32_1941 : BitVec 32 := 3#32
  let v3401 : BitVec 32 := Scalar.shli v3400 c3_i32_1941
  v3401

def k1_off242 (v3399 : BitVec 32) : Fin 2 → Nat :=
  let c3_i32_1940 : BitVec 32 := 3#32
  let v3400 : BitVec 32 := Scalar.shrsi v3399 c3_i32_1940
  let c3_i32_1941 : BitVec 32 := 3#32
  let v3401 : BitVec 32 := Scalar.shli v3400 c3_i32_1941
  let v3402 : BitVec 32 := v3401
  let v3403 : Index := Scalar.indexCast v3402
  let c0_1942 : Index := 0#32
  ![v3403.toNat, 0]

def k1_chk242 (v3399 : BitVec 32) : Prop :=
  (8 ∣ (k1_mult242 v3399).toNat) ∧
  (∀ a, (k1_off242 v3399) a + S8x128.size a ≤ S12800x128.size a)
theorem k1_mult242_dvd : ∀ (v3399 : BitVec 32) (k1_hw242 : k1_chk242 v3399), 8 ∣ (k1_mult242 v3399).toNat := fun v3399 k1_hw242 => k1_hw242.1
theorem k1_off242_inb : ∀ (v3399 : BitVec 32) (k1_hw242 : k1_chk242 v3399), ∀ a, (k1_off242 v3399) a + S8x128.size a ≤ S12800x128.size a := fun v3399 k1_hw242 => k1_hw242.2

def k1_mult243 (v3413 : BitVec 32) : BitVec 32 :=
  let c3_i32_1948 : BitVec 32 := 3#32
  let v3414 : BitVec 32 := Scalar.shrsi v3413 c3_i32_1948
  let c3_i32_1949 : BitVec 32 := 3#32
  let v3415 : BitVec 32 := Scalar.shli v3414 c3_i32_1949
  v3415

def k1_off243 (v3413 : BitVec 32) : Fin 2 → Nat :=
  let c3_i32_1948 : BitVec 32 := 3#32
  let v3414 : BitVec 32 := Scalar.shrsi v3413 c3_i32_1948
  let c3_i32_1949 : BitVec 32 := 3#32
  let v3415 : BitVec 32 := Scalar.shli v3414 c3_i32_1949
  let v3416 : BitVec 32 := v3415
  let v3417 : Index := Scalar.indexCast v3416
  let c0_1950 : Index := 0#32
  ![v3417.toNat, 0]

def k1_chk243 (v3413 : BitVec 32) : Prop :=
  (8 ∣ (k1_mult243 v3413).toNat) ∧
  (∀ a, (k1_off243 v3413) a + S8x128.size a ≤ S12800x128.size a)
theorem k1_mult243_dvd : ∀ (v3413 : BitVec 32) (k1_hw243 : k1_chk243 v3413), 8 ∣ (k1_mult243 v3413).toNat := fun v3413 k1_hw243 => k1_hw243.1
theorem k1_off243_inb : ∀ (v3413 : BitVec 32) (k1_hw243 : k1_chk243 v3413), ∀ a, (k1_off243 v3413) a + S8x128.size a ≤ S12800x128.size a := fun v3413 k1_hw243 => k1_hw243.2

def k1_mult244 (v3427 : BitVec 32) : BitVec 32 :=
  let c3_i32_1956 : BitVec 32 := 3#32
  let v3428 : BitVec 32 := Scalar.shrsi v3427 c3_i32_1956
  let c3_i32_1957 : BitVec 32 := 3#32
  let v3429 : BitVec 32 := Scalar.shli v3428 c3_i32_1957
  v3429

def k1_off244 (v3427 : BitVec 32) : Fin 2 → Nat :=
  let c3_i32_1956 : BitVec 32 := 3#32
  let v3428 : BitVec 32 := Scalar.shrsi v3427 c3_i32_1956
  let c3_i32_1957 : BitVec 32 := 3#32
  let v3429 : BitVec 32 := Scalar.shli v3428 c3_i32_1957
  let v3430 : BitVec 32 := v3429
  let v3431 : Index := Scalar.indexCast v3430
  let c0_1958 : Index := 0#32
  ![v3431.toNat, 0]

def k1_chk244 (v3427 : BitVec 32) : Prop :=
  (8 ∣ (k1_mult244 v3427).toNat) ∧
  (∀ a, (k1_off244 v3427) a + S8x128.size a ≤ S12800x128.size a)
theorem k1_mult244_dvd : ∀ (v3427 : BitVec 32) (k1_hw244 : k1_chk244 v3427), 8 ∣ (k1_mult244 v3427).toNat := fun v3427 k1_hw244 => k1_hw244.1
theorem k1_off244_inb : ∀ (v3427 : BitVec 32) (k1_hw244 : k1_chk244 v3427), ∀ a, (k1_off244 v3427) a + S8x128.size a ≤ S12800x128.size a := fun v3427 k1_hw244 => k1_hw244.2

def k1_mult245 (v3441 : BitVec 32) : BitVec 32 :=
  let c3_i32_1964 : BitVec 32 := 3#32
  let v3442 : BitVec 32 := Scalar.shrsi v3441 c3_i32_1964
  let c3_i32_1965 : BitVec 32 := 3#32
  let v3443 : BitVec 32 := Scalar.shli v3442 c3_i32_1965
  v3443

def k1_off245 (v3441 : BitVec 32) : Fin 2 → Nat :=
  let c3_i32_1964 : BitVec 32 := 3#32
  let v3442 : BitVec 32 := Scalar.shrsi v3441 c3_i32_1964
  let c3_i32_1965 : BitVec 32 := 3#32
  let v3443 : BitVec 32 := Scalar.shli v3442 c3_i32_1965
  let v3444 : BitVec 32 := v3443
  let v3445 : Index := Scalar.indexCast v3444
  let c0_1966 : Index := 0#32
  ![v3445.toNat, 0]

def k1_chk245 (v3441 : BitVec 32) : Prop :=
  (8 ∣ (k1_mult245 v3441).toNat) ∧
  (∀ a, (k1_off245 v3441) a + S8x128.size a ≤ S12800x128.size a)
theorem k1_mult245_dvd : ∀ (v3441 : BitVec 32) (k1_hw245 : k1_chk245 v3441), 8 ∣ (k1_mult245 v3441).toNat := fun v3441 k1_hw245 => k1_hw245.1
theorem k1_off245_inb : ∀ (v3441 : BitVec 32) (k1_hw245 : k1_chk245 v3441), ∀ a, (k1_off245 v3441) a + S8x128.size a ≤ S12800x128.size a := fun v3441 k1_hw245 => k1_hw245.2

def k1_mult246 (v3455 : BitVec 32) : BitVec 32 :=
  let c3_i32_1972 : BitVec 32 := 3#32
  let v3456 : BitVec 32 := Scalar.shrsi v3455 c3_i32_1972
  let c3_i32_1973 : BitVec 32 := 3#32
  let v3457 : BitVec 32 := Scalar.shli v3456 c3_i32_1973
  v3457

def k1_off246 (v3455 : BitVec 32) : Fin 2 → Nat :=
  let c3_i32_1972 : BitVec 32 := 3#32
  let v3456 : BitVec 32 := Scalar.shrsi v3455 c3_i32_1972
  let c3_i32_1973 : BitVec 32 := 3#32
  let v3457 : BitVec 32 := Scalar.shli v3456 c3_i32_1973
  let v3458 : BitVec 32 := v3457
  let v3459 : Index := Scalar.indexCast v3458
  let c0_1974 : Index := 0#32
  ![v3459.toNat, 0]

def k1_chk246 (v3455 : BitVec 32) : Prop :=
  (8 ∣ (k1_mult246 v3455).toNat) ∧
  (∀ a, (k1_off246 v3455) a + S8x128.size a ≤ S12800x128.size a)
theorem k1_mult246_dvd : ∀ (v3455 : BitVec 32) (k1_hw246 : k1_chk246 v3455), 8 ∣ (k1_mult246 v3455).toNat := fun v3455 k1_hw246 => k1_hw246.1
theorem k1_off246_inb : ∀ (v3455 : BitVec 32) (k1_hw246 : k1_chk246 v3455), ∀ a, (k1_off246 v3455) a + S8x128.size a ≤ S12800x128.size a := fun v3455 k1_hw246 => k1_hw246.2

def k1_mult247 (v3469 : BitVec 32) : BitVec 32 :=
  let c3_i32_1980 : BitVec 32 := 3#32
  let v3470 : BitVec 32 := Scalar.shrsi v3469 c3_i32_1980
  let c3_i32_1981 : BitVec 32 := 3#32
  let v3471 : BitVec 32 := Scalar.shli v3470 c3_i32_1981
  v3471

def k1_off247 (v3469 : BitVec 32) : Fin 2 → Nat :=
  let c3_i32_1980 : BitVec 32 := 3#32
  let v3470 : BitVec 32 := Scalar.shrsi v3469 c3_i32_1980
  let c3_i32_1981 : BitVec 32 := 3#32
  let v3471 : BitVec 32 := Scalar.shli v3470 c3_i32_1981
  let v3472 : BitVec 32 := v3471
  let v3473 : Index := Scalar.indexCast v3472
  let c0_1982 : Index := 0#32
  ![v3473.toNat, 0]

def k1_chk247 (v3469 : BitVec 32) : Prop :=
  (8 ∣ (k1_mult247 v3469).toNat) ∧
  (∀ a, (k1_off247 v3469) a + S8x128.size a ≤ S12800x128.size a)
theorem k1_mult247_dvd : ∀ (v3469 : BitVec 32) (k1_hw247 : k1_chk247 v3469), 8 ∣ (k1_mult247 v3469).toNat := fun v3469 k1_hw247 => k1_hw247.1
theorem k1_off247_inb : ∀ (v3469 : BitVec 32) (k1_hw247 : k1_chk247 v3469), ∀ a, (k1_off247 v3469) a + S8x128.size a ≤ S12800x128.size a := fun v3469 k1_hw247 => k1_hw247.2

def k1_mult248 (v3483 : BitVec 32) : BitVec 32 :=
  let c3_i32_1988 : BitVec 32 := 3#32
  let v3484 : BitVec 32 := Scalar.shrsi v3483 c3_i32_1988
  let c3_i32_1989 : BitVec 32 := 3#32
  let v3485 : BitVec 32 := Scalar.shli v3484 c3_i32_1989
  v3485

def k1_off248 (v3483 : BitVec 32) : Fin 2 → Nat :=
  let c3_i32_1988 : BitVec 32 := 3#32
  let v3484 : BitVec 32 := Scalar.shrsi v3483 c3_i32_1988
  let c3_i32_1989 : BitVec 32 := 3#32
  let v3485 : BitVec 32 := Scalar.shli v3484 c3_i32_1989
  let v3486 : BitVec 32 := v3485
  let v3487 : Index := Scalar.indexCast v3486
  let c0_1990 : Index := 0#32
  ![v3487.toNat, 0]

def k1_chk248 (v3483 : BitVec 32) : Prop :=
  (8 ∣ (k1_mult248 v3483).toNat) ∧
  (∀ a, (k1_off248 v3483) a + S8x128.size a ≤ S12800x128.size a)
theorem k1_mult248_dvd : ∀ (v3483 : BitVec 32) (k1_hw248 : k1_chk248 v3483), 8 ∣ (k1_mult248 v3483).toNat := fun v3483 k1_hw248 => k1_hw248.1
theorem k1_off248_inb : ∀ (v3483 : BitVec 32) (k1_hw248 : k1_chk248 v3483), ∀ a, (k1_off248 v3483) a + S8x128.size a ≤ S12800x128.size a := fun v3483 k1_hw248 => k1_hw248.2

def k1_mult249 (v3497 : BitVec 32) : BitVec 32 :=
  let c3_i32_1996 : BitVec 32 := 3#32
  let v3498 : BitVec 32 := Scalar.shrsi v3497 c3_i32_1996
  let c3_i32_1997 : BitVec 32 := 3#32
  let v3499 : BitVec 32 := Scalar.shli v3498 c3_i32_1997
  v3499

def k1_off249 (v3497 : BitVec 32) : Fin 2 → Nat :=
  let c3_i32_1996 : BitVec 32 := 3#32
  let v3498 : BitVec 32 := Scalar.shrsi v3497 c3_i32_1996
  let c3_i32_1997 : BitVec 32 := 3#32
  let v3499 : BitVec 32 := Scalar.shli v3498 c3_i32_1997
  let v3500 : BitVec 32 := v3499
  let v3501 : Index := Scalar.indexCast v3500
  let c0_1998 : Index := 0#32
  ![v3501.toNat, 0]

def k1_chk249 (v3497 : BitVec 32) : Prop :=
  (8 ∣ (k1_mult249 v3497).toNat) ∧
  (∀ a, (k1_off249 v3497) a + S8x128.size a ≤ S12800x128.size a)
theorem k1_mult249_dvd : ∀ (v3497 : BitVec 32) (k1_hw249 : k1_chk249 v3497), 8 ∣ (k1_mult249 v3497).toNat := fun v3497 k1_hw249 => k1_hw249.1
theorem k1_off249_inb : ∀ (v3497 : BitVec 32) (k1_hw249 : k1_chk249 v3497), ∀ a, (k1_off249 v3497) a + S8x128.size a ≤ S12800x128.size a := fun v3497 k1_hw249 => k1_hw249.2

def k1_mult250 (v3511 : BitVec 32) : BitVec 32 :=
  let c3_i32_2004 : BitVec 32 := 3#32
  let v3512 : BitVec 32 := Scalar.shrsi v3511 c3_i32_2004
  let c3_i32_2005 : BitVec 32 := 3#32
  let v3513 : BitVec 32 := Scalar.shli v3512 c3_i32_2005
  v3513

def k1_off250 (v3511 : BitVec 32) : Fin 2 → Nat :=
  let c3_i32_2004 : BitVec 32 := 3#32
  let v3512 : BitVec 32 := Scalar.shrsi v3511 c3_i32_2004
  let c3_i32_2005 : BitVec 32 := 3#32
  let v3513 : BitVec 32 := Scalar.shli v3512 c3_i32_2005
  let v3514 : BitVec 32 := v3513
  let v3515 : Index := Scalar.indexCast v3514
  let c0_2006 : Index := 0#32
  ![v3515.toNat, 0]

def k1_chk250 (v3511 : BitVec 32) : Prop :=
  (8 ∣ (k1_mult250 v3511).toNat) ∧
  (∀ a, (k1_off250 v3511) a + S8x128.size a ≤ S12800x128.size a)
theorem k1_mult250_dvd : ∀ (v3511 : BitVec 32) (k1_hw250 : k1_chk250 v3511), 8 ∣ (k1_mult250 v3511).toNat := fun v3511 k1_hw250 => k1_hw250.1
theorem k1_off250_inb : ∀ (v3511 : BitVec 32) (k1_hw250 : k1_chk250 v3511), ∀ a, (k1_off250 v3511) a + S8x128.size a ≤ S12800x128.size a := fun v3511 k1_hw250 => k1_hw250.2

def k1_mult251 (v3525 : BitVec 32) : BitVec 32 :=
  let c3_i32_2012 : BitVec 32 := 3#32
  let v3526 : BitVec 32 := Scalar.shrsi v3525 c3_i32_2012
  let c3_i32_2013 : BitVec 32 := 3#32
  let v3527 : BitVec 32 := Scalar.shli v3526 c3_i32_2013
  v3527

def k1_off251 (v3525 : BitVec 32) : Fin 2 → Nat :=
  let c3_i32_2012 : BitVec 32 := 3#32
  let v3526 : BitVec 32 := Scalar.shrsi v3525 c3_i32_2012
  let c3_i32_2013 : BitVec 32 := 3#32
  let v3527 : BitVec 32 := Scalar.shli v3526 c3_i32_2013
  let v3528 : BitVec 32 := v3527
  let v3529 : Index := Scalar.indexCast v3528
  let c0_2014 : Index := 0#32
  ![v3529.toNat, 0]

def k1_chk251 (v3525 : BitVec 32) : Prop :=
  (8 ∣ (k1_mult251 v3525).toNat) ∧
  (∀ a, (k1_off251 v3525) a + S8x128.size a ≤ S12800x128.size a)
theorem k1_mult251_dvd : ∀ (v3525 : BitVec 32) (k1_hw251 : k1_chk251 v3525), 8 ∣ (k1_mult251 v3525).toNat := fun v3525 k1_hw251 => k1_hw251.1
theorem k1_off251_inb : ∀ (v3525 : BitVec 32) (k1_hw251 : k1_chk251 v3525), ∀ a, (k1_off251 v3525) a + S8x128.size a ≤ S12800x128.size a := fun v3525 k1_hw251 => k1_hw251.2

def k1_mult252 (v3539 : BitVec 32) : BitVec 32 :=
  let c3_i32_2020 : BitVec 32 := 3#32
  let v3540 : BitVec 32 := Scalar.shrsi v3539 c3_i32_2020
  let c3_i32_2021 : BitVec 32 := 3#32
  let v3541 : BitVec 32 := Scalar.shli v3540 c3_i32_2021
  v3541

def k1_off252 (v3539 : BitVec 32) : Fin 2 → Nat :=
  let c3_i32_2020 : BitVec 32 := 3#32
  let v3540 : BitVec 32 := Scalar.shrsi v3539 c3_i32_2020
  let c3_i32_2021 : BitVec 32 := 3#32
  let v3541 : BitVec 32 := Scalar.shli v3540 c3_i32_2021
  let v3542 : BitVec 32 := v3541
  let v3543 : Index := Scalar.indexCast v3542
  let c0_2022 : Index := 0#32
  ![v3543.toNat, 0]

def k1_chk252 (v3539 : BitVec 32) : Prop :=
  (8 ∣ (k1_mult252 v3539).toNat) ∧
  (∀ a, (k1_off252 v3539) a + S8x128.size a ≤ S12800x128.size a)
theorem k1_mult252_dvd : ∀ (v3539 : BitVec 32) (k1_hw252 : k1_chk252 v3539), 8 ∣ (k1_mult252 v3539).toNat := fun v3539 k1_hw252 => k1_hw252.1
theorem k1_off252_inb : ∀ (v3539 : BitVec 32) (k1_hw252 : k1_chk252 v3539), ∀ a, (k1_off252 v3539) a + S8x128.size a ≤ S12800x128.size a := fun v3539 k1_hw252 => k1_hw252.2

def k1_mult253 (v3553 : BitVec 32) : BitVec 32 :=
  let c3_i32_2028 : BitVec 32 := 3#32
  let v3554 : BitVec 32 := Scalar.shrsi v3553 c3_i32_2028
  let c3_i32_2029 : BitVec 32 := 3#32
  let v3555 : BitVec 32 := Scalar.shli v3554 c3_i32_2029
  v3555

def k1_off253 (v3553 : BitVec 32) : Fin 2 → Nat :=
  let c3_i32_2028 : BitVec 32 := 3#32
  let v3554 : BitVec 32 := Scalar.shrsi v3553 c3_i32_2028
  let c3_i32_2029 : BitVec 32 := 3#32
  let v3555 : BitVec 32 := Scalar.shli v3554 c3_i32_2029
  let v3556 : BitVec 32 := v3555
  let v3557 : Index := Scalar.indexCast v3556
  let c0_2030 : Index := 0#32
  ![v3557.toNat, 0]

def k1_chk253 (v3553 : BitVec 32) : Prop :=
  (8 ∣ (k1_mult253 v3553).toNat) ∧
  (∀ a, (k1_off253 v3553) a + S8x128.size a ≤ S12800x128.size a)
theorem k1_mult253_dvd : ∀ (v3553 : BitVec 32) (k1_hw253 : k1_chk253 v3553), 8 ∣ (k1_mult253 v3553).toNat := fun v3553 k1_hw253 => k1_hw253.1
theorem k1_off253_inb : ∀ (v3553 : BitVec 32) (k1_hw253 : k1_chk253 v3553), ∀ a, (k1_off253 v3553) a + S8x128.size a ≤ S12800x128.size a := fun v3553 k1_hw253 => k1_hw253.2

def k1_mult254 (v3567 : BitVec 32) : BitVec 32 :=
  let c3_i32_2036 : BitVec 32 := 3#32
  let v3568 : BitVec 32 := Scalar.shrsi v3567 c3_i32_2036
  let c3_i32_2037 : BitVec 32 := 3#32
  let v3569 : BitVec 32 := Scalar.shli v3568 c3_i32_2037
  v3569

def k1_off254 (v3567 : BitVec 32) : Fin 2 → Nat :=
  let c3_i32_2036 : BitVec 32 := 3#32
  let v3568 : BitVec 32 := Scalar.shrsi v3567 c3_i32_2036
  let c3_i32_2037 : BitVec 32 := 3#32
  let v3569 : BitVec 32 := Scalar.shli v3568 c3_i32_2037
  let v3570 : BitVec 32 := v3569
  let v3571 : Index := Scalar.indexCast v3570
  let c0_2038 : Index := 0#32
  ![v3571.toNat, 0]

def k1_chk254 (v3567 : BitVec 32) : Prop :=
  (8 ∣ (k1_mult254 v3567).toNat) ∧
  (∀ a, (k1_off254 v3567) a + S8x128.size a ≤ S12800x128.size a)
theorem k1_mult254_dvd : ∀ (v3567 : BitVec 32) (k1_hw254 : k1_chk254 v3567), 8 ∣ (k1_mult254 v3567).toNat := fun v3567 k1_hw254 => k1_hw254.1
theorem k1_off254_inb : ∀ (v3567 : BitVec 32) (k1_hw254 : k1_chk254 v3567), ∀ a, (k1_off254 v3567) a + S8x128.size a ≤ S12800x128.size a := fun v3567 k1_hw254 => k1_hw254.2

def k1_mult255 (v3581 : BitVec 32) : BitVec 32 :=
  let c3_i32_2044 : BitVec 32 := 3#32
  let v3582 : BitVec 32 := Scalar.shrsi v3581 c3_i32_2044
  let c3_i32_2045 : BitVec 32 := 3#32
  let v3583 : BitVec 32 := Scalar.shli v3582 c3_i32_2045
  v3583

def k1_off255 (v3581 : BitVec 32) : Fin 2 → Nat :=
  let c3_i32_2044 : BitVec 32 := 3#32
  let v3582 : BitVec 32 := Scalar.shrsi v3581 c3_i32_2044
  let c3_i32_2045 : BitVec 32 := 3#32
  let v3583 : BitVec 32 := Scalar.shli v3582 c3_i32_2045
  let v3584 : BitVec 32 := v3583
  let v3585 : Index := Scalar.indexCast v3584
  let c0_2046 : Index := 0#32
  ![v3585.toNat, 0]

def k1_chk255 (v3581 : BitVec 32) : Prop :=
  (8 ∣ (k1_mult255 v3581).toNat) ∧
  (∀ a, (k1_off255 v3581) a + S8x128.size a ≤ S12800x128.size a)
theorem k1_mult255_dvd : ∀ (v3581 : BitVec 32) (k1_hw255 : k1_chk255 v3581), 8 ∣ (k1_mult255 v3581).toNat := fun v3581 k1_hw255 => k1_hw255.1
theorem k1_off255_inb : ∀ (v3581 : BitVec 32) (k1_hw255 : k1_chk255 v3581), ∀ a, (k1_off255 v3581) a + S8x128.size a ≤ S12800x128.size a := fun v3581 k1_hw255 => k1_hw255.2

def k1_mult256 (v3595 : BitVec 32) : BitVec 32 :=
  let c3_i32_2052 : BitVec 32 := 3#32
  let v3596 : BitVec 32 := Scalar.shrsi v3595 c3_i32_2052
  let c3_i32_2053 : BitVec 32 := 3#32
  let v3597 : BitVec 32 := Scalar.shli v3596 c3_i32_2053
  v3597

def k1_off256 (v3595 : BitVec 32) : Fin 2 → Nat :=
  let c3_i32_2052 : BitVec 32 := 3#32
  let v3596 : BitVec 32 := Scalar.shrsi v3595 c3_i32_2052
  let c3_i32_2053 : BitVec 32 := 3#32
  let v3597 : BitVec 32 := Scalar.shli v3596 c3_i32_2053
  let v3598 : BitVec 32 := v3597
  let v3599 : Index := Scalar.indexCast v3598
  let c0_2054 : Index := 0#32
  ![v3599.toNat, 0]

def k1_chk256 (v3595 : BitVec 32) : Prop :=
  (8 ∣ (k1_mult256 v3595).toNat) ∧
  (∀ a, (k1_off256 v3595) a + S8x128.size a ≤ S12800x128.size a)
theorem k1_mult256_dvd : ∀ (v3595 : BitVec 32) (k1_hw256 : k1_chk256 v3595), 8 ∣ (k1_mult256 v3595).toNat := fun v3595 k1_hw256 => k1_hw256.1
theorem k1_off256_inb : ∀ (v3595 : BitVec 32) (k1_hw256 : k1_chk256 v3595), ∀ a, (k1_off256 v3595) a + S8x128.size a ≤ S12800x128.size a := fun v3595 k1_hw256 => k1_hw256.2

def k1_mult257 (v3609 : BitVec 32) : BitVec 32 :=
  let c3_i32_2060 : BitVec 32 := 3#32
  let v3610 : BitVec 32 := Scalar.shrsi v3609 c3_i32_2060
  let c3_i32_2061 : BitVec 32 := 3#32
  let v3611 : BitVec 32 := Scalar.shli v3610 c3_i32_2061
  v3611

def k1_off257 (v3609 : BitVec 32) : Fin 2 → Nat :=
  let c3_i32_2060 : BitVec 32 := 3#32
  let v3610 : BitVec 32 := Scalar.shrsi v3609 c3_i32_2060
  let c3_i32_2061 : BitVec 32 := 3#32
  let v3611 : BitVec 32 := Scalar.shli v3610 c3_i32_2061
  let v3612 : BitVec 32 := v3611
  let v3613 : Index := Scalar.indexCast v3612
  let c0_2062 : Index := 0#32
  ![v3613.toNat, 0]

def k1_chk257 (v3609 : BitVec 32) : Prop :=
  (8 ∣ (k1_mult257 v3609).toNat) ∧
  (∀ a, (k1_off257 v3609) a + S8x128.size a ≤ S12800x128.size a)
theorem k1_mult257_dvd : ∀ (v3609 : BitVec 32) (k1_hw257 : k1_chk257 v3609), 8 ∣ (k1_mult257 v3609).toNat := fun v3609 k1_hw257 => k1_hw257.1
theorem k1_off257_inb : ∀ (v3609 : BitVec 32) (k1_hw257 : k1_chk257 v3609), ∀ a, (k1_off257 v3609) a + S8x128.size a ≤ S12800x128.size a := fun v3609 k1_hw257 => k1_hw257.2

def k1_mult258 (v3623 : BitVec 32) : BitVec 32 :=
  let c3_i32_2068 : BitVec 32 := 3#32
  let v3624 : BitVec 32 := Scalar.shrsi v3623 c3_i32_2068
  let c3_i32_2069 : BitVec 32 := 3#32
  let v3625 : BitVec 32 := Scalar.shli v3624 c3_i32_2069
  v3625

def k1_off258 (v3623 : BitVec 32) : Fin 2 → Nat :=
  let c3_i32_2068 : BitVec 32 := 3#32
  let v3624 : BitVec 32 := Scalar.shrsi v3623 c3_i32_2068
  let c3_i32_2069 : BitVec 32 := 3#32
  let v3625 : BitVec 32 := Scalar.shli v3624 c3_i32_2069
  let v3626 : BitVec 32 := v3625
  let v3627 : Index := Scalar.indexCast v3626
  let c0_2070 : Index := 0#32
  ![v3627.toNat, 0]

def k1_chk258 (v3623 : BitVec 32) : Prop :=
  (8 ∣ (k1_mult258 v3623).toNat) ∧
  (∀ a, (k1_off258 v3623) a + S8x128.size a ≤ S12800x128.size a)
theorem k1_mult258_dvd : ∀ (v3623 : BitVec 32) (k1_hw258 : k1_chk258 v3623), 8 ∣ (k1_mult258 v3623).toNat := fun v3623 k1_hw258 => k1_hw258.1
theorem k1_off258_inb : ∀ (v3623 : BitVec 32) (k1_hw258 : k1_chk258 v3623), ∀ a, (k1_off258 v3623) a + S8x128.size a ≤ S12800x128.size a := fun v3623 k1_hw258 => k1_hw258.2

def k1_mult259 (v3637 : BitVec 32) : BitVec 32 :=
  let c3_i32_2076 : BitVec 32 := 3#32
  let v3638 : BitVec 32 := Scalar.shrsi v3637 c3_i32_2076
  let c3_i32_2077 : BitVec 32 := 3#32
  let v3639 : BitVec 32 := Scalar.shli v3638 c3_i32_2077
  v3639

def k1_off259 (v3637 : BitVec 32) : Fin 2 → Nat :=
  let c3_i32_2076 : BitVec 32 := 3#32
  let v3638 : BitVec 32 := Scalar.shrsi v3637 c3_i32_2076
  let c3_i32_2077 : BitVec 32 := 3#32
  let v3639 : BitVec 32 := Scalar.shli v3638 c3_i32_2077
  let v3640 : BitVec 32 := v3639
  let v3641 : Index := Scalar.indexCast v3640
  let c0_2078 : Index := 0#32
  ![v3641.toNat, 0]

def k1_chk259 (v3637 : BitVec 32) : Prop :=
  (8 ∣ (k1_mult259 v3637).toNat) ∧
  (∀ a, (k1_off259 v3637) a + S8x128.size a ≤ S12800x128.size a)
theorem k1_mult259_dvd : ∀ (v3637 : BitVec 32) (k1_hw259 : k1_chk259 v3637), 8 ∣ (k1_mult259 v3637).toNat := fun v3637 k1_hw259 => k1_hw259.1
theorem k1_off259_inb : ∀ (v3637 : BitVec 32) (k1_hw259 : k1_chk259 v3637), ∀ a, (k1_off259 v3637) a + S8x128.size a ≤ S12800x128.size a := fun v3637 k1_hw259 => k1_hw259.2

def k1_mult260 (v3651 : BitVec 32) : BitVec 32 :=
  let c3_i32_2084 : BitVec 32 := 3#32
  let v3652 : BitVec 32 := Scalar.shrsi v3651 c3_i32_2084
  let c3_i32_2085 : BitVec 32 := 3#32
  let v3653 : BitVec 32 := Scalar.shli v3652 c3_i32_2085
  v3653

def k1_off260 (v3651 : BitVec 32) : Fin 2 → Nat :=
  let c3_i32_2084 : BitVec 32 := 3#32
  let v3652 : BitVec 32 := Scalar.shrsi v3651 c3_i32_2084
  let c3_i32_2085 : BitVec 32 := 3#32
  let v3653 : BitVec 32 := Scalar.shli v3652 c3_i32_2085
  let v3654 : BitVec 32 := v3653
  let v3655 : Index := Scalar.indexCast v3654
  let c0_2086 : Index := 0#32
  ![v3655.toNat, 0]

def k1_chk260 (v3651 : BitVec 32) : Prop :=
  (8 ∣ (k1_mult260 v3651).toNat) ∧
  (∀ a, (k1_off260 v3651) a + S8x128.size a ≤ S12800x128.size a)
theorem k1_mult260_dvd : ∀ (v3651 : BitVec 32) (k1_hw260 : k1_chk260 v3651), 8 ∣ (k1_mult260 v3651).toNat := fun v3651 k1_hw260 => k1_hw260.1
theorem k1_off260_inb : ∀ (v3651 : BitVec 32) (k1_hw260 : k1_chk260 v3651), ∀ a, (k1_off260 v3651) a + S8x128.size a ≤ S12800x128.size a := fun v3651 k1_hw260 => k1_hw260.2

def k1_mult261 (v3665 : BitVec 32) : BitVec 32 :=
  let c3_i32_2092 : BitVec 32 := 3#32
  let v3666 : BitVec 32 := Scalar.shrsi v3665 c3_i32_2092
  let c3_i32_2093 : BitVec 32 := 3#32
  let v3667 : BitVec 32 := Scalar.shli v3666 c3_i32_2093
  v3667

def k1_off261 (v3665 : BitVec 32) : Fin 2 → Nat :=
  let c3_i32_2092 : BitVec 32 := 3#32
  let v3666 : BitVec 32 := Scalar.shrsi v3665 c3_i32_2092
  let c3_i32_2093 : BitVec 32 := 3#32
  let v3667 : BitVec 32 := Scalar.shli v3666 c3_i32_2093
  let v3668 : BitVec 32 := v3667
  let v3669 : Index := Scalar.indexCast v3668
  let c0_2094 : Index := 0#32
  ![v3669.toNat, 0]

def k1_chk261 (v3665 : BitVec 32) : Prop :=
  (8 ∣ (k1_mult261 v3665).toNat) ∧
  (∀ a, (k1_off261 v3665) a + S8x128.size a ≤ S12800x128.size a)
theorem k1_mult261_dvd : ∀ (v3665 : BitVec 32) (k1_hw261 : k1_chk261 v3665), 8 ∣ (k1_mult261 v3665).toNat := fun v3665 k1_hw261 => k1_hw261.1
theorem k1_off261_inb : ∀ (v3665 : BitVec 32) (k1_hw261 : k1_chk261 v3665), ∀ a, (k1_off261 v3665) a + S8x128.size a ≤ S12800x128.size a := fun v3665 k1_hw261 => k1_hw261.2

def k1_mult262 (v3679 : BitVec 32) : BitVec 32 :=
  let c3_i32_2100 : BitVec 32 := 3#32
  let v3680 : BitVec 32 := Scalar.shrsi v3679 c3_i32_2100
  let c3_i32_2101 : BitVec 32 := 3#32
  let v3681 : BitVec 32 := Scalar.shli v3680 c3_i32_2101
  v3681

def k1_off262 (v3679 : BitVec 32) : Fin 2 → Nat :=
  let c3_i32_2100 : BitVec 32 := 3#32
  let v3680 : BitVec 32 := Scalar.shrsi v3679 c3_i32_2100
  let c3_i32_2101 : BitVec 32 := 3#32
  let v3681 : BitVec 32 := Scalar.shli v3680 c3_i32_2101
  let v3682 : BitVec 32 := v3681
  let v3683 : Index := Scalar.indexCast v3682
  let c0_2102 : Index := 0#32
  ![v3683.toNat, 0]

def k1_chk262 (v3679 : BitVec 32) : Prop :=
  (8 ∣ (k1_mult262 v3679).toNat) ∧
  (∀ a, (k1_off262 v3679) a + S8x128.size a ≤ S12800x128.size a)
theorem k1_mult262_dvd : ∀ (v3679 : BitVec 32) (k1_hw262 : k1_chk262 v3679), 8 ∣ (k1_mult262 v3679).toNat := fun v3679 k1_hw262 => k1_hw262.1
theorem k1_off262_inb : ∀ (v3679 : BitVec 32) (k1_hw262 : k1_chk262 v3679), ∀ a, (k1_off262 v3679) a + S8x128.size a ≤ S12800x128.size a := fun v3679 k1_hw262 => k1_hw262.2

def k1_mult263 (v3693 : BitVec 32) : BitVec 32 :=
  let c3_i32_2108 : BitVec 32 := 3#32
  let v3694 : BitVec 32 := Scalar.shrsi v3693 c3_i32_2108
  let c3_i32_2109 : BitVec 32 := 3#32
  let v3695 : BitVec 32 := Scalar.shli v3694 c3_i32_2109
  v3695

def k1_off263 (v3693 : BitVec 32) : Fin 2 → Nat :=
  let c3_i32_2108 : BitVec 32 := 3#32
  let v3694 : BitVec 32 := Scalar.shrsi v3693 c3_i32_2108
  let c3_i32_2109 : BitVec 32 := 3#32
  let v3695 : BitVec 32 := Scalar.shli v3694 c3_i32_2109
  let v3696 : BitVec 32 := v3695
  let v3697 : Index := Scalar.indexCast v3696
  let c0_2110 : Index := 0#32
  ![v3697.toNat, 0]

def k1_chk263 (v3693 : BitVec 32) : Prop :=
  (8 ∣ (k1_mult263 v3693).toNat) ∧
  (∀ a, (k1_off263 v3693) a + S8x128.size a ≤ S12800x128.size a)
theorem k1_mult263_dvd : ∀ (v3693 : BitVec 32) (k1_hw263 : k1_chk263 v3693), 8 ∣ (k1_mult263 v3693).toNat := fun v3693 k1_hw263 => k1_hw263.1
theorem k1_off263_inb : ∀ (v3693 : BitVec 32) (k1_hw263 : k1_chk263 v3693), ∀ a, (k1_off263 v3693) a + S8x128.size a ≤ S12800x128.size a := fun v3693 k1_hw263 => k1_hw263.2

def k1_mult264 (v3707 : BitVec 32) : BitVec 32 :=
  let c3_i32_2116 : BitVec 32 := 3#32
  let v3708 : BitVec 32 := Scalar.shrsi v3707 c3_i32_2116
  let c3_i32_2117 : BitVec 32 := 3#32
  let v3709 : BitVec 32 := Scalar.shli v3708 c3_i32_2117
  v3709

def k1_off264 (v3707 : BitVec 32) : Fin 2 → Nat :=
  let c3_i32_2116 : BitVec 32 := 3#32
  let v3708 : BitVec 32 := Scalar.shrsi v3707 c3_i32_2116
  let c3_i32_2117 : BitVec 32 := 3#32
  let v3709 : BitVec 32 := Scalar.shli v3708 c3_i32_2117
  let v3710 : BitVec 32 := v3709
  let v3711 : Index := Scalar.indexCast v3710
  let c0_2118 : Index := 0#32
  ![v3711.toNat, 0]

def k1_chk264 (v3707 : BitVec 32) : Prop :=
  (8 ∣ (k1_mult264 v3707).toNat) ∧
  (∀ a, (k1_off264 v3707) a + S8x128.size a ≤ S12800x128.size a)
theorem k1_mult264_dvd : ∀ (v3707 : BitVec 32) (k1_hw264 : k1_chk264 v3707), 8 ∣ (k1_mult264 v3707).toNat := fun v3707 k1_hw264 => k1_hw264.1
theorem k1_off264_inb : ∀ (v3707 : BitVec 32) (k1_hw264 : k1_chk264 v3707), ∀ a, (k1_off264 v3707) a + S8x128.size a ≤ S12800x128.size a := fun v3707 k1_hw264 => k1_hw264.2

def k1_mult265 (v3721 : BitVec 32) : BitVec 32 :=
  let c3_i32_2124 : BitVec 32 := 3#32
  let v3722 : BitVec 32 := Scalar.shrsi v3721 c3_i32_2124
  let c3_i32_2125 : BitVec 32 := 3#32
  let v3723 : BitVec 32 := Scalar.shli v3722 c3_i32_2125
  v3723

def k1_off265 (v3721 : BitVec 32) : Fin 2 → Nat :=
  let c3_i32_2124 : BitVec 32 := 3#32
  let v3722 : BitVec 32 := Scalar.shrsi v3721 c3_i32_2124
  let c3_i32_2125 : BitVec 32 := 3#32
  let v3723 : BitVec 32 := Scalar.shli v3722 c3_i32_2125
  let v3724 : BitVec 32 := v3723
  let v3725 : Index := Scalar.indexCast v3724
  let c0_2126 : Index := 0#32
  ![v3725.toNat, 0]

def k1_chk265 (v3721 : BitVec 32) : Prop :=
  (8 ∣ (k1_mult265 v3721).toNat) ∧
  (∀ a, (k1_off265 v3721) a + S8x128.size a ≤ S12800x128.size a)
theorem k1_mult265_dvd : ∀ (v3721 : BitVec 32) (k1_hw265 : k1_chk265 v3721), 8 ∣ (k1_mult265 v3721).toNat := fun v3721 k1_hw265 => k1_hw265.1
theorem k1_off265_inb : ∀ (v3721 : BitVec 32) (k1_hw265 : k1_chk265 v3721), ∀ a, (k1_off265 v3721) a + S8x128.size a ≤ S12800x128.size a := fun v3721 k1_hw265 => k1_hw265.2

def k1_mult266 (v3735 : BitVec 32) : BitVec 32 :=
  let c3_i32_2132 : BitVec 32 := 3#32
  let v3736 : BitVec 32 := Scalar.shrsi v3735 c3_i32_2132
  let c3_i32_2133 : BitVec 32 := 3#32
  let v3737 : BitVec 32 := Scalar.shli v3736 c3_i32_2133
  v3737

def k1_off266 (v3735 : BitVec 32) : Fin 2 → Nat :=
  let c3_i32_2132 : BitVec 32 := 3#32
  let v3736 : BitVec 32 := Scalar.shrsi v3735 c3_i32_2132
  let c3_i32_2133 : BitVec 32 := 3#32
  let v3737 : BitVec 32 := Scalar.shli v3736 c3_i32_2133
  let v3738 : BitVec 32 := v3737
  let v3739 : Index := Scalar.indexCast v3738
  let c0_2134 : Index := 0#32
  ![v3739.toNat, 0]

def k1_chk266 (v3735 : BitVec 32) : Prop :=
  (8 ∣ (k1_mult266 v3735).toNat) ∧
  (∀ a, (k1_off266 v3735) a + S8x128.size a ≤ S12800x128.size a)
theorem k1_mult266_dvd : ∀ (v3735 : BitVec 32) (k1_hw266 : k1_chk266 v3735), 8 ∣ (k1_mult266 v3735).toNat := fun v3735 k1_hw266 => k1_hw266.1
theorem k1_off266_inb : ∀ (v3735 : BitVec 32) (k1_hw266 : k1_chk266 v3735), ∀ a, (k1_off266 v3735) a + S8x128.size a ≤ S12800x128.size a := fun v3735 k1_hw266 => k1_hw266.2

def k1_mult267 (v3749 : BitVec 32) : BitVec 32 :=
  let c3_i32_2140 : BitVec 32 := 3#32
  let v3750 : BitVec 32 := Scalar.shrsi v3749 c3_i32_2140
  let c3_i32_2141 : BitVec 32 := 3#32
  let v3751 : BitVec 32 := Scalar.shli v3750 c3_i32_2141
  v3751

def k1_off267 (v3749 : BitVec 32) : Fin 2 → Nat :=
  let c3_i32_2140 : BitVec 32 := 3#32
  let v3750 : BitVec 32 := Scalar.shrsi v3749 c3_i32_2140
  let c3_i32_2141 : BitVec 32 := 3#32
  let v3751 : BitVec 32 := Scalar.shli v3750 c3_i32_2141
  let v3752 : BitVec 32 := v3751
  let v3753 : Index := Scalar.indexCast v3752
  let c0_2142 : Index := 0#32
  ![v3753.toNat, 0]

def k1_chk267 (v3749 : BitVec 32) : Prop :=
  (8 ∣ (k1_mult267 v3749).toNat) ∧
  (∀ a, (k1_off267 v3749) a + S8x128.size a ≤ S12800x128.size a)
theorem k1_mult267_dvd : ∀ (v3749 : BitVec 32) (k1_hw267 : k1_chk267 v3749), 8 ∣ (k1_mult267 v3749).toNat := fun v3749 k1_hw267 => k1_hw267.1
theorem k1_off267_inb : ∀ (v3749 : BitVec 32) (k1_hw267 : k1_chk267 v3749), ∀ a, (k1_off267 v3749) a + S8x128.size a ≤ S12800x128.size a := fun v3749 k1_hw267 => k1_hw267.2

def k1_mult268 (v3763 : BitVec 32) : BitVec 32 :=
  let c3_i32_2148 : BitVec 32 := 3#32
  let v3764 : BitVec 32 := Scalar.shrsi v3763 c3_i32_2148
  let c3_i32_2149 : BitVec 32 := 3#32
  let v3765 : BitVec 32 := Scalar.shli v3764 c3_i32_2149
  v3765

def k1_off268 (v3763 : BitVec 32) : Fin 2 → Nat :=
  let c3_i32_2148 : BitVec 32 := 3#32
  let v3764 : BitVec 32 := Scalar.shrsi v3763 c3_i32_2148
  let c3_i32_2149 : BitVec 32 := 3#32
  let v3765 : BitVec 32 := Scalar.shli v3764 c3_i32_2149
  let v3766 : BitVec 32 := v3765
  let v3767 : Index := Scalar.indexCast v3766
  let c0_2150 : Index := 0#32
  ![v3767.toNat, 0]

def k1_chk268 (v3763 : BitVec 32) : Prop :=
  (8 ∣ (k1_mult268 v3763).toNat) ∧
  (∀ a, (k1_off268 v3763) a + S8x128.size a ≤ S12800x128.size a)
theorem k1_mult268_dvd : ∀ (v3763 : BitVec 32) (k1_hw268 : k1_chk268 v3763), 8 ∣ (k1_mult268 v3763).toNat := fun v3763 k1_hw268 => k1_hw268.1
theorem k1_off268_inb : ∀ (v3763 : BitVec 32) (k1_hw268 : k1_chk268 v3763), ∀ a, (k1_off268 v3763) a + S8x128.size a ≤ S12800x128.size a := fun v3763 k1_hw268 => k1_hw268.2

def k1_mult269 (v3777 : BitVec 32) : BitVec 32 :=
  let c3_i32_2156 : BitVec 32 := 3#32
  let v3778 : BitVec 32 := Scalar.shrsi v3777 c3_i32_2156
  let c3_i32_2157 : BitVec 32 := 3#32
  let v3779 : BitVec 32 := Scalar.shli v3778 c3_i32_2157
  v3779

def k1_off269 (v3777 : BitVec 32) : Fin 2 → Nat :=
  let c3_i32_2156 : BitVec 32 := 3#32
  let v3778 : BitVec 32 := Scalar.shrsi v3777 c3_i32_2156
  let c3_i32_2157 : BitVec 32 := 3#32
  let v3779 : BitVec 32 := Scalar.shli v3778 c3_i32_2157
  let v3780 : BitVec 32 := v3779
  let v3781 : Index := Scalar.indexCast v3780
  let c0_2158 : Index := 0#32
  ![v3781.toNat, 0]

def k1_chk269 (v3777 : BitVec 32) : Prop :=
  (8 ∣ (k1_mult269 v3777).toNat) ∧
  (∀ a, (k1_off269 v3777) a + S8x128.size a ≤ S12800x128.size a)
theorem k1_mult269_dvd : ∀ (v3777 : BitVec 32) (k1_hw269 : k1_chk269 v3777), 8 ∣ (k1_mult269 v3777).toNat := fun v3777 k1_hw269 => k1_hw269.1
theorem k1_off269_inb : ∀ (v3777 : BitVec 32) (k1_hw269 : k1_chk269 v3777), ∀ a, (k1_off269 v3777) a + S8x128.size a ≤ S12800x128.size a := fun v3777 k1_hw269 => k1_hw269.2

def k1_mult270 (v3791 : BitVec 32) : BitVec 32 :=
  let c3_i32_2164 : BitVec 32 := 3#32
  let v3792 : BitVec 32 := Scalar.shrsi v3791 c3_i32_2164
  let c3_i32_2165 : BitVec 32 := 3#32
  let v3793 : BitVec 32 := Scalar.shli v3792 c3_i32_2165
  v3793

def k1_off270 (v3791 : BitVec 32) : Fin 2 → Nat :=
  let c3_i32_2164 : BitVec 32 := 3#32
  let v3792 : BitVec 32 := Scalar.shrsi v3791 c3_i32_2164
  let c3_i32_2165 : BitVec 32 := 3#32
  let v3793 : BitVec 32 := Scalar.shli v3792 c3_i32_2165
  let v3794 : BitVec 32 := v3793
  let v3795 : Index := Scalar.indexCast v3794
  let c0_2166 : Index := 0#32
  ![v3795.toNat, 0]

def k1_chk270 (v3791 : BitVec 32) : Prop :=
  (8 ∣ (k1_mult270 v3791).toNat) ∧
  (∀ a, (k1_off270 v3791) a + S8x128.size a ≤ S12800x128.size a)
theorem k1_mult270_dvd : ∀ (v3791 : BitVec 32) (k1_hw270 : k1_chk270 v3791), 8 ∣ (k1_mult270 v3791).toNat := fun v3791 k1_hw270 => k1_hw270.1
theorem k1_off270_inb : ∀ (v3791 : BitVec 32) (k1_hw270 : k1_chk270 v3791), ∀ a, (k1_off270 v3791) a + S8x128.size a ≤ S12800x128.size a := fun v3791 k1_hw270 => k1_hw270.2

def k1_mult271 (v3805 : BitVec 32) : BitVec 32 :=
  let c3_i32_2172 : BitVec 32 := 3#32
  let v3806 : BitVec 32 := Scalar.shrsi v3805 c3_i32_2172
  let c3_i32_2173 : BitVec 32 := 3#32
  let v3807 : BitVec 32 := Scalar.shli v3806 c3_i32_2173
  v3807

def k1_off271 (v3805 : BitVec 32) : Fin 2 → Nat :=
  let c3_i32_2172 : BitVec 32 := 3#32
  let v3806 : BitVec 32 := Scalar.shrsi v3805 c3_i32_2172
  let c3_i32_2173 : BitVec 32 := 3#32
  let v3807 : BitVec 32 := Scalar.shli v3806 c3_i32_2173
  let v3808 : BitVec 32 := v3807
  let v3809 : Index := Scalar.indexCast v3808
  let c0_2174 : Index := 0#32
  ![v3809.toNat, 0]

def k1_chk271 (v3805 : BitVec 32) : Prop :=
  (8 ∣ (k1_mult271 v3805).toNat) ∧
  (∀ a, (k1_off271 v3805) a + S8x128.size a ≤ S12800x128.size a)
theorem k1_mult271_dvd : ∀ (v3805 : BitVec 32) (k1_hw271 : k1_chk271 v3805), 8 ∣ (k1_mult271 v3805).toNat := fun v3805 k1_hw271 => k1_hw271.1
theorem k1_off271_inb : ∀ (v3805 : BitVec 32) (k1_hw271 : k1_chk271 v3805), ∀ a, (k1_off271 v3805) a + S8x128.size a ≤ S12800x128.size a := fun v3805 k1_hw271 => k1_hw271.2

def k1_mult272 (v3819 : BitVec 32) : BitVec 32 :=
  let c3_i32_2180 : BitVec 32 := 3#32
  let v3820 : BitVec 32 := Scalar.shrsi v3819 c3_i32_2180
  let c3_i32_2181 : BitVec 32 := 3#32
  let v3821 : BitVec 32 := Scalar.shli v3820 c3_i32_2181
  v3821

def k1_off272 (v3819 : BitVec 32) : Fin 2 → Nat :=
  let c3_i32_2180 : BitVec 32 := 3#32
  let v3820 : BitVec 32 := Scalar.shrsi v3819 c3_i32_2180
  let c3_i32_2181 : BitVec 32 := 3#32
  let v3821 : BitVec 32 := Scalar.shli v3820 c3_i32_2181
  let v3822 : BitVec 32 := v3821
  let v3823 : Index := Scalar.indexCast v3822
  let c0_2182 : Index := 0#32
  ![v3823.toNat, 0]

def k1_chk272 (v3819 : BitVec 32) : Prop :=
  (8 ∣ (k1_mult272 v3819).toNat) ∧
  (∀ a, (k1_off272 v3819) a + S8x128.size a ≤ S12800x128.size a)
theorem k1_mult272_dvd : ∀ (v3819 : BitVec 32) (k1_hw272 : k1_chk272 v3819), 8 ∣ (k1_mult272 v3819).toNat := fun v3819 k1_hw272 => k1_hw272.1
theorem k1_off272_inb : ∀ (v3819 : BitVec 32) (k1_hw272 : k1_chk272 v3819), ∀ a, (k1_off272 v3819) a + S8x128.size a ≤ S12800x128.size a := fun v3819 k1_hw272 => k1_hw272.2

def k1_mult273 (v3833 : BitVec 32) : BitVec 32 :=
  let c3_i32_2188 : BitVec 32 := 3#32
  let v3834 : BitVec 32 := Scalar.shrsi v3833 c3_i32_2188
  let c3_i32_2189 : BitVec 32 := 3#32
  let v3835 : BitVec 32 := Scalar.shli v3834 c3_i32_2189
  v3835

def k1_off273 (v3833 : BitVec 32) : Fin 2 → Nat :=
  let c3_i32_2188 : BitVec 32 := 3#32
  let v3834 : BitVec 32 := Scalar.shrsi v3833 c3_i32_2188
  let c3_i32_2189 : BitVec 32 := 3#32
  let v3835 : BitVec 32 := Scalar.shli v3834 c3_i32_2189
  let v3836 : BitVec 32 := v3835
  let v3837 : Index := Scalar.indexCast v3836
  let c0_2190 : Index := 0#32
  ![v3837.toNat, 0]

def k1_chk273 (v3833 : BitVec 32) : Prop :=
  (8 ∣ (k1_mult273 v3833).toNat) ∧
  (∀ a, (k1_off273 v3833) a + S8x128.size a ≤ S12800x128.size a)
theorem k1_mult273_dvd : ∀ (v3833 : BitVec 32) (k1_hw273 : k1_chk273 v3833), 8 ∣ (k1_mult273 v3833).toNat := fun v3833 k1_hw273 => k1_hw273.1
theorem k1_off273_inb : ∀ (v3833 : BitVec 32) (k1_hw273 : k1_chk273 v3833), ∀ a, (k1_off273 v3833) a + S8x128.size a ≤ S12800x128.size a := fun v3833 k1_hw273 => k1_hw273.2

def k1_mult274 (v3847 : BitVec 32) : BitVec 32 :=
  let c3_i32_2196 : BitVec 32 := 3#32
  let v3848 : BitVec 32 := Scalar.shrsi v3847 c3_i32_2196
  let c3_i32_2197 : BitVec 32 := 3#32
  let v3849 : BitVec 32 := Scalar.shli v3848 c3_i32_2197
  v3849

def k1_off274 (v3847 : BitVec 32) : Fin 2 → Nat :=
  let c3_i32_2196 : BitVec 32 := 3#32
  let v3848 : BitVec 32 := Scalar.shrsi v3847 c3_i32_2196
  let c3_i32_2197 : BitVec 32 := 3#32
  let v3849 : BitVec 32 := Scalar.shli v3848 c3_i32_2197
  let v3850 : BitVec 32 := v3849
  let v3851 : Index := Scalar.indexCast v3850
  let c0_2198 : Index := 0#32
  ![v3851.toNat, 0]

def k1_chk274 (v3847 : BitVec 32) : Prop :=
  (8 ∣ (k1_mult274 v3847).toNat) ∧
  (∀ a, (k1_off274 v3847) a + S8x128.size a ≤ S12800x128.size a)
theorem k1_mult274_dvd : ∀ (v3847 : BitVec 32) (k1_hw274 : k1_chk274 v3847), 8 ∣ (k1_mult274 v3847).toNat := fun v3847 k1_hw274 => k1_hw274.1
theorem k1_off274_inb : ∀ (v3847 : BitVec 32) (k1_hw274 : k1_chk274 v3847), ∀ a, (k1_off274 v3847) a + S8x128.size a ≤ S12800x128.size a := fun v3847 k1_hw274 => k1_hw274.2

def k1_mult275 (v3861 : BitVec 32) : BitVec 32 :=
  let c3_i32_2204 : BitVec 32 := 3#32
  let v3862 : BitVec 32 := Scalar.shrsi v3861 c3_i32_2204
  let c3_i32_2205 : BitVec 32 := 3#32
  let v3863 : BitVec 32 := Scalar.shli v3862 c3_i32_2205
  v3863

def k1_off275 (v3861 : BitVec 32) : Fin 2 → Nat :=
  let c3_i32_2204 : BitVec 32 := 3#32
  let v3862 : BitVec 32 := Scalar.shrsi v3861 c3_i32_2204
  let c3_i32_2205 : BitVec 32 := 3#32
  let v3863 : BitVec 32 := Scalar.shli v3862 c3_i32_2205
  let v3864 : BitVec 32 := v3863
  let v3865 : Index := Scalar.indexCast v3864
  let c0_2206 : Index := 0#32
  ![v3865.toNat, 0]

def k1_chk275 (v3861 : BitVec 32) : Prop :=
  (8 ∣ (k1_mult275 v3861).toNat) ∧
  (∀ a, (k1_off275 v3861) a + S8x128.size a ≤ S12800x128.size a)
theorem k1_mult275_dvd : ∀ (v3861 : BitVec 32) (k1_hw275 : k1_chk275 v3861), 8 ∣ (k1_mult275 v3861).toNat := fun v3861 k1_hw275 => k1_hw275.1
theorem k1_off275_inb : ∀ (v3861 : BitVec 32) (k1_hw275 : k1_chk275 v3861), ∀ a, (k1_off275 v3861) a + S8x128.size a ≤ S12800x128.size a := fun v3861 k1_hw275 => k1_hw275.2

def k1_mult276 (v3875 : BitVec 32) : BitVec 32 :=
  let c3_i32_2212 : BitVec 32 := 3#32
  let v3876 : BitVec 32 := Scalar.shrsi v3875 c3_i32_2212
  let c3_i32_2213 : BitVec 32 := 3#32
  let v3877 : BitVec 32 := Scalar.shli v3876 c3_i32_2213
  v3877

def k1_off276 (v3875 : BitVec 32) : Fin 2 → Nat :=
  let c3_i32_2212 : BitVec 32 := 3#32
  let v3876 : BitVec 32 := Scalar.shrsi v3875 c3_i32_2212
  let c3_i32_2213 : BitVec 32 := 3#32
  let v3877 : BitVec 32 := Scalar.shli v3876 c3_i32_2213
  let v3878 : BitVec 32 := v3877
  let v3879 : Index := Scalar.indexCast v3878
  let c0_2214 : Index := 0#32
  ![v3879.toNat, 0]

def k1_chk276 (v3875 : BitVec 32) : Prop :=
  (8 ∣ (k1_mult276 v3875).toNat) ∧
  (∀ a, (k1_off276 v3875) a + S8x128.size a ≤ S12800x128.size a)
theorem k1_mult276_dvd : ∀ (v3875 : BitVec 32) (k1_hw276 : k1_chk276 v3875), 8 ∣ (k1_mult276 v3875).toNat := fun v3875 k1_hw276 => k1_hw276.1
theorem k1_off276_inb : ∀ (v3875 : BitVec 32) (k1_hw276 : k1_chk276 v3875), ∀ a, (k1_off276 v3875) a + S8x128.size a ≤ S12800x128.size a := fun v3875 k1_hw276 => k1_hw276.2

def k1_mult277 (v3889 : BitVec 32) : BitVec 32 :=
  let c3_i32_2220 : BitVec 32 := 3#32
  let v3890 : BitVec 32 := Scalar.shrsi v3889 c3_i32_2220
  let c3_i32_2221 : BitVec 32 := 3#32
  let v3891 : BitVec 32 := Scalar.shli v3890 c3_i32_2221
  v3891

def k1_off277 (v3889 : BitVec 32) : Fin 2 → Nat :=
  let c3_i32_2220 : BitVec 32 := 3#32
  let v3890 : BitVec 32 := Scalar.shrsi v3889 c3_i32_2220
  let c3_i32_2221 : BitVec 32 := 3#32
  let v3891 : BitVec 32 := Scalar.shli v3890 c3_i32_2221
  let v3892 : BitVec 32 := v3891
  let v3893 : Index := Scalar.indexCast v3892
  let c0_2222 : Index := 0#32
  ![v3893.toNat, 0]

def k1_chk277 (v3889 : BitVec 32) : Prop :=
  (8 ∣ (k1_mult277 v3889).toNat) ∧
  (∀ a, (k1_off277 v3889) a + S8x128.size a ≤ S12800x128.size a)
theorem k1_mult277_dvd : ∀ (v3889 : BitVec 32) (k1_hw277 : k1_chk277 v3889), 8 ∣ (k1_mult277 v3889).toNat := fun v3889 k1_hw277 => k1_hw277.1
theorem k1_off277_inb : ∀ (v3889 : BitVec 32) (k1_hw277 : k1_chk277 v3889), ∀ a, (k1_off277 v3889) a + S8x128.size a ≤ S12800x128.size a := fun v3889 k1_hw277 => k1_hw277.2

def k1_mult278 (v3903 : BitVec 32) : BitVec 32 :=
  let c3_i32_2228 : BitVec 32 := 3#32
  let v3904 : BitVec 32 := Scalar.shrsi v3903 c3_i32_2228
  let c3_i32_2229 : BitVec 32 := 3#32
  let v3905 : BitVec 32 := Scalar.shli v3904 c3_i32_2229
  v3905

def k1_off278 (v3903 : BitVec 32) : Fin 2 → Nat :=
  let c3_i32_2228 : BitVec 32 := 3#32
  let v3904 : BitVec 32 := Scalar.shrsi v3903 c3_i32_2228
  let c3_i32_2229 : BitVec 32 := 3#32
  let v3905 : BitVec 32 := Scalar.shli v3904 c3_i32_2229
  let v3906 : BitVec 32 := v3905
  let v3907 : Index := Scalar.indexCast v3906
  let c0_2230 : Index := 0#32
  ![v3907.toNat, 0]

def k1_chk278 (v3903 : BitVec 32) : Prop :=
  (8 ∣ (k1_mult278 v3903).toNat) ∧
  (∀ a, (k1_off278 v3903) a + S8x128.size a ≤ S12800x128.size a)
theorem k1_mult278_dvd : ∀ (v3903 : BitVec 32) (k1_hw278 : k1_chk278 v3903), 8 ∣ (k1_mult278 v3903).toNat := fun v3903 k1_hw278 => k1_hw278.1
theorem k1_off278_inb : ∀ (v3903 : BitVec 32) (k1_hw278 : k1_chk278 v3903), ∀ a, (k1_off278 v3903) a + S8x128.size a ≤ S12800x128.size a := fun v3903 k1_hw278 => k1_hw278.2

def k1_mult279 (v3917 : BitVec 32) : BitVec 32 :=
  let c3_i32_2236 : BitVec 32 := 3#32
  let v3918 : BitVec 32 := Scalar.shrsi v3917 c3_i32_2236
  let c3_i32_2237 : BitVec 32 := 3#32
  let v3919 : BitVec 32 := Scalar.shli v3918 c3_i32_2237
  v3919

def k1_off279 (v3917 : BitVec 32) : Fin 2 → Nat :=
  let c3_i32_2236 : BitVec 32 := 3#32
  let v3918 : BitVec 32 := Scalar.shrsi v3917 c3_i32_2236
  let c3_i32_2237 : BitVec 32 := 3#32
  let v3919 : BitVec 32 := Scalar.shli v3918 c3_i32_2237
  let v3920 : BitVec 32 := v3919
  let v3921 : Index := Scalar.indexCast v3920
  let c0_2238 : Index := 0#32
  ![v3921.toNat, 0]

def k1_chk279 (v3917 : BitVec 32) : Prop :=
  (8 ∣ (k1_mult279 v3917).toNat) ∧
  (∀ a, (k1_off279 v3917) a + S8x128.size a ≤ S12800x128.size a)
theorem k1_mult279_dvd : ∀ (v3917 : BitVec 32) (k1_hw279 : k1_chk279 v3917), 8 ∣ (k1_mult279 v3917).toNat := fun v3917 k1_hw279 => k1_hw279.1
theorem k1_off279_inb : ∀ (v3917 : BitVec 32) (k1_hw279 : k1_chk279 v3917), ∀ a, (k1_off279 v3917) a + S8x128.size a ≤ S12800x128.size a := fun v3917 k1_hw279 => k1_hw279.2

def k1_mult280 (v3931 : BitVec 32) : BitVec 32 :=
  let c3_i32_2244 : BitVec 32 := 3#32
  let v3932 : BitVec 32 := Scalar.shrsi v3931 c3_i32_2244
  let c3_i32_2245 : BitVec 32 := 3#32
  let v3933 : BitVec 32 := Scalar.shli v3932 c3_i32_2245
  v3933

def k1_off280 (v3931 : BitVec 32) : Fin 2 → Nat :=
  let c3_i32_2244 : BitVec 32 := 3#32
  let v3932 : BitVec 32 := Scalar.shrsi v3931 c3_i32_2244
  let c3_i32_2245 : BitVec 32 := 3#32
  let v3933 : BitVec 32 := Scalar.shli v3932 c3_i32_2245
  let v3934 : BitVec 32 := v3933
  let v3935 : Index := Scalar.indexCast v3934
  let c0_2246 : Index := 0#32
  ![v3935.toNat, 0]

def k1_chk280 (v3931 : BitVec 32) : Prop :=
  (8 ∣ (k1_mult280 v3931).toNat) ∧
  (∀ a, (k1_off280 v3931) a + S8x128.size a ≤ S12800x128.size a)
theorem k1_mult280_dvd : ∀ (v3931 : BitVec 32) (k1_hw280 : k1_chk280 v3931), 8 ∣ (k1_mult280 v3931).toNat := fun v3931 k1_hw280 => k1_hw280.1
theorem k1_off280_inb : ∀ (v3931 : BitVec 32) (k1_hw280 : k1_chk280 v3931), ∀ a, (k1_off280 v3931) a + S8x128.size a ≤ S12800x128.size a := fun v3931 k1_hw280 => k1_hw280.2

def k1_mult281 (v3945 : BitVec 32) : BitVec 32 :=
  let c3_i32_2252 : BitVec 32 := 3#32
  let v3946 : BitVec 32 := Scalar.shrsi v3945 c3_i32_2252
  let c3_i32_2253 : BitVec 32 := 3#32
  let v3947 : BitVec 32 := Scalar.shli v3946 c3_i32_2253
  v3947

def k1_off281 (v3945 : BitVec 32) : Fin 2 → Nat :=
  let c3_i32_2252 : BitVec 32 := 3#32
  let v3946 : BitVec 32 := Scalar.shrsi v3945 c3_i32_2252
  let c3_i32_2253 : BitVec 32 := 3#32
  let v3947 : BitVec 32 := Scalar.shli v3946 c3_i32_2253
  let v3948 : BitVec 32 := v3947
  let v3949 : Index := Scalar.indexCast v3948
  let c0_2254 : Index := 0#32
  ![v3949.toNat, 0]

def k1_chk281 (v3945 : BitVec 32) : Prop :=
  (8 ∣ (k1_mult281 v3945).toNat) ∧
  (∀ a, (k1_off281 v3945) a + S8x128.size a ≤ S12800x128.size a)
theorem k1_mult281_dvd : ∀ (v3945 : BitVec 32) (k1_hw281 : k1_chk281 v3945), 8 ∣ (k1_mult281 v3945).toNat := fun v3945 k1_hw281 => k1_hw281.1
theorem k1_off281_inb : ∀ (v3945 : BitVec 32) (k1_hw281 : k1_chk281 v3945), ∀ a, (k1_off281 v3945) a + S8x128.size a ≤ S12800x128.size a := fun v3945 k1_hw281 => k1_hw281.2

def k1_mult282 (v3959 : BitVec 32) : BitVec 32 :=
  let c3_i32_2260 : BitVec 32 := 3#32
  let v3960 : BitVec 32 := Scalar.shrsi v3959 c3_i32_2260
  let c3_i32_2261 : BitVec 32 := 3#32
  let v3961 : BitVec 32 := Scalar.shli v3960 c3_i32_2261
  v3961

def k1_off282 (v3959 : BitVec 32) : Fin 2 → Nat :=
  let c3_i32_2260 : BitVec 32 := 3#32
  let v3960 : BitVec 32 := Scalar.shrsi v3959 c3_i32_2260
  let c3_i32_2261 : BitVec 32 := 3#32
  let v3961 : BitVec 32 := Scalar.shli v3960 c3_i32_2261
  let v3962 : BitVec 32 := v3961
  let v3963 : Index := Scalar.indexCast v3962
  let c0_2262 : Index := 0#32
  ![v3963.toNat, 0]

def k1_chk282 (v3959 : BitVec 32) : Prop :=
  (8 ∣ (k1_mult282 v3959).toNat) ∧
  (∀ a, (k1_off282 v3959) a + S8x128.size a ≤ S12800x128.size a)
theorem k1_mult282_dvd : ∀ (v3959 : BitVec 32) (k1_hw282 : k1_chk282 v3959), 8 ∣ (k1_mult282 v3959).toNat := fun v3959 k1_hw282 => k1_hw282.1
theorem k1_off282_inb : ∀ (v3959 : BitVec 32) (k1_hw282 : k1_chk282 v3959), ∀ a, (k1_off282 v3959) a + S8x128.size a ≤ S12800x128.size a := fun v3959 k1_hw282 => k1_hw282.2

def k1_mult283 (v3973 : BitVec 32) : BitVec 32 :=
  let c3_i32_2268 : BitVec 32 := 3#32
  let v3974 : BitVec 32 := Scalar.shrsi v3973 c3_i32_2268
  let c3_i32_2269 : BitVec 32 := 3#32
  let v3975 : BitVec 32 := Scalar.shli v3974 c3_i32_2269
  v3975

def k1_off283 (v3973 : BitVec 32) : Fin 2 → Nat :=
  let c3_i32_2268 : BitVec 32 := 3#32
  let v3974 : BitVec 32 := Scalar.shrsi v3973 c3_i32_2268
  let c3_i32_2269 : BitVec 32 := 3#32
  let v3975 : BitVec 32 := Scalar.shli v3974 c3_i32_2269
  let v3976 : BitVec 32 := v3975
  let v3977 : Index := Scalar.indexCast v3976
  let c0_2270 : Index := 0#32
  ![v3977.toNat, 0]

def k1_chk283 (v3973 : BitVec 32) : Prop :=
  (8 ∣ (k1_mult283 v3973).toNat) ∧
  (∀ a, (k1_off283 v3973) a + S8x128.size a ≤ S12800x128.size a)
theorem k1_mult283_dvd : ∀ (v3973 : BitVec 32) (k1_hw283 : k1_chk283 v3973), 8 ∣ (k1_mult283 v3973).toNat := fun v3973 k1_hw283 => k1_hw283.1
theorem k1_off283_inb : ∀ (v3973 : BitVec 32) (k1_hw283 : k1_chk283 v3973), ∀ a, (k1_off283 v3973) a + S8x128.size a ≤ S12800x128.size a := fun v3973 k1_hw283 => k1_hw283.2

def k1_mult284 (v3987 : BitVec 32) : BitVec 32 :=
  let c3_i32_2276 : BitVec 32 := 3#32
  let v3988 : BitVec 32 := Scalar.shrsi v3987 c3_i32_2276
  let c3_i32_2277 : BitVec 32 := 3#32
  let v3989 : BitVec 32 := Scalar.shli v3988 c3_i32_2277
  v3989

def k1_off284 (v3987 : BitVec 32) : Fin 2 → Nat :=
  let c3_i32_2276 : BitVec 32 := 3#32
  let v3988 : BitVec 32 := Scalar.shrsi v3987 c3_i32_2276
  let c3_i32_2277 : BitVec 32 := 3#32
  let v3989 : BitVec 32 := Scalar.shli v3988 c3_i32_2277
  let v3990 : BitVec 32 := v3989
  let v3991 : Index := Scalar.indexCast v3990
  let c0_2278 : Index := 0#32
  ![v3991.toNat, 0]

def k1_chk284 (v3987 : BitVec 32) : Prop :=
  (8 ∣ (k1_mult284 v3987).toNat) ∧
  (∀ a, (k1_off284 v3987) a + S8x128.size a ≤ S12800x128.size a)
theorem k1_mult284_dvd : ∀ (v3987 : BitVec 32) (k1_hw284 : k1_chk284 v3987), 8 ∣ (k1_mult284 v3987).toNat := fun v3987 k1_hw284 => k1_hw284.1
theorem k1_off284_inb : ∀ (v3987 : BitVec 32) (k1_hw284 : k1_chk284 v3987), ∀ a, (k1_off284 v3987) a + S8x128.size a ≤ S12800x128.size a := fun v3987 k1_hw284 => k1_hw284.2

def k1_mult285 (v4001 : BitVec 32) : BitVec 32 :=
  let c3_i32_2284 : BitVec 32 := 3#32
  let v4002 : BitVec 32 := Scalar.shrsi v4001 c3_i32_2284
  let c3_i32_2285 : BitVec 32 := 3#32
  let v4003 : BitVec 32 := Scalar.shli v4002 c3_i32_2285
  v4003

def k1_off285 (v4001 : BitVec 32) : Fin 2 → Nat :=
  let c3_i32_2284 : BitVec 32 := 3#32
  let v4002 : BitVec 32 := Scalar.shrsi v4001 c3_i32_2284
  let c3_i32_2285 : BitVec 32 := 3#32
  let v4003 : BitVec 32 := Scalar.shli v4002 c3_i32_2285
  let v4004 : BitVec 32 := v4003
  let v4005 : Index := Scalar.indexCast v4004
  let c0_2286 : Index := 0#32
  ![v4005.toNat, 0]

def k1_chk285 (v4001 : BitVec 32) : Prop :=
  (8 ∣ (k1_mult285 v4001).toNat) ∧
  (∀ a, (k1_off285 v4001) a + S8x128.size a ≤ S12800x128.size a)
theorem k1_mult285_dvd : ∀ (v4001 : BitVec 32) (k1_hw285 : k1_chk285 v4001), 8 ∣ (k1_mult285 v4001).toNat := fun v4001 k1_hw285 => k1_hw285.1
theorem k1_off285_inb : ∀ (v4001 : BitVec 32) (k1_hw285 : k1_chk285 v4001), ∀ a, (k1_off285 v4001) a + S8x128.size a ≤ S12800x128.size a := fun v4001 k1_hw285 => k1_hw285.2

def k1_mult286 (v4015 : BitVec 32) : BitVec 32 :=
  let c3_i32_2292 : BitVec 32 := 3#32
  let v4016 : BitVec 32 := Scalar.shrsi v4015 c3_i32_2292
  let c3_i32_2293 : BitVec 32 := 3#32
  let v4017 : BitVec 32 := Scalar.shli v4016 c3_i32_2293
  v4017

def k1_off286 (v4015 : BitVec 32) : Fin 2 → Nat :=
  let c3_i32_2292 : BitVec 32 := 3#32
  let v4016 : BitVec 32 := Scalar.shrsi v4015 c3_i32_2292
  let c3_i32_2293 : BitVec 32 := 3#32
  let v4017 : BitVec 32 := Scalar.shli v4016 c3_i32_2293
  let v4018 : BitVec 32 := v4017
  let v4019 : Index := Scalar.indexCast v4018
  let c0_2294 : Index := 0#32
  ![v4019.toNat, 0]

def k1_chk286 (v4015 : BitVec 32) : Prop :=
  (8 ∣ (k1_mult286 v4015).toNat) ∧
  (∀ a, (k1_off286 v4015) a + S8x128.size a ≤ S12800x128.size a)
theorem k1_mult286_dvd : ∀ (v4015 : BitVec 32) (k1_hw286 : k1_chk286 v4015), 8 ∣ (k1_mult286 v4015).toNat := fun v4015 k1_hw286 => k1_hw286.1
theorem k1_off286_inb : ∀ (v4015 : BitVec 32) (k1_hw286 : k1_chk286 v4015), ∀ a, (k1_off286 v4015) a + S8x128.size a ≤ S12800x128.size a := fun v4015 k1_hw286 => k1_hw286.2

def k1_mult287 (v4029 : BitVec 32) : BitVec 32 :=
  let c3_i32_2300 : BitVec 32 := 3#32
  let v4030 : BitVec 32 := Scalar.shrsi v4029 c3_i32_2300
  let c3_i32_2301 : BitVec 32 := 3#32
  let v4031 : BitVec 32 := Scalar.shli v4030 c3_i32_2301
  v4031

def k1_off287 (v4029 : BitVec 32) : Fin 2 → Nat :=
  let c3_i32_2300 : BitVec 32 := 3#32
  let v4030 : BitVec 32 := Scalar.shrsi v4029 c3_i32_2300
  let c3_i32_2301 : BitVec 32 := 3#32
  let v4031 : BitVec 32 := Scalar.shli v4030 c3_i32_2301
  let v4032 : BitVec 32 := v4031
  let v4033 : Index := Scalar.indexCast v4032
  let c0_2302 : Index := 0#32
  ![v4033.toNat, 0]

def k1_chk287 (v4029 : BitVec 32) : Prop :=
  (8 ∣ (k1_mult287 v4029).toNat) ∧
  (∀ a, (k1_off287 v4029) a + S8x128.size a ≤ S12800x128.size a)
theorem k1_mult287_dvd : ∀ (v4029 : BitVec 32) (k1_hw287 : k1_chk287 v4029), 8 ∣ (k1_mult287 v4029).toNat := fun v4029 k1_hw287 => k1_hw287.1
theorem k1_off287_inb : ∀ (v4029 : BitVec 32) (k1_hw287 : k1_chk287 v4029), ∀ a, (k1_off287 v4029) a + S8x128.size a ≤ S12800x128.size a := fun v4029 k1_hw287 => k1_hw287.2

def k1_mult288 (v4043 : BitVec 32) : BitVec 32 :=
  let c3_i32_2308 : BitVec 32 := 3#32
  let v4044 : BitVec 32 := Scalar.shrsi v4043 c3_i32_2308
  let c3_i32_2309 : BitVec 32 := 3#32
  let v4045 : BitVec 32 := Scalar.shli v4044 c3_i32_2309
  v4045

def k1_off288 (v4043 : BitVec 32) : Fin 2 → Nat :=
  let c3_i32_2308 : BitVec 32 := 3#32
  let v4044 : BitVec 32 := Scalar.shrsi v4043 c3_i32_2308
  let c3_i32_2309 : BitVec 32 := 3#32
  let v4045 : BitVec 32 := Scalar.shli v4044 c3_i32_2309
  let v4046 : BitVec 32 := v4045
  let v4047 : Index := Scalar.indexCast v4046
  let c0_2310 : Index := 0#32
  ![v4047.toNat, 0]

def k1_chk288 (v4043 : BitVec 32) : Prop :=
  (8 ∣ (k1_mult288 v4043).toNat) ∧
  (∀ a, (k1_off288 v4043) a + S8x128.size a ≤ S12800x128.size a)
theorem k1_mult288_dvd : ∀ (v4043 : BitVec 32) (k1_hw288 : k1_chk288 v4043), 8 ∣ (k1_mult288 v4043).toNat := fun v4043 k1_hw288 => k1_hw288.1
theorem k1_off288_inb : ∀ (v4043 : BitVec 32) (k1_hw288 : k1_chk288 v4043), ∀ a, (k1_off288 v4043) a + S8x128.size a ≤ S12800x128.size a := fun v4043 k1_hw288 => k1_hw288.2

def k1_mult289 (v4057 : BitVec 32) : BitVec 32 :=
  let c3_i32_2316 : BitVec 32 := 3#32
  let v4058 : BitVec 32 := Scalar.shrsi v4057 c3_i32_2316
  let c3_i32_2317 : BitVec 32 := 3#32
  let v4059 : BitVec 32 := Scalar.shli v4058 c3_i32_2317
  v4059

def k1_off289 (v4057 : BitVec 32) : Fin 2 → Nat :=
  let c3_i32_2316 : BitVec 32 := 3#32
  let v4058 : BitVec 32 := Scalar.shrsi v4057 c3_i32_2316
  let c3_i32_2317 : BitVec 32 := 3#32
  let v4059 : BitVec 32 := Scalar.shli v4058 c3_i32_2317
  let v4060 : BitVec 32 := v4059
  let v4061 : Index := Scalar.indexCast v4060
  let c0_2318 : Index := 0#32
  ![v4061.toNat, 0]

def k1_chk289 (v4057 : BitVec 32) : Prop :=
  (8 ∣ (k1_mult289 v4057).toNat) ∧
  (∀ a, (k1_off289 v4057) a + S8x128.size a ≤ S12800x128.size a)
theorem k1_mult289_dvd : ∀ (v4057 : BitVec 32) (k1_hw289 : k1_chk289 v4057), 8 ∣ (k1_mult289 v4057).toNat := fun v4057 k1_hw289 => k1_hw289.1
theorem k1_off289_inb : ∀ (v4057 : BitVec 32) (k1_hw289 : k1_chk289 v4057), ∀ a, (k1_off289 v4057) a + S8x128.size a ≤ S12800x128.size a := fun v4057 k1_hw289 => k1_hw289.2

def k1_mult290 (v4071 : BitVec 32) : BitVec 32 :=
  let c3_i32_2324 : BitVec 32 := 3#32
  let v4072 : BitVec 32 := Scalar.shrsi v4071 c3_i32_2324
  let c3_i32_2325 : BitVec 32 := 3#32
  let v4073 : BitVec 32 := Scalar.shli v4072 c3_i32_2325
  v4073

def k1_off290 (v4071 : BitVec 32) : Fin 2 → Nat :=
  let c3_i32_2324 : BitVec 32 := 3#32
  let v4072 : BitVec 32 := Scalar.shrsi v4071 c3_i32_2324
  let c3_i32_2325 : BitVec 32 := 3#32
  let v4073 : BitVec 32 := Scalar.shli v4072 c3_i32_2325
  let v4074 : BitVec 32 := v4073
  let v4075 : Index := Scalar.indexCast v4074
  let c0_2326 : Index := 0#32
  ![v4075.toNat, 0]

def k1_chk290 (v4071 : BitVec 32) : Prop :=
  (8 ∣ (k1_mult290 v4071).toNat) ∧
  (∀ a, (k1_off290 v4071) a + S8x128.size a ≤ S12800x128.size a)
theorem k1_mult290_dvd : ∀ (v4071 : BitVec 32) (k1_hw290 : k1_chk290 v4071), 8 ∣ (k1_mult290 v4071).toNat := fun v4071 k1_hw290 => k1_hw290.1
theorem k1_off290_inb : ∀ (v4071 : BitVec 32) (k1_hw290 : k1_chk290 v4071), ∀ a, (k1_off290 v4071) a + S8x128.size a ≤ S12800x128.size a := fun v4071 k1_hw290 => k1_hw290.2

def k1_mult291 (v4085 : BitVec 32) : BitVec 32 :=
  let c3_i32_2332 : BitVec 32 := 3#32
  let v4086 : BitVec 32 := Scalar.shrsi v4085 c3_i32_2332
  let c3_i32_2333 : BitVec 32 := 3#32
  let v4087 : BitVec 32 := Scalar.shli v4086 c3_i32_2333
  v4087

def k1_off291 (v4085 : BitVec 32) : Fin 2 → Nat :=
  let c3_i32_2332 : BitVec 32 := 3#32
  let v4086 : BitVec 32 := Scalar.shrsi v4085 c3_i32_2332
  let c3_i32_2333 : BitVec 32 := 3#32
  let v4087 : BitVec 32 := Scalar.shli v4086 c3_i32_2333
  let v4088 : BitVec 32 := v4087
  let v4089 : Index := Scalar.indexCast v4088
  let c0_2334 : Index := 0#32
  ![v4089.toNat, 0]

def k1_chk291 (v4085 : BitVec 32) : Prop :=
  (8 ∣ (k1_mult291 v4085).toNat) ∧
  (∀ a, (k1_off291 v4085) a + S8x128.size a ≤ S12800x128.size a)
theorem k1_mult291_dvd : ∀ (v4085 : BitVec 32) (k1_hw291 : k1_chk291 v4085), 8 ∣ (k1_mult291 v4085).toNat := fun v4085 k1_hw291 => k1_hw291.1
theorem k1_off291_inb : ∀ (v4085 : BitVec 32) (k1_hw291 : k1_chk291 v4085), ∀ a, (k1_off291 v4085) a + S8x128.size a ≤ S12800x128.size a := fun v4085 k1_hw291 => k1_hw291.2

def k1_mult292 (v4099 : BitVec 32) : BitVec 32 :=
  let c3_i32_2340 : BitVec 32 := 3#32
  let v4100 : BitVec 32 := Scalar.shrsi v4099 c3_i32_2340
  let c3_i32_2341 : BitVec 32 := 3#32
  let v4101 : BitVec 32 := Scalar.shli v4100 c3_i32_2341
  v4101

def k1_off292 (v4099 : BitVec 32) : Fin 2 → Nat :=
  let c3_i32_2340 : BitVec 32 := 3#32
  let v4100 : BitVec 32 := Scalar.shrsi v4099 c3_i32_2340
  let c3_i32_2341 : BitVec 32 := 3#32
  let v4101 : BitVec 32 := Scalar.shli v4100 c3_i32_2341
  let v4102 : BitVec 32 := v4101
  let v4103 : Index := Scalar.indexCast v4102
  let c0_2342 : Index := 0#32
  ![v4103.toNat, 0]

def k1_chk292 (v4099 : BitVec 32) : Prop :=
  (8 ∣ (k1_mult292 v4099).toNat) ∧
  (∀ a, (k1_off292 v4099) a + S8x128.size a ≤ S12800x128.size a)
theorem k1_mult292_dvd : ∀ (v4099 : BitVec 32) (k1_hw292 : k1_chk292 v4099), 8 ∣ (k1_mult292 v4099).toNat := fun v4099 k1_hw292 => k1_hw292.1
theorem k1_off292_inb : ∀ (v4099 : BitVec 32) (k1_hw292 : k1_chk292 v4099), ∀ a, (k1_off292 v4099) a + S8x128.size a ≤ S12800x128.size a := fun v4099 k1_hw292 => k1_hw292.2

def k1_mult293 (v4113 : BitVec 32) : BitVec 32 :=
  let c3_i32_2348 : BitVec 32 := 3#32
  let v4114 : BitVec 32 := Scalar.shrsi v4113 c3_i32_2348
  let c3_i32_2349 : BitVec 32 := 3#32
  let v4115 : BitVec 32 := Scalar.shli v4114 c3_i32_2349
  v4115

def k1_off293 (v4113 : BitVec 32) : Fin 2 → Nat :=
  let c3_i32_2348 : BitVec 32 := 3#32
  let v4114 : BitVec 32 := Scalar.shrsi v4113 c3_i32_2348
  let c3_i32_2349 : BitVec 32 := 3#32
  let v4115 : BitVec 32 := Scalar.shli v4114 c3_i32_2349
  let v4116 : BitVec 32 := v4115
  let v4117 : Index := Scalar.indexCast v4116
  let c0_2350 : Index := 0#32
  ![v4117.toNat, 0]

def k1_chk293 (v4113 : BitVec 32) : Prop :=
  (8 ∣ (k1_mult293 v4113).toNat) ∧
  (∀ a, (k1_off293 v4113) a + S8x128.size a ≤ S12800x128.size a)
theorem k1_mult293_dvd : ∀ (v4113 : BitVec 32) (k1_hw293 : k1_chk293 v4113), 8 ∣ (k1_mult293 v4113).toNat := fun v4113 k1_hw293 => k1_hw293.1
theorem k1_off293_inb : ∀ (v4113 : BitVec 32) (k1_hw293 : k1_chk293 v4113), ∀ a, (k1_off293 v4113) a + S8x128.size a ≤ S12800x128.size a := fun v4113 k1_hw293 => k1_hw293.2

def k1_mult294 (v4127 : BitVec 32) : BitVec 32 :=
  let c3_i32_2356 : BitVec 32 := 3#32
  let v4128 : BitVec 32 := Scalar.shrsi v4127 c3_i32_2356
  let c3_i32_2357 : BitVec 32 := 3#32
  let v4129 : BitVec 32 := Scalar.shli v4128 c3_i32_2357
  v4129

def k1_off294 (v4127 : BitVec 32) : Fin 2 → Nat :=
  let c3_i32_2356 : BitVec 32 := 3#32
  let v4128 : BitVec 32 := Scalar.shrsi v4127 c3_i32_2356
  let c3_i32_2357 : BitVec 32 := 3#32
  let v4129 : BitVec 32 := Scalar.shli v4128 c3_i32_2357
  let v4130 : BitVec 32 := v4129
  let v4131 : Index := Scalar.indexCast v4130
  let c0_2358 : Index := 0#32
  ![v4131.toNat, 0]

def k1_chk294 (v4127 : BitVec 32) : Prop :=
  (8 ∣ (k1_mult294 v4127).toNat) ∧
  (∀ a, (k1_off294 v4127) a + S8x128.size a ≤ S12800x128.size a)
theorem k1_mult294_dvd : ∀ (v4127 : BitVec 32) (k1_hw294 : k1_chk294 v4127), 8 ∣ (k1_mult294 v4127).toNat := fun v4127 k1_hw294 => k1_hw294.1
theorem k1_off294_inb : ∀ (v4127 : BitVec 32) (k1_hw294 : k1_chk294 v4127), ∀ a, (k1_off294 v4127) a + S8x128.size a ≤ S12800x128.size a := fun v4127 k1_hw294 => k1_hw294.2

def k1_mult295 (v4141 : BitVec 32) : BitVec 32 :=
  let c3_i32_2364 : BitVec 32 := 3#32
  let v4142 : BitVec 32 := Scalar.shrsi v4141 c3_i32_2364
  let c3_i32_2365 : BitVec 32 := 3#32
  let v4143 : BitVec 32 := Scalar.shli v4142 c3_i32_2365
  v4143

def k1_off295 (v4141 : BitVec 32) : Fin 2 → Nat :=
  let c3_i32_2364 : BitVec 32 := 3#32
  let v4142 : BitVec 32 := Scalar.shrsi v4141 c3_i32_2364
  let c3_i32_2365 : BitVec 32 := 3#32
  let v4143 : BitVec 32 := Scalar.shli v4142 c3_i32_2365
  let v4144 : BitVec 32 := v4143
  let v4145 : Index := Scalar.indexCast v4144
  let c0_2366 : Index := 0#32
  ![v4145.toNat, 0]

def k1_chk295 (v4141 : BitVec 32) : Prop :=
  (8 ∣ (k1_mult295 v4141).toNat) ∧
  (∀ a, (k1_off295 v4141) a + S8x128.size a ≤ S12800x128.size a)
theorem k1_mult295_dvd : ∀ (v4141 : BitVec 32) (k1_hw295 : k1_chk295 v4141), 8 ∣ (k1_mult295 v4141).toNat := fun v4141 k1_hw295 => k1_hw295.1
theorem k1_off295_inb : ∀ (v4141 : BitVec 32) (k1_hw295 : k1_chk295 v4141), ∀ a, (k1_off295 v4141) a + S8x128.size a ≤ S12800x128.size a := fun v4141 k1_hw295 => k1_hw295.2

def k1_mult296 (v4155 : BitVec 32) : BitVec 32 :=
  let c3_i32_2372 : BitVec 32 := 3#32
  let v4156 : BitVec 32 := Scalar.shrsi v4155 c3_i32_2372
  let c3_i32_2373 : BitVec 32 := 3#32
  let v4157 : BitVec 32 := Scalar.shli v4156 c3_i32_2373
  v4157

def k1_off296 (v4155 : BitVec 32) : Fin 2 → Nat :=
  let c3_i32_2372 : BitVec 32 := 3#32
  let v4156 : BitVec 32 := Scalar.shrsi v4155 c3_i32_2372
  let c3_i32_2373 : BitVec 32 := 3#32
  let v4157 : BitVec 32 := Scalar.shli v4156 c3_i32_2373
  let v4158 : BitVec 32 := v4157
  let v4159 : Index := Scalar.indexCast v4158
  let c0_2374 : Index := 0#32
  ![v4159.toNat, 0]

def k1_chk296 (v4155 : BitVec 32) : Prop :=
  (8 ∣ (k1_mult296 v4155).toNat) ∧
  (∀ a, (k1_off296 v4155) a + S8x128.size a ≤ S12800x128.size a)
theorem k1_mult296_dvd : ∀ (v4155 : BitVec 32) (k1_hw296 : k1_chk296 v4155), 8 ∣ (k1_mult296 v4155).toNat := fun v4155 k1_hw296 => k1_hw296.1
theorem k1_off296_inb : ∀ (v4155 : BitVec 32) (k1_hw296 : k1_chk296 v4155), ∀ a, (k1_off296 v4155) a + S8x128.size a ≤ S12800x128.size a := fun v4155 k1_hw296 => k1_hw296.2

def k1_mult297 (v4169 : BitVec 32) : BitVec 32 :=
  let c3_i32_2380 : BitVec 32 := 3#32
  let v4170 : BitVec 32 := Scalar.shrsi v4169 c3_i32_2380
  let c3_i32_2381 : BitVec 32 := 3#32
  let v4171 : BitVec 32 := Scalar.shli v4170 c3_i32_2381
  v4171

def k1_off297 (v4169 : BitVec 32) : Fin 2 → Nat :=
  let c3_i32_2380 : BitVec 32 := 3#32
  let v4170 : BitVec 32 := Scalar.shrsi v4169 c3_i32_2380
  let c3_i32_2381 : BitVec 32 := 3#32
  let v4171 : BitVec 32 := Scalar.shli v4170 c3_i32_2381
  let v4172 : BitVec 32 := v4171
  let v4173 : Index := Scalar.indexCast v4172
  let c0_2382 : Index := 0#32
  ![v4173.toNat, 0]

def k1_chk297 (v4169 : BitVec 32) : Prop :=
  (8 ∣ (k1_mult297 v4169).toNat) ∧
  (∀ a, (k1_off297 v4169) a + S8x128.size a ≤ S12800x128.size a)
theorem k1_mult297_dvd : ∀ (v4169 : BitVec 32) (k1_hw297 : k1_chk297 v4169), 8 ∣ (k1_mult297 v4169).toNat := fun v4169 k1_hw297 => k1_hw297.1
theorem k1_off297_inb : ∀ (v4169 : BitVec 32) (k1_hw297 : k1_chk297 v4169), ∀ a, (k1_off297 v4169) a + S8x128.size a ≤ S12800x128.size a := fun v4169 k1_hw297 => k1_hw297.2

def k1_mult298 (v4183 : BitVec 32) : BitVec 32 :=
  let c3_i32_2388 : BitVec 32 := 3#32
  let v4184 : BitVec 32 := Scalar.shrsi v4183 c3_i32_2388
  let c3_i32_2389 : BitVec 32 := 3#32
  let v4185 : BitVec 32 := Scalar.shli v4184 c3_i32_2389
  v4185

def k1_off298 (v4183 : BitVec 32) : Fin 2 → Nat :=
  let c3_i32_2388 : BitVec 32 := 3#32
  let v4184 : BitVec 32 := Scalar.shrsi v4183 c3_i32_2388
  let c3_i32_2389 : BitVec 32 := 3#32
  let v4185 : BitVec 32 := Scalar.shli v4184 c3_i32_2389
  let v4186 : BitVec 32 := v4185
  let v4187 : Index := Scalar.indexCast v4186
  let c0_2390 : Index := 0#32
  ![v4187.toNat, 0]

def k1_chk298 (v4183 : BitVec 32) : Prop :=
  (8 ∣ (k1_mult298 v4183).toNat) ∧
  (∀ a, (k1_off298 v4183) a + S8x128.size a ≤ S12800x128.size a)
theorem k1_mult298_dvd : ∀ (v4183 : BitVec 32) (k1_hw298 : k1_chk298 v4183), 8 ∣ (k1_mult298 v4183).toNat := fun v4183 k1_hw298 => k1_hw298.1
theorem k1_off298_inb : ∀ (v4183 : BitVec 32) (k1_hw298 : k1_chk298 v4183), ∀ a, (k1_off298 v4183) a + S8x128.size a ≤ S12800x128.size a := fun v4183 k1_hw298 => k1_hw298.2

def k1_mult299 (v4197 : BitVec 32) : BitVec 32 :=
  let c3_i32_2396 : BitVec 32 := 3#32
  let v4198 : BitVec 32 := Scalar.shrsi v4197 c3_i32_2396
  let c3_i32_2397 : BitVec 32 := 3#32
  let v4199 : BitVec 32 := Scalar.shli v4198 c3_i32_2397
  v4199

def k1_off299 (v4197 : BitVec 32) : Fin 2 → Nat :=
  let c3_i32_2396 : BitVec 32 := 3#32
  let v4198 : BitVec 32 := Scalar.shrsi v4197 c3_i32_2396
  let c3_i32_2397 : BitVec 32 := 3#32
  let v4199 : BitVec 32 := Scalar.shli v4198 c3_i32_2397
  let v4200 : BitVec 32 := v4199
  let v4201 : Index := Scalar.indexCast v4200
  let c0_2398 : Index := 0#32
  ![v4201.toNat, 0]

def k1_chk299 (v4197 : BitVec 32) : Prop :=
  (8 ∣ (k1_mult299 v4197).toNat) ∧
  (∀ a, (k1_off299 v4197) a + S8x128.size a ≤ S12800x128.size a)
theorem k1_mult299_dvd : ∀ (v4197 : BitVec 32) (k1_hw299 : k1_chk299 v4197), 8 ∣ (k1_mult299 v4197).toNat := fun v4197 k1_hw299 => k1_hw299.1
theorem k1_off299_inb : ∀ (v4197 : BitVec 32) (k1_hw299 : k1_chk299 v4197), ∀ a, (k1_off299 v4197) a + S8x128.size a ≤ S12800x128.size a := fun v4197 k1_hw299 => k1_hw299.2

def k1_mult300 (v4211 : BitVec 32) : BitVec 32 :=
  let c3_i32_2404 : BitVec 32 := 3#32
  let v4212 : BitVec 32 := Scalar.shrsi v4211 c3_i32_2404
  let c3_i32_2405 : BitVec 32 := 3#32
  let v4213 : BitVec 32 := Scalar.shli v4212 c3_i32_2405
  v4213

def k1_off300 (v4211 : BitVec 32) : Fin 2 → Nat :=
  let c3_i32_2404 : BitVec 32 := 3#32
  let v4212 : BitVec 32 := Scalar.shrsi v4211 c3_i32_2404
  let c3_i32_2405 : BitVec 32 := 3#32
  let v4213 : BitVec 32 := Scalar.shli v4212 c3_i32_2405
  let v4214 : BitVec 32 := v4213
  let v4215 : Index := Scalar.indexCast v4214
  let c0_2406 : Index := 0#32
  ![v4215.toNat, 0]

def k1_chk300 (v4211 : BitVec 32) : Prop :=
  (8 ∣ (k1_mult300 v4211).toNat) ∧
  (∀ a, (k1_off300 v4211) a + S8x128.size a ≤ S12800x128.size a)
theorem k1_mult300_dvd : ∀ (v4211 : BitVec 32) (k1_hw300 : k1_chk300 v4211), 8 ∣ (k1_mult300 v4211).toNat := fun v4211 k1_hw300 => k1_hw300.1
theorem k1_off300_inb : ∀ (v4211 : BitVec 32) (k1_hw300 : k1_chk300 v4211), ∀ a, (k1_off300 v4211) a + S8x128.size a ≤ S12800x128.size a := fun v4211 k1_hw300 => k1_hw300.2

def k1_mult301 (v4225 : BitVec 32) : BitVec 32 :=
  let c3_i32_2412 : BitVec 32 := 3#32
  let v4226 : BitVec 32 := Scalar.shrsi v4225 c3_i32_2412
  let c3_i32_2413 : BitVec 32 := 3#32
  let v4227 : BitVec 32 := Scalar.shli v4226 c3_i32_2413
  v4227

def k1_off301 (v4225 : BitVec 32) : Fin 2 → Nat :=
  let c3_i32_2412 : BitVec 32 := 3#32
  let v4226 : BitVec 32 := Scalar.shrsi v4225 c3_i32_2412
  let c3_i32_2413 : BitVec 32 := 3#32
  let v4227 : BitVec 32 := Scalar.shli v4226 c3_i32_2413
  let v4228 : BitVec 32 := v4227
  let v4229 : Index := Scalar.indexCast v4228
  let c0_2414 : Index := 0#32
  ![v4229.toNat, 0]

def k1_chk301 (v4225 : BitVec 32) : Prop :=
  (8 ∣ (k1_mult301 v4225).toNat) ∧
  (∀ a, (k1_off301 v4225) a + S8x128.size a ≤ S12800x128.size a)
theorem k1_mult301_dvd : ∀ (v4225 : BitVec 32) (k1_hw301 : k1_chk301 v4225), 8 ∣ (k1_mult301 v4225).toNat := fun v4225 k1_hw301 => k1_hw301.1
theorem k1_off301_inb : ∀ (v4225 : BitVec 32) (k1_hw301 : k1_chk301 v4225), ∀ a, (k1_off301 v4225) a + S8x128.size a ≤ S12800x128.size a := fun v4225 k1_hw301 => k1_hw301.2

def k1_mult302 (v4239 : BitVec 32) : BitVec 32 :=
  let c3_i32_2420 : BitVec 32 := 3#32
  let v4240 : BitVec 32 := Scalar.shrsi v4239 c3_i32_2420
  let c3_i32_2421 : BitVec 32 := 3#32
  let v4241 : BitVec 32 := Scalar.shli v4240 c3_i32_2421
  v4241

def k1_off302 (v4239 : BitVec 32) : Fin 2 → Nat :=
  let c3_i32_2420 : BitVec 32 := 3#32
  let v4240 : BitVec 32 := Scalar.shrsi v4239 c3_i32_2420
  let c3_i32_2421 : BitVec 32 := 3#32
  let v4241 : BitVec 32 := Scalar.shli v4240 c3_i32_2421
  let v4242 : BitVec 32 := v4241
  let v4243 : Index := Scalar.indexCast v4242
  let c0_2422 : Index := 0#32
  ![v4243.toNat, 0]

def k1_chk302 (v4239 : BitVec 32) : Prop :=
  (8 ∣ (k1_mult302 v4239).toNat) ∧
  (∀ a, (k1_off302 v4239) a + S8x128.size a ≤ S12800x128.size a)
theorem k1_mult302_dvd : ∀ (v4239 : BitVec 32) (k1_hw302 : k1_chk302 v4239), 8 ∣ (k1_mult302 v4239).toNat := fun v4239 k1_hw302 => k1_hw302.1
theorem k1_off302_inb : ∀ (v4239 : BitVec 32) (k1_hw302 : k1_chk302 v4239), ∀ a, (k1_off302 v4239) a + S8x128.size a ≤ S12800x128.size a := fun v4239 k1_hw302 => k1_hw302.2

def k1_mult303 (v4253 : BitVec 32) : BitVec 32 :=
  let c3_i32_2428 : BitVec 32 := 3#32
  let v4254 : BitVec 32 := Scalar.shrsi v4253 c3_i32_2428
  let c3_i32_2429 : BitVec 32 := 3#32
  let v4255 : BitVec 32 := Scalar.shli v4254 c3_i32_2429
  v4255

def k1_off303 (v4253 : BitVec 32) : Fin 2 → Nat :=
  let c3_i32_2428 : BitVec 32 := 3#32
  let v4254 : BitVec 32 := Scalar.shrsi v4253 c3_i32_2428
  let c3_i32_2429 : BitVec 32 := 3#32
  let v4255 : BitVec 32 := Scalar.shli v4254 c3_i32_2429
  let v4256 : BitVec 32 := v4255
  let v4257 : Index := Scalar.indexCast v4256
  let c0_2430 : Index := 0#32
  ![v4257.toNat, 0]

def k1_chk303 (v4253 : BitVec 32) : Prop :=
  (8 ∣ (k1_mult303 v4253).toNat) ∧
  (∀ a, (k1_off303 v4253) a + S8x128.size a ≤ S12800x128.size a)
theorem k1_mult303_dvd : ∀ (v4253 : BitVec 32) (k1_hw303 : k1_chk303 v4253), 8 ∣ (k1_mult303 v4253).toNat := fun v4253 k1_hw303 => k1_hw303.1
theorem k1_off303_inb : ∀ (v4253 : BitVec 32) (k1_hw303 : k1_chk303 v4253), ∀ a, (k1_off303 v4253) a + S8x128.size a ≤ S12800x128.size a := fun v4253 k1_hw303 => k1_hw303.2

def k1_mult304 (v4267 : BitVec 32) : BitVec 32 :=
  let c3_i32_2436 : BitVec 32 := 3#32
  let v4268 : BitVec 32 := Scalar.shrsi v4267 c3_i32_2436
  let c3_i32_2437 : BitVec 32 := 3#32
  let v4269 : BitVec 32 := Scalar.shli v4268 c3_i32_2437
  v4269

def k1_off304 (v4267 : BitVec 32) : Fin 2 → Nat :=
  let c3_i32_2436 : BitVec 32 := 3#32
  let v4268 : BitVec 32 := Scalar.shrsi v4267 c3_i32_2436
  let c3_i32_2437 : BitVec 32 := 3#32
  let v4269 : BitVec 32 := Scalar.shli v4268 c3_i32_2437
  let v4270 : BitVec 32 := v4269
  let v4271 : Index := Scalar.indexCast v4270
  let c0_2438 : Index := 0#32
  ![v4271.toNat, 0]

def k1_chk304 (v4267 : BitVec 32) : Prop :=
  (8 ∣ (k1_mult304 v4267).toNat) ∧
  (∀ a, (k1_off304 v4267) a + S8x128.size a ≤ S12800x128.size a)
theorem k1_mult304_dvd : ∀ (v4267 : BitVec 32) (k1_hw304 : k1_chk304 v4267), 8 ∣ (k1_mult304 v4267).toNat := fun v4267 k1_hw304 => k1_hw304.1
theorem k1_off304_inb : ∀ (v4267 : BitVec 32) (k1_hw304 : k1_chk304 v4267), ∀ a, (k1_off304 v4267) a + S8x128.size a ≤ S12800x128.size a := fun v4267 k1_hw304 => k1_hw304.2

def k1_mult305 (v4281 : BitVec 32) : BitVec 32 :=
  let c3_i32_2444 : BitVec 32 := 3#32
  let v4282 : BitVec 32 := Scalar.shrsi v4281 c3_i32_2444
  let c3_i32_2445 : BitVec 32 := 3#32
  let v4283 : BitVec 32 := Scalar.shli v4282 c3_i32_2445
  v4283

def k1_off305 (v4281 : BitVec 32) : Fin 2 → Nat :=
  let c3_i32_2444 : BitVec 32 := 3#32
  let v4282 : BitVec 32 := Scalar.shrsi v4281 c3_i32_2444
  let c3_i32_2445 : BitVec 32 := 3#32
  let v4283 : BitVec 32 := Scalar.shli v4282 c3_i32_2445
  let v4284 : BitVec 32 := v4283
  let v4285 : Index := Scalar.indexCast v4284
  let c0_2446 : Index := 0#32
  ![v4285.toNat, 0]

def k1_chk305 (v4281 : BitVec 32) : Prop :=
  (8 ∣ (k1_mult305 v4281).toNat) ∧
  (∀ a, (k1_off305 v4281) a + S8x128.size a ≤ S12800x128.size a)
theorem k1_mult305_dvd : ∀ (v4281 : BitVec 32) (k1_hw305 : k1_chk305 v4281), 8 ∣ (k1_mult305 v4281).toNat := fun v4281 k1_hw305 => k1_hw305.1
theorem k1_off305_inb : ∀ (v4281 : BitVec 32) (k1_hw305 : k1_chk305 v4281), ∀ a, (k1_off305 v4281) a + S8x128.size a ≤ S12800x128.size a := fun v4281 k1_hw305 => k1_hw305.2

def k1_mult306 (v4295 : BitVec 32) : BitVec 32 :=
  let c3_i32_2452 : BitVec 32 := 3#32
  let v4296 : BitVec 32 := Scalar.shrsi v4295 c3_i32_2452
  let c3_i32_2453 : BitVec 32 := 3#32
  let v4297 : BitVec 32 := Scalar.shli v4296 c3_i32_2453
  v4297

def k1_off306 (v4295 : BitVec 32) : Fin 2 → Nat :=
  let c3_i32_2452 : BitVec 32 := 3#32
  let v4296 : BitVec 32 := Scalar.shrsi v4295 c3_i32_2452
  let c3_i32_2453 : BitVec 32 := 3#32
  let v4297 : BitVec 32 := Scalar.shli v4296 c3_i32_2453
  let v4298 : BitVec 32 := v4297
  let v4299 : Index := Scalar.indexCast v4298
  let c0_2454 : Index := 0#32
  ![v4299.toNat, 0]

def k1_chk306 (v4295 : BitVec 32) : Prop :=
  (8 ∣ (k1_mult306 v4295).toNat) ∧
  (∀ a, (k1_off306 v4295) a + S8x128.size a ≤ S12800x128.size a)
theorem k1_mult306_dvd : ∀ (v4295 : BitVec 32) (k1_hw306 : k1_chk306 v4295), 8 ∣ (k1_mult306 v4295).toNat := fun v4295 k1_hw306 => k1_hw306.1
theorem k1_off306_inb : ∀ (v4295 : BitVec 32) (k1_hw306 : k1_chk306 v4295), ∀ a, (k1_off306 v4295) a + S8x128.size a ≤ S12800x128.size a := fun v4295 k1_hw306 => k1_hw306.2

def k1_mult307 (v4309 : BitVec 32) : BitVec 32 :=
  let c3_i32_2460 : BitVec 32 := 3#32
  let v4310 : BitVec 32 := Scalar.shrsi v4309 c3_i32_2460
  let c3_i32_2461 : BitVec 32 := 3#32
  let v4311 : BitVec 32 := Scalar.shli v4310 c3_i32_2461
  v4311

def k1_off307 (v4309 : BitVec 32) : Fin 2 → Nat :=
  let c3_i32_2460 : BitVec 32 := 3#32
  let v4310 : BitVec 32 := Scalar.shrsi v4309 c3_i32_2460
  let c3_i32_2461 : BitVec 32 := 3#32
  let v4311 : BitVec 32 := Scalar.shli v4310 c3_i32_2461
  let v4312 : BitVec 32 := v4311
  let v4313 : Index := Scalar.indexCast v4312
  let c0_2462 : Index := 0#32
  ![v4313.toNat, 0]

def k1_chk307 (v4309 : BitVec 32) : Prop :=
  (8 ∣ (k1_mult307 v4309).toNat) ∧
  (∀ a, (k1_off307 v4309) a + S8x128.size a ≤ S12800x128.size a)
theorem k1_mult307_dvd : ∀ (v4309 : BitVec 32) (k1_hw307 : k1_chk307 v4309), 8 ∣ (k1_mult307 v4309).toNat := fun v4309 k1_hw307 => k1_hw307.1
theorem k1_off307_inb : ∀ (v4309 : BitVec 32) (k1_hw307 : k1_chk307 v4309), ∀ a, (k1_off307 v4309) a + S8x128.size a ≤ S12800x128.size a := fun v4309 k1_hw307 => k1_hw307.2

def k1_mult308 (v4323 : BitVec 32) : BitVec 32 :=
  let c3_i32_2468 : BitVec 32 := 3#32
  let v4324 : BitVec 32 := Scalar.shrsi v4323 c3_i32_2468
  let c3_i32_2469 : BitVec 32 := 3#32
  let v4325 : BitVec 32 := Scalar.shli v4324 c3_i32_2469
  v4325

def k1_off308 (v4323 : BitVec 32) : Fin 2 → Nat :=
  let c3_i32_2468 : BitVec 32 := 3#32
  let v4324 : BitVec 32 := Scalar.shrsi v4323 c3_i32_2468
  let c3_i32_2469 : BitVec 32 := 3#32
  let v4325 : BitVec 32 := Scalar.shli v4324 c3_i32_2469
  let v4326 : BitVec 32 := v4325
  let v4327 : Index := Scalar.indexCast v4326
  let c0_2470 : Index := 0#32
  ![v4327.toNat, 0]

def k1_chk308 (v4323 : BitVec 32) : Prop :=
  (8 ∣ (k1_mult308 v4323).toNat) ∧
  (∀ a, (k1_off308 v4323) a + S8x128.size a ≤ S12800x128.size a)
theorem k1_mult308_dvd : ∀ (v4323 : BitVec 32) (k1_hw308 : k1_chk308 v4323), 8 ∣ (k1_mult308 v4323).toNat := fun v4323 k1_hw308 => k1_hw308.1
theorem k1_off308_inb : ∀ (v4323 : BitVec 32) (k1_hw308 : k1_chk308 v4323), ∀ a, (k1_off308 v4323) a + S8x128.size a ≤ S12800x128.size a := fun v4323 k1_hw308 => k1_hw308.2

def k1_mult309 (v4337 : BitVec 32) : BitVec 32 :=
  let c3_i32_2476 : BitVec 32 := 3#32
  let v4338 : BitVec 32 := Scalar.shrsi v4337 c3_i32_2476
  let c3_i32_2477 : BitVec 32 := 3#32
  let v4339 : BitVec 32 := Scalar.shli v4338 c3_i32_2477
  v4339

def k1_off309 (v4337 : BitVec 32) : Fin 2 → Nat :=
  let c3_i32_2476 : BitVec 32 := 3#32
  let v4338 : BitVec 32 := Scalar.shrsi v4337 c3_i32_2476
  let c3_i32_2477 : BitVec 32 := 3#32
  let v4339 : BitVec 32 := Scalar.shli v4338 c3_i32_2477
  let v4340 : BitVec 32 := v4339
  let v4341 : Index := Scalar.indexCast v4340
  let c0_2478 : Index := 0#32
  ![v4341.toNat, 0]

def k1_chk309 (v4337 : BitVec 32) : Prop :=
  (8 ∣ (k1_mult309 v4337).toNat) ∧
  (∀ a, (k1_off309 v4337) a + S8x128.size a ≤ S12800x128.size a)
theorem k1_mult309_dvd : ∀ (v4337 : BitVec 32) (k1_hw309 : k1_chk309 v4337), 8 ∣ (k1_mult309 v4337).toNat := fun v4337 k1_hw309 => k1_hw309.1
theorem k1_off309_inb : ∀ (v4337 : BitVec 32) (k1_hw309 : k1_chk309 v4337), ∀ a, (k1_off309 v4337) a + S8x128.size a ≤ S12800x128.size a := fun v4337 k1_hw309 => k1_hw309.2

def k1_mult310 (v4351 : BitVec 32) : BitVec 32 :=
  let c3_i32_2484 : BitVec 32 := 3#32
  let v4352 : BitVec 32 := Scalar.shrsi v4351 c3_i32_2484
  let c3_i32_2485 : BitVec 32 := 3#32
  let v4353 : BitVec 32 := Scalar.shli v4352 c3_i32_2485
  v4353

def k1_off310 (v4351 : BitVec 32) : Fin 2 → Nat :=
  let c3_i32_2484 : BitVec 32 := 3#32
  let v4352 : BitVec 32 := Scalar.shrsi v4351 c3_i32_2484
  let c3_i32_2485 : BitVec 32 := 3#32
  let v4353 : BitVec 32 := Scalar.shli v4352 c3_i32_2485
  let v4354 : BitVec 32 := v4353
  let v4355 : Index := Scalar.indexCast v4354
  let c0_2486 : Index := 0#32
  ![v4355.toNat, 0]

def k1_chk310 (v4351 : BitVec 32) : Prop :=
  (8 ∣ (k1_mult310 v4351).toNat) ∧
  (∀ a, (k1_off310 v4351) a + S8x128.size a ≤ S12800x128.size a)
theorem k1_mult310_dvd : ∀ (v4351 : BitVec 32) (k1_hw310 : k1_chk310 v4351), 8 ∣ (k1_mult310 v4351).toNat := fun v4351 k1_hw310 => k1_hw310.1
theorem k1_off310_inb : ∀ (v4351 : BitVec 32) (k1_hw310 : k1_chk310 v4351), ∀ a, (k1_off310 v4351) a + S8x128.size a ≤ S12800x128.size a := fun v4351 k1_hw310 => k1_hw310.2

def k1_mult311 (v4365 : BitVec 32) : BitVec 32 :=
  let c3_i32_2492 : BitVec 32 := 3#32
  let v4366 : BitVec 32 := Scalar.shrsi v4365 c3_i32_2492
  let c3_i32_2493 : BitVec 32 := 3#32
  let v4367 : BitVec 32 := Scalar.shli v4366 c3_i32_2493
  v4367

def k1_off311 (v4365 : BitVec 32) : Fin 2 → Nat :=
  let c3_i32_2492 : BitVec 32 := 3#32
  let v4366 : BitVec 32 := Scalar.shrsi v4365 c3_i32_2492
  let c3_i32_2493 : BitVec 32 := 3#32
  let v4367 : BitVec 32 := Scalar.shli v4366 c3_i32_2493
  let v4368 : BitVec 32 := v4367
  let v4369 : Index := Scalar.indexCast v4368
  let c0_2494 : Index := 0#32
  ![v4369.toNat, 0]

def k1_chk311 (v4365 : BitVec 32) : Prop :=
  (8 ∣ (k1_mult311 v4365).toNat) ∧
  (∀ a, (k1_off311 v4365) a + S8x128.size a ≤ S12800x128.size a)
theorem k1_mult311_dvd : ∀ (v4365 : BitVec 32) (k1_hw311 : k1_chk311 v4365), 8 ∣ (k1_mult311 v4365).toNat := fun v4365 k1_hw311 => k1_hw311.1
theorem k1_off311_inb : ∀ (v4365 : BitVec 32) (k1_hw311 : k1_chk311 v4365), ∀ a, (k1_off311 v4365) a + S8x128.size a ≤ S12800x128.size a := fun v4365 k1_hw311 => k1_hw311.2

def k1_mult312 (v4379 : BitVec 32) : BitVec 32 :=
  let c3_i32_2500 : BitVec 32 := 3#32
  let v4380 : BitVec 32 := Scalar.shrsi v4379 c3_i32_2500
  let c3_i32_2501 : BitVec 32 := 3#32
  let v4381 : BitVec 32 := Scalar.shli v4380 c3_i32_2501
  v4381

def k1_off312 (v4379 : BitVec 32) : Fin 2 → Nat :=
  let c3_i32_2500 : BitVec 32 := 3#32
  let v4380 : BitVec 32 := Scalar.shrsi v4379 c3_i32_2500
  let c3_i32_2501 : BitVec 32 := 3#32
  let v4381 : BitVec 32 := Scalar.shli v4380 c3_i32_2501
  let v4382 : BitVec 32 := v4381
  let v4383 : Index := Scalar.indexCast v4382
  let c0_2502 : Index := 0#32
  ![v4383.toNat, 0]

def k1_chk312 (v4379 : BitVec 32) : Prop :=
  (8 ∣ (k1_mult312 v4379).toNat) ∧
  (∀ a, (k1_off312 v4379) a + S8x128.size a ≤ S12800x128.size a)
theorem k1_mult312_dvd : ∀ (v4379 : BitVec 32) (k1_hw312 : k1_chk312 v4379), 8 ∣ (k1_mult312 v4379).toNat := fun v4379 k1_hw312 => k1_hw312.1
theorem k1_off312_inb : ∀ (v4379 : BitVec 32) (k1_hw312 : k1_chk312 v4379), ∀ a, (k1_off312 v4379) a + S8x128.size a ≤ S12800x128.size a := fun v4379 k1_hw312 => k1_hw312.2

def k1_mult313 (v4393 : BitVec 32) : BitVec 32 :=
  let c3_i32_2508 : BitVec 32 := 3#32
  let v4394 : BitVec 32 := Scalar.shrsi v4393 c3_i32_2508
  let c3_i32_2509 : BitVec 32 := 3#32
  let v4395 : BitVec 32 := Scalar.shli v4394 c3_i32_2509
  v4395

def k1_off313 (v4393 : BitVec 32) : Fin 2 → Nat :=
  let c3_i32_2508 : BitVec 32 := 3#32
  let v4394 : BitVec 32 := Scalar.shrsi v4393 c3_i32_2508
  let c3_i32_2509 : BitVec 32 := 3#32
  let v4395 : BitVec 32 := Scalar.shli v4394 c3_i32_2509
  let v4396 : BitVec 32 := v4395
  let v4397 : Index := Scalar.indexCast v4396
  let c0_2510 : Index := 0#32
  ![v4397.toNat, 0]

def k1_chk313 (v4393 : BitVec 32) : Prop :=
  (8 ∣ (k1_mult313 v4393).toNat) ∧
  (∀ a, (k1_off313 v4393) a + S8x128.size a ≤ S12800x128.size a)
theorem k1_mult313_dvd : ∀ (v4393 : BitVec 32) (k1_hw313 : k1_chk313 v4393), 8 ∣ (k1_mult313 v4393).toNat := fun v4393 k1_hw313 => k1_hw313.1
theorem k1_off313_inb : ∀ (v4393 : BitVec 32) (k1_hw313 : k1_chk313 v4393), ∀ a, (k1_off313 v4393) a + S8x128.size a ≤ S12800x128.size a := fun v4393 k1_hw313 => k1_hw313.2

def k1_mult314 (v4407 : BitVec 32) : BitVec 32 :=
  let c3_i32_2516 : BitVec 32 := 3#32
  let v4408 : BitVec 32 := Scalar.shrsi v4407 c3_i32_2516
  let c3_i32_2517 : BitVec 32 := 3#32
  let v4409 : BitVec 32 := Scalar.shli v4408 c3_i32_2517
  v4409

def k1_off314 (v4407 : BitVec 32) : Fin 2 → Nat :=
  let c3_i32_2516 : BitVec 32 := 3#32
  let v4408 : BitVec 32 := Scalar.shrsi v4407 c3_i32_2516
  let c3_i32_2517 : BitVec 32 := 3#32
  let v4409 : BitVec 32 := Scalar.shli v4408 c3_i32_2517
  let v4410 : BitVec 32 := v4409
  let v4411 : Index := Scalar.indexCast v4410
  let c0_2518 : Index := 0#32
  ![v4411.toNat, 0]

def k1_chk314 (v4407 : BitVec 32) : Prop :=
  (8 ∣ (k1_mult314 v4407).toNat) ∧
  (∀ a, (k1_off314 v4407) a + S8x128.size a ≤ S12800x128.size a)
theorem k1_mult314_dvd : ∀ (v4407 : BitVec 32) (k1_hw314 : k1_chk314 v4407), 8 ∣ (k1_mult314 v4407).toNat := fun v4407 k1_hw314 => k1_hw314.1
theorem k1_off314_inb : ∀ (v4407 : BitVec 32) (k1_hw314 : k1_chk314 v4407), ∀ a, (k1_off314 v4407) a + S8x128.size a ≤ S12800x128.size a := fun v4407 k1_hw314 => k1_hw314.2

def k1_mult315 (v4421 : BitVec 32) : BitVec 32 :=
  let c3_i32_2524 : BitVec 32 := 3#32
  let v4422 : BitVec 32 := Scalar.shrsi v4421 c3_i32_2524
  let c3_i32_2525 : BitVec 32 := 3#32
  let v4423 : BitVec 32 := Scalar.shli v4422 c3_i32_2525
  v4423

def k1_off315 (v4421 : BitVec 32) : Fin 2 → Nat :=
  let c3_i32_2524 : BitVec 32 := 3#32
  let v4422 : BitVec 32 := Scalar.shrsi v4421 c3_i32_2524
  let c3_i32_2525 : BitVec 32 := 3#32
  let v4423 : BitVec 32 := Scalar.shli v4422 c3_i32_2525
  let v4424 : BitVec 32 := v4423
  let v4425 : Index := Scalar.indexCast v4424
  let c0_2526 : Index := 0#32
  ![v4425.toNat, 0]

def k1_chk315 (v4421 : BitVec 32) : Prop :=
  (8 ∣ (k1_mult315 v4421).toNat) ∧
  (∀ a, (k1_off315 v4421) a + S8x128.size a ≤ S12800x128.size a)
theorem k1_mult315_dvd : ∀ (v4421 : BitVec 32) (k1_hw315 : k1_chk315 v4421), 8 ∣ (k1_mult315 v4421).toNat := fun v4421 k1_hw315 => k1_hw315.1
theorem k1_off315_inb : ∀ (v4421 : BitVec 32) (k1_hw315 : k1_chk315 v4421), ∀ a, (k1_off315 v4421) a + S8x128.size a ≤ S12800x128.size a := fun v4421 k1_hw315 => k1_hw315.2

def k1_mult316 (v4435 : BitVec 32) : BitVec 32 :=
  let c3_i32_2532 : BitVec 32 := 3#32
  let v4436 : BitVec 32 := Scalar.shrsi v4435 c3_i32_2532
  let c3_i32_2533 : BitVec 32 := 3#32
  let v4437 : BitVec 32 := Scalar.shli v4436 c3_i32_2533
  v4437

def k1_off316 (v4435 : BitVec 32) : Fin 2 → Nat :=
  let c3_i32_2532 : BitVec 32 := 3#32
  let v4436 : BitVec 32 := Scalar.shrsi v4435 c3_i32_2532
  let c3_i32_2533 : BitVec 32 := 3#32
  let v4437 : BitVec 32 := Scalar.shli v4436 c3_i32_2533
  let v4438 : BitVec 32 := v4437
  let v4439 : Index := Scalar.indexCast v4438
  let c0_2534 : Index := 0#32
  ![v4439.toNat, 0]

def k1_chk316 (v4435 : BitVec 32) : Prop :=
  (8 ∣ (k1_mult316 v4435).toNat) ∧
  (∀ a, (k1_off316 v4435) a + S8x128.size a ≤ S12800x128.size a)
theorem k1_mult316_dvd : ∀ (v4435 : BitVec 32) (k1_hw316 : k1_chk316 v4435), 8 ∣ (k1_mult316 v4435).toNat := fun v4435 k1_hw316 => k1_hw316.1
theorem k1_off316_inb : ∀ (v4435 : BitVec 32) (k1_hw316 : k1_chk316 v4435), ∀ a, (k1_off316 v4435) a + S8x128.size a ≤ S12800x128.size a := fun v4435 k1_hw316 => k1_hw316.2

def k1_mult317 (v4449 : BitVec 32) : BitVec 32 :=
  let c3_i32_2540 : BitVec 32 := 3#32
  let v4450 : BitVec 32 := Scalar.shrsi v4449 c3_i32_2540
  let c3_i32_2541 : BitVec 32 := 3#32
  let v4451 : BitVec 32 := Scalar.shli v4450 c3_i32_2541
  v4451

def k1_off317 (v4449 : BitVec 32) : Fin 2 → Nat :=
  let c3_i32_2540 : BitVec 32 := 3#32
  let v4450 : BitVec 32 := Scalar.shrsi v4449 c3_i32_2540
  let c3_i32_2541 : BitVec 32 := 3#32
  let v4451 : BitVec 32 := Scalar.shli v4450 c3_i32_2541
  let v4452 : BitVec 32 := v4451
  let v4453 : Index := Scalar.indexCast v4452
  let c0_2542 : Index := 0#32
  ![v4453.toNat, 0]

def k1_chk317 (v4449 : BitVec 32) : Prop :=
  (8 ∣ (k1_mult317 v4449).toNat) ∧
  (∀ a, (k1_off317 v4449) a + S8x128.size a ≤ S12800x128.size a)
theorem k1_mult317_dvd : ∀ (v4449 : BitVec 32) (k1_hw317 : k1_chk317 v4449), 8 ∣ (k1_mult317 v4449).toNat := fun v4449 k1_hw317 => k1_hw317.1
theorem k1_off317_inb : ∀ (v4449 : BitVec 32) (k1_hw317 : k1_chk317 v4449), ∀ a, (k1_off317 v4449) a + S8x128.size a ≤ S12800x128.size a := fun v4449 k1_hw317 => k1_hw317.2

def k1_mult318 (v4463 : BitVec 32) : BitVec 32 :=
  let c3_i32_2548 : BitVec 32 := 3#32
  let v4464 : BitVec 32 := Scalar.shrsi v4463 c3_i32_2548
  let c3_i32_2549 : BitVec 32 := 3#32
  let v4465 : BitVec 32 := Scalar.shli v4464 c3_i32_2549
  v4465

def k1_off318 (v4463 : BitVec 32) : Fin 2 → Nat :=
  let c3_i32_2548 : BitVec 32 := 3#32
  let v4464 : BitVec 32 := Scalar.shrsi v4463 c3_i32_2548
  let c3_i32_2549 : BitVec 32 := 3#32
  let v4465 : BitVec 32 := Scalar.shli v4464 c3_i32_2549
  let v4466 : BitVec 32 := v4465
  let v4467 : Index := Scalar.indexCast v4466
  let c0_2550 : Index := 0#32
  ![v4467.toNat, 0]

def k1_chk318 (v4463 : BitVec 32) : Prop :=
  (8 ∣ (k1_mult318 v4463).toNat) ∧
  (∀ a, (k1_off318 v4463) a + S8x128.size a ≤ S12800x128.size a)
theorem k1_mult318_dvd : ∀ (v4463 : BitVec 32) (k1_hw318 : k1_chk318 v4463), 8 ∣ (k1_mult318 v4463).toNat := fun v4463 k1_hw318 => k1_hw318.1
theorem k1_off318_inb : ∀ (v4463 : BitVec 32) (k1_hw318 : k1_chk318 v4463), ∀ a, (k1_off318 v4463) a + S8x128.size a ≤ S12800x128.size a := fun v4463 k1_hw318 => k1_hw318.2

def k1_mult319 (v4477 : BitVec 32) : BitVec 32 :=
  let c3_i32_2556 : BitVec 32 := 3#32
  let v4478 : BitVec 32 := Scalar.shrsi v4477 c3_i32_2556
  let c3_i32_2557 : BitVec 32 := 3#32
  let v4479 : BitVec 32 := Scalar.shli v4478 c3_i32_2557
  v4479

def k1_off319 (v4477 : BitVec 32) : Fin 2 → Nat :=
  let c3_i32_2556 : BitVec 32 := 3#32
  let v4478 : BitVec 32 := Scalar.shrsi v4477 c3_i32_2556
  let c3_i32_2557 : BitVec 32 := 3#32
  let v4479 : BitVec 32 := Scalar.shli v4478 c3_i32_2557
  let v4480 : BitVec 32 := v4479
  let v4481 : Index := Scalar.indexCast v4480
  let c0_2558 : Index := 0#32
  ![v4481.toNat, 0]

def k1_chk319 (v4477 : BitVec 32) : Prop :=
  (8 ∣ (k1_mult319 v4477).toNat) ∧
  (∀ a, (k1_off319 v4477) a + S8x128.size a ≤ S12800x128.size a)
theorem k1_mult319_dvd : ∀ (v4477 : BitVec 32) (k1_hw319 : k1_chk319 v4477), 8 ∣ (k1_mult319 v4477).toNat := fun v4477 k1_hw319 => k1_hw319.1
theorem k1_off319_inb : ∀ (v4477 : BitVec 32) (k1_hw319 : k1_chk319 v4477), ∀ a, (k1_off319 v4477) a + S8x128.size a ≤ S12800x128.size a := fun v4477 k1_hw319 => k1_hw319.2

def k1_mult320 (v4491 : BitVec 32) : BitVec 32 :=
  let c3_i32_2564 : BitVec 32 := 3#32
  let v4492 : BitVec 32 := Scalar.shrsi v4491 c3_i32_2564
  let c3_i32_2565 : BitVec 32 := 3#32
  let v4493 : BitVec 32 := Scalar.shli v4492 c3_i32_2565
  v4493

def k1_off320 (v4491 : BitVec 32) : Fin 2 → Nat :=
  let c3_i32_2564 : BitVec 32 := 3#32
  let v4492 : BitVec 32 := Scalar.shrsi v4491 c3_i32_2564
  let c3_i32_2565 : BitVec 32 := 3#32
  let v4493 : BitVec 32 := Scalar.shli v4492 c3_i32_2565
  let v4494 : BitVec 32 := v4493
  let v4495 : Index := Scalar.indexCast v4494
  let c0_2566 : Index := 0#32
  ![v4495.toNat, 0]

def k1_chk320 (v4491 : BitVec 32) : Prop :=
  (8 ∣ (k1_mult320 v4491).toNat) ∧
  (∀ a, (k1_off320 v4491) a + S8x128.size a ≤ S12800x128.size a)
theorem k1_mult320_dvd : ∀ (v4491 : BitVec 32) (k1_hw320 : k1_chk320 v4491), 8 ∣ (k1_mult320 v4491).toNat := fun v4491 k1_hw320 => k1_hw320.1
theorem k1_off320_inb : ∀ (v4491 : BitVec 32) (k1_hw320 : k1_chk320 v4491), ∀ a, (k1_off320 v4491) a + S8x128.size a ≤ S12800x128.size a := fun v4491 k1_hw320 => k1_hw320.2

def k1_mult321 (v4505 : BitVec 32) : BitVec 32 :=
  let c3_i32_2572 : BitVec 32 := 3#32
  let v4506 : BitVec 32 := Scalar.shrsi v4505 c3_i32_2572
  let c3_i32_2573 : BitVec 32 := 3#32
  let v4507 : BitVec 32 := Scalar.shli v4506 c3_i32_2573
  v4507

def k1_off321 (v4505 : BitVec 32) : Fin 2 → Nat :=
  let c3_i32_2572 : BitVec 32 := 3#32
  let v4506 : BitVec 32 := Scalar.shrsi v4505 c3_i32_2572
  let c3_i32_2573 : BitVec 32 := 3#32
  let v4507 : BitVec 32 := Scalar.shli v4506 c3_i32_2573
  let v4508 : BitVec 32 := v4507
  let v4509 : Index := Scalar.indexCast v4508
  let c0_2574 : Index := 0#32
  ![v4509.toNat, 0]

def k1_chk321 (v4505 : BitVec 32) : Prop :=
  (8 ∣ (k1_mult321 v4505).toNat) ∧
  (∀ a, (k1_off321 v4505) a + S8x128.size a ≤ S12800x128.size a)
theorem k1_mult321_dvd : ∀ (v4505 : BitVec 32) (k1_hw321 : k1_chk321 v4505), 8 ∣ (k1_mult321 v4505).toNat := fun v4505 k1_hw321 => k1_hw321.1
theorem k1_off321_inb : ∀ (v4505 : BitVec 32) (k1_hw321 : k1_chk321 v4505), ∀ a, (k1_off321 v4505) a + S8x128.size a ≤ S12800x128.size a := fun v4505 k1_hw321 => k1_hw321.2

def k1_mult322 (v4519 : BitVec 32) : BitVec 32 :=
  let c3_i32_2580 : BitVec 32 := 3#32
  let v4520 : BitVec 32 := Scalar.shrsi v4519 c3_i32_2580
  let c3_i32_2581 : BitVec 32 := 3#32
  let v4521 : BitVec 32 := Scalar.shli v4520 c3_i32_2581
  v4521

def k1_off322 (v4519 : BitVec 32) : Fin 2 → Nat :=
  let c3_i32_2580 : BitVec 32 := 3#32
  let v4520 : BitVec 32 := Scalar.shrsi v4519 c3_i32_2580
  let c3_i32_2581 : BitVec 32 := 3#32
  let v4521 : BitVec 32 := Scalar.shli v4520 c3_i32_2581
  let v4522 : BitVec 32 := v4521
  let v4523 : Index := Scalar.indexCast v4522
  let c0_2582 : Index := 0#32
  ![v4523.toNat, 0]

def k1_chk322 (v4519 : BitVec 32) : Prop :=
  (8 ∣ (k1_mult322 v4519).toNat) ∧
  (∀ a, (k1_off322 v4519) a + S8x128.size a ≤ S12800x128.size a)
theorem k1_mult322_dvd : ∀ (v4519 : BitVec 32) (k1_hw322 : k1_chk322 v4519), 8 ∣ (k1_mult322 v4519).toNat := fun v4519 k1_hw322 => k1_hw322.1
theorem k1_off322_inb : ∀ (v4519 : BitVec 32) (k1_hw322 : k1_chk322 v4519), ∀ a, (k1_off322 v4519) a + S8x128.size a ≤ S12800x128.size a := fun v4519 k1_hw322 => k1_hw322.2

def k1_mult323 (v4533 : BitVec 32) : BitVec 32 :=
  let c3_i32_2588 : BitVec 32 := 3#32
  let v4534 : BitVec 32 := Scalar.shrsi v4533 c3_i32_2588
  let c3_i32_2589 : BitVec 32 := 3#32
  let v4535 : BitVec 32 := Scalar.shli v4534 c3_i32_2589
  v4535

def k1_off323 (v4533 : BitVec 32) : Fin 2 → Nat :=
  let c3_i32_2588 : BitVec 32 := 3#32
  let v4534 : BitVec 32 := Scalar.shrsi v4533 c3_i32_2588
  let c3_i32_2589 : BitVec 32 := 3#32
  let v4535 : BitVec 32 := Scalar.shli v4534 c3_i32_2589
  let v4536 : BitVec 32 := v4535
  let v4537 : Index := Scalar.indexCast v4536
  let c0_2590 : Index := 0#32
  ![v4537.toNat, 0]

def k1_chk323 (v4533 : BitVec 32) : Prop :=
  (8 ∣ (k1_mult323 v4533).toNat) ∧
  (∀ a, (k1_off323 v4533) a + S8x128.size a ≤ S12800x128.size a)
theorem k1_mult323_dvd : ∀ (v4533 : BitVec 32) (k1_hw323 : k1_chk323 v4533), 8 ∣ (k1_mult323 v4533).toNat := fun v4533 k1_hw323 => k1_hw323.1
theorem k1_off323_inb : ∀ (v4533 : BitVec 32) (k1_hw323 : k1_chk323 v4533), ∀ a, (k1_off323 v4533) a + S8x128.size a ≤ S12800x128.size a := fun v4533 k1_hw323 => k1_hw323.2

def k1_mult324 (v4547 : BitVec 32) : BitVec 32 :=
  let c3_i32_2596 : BitVec 32 := 3#32
  let v4548 : BitVec 32 := Scalar.shrsi v4547 c3_i32_2596
  let c3_i32_2597 : BitVec 32 := 3#32
  let v4549 : BitVec 32 := Scalar.shli v4548 c3_i32_2597
  v4549

def k1_off324 (v4547 : BitVec 32) : Fin 2 → Nat :=
  let c3_i32_2596 : BitVec 32 := 3#32
  let v4548 : BitVec 32 := Scalar.shrsi v4547 c3_i32_2596
  let c3_i32_2597 : BitVec 32 := 3#32
  let v4549 : BitVec 32 := Scalar.shli v4548 c3_i32_2597
  let v4550 : BitVec 32 := v4549
  let v4551 : Index := Scalar.indexCast v4550
  let c0_2598 : Index := 0#32
  ![v4551.toNat, 0]

def k1_chk324 (v4547 : BitVec 32) : Prop :=
  (8 ∣ (k1_mult324 v4547).toNat) ∧
  (∀ a, (k1_off324 v4547) a + S8x128.size a ≤ S12800x128.size a)
theorem k1_mult324_dvd : ∀ (v4547 : BitVec 32) (k1_hw324 : k1_chk324 v4547), 8 ∣ (k1_mult324 v4547).toNat := fun v4547 k1_hw324 => k1_hw324.1
theorem k1_off324_inb : ∀ (v4547 : BitVec 32) (k1_hw324 : k1_chk324 v4547), ∀ a, (k1_off324 v4547) a + S8x128.size a ≤ S12800x128.size a := fun v4547 k1_hw324 => k1_hw324.2

def k1_mult325 (v4561 : BitVec 32) : BitVec 32 :=
  let c3_i32_2604 : BitVec 32 := 3#32
  let v4562 : BitVec 32 := Scalar.shrsi v4561 c3_i32_2604
  let c3_i32_2605 : BitVec 32 := 3#32
  let v4563 : BitVec 32 := Scalar.shli v4562 c3_i32_2605
  v4563

def k1_off325 (v4561 : BitVec 32) : Fin 2 → Nat :=
  let c3_i32_2604 : BitVec 32 := 3#32
  let v4562 : BitVec 32 := Scalar.shrsi v4561 c3_i32_2604
  let c3_i32_2605 : BitVec 32 := 3#32
  let v4563 : BitVec 32 := Scalar.shli v4562 c3_i32_2605
  let v4564 : BitVec 32 := v4563
  let v4565 : Index := Scalar.indexCast v4564
  let c0_2606 : Index := 0#32
  ![v4565.toNat, 0]

def k1_chk325 (v4561 : BitVec 32) : Prop :=
  (8 ∣ (k1_mult325 v4561).toNat) ∧
  (∀ a, (k1_off325 v4561) a + S8x128.size a ≤ S12800x128.size a)
theorem k1_mult325_dvd : ∀ (v4561 : BitVec 32) (k1_hw325 : k1_chk325 v4561), 8 ∣ (k1_mult325 v4561).toNat := fun v4561 k1_hw325 => k1_hw325.1
theorem k1_off325_inb : ∀ (v4561 : BitVec 32) (k1_hw325 : k1_chk325 v4561), ∀ a, (k1_off325 v4561) a + S8x128.size a ≤ S12800x128.size a := fun v4561 k1_hw325 => k1_hw325.2

def k1_mult326 (v4575 : BitVec 32) : BitVec 32 :=
  let c3_i32_2612 : BitVec 32 := 3#32
  let v4576 : BitVec 32 := Scalar.shrsi v4575 c3_i32_2612
  let c3_i32_2613 : BitVec 32 := 3#32
  let v4577 : BitVec 32 := Scalar.shli v4576 c3_i32_2613
  v4577

def k1_off326 (v4575 : BitVec 32) : Fin 2 → Nat :=
  let c3_i32_2612 : BitVec 32 := 3#32
  let v4576 : BitVec 32 := Scalar.shrsi v4575 c3_i32_2612
  let c3_i32_2613 : BitVec 32 := 3#32
  let v4577 : BitVec 32 := Scalar.shli v4576 c3_i32_2613
  let v4578 : BitVec 32 := v4577
  let v4579 : Index := Scalar.indexCast v4578
  let c0_2614 : Index := 0#32
  ![v4579.toNat, 0]

def k1_chk326 (v4575 : BitVec 32) : Prop :=
  (8 ∣ (k1_mult326 v4575).toNat) ∧
  (∀ a, (k1_off326 v4575) a + S8x128.size a ≤ S12800x128.size a)
theorem k1_mult326_dvd : ∀ (v4575 : BitVec 32) (k1_hw326 : k1_chk326 v4575), 8 ∣ (k1_mult326 v4575).toNat := fun v4575 k1_hw326 => k1_hw326.1
theorem k1_off326_inb : ∀ (v4575 : BitVec 32) (k1_hw326 : k1_chk326 v4575), ∀ a, (k1_off326 v4575) a + S8x128.size a ≤ S12800x128.size a := fun v4575 k1_hw326 => k1_hw326.2

def k1_mult327 (v4589 : BitVec 32) : BitVec 32 :=
  let c3_i32_2620 : BitVec 32 := 3#32
  let v4590 : BitVec 32 := Scalar.shrsi v4589 c3_i32_2620
  let c3_i32_2621 : BitVec 32 := 3#32
  let v4591 : BitVec 32 := Scalar.shli v4590 c3_i32_2621
  v4591

def k1_off327 (v4589 : BitVec 32) : Fin 2 → Nat :=
  let c3_i32_2620 : BitVec 32 := 3#32
  let v4590 : BitVec 32 := Scalar.shrsi v4589 c3_i32_2620
  let c3_i32_2621 : BitVec 32 := 3#32
  let v4591 : BitVec 32 := Scalar.shli v4590 c3_i32_2621
  let v4592 : BitVec 32 := v4591
  let v4593 : Index := Scalar.indexCast v4592
  let c0_2622 : Index := 0#32
  ![v4593.toNat, 0]

def k1_chk327 (v4589 : BitVec 32) : Prop :=
  (8 ∣ (k1_mult327 v4589).toNat) ∧
  (∀ a, (k1_off327 v4589) a + S8x128.size a ≤ S12800x128.size a)
theorem k1_mult327_dvd : ∀ (v4589 : BitVec 32) (k1_hw327 : k1_chk327 v4589), 8 ∣ (k1_mult327 v4589).toNat := fun v4589 k1_hw327 => k1_hw327.1
theorem k1_off327_inb : ∀ (v4589 : BitVec 32) (k1_hw327 : k1_chk327 v4589), ∀ a, (k1_off327 v4589) a + S8x128.size a ≤ S12800x128.size a := fun v4589 k1_hw327 => k1_hw327.2

def k1_mult328 (v4603 : BitVec 32) : BitVec 32 :=
  let c3_i32_2628 : BitVec 32 := 3#32
  let v4604 : BitVec 32 := Scalar.shrsi v4603 c3_i32_2628
  let c3_i32_2629 : BitVec 32 := 3#32
  let v4605 : BitVec 32 := Scalar.shli v4604 c3_i32_2629
  v4605

def k1_off328 (v4603 : BitVec 32) : Fin 2 → Nat :=
  let c3_i32_2628 : BitVec 32 := 3#32
  let v4604 : BitVec 32 := Scalar.shrsi v4603 c3_i32_2628
  let c3_i32_2629 : BitVec 32 := 3#32
  let v4605 : BitVec 32 := Scalar.shli v4604 c3_i32_2629
  let v4606 : BitVec 32 := v4605
  let v4607 : Index := Scalar.indexCast v4606
  let c0_2630 : Index := 0#32
  ![v4607.toNat, 0]

def k1_chk328 (v4603 : BitVec 32) : Prop :=
  (8 ∣ (k1_mult328 v4603).toNat) ∧
  (∀ a, (k1_off328 v4603) a + S8x128.size a ≤ S12800x128.size a)
theorem k1_mult328_dvd : ∀ (v4603 : BitVec 32) (k1_hw328 : k1_chk328 v4603), 8 ∣ (k1_mult328 v4603).toNat := fun v4603 k1_hw328 => k1_hw328.1
theorem k1_off328_inb : ∀ (v4603 : BitVec 32) (k1_hw328 : k1_chk328 v4603), ∀ a, (k1_off328 v4603) a + S8x128.size a ≤ S12800x128.size a := fun v4603 k1_hw328 => k1_hw328.2

def k1_mult329 (v4617 : BitVec 32) : BitVec 32 :=
  let c3_i32_2636 : BitVec 32 := 3#32
  let v4618 : BitVec 32 := Scalar.shrsi v4617 c3_i32_2636
  let c3_i32_2637 : BitVec 32 := 3#32
  let v4619 : BitVec 32 := Scalar.shli v4618 c3_i32_2637
  v4619

def k1_off329 (v4617 : BitVec 32) : Fin 2 → Nat :=
  let c3_i32_2636 : BitVec 32 := 3#32
  let v4618 : BitVec 32 := Scalar.shrsi v4617 c3_i32_2636
  let c3_i32_2637 : BitVec 32 := 3#32
  let v4619 : BitVec 32 := Scalar.shli v4618 c3_i32_2637
  let v4620 : BitVec 32 := v4619
  let v4621 : Index := Scalar.indexCast v4620
  let c0_2638 : Index := 0#32
  ![v4621.toNat, 0]

def k1_chk329 (v4617 : BitVec 32) : Prop :=
  (8 ∣ (k1_mult329 v4617).toNat) ∧
  (∀ a, (k1_off329 v4617) a + S8x128.size a ≤ S12800x128.size a)
theorem k1_mult329_dvd : ∀ (v4617 : BitVec 32) (k1_hw329 : k1_chk329 v4617), 8 ∣ (k1_mult329 v4617).toNat := fun v4617 k1_hw329 => k1_hw329.1
theorem k1_off329_inb : ∀ (v4617 : BitVec 32) (k1_hw329 : k1_chk329 v4617), ∀ a, (k1_off329 v4617) a + S8x128.size a ≤ S12800x128.size a := fun v4617 k1_hw329 => k1_hw329.2

def k1_mult330 (v4631 : BitVec 32) : BitVec 32 :=
  let c3_i32_2644 : BitVec 32 := 3#32
  let v4632 : BitVec 32 := Scalar.shrsi v4631 c3_i32_2644
  let c3_i32_2645 : BitVec 32 := 3#32
  let v4633 : BitVec 32 := Scalar.shli v4632 c3_i32_2645
  v4633

def k1_off330 (v4631 : BitVec 32) : Fin 2 → Nat :=
  let c3_i32_2644 : BitVec 32 := 3#32
  let v4632 : BitVec 32 := Scalar.shrsi v4631 c3_i32_2644
  let c3_i32_2645 : BitVec 32 := 3#32
  let v4633 : BitVec 32 := Scalar.shli v4632 c3_i32_2645
  let v4634 : BitVec 32 := v4633
  let v4635 : Index := Scalar.indexCast v4634
  let c0_2646 : Index := 0#32
  ![v4635.toNat, 0]

def k1_chk330 (v4631 : BitVec 32) : Prop :=
  (8 ∣ (k1_mult330 v4631).toNat) ∧
  (∀ a, (k1_off330 v4631) a + S8x128.size a ≤ S12800x128.size a)
theorem k1_mult330_dvd : ∀ (v4631 : BitVec 32) (k1_hw330 : k1_chk330 v4631), 8 ∣ (k1_mult330 v4631).toNat := fun v4631 k1_hw330 => k1_hw330.1
theorem k1_off330_inb : ∀ (v4631 : BitVec 32) (k1_hw330 : k1_chk330 v4631), ∀ a, (k1_off330 v4631) a + S8x128.size a ≤ S12800x128.size a := fun v4631 k1_hw330 => k1_hw330.2

def k1_mult331 (v4645 : BitVec 32) : BitVec 32 :=
  let c3_i32_2652 : BitVec 32 := 3#32
  let v4646 : BitVec 32 := Scalar.shrsi v4645 c3_i32_2652
  let c3_i32_2653 : BitVec 32 := 3#32
  let v4647 : BitVec 32 := Scalar.shli v4646 c3_i32_2653
  v4647

def k1_off331 (v4645 : BitVec 32) : Fin 2 → Nat :=
  let c3_i32_2652 : BitVec 32 := 3#32
  let v4646 : BitVec 32 := Scalar.shrsi v4645 c3_i32_2652
  let c3_i32_2653 : BitVec 32 := 3#32
  let v4647 : BitVec 32 := Scalar.shli v4646 c3_i32_2653
  let v4648 : BitVec 32 := v4647
  let v4649 : Index := Scalar.indexCast v4648
  let c0_2654 : Index := 0#32
  ![v4649.toNat, 0]

def k1_chk331 (v4645 : BitVec 32) : Prop :=
  (8 ∣ (k1_mult331 v4645).toNat) ∧
  (∀ a, (k1_off331 v4645) a + S8x128.size a ≤ S12800x128.size a)
theorem k1_mult331_dvd : ∀ (v4645 : BitVec 32) (k1_hw331 : k1_chk331 v4645), 8 ∣ (k1_mult331 v4645).toNat := fun v4645 k1_hw331 => k1_hw331.1
theorem k1_off331_inb : ∀ (v4645 : BitVec 32) (k1_hw331 : k1_chk331 v4645), ∀ a, (k1_off331 v4645) a + S8x128.size a ≤ S12800x128.size a := fun v4645 k1_hw331 => k1_hw331.2

def k1_mult332 (v4659 : BitVec 32) : BitVec 32 :=
  let c3_i32_2660 : BitVec 32 := 3#32
  let v4660 : BitVec 32 := Scalar.shrsi v4659 c3_i32_2660
  let c3_i32_2661 : BitVec 32 := 3#32
  let v4661 : BitVec 32 := Scalar.shli v4660 c3_i32_2661
  v4661

def k1_off332 (v4659 : BitVec 32) : Fin 2 → Nat :=
  let c3_i32_2660 : BitVec 32 := 3#32
  let v4660 : BitVec 32 := Scalar.shrsi v4659 c3_i32_2660
  let c3_i32_2661 : BitVec 32 := 3#32
  let v4661 : BitVec 32 := Scalar.shli v4660 c3_i32_2661
  let v4662 : BitVec 32 := v4661
  let v4663 : Index := Scalar.indexCast v4662
  let c0_2662 : Index := 0#32
  ![v4663.toNat, 0]

def k1_chk332 (v4659 : BitVec 32) : Prop :=
  (8 ∣ (k1_mult332 v4659).toNat) ∧
  (∀ a, (k1_off332 v4659) a + S8x128.size a ≤ S12800x128.size a)
theorem k1_mult332_dvd : ∀ (v4659 : BitVec 32) (k1_hw332 : k1_chk332 v4659), 8 ∣ (k1_mult332 v4659).toNat := fun v4659 k1_hw332 => k1_hw332.1
theorem k1_off332_inb : ∀ (v4659 : BitVec 32) (k1_hw332 : k1_chk332 v4659), ∀ a, (k1_off332 v4659) a + S8x128.size a ≤ S12800x128.size a := fun v4659 k1_hw332 => k1_hw332.2

def k1_mult333 (v4673 : BitVec 32) : BitVec 32 :=
  let c3_i32_2668 : BitVec 32 := 3#32
  let v4674 : BitVec 32 := Scalar.shrsi v4673 c3_i32_2668
  let c3_i32_2669 : BitVec 32 := 3#32
  let v4675 : BitVec 32 := Scalar.shli v4674 c3_i32_2669
  v4675

def k1_off333 (v4673 : BitVec 32) : Fin 2 → Nat :=
  let c3_i32_2668 : BitVec 32 := 3#32
  let v4674 : BitVec 32 := Scalar.shrsi v4673 c3_i32_2668
  let c3_i32_2669 : BitVec 32 := 3#32
  let v4675 : BitVec 32 := Scalar.shli v4674 c3_i32_2669
  let v4676 : BitVec 32 := v4675
  let v4677 : Index := Scalar.indexCast v4676
  let c0_2670 : Index := 0#32
  ![v4677.toNat, 0]

def k1_chk333 (v4673 : BitVec 32) : Prop :=
  (8 ∣ (k1_mult333 v4673).toNat) ∧
  (∀ a, (k1_off333 v4673) a + S8x128.size a ≤ S12800x128.size a)
theorem k1_mult333_dvd : ∀ (v4673 : BitVec 32) (k1_hw333 : k1_chk333 v4673), 8 ∣ (k1_mult333 v4673).toNat := fun v4673 k1_hw333 => k1_hw333.1
theorem k1_off333_inb : ∀ (v4673 : BitVec 32) (k1_hw333 : k1_chk333 v4673), ∀ a, (k1_off333 v4673) a + S8x128.size a ≤ S12800x128.size a := fun v4673 k1_hw333 => k1_hw333.2

def k1_mult334 (v4687 : BitVec 32) : BitVec 32 :=
  let c3_i32_2676 : BitVec 32 := 3#32
  let v4688 : BitVec 32 := Scalar.shrsi v4687 c3_i32_2676
  let c3_i32_2677 : BitVec 32 := 3#32
  let v4689 : BitVec 32 := Scalar.shli v4688 c3_i32_2677
  v4689

def k1_off334 (v4687 : BitVec 32) : Fin 2 → Nat :=
  let c3_i32_2676 : BitVec 32 := 3#32
  let v4688 : BitVec 32 := Scalar.shrsi v4687 c3_i32_2676
  let c3_i32_2677 : BitVec 32 := 3#32
  let v4689 : BitVec 32 := Scalar.shli v4688 c3_i32_2677
  let v4690 : BitVec 32 := v4689
  let v4691 : Index := Scalar.indexCast v4690
  let c0_2678 : Index := 0#32
  ![v4691.toNat, 0]

def k1_chk334 (v4687 : BitVec 32) : Prop :=
  (8 ∣ (k1_mult334 v4687).toNat) ∧
  (∀ a, (k1_off334 v4687) a + S8x128.size a ≤ S12800x128.size a)
theorem k1_mult334_dvd : ∀ (v4687 : BitVec 32) (k1_hw334 : k1_chk334 v4687), 8 ∣ (k1_mult334 v4687).toNat := fun v4687 k1_hw334 => k1_hw334.1
theorem k1_off334_inb : ∀ (v4687 : BitVec 32) (k1_hw334 : k1_chk334 v4687), ∀ a, (k1_off334 v4687) a + S8x128.size a ≤ S12800x128.size a := fun v4687 k1_hw334 => k1_hw334.2

def k1_mult335 (v4701 : BitVec 32) : BitVec 32 :=
  let c3_i32_2684 : BitVec 32 := 3#32
  let v4702 : BitVec 32 := Scalar.shrsi v4701 c3_i32_2684
  let c3_i32_2685 : BitVec 32 := 3#32
  let v4703 : BitVec 32 := Scalar.shli v4702 c3_i32_2685
  v4703

def k1_off335 (v4701 : BitVec 32) : Fin 2 → Nat :=
  let c3_i32_2684 : BitVec 32 := 3#32
  let v4702 : BitVec 32 := Scalar.shrsi v4701 c3_i32_2684
  let c3_i32_2685 : BitVec 32 := 3#32
  let v4703 : BitVec 32 := Scalar.shli v4702 c3_i32_2685
  let v4704 : BitVec 32 := v4703
  let v4705 : Index := Scalar.indexCast v4704
  let c0_2686 : Index := 0#32
  ![v4705.toNat, 0]

def k1_chk335 (v4701 : BitVec 32) : Prop :=
  (8 ∣ (k1_mult335 v4701).toNat) ∧
  (∀ a, (k1_off335 v4701) a + S8x128.size a ≤ S12800x128.size a)
theorem k1_mult335_dvd : ∀ (v4701 : BitVec 32) (k1_hw335 : k1_chk335 v4701), 8 ∣ (k1_mult335 v4701).toNat := fun v4701 k1_hw335 => k1_hw335.1
theorem k1_off335_inb : ∀ (v4701 : BitVec 32) (k1_hw335 : k1_chk335 v4701), ∀ a, (k1_off335 v4701) a + S8x128.size a ≤ S12800x128.size a := fun v4701 k1_hw335 => k1_hw335.2

def k1_mult336 (v4715 : BitVec 32) : BitVec 32 :=
  let c3_i32_2692 : BitVec 32 := 3#32
  let v4716 : BitVec 32 := Scalar.shrsi v4715 c3_i32_2692
  let c3_i32_2693 : BitVec 32 := 3#32
  let v4717 : BitVec 32 := Scalar.shli v4716 c3_i32_2693
  v4717

def k1_off336 (v4715 : BitVec 32) : Fin 2 → Nat :=
  let c3_i32_2692 : BitVec 32 := 3#32
  let v4716 : BitVec 32 := Scalar.shrsi v4715 c3_i32_2692
  let c3_i32_2693 : BitVec 32 := 3#32
  let v4717 : BitVec 32 := Scalar.shli v4716 c3_i32_2693
  let v4718 : BitVec 32 := v4717
  let v4719 : Index := Scalar.indexCast v4718
  let c0_2694 : Index := 0#32
  ![v4719.toNat, 0]

def k1_chk336 (v4715 : BitVec 32) : Prop :=
  (8 ∣ (k1_mult336 v4715).toNat) ∧
  (∀ a, (k1_off336 v4715) a + S8x128.size a ≤ S12800x128.size a)
theorem k1_mult336_dvd : ∀ (v4715 : BitVec 32) (k1_hw336 : k1_chk336 v4715), 8 ∣ (k1_mult336 v4715).toNat := fun v4715 k1_hw336 => k1_hw336.1
theorem k1_off336_inb : ∀ (v4715 : BitVec 32) (k1_hw336 : k1_chk336 v4715), ∀ a, (k1_off336 v4715) a + S8x128.size a ≤ S12800x128.size a := fun v4715 k1_hw336 => k1_hw336.2

def k1_mult337 (v4729 : BitVec 32) : BitVec 32 :=
  let c3_i32_2700 : BitVec 32 := 3#32
  let v4730 : BitVec 32 := Scalar.shrsi v4729 c3_i32_2700
  let c3_i32_2701 : BitVec 32 := 3#32
  let v4731 : BitVec 32 := Scalar.shli v4730 c3_i32_2701
  v4731

def k1_off337 (v4729 : BitVec 32) : Fin 2 → Nat :=
  let c3_i32_2700 : BitVec 32 := 3#32
  let v4730 : BitVec 32 := Scalar.shrsi v4729 c3_i32_2700
  let c3_i32_2701 : BitVec 32 := 3#32
  let v4731 : BitVec 32 := Scalar.shli v4730 c3_i32_2701
  let v4732 : BitVec 32 := v4731
  let v4733 : Index := Scalar.indexCast v4732
  let c0_2702 : Index := 0#32
  ![v4733.toNat, 0]

def k1_chk337 (v4729 : BitVec 32) : Prop :=
  (8 ∣ (k1_mult337 v4729).toNat) ∧
  (∀ a, (k1_off337 v4729) a + S8x128.size a ≤ S12800x128.size a)
theorem k1_mult337_dvd : ∀ (v4729 : BitVec 32) (k1_hw337 : k1_chk337 v4729), 8 ∣ (k1_mult337 v4729).toNat := fun v4729 k1_hw337 => k1_hw337.1
theorem k1_off337_inb : ∀ (v4729 : BitVec 32) (k1_hw337 : k1_chk337 v4729), ∀ a, (k1_off337 v4729) a + S8x128.size a ≤ S12800x128.size a := fun v4729 k1_hw337 => k1_hw337.2

def k1_mult338 (v4743 : BitVec 32) : BitVec 32 :=
  let c3_i32_2708 : BitVec 32 := 3#32
  let v4744 : BitVec 32 := Scalar.shrsi v4743 c3_i32_2708
  let c3_i32_2709 : BitVec 32 := 3#32
  let v4745 : BitVec 32 := Scalar.shli v4744 c3_i32_2709
  v4745

def k1_off338 (v4743 : BitVec 32) : Fin 2 → Nat :=
  let c3_i32_2708 : BitVec 32 := 3#32
  let v4744 : BitVec 32 := Scalar.shrsi v4743 c3_i32_2708
  let c3_i32_2709 : BitVec 32 := 3#32
  let v4745 : BitVec 32 := Scalar.shli v4744 c3_i32_2709
  let v4746 : BitVec 32 := v4745
  let v4747 : Index := Scalar.indexCast v4746
  let c0_2710 : Index := 0#32
  ![v4747.toNat, 0]

def k1_chk338 (v4743 : BitVec 32) : Prop :=
  (8 ∣ (k1_mult338 v4743).toNat) ∧
  (∀ a, (k1_off338 v4743) a + S8x128.size a ≤ S12800x128.size a)
theorem k1_mult338_dvd : ∀ (v4743 : BitVec 32) (k1_hw338 : k1_chk338 v4743), 8 ∣ (k1_mult338 v4743).toNat := fun v4743 k1_hw338 => k1_hw338.1
theorem k1_off338_inb : ∀ (v4743 : BitVec 32) (k1_hw338 : k1_chk338 v4743), ∀ a, (k1_off338 v4743) a + S8x128.size a ≤ S12800x128.size a := fun v4743 k1_hw338 => k1_hw338.2

def k1_mult339 (v4757 : BitVec 32) : BitVec 32 :=
  let c3_i32_2716 : BitVec 32 := 3#32
  let v4758 : BitVec 32 := Scalar.shrsi v4757 c3_i32_2716
  let c3_i32_2717 : BitVec 32 := 3#32
  let v4759 : BitVec 32 := Scalar.shli v4758 c3_i32_2717
  v4759

def k1_off339 (v4757 : BitVec 32) : Fin 2 → Nat :=
  let c3_i32_2716 : BitVec 32 := 3#32
  let v4758 : BitVec 32 := Scalar.shrsi v4757 c3_i32_2716
  let c3_i32_2717 : BitVec 32 := 3#32
  let v4759 : BitVec 32 := Scalar.shli v4758 c3_i32_2717
  let v4760 : BitVec 32 := v4759
  let v4761 : Index := Scalar.indexCast v4760
  let c0_2718 : Index := 0#32
  ![v4761.toNat, 0]

def k1_chk339 (v4757 : BitVec 32) : Prop :=
  (8 ∣ (k1_mult339 v4757).toNat) ∧
  (∀ a, (k1_off339 v4757) a + S8x128.size a ≤ S12800x128.size a)
theorem k1_mult339_dvd : ∀ (v4757 : BitVec 32) (k1_hw339 : k1_chk339 v4757), 8 ∣ (k1_mult339 v4757).toNat := fun v4757 k1_hw339 => k1_hw339.1
theorem k1_off339_inb : ∀ (v4757 : BitVec 32) (k1_hw339 : k1_chk339 v4757), ∀ a, (k1_off339 v4757) a + S8x128.size a ≤ S12800x128.size a := fun v4757 k1_hw339 => k1_hw339.2

def k1_mult340 (v4771 : BitVec 32) : BitVec 32 :=
  let c3_i32_2724 : BitVec 32 := 3#32
  let v4772 : BitVec 32 := Scalar.shrsi v4771 c3_i32_2724
  let c3_i32_2725 : BitVec 32 := 3#32
  let v4773 : BitVec 32 := Scalar.shli v4772 c3_i32_2725
  v4773

def k1_off340 (v4771 : BitVec 32) : Fin 2 → Nat :=
  let c3_i32_2724 : BitVec 32 := 3#32
  let v4772 : BitVec 32 := Scalar.shrsi v4771 c3_i32_2724
  let c3_i32_2725 : BitVec 32 := 3#32
  let v4773 : BitVec 32 := Scalar.shli v4772 c3_i32_2725
  let v4774 : BitVec 32 := v4773
  let v4775 : Index := Scalar.indexCast v4774
  let c0_2726 : Index := 0#32
  ![v4775.toNat, 0]

def k1_chk340 (v4771 : BitVec 32) : Prop :=
  (8 ∣ (k1_mult340 v4771).toNat) ∧
  (∀ a, (k1_off340 v4771) a + S8x128.size a ≤ S12800x128.size a)
theorem k1_mult340_dvd : ∀ (v4771 : BitVec 32) (k1_hw340 : k1_chk340 v4771), 8 ∣ (k1_mult340 v4771).toNat := fun v4771 k1_hw340 => k1_hw340.1
theorem k1_off340_inb : ∀ (v4771 : BitVec 32) (k1_hw340 : k1_chk340 v4771), ∀ a, (k1_off340 v4771) a + S8x128.size a ≤ S12800x128.size a := fun v4771 k1_hw340 => k1_hw340.2

def k1_mult341 (v4785 : BitVec 32) : BitVec 32 :=
  let c3_i32_2732 : BitVec 32 := 3#32
  let v4786 : BitVec 32 := Scalar.shrsi v4785 c3_i32_2732
  let c3_i32_2733 : BitVec 32 := 3#32
  let v4787 : BitVec 32 := Scalar.shli v4786 c3_i32_2733
  v4787

def k1_off341 (v4785 : BitVec 32) : Fin 2 → Nat :=
  let c3_i32_2732 : BitVec 32 := 3#32
  let v4786 : BitVec 32 := Scalar.shrsi v4785 c3_i32_2732
  let c3_i32_2733 : BitVec 32 := 3#32
  let v4787 : BitVec 32 := Scalar.shli v4786 c3_i32_2733
  let v4788 : BitVec 32 := v4787
  let v4789 : Index := Scalar.indexCast v4788
  let c0_2734 : Index := 0#32
  ![v4789.toNat, 0]

def k1_chk341 (v4785 : BitVec 32) : Prop :=
  (8 ∣ (k1_mult341 v4785).toNat) ∧
  (∀ a, (k1_off341 v4785) a + S8x128.size a ≤ S12800x128.size a)
theorem k1_mult341_dvd : ∀ (v4785 : BitVec 32) (k1_hw341 : k1_chk341 v4785), 8 ∣ (k1_mult341 v4785).toNat := fun v4785 k1_hw341 => k1_hw341.1
theorem k1_off341_inb : ∀ (v4785 : BitVec 32) (k1_hw341 : k1_chk341 v4785), ∀ a, (k1_off341 v4785) a + S8x128.size a ≤ S12800x128.size a := fun v4785 k1_hw341 => k1_hw341.2

def k1_mult342 (v4799 : BitVec 32) : BitVec 32 :=
  let c3_i32_2740 : BitVec 32 := 3#32
  let v4800 : BitVec 32 := Scalar.shrsi v4799 c3_i32_2740
  let c3_i32_2741 : BitVec 32 := 3#32
  let v4801 : BitVec 32 := Scalar.shli v4800 c3_i32_2741
  v4801

def k1_off342 (v4799 : BitVec 32) : Fin 2 → Nat :=
  let c3_i32_2740 : BitVec 32 := 3#32
  let v4800 : BitVec 32 := Scalar.shrsi v4799 c3_i32_2740
  let c3_i32_2741 : BitVec 32 := 3#32
  let v4801 : BitVec 32 := Scalar.shli v4800 c3_i32_2741
  let v4802 : BitVec 32 := v4801
  let v4803 : Index := Scalar.indexCast v4802
  let c0_2742 : Index := 0#32
  ![v4803.toNat, 0]

def k1_chk342 (v4799 : BitVec 32) : Prop :=
  (8 ∣ (k1_mult342 v4799).toNat) ∧
  (∀ a, (k1_off342 v4799) a + S8x128.size a ≤ S12800x128.size a)
theorem k1_mult342_dvd : ∀ (v4799 : BitVec 32) (k1_hw342 : k1_chk342 v4799), 8 ∣ (k1_mult342 v4799).toNat := fun v4799 k1_hw342 => k1_hw342.1
theorem k1_off342_inb : ∀ (v4799 : BitVec 32) (k1_hw342 : k1_chk342 v4799), ∀ a, (k1_off342 v4799) a + S8x128.size a ≤ S12800x128.size a := fun v4799 k1_hw342 => k1_hw342.2

def k1_mult343 (v4813 : BitVec 32) : BitVec 32 :=
  let c3_i32_2748 : BitVec 32 := 3#32
  let v4814 : BitVec 32 := Scalar.shrsi v4813 c3_i32_2748
  let c3_i32_2749 : BitVec 32 := 3#32
  let v4815 : BitVec 32 := Scalar.shli v4814 c3_i32_2749
  v4815

def k1_off343 (v4813 : BitVec 32) : Fin 2 → Nat :=
  let c3_i32_2748 : BitVec 32 := 3#32
  let v4814 : BitVec 32 := Scalar.shrsi v4813 c3_i32_2748
  let c3_i32_2749 : BitVec 32 := 3#32
  let v4815 : BitVec 32 := Scalar.shli v4814 c3_i32_2749
  let v4816 : BitVec 32 := v4815
  let v4817 : Index := Scalar.indexCast v4816
  let c0_2750 : Index := 0#32
  ![v4817.toNat, 0]

def k1_chk343 (v4813 : BitVec 32) : Prop :=
  (8 ∣ (k1_mult343 v4813).toNat) ∧
  (∀ a, (k1_off343 v4813) a + S8x128.size a ≤ S12800x128.size a)
theorem k1_mult343_dvd : ∀ (v4813 : BitVec 32) (k1_hw343 : k1_chk343 v4813), 8 ∣ (k1_mult343 v4813).toNat := fun v4813 k1_hw343 => k1_hw343.1
theorem k1_off343_inb : ∀ (v4813 : BitVec 32) (k1_hw343 : k1_chk343 v4813), ∀ a, (k1_off343 v4813) a + S8x128.size a ≤ S12800x128.size a := fun v4813 k1_hw343 => k1_hw343.2

def k1_mult344 (v4827 : BitVec 32) : BitVec 32 :=
  let c3_i32_2756 : BitVec 32 := 3#32
  let v4828 : BitVec 32 := Scalar.shrsi v4827 c3_i32_2756
  let c3_i32_2757 : BitVec 32 := 3#32
  let v4829 : BitVec 32 := Scalar.shli v4828 c3_i32_2757
  v4829

def k1_off344 (v4827 : BitVec 32) : Fin 2 → Nat :=
  let c3_i32_2756 : BitVec 32 := 3#32
  let v4828 : BitVec 32 := Scalar.shrsi v4827 c3_i32_2756
  let c3_i32_2757 : BitVec 32 := 3#32
  let v4829 : BitVec 32 := Scalar.shli v4828 c3_i32_2757
  let v4830 : BitVec 32 := v4829
  let v4831 : Index := Scalar.indexCast v4830
  let c0_2758 : Index := 0#32
  ![v4831.toNat, 0]

def k1_chk344 (v4827 : BitVec 32) : Prop :=
  (8 ∣ (k1_mult344 v4827).toNat) ∧
  (∀ a, (k1_off344 v4827) a + S8x128.size a ≤ S12800x128.size a)
theorem k1_mult344_dvd : ∀ (v4827 : BitVec 32) (k1_hw344 : k1_chk344 v4827), 8 ∣ (k1_mult344 v4827).toNat := fun v4827 k1_hw344 => k1_hw344.1
theorem k1_off344_inb : ∀ (v4827 : BitVec 32) (k1_hw344 : k1_chk344 v4827), ∀ a, (k1_off344 v4827) a + S8x128.size a ≤ S12800x128.size a := fun v4827 k1_hw344 => k1_hw344.2

def k1_mult345 (v4841 : BitVec 32) : BitVec 32 :=
  let c3_i32_2764 : BitVec 32 := 3#32
  let v4842 : BitVec 32 := Scalar.shrsi v4841 c3_i32_2764
  let c3_i32_2765 : BitVec 32 := 3#32
  let v4843 : BitVec 32 := Scalar.shli v4842 c3_i32_2765
  v4843

def k1_off345 (v4841 : BitVec 32) : Fin 2 → Nat :=
  let c3_i32_2764 : BitVec 32 := 3#32
  let v4842 : BitVec 32 := Scalar.shrsi v4841 c3_i32_2764
  let c3_i32_2765 : BitVec 32 := 3#32
  let v4843 : BitVec 32 := Scalar.shli v4842 c3_i32_2765
  let v4844 : BitVec 32 := v4843
  let v4845 : Index := Scalar.indexCast v4844
  let c0_2766 : Index := 0#32
  ![v4845.toNat, 0]

def k1_chk345 (v4841 : BitVec 32) : Prop :=
  (8 ∣ (k1_mult345 v4841).toNat) ∧
  (∀ a, (k1_off345 v4841) a + S8x128.size a ≤ S12800x128.size a)
theorem k1_mult345_dvd : ∀ (v4841 : BitVec 32) (k1_hw345 : k1_chk345 v4841), 8 ∣ (k1_mult345 v4841).toNat := fun v4841 k1_hw345 => k1_hw345.1
theorem k1_off345_inb : ∀ (v4841 : BitVec 32) (k1_hw345 : k1_chk345 v4841), ∀ a, (k1_off345 v4841) a + S8x128.size a ≤ S12800x128.size a := fun v4841 k1_hw345 => k1_hw345.2

def k1_mult346 (v4855 : BitVec 32) : BitVec 32 :=
  let c3_i32_2772 : BitVec 32 := 3#32
  let v4856 : BitVec 32 := Scalar.shrsi v4855 c3_i32_2772
  let c3_i32_2773 : BitVec 32 := 3#32
  let v4857 : BitVec 32 := Scalar.shli v4856 c3_i32_2773
  v4857

def k1_off346 (v4855 : BitVec 32) : Fin 2 → Nat :=
  let c3_i32_2772 : BitVec 32 := 3#32
  let v4856 : BitVec 32 := Scalar.shrsi v4855 c3_i32_2772
  let c3_i32_2773 : BitVec 32 := 3#32
  let v4857 : BitVec 32 := Scalar.shli v4856 c3_i32_2773
  let v4858 : BitVec 32 := v4857
  let v4859 : Index := Scalar.indexCast v4858
  let c0_2774 : Index := 0#32
  ![v4859.toNat, 0]

def k1_chk346 (v4855 : BitVec 32) : Prop :=
  (8 ∣ (k1_mult346 v4855).toNat) ∧
  (∀ a, (k1_off346 v4855) a + S8x128.size a ≤ S12800x128.size a)
theorem k1_mult346_dvd : ∀ (v4855 : BitVec 32) (k1_hw346 : k1_chk346 v4855), 8 ∣ (k1_mult346 v4855).toNat := fun v4855 k1_hw346 => k1_hw346.1
theorem k1_off346_inb : ∀ (v4855 : BitVec 32) (k1_hw346 : k1_chk346 v4855), ∀ a, (k1_off346 v4855) a + S8x128.size a ≤ S12800x128.size a := fun v4855 k1_hw346 => k1_hw346.2

def k1_mult347 (v4869 : BitVec 32) : BitVec 32 :=
  let c3_i32_2780 : BitVec 32 := 3#32
  let v4870 : BitVec 32 := Scalar.shrsi v4869 c3_i32_2780
  let c3_i32_2781 : BitVec 32 := 3#32
  let v4871 : BitVec 32 := Scalar.shli v4870 c3_i32_2781
  v4871

def k1_off347 (v4869 : BitVec 32) : Fin 2 → Nat :=
  let c3_i32_2780 : BitVec 32 := 3#32
  let v4870 : BitVec 32 := Scalar.shrsi v4869 c3_i32_2780
  let c3_i32_2781 : BitVec 32 := 3#32
  let v4871 : BitVec 32 := Scalar.shli v4870 c3_i32_2781
  let v4872 : BitVec 32 := v4871
  let v4873 : Index := Scalar.indexCast v4872
  let c0_2782 : Index := 0#32
  ![v4873.toNat, 0]

def k1_chk347 (v4869 : BitVec 32) : Prop :=
  (8 ∣ (k1_mult347 v4869).toNat) ∧
  (∀ a, (k1_off347 v4869) a + S8x128.size a ≤ S12800x128.size a)
theorem k1_mult347_dvd : ∀ (v4869 : BitVec 32) (k1_hw347 : k1_chk347 v4869), 8 ∣ (k1_mult347 v4869).toNat := fun v4869 k1_hw347 => k1_hw347.1
theorem k1_off347_inb : ∀ (v4869 : BitVec 32) (k1_hw347 : k1_chk347 v4869), ∀ a, (k1_off347 v4869) a + S8x128.size a ≤ S12800x128.size a := fun v4869 k1_hw347 => k1_hw347.2

def k1_mult348 (v4883 : BitVec 32) : BitVec 32 :=
  let c3_i32_2788 : BitVec 32 := 3#32
  let v4884 : BitVec 32 := Scalar.shrsi v4883 c3_i32_2788
  let c3_i32_2789 : BitVec 32 := 3#32
  let v4885 : BitVec 32 := Scalar.shli v4884 c3_i32_2789
  v4885

def k1_off348 (v4883 : BitVec 32) : Fin 2 → Nat :=
  let c3_i32_2788 : BitVec 32 := 3#32
  let v4884 : BitVec 32 := Scalar.shrsi v4883 c3_i32_2788
  let c3_i32_2789 : BitVec 32 := 3#32
  let v4885 : BitVec 32 := Scalar.shli v4884 c3_i32_2789
  let v4886 : BitVec 32 := v4885
  let v4887 : Index := Scalar.indexCast v4886
  let c0_2790 : Index := 0#32
  ![v4887.toNat, 0]

def k1_chk348 (v4883 : BitVec 32) : Prop :=
  (8 ∣ (k1_mult348 v4883).toNat) ∧
  (∀ a, (k1_off348 v4883) a + S8x128.size a ≤ S12800x128.size a)
theorem k1_mult348_dvd : ∀ (v4883 : BitVec 32) (k1_hw348 : k1_chk348 v4883), 8 ∣ (k1_mult348 v4883).toNat := fun v4883 k1_hw348 => k1_hw348.1
theorem k1_off348_inb : ∀ (v4883 : BitVec 32) (k1_hw348 : k1_chk348 v4883), ∀ a, (k1_off348 v4883) a + S8x128.size a ≤ S12800x128.size a := fun v4883 k1_hw348 => k1_hw348.2

def k1_mult349 (v4897 : BitVec 32) : BitVec 32 :=
  let c3_i32_2796 : BitVec 32 := 3#32
  let v4898 : BitVec 32 := Scalar.shrsi v4897 c3_i32_2796
  let c3_i32_2797 : BitVec 32 := 3#32
  let v4899 : BitVec 32 := Scalar.shli v4898 c3_i32_2797
  v4899

def k1_off349 (v4897 : BitVec 32) : Fin 2 → Nat :=
  let c3_i32_2796 : BitVec 32 := 3#32
  let v4898 : BitVec 32 := Scalar.shrsi v4897 c3_i32_2796
  let c3_i32_2797 : BitVec 32 := 3#32
  let v4899 : BitVec 32 := Scalar.shli v4898 c3_i32_2797
  let v4900 : BitVec 32 := v4899
  let v4901 : Index := Scalar.indexCast v4900
  let c0_2798 : Index := 0#32
  ![v4901.toNat, 0]

def k1_chk349 (v4897 : BitVec 32) : Prop :=
  (8 ∣ (k1_mult349 v4897).toNat) ∧
  (∀ a, (k1_off349 v4897) a + S8x128.size a ≤ S12800x128.size a)
theorem k1_mult349_dvd : ∀ (v4897 : BitVec 32) (k1_hw349 : k1_chk349 v4897), 8 ∣ (k1_mult349 v4897).toNat := fun v4897 k1_hw349 => k1_hw349.1
theorem k1_off349_inb : ∀ (v4897 : BitVec 32) (k1_hw349 : k1_chk349 v4897), ∀ a, (k1_off349 v4897) a + S8x128.size a ≤ S12800x128.size a := fun v4897 k1_hw349 => k1_hw349.2

def k1_mult350 (v4911 : BitVec 32) : BitVec 32 :=
  let c3_i32_2804 : BitVec 32 := 3#32
  let v4912 : BitVec 32 := Scalar.shrsi v4911 c3_i32_2804
  let c3_i32_2805 : BitVec 32 := 3#32
  let v4913 : BitVec 32 := Scalar.shli v4912 c3_i32_2805
  v4913

def k1_off350 (v4911 : BitVec 32) : Fin 2 → Nat :=
  let c3_i32_2804 : BitVec 32 := 3#32
  let v4912 : BitVec 32 := Scalar.shrsi v4911 c3_i32_2804
  let c3_i32_2805 : BitVec 32 := 3#32
  let v4913 : BitVec 32 := Scalar.shli v4912 c3_i32_2805
  let v4914 : BitVec 32 := v4913
  let v4915 : Index := Scalar.indexCast v4914
  let c0_2806 : Index := 0#32
  ![v4915.toNat, 0]

def k1_chk350 (v4911 : BitVec 32) : Prop :=
  (8 ∣ (k1_mult350 v4911).toNat) ∧
  (∀ a, (k1_off350 v4911) a + S8x128.size a ≤ S12800x128.size a)
theorem k1_mult350_dvd : ∀ (v4911 : BitVec 32) (k1_hw350 : k1_chk350 v4911), 8 ∣ (k1_mult350 v4911).toNat := fun v4911 k1_hw350 => k1_hw350.1
theorem k1_off350_inb : ∀ (v4911 : BitVec 32) (k1_hw350 : k1_chk350 v4911), ∀ a, (k1_off350 v4911) a + S8x128.size a ≤ S12800x128.size a := fun v4911 k1_hw350 => k1_hw350.2

def k1_mult351 (v4925 : BitVec 32) : BitVec 32 :=
  let c3_i32_2812 : BitVec 32 := 3#32
  let v4926 : BitVec 32 := Scalar.shrsi v4925 c3_i32_2812
  let c3_i32_2813 : BitVec 32 := 3#32
  let v4927 : BitVec 32 := Scalar.shli v4926 c3_i32_2813
  v4927

def k1_off351 (v4925 : BitVec 32) : Fin 2 → Nat :=
  let c3_i32_2812 : BitVec 32 := 3#32
  let v4926 : BitVec 32 := Scalar.shrsi v4925 c3_i32_2812
  let c3_i32_2813 : BitVec 32 := 3#32
  let v4927 : BitVec 32 := Scalar.shli v4926 c3_i32_2813
  let v4928 : BitVec 32 := v4927
  let v4929 : Index := Scalar.indexCast v4928
  let c0_2814 : Index := 0#32
  ![v4929.toNat, 0]

def k1_chk351 (v4925 : BitVec 32) : Prop :=
  (8 ∣ (k1_mult351 v4925).toNat) ∧
  (∀ a, (k1_off351 v4925) a + S8x128.size a ≤ S12800x128.size a)
theorem k1_mult351_dvd : ∀ (v4925 : BitVec 32) (k1_hw351 : k1_chk351 v4925), 8 ∣ (k1_mult351 v4925).toNat := fun v4925 k1_hw351 => k1_hw351.1
theorem k1_off351_inb : ∀ (v4925 : BitVec 32) (k1_hw351 : k1_chk351 v4925), ∀ a, (k1_off351 v4925) a + S8x128.size a ≤ S12800x128.size a := fun v4925 k1_hw351 => k1_hw351.2

def k1_mult352 (v4939 : BitVec 32) : BitVec 32 :=
  let c3_i32_2820 : BitVec 32 := 3#32
  let v4940 : BitVec 32 := Scalar.shrsi v4939 c3_i32_2820
  let c3_i32_2821 : BitVec 32 := 3#32
  let v4941 : BitVec 32 := Scalar.shli v4940 c3_i32_2821
  v4941

def k1_off352 (v4939 : BitVec 32) : Fin 2 → Nat :=
  let c3_i32_2820 : BitVec 32 := 3#32
  let v4940 : BitVec 32 := Scalar.shrsi v4939 c3_i32_2820
  let c3_i32_2821 : BitVec 32 := 3#32
  let v4941 : BitVec 32 := Scalar.shli v4940 c3_i32_2821
  let v4942 : BitVec 32 := v4941
  let v4943 : Index := Scalar.indexCast v4942
  let c0_2822 : Index := 0#32
  ![v4943.toNat, 0]

def k1_chk352 (v4939 : BitVec 32) : Prop :=
  (8 ∣ (k1_mult352 v4939).toNat) ∧
  (∀ a, (k1_off352 v4939) a + S8x128.size a ≤ S12800x128.size a)
theorem k1_mult352_dvd : ∀ (v4939 : BitVec 32) (k1_hw352 : k1_chk352 v4939), 8 ∣ (k1_mult352 v4939).toNat := fun v4939 k1_hw352 => k1_hw352.1
theorem k1_off352_inb : ∀ (v4939 : BitVec 32) (k1_hw352 : k1_chk352 v4939), ∀ a, (k1_off352 v4939) a + S8x128.size a ≤ S12800x128.size a := fun v4939 k1_hw352 => k1_hw352.2

def k1_mult353 (v4953 : BitVec 32) : BitVec 32 :=
  let c3_i32_2828 : BitVec 32 := 3#32
  let v4954 : BitVec 32 := Scalar.shrsi v4953 c3_i32_2828
  let c3_i32_2829 : BitVec 32 := 3#32
  let v4955 : BitVec 32 := Scalar.shli v4954 c3_i32_2829
  v4955

def k1_off353 (v4953 : BitVec 32) : Fin 2 → Nat :=
  let c3_i32_2828 : BitVec 32 := 3#32
  let v4954 : BitVec 32 := Scalar.shrsi v4953 c3_i32_2828
  let c3_i32_2829 : BitVec 32 := 3#32
  let v4955 : BitVec 32 := Scalar.shli v4954 c3_i32_2829
  let v4956 : BitVec 32 := v4955
  let v4957 : Index := Scalar.indexCast v4956
  let c0_2830 : Index := 0#32
  ![v4957.toNat, 0]

def k1_chk353 (v4953 : BitVec 32) : Prop :=
  (8 ∣ (k1_mult353 v4953).toNat) ∧
  (∀ a, (k1_off353 v4953) a + S8x128.size a ≤ S12800x128.size a)
theorem k1_mult353_dvd : ∀ (v4953 : BitVec 32) (k1_hw353 : k1_chk353 v4953), 8 ∣ (k1_mult353 v4953).toNat := fun v4953 k1_hw353 => k1_hw353.1
theorem k1_off353_inb : ∀ (v4953 : BitVec 32) (k1_hw353 : k1_chk353 v4953), ∀ a, (k1_off353 v4953) a + S8x128.size a ≤ S12800x128.size a := fun v4953 k1_hw353 => k1_hw353.2

def k1_mult354 (v4967 : BitVec 32) : BitVec 32 :=
  let c3_i32_2836 : BitVec 32 := 3#32
  let v4968 : BitVec 32 := Scalar.shrsi v4967 c3_i32_2836
  let c3_i32_2837 : BitVec 32 := 3#32
  let v4969 : BitVec 32 := Scalar.shli v4968 c3_i32_2837
  v4969

def k1_off354 (v4967 : BitVec 32) : Fin 2 → Nat :=
  let c3_i32_2836 : BitVec 32 := 3#32
  let v4968 : BitVec 32 := Scalar.shrsi v4967 c3_i32_2836
  let c3_i32_2837 : BitVec 32 := 3#32
  let v4969 : BitVec 32 := Scalar.shli v4968 c3_i32_2837
  let v4970 : BitVec 32 := v4969
  let v4971 : Index := Scalar.indexCast v4970
  let c0_2838 : Index := 0#32
  ![v4971.toNat, 0]

def k1_chk354 (v4967 : BitVec 32) : Prop :=
  (8 ∣ (k1_mult354 v4967).toNat) ∧
  (∀ a, (k1_off354 v4967) a + S8x128.size a ≤ S12800x128.size a)
theorem k1_mult354_dvd : ∀ (v4967 : BitVec 32) (k1_hw354 : k1_chk354 v4967), 8 ∣ (k1_mult354 v4967).toNat := fun v4967 k1_hw354 => k1_hw354.1
theorem k1_off354_inb : ∀ (v4967 : BitVec 32) (k1_hw354 : k1_chk354 v4967), ∀ a, (k1_off354 v4967) a + S8x128.size a ≤ S12800x128.size a := fun v4967 k1_hw354 => k1_hw354.2

def k1_mult355 (v4981 : BitVec 32) : BitVec 32 :=
  let c3_i32_2844 : BitVec 32 := 3#32
  let v4982 : BitVec 32 := Scalar.shrsi v4981 c3_i32_2844
  let c3_i32_2845 : BitVec 32 := 3#32
  let v4983 : BitVec 32 := Scalar.shli v4982 c3_i32_2845
  v4983

def k1_off355 (v4981 : BitVec 32) : Fin 2 → Nat :=
  let c3_i32_2844 : BitVec 32 := 3#32
  let v4982 : BitVec 32 := Scalar.shrsi v4981 c3_i32_2844
  let c3_i32_2845 : BitVec 32 := 3#32
  let v4983 : BitVec 32 := Scalar.shli v4982 c3_i32_2845
  let v4984 : BitVec 32 := v4983
  let v4985 : Index := Scalar.indexCast v4984
  let c0_2846 : Index := 0#32
  ![v4985.toNat, 0]

def k1_chk355 (v4981 : BitVec 32) : Prop :=
  (8 ∣ (k1_mult355 v4981).toNat) ∧
  (∀ a, (k1_off355 v4981) a + S8x128.size a ≤ S12800x128.size a)
theorem k1_mult355_dvd : ∀ (v4981 : BitVec 32) (k1_hw355 : k1_chk355 v4981), 8 ∣ (k1_mult355 v4981).toNat := fun v4981 k1_hw355 => k1_hw355.1
theorem k1_off355_inb : ∀ (v4981 : BitVec 32) (k1_hw355 : k1_chk355 v4981), ∀ a, (k1_off355 v4981) a + S8x128.size a ≤ S12800x128.size a := fun v4981 k1_hw355 => k1_hw355.2

def k1_mult356 (v4995 : BitVec 32) : BitVec 32 :=
  let c3_i32_2852 : BitVec 32 := 3#32
  let v4996 : BitVec 32 := Scalar.shrsi v4995 c3_i32_2852
  let c3_i32_2853 : BitVec 32 := 3#32
  let v4997 : BitVec 32 := Scalar.shli v4996 c3_i32_2853
  v4997

def k1_off356 (v4995 : BitVec 32) : Fin 2 → Nat :=
  let c3_i32_2852 : BitVec 32 := 3#32
  let v4996 : BitVec 32 := Scalar.shrsi v4995 c3_i32_2852
  let c3_i32_2853 : BitVec 32 := 3#32
  let v4997 : BitVec 32 := Scalar.shli v4996 c3_i32_2853
  let v4998 : BitVec 32 := v4997
  let v4999 : Index := Scalar.indexCast v4998
  let c0_2854 : Index := 0#32
  ![v4999.toNat, 0]

def k1_chk356 (v4995 : BitVec 32) : Prop :=
  (8 ∣ (k1_mult356 v4995).toNat) ∧
  (∀ a, (k1_off356 v4995) a + S8x128.size a ≤ S12800x128.size a)
theorem k1_mult356_dvd : ∀ (v4995 : BitVec 32) (k1_hw356 : k1_chk356 v4995), 8 ∣ (k1_mult356 v4995).toNat := fun v4995 k1_hw356 => k1_hw356.1
theorem k1_off356_inb : ∀ (v4995 : BitVec 32) (k1_hw356 : k1_chk356 v4995), ∀ a, (k1_off356 v4995) a + S8x128.size a ≤ S12800x128.size a := fun v4995 k1_hw356 => k1_hw356.2

def k1_mult357 (v5009 : BitVec 32) : BitVec 32 :=
  let c3_i32_2860 : BitVec 32 := 3#32
  let v5010 : BitVec 32 := Scalar.shrsi v5009 c3_i32_2860
  let c3_i32_2861 : BitVec 32 := 3#32
  let v5011 : BitVec 32 := Scalar.shli v5010 c3_i32_2861
  v5011

def k1_off357 (v5009 : BitVec 32) : Fin 2 → Nat :=
  let c3_i32_2860 : BitVec 32 := 3#32
  let v5010 : BitVec 32 := Scalar.shrsi v5009 c3_i32_2860
  let c3_i32_2861 : BitVec 32 := 3#32
  let v5011 : BitVec 32 := Scalar.shli v5010 c3_i32_2861
  let v5012 : BitVec 32 := v5011
  let v5013 : Index := Scalar.indexCast v5012
  let c0_2862 : Index := 0#32
  ![v5013.toNat, 0]

def k1_chk357 (v5009 : BitVec 32) : Prop :=
  (8 ∣ (k1_mult357 v5009).toNat) ∧
  (∀ a, (k1_off357 v5009) a + S8x128.size a ≤ S12800x128.size a)
theorem k1_mult357_dvd : ∀ (v5009 : BitVec 32) (k1_hw357 : k1_chk357 v5009), 8 ∣ (k1_mult357 v5009).toNat := fun v5009 k1_hw357 => k1_hw357.1
theorem k1_off357_inb : ∀ (v5009 : BitVec 32) (k1_hw357 : k1_chk357 v5009), ∀ a, (k1_off357 v5009) a + S8x128.size a ≤ S12800x128.size a := fun v5009 k1_hw357 => k1_hw357.2

def k1_mult358 (v5023 : BitVec 32) : BitVec 32 :=
  let c3_i32_2868 : BitVec 32 := 3#32
  let v5024 : BitVec 32 := Scalar.shrsi v5023 c3_i32_2868
  let c3_i32_2869 : BitVec 32 := 3#32
  let v5025 : BitVec 32 := Scalar.shli v5024 c3_i32_2869
  v5025

def k1_off358 (v5023 : BitVec 32) : Fin 2 → Nat :=
  let c3_i32_2868 : BitVec 32 := 3#32
  let v5024 : BitVec 32 := Scalar.shrsi v5023 c3_i32_2868
  let c3_i32_2869 : BitVec 32 := 3#32
  let v5025 : BitVec 32 := Scalar.shli v5024 c3_i32_2869
  let v5026 : BitVec 32 := v5025
  let v5027 : Index := Scalar.indexCast v5026
  let c0_2870 : Index := 0#32
  ![v5027.toNat, 0]

def k1_chk358 (v5023 : BitVec 32) : Prop :=
  (8 ∣ (k1_mult358 v5023).toNat) ∧
  (∀ a, (k1_off358 v5023) a + S8x128.size a ≤ S12800x128.size a)
theorem k1_mult358_dvd : ∀ (v5023 : BitVec 32) (k1_hw358 : k1_chk358 v5023), 8 ∣ (k1_mult358 v5023).toNat := fun v5023 k1_hw358 => k1_hw358.1
theorem k1_off358_inb : ∀ (v5023 : BitVec 32) (k1_hw358 : k1_chk358 v5023), ∀ a, (k1_off358 v5023) a + S8x128.size a ≤ S12800x128.size a := fun v5023 k1_hw358 => k1_hw358.2

def k1_mult359 (v5037 : BitVec 32) : BitVec 32 :=
  let c3_i32_2876 : BitVec 32 := 3#32
  let v5038 : BitVec 32 := Scalar.shrsi v5037 c3_i32_2876
  let c3_i32_2877 : BitVec 32 := 3#32
  let v5039 : BitVec 32 := Scalar.shli v5038 c3_i32_2877
  v5039

def k1_off359 (v5037 : BitVec 32) : Fin 2 → Nat :=
  let c3_i32_2876 : BitVec 32 := 3#32
  let v5038 : BitVec 32 := Scalar.shrsi v5037 c3_i32_2876
  let c3_i32_2877 : BitVec 32 := 3#32
  let v5039 : BitVec 32 := Scalar.shli v5038 c3_i32_2877
  let v5040 : BitVec 32 := v5039
  let v5041 : Index := Scalar.indexCast v5040
  let c0_2878 : Index := 0#32
  ![v5041.toNat, 0]

def k1_chk359 (v5037 : BitVec 32) : Prop :=
  (8 ∣ (k1_mult359 v5037).toNat) ∧
  (∀ a, (k1_off359 v5037) a + S8x128.size a ≤ S12800x128.size a)
theorem k1_mult359_dvd : ∀ (v5037 : BitVec 32) (k1_hw359 : k1_chk359 v5037), 8 ∣ (k1_mult359 v5037).toNat := fun v5037 k1_hw359 => k1_hw359.1
theorem k1_off359_inb : ∀ (v5037 : BitVec 32) (k1_hw359 : k1_chk359 v5037), ∀ a, (k1_off359 v5037) a + S8x128.size a ≤ S12800x128.size a := fun v5037 k1_hw359 => k1_hw359.2

def k1_mult360 (v5051 : BitVec 32) : BitVec 32 :=
  let c3_i32_2884 : BitVec 32 := 3#32
  let v5052 : BitVec 32 := Scalar.shrsi v5051 c3_i32_2884
  let c3_i32_2885 : BitVec 32 := 3#32
  let v5053 : BitVec 32 := Scalar.shli v5052 c3_i32_2885
  v5053

def k1_off360 (v5051 : BitVec 32) : Fin 2 → Nat :=
  let c3_i32_2884 : BitVec 32 := 3#32
  let v5052 : BitVec 32 := Scalar.shrsi v5051 c3_i32_2884
  let c3_i32_2885 : BitVec 32 := 3#32
  let v5053 : BitVec 32 := Scalar.shli v5052 c3_i32_2885
  let v5054 : BitVec 32 := v5053
  let v5055 : Index := Scalar.indexCast v5054
  let c0_2886 : Index := 0#32
  ![v5055.toNat, 0]

def k1_chk360 (v5051 : BitVec 32) : Prop :=
  (8 ∣ (k1_mult360 v5051).toNat) ∧
  (∀ a, (k1_off360 v5051) a + S8x128.size a ≤ S12800x128.size a)
theorem k1_mult360_dvd : ∀ (v5051 : BitVec 32) (k1_hw360 : k1_chk360 v5051), 8 ∣ (k1_mult360 v5051).toNat := fun v5051 k1_hw360 => k1_hw360.1
theorem k1_off360_inb : ∀ (v5051 : BitVec 32) (k1_hw360 : k1_chk360 v5051), ∀ a, (k1_off360 v5051) a + S8x128.size a ≤ S12800x128.size a := fun v5051 k1_hw360 => k1_hw360.2

def k1_mult361 (v5065 : BitVec 32) : BitVec 32 :=
  let c3_i32_2892 : BitVec 32 := 3#32
  let v5066 : BitVec 32 := Scalar.shrsi v5065 c3_i32_2892
  let c3_i32_2893 : BitVec 32 := 3#32
  let v5067 : BitVec 32 := Scalar.shli v5066 c3_i32_2893
  v5067

def k1_off361 (v5065 : BitVec 32) : Fin 2 → Nat :=
  let c3_i32_2892 : BitVec 32 := 3#32
  let v5066 : BitVec 32 := Scalar.shrsi v5065 c3_i32_2892
  let c3_i32_2893 : BitVec 32 := 3#32
  let v5067 : BitVec 32 := Scalar.shli v5066 c3_i32_2893
  let v5068 : BitVec 32 := v5067
  let v5069 : Index := Scalar.indexCast v5068
  let c0_2894 : Index := 0#32
  ![v5069.toNat, 0]

def k1_chk361 (v5065 : BitVec 32) : Prop :=
  (8 ∣ (k1_mult361 v5065).toNat) ∧
  (∀ a, (k1_off361 v5065) a + S8x128.size a ≤ S12800x128.size a)
theorem k1_mult361_dvd : ∀ (v5065 : BitVec 32) (k1_hw361 : k1_chk361 v5065), 8 ∣ (k1_mult361 v5065).toNat := fun v5065 k1_hw361 => k1_hw361.1
theorem k1_off361_inb : ∀ (v5065 : BitVec 32) (k1_hw361 : k1_chk361 v5065), ∀ a, (k1_off361 v5065) a + S8x128.size a ≤ S12800x128.size a := fun v5065 k1_hw361 => k1_hw361.2

def k1_mult362 (v5079 : BitVec 32) : BitVec 32 :=
  let c3_i32_2900 : BitVec 32 := 3#32
  let v5080 : BitVec 32 := Scalar.shrsi v5079 c3_i32_2900
  let c3_i32_2901 : BitVec 32 := 3#32
  let v5081 : BitVec 32 := Scalar.shli v5080 c3_i32_2901
  v5081

def k1_off362 (v5079 : BitVec 32) : Fin 2 → Nat :=
  let c3_i32_2900 : BitVec 32 := 3#32
  let v5080 : BitVec 32 := Scalar.shrsi v5079 c3_i32_2900
  let c3_i32_2901 : BitVec 32 := 3#32
  let v5081 : BitVec 32 := Scalar.shli v5080 c3_i32_2901
  let v5082 : BitVec 32 := v5081
  let v5083 : Index := Scalar.indexCast v5082
  let c0_2902 : Index := 0#32
  ![v5083.toNat, 0]

def k1_chk362 (v5079 : BitVec 32) : Prop :=
  (8 ∣ (k1_mult362 v5079).toNat) ∧
  (∀ a, (k1_off362 v5079) a + S8x128.size a ≤ S12800x128.size a)
theorem k1_mult362_dvd : ∀ (v5079 : BitVec 32) (k1_hw362 : k1_chk362 v5079), 8 ∣ (k1_mult362 v5079).toNat := fun v5079 k1_hw362 => k1_hw362.1
theorem k1_off362_inb : ∀ (v5079 : BitVec 32) (k1_hw362 : k1_chk362 v5079), ∀ a, (k1_off362 v5079) a + S8x128.size a ≤ S12800x128.size a := fun v5079 k1_hw362 => k1_hw362.2

def k1_mult363 (v5093 : BitVec 32) : BitVec 32 :=
  let c3_i32_2908 : BitVec 32 := 3#32
  let v5094 : BitVec 32 := Scalar.shrsi v5093 c3_i32_2908
  let c3_i32_2909 : BitVec 32 := 3#32
  let v5095 : BitVec 32 := Scalar.shli v5094 c3_i32_2909
  v5095

def k1_off363 (v5093 : BitVec 32) : Fin 2 → Nat :=
  let c3_i32_2908 : BitVec 32 := 3#32
  let v5094 : BitVec 32 := Scalar.shrsi v5093 c3_i32_2908
  let c3_i32_2909 : BitVec 32 := 3#32
  let v5095 : BitVec 32 := Scalar.shli v5094 c3_i32_2909
  let v5096 : BitVec 32 := v5095
  let v5097 : Index := Scalar.indexCast v5096
  let c0_2910 : Index := 0#32
  ![v5097.toNat, 0]

def k1_chk363 (v5093 : BitVec 32) : Prop :=
  (8 ∣ (k1_mult363 v5093).toNat) ∧
  (∀ a, (k1_off363 v5093) a + S8x128.size a ≤ S12800x128.size a)
theorem k1_mult363_dvd : ∀ (v5093 : BitVec 32) (k1_hw363 : k1_chk363 v5093), 8 ∣ (k1_mult363 v5093).toNat := fun v5093 k1_hw363 => k1_hw363.1
theorem k1_off363_inb : ∀ (v5093 : BitVec 32) (k1_hw363 : k1_chk363 v5093), ∀ a, (k1_off363 v5093) a + S8x128.size a ≤ S12800x128.size a := fun v5093 k1_hw363 => k1_hw363.2

def k1_mult364 (v5107 : BitVec 32) : BitVec 32 :=
  let c3_i32_2916 : BitVec 32 := 3#32
  let v5108 : BitVec 32 := Scalar.shrsi v5107 c3_i32_2916
  let c3_i32_2917 : BitVec 32 := 3#32
  let v5109 : BitVec 32 := Scalar.shli v5108 c3_i32_2917
  v5109

def k1_off364 (v5107 : BitVec 32) : Fin 2 → Nat :=
  let c3_i32_2916 : BitVec 32 := 3#32
  let v5108 : BitVec 32 := Scalar.shrsi v5107 c3_i32_2916
  let c3_i32_2917 : BitVec 32 := 3#32
  let v5109 : BitVec 32 := Scalar.shli v5108 c3_i32_2917
  let v5110 : BitVec 32 := v5109
  let v5111 : Index := Scalar.indexCast v5110
  let c0_2918 : Index := 0#32
  ![v5111.toNat, 0]

def k1_chk364 (v5107 : BitVec 32) : Prop :=
  (8 ∣ (k1_mult364 v5107).toNat) ∧
  (∀ a, (k1_off364 v5107) a + S8x128.size a ≤ S12800x128.size a)
theorem k1_mult364_dvd : ∀ (v5107 : BitVec 32) (k1_hw364 : k1_chk364 v5107), 8 ∣ (k1_mult364 v5107).toNat := fun v5107 k1_hw364 => k1_hw364.1
theorem k1_off364_inb : ∀ (v5107 : BitVec 32) (k1_hw364 : k1_chk364 v5107), ∀ a, (k1_off364 v5107) a + S8x128.size a ≤ S12800x128.size a := fun v5107 k1_hw364 => k1_hw364.2

def k1_mult365 (v5121 : BitVec 32) : BitVec 32 :=
  let c3_i32_2924 : BitVec 32 := 3#32
  let v5122 : BitVec 32 := Scalar.shrsi v5121 c3_i32_2924
  let c3_i32_2925 : BitVec 32 := 3#32
  let v5123 : BitVec 32 := Scalar.shli v5122 c3_i32_2925
  v5123

def k1_off365 (v5121 : BitVec 32) : Fin 2 → Nat :=
  let c3_i32_2924 : BitVec 32 := 3#32
  let v5122 : BitVec 32 := Scalar.shrsi v5121 c3_i32_2924
  let c3_i32_2925 : BitVec 32 := 3#32
  let v5123 : BitVec 32 := Scalar.shli v5122 c3_i32_2925
  let v5124 : BitVec 32 := v5123
  let v5125 : Index := Scalar.indexCast v5124
  let c0_2926 : Index := 0#32
  ![v5125.toNat, 0]

def k1_chk365 (v5121 : BitVec 32) : Prop :=
  (8 ∣ (k1_mult365 v5121).toNat) ∧
  (∀ a, (k1_off365 v5121) a + S8x128.size a ≤ S12800x128.size a)
theorem k1_mult365_dvd : ∀ (v5121 : BitVec 32) (k1_hw365 : k1_chk365 v5121), 8 ∣ (k1_mult365 v5121).toNat := fun v5121 k1_hw365 => k1_hw365.1
theorem k1_off365_inb : ∀ (v5121 : BitVec 32) (k1_hw365 : k1_chk365 v5121), ∀ a, (k1_off365 v5121) a + S8x128.size a ≤ S12800x128.size a := fun v5121 k1_hw365 => k1_hw365.2

def k1_mult366 (v5135 : BitVec 32) : BitVec 32 :=
  let c3_i32_2932 : BitVec 32 := 3#32
  let v5136 : BitVec 32 := Scalar.shrsi v5135 c3_i32_2932
  let c3_i32_2933 : BitVec 32 := 3#32
  let v5137 : BitVec 32 := Scalar.shli v5136 c3_i32_2933
  v5137

def k1_off366 (v5135 : BitVec 32) : Fin 2 → Nat :=
  let c3_i32_2932 : BitVec 32 := 3#32
  let v5136 : BitVec 32 := Scalar.shrsi v5135 c3_i32_2932
  let c3_i32_2933 : BitVec 32 := 3#32
  let v5137 : BitVec 32 := Scalar.shli v5136 c3_i32_2933
  let v5138 : BitVec 32 := v5137
  let v5139 : Index := Scalar.indexCast v5138
  let c0_2934 : Index := 0#32
  ![v5139.toNat, 0]

def k1_chk366 (v5135 : BitVec 32) : Prop :=
  (8 ∣ (k1_mult366 v5135).toNat) ∧
  (∀ a, (k1_off366 v5135) a + S8x128.size a ≤ S12800x128.size a)
theorem k1_mult366_dvd : ∀ (v5135 : BitVec 32) (k1_hw366 : k1_chk366 v5135), 8 ∣ (k1_mult366 v5135).toNat := fun v5135 k1_hw366 => k1_hw366.1
theorem k1_off366_inb : ∀ (v5135 : BitVec 32) (k1_hw366 : k1_chk366 v5135), ∀ a, (k1_off366 v5135) a + S8x128.size a ≤ S12800x128.size a := fun v5135 k1_hw366 => k1_hw366.2

def k1_mult367 (v5149 : BitVec 32) : BitVec 32 :=
  let c3_i32_2940 : BitVec 32 := 3#32
  let v5150 : BitVec 32 := Scalar.shrsi v5149 c3_i32_2940
  let c3_i32_2941 : BitVec 32 := 3#32
  let v5151 : BitVec 32 := Scalar.shli v5150 c3_i32_2941
  v5151

def k1_off367 (v5149 : BitVec 32) : Fin 2 → Nat :=
  let c3_i32_2940 : BitVec 32 := 3#32
  let v5150 : BitVec 32 := Scalar.shrsi v5149 c3_i32_2940
  let c3_i32_2941 : BitVec 32 := 3#32
  let v5151 : BitVec 32 := Scalar.shli v5150 c3_i32_2941
  let v5152 : BitVec 32 := v5151
  let v5153 : Index := Scalar.indexCast v5152
  let c0_2942 : Index := 0#32
  ![v5153.toNat, 0]

def k1_chk367 (v5149 : BitVec 32) : Prop :=
  (8 ∣ (k1_mult367 v5149).toNat) ∧
  (∀ a, (k1_off367 v5149) a + S8x128.size a ≤ S12800x128.size a)
theorem k1_mult367_dvd : ∀ (v5149 : BitVec 32) (k1_hw367 : k1_chk367 v5149), 8 ∣ (k1_mult367 v5149).toNat := fun v5149 k1_hw367 => k1_hw367.1
theorem k1_off367_inb : ∀ (v5149 : BitVec 32) (k1_hw367 : k1_chk367 v5149), ∀ a, (k1_off367 v5149) a + S8x128.size a ≤ S12800x128.size a := fun v5149 k1_hw367 => k1_hw367.2

def k1_mult368 (v5163 : BitVec 32) : BitVec 32 :=
  let c3_i32_2948 : BitVec 32 := 3#32
  let v5164 : BitVec 32 := Scalar.shrsi v5163 c3_i32_2948
  let c3_i32_2949 : BitVec 32 := 3#32
  let v5165 : BitVec 32 := Scalar.shli v5164 c3_i32_2949
  v5165

def k1_off368 (v5163 : BitVec 32) : Fin 2 → Nat :=
  let c3_i32_2948 : BitVec 32 := 3#32
  let v5164 : BitVec 32 := Scalar.shrsi v5163 c3_i32_2948
  let c3_i32_2949 : BitVec 32 := 3#32
  let v5165 : BitVec 32 := Scalar.shli v5164 c3_i32_2949
  let v5166 : BitVec 32 := v5165
  let v5167 : Index := Scalar.indexCast v5166
  let c0_2950 : Index := 0#32
  ![v5167.toNat, 0]

def k1_chk368 (v5163 : BitVec 32) : Prop :=
  (8 ∣ (k1_mult368 v5163).toNat) ∧
  (∀ a, (k1_off368 v5163) a + S8x128.size a ≤ S12800x128.size a)
theorem k1_mult368_dvd : ∀ (v5163 : BitVec 32) (k1_hw368 : k1_chk368 v5163), 8 ∣ (k1_mult368 v5163).toNat := fun v5163 k1_hw368 => k1_hw368.1
theorem k1_off368_inb : ∀ (v5163 : BitVec 32) (k1_hw368 : k1_chk368 v5163), ∀ a, (k1_off368 v5163) a + S8x128.size a ≤ S12800x128.size a := fun v5163 k1_hw368 => k1_hw368.2

def k1_mult369 (v5177 : BitVec 32) : BitVec 32 :=
  let c3_i32_2956 : BitVec 32 := 3#32
  let v5178 : BitVec 32 := Scalar.shrsi v5177 c3_i32_2956
  let c3_i32_2957 : BitVec 32 := 3#32
  let v5179 : BitVec 32 := Scalar.shli v5178 c3_i32_2957
  v5179

def k1_off369 (v5177 : BitVec 32) : Fin 2 → Nat :=
  let c3_i32_2956 : BitVec 32 := 3#32
  let v5178 : BitVec 32 := Scalar.shrsi v5177 c3_i32_2956
  let c3_i32_2957 : BitVec 32 := 3#32
  let v5179 : BitVec 32 := Scalar.shli v5178 c3_i32_2957
  let v5180 : BitVec 32 := v5179
  let v5181 : Index := Scalar.indexCast v5180
  let c0_2958 : Index := 0#32
  ![v5181.toNat, 0]

def k1_chk369 (v5177 : BitVec 32) : Prop :=
  (8 ∣ (k1_mult369 v5177).toNat) ∧
  (∀ a, (k1_off369 v5177) a + S8x128.size a ≤ S12800x128.size a)
theorem k1_mult369_dvd : ∀ (v5177 : BitVec 32) (k1_hw369 : k1_chk369 v5177), 8 ∣ (k1_mult369 v5177).toNat := fun v5177 k1_hw369 => k1_hw369.1
theorem k1_off369_inb : ∀ (v5177 : BitVec 32) (k1_hw369 : k1_chk369 v5177), ∀ a, (k1_off369 v5177) a + S8x128.size a ≤ S12800x128.size a := fun v5177 k1_hw369 => k1_hw369.2

def k1_mult370 (v5191 : BitVec 32) : BitVec 32 :=
  let c3_i32_2964 : BitVec 32 := 3#32
  let v5192 : BitVec 32 := Scalar.shrsi v5191 c3_i32_2964
  let c3_i32_2965 : BitVec 32 := 3#32
  let v5193 : BitVec 32 := Scalar.shli v5192 c3_i32_2965
  v5193

def k1_off370 (v5191 : BitVec 32) : Fin 2 → Nat :=
  let c3_i32_2964 : BitVec 32 := 3#32
  let v5192 : BitVec 32 := Scalar.shrsi v5191 c3_i32_2964
  let c3_i32_2965 : BitVec 32 := 3#32
  let v5193 : BitVec 32 := Scalar.shli v5192 c3_i32_2965
  let v5194 : BitVec 32 := v5193
  let v5195 : Index := Scalar.indexCast v5194
  let c0_2966 : Index := 0#32
  ![v5195.toNat, 0]

def k1_chk370 (v5191 : BitVec 32) : Prop :=
  (8 ∣ (k1_mult370 v5191).toNat) ∧
  (∀ a, (k1_off370 v5191) a + S8x128.size a ≤ S12800x128.size a)
theorem k1_mult370_dvd : ∀ (v5191 : BitVec 32) (k1_hw370 : k1_chk370 v5191), 8 ∣ (k1_mult370 v5191).toNat := fun v5191 k1_hw370 => k1_hw370.1
theorem k1_off370_inb : ∀ (v5191 : BitVec 32) (k1_hw370 : k1_chk370 v5191), ∀ a, (k1_off370 v5191) a + S8x128.size a ≤ S12800x128.size a := fun v5191 k1_hw370 => k1_hw370.2

def k1_mult371 (v5205 : BitVec 32) : BitVec 32 :=
  let c3_i32_2972 : BitVec 32 := 3#32
  let v5206 : BitVec 32 := Scalar.shrsi v5205 c3_i32_2972
  let c3_i32_2973 : BitVec 32 := 3#32
  let v5207 : BitVec 32 := Scalar.shli v5206 c3_i32_2973
  v5207

def k1_off371 (v5205 : BitVec 32) : Fin 2 → Nat :=
  let c3_i32_2972 : BitVec 32 := 3#32
  let v5206 : BitVec 32 := Scalar.shrsi v5205 c3_i32_2972
  let c3_i32_2973 : BitVec 32 := 3#32
  let v5207 : BitVec 32 := Scalar.shli v5206 c3_i32_2973
  let v5208 : BitVec 32 := v5207
  let v5209 : Index := Scalar.indexCast v5208
  let c0_2974 : Index := 0#32
  ![v5209.toNat, 0]

def k1_chk371 (v5205 : BitVec 32) : Prop :=
  (8 ∣ (k1_mult371 v5205).toNat) ∧
  (∀ a, (k1_off371 v5205) a + S8x128.size a ≤ S12800x128.size a)
theorem k1_mult371_dvd : ∀ (v5205 : BitVec 32) (k1_hw371 : k1_chk371 v5205), 8 ∣ (k1_mult371 v5205).toNat := fun v5205 k1_hw371 => k1_hw371.1
theorem k1_off371_inb : ∀ (v5205 : BitVec 32) (k1_hw371 : k1_chk371 v5205), ∀ a, (k1_off371 v5205) a + S8x128.size a ≤ S12800x128.size a := fun v5205 k1_hw371 => k1_hw371.2

def k1_mult372 (v5219 : BitVec 32) : BitVec 32 :=
  let c3_i32_2980 : BitVec 32 := 3#32
  let v5220 : BitVec 32 := Scalar.shrsi v5219 c3_i32_2980
  let c3_i32_2981 : BitVec 32 := 3#32
  let v5221 : BitVec 32 := Scalar.shli v5220 c3_i32_2981
  v5221

def k1_off372 (v5219 : BitVec 32) : Fin 2 → Nat :=
  let c3_i32_2980 : BitVec 32 := 3#32
  let v5220 : BitVec 32 := Scalar.shrsi v5219 c3_i32_2980
  let c3_i32_2981 : BitVec 32 := 3#32
  let v5221 : BitVec 32 := Scalar.shli v5220 c3_i32_2981
  let v5222 : BitVec 32 := v5221
  let v5223 : Index := Scalar.indexCast v5222
  let c0_2982 : Index := 0#32
  ![v5223.toNat, 0]

def k1_chk372 (v5219 : BitVec 32) : Prop :=
  (8 ∣ (k1_mult372 v5219).toNat) ∧
  (∀ a, (k1_off372 v5219) a + S8x128.size a ≤ S12800x128.size a)
theorem k1_mult372_dvd : ∀ (v5219 : BitVec 32) (k1_hw372 : k1_chk372 v5219), 8 ∣ (k1_mult372 v5219).toNat := fun v5219 k1_hw372 => k1_hw372.1
theorem k1_off372_inb : ∀ (v5219 : BitVec 32) (k1_hw372 : k1_chk372 v5219), ∀ a, (k1_off372 v5219) a + S8x128.size a ≤ S12800x128.size a := fun v5219 k1_hw372 => k1_hw372.2

def k1_mult373 (v5233 : BitVec 32) : BitVec 32 :=
  let c3_i32_2988 : BitVec 32 := 3#32
  let v5234 : BitVec 32 := Scalar.shrsi v5233 c3_i32_2988
  let c3_i32_2989 : BitVec 32 := 3#32
  let v5235 : BitVec 32 := Scalar.shli v5234 c3_i32_2989
  v5235

def k1_off373 (v5233 : BitVec 32) : Fin 2 → Nat :=
  let c3_i32_2988 : BitVec 32 := 3#32
  let v5234 : BitVec 32 := Scalar.shrsi v5233 c3_i32_2988
  let c3_i32_2989 : BitVec 32 := 3#32
  let v5235 : BitVec 32 := Scalar.shli v5234 c3_i32_2989
  let v5236 : BitVec 32 := v5235
  let v5237 : Index := Scalar.indexCast v5236
  let c0_2990 : Index := 0#32
  ![v5237.toNat, 0]

def k1_chk373 (v5233 : BitVec 32) : Prop :=
  (8 ∣ (k1_mult373 v5233).toNat) ∧
  (∀ a, (k1_off373 v5233) a + S8x128.size a ≤ S12800x128.size a)
theorem k1_mult373_dvd : ∀ (v5233 : BitVec 32) (k1_hw373 : k1_chk373 v5233), 8 ∣ (k1_mult373 v5233).toNat := fun v5233 k1_hw373 => k1_hw373.1
theorem k1_off373_inb : ∀ (v5233 : BitVec 32) (k1_hw373 : k1_chk373 v5233), ∀ a, (k1_off373 v5233) a + S8x128.size a ≤ S12800x128.size a := fun v5233 k1_hw373 => k1_hw373.2

def k1_mult374 (v5247 : BitVec 32) : BitVec 32 :=
  let c3_i32_2996 : BitVec 32 := 3#32
  let v5248 : BitVec 32 := Scalar.shrsi v5247 c3_i32_2996
  let c3_i32_2997 : BitVec 32 := 3#32
  let v5249 : BitVec 32 := Scalar.shli v5248 c3_i32_2997
  v5249

def k1_off374 (v5247 : BitVec 32) : Fin 2 → Nat :=
  let c3_i32_2996 : BitVec 32 := 3#32
  let v5248 : BitVec 32 := Scalar.shrsi v5247 c3_i32_2996
  let c3_i32_2997 : BitVec 32 := 3#32
  let v5249 : BitVec 32 := Scalar.shli v5248 c3_i32_2997
  let v5250 : BitVec 32 := v5249
  let v5251 : Index := Scalar.indexCast v5250
  let c0_2998 : Index := 0#32
  ![v5251.toNat, 0]

def k1_chk374 (v5247 : BitVec 32) : Prop :=
  (8 ∣ (k1_mult374 v5247).toNat) ∧
  (∀ a, (k1_off374 v5247) a + S8x128.size a ≤ S12800x128.size a)
theorem k1_mult374_dvd : ∀ (v5247 : BitVec 32) (k1_hw374 : k1_chk374 v5247), 8 ∣ (k1_mult374 v5247).toNat := fun v5247 k1_hw374 => k1_hw374.1
theorem k1_off374_inb : ∀ (v5247 : BitVec 32) (k1_hw374 : k1_chk374 v5247), ∀ a, (k1_off374 v5247) a + S8x128.size a ≤ S12800x128.size a := fun v5247 k1_hw374 => k1_hw374.2

def k1_mult375 (v5261 : BitVec 32) : BitVec 32 :=
  let c3_i32_3004 : BitVec 32 := 3#32
  let v5262 : BitVec 32 := Scalar.shrsi v5261 c3_i32_3004
  let c3_i32_3005 : BitVec 32 := 3#32
  let v5263 : BitVec 32 := Scalar.shli v5262 c3_i32_3005
  v5263

def k1_off375 (v5261 : BitVec 32) : Fin 2 → Nat :=
  let c3_i32_3004 : BitVec 32 := 3#32
  let v5262 : BitVec 32 := Scalar.shrsi v5261 c3_i32_3004
  let c3_i32_3005 : BitVec 32 := 3#32
  let v5263 : BitVec 32 := Scalar.shli v5262 c3_i32_3005
  let v5264 : BitVec 32 := v5263
  let v5265 : Index := Scalar.indexCast v5264
  let c0_3006 : Index := 0#32
  ![v5265.toNat, 0]

def k1_chk375 (v5261 : BitVec 32) : Prop :=
  (8 ∣ (k1_mult375 v5261).toNat) ∧
  (∀ a, (k1_off375 v5261) a + S8x128.size a ≤ S12800x128.size a)
theorem k1_mult375_dvd : ∀ (v5261 : BitVec 32) (k1_hw375 : k1_chk375 v5261), 8 ∣ (k1_mult375 v5261).toNat := fun v5261 k1_hw375 => k1_hw375.1
theorem k1_off375_inb : ∀ (v5261 : BitVec 32) (k1_hw375 : k1_chk375 v5261), ∀ a, (k1_off375 v5261) a + S8x128.size a ≤ S12800x128.size a := fun v5261 k1_hw375 => k1_hw375.2

def k1_mult376 (v5275 : BitVec 32) : BitVec 32 :=
  let c3_i32_3012 : BitVec 32 := 3#32
  let v5276 : BitVec 32 := Scalar.shrsi v5275 c3_i32_3012
  let c3_i32_3013 : BitVec 32 := 3#32
  let v5277 : BitVec 32 := Scalar.shli v5276 c3_i32_3013
  v5277

def k1_off376 (v5275 : BitVec 32) : Fin 2 → Nat :=
  let c3_i32_3012 : BitVec 32 := 3#32
  let v5276 : BitVec 32 := Scalar.shrsi v5275 c3_i32_3012
  let c3_i32_3013 : BitVec 32 := 3#32
  let v5277 : BitVec 32 := Scalar.shli v5276 c3_i32_3013
  let v5278 : BitVec 32 := v5277
  let v5279 : Index := Scalar.indexCast v5278
  let c0_3014 : Index := 0#32
  ![v5279.toNat, 0]

def k1_chk376 (v5275 : BitVec 32) : Prop :=
  (8 ∣ (k1_mult376 v5275).toNat) ∧
  (∀ a, (k1_off376 v5275) a + S8x128.size a ≤ S12800x128.size a)
theorem k1_mult376_dvd : ∀ (v5275 : BitVec 32) (k1_hw376 : k1_chk376 v5275), 8 ∣ (k1_mult376 v5275).toNat := fun v5275 k1_hw376 => k1_hw376.1
theorem k1_off376_inb : ∀ (v5275 : BitVec 32) (k1_hw376 : k1_chk376 v5275), ∀ a, (k1_off376 v5275) a + S8x128.size a ≤ S12800x128.size a := fun v5275 k1_hw376 => k1_hw376.2

def k1_mult377 (v5289 : BitVec 32) : BitVec 32 :=
  let c3_i32_3020 : BitVec 32 := 3#32
  let v5290 : BitVec 32 := Scalar.shrsi v5289 c3_i32_3020
  let c3_i32_3021 : BitVec 32 := 3#32
  let v5291 : BitVec 32 := Scalar.shli v5290 c3_i32_3021
  v5291

def k1_off377 (v5289 : BitVec 32) : Fin 2 → Nat :=
  let c3_i32_3020 : BitVec 32 := 3#32
  let v5290 : BitVec 32 := Scalar.shrsi v5289 c3_i32_3020
  let c3_i32_3021 : BitVec 32 := 3#32
  let v5291 : BitVec 32 := Scalar.shli v5290 c3_i32_3021
  let v5292 : BitVec 32 := v5291
  let v5293 : Index := Scalar.indexCast v5292
  let c0_3022 : Index := 0#32
  ![v5293.toNat, 0]

def k1_chk377 (v5289 : BitVec 32) : Prop :=
  (8 ∣ (k1_mult377 v5289).toNat) ∧
  (∀ a, (k1_off377 v5289) a + S8x128.size a ≤ S12800x128.size a)
theorem k1_mult377_dvd : ∀ (v5289 : BitVec 32) (k1_hw377 : k1_chk377 v5289), 8 ∣ (k1_mult377 v5289).toNat := fun v5289 k1_hw377 => k1_hw377.1
theorem k1_off377_inb : ∀ (v5289 : BitVec 32) (k1_hw377 : k1_chk377 v5289), ∀ a, (k1_off377 v5289) a + S8x128.size a ≤ S12800x128.size a := fun v5289 k1_hw377 => k1_hw377.2

def k1_mult378 (v5303 : BitVec 32) : BitVec 32 :=
  let c3_i32_3028 : BitVec 32 := 3#32
  let v5304 : BitVec 32 := Scalar.shrsi v5303 c3_i32_3028
  let c3_i32_3029 : BitVec 32 := 3#32
  let v5305 : BitVec 32 := Scalar.shli v5304 c3_i32_3029
  v5305

def k1_off378 (v5303 : BitVec 32) : Fin 2 → Nat :=
  let c3_i32_3028 : BitVec 32 := 3#32
  let v5304 : BitVec 32 := Scalar.shrsi v5303 c3_i32_3028
  let c3_i32_3029 : BitVec 32 := 3#32
  let v5305 : BitVec 32 := Scalar.shli v5304 c3_i32_3029
  let v5306 : BitVec 32 := v5305
  let v5307 : Index := Scalar.indexCast v5306
  let c0_3030 : Index := 0#32
  ![v5307.toNat, 0]

def k1_chk378 (v5303 : BitVec 32) : Prop :=
  (8 ∣ (k1_mult378 v5303).toNat) ∧
  (∀ a, (k1_off378 v5303) a + S8x128.size a ≤ S12800x128.size a)
theorem k1_mult378_dvd : ∀ (v5303 : BitVec 32) (k1_hw378 : k1_chk378 v5303), 8 ∣ (k1_mult378 v5303).toNat := fun v5303 k1_hw378 => k1_hw378.1
theorem k1_off378_inb : ∀ (v5303 : BitVec 32) (k1_hw378 : k1_chk378 v5303), ∀ a, (k1_off378 v5303) a + S8x128.size a ≤ S12800x128.size a := fun v5303 k1_hw378 => k1_hw378.2

def k1_mult379 (v5317 : BitVec 32) : BitVec 32 :=
  let c3_i32_3036 : BitVec 32 := 3#32
  let v5318 : BitVec 32 := Scalar.shrsi v5317 c3_i32_3036
  let c3_i32_3037 : BitVec 32 := 3#32
  let v5319 : BitVec 32 := Scalar.shli v5318 c3_i32_3037
  v5319

def k1_off379 (v5317 : BitVec 32) : Fin 2 → Nat :=
  let c3_i32_3036 : BitVec 32 := 3#32
  let v5318 : BitVec 32 := Scalar.shrsi v5317 c3_i32_3036
  let c3_i32_3037 : BitVec 32 := 3#32
  let v5319 : BitVec 32 := Scalar.shli v5318 c3_i32_3037
  let v5320 : BitVec 32 := v5319
  let v5321 : Index := Scalar.indexCast v5320
  let c0_3038 : Index := 0#32
  ![v5321.toNat, 0]

def k1_chk379 (v5317 : BitVec 32) : Prop :=
  (8 ∣ (k1_mult379 v5317).toNat) ∧
  (∀ a, (k1_off379 v5317) a + S8x128.size a ≤ S12800x128.size a)
theorem k1_mult379_dvd : ∀ (v5317 : BitVec 32) (k1_hw379 : k1_chk379 v5317), 8 ∣ (k1_mult379 v5317).toNat := fun v5317 k1_hw379 => k1_hw379.1
theorem k1_off379_inb : ∀ (v5317 : BitVec 32) (k1_hw379 : k1_chk379 v5317), ∀ a, (k1_off379 v5317) a + S8x128.size a ≤ S12800x128.size a := fun v5317 k1_hw379 => k1_hw379.2

def k1_mult380 (v5331 : BitVec 32) : BitVec 32 :=
  let c3_i32_3044 : BitVec 32 := 3#32
  let v5332 : BitVec 32 := Scalar.shrsi v5331 c3_i32_3044
  let c3_i32_3045 : BitVec 32 := 3#32
  let v5333 : BitVec 32 := Scalar.shli v5332 c3_i32_3045
  v5333

def k1_off380 (v5331 : BitVec 32) : Fin 2 → Nat :=
  let c3_i32_3044 : BitVec 32 := 3#32
  let v5332 : BitVec 32 := Scalar.shrsi v5331 c3_i32_3044
  let c3_i32_3045 : BitVec 32 := 3#32
  let v5333 : BitVec 32 := Scalar.shli v5332 c3_i32_3045
  let v5334 : BitVec 32 := v5333
  let v5335 : Index := Scalar.indexCast v5334
  let c0_3046 : Index := 0#32
  ![v5335.toNat, 0]

def k1_chk380 (v5331 : BitVec 32) : Prop :=
  (8 ∣ (k1_mult380 v5331).toNat) ∧
  (∀ a, (k1_off380 v5331) a + S8x128.size a ≤ S12800x128.size a)
theorem k1_mult380_dvd : ∀ (v5331 : BitVec 32) (k1_hw380 : k1_chk380 v5331), 8 ∣ (k1_mult380 v5331).toNat := fun v5331 k1_hw380 => k1_hw380.1
theorem k1_off380_inb : ∀ (v5331 : BitVec 32) (k1_hw380 : k1_chk380 v5331), ∀ a, (k1_off380 v5331) a + S8x128.size a ≤ S12800x128.size a := fun v5331 k1_hw380 => k1_hw380.2

def k1_mult381 (v5345 : BitVec 32) : BitVec 32 :=
  let c3_i32_3052 : BitVec 32 := 3#32
  let v5346 : BitVec 32 := Scalar.shrsi v5345 c3_i32_3052
  let c3_i32_3053 : BitVec 32 := 3#32
  let v5347 : BitVec 32 := Scalar.shli v5346 c3_i32_3053
  v5347

def k1_off381 (v5345 : BitVec 32) : Fin 2 → Nat :=
  let c3_i32_3052 : BitVec 32 := 3#32
  let v5346 : BitVec 32 := Scalar.shrsi v5345 c3_i32_3052
  let c3_i32_3053 : BitVec 32 := 3#32
  let v5347 : BitVec 32 := Scalar.shli v5346 c3_i32_3053
  let v5348 : BitVec 32 := v5347
  let v5349 : Index := Scalar.indexCast v5348
  let c0_3054 : Index := 0#32
  ![v5349.toNat, 0]

def k1_chk381 (v5345 : BitVec 32) : Prop :=
  (8 ∣ (k1_mult381 v5345).toNat) ∧
  (∀ a, (k1_off381 v5345) a + S8x128.size a ≤ S12800x128.size a)
theorem k1_mult381_dvd : ∀ (v5345 : BitVec 32) (k1_hw381 : k1_chk381 v5345), 8 ∣ (k1_mult381 v5345).toNat := fun v5345 k1_hw381 => k1_hw381.1
theorem k1_off381_inb : ∀ (v5345 : BitVec 32) (k1_hw381 : k1_chk381 v5345), ∀ a, (k1_off381 v5345) a + S8x128.size a ≤ S12800x128.size a := fun v5345 k1_hw381 => k1_hw381.2

def k1_mult382 (v5359 : BitVec 32) : BitVec 32 :=
  let c3_i32_3060 : BitVec 32 := 3#32
  let v5360 : BitVec 32 := Scalar.shrsi v5359 c3_i32_3060
  let c3_i32_3061 : BitVec 32 := 3#32
  let v5361 : BitVec 32 := Scalar.shli v5360 c3_i32_3061
  v5361

def k1_off382 (v5359 : BitVec 32) : Fin 2 → Nat :=
  let c3_i32_3060 : BitVec 32 := 3#32
  let v5360 : BitVec 32 := Scalar.shrsi v5359 c3_i32_3060
  let c3_i32_3061 : BitVec 32 := 3#32
  let v5361 : BitVec 32 := Scalar.shli v5360 c3_i32_3061
  let v5362 : BitVec 32 := v5361
  let v5363 : Index := Scalar.indexCast v5362
  let c0_3062 : Index := 0#32
  ![v5363.toNat, 0]

def k1_chk382 (v5359 : BitVec 32) : Prop :=
  (8 ∣ (k1_mult382 v5359).toNat) ∧
  (∀ a, (k1_off382 v5359) a + S8x128.size a ≤ S12800x128.size a)
theorem k1_mult382_dvd : ∀ (v5359 : BitVec 32) (k1_hw382 : k1_chk382 v5359), 8 ∣ (k1_mult382 v5359).toNat := fun v5359 k1_hw382 => k1_hw382.1
theorem k1_off382_inb : ∀ (v5359 : BitVec 32) (k1_hw382 : k1_chk382 v5359), ∀ a, (k1_off382 v5359) a + S8x128.size a ≤ S12800x128.size a := fun v5359 k1_hw382 => k1_hw382.2

def k1_mult383 (v5373 : BitVec 32) : BitVec 32 :=
  let c3_i32_3068 : BitVec 32 := 3#32
  let v5374 : BitVec 32 := Scalar.shrsi v5373 c3_i32_3068
  let c3_i32_3069 : BitVec 32 := 3#32
  let v5375 : BitVec 32 := Scalar.shli v5374 c3_i32_3069
  v5375

def k1_off383 (v5373 : BitVec 32) : Fin 2 → Nat :=
  let c3_i32_3068 : BitVec 32 := 3#32
  let v5374 : BitVec 32 := Scalar.shrsi v5373 c3_i32_3068
  let c3_i32_3069 : BitVec 32 := 3#32
  let v5375 : BitVec 32 := Scalar.shli v5374 c3_i32_3069
  let v5376 : BitVec 32 := v5375
  let v5377 : Index := Scalar.indexCast v5376
  let c0_3070 : Index := 0#32
  ![v5377.toNat, 0]

def k1_chk383 (v5373 : BitVec 32) : Prop :=
  (8 ∣ (k1_mult383 v5373).toNat) ∧
  (∀ a, (k1_off383 v5373) a + S8x128.size a ≤ S12800x128.size a)
theorem k1_mult383_dvd : ∀ (v5373 : BitVec 32) (k1_hw383 : k1_chk383 v5373), 8 ∣ (k1_mult383 v5373).toNat := fun v5373 k1_hw383 => k1_hw383.1
theorem k1_off383_inb : ∀ (v5373 : BitVec 32) (k1_hw383 : k1_chk383 v5373), ∀ a, (k1_off383 v5373) a + S8x128.size a ≤ S12800x128.size a := fun v5373 k1_hw383 => k1_hw383.2

def k1_mult384 (v5387 : BitVec 32) : BitVec 32 :=
  let c3_i32_3076 : BitVec 32 := 3#32
  let v5388 : BitVec 32 := Scalar.shrsi v5387 c3_i32_3076
  let c3_i32_3077 : BitVec 32 := 3#32
  let v5389 : BitVec 32 := Scalar.shli v5388 c3_i32_3077
  v5389

def k1_off384 (v5387 : BitVec 32) : Fin 2 → Nat :=
  let c3_i32_3076 : BitVec 32 := 3#32
  let v5388 : BitVec 32 := Scalar.shrsi v5387 c3_i32_3076
  let c3_i32_3077 : BitVec 32 := 3#32
  let v5389 : BitVec 32 := Scalar.shli v5388 c3_i32_3077
  let v5390 : BitVec 32 := v5389
  let v5391 : Index := Scalar.indexCast v5390
  let c0_3078 : Index := 0#32
  ![v5391.toNat, 0]

def k1_chk384 (v5387 : BitVec 32) : Prop :=
  (8 ∣ (k1_mult384 v5387).toNat) ∧
  (∀ a, (k1_off384 v5387) a + S8x128.size a ≤ S12800x128.size a)
theorem k1_mult384_dvd : ∀ (v5387 : BitVec 32) (k1_hw384 : k1_chk384 v5387), 8 ∣ (k1_mult384 v5387).toNat := fun v5387 k1_hw384 => k1_hw384.1
theorem k1_off384_inb : ∀ (v5387 : BitVec 32) (k1_hw384 : k1_chk384 v5387), ∀ a, (k1_off384 v5387) a + S8x128.size a ≤ S12800x128.size a := fun v5387 k1_hw384 => k1_hw384.2

def k1_mult385 (v5401 : BitVec 32) : BitVec 32 :=
  let c3_i32_3084 : BitVec 32 := 3#32
  let v5402 : BitVec 32 := Scalar.shrsi v5401 c3_i32_3084
  let c3_i32_3085 : BitVec 32 := 3#32
  let v5403 : BitVec 32 := Scalar.shli v5402 c3_i32_3085
  v5403

def k1_off385 (v5401 : BitVec 32) : Fin 2 → Nat :=
  let c3_i32_3084 : BitVec 32 := 3#32
  let v5402 : BitVec 32 := Scalar.shrsi v5401 c3_i32_3084
  let c3_i32_3085 : BitVec 32 := 3#32
  let v5403 : BitVec 32 := Scalar.shli v5402 c3_i32_3085
  let v5404 : BitVec 32 := v5403
  let v5405 : Index := Scalar.indexCast v5404
  let c0_3086 : Index := 0#32
  ![v5405.toNat, 0]

def k1_chk385 (v5401 : BitVec 32) : Prop :=
  (8 ∣ (k1_mult385 v5401).toNat) ∧
  (∀ a, (k1_off385 v5401) a + S8x128.size a ≤ S12800x128.size a)
theorem k1_mult385_dvd : ∀ (v5401 : BitVec 32) (k1_hw385 : k1_chk385 v5401), 8 ∣ (k1_mult385 v5401).toNat := fun v5401 k1_hw385 => k1_hw385.1
theorem k1_off385_inb : ∀ (v5401 : BitVec 32) (k1_hw385 : k1_chk385 v5401), ∀ a, (k1_off385 v5401) a + S8x128.size a ≤ S12800x128.size a := fun v5401 k1_hw385 => k1_hw385.2

def k1_mult386 (v5415 : BitVec 32) : BitVec 32 :=
  let c3_i32_3092 : BitVec 32 := 3#32
  let v5416 : BitVec 32 := Scalar.shrsi v5415 c3_i32_3092
  let c3_i32_3093 : BitVec 32 := 3#32
  let v5417 : BitVec 32 := Scalar.shli v5416 c3_i32_3093
  v5417

def k1_off386 (v5415 : BitVec 32) : Fin 2 → Nat :=
  let c3_i32_3092 : BitVec 32 := 3#32
  let v5416 : BitVec 32 := Scalar.shrsi v5415 c3_i32_3092
  let c3_i32_3093 : BitVec 32 := 3#32
  let v5417 : BitVec 32 := Scalar.shli v5416 c3_i32_3093
  let v5418 : BitVec 32 := v5417
  let v5419 : Index := Scalar.indexCast v5418
  let c0_3094 : Index := 0#32
  ![v5419.toNat, 0]

def k1_chk386 (v5415 : BitVec 32) : Prop :=
  (8 ∣ (k1_mult386 v5415).toNat) ∧
  (∀ a, (k1_off386 v5415) a + S8x128.size a ≤ S12800x128.size a)
theorem k1_mult386_dvd : ∀ (v5415 : BitVec 32) (k1_hw386 : k1_chk386 v5415), 8 ∣ (k1_mult386 v5415).toNat := fun v5415 k1_hw386 => k1_hw386.1
theorem k1_off386_inb : ∀ (v5415 : BitVec 32) (k1_hw386 : k1_chk386 v5415), ∀ a, (k1_off386 v5415) a + S8x128.size a ≤ S12800x128.size a := fun v5415 k1_hw386 => k1_hw386.2

def k1_mult387 (v5429 : BitVec 32) : BitVec 32 :=
  let c3_i32_3100 : BitVec 32 := 3#32
  let v5430 : BitVec 32 := Scalar.shrsi v5429 c3_i32_3100
  let c3_i32_3101 : BitVec 32 := 3#32
  let v5431 : BitVec 32 := Scalar.shli v5430 c3_i32_3101
  v5431

def k1_off387 (v5429 : BitVec 32) : Fin 2 → Nat :=
  let c3_i32_3100 : BitVec 32 := 3#32
  let v5430 : BitVec 32 := Scalar.shrsi v5429 c3_i32_3100
  let c3_i32_3101 : BitVec 32 := 3#32
  let v5431 : BitVec 32 := Scalar.shli v5430 c3_i32_3101
  let v5432 : BitVec 32 := v5431
  let v5433 : Index := Scalar.indexCast v5432
  let c0_3102 : Index := 0#32
  ![v5433.toNat, 0]

def k1_chk387 (v5429 : BitVec 32) : Prop :=
  (8 ∣ (k1_mult387 v5429).toNat) ∧
  (∀ a, (k1_off387 v5429) a + S8x128.size a ≤ S12800x128.size a)
theorem k1_mult387_dvd : ∀ (v5429 : BitVec 32) (k1_hw387 : k1_chk387 v5429), 8 ∣ (k1_mult387 v5429).toNat := fun v5429 k1_hw387 => k1_hw387.1
theorem k1_off387_inb : ∀ (v5429 : BitVec 32) (k1_hw387 : k1_chk387 v5429), ∀ a, (k1_off387 v5429) a + S8x128.size a ≤ S12800x128.size a := fun v5429 k1_hw387 => k1_hw387.2

def k1_mult388 (v5443 : BitVec 32) : BitVec 32 :=
  let c3_i32_3108 : BitVec 32 := 3#32
  let v5444 : BitVec 32 := Scalar.shrsi v5443 c3_i32_3108
  let c3_i32_3109 : BitVec 32 := 3#32
  let v5445 : BitVec 32 := Scalar.shli v5444 c3_i32_3109
  v5445

def k1_off388 (v5443 : BitVec 32) : Fin 2 → Nat :=
  let c3_i32_3108 : BitVec 32 := 3#32
  let v5444 : BitVec 32 := Scalar.shrsi v5443 c3_i32_3108
  let c3_i32_3109 : BitVec 32 := 3#32
  let v5445 : BitVec 32 := Scalar.shli v5444 c3_i32_3109
  let v5446 : BitVec 32 := v5445
  let v5447 : Index := Scalar.indexCast v5446
  let c0_3110 : Index := 0#32
  ![v5447.toNat, 0]

def k1_chk388 (v5443 : BitVec 32) : Prop :=
  (8 ∣ (k1_mult388 v5443).toNat) ∧
  (∀ a, (k1_off388 v5443) a + S8x128.size a ≤ S12800x128.size a)
theorem k1_mult388_dvd : ∀ (v5443 : BitVec 32) (k1_hw388 : k1_chk388 v5443), 8 ∣ (k1_mult388 v5443).toNat := fun v5443 k1_hw388 => k1_hw388.1
theorem k1_off388_inb : ∀ (v5443 : BitVec 32) (k1_hw388 : k1_chk388 v5443), ∀ a, (k1_off388 v5443) a + S8x128.size a ≤ S12800x128.size a := fun v5443 k1_hw388 => k1_hw388.2

def k1_mult389 (v5457 : BitVec 32) : BitVec 32 :=
  let c3_i32_3116 : BitVec 32 := 3#32
  let v5458 : BitVec 32 := Scalar.shrsi v5457 c3_i32_3116
  let c3_i32_3117 : BitVec 32 := 3#32
  let v5459 : BitVec 32 := Scalar.shli v5458 c3_i32_3117
  v5459

def k1_off389 (v5457 : BitVec 32) : Fin 2 → Nat :=
  let c3_i32_3116 : BitVec 32 := 3#32
  let v5458 : BitVec 32 := Scalar.shrsi v5457 c3_i32_3116
  let c3_i32_3117 : BitVec 32 := 3#32
  let v5459 : BitVec 32 := Scalar.shli v5458 c3_i32_3117
  let v5460 : BitVec 32 := v5459
  let v5461 : Index := Scalar.indexCast v5460
  let c0_3118 : Index := 0#32
  ![v5461.toNat, 0]

def k1_chk389 (v5457 : BitVec 32) : Prop :=
  (8 ∣ (k1_mult389 v5457).toNat) ∧
  (∀ a, (k1_off389 v5457) a + S8x128.size a ≤ S12800x128.size a)
theorem k1_mult389_dvd : ∀ (v5457 : BitVec 32) (k1_hw389 : k1_chk389 v5457), 8 ∣ (k1_mult389 v5457).toNat := fun v5457 k1_hw389 => k1_hw389.1
theorem k1_off389_inb : ∀ (v5457 : BitVec 32) (k1_hw389 : k1_chk389 v5457), ∀ a, (k1_off389 v5457) a + S8x128.size a ≤ S12800x128.size a := fun v5457 k1_hw389 => k1_hw389.2

def k1_mult390 (v5471 : BitVec 32) : BitVec 32 :=
  let c3_i32_3124 : BitVec 32 := 3#32
  let v5472 : BitVec 32 := Scalar.shrsi v5471 c3_i32_3124
  let c3_i32_3125 : BitVec 32 := 3#32
  let v5473 : BitVec 32 := Scalar.shli v5472 c3_i32_3125
  v5473

def k1_off390 (v5471 : BitVec 32) : Fin 2 → Nat :=
  let c3_i32_3124 : BitVec 32 := 3#32
  let v5472 : BitVec 32 := Scalar.shrsi v5471 c3_i32_3124
  let c3_i32_3125 : BitVec 32 := 3#32
  let v5473 : BitVec 32 := Scalar.shli v5472 c3_i32_3125
  let v5474 : BitVec 32 := v5473
  let v5475 : Index := Scalar.indexCast v5474
  let c0_3126 : Index := 0#32
  ![v5475.toNat, 0]

def k1_chk390 (v5471 : BitVec 32) : Prop :=
  (8 ∣ (k1_mult390 v5471).toNat) ∧
  (∀ a, (k1_off390 v5471) a + S8x128.size a ≤ S12800x128.size a)
theorem k1_mult390_dvd : ∀ (v5471 : BitVec 32) (k1_hw390 : k1_chk390 v5471), 8 ∣ (k1_mult390 v5471).toNat := fun v5471 k1_hw390 => k1_hw390.1
theorem k1_off390_inb : ∀ (v5471 : BitVec 32) (k1_hw390 : k1_chk390 v5471), ∀ a, (k1_off390 v5471) a + S8x128.size a ≤ S12800x128.size a := fun v5471 k1_hw390 => k1_hw390.2

def k1_mult391 (v5485 : BitVec 32) : BitVec 32 :=
  let c3_i32_3132 : BitVec 32 := 3#32
  let v5486 : BitVec 32 := Scalar.shrsi v5485 c3_i32_3132
  let c3_i32_3133 : BitVec 32 := 3#32
  let v5487 : BitVec 32 := Scalar.shli v5486 c3_i32_3133
  v5487

def k1_off391 (v5485 : BitVec 32) : Fin 2 → Nat :=
  let c3_i32_3132 : BitVec 32 := 3#32
  let v5486 : BitVec 32 := Scalar.shrsi v5485 c3_i32_3132
  let c3_i32_3133 : BitVec 32 := 3#32
  let v5487 : BitVec 32 := Scalar.shli v5486 c3_i32_3133
  let v5488 : BitVec 32 := v5487
  let v5489 : Index := Scalar.indexCast v5488
  let c0_3134 : Index := 0#32
  ![v5489.toNat, 0]

def k1_chk391 (v5485 : BitVec 32) : Prop :=
  (8 ∣ (k1_mult391 v5485).toNat) ∧
  (∀ a, (k1_off391 v5485) a + S8x128.size a ≤ S12800x128.size a)
theorem k1_mult391_dvd : ∀ (v5485 : BitVec 32) (k1_hw391 : k1_chk391 v5485), 8 ∣ (k1_mult391 v5485).toNat := fun v5485 k1_hw391 => k1_hw391.1
theorem k1_off391_inb : ∀ (v5485 : BitVec 32) (k1_hw391 : k1_chk391 v5485), ∀ a, (k1_off391 v5485) a + S8x128.size a ≤ S12800x128.size a := fun v5485 k1_hw391 => k1_hw391.2

def k1_mult392 (v5499 : BitVec 32) : BitVec 32 :=
  let c3_i32_3140 : BitVec 32 := 3#32
  let v5500 : BitVec 32 := Scalar.shrsi v5499 c3_i32_3140
  let c3_i32_3141 : BitVec 32 := 3#32
  let v5501 : BitVec 32 := Scalar.shli v5500 c3_i32_3141
  v5501

def k1_off392 (v5499 : BitVec 32) : Fin 2 → Nat :=
  let c3_i32_3140 : BitVec 32 := 3#32
  let v5500 : BitVec 32 := Scalar.shrsi v5499 c3_i32_3140
  let c3_i32_3141 : BitVec 32 := 3#32
  let v5501 : BitVec 32 := Scalar.shli v5500 c3_i32_3141
  let v5502 : BitVec 32 := v5501
  let v5503 : Index := Scalar.indexCast v5502
  let c0_3142 : Index := 0#32
  ![v5503.toNat, 0]

def k1_chk392 (v5499 : BitVec 32) : Prop :=
  (8 ∣ (k1_mult392 v5499).toNat) ∧
  (∀ a, (k1_off392 v5499) a + S8x128.size a ≤ S12800x128.size a)
theorem k1_mult392_dvd : ∀ (v5499 : BitVec 32) (k1_hw392 : k1_chk392 v5499), 8 ∣ (k1_mult392 v5499).toNat := fun v5499 k1_hw392 => k1_hw392.1
theorem k1_off392_inb : ∀ (v5499 : BitVec 32) (k1_hw392 : k1_chk392 v5499), ∀ a, (k1_off392 v5499) a + S8x128.size a ≤ S12800x128.size a := fun v5499 k1_hw392 => k1_hw392.2

def k1_mult393 (v5513 : BitVec 32) : BitVec 32 :=
  let c3_i32_3148 : BitVec 32 := 3#32
  let v5514 : BitVec 32 := Scalar.shrsi v5513 c3_i32_3148
  let c3_i32_3149 : BitVec 32 := 3#32
  let v5515 : BitVec 32 := Scalar.shli v5514 c3_i32_3149
  v5515

def k1_off393 (v5513 : BitVec 32) : Fin 2 → Nat :=
  let c3_i32_3148 : BitVec 32 := 3#32
  let v5514 : BitVec 32 := Scalar.shrsi v5513 c3_i32_3148
  let c3_i32_3149 : BitVec 32 := 3#32
  let v5515 : BitVec 32 := Scalar.shli v5514 c3_i32_3149
  let v5516 : BitVec 32 := v5515
  let v5517 : Index := Scalar.indexCast v5516
  let c0_3150 : Index := 0#32
  ![v5517.toNat, 0]

def k1_chk393 (v5513 : BitVec 32) : Prop :=
  (8 ∣ (k1_mult393 v5513).toNat) ∧
  (∀ a, (k1_off393 v5513) a + S8x128.size a ≤ S12800x128.size a)
theorem k1_mult393_dvd : ∀ (v5513 : BitVec 32) (k1_hw393 : k1_chk393 v5513), 8 ∣ (k1_mult393 v5513).toNat := fun v5513 k1_hw393 => k1_hw393.1
theorem k1_off393_inb : ∀ (v5513 : BitVec 32) (k1_hw393 : k1_chk393 v5513), ∀ a, (k1_off393 v5513) a + S8x128.size a ≤ S12800x128.size a := fun v5513 k1_hw393 => k1_hw393.2

def k1_mult394 (v5527 : BitVec 32) : BitVec 32 :=
  let c3_i32_3156 : BitVec 32 := 3#32
  let v5528 : BitVec 32 := Scalar.shrsi v5527 c3_i32_3156
  let c3_i32_3157 : BitVec 32 := 3#32
  let v5529 : BitVec 32 := Scalar.shli v5528 c3_i32_3157
  v5529

def k1_off394 (v5527 : BitVec 32) : Fin 2 → Nat :=
  let c3_i32_3156 : BitVec 32 := 3#32
  let v5528 : BitVec 32 := Scalar.shrsi v5527 c3_i32_3156
  let c3_i32_3157 : BitVec 32 := 3#32
  let v5529 : BitVec 32 := Scalar.shli v5528 c3_i32_3157
  let v5530 : BitVec 32 := v5529
  let v5531 : Index := Scalar.indexCast v5530
  let c0_3158 : Index := 0#32
  ![v5531.toNat, 0]

def k1_chk394 (v5527 : BitVec 32) : Prop :=
  (8 ∣ (k1_mult394 v5527).toNat) ∧
  (∀ a, (k1_off394 v5527) a + S8x128.size a ≤ S12800x128.size a)
theorem k1_mult394_dvd : ∀ (v5527 : BitVec 32) (k1_hw394 : k1_chk394 v5527), 8 ∣ (k1_mult394 v5527).toNat := fun v5527 k1_hw394 => k1_hw394.1
theorem k1_off394_inb : ∀ (v5527 : BitVec 32) (k1_hw394 : k1_chk394 v5527), ∀ a, (k1_off394 v5527) a + S8x128.size a ≤ S12800x128.size a := fun v5527 k1_hw394 => k1_hw394.2

def k1_mult395 (v5541 : BitVec 32) : BitVec 32 :=
  let c3_i32_3164 : BitVec 32 := 3#32
  let v5542 : BitVec 32 := Scalar.shrsi v5541 c3_i32_3164
  let c3_i32_3165 : BitVec 32 := 3#32
  let v5543 : BitVec 32 := Scalar.shli v5542 c3_i32_3165
  v5543

def k1_off395 (v5541 : BitVec 32) : Fin 2 → Nat :=
  let c3_i32_3164 : BitVec 32 := 3#32
  let v5542 : BitVec 32 := Scalar.shrsi v5541 c3_i32_3164
  let c3_i32_3165 : BitVec 32 := 3#32
  let v5543 : BitVec 32 := Scalar.shli v5542 c3_i32_3165
  let v5544 : BitVec 32 := v5543
  let v5545 : Index := Scalar.indexCast v5544
  let c0_3166 : Index := 0#32
  ![v5545.toNat, 0]

def k1_chk395 (v5541 : BitVec 32) : Prop :=
  (8 ∣ (k1_mult395 v5541).toNat) ∧
  (∀ a, (k1_off395 v5541) a + S8x128.size a ≤ S12800x128.size a)
theorem k1_mult395_dvd : ∀ (v5541 : BitVec 32) (k1_hw395 : k1_chk395 v5541), 8 ∣ (k1_mult395 v5541).toNat := fun v5541 k1_hw395 => k1_hw395.1
theorem k1_off395_inb : ∀ (v5541 : BitVec 32) (k1_hw395 : k1_chk395 v5541), ∀ a, (k1_off395 v5541) a + S8x128.size a ≤ S12800x128.size a := fun v5541 k1_hw395 => k1_hw395.2

def k1_mult396 (v5555 : BitVec 32) : BitVec 32 :=
  let c3_i32_3172 : BitVec 32 := 3#32
  let v5556 : BitVec 32 := Scalar.shrsi v5555 c3_i32_3172
  let c3_i32_3173 : BitVec 32 := 3#32
  let v5557 : BitVec 32 := Scalar.shli v5556 c3_i32_3173
  v5557

def k1_off396 (v5555 : BitVec 32) : Fin 2 → Nat :=
  let c3_i32_3172 : BitVec 32 := 3#32
  let v5556 : BitVec 32 := Scalar.shrsi v5555 c3_i32_3172
  let c3_i32_3173 : BitVec 32 := 3#32
  let v5557 : BitVec 32 := Scalar.shli v5556 c3_i32_3173
  let v5558 : BitVec 32 := v5557
  let v5559 : Index := Scalar.indexCast v5558
  let c0_3174 : Index := 0#32
  ![v5559.toNat, 0]

def k1_chk396 (v5555 : BitVec 32) : Prop :=
  (8 ∣ (k1_mult396 v5555).toNat) ∧
  (∀ a, (k1_off396 v5555) a + S8x128.size a ≤ S12800x128.size a)
theorem k1_mult396_dvd : ∀ (v5555 : BitVec 32) (k1_hw396 : k1_chk396 v5555), 8 ∣ (k1_mult396 v5555).toNat := fun v5555 k1_hw396 => k1_hw396.1
theorem k1_off396_inb : ∀ (v5555 : BitVec 32) (k1_hw396 : k1_chk396 v5555), ∀ a, (k1_off396 v5555) a + S8x128.size a ≤ S12800x128.size a := fun v5555 k1_hw396 => k1_hw396.2

def k1_mult397 (v5569 : BitVec 32) : BitVec 32 :=
  let c3_i32_3180 : BitVec 32 := 3#32
  let v5570 : BitVec 32 := Scalar.shrsi v5569 c3_i32_3180
  let c3_i32_3181 : BitVec 32 := 3#32
  let v5571 : BitVec 32 := Scalar.shli v5570 c3_i32_3181
  v5571

def k1_off397 (v5569 : BitVec 32) : Fin 2 → Nat :=
  let c3_i32_3180 : BitVec 32 := 3#32
  let v5570 : BitVec 32 := Scalar.shrsi v5569 c3_i32_3180
  let c3_i32_3181 : BitVec 32 := 3#32
  let v5571 : BitVec 32 := Scalar.shli v5570 c3_i32_3181
  let v5572 : BitVec 32 := v5571
  let v5573 : Index := Scalar.indexCast v5572
  let c0_3182 : Index := 0#32
  ![v5573.toNat, 0]

def k1_chk397 (v5569 : BitVec 32) : Prop :=
  (8 ∣ (k1_mult397 v5569).toNat) ∧
  (∀ a, (k1_off397 v5569) a + S8x128.size a ≤ S12800x128.size a)
theorem k1_mult397_dvd : ∀ (v5569 : BitVec 32) (k1_hw397 : k1_chk397 v5569), 8 ∣ (k1_mult397 v5569).toNat := fun v5569 k1_hw397 => k1_hw397.1
theorem k1_off397_inb : ∀ (v5569 : BitVec 32) (k1_hw397 : k1_chk397 v5569), ∀ a, (k1_off397 v5569) a + S8x128.size a ≤ S12800x128.size a := fun v5569 k1_hw397 => k1_hw397.2

def k1_mult398 (v5583 : BitVec 32) : BitVec 32 :=
  let c3_i32_3188 : BitVec 32 := 3#32
  let v5584 : BitVec 32 := Scalar.shrsi v5583 c3_i32_3188
  let c3_i32_3189 : BitVec 32 := 3#32
  let v5585 : BitVec 32 := Scalar.shli v5584 c3_i32_3189
  v5585

def k1_off398 (v5583 : BitVec 32) : Fin 2 → Nat :=
  let c3_i32_3188 : BitVec 32 := 3#32
  let v5584 : BitVec 32 := Scalar.shrsi v5583 c3_i32_3188
  let c3_i32_3189 : BitVec 32 := 3#32
  let v5585 : BitVec 32 := Scalar.shli v5584 c3_i32_3189
  let v5586 : BitVec 32 := v5585
  let v5587 : Index := Scalar.indexCast v5586
  let c0_3190 : Index := 0#32
  ![v5587.toNat, 0]

def k1_chk398 (v5583 : BitVec 32) : Prop :=
  (8 ∣ (k1_mult398 v5583).toNat) ∧
  (∀ a, (k1_off398 v5583) a + S8x128.size a ≤ S12800x128.size a)
theorem k1_mult398_dvd : ∀ (v5583 : BitVec 32) (k1_hw398 : k1_chk398 v5583), 8 ∣ (k1_mult398 v5583).toNat := fun v5583 k1_hw398 => k1_hw398.1
theorem k1_off398_inb : ∀ (v5583 : BitVec 32) (k1_hw398 : k1_chk398 v5583), ∀ a, (k1_off398 v5583) a + S8x128.size a ≤ S12800x128.size a := fun v5583 k1_hw398 => k1_hw398.2

def k1_mult399 (v5597 : BitVec 32) : BitVec 32 :=
  let c3_i32_3196 : BitVec 32 := 3#32
  let v5598 : BitVec 32 := Scalar.shrsi v5597 c3_i32_3196
  let c3_i32_3197 : BitVec 32 := 3#32
  let v5599 : BitVec 32 := Scalar.shli v5598 c3_i32_3197
  v5599

def k1_off399 (v5597 : BitVec 32) : Fin 2 → Nat :=
  let c3_i32_3196 : BitVec 32 := 3#32
  let v5598 : BitVec 32 := Scalar.shrsi v5597 c3_i32_3196
  let c3_i32_3197 : BitVec 32 := 3#32
  let v5599 : BitVec 32 := Scalar.shli v5598 c3_i32_3197
  let v5600 : BitVec 32 := v5599
  let v5601 : Index := Scalar.indexCast v5600
  let c0_3198 : Index := 0#32
  ![v5601.toNat, 0]

def k1_chk399 (v5597 : BitVec 32) : Prop :=
  (8 ∣ (k1_mult399 v5597).toNat) ∧
  (∀ a, (k1_off399 v5597) a + S8x128.size a ≤ S12800x128.size a)
theorem k1_mult399_dvd : ∀ (v5597 : BitVec 32) (k1_hw399 : k1_chk399 v5597), 8 ∣ (k1_mult399 v5597).toNat := fun v5597 k1_hw399 => k1_hw399.1
theorem k1_off399_inb : ∀ (v5597 : BitVec 32) (k1_hw399 : k1_chk399 v5597), ∀ a, (k1_off399 v5597) a + S8x128.size a ≤ S12800x128.size a := fun v5597 k1_hw399 => k1_hw399.2

def k1_mult400 (v5611 : BitVec 32) : BitVec 32 :=
  let c3_i32_3204 : BitVec 32 := 3#32
  let v5612 : BitVec 32 := Scalar.shrsi v5611 c3_i32_3204
  let c3_i32_3205 : BitVec 32 := 3#32
  let v5613 : BitVec 32 := Scalar.shli v5612 c3_i32_3205
  v5613

def k1_off400 (v5611 : BitVec 32) : Fin 2 → Nat :=
  let c3_i32_3204 : BitVec 32 := 3#32
  let v5612 : BitVec 32 := Scalar.shrsi v5611 c3_i32_3204
  let c3_i32_3205 : BitVec 32 := 3#32
  let v5613 : BitVec 32 := Scalar.shli v5612 c3_i32_3205
  let v5614 : BitVec 32 := v5613
  let v5615 : Index := Scalar.indexCast v5614
  let c0_3206 : Index := 0#32
  ![v5615.toNat, 0]

def k1_chk400 (v5611 : BitVec 32) : Prop :=
  (8 ∣ (k1_mult400 v5611).toNat) ∧
  (∀ a, (k1_off400 v5611) a + S8x128.size a ≤ S12800x128.size a)
theorem k1_mult400_dvd : ∀ (v5611 : BitVec 32) (k1_hw400 : k1_chk400 v5611), 8 ∣ (k1_mult400 v5611).toNat := fun v5611 k1_hw400 => k1_hw400.1
theorem k1_off400_inb : ∀ (v5611 : BitVec 32) (k1_hw400 : k1_chk400 v5611), ∀ a, (k1_off400 v5611) a + S8x128.size a ≤ S12800x128.size a := fun v5611 k1_hw400 => k1_hw400.2

def k1_mult401 (v5625 : BitVec 32) : BitVec 32 :=
  let c3_i32_3212 : BitVec 32 := 3#32
  let v5626 : BitVec 32 := Scalar.shrsi v5625 c3_i32_3212
  let c3_i32_3213 : BitVec 32 := 3#32
  let v5627 : BitVec 32 := Scalar.shli v5626 c3_i32_3213
  v5627

def k1_off401 (v5625 : BitVec 32) : Fin 2 → Nat :=
  let c3_i32_3212 : BitVec 32 := 3#32
  let v5626 : BitVec 32 := Scalar.shrsi v5625 c3_i32_3212
  let c3_i32_3213 : BitVec 32 := 3#32
  let v5627 : BitVec 32 := Scalar.shli v5626 c3_i32_3213
  let v5628 : BitVec 32 := v5627
  let v5629 : Index := Scalar.indexCast v5628
  let c0_3214 : Index := 0#32
  ![v5629.toNat, 0]

def k1_chk401 (v5625 : BitVec 32) : Prop :=
  (8 ∣ (k1_mult401 v5625).toNat) ∧
  (∀ a, (k1_off401 v5625) a + S8x128.size a ≤ S12800x128.size a)
theorem k1_mult401_dvd : ∀ (v5625 : BitVec 32) (k1_hw401 : k1_chk401 v5625), 8 ∣ (k1_mult401 v5625).toNat := fun v5625 k1_hw401 => k1_hw401.1
theorem k1_off401_inb : ∀ (v5625 : BitVec 32) (k1_hw401 : k1_chk401 v5625), ∀ a, (k1_off401 v5625) a + S8x128.size a ≤ S12800x128.size a := fun v5625 k1_hw401 => k1_hw401.2

def k1_mult402 (v5639 : BitVec 32) : BitVec 32 :=
  let c3_i32_3220 : BitVec 32 := 3#32
  let v5640 : BitVec 32 := Scalar.shrsi v5639 c3_i32_3220
  let c3_i32_3221 : BitVec 32 := 3#32
  let v5641 : BitVec 32 := Scalar.shli v5640 c3_i32_3221
  v5641

def k1_off402 (v5639 : BitVec 32) : Fin 2 → Nat :=
  let c3_i32_3220 : BitVec 32 := 3#32
  let v5640 : BitVec 32 := Scalar.shrsi v5639 c3_i32_3220
  let c3_i32_3221 : BitVec 32 := 3#32
  let v5641 : BitVec 32 := Scalar.shli v5640 c3_i32_3221
  let v5642 : BitVec 32 := v5641
  let v5643 : Index := Scalar.indexCast v5642
  let c0_3222 : Index := 0#32
  ![v5643.toNat, 0]

def k1_chk402 (v5639 : BitVec 32) : Prop :=
  (8 ∣ (k1_mult402 v5639).toNat) ∧
  (∀ a, (k1_off402 v5639) a + S8x128.size a ≤ S12800x128.size a)
theorem k1_mult402_dvd : ∀ (v5639 : BitVec 32) (k1_hw402 : k1_chk402 v5639), 8 ∣ (k1_mult402 v5639).toNat := fun v5639 k1_hw402 => k1_hw402.1
theorem k1_off402_inb : ∀ (v5639 : BitVec 32) (k1_hw402 : k1_chk402 v5639), ∀ a, (k1_off402 v5639) a + S8x128.size a ≤ S12800x128.size a := fun v5639 k1_hw402 => k1_hw402.2

def k1_mult403 (v5653 : BitVec 32) : BitVec 32 :=
  let c3_i32_3228 : BitVec 32 := 3#32
  let v5654 : BitVec 32 := Scalar.shrsi v5653 c3_i32_3228
  let c3_i32_3229 : BitVec 32 := 3#32
  let v5655 : BitVec 32 := Scalar.shli v5654 c3_i32_3229
  v5655

def k1_off403 (v5653 : BitVec 32) : Fin 2 → Nat :=
  let c3_i32_3228 : BitVec 32 := 3#32
  let v5654 : BitVec 32 := Scalar.shrsi v5653 c3_i32_3228
  let c3_i32_3229 : BitVec 32 := 3#32
  let v5655 : BitVec 32 := Scalar.shli v5654 c3_i32_3229
  let v5656 : BitVec 32 := v5655
  let v5657 : Index := Scalar.indexCast v5656
  let c0_3230 : Index := 0#32
  ![v5657.toNat, 0]

def k1_chk403 (v5653 : BitVec 32) : Prop :=
  (8 ∣ (k1_mult403 v5653).toNat) ∧
  (∀ a, (k1_off403 v5653) a + S8x128.size a ≤ S12800x128.size a)
theorem k1_mult403_dvd : ∀ (v5653 : BitVec 32) (k1_hw403 : k1_chk403 v5653), 8 ∣ (k1_mult403 v5653).toNat := fun v5653 k1_hw403 => k1_hw403.1
theorem k1_off403_inb : ∀ (v5653 : BitVec 32) (k1_hw403 : k1_chk403 v5653), ∀ a, (k1_off403 v5653) a + S8x128.size a ≤ S12800x128.size a := fun v5653 k1_hw403 => k1_hw403.2

def k1_mult404 (v5667 : BitVec 32) : BitVec 32 :=
  let c3_i32_3236 : BitVec 32 := 3#32
  let v5668 : BitVec 32 := Scalar.shrsi v5667 c3_i32_3236
  let c3_i32_3237 : BitVec 32 := 3#32
  let v5669 : BitVec 32 := Scalar.shli v5668 c3_i32_3237
  v5669

def k1_off404 (v5667 : BitVec 32) : Fin 2 → Nat :=
  let c3_i32_3236 : BitVec 32 := 3#32
  let v5668 : BitVec 32 := Scalar.shrsi v5667 c3_i32_3236
  let c3_i32_3237 : BitVec 32 := 3#32
  let v5669 : BitVec 32 := Scalar.shli v5668 c3_i32_3237
  let v5670 : BitVec 32 := v5669
  let v5671 : Index := Scalar.indexCast v5670
  let c0_3238 : Index := 0#32
  ![v5671.toNat, 0]

def k1_chk404 (v5667 : BitVec 32) : Prop :=
  (8 ∣ (k1_mult404 v5667).toNat) ∧
  (∀ a, (k1_off404 v5667) a + S8x128.size a ≤ S12800x128.size a)
theorem k1_mult404_dvd : ∀ (v5667 : BitVec 32) (k1_hw404 : k1_chk404 v5667), 8 ∣ (k1_mult404 v5667).toNat := fun v5667 k1_hw404 => k1_hw404.1
theorem k1_off404_inb : ∀ (v5667 : BitVec 32) (k1_hw404 : k1_chk404 v5667), ∀ a, (k1_off404 v5667) a + S8x128.size a ≤ S12800x128.size a := fun v5667 k1_hw404 => k1_hw404.2

def k1_mult405 (v5681 : BitVec 32) : BitVec 32 :=
  let c3_i32_3244 : BitVec 32 := 3#32
  let v5682 : BitVec 32 := Scalar.shrsi v5681 c3_i32_3244
  let c3_i32_3245 : BitVec 32 := 3#32
  let v5683 : BitVec 32 := Scalar.shli v5682 c3_i32_3245
  v5683

def k1_off405 (v5681 : BitVec 32) : Fin 2 → Nat :=
  let c3_i32_3244 : BitVec 32 := 3#32
  let v5682 : BitVec 32 := Scalar.shrsi v5681 c3_i32_3244
  let c3_i32_3245 : BitVec 32 := 3#32
  let v5683 : BitVec 32 := Scalar.shli v5682 c3_i32_3245
  let v5684 : BitVec 32 := v5683
  let v5685 : Index := Scalar.indexCast v5684
  let c0_3246 : Index := 0#32
  ![v5685.toNat, 0]

def k1_chk405 (v5681 : BitVec 32) : Prop :=
  (8 ∣ (k1_mult405 v5681).toNat) ∧
  (∀ a, (k1_off405 v5681) a + S8x128.size a ≤ S12800x128.size a)
theorem k1_mult405_dvd : ∀ (v5681 : BitVec 32) (k1_hw405 : k1_chk405 v5681), 8 ∣ (k1_mult405 v5681).toNat := fun v5681 k1_hw405 => k1_hw405.1
theorem k1_off405_inb : ∀ (v5681 : BitVec 32) (k1_hw405 : k1_chk405 v5681), ∀ a, (k1_off405 v5681) a + S8x128.size a ≤ S12800x128.size a := fun v5681 k1_hw405 => k1_hw405.2

def k1_mult406 (v5695 : BitVec 32) : BitVec 32 :=
  let c3_i32_3252 : BitVec 32 := 3#32
  let v5696 : BitVec 32 := Scalar.shrsi v5695 c3_i32_3252
  let c3_i32_3253 : BitVec 32 := 3#32
  let v5697 : BitVec 32 := Scalar.shli v5696 c3_i32_3253
  v5697

def k1_off406 (v5695 : BitVec 32) : Fin 2 → Nat :=
  let c3_i32_3252 : BitVec 32 := 3#32
  let v5696 : BitVec 32 := Scalar.shrsi v5695 c3_i32_3252
  let c3_i32_3253 : BitVec 32 := 3#32
  let v5697 : BitVec 32 := Scalar.shli v5696 c3_i32_3253
  let v5698 : BitVec 32 := v5697
  let v5699 : Index := Scalar.indexCast v5698
  let c0_3254 : Index := 0#32
  ![v5699.toNat, 0]

def k1_chk406 (v5695 : BitVec 32) : Prop :=
  (8 ∣ (k1_mult406 v5695).toNat) ∧
  (∀ a, (k1_off406 v5695) a + S8x128.size a ≤ S12800x128.size a)
theorem k1_mult406_dvd : ∀ (v5695 : BitVec 32) (k1_hw406 : k1_chk406 v5695), 8 ∣ (k1_mult406 v5695).toNat := fun v5695 k1_hw406 => k1_hw406.1
theorem k1_off406_inb : ∀ (v5695 : BitVec 32) (k1_hw406 : k1_chk406 v5695), ∀ a, (k1_off406 v5695) a + S8x128.size a ≤ S12800x128.size a := fun v5695 k1_hw406 => k1_hw406.2

def k1_mult407 (v5709 : BitVec 32) : BitVec 32 :=
  let c3_i32_3260 : BitVec 32 := 3#32
  let v5710 : BitVec 32 := Scalar.shrsi v5709 c3_i32_3260
  let c3_i32_3261 : BitVec 32 := 3#32
  let v5711 : BitVec 32 := Scalar.shli v5710 c3_i32_3261
  v5711

def k1_off407 (v5709 : BitVec 32) : Fin 2 → Nat :=
  let c3_i32_3260 : BitVec 32 := 3#32
  let v5710 : BitVec 32 := Scalar.shrsi v5709 c3_i32_3260
  let c3_i32_3261 : BitVec 32 := 3#32
  let v5711 : BitVec 32 := Scalar.shli v5710 c3_i32_3261
  let v5712 : BitVec 32 := v5711
  let v5713 : Index := Scalar.indexCast v5712
  let c0_3262 : Index := 0#32
  ![v5713.toNat, 0]

def k1_chk407 (v5709 : BitVec 32) : Prop :=
  (8 ∣ (k1_mult407 v5709).toNat) ∧
  (∀ a, (k1_off407 v5709) a + S8x128.size a ≤ S12800x128.size a)
theorem k1_mult407_dvd : ∀ (v5709 : BitVec 32) (k1_hw407 : k1_chk407 v5709), 8 ∣ (k1_mult407 v5709).toNat := fun v5709 k1_hw407 => k1_hw407.1
theorem k1_off407_inb : ∀ (v5709 : BitVec 32) (k1_hw407 : k1_chk407 v5709), ∀ a, (k1_off407 v5709) a + S8x128.size a ≤ S12800x128.size a := fun v5709 k1_hw407 => k1_hw407.2

def k1_mult408 (v5723 : BitVec 32) : BitVec 32 :=
  let c3_i32_3268 : BitVec 32 := 3#32
  let v5724 : BitVec 32 := Scalar.shrsi v5723 c3_i32_3268
  let c3_i32_3269 : BitVec 32 := 3#32
  let v5725 : BitVec 32 := Scalar.shli v5724 c3_i32_3269
  v5725

def k1_off408 (v5723 : BitVec 32) : Fin 2 → Nat :=
  let c3_i32_3268 : BitVec 32 := 3#32
  let v5724 : BitVec 32 := Scalar.shrsi v5723 c3_i32_3268
  let c3_i32_3269 : BitVec 32 := 3#32
  let v5725 : BitVec 32 := Scalar.shli v5724 c3_i32_3269
  let v5726 : BitVec 32 := v5725
  let v5727 : Index := Scalar.indexCast v5726
  let c0_3270 : Index := 0#32
  ![v5727.toNat, 0]

def k1_chk408 (v5723 : BitVec 32) : Prop :=
  (8 ∣ (k1_mult408 v5723).toNat) ∧
  (∀ a, (k1_off408 v5723) a + S8x128.size a ≤ S12800x128.size a)
theorem k1_mult408_dvd : ∀ (v5723 : BitVec 32) (k1_hw408 : k1_chk408 v5723), 8 ∣ (k1_mult408 v5723).toNat := fun v5723 k1_hw408 => k1_hw408.1
theorem k1_off408_inb : ∀ (v5723 : BitVec 32) (k1_hw408 : k1_chk408 v5723), ∀ a, (k1_off408 v5723) a + S8x128.size a ≤ S12800x128.size a := fun v5723 k1_hw408 => k1_hw408.2

def k1_mult409 (v5737 : BitVec 32) : BitVec 32 :=
  let c3_i32_3276 : BitVec 32 := 3#32
  let v5738 : BitVec 32 := Scalar.shrsi v5737 c3_i32_3276
  let c3_i32_3277 : BitVec 32 := 3#32
  let v5739 : BitVec 32 := Scalar.shli v5738 c3_i32_3277
  v5739

def k1_off409 (v5737 : BitVec 32) : Fin 2 → Nat :=
  let c3_i32_3276 : BitVec 32 := 3#32
  let v5738 : BitVec 32 := Scalar.shrsi v5737 c3_i32_3276
  let c3_i32_3277 : BitVec 32 := 3#32
  let v5739 : BitVec 32 := Scalar.shli v5738 c3_i32_3277
  let v5740 : BitVec 32 := v5739
  let v5741 : Index := Scalar.indexCast v5740
  let c0_3278 : Index := 0#32
  ![v5741.toNat, 0]

def k1_chk409 (v5737 : BitVec 32) : Prop :=
  (8 ∣ (k1_mult409 v5737).toNat) ∧
  (∀ a, (k1_off409 v5737) a + S8x128.size a ≤ S12800x128.size a)
theorem k1_mult409_dvd : ∀ (v5737 : BitVec 32) (k1_hw409 : k1_chk409 v5737), 8 ∣ (k1_mult409 v5737).toNat := fun v5737 k1_hw409 => k1_hw409.1
theorem k1_off409_inb : ∀ (v5737 : BitVec 32) (k1_hw409 : k1_chk409 v5737), ∀ a, (k1_off409 v5737) a + S8x128.size a ≤ S12800x128.size a := fun v5737 k1_hw409 => k1_hw409.2

def k1_mult410 (v5751 : BitVec 32) : BitVec 32 :=
  let c3_i32_3284 : BitVec 32 := 3#32
  let v5752 : BitVec 32 := Scalar.shrsi v5751 c3_i32_3284
  let c3_i32_3285 : BitVec 32 := 3#32
  let v5753 : BitVec 32 := Scalar.shli v5752 c3_i32_3285
  v5753

def k1_off410 (v5751 : BitVec 32) : Fin 2 → Nat :=
  let c3_i32_3284 : BitVec 32 := 3#32
  let v5752 : BitVec 32 := Scalar.shrsi v5751 c3_i32_3284
  let c3_i32_3285 : BitVec 32 := 3#32
  let v5753 : BitVec 32 := Scalar.shli v5752 c3_i32_3285
  let v5754 : BitVec 32 := v5753
  let v5755 : Index := Scalar.indexCast v5754
  let c0_3286 : Index := 0#32
  ![v5755.toNat, 0]

def k1_chk410 (v5751 : BitVec 32) : Prop :=
  (8 ∣ (k1_mult410 v5751).toNat) ∧
  (∀ a, (k1_off410 v5751) a + S8x128.size a ≤ S12800x128.size a)
theorem k1_mult410_dvd : ∀ (v5751 : BitVec 32) (k1_hw410 : k1_chk410 v5751), 8 ∣ (k1_mult410 v5751).toNat := fun v5751 k1_hw410 => k1_hw410.1
theorem k1_off410_inb : ∀ (v5751 : BitVec 32) (k1_hw410 : k1_chk410 v5751), ∀ a, (k1_off410 v5751) a + S8x128.size a ≤ S12800x128.size a := fun v5751 k1_hw410 => k1_hw410.2

def k1_mult411 (v5765 : BitVec 32) : BitVec 32 :=
  let c3_i32_3292 : BitVec 32 := 3#32
  let v5766 : BitVec 32 := Scalar.shrsi v5765 c3_i32_3292
  let c3_i32_3293 : BitVec 32 := 3#32
  let v5767 : BitVec 32 := Scalar.shli v5766 c3_i32_3293
  v5767

def k1_off411 (v5765 : BitVec 32) : Fin 2 → Nat :=
  let c3_i32_3292 : BitVec 32 := 3#32
  let v5766 : BitVec 32 := Scalar.shrsi v5765 c3_i32_3292
  let c3_i32_3293 : BitVec 32 := 3#32
  let v5767 : BitVec 32 := Scalar.shli v5766 c3_i32_3293
  let v5768 : BitVec 32 := v5767
  let v5769 : Index := Scalar.indexCast v5768
  let c0_3294 : Index := 0#32
  ![v5769.toNat, 0]

def k1_chk411 (v5765 : BitVec 32) : Prop :=
  (8 ∣ (k1_mult411 v5765).toNat) ∧
  (∀ a, (k1_off411 v5765) a + S8x128.size a ≤ S12800x128.size a)
theorem k1_mult411_dvd : ∀ (v5765 : BitVec 32) (k1_hw411 : k1_chk411 v5765), 8 ∣ (k1_mult411 v5765).toNat := fun v5765 k1_hw411 => k1_hw411.1
theorem k1_off411_inb : ∀ (v5765 : BitVec 32) (k1_hw411 : k1_chk411 v5765), ∀ a, (k1_off411 v5765) a + S8x128.size a ≤ S12800x128.size a := fun v5765 k1_hw411 => k1_hw411.2

def k1_mult412 (v5779 : BitVec 32) : BitVec 32 :=
  let c3_i32_3300 : BitVec 32 := 3#32
  let v5780 : BitVec 32 := Scalar.shrsi v5779 c3_i32_3300
  let c3_i32_3301 : BitVec 32 := 3#32
  let v5781 : BitVec 32 := Scalar.shli v5780 c3_i32_3301
  v5781

def k1_off412 (v5779 : BitVec 32) : Fin 2 → Nat :=
  let c3_i32_3300 : BitVec 32 := 3#32
  let v5780 : BitVec 32 := Scalar.shrsi v5779 c3_i32_3300
  let c3_i32_3301 : BitVec 32 := 3#32
  let v5781 : BitVec 32 := Scalar.shli v5780 c3_i32_3301
  let v5782 : BitVec 32 := v5781
  let v5783 : Index := Scalar.indexCast v5782
  let c0_3302 : Index := 0#32
  ![v5783.toNat, 0]

def k1_chk412 (v5779 : BitVec 32) : Prop :=
  (8 ∣ (k1_mult412 v5779).toNat) ∧
  (∀ a, (k1_off412 v5779) a + S8x128.size a ≤ S12800x128.size a)
theorem k1_mult412_dvd : ∀ (v5779 : BitVec 32) (k1_hw412 : k1_chk412 v5779), 8 ∣ (k1_mult412 v5779).toNat := fun v5779 k1_hw412 => k1_hw412.1
theorem k1_off412_inb : ∀ (v5779 : BitVec 32) (k1_hw412 : k1_chk412 v5779), ∀ a, (k1_off412 v5779) a + S8x128.size a ≤ S12800x128.size a := fun v5779 k1_hw412 => k1_hw412.2

def k1_mult413 (v5793 : BitVec 32) : BitVec 32 :=
  let c3_i32_3308 : BitVec 32 := 3#32
  let v5794 : BitVec 32 := Scalar.shrsi v5793 c3_i32_3308
  let c3_i32_3309 : BitVec 32 := 3#32
  let v5795 : BitVec 32 := Scalar.shli v5794 c3_i32_3309
  v5795

def k1_off413 (v5793 : BitVec 32) : Fin 2 → Nat :=
  let c3_i32_3308 : BitVec 32 := 3#32
  let v5794 : BitVec 32 := Scalar.shrsi v5793 c3_i32_3308
  let c3_i32_3309 : BitVec 32 := 3#32
  let v5795 : BitVec 32 := Scalar.shli v5794 c3_i32_3309
  let v5796 : BitVec 32 := v5795
  let v5797 : Index := Scalar.indexCast v5796
  let c0_3310 : Index := 0#32
  ![v5797.toNat, 0]

def k1_chk413 (v5793 : BitVec 32) : Prop :=
  (8 ∣ (k1_mult413 v5793).toNat) ∧
  (∀ a, (k1_off413 v5793) a + S8x128.size a ≤ S12800x128.size a)
theorem k1_mult413_dvd : ∀ (v5793 : BitVec 32) (k1_hw413 : k1_chk413 v5793), 8 ∣ (k1_mult413 v5793).toNat := fun v5793 k1_hw413 => k1_hw413.1
theorem k1_off413_inb : ∀ (v5793 : BitVec 32) (k1_hw413 : k1_chk413 v5793), ∀ a, (k1_off413 v5793) a + S8x128.size a ≤ S12800x128.size a := fun v5793 k1_hw413 => k1_hw413.2

def k1_mult414 (v5807 : BitVec 32) : BitVec 32 :=
  let c3_i32_3316 : BitVec 32 := 3#32
  let v5808 : BitVec 32 := Scalar.shrsi v5807 c3_i32_3316
  let c3_i32_3317 : BitVec 32 := 3#32
  let v5809 : BitVec 32 := Scalar.shli v5808 c3_i32_3317
  v5809

def k1_off414 (v5807 : BitVec 32) : Fin 2 → Nat :=
  let c3_i32_3316 : BitVec 32 := 3#32
  let v5808 : BitVec 32 := Scalar.shrsi v5807 c3_i32_3316
  let c3_i32_3317 : BitVec 32 := 3#32
  let v5809 : BitVec 32 := Scalar.shli v5808 c3_i32_3317
  let v5810 : BitVec 32 := v5809
  let v5811 : Index := Scalar.indexCast v5810
  let c0_3318 : Index := 0#32
  ![v5811.toNat, 0]

def k1_chk414 (v5807 : BitVec 32) : Prop :=
  (8 ∣ (k1_mult414 v5807).toNat) ∧
  (∀ a, (k1_off414 v5807) a + S8x128.size a ≤ S12800x128.size a)
theorem k1_mult414_dvd : ∀ (v5807 : BitVec 32) (k1_hw414 : k1_chk414 v5807), 8 ∣ (k1_mult414 v5807).toNat := fun v5807 k1_hw414 => k1_hw414.1
theorem k1_off414_inb : ∀ (v5807 : BitVec 32) (k1_hw414 : k1_chk414 v5807), ∀ a, (k1_off414 v5807) a + S8x128.size a ≤ S12800x128.size a := fun v5807 k1_hw414 => k1_hw414.2

def k1_mult415 (v5821 : BitVec 32) : BitVec 32 :=
  let c3_i32_3324 : BitVec 32 := 3#32
  let v5822 : BitVec 32 := Scalar.shrsi v5821 c3_i32_3324
  let c3_i32_3325 : BitVec 32 := 3#32
  let v5823 : BitVec 32 := Scalar.shli v5822 c3_i32_3325
  v5823

def k1_off415 (v5821 : BitVec 32) : Fin 2 → Nat :=
  let c3_i32_3324 : BitVec 32 := 3#32
  let v5822 : BitVec 32 := Scalar.shrsi v5821 c3_i32_3324
  let c3_i32_3325 : BitVec 32 := 3#32
  let v5823 : BitVec 32 := Scalar.shli v5822 c3_i32_3325
  let v5824 : BitVec 32 := v5823
  let v5825 : Index := Scalar.indexCast v5824
  let c0_3326 : Index := 0#32
  ![v5825.toNat, 0]

def k1_chk415 (v5821 : BitVec 32) : Prop :=
  (8 ∣ (k1_mult415 v5821).toNat) ∧
  (∀ a, (k1_off415 v5821) a + S8x128.size a ≤ S12800x128.size a)
theorem k1_mult415_dvd : ∀ (v5821 : BitVec 32) (k1_hw415 : k1_chk415 v5821), 8 ∣ (k1_mult415 v5821).toNat := fun v5821 k1_hw415 => k1_hw415.1
theorem k1_off415_inb : ∀ (v5821 : BitVec 32) (k1_hw415 : k1_chk415 v5821), ∀ a, (k1_off415 v5821) a + S8x128.size a ≤ S12800x128.size a := fun v5821 k1_hw415 => k1_hw415.2

def k1_mult416 (v5835 : BitVec 32) : BitVec 32 :=
  let c3_i32_3332 : BitVec 32 := 3#32
  let v5836 : BitVec 32 := Scalar.shrsi v5835 c3_i32_3332
  let c3_i32_3333 : BitVec 32 := 3#32
  let v5837 : BitVec 32 := Scalar.shli v5836 c3_i32_3333
  v5837

def k1_off416 (v5835 : BitVec 32) : Fin 2 → Nat :=
  let c3_i32_3332 : BitVec 32 := 3#32
  let v5836 : BitVec 32 := Scalar.shrsi v5835 c3_i32_3332
  let c3_i32_3333 : BitVec 32 := 3#32
  let v5837 : BitVec 32 := Scalar.shli v5836 c3_i32_3333
  let v5838 : BitVec 32 := v5837
  let v5839 : Index := Scalar.indexCast v5838
  let c0_3334 : Index := 0#32
  ![v5839.toNat, 0]

def k1_chk416 (v5835 : BitVec 32) : Prop :=
  (8 ∣ (k1_mult416 v5835).toNat) ∧
  (∀ a, (k1_off416 v5835) a + S8x128.size a ≤ S12800x128.size a)
theorem k1_mult416_dvd : ∀ (v5835 : BitVec 32) (k1_hw416 : k1_chk416 v5835), 8 ∣ (k1_mult416 v5835).toNat := fun v5835 k1_hw416 => k1_hw416.1
theorem k1_off416_inb : ∀ (v5835 : BitVec 32) (k1_hw416 : k1_chk416 v5835), ∀ a, (k1_off416 v5835) a + S8x128.size a ≤ S12800x128.size a := fun v5835 k1_hw416 => k1_hw416.2

def k1_mult417 (v5849 : BitVec 32) : BitVec 32 :=
  let c3_i32_3340 : BitVec 32 := 3#32
  let v5850 : BitVec 32 := Scalar.shrsi v5849 c3_i32_3340
  let c3_i32_3341 : BitVec 32 := 3#32
  let v5851 : BitVec 32 := Scalar.shli v5850 c3_i32_3341
  v5851

def k1_off417 (v5849 : BitVec 32) : Fin 2 → Nat :=
  let c3_i32_3340 : BitVec 32 := 3#32
  let v5850 : BitVec 32 := Scalar.shrsi v5849 c3_i32_3340
  let c3_i32_3341 : BitVec 32 := 3#32
  let v5851 : BitVec 32 := Scalar.shli v5850 c3_i32_3341
  let v5852 : BitVec 32 := v5851
  let v5853 : Index := Scalar.indexCast v5852
  let c0_3342 : Index := 0#32
  ![v5853.toNat, 0]

def k1_chk417 (v5849 : BitVec 32) : Prop :=
  (8 ∣ (k1_mult417 v5849).toNat) ∧
  (∀ a, (k1_off417 v5849) a + S8x128.size a ≤ S12800x128.size a)
theorem k1_mult417_dvd : ∀ (v5849 : BitVec 32) (k1_hw417 : k1_chk417 v5849), 8 ∣ (k1_mult417 v5849).toNat := fun v5849 k1_hw417 => k1_hw417.1
theorem k1_off417_inb : ∀ (v5849 : BitVec 32) (k1_hw417 : k1_chk417 v5849), ∀ a, (k1_off417 v5849) a + S8x128.size a ≤ S12800x128.size a := fun v5849 k1_hw417 => k1_hw417.2

def k1_mult418 (v5863 : BitVec 32) : BitVec 32 :=
  let c3_i32_3348 : BitVec 32 := 3#32
  let v5864 : BitVec 32 := Scalar.shrsi v5863 c3_i32_3348
  let c3_i32_3349 : BitVec 32 := 3#32
  let v5865 : BitVec 32 := Scalar.shli v5864 c3_i32_3349
  v5865

def k1_off418 (v5863 : BitVec 32) : Fin 2 → Nat :=
  let c3_i32_3348 : BitVec 32 := 3#32
  let v5864 : BitVec 32 := Scalar.shrsi v5863 c3_i32_3348
  let c3_i32_3349 : BitVec 32 := 3#32
  let v5865 : BitVec 32 := Scalar.shli v5864 c3_i32_3349
  let v5866 : BitVec 32 := v5865
  let v5867 : Index := Scalar.indexCast v5866
  let c0_3350 : Index := 0#32
  ![v5867.toNat, 0]

def k1_chk418 (v5863 : BitVec 32) : Prop :=
  (8 ∣ (k1_mult418 v5863).toNat) ∧
  (∀ a, (k1_off418 v5863) a + S8x128.size a ≤ S12800x128.size a)
theorem k1_mult418_dvd : ∀ (v5863 : BitVec 32) (k1_hw418 : k1_chk418 v5863), 8 ∣ (k1_mult418 v5863).toNat := fun v5863 k1_hw418 => k1_hw418.1
theorem k1_off418_inb : ∀ (v5863 : BitVec 32) (k1_hw418 : k1_chk418 v5863), ∀ a, (k1_off418 v5863) a + S8x128.size a ≤ S12800x128.size a := fun v5863 k1_hw418 => k1_hw418.2

def k1_mult419 (v5877 : BitVec 32) : BitVec 32 :=
  let c3_i32_3356 : BitVec 32 := 3#32
  let v5878 : BitVec 32 := Scalar.shrsi v5877 c3_i32_3356
  let c3_i32_3357 : BitVec 32 := 3#32
  let v5879 : BitVec 32 := Scalar.shli v5878 c3_i32_3357
  v5879

def k1_off419 (v5877 : BitVec 32) : Fin 2 → Nat :=
  let c3_i32_3356 : BitVec 32 := 3#32
  let v5878 : BitVec 32 := Scalar.shrsi v5877 c3_i32_3356
  let c3_i32_3357 : BitVec 32 := 3#32
  let v5879 : BitVec 32 := Scalar.shli v5878 c3_i32_3357
  let v5880 : BitVec 32 := v5879
  let v5881 : Index := Scalar.indexCast v5880
  let c0_3358 : Index := 0#32
  ![v5881.toNat, 0]

def k1_chk419 (v5877 : BitVec 32) : Prop :=
  (8 ∣ (k1_mult419 v5877).toNat) ∧
  (∀ a, (k1_off419 v5877) a + S8x128.size a ≤ S12800x128.size a)
theorem k1_mult419_dvd : ∀ (v5877 : BitVec 32) (k1_hw419 : k1_chk419 v5877), 8 ∣ (k1_mult419 v5877).toNat := fun v5877 k1_hw419 => k1_hw419.1
theorem k1_off419_inb : ∀ (v5877 : BitVec 32) (k1_hw419 : k1_chk419 v5877), ∀ a, (k1_off419 v5877) a + S8x128.size a ≤ S12800x128.size a := fun v5877 k1_hw419 => k1_hw419.2

def k1_mult420 (v5891 : BitVec 32) : BitVec 32 :=
  let c3_i32_3364 : BitVec 32 := 3#32
  let v5892 : BitVec 32 := Scalar.shrsi v5891 c3_i32_3364
  let c3_i32_3365 : BitVec 32 := 3#32
  let v5893 : BitVec 32 := Scalar.shli v5892 c3_i32_3365
  v5893

def k1_off420 (v5891 : BitVec 32) : Fin 2 → Nat :=
  let c3_i32_3364 : BitVec 32 := 3#32
  let v5892 : BitVec 32 := Scalar.shrsi v5891 c3_i32_3364
  let c3_i32_3365 : BitVec 32 := 3#32
  let v5893 : BitVec 32 := Scalar.shli v5892 c3_i32_3365
  let v5894 : BitVec 32 := v5893
  let v5895 : Index := Scalar.indexCast v5894
  let c0_3366 : Index := 0#32
  ![v5895.toNat, 0]

def k1_chk420 (v5891 : BitVec 32) : Prop :=
  (8 ∣ (k1_mult420 v5891).toNat) ∧
  (∀ a, (k1_off420 v5891) a + S8x128.size a ≤ S12800x128.size a)
theorem k1_mult420_dvd : ∀ (v5891 : BitVec 32) (k1_hw420 : k1_chk420 v5891), 8 ∣ (k1_mult420 v5891).toNat := fun v5891 k1_hw420 => k1_hw420.1
theorem k1_off420_inb : ∀ (v5891 : BitVec 32) (k1_hw420 : k1_chk420 v5891), ∀ a, (k1_off420 v5891) a + S8x128.size a ≤ S12800x128.size a := fun v5891 k1_hw420 => k1_hw420.2

def k1_mult421 (v5905 : BitVec 32) : BitVec 32 :=
  let c3_i32_3372 : BitVec 32 := 3#32
  let v5906 : BitVec 32 := Scalar.shrsi v5905 c3_i32_3372
  let c3_i32_3373 : BitVec 32 := 3#32
  let v5907 : BitVec 32 := Scalar.shli v5906 c3_i32_3373
  v5907

def k1_off421 (v5905 : BitVec 32) : Fin 2 → Nat :=
  let c3_i32_3372 : BitVec 32 := 3#32
  let v5906 : BitVec 32 := Scalar.shrsi v5905 c3_i32_3372
  let c3_i32_3373 : BitVec 32 := 3#32
  let v5907 : BitVec 32 := Scalar.shli v5906 c3_i32_3373
  let v5908 : BitVec 32 := v5907
  let v5909 : Index := Scalar.indexCast v5908
  let c0_3374 : Index := 0#32
  ![v5909.toNat, 0]

def k1_chk421 (v5905 : BitVec 32) : Prop :=
  (8 ∣ (k1_mult421 v5905).toNat) ∧
  (∀ a, (k1_off421 v5905) a + S8x128.size a ≤ S12800x128.size a)
theorem k1_mult421_dvd : ∀ (v5905 : BitVec 32) (k1_hw421 : k1_chk421 v5905), 8 ∣ (k1_mult421 v5905).toNat := fun v5905 k1_hw421 => k1_hw421.1
theorem k1_off421_inb : ∀ (v5905 : BitVec 32) (k1_hw421 : k1_chk421 v5905), ∀ a, (k1_off421 v5905) a + S8x128.size a ≤ S12800x128.size a := fun v5905 k1_hw421 => k1_hw421.2

def k1_mult422 (v5919 : BitVec 32) : BitVec 32 :=
  let c3_i32_3380 : BitVec 32 := 3#32
  let v5920 : BitVec 32 := Scalar.shrsi v5919 c3_i32_3380
  let c3_i32_3381 : BitVec 32 := 3#32
  let v5921 : BitVec 32 := Scalar.shli v5920 c3_i32_3381
  v5921

def k1_off422 (v5919 : BitVec 32) : Fin 2 → Nat :=
  let c3_i32_3380 : BitVec 32 := 3#32
  let v5920 : BitVec 32 := Scalar.shrsi v5919 c3_i32_3380
  let c3_i32_3381 : BitVec 32 := 3#32
  let v5921 : BitVec 32 := Scalar.shli v5920 c3_i32_3381
  let v5922 : BitVec 32 := v5921
  let v5923 : Index := Scalar.indexCast v5922
  let c0_3382 : Index := 0#32
  ![v5923.toNat, 0]

def k1_chk422 (v5919 : BitVec 32) : Prop :=
  (8 ∣ (k1_mult422 v5919).toNat) ∧
  (∀ a, (k1_off422 v5919) a + S8x128.size a ≤ S12800x128.size a)
theorem k1_mult422_dvd : ∀ (v5919 : BitVec 32) (k1_hw422 : k1_chk422 v5919), 8 ∣ (k1_mult422 v5919).toNat := fun v5919 k1_hw422 => k1_hw422.1
theorem k1_off422_inb : ∀ (v5919 : BitVec 32) (k1_hw422 : k1_chk422 v5919), ∀ a, (k1_off422 v5919) a + S8x128.size a ≤ S12800x128.size a := fun v5919 k1_hw422 => k1_hw422.2

def k1_mult423 (v5933 : BitVec 32) : BitVec 32 :=
  let c3_i32_3388 : BitVec 32 := 3#32
  let v5934 : BitVec 32 := Scalar.shrsi v5933 c3_i32_3388
  let c3_i32_3389 : BitVec 32 := 3#32
  let v5935 : BitVec 32 := Scalar.shli v5934 c3_i32_3389
  v5935

def k1_off423 (v5933 : BitVec 32) : Fin 2 → Nat :=
  let c3_i32_3388 : BitVec 32 := 3#32
  let v5934 : BitVec 32 := Scalar.shrsi v5933 c3_i32_3388
  let c3_i32_3389 : BitVec 32 := 3#32
  let v5935 : BitVec 32 := Scalar.shli v5934 c3_i32_3389
  let v5936 : BitVec 32 := v5935
  let v5937 : Index := Scalar.indexCast v5936
  let c0_3390 : Index := 0#32
  ![v5937.toNat, 0]

def k1_chk423 (v5933 : BitVec 32) : Prop :=
  (8 ∣ (k1_mult423 v5933).toNat) ∧
  (∀ a, (k1_off423 v5933) a + S8x128.size a ≤ S12800x128.size a)
theorem k1_mult423_dvd : ∀ (v5933 : BitVec 32) (k1_hw423 : k1_chk423 v5933), 8 ∣ (k1_mult423 v5933).toNat := fun v5933 k1_hw423 => k1_hw423.1
theorem k1_off423_inb : ∀ (v5933 : BitVec 32) (k1_hw423 : k1_chk423 v5933), ∀ a, (k1_off423 v5933) a + S8x128.size a ≤ S12800x128.size a := fun v5933 k1_hw423 => k1_hw423.2

def k1_mult424 (v5947 : BitVec 32) : BitVec 32 :=
  let c3_i32_3396 : BitVec 32 := 3#32
  let v5948 : BitVec 32 := Scalar.shrsi v5947 c3_i32_3396
  let c3_i32_3397 : BitVec 32 := 3#32
  let v5949 : BitVec 32 := Scalar.shli v5948 c3_i32_3397
  v5949

def k1_off424 (v5947 : BitVec 32) : Fin 2 → Nat :=
  let c3_i32_3396 : BitVec 32 := 3#32
  let v5948 : BitVec 32 := Scalar.shrsi v5947 c3_i32_3396
  let c3_i32_3397 : BitVec 32 := 3#32
  let v5949 : BitVec 32 := Scalar.shli v5948 c3_i32_3397
  let v5950 : BitVec 32 := v5949
  let v5951 : Index := Scalar.indexCast v5950
  let c0_3398 : Index := 0#32
  ![v5951.toNat, 0]

def k1_chk424 (v5947 : BitVec 32) : Prop :=
  (8 ∣ (k1_mult424 v5947).toNat) ∧
  (∀ a, (k1_off424 v5947) a + S8x128.size a ≤ S12800x128.size a)
theorem k1_mult424_dvd : ∀ (v5947 : BitVec 32) (k1_hw424 : k1_chk424 v5947), 8 ∣ (k1_mult424 v5947).toNat := fun v5947 k1_hw424 => k1_hw424.1
theorem k1_off424_inb : ∀ (v5947 : BitVec 32) (k1_hw424 : k1_chk424 v5947), ∀ a, (k1_off424 v5947) a + S8x128.size a ≤ S12800x128.size a := fun v5947 k1_hw424 => k1_hw424.2

def k1_mult425 (v5961 : BitVec 32) : BitVec 32 :=
  let c3_i32_3404 : BitVec 32 := 3#32
  let v5962 : BitVec 32 := Scalar.shrsi v5961 c3_i32_3404
  let c3_i32_3405 : BitVec 32 := 3#32
  let v5963 : BitVec 32 := Scalar.shli v5962 c3_i32_3405
  v5963

def k1_off425 (v5961 : BitVec 32) : Fin 2 → Nat :=
  let c3_i32_3404 : BitVec 32 := 3#32
  let v5962 : BitVec 32 := Scalar.shrsi v5961 c3_i32_3404
  let c3_i32_3405 : BitVec 32 := 3#32
  let v5963 : BitVec 32 := Scalar.shli v5962 c3_i32_3405
  let v5964 : BitVec 32 := v5963
  let v5965 : Index := Scalar.indexCast v5964
  let c0_3406 : Index := 0#32
  ![v5965.toNat, 0]

def k1_chk425 (v5961 : BitVec 32) : Prop :=
  (8 ∣ (k1_mult425 v5961).toNat) ∧
  (∀ a, (k1_off425 v5961) a + S8x128.size a ≤ S12800x128.size a)
theorem k1_mult425_dvd : ∀ (v5961 : BitVec 32) (k1_hw425 : k1_chk425 v5961), 8 ∣ (k1_mult425 v5961).toNat := fun v5961 k1_hw425 => k1_hw425.1
theorem k1_off425_inb : ∀ (v5961 : BitVec 32) (k1_hw425 : k1_chk425 v5961), ∀ a, (k1_off425 v5961) a + S8x128.size a ≤ S12800x128.size a := fun v5961 k1_hw425 => k1_hw425.2

def k1_mult426 (v5975 : BitVec 32) : BitVec 32 :=
  let c3_i32_3412 : BitVec 32 := 3#32
  let v5976 : BitVec 32 := Scalar.shrsi v5975 c3_i32_3412
  let c3_i32_3413 : BitVec 32 := 3#32
  let v5977 : BitVec 32 := Scalar.shli v5976 c3_i32_3413
  v5977

def k1_off426 (v5975 : BitVec 32) : Fin 2 → Nat :=
  let c3_i32_3412 : BitVec 32 := 3#32
  let v5976 : BitVec 32 := Scalar.shrsi v5975 c3_i32_3412
  let c3_i32_3413 : BitVec 32 := 3#32
  let v5977 : BitVec 32 := Scalar.shli v5976 c3_i32_3413
  let v5978 : BitVec 32 := v5977
  let v5979 : Index := Scalar.indexCast v5978
  let c0_3414 : Index := 0#32
  ![v5979.toNat, 0]

def k1_chk426 (v5975 : BitVec 32) : Prop :=
  (8 ∣ (k1_mult426 v5975).toNat) ∧
  (∀ a, (k1_off426 v5975) a + S8x128.size a ≤ S12800x128.size a)
theorem k1_mult426_dvd : ∀ (v5975 : BitVec 32) (k1_hw426 : k1_chk426 v5975), 8 ∣ (k1_mult426 v5975).toNat := fun v5975 k1_hw426 => k1_hw426.1
theorem k1_off426_inb : ∀ (v5975 : BitVec 32) (k1_hw426 : k1_chk426 v5975), ∀ a, (k1_off426 v5975) a + S8x128.size a ≤ S12800x128.size a := fun v5975 k1_hw426 => k1_hw426.2

def k1_mult427 (v5989 : BitVec 32) : BitVec 32 :=
  let c3_i32_3420 : BitVec 32 := 3#32
  let v5990 : BitVec 32 := Scalar.shrsi v5989 c3_i32_3420
  let c3_i32_3421 : BitVec 32 := 3#32
  let v5991 : BitVec 32 := Scalar.shli v5990 c3_i32_3421
  v5991

def k1_off427 (v5989 : BitVec 32) : Fin 2 → Nat :=
  let c3_i32_3420 : BitVec 32 := 3#32
  let v5990 : BitVec 32 := Scalar.shrsi v5989 c3_i32_3420
  let c3_i32_3421 : BitVec 32 := 3#32
  let v5991 : BitVec 32 := Scalar.shli v5990 c3_i32_3421
  let v5992 : BitVec 32 := v5991
  let v5993 : Index := Scalar.indexCast v5992
  let c0_3422 : Index := 0#32
  ![v5993.toNat, 0]

def k1_chk427 (v5989 : BitVec 32) : Prop :=
  (8 ∣ (k1_mult427 v5989).toNat) ∧
  (∀ a, (k1_off427 v5989) a + S8x128.size a ≤ S12800x128.size a)
theorem k1_mult427_dvd : ∀ (v5989 : BitVec 32) (k1_hw427 : k1_chk427 v5989), 8 ∣ (k1_mult427 v5989).toNat := fun v5989 k1_hw427 => k1_hw427.1
theorem k1_off427_inb : ∀ (v5989 : BitVec 32) (k1_hw427 : k1_chk427 v5989), ∀ a, (k1_off427 v5989) a + S8x128.size a ≤ S12800x128.size a := fun v5989 k1_hw427 => k1_hw427.2

def k1_mult428 (v6003 : BitVec 32) : BitVec 32 :=
  let c3_i32_3428 : BitVec 32 := 3#32
  let v6004 : BitVec 32 := Scalar.shrsi v6003 c3_i32_3428
  let c3_i32_3429 : BitVec 32 := 3#32
  let v6005 : BitVec 32 := Scalar.shli v6004 c3_i32_3429
  v6005

def k1_off428 (v6003 : BitVec 32) : Fin 2 → Nat :=
  let c3_i32_3428 : BitVec 32 := 3#32
  let v6004 : BitVec 32 := Scalar.shrsi v6003 c3_i32_3428
  let c3_i32_3429 : BitVec 32 := 3#32
  let v6005 : BitVec 32 := Scalar.shli v6004 c3_i32_3429
  let v6006 : BitVec 32 := v6005
  let v6007 : Index := Scalar.indexCast v6006
  let c0_3430 : Index := 0#32
  ![v6007.toNat, 0]

def k1_chk428 (v6003 : BitVec 32) : Prop :=
  (8 ∣ (k1_mult428 v6003).toNat) ∧
  (∀ a, (k1_off428 v6003) a + S8x128.size a ≤ S12800x128.size a)
theorem k1_mult428_dvd : ∀ (v6003 : BitVec 32) (k1_hw428 : k1_chk428 v6003), 8 ∣ (k1_mult428 v6003).toNat := fun v6003 k1_hw428 => k1_hw428.1
theorem k1_off428_inb : ∀ (v6003 : BitVec 32) (k1_hw428 : k1_chk428 v6003), ∀ a, (k1_off428 v6003) a + S8x128.size a ≤ S12800x128.size a := fun v6003 k1_hw428 => k1_hw428.2

def k1_mult429 (v6017 : BitVec 32) : BitVec 32 :=
  let c3_i32_3436 : BitVec 32 := 3#32
  let v6018 : BitVec 32 := Scalar.shrsi v6017 c3_i32_3436
  let c3_i32_3437 : BitVec 32 := 3#32
  let v6019 : BitVec 32 := Scalar.shli v6018 c3_i32_3437
  v6019

def k1_off429 (v6017 : BitVec 32) : Fin 2 → Nat :=
  let c3_i32_3436 : BitVec 32 := 3#32
  let v6018 : BitVec 32 := Scalar.shrsi v6017 c3_i32_3436
  let c3_i32_3437 : BitVec 32 := 3#32
  let v6019 : BitVec 32 := Scalar.shli v6018 c3_i32_3437
  let v6020 : BitVec 32 := v6019
  let v6021 : Index := Scalar.indexCast v6020
  let c0_3438 : Index := 0#32
  ![v6021.toNat, 0]

def k1_chk429 (v6017 : BitVec 32) : Prop :=
  (8 ∣ (k1_mult429 v6017).toNat) ∧
  (∀ a, (k1_off429 v6017) a + S8x128.size a ≤ S12800x128.size a)
theorem k1_mult429_dvd : ∀ (v6017 : BitVec 32) (k1_hw429 : k1_chk429 v6017), 8 ∣ (k1_mult429 v6017).toNat := fun v6017 k1_hw429 => k1_hw429.1
theorem k1_off429_inb : ∀ (v6017 : BitVec 32) (k1_hw429 : k1_chk429 v6017), ∀ a, (k1_off429 v6017) a + S8x128.size a ≤ S12800x128.size a := fun v6017 k1_hw429 => k1_hw429.2

def k1_mult430 (v6031 : BitVec 32) : BitVec 32 :=
  let c3_i32_3444 : BitVec 32 := 3#32
  let v6032 : BitVec 32 := Scalar.shrsi v6031 c3_i32_3444
  let c3_i32_3445 : BitVec 32 := 3#32
  let v6033 : BitVec 32 := Scalar.shli v6032 c3_i32_3445
  v6033

def k1_off430 (v6031 : BitVec 32) : Fin 2 → Nat :=
  let c3_i32_3444 : BitVec 32 := 3#32
  let v6032 : BitVec 32 := Scalar.shrsi v6031 c3_i32_3444
  let c3_i32_3445 : BitVec 32 := 3#32
  let v6033 : BitVec 32 := Scalar.shli v6032 c3_i32_3445
  let v6034 : BitVec 32 := v6033
  let v6035 : Index := Scalar.indexCast v6034
  let c0_3446 : Index := 0#32
  ![v6035.toNat, 0]

def k1_chk430 (v6031 : BitVec 32) : Prop :=
  (8 ∣ (k1_mult430 v6031).toNat) ∧
  (∀ a, (k1_off430 v6031) a + S8x128.size a ≤ S12800x128.size a)
theorem k1_mult430_dvd : ∀ (v6031 : BitVec 32) (k1_hw430 : k1_chk430 v6031), 8 ∣ (k1_mult430 v6031).toNat := fun v6031 k1_hw430 => k1_hw430.1
theorem k1_off430_inb : ∀ (v6031 : BitVec 32) (k1_hw430 : k1_chk430 v6031), ∀ a, (k1_off430 v6031) a + S8x128.size a ≤ S12800x128.size a := fun v6031 k1_hw430 => k1_hw430.2

def k1_mult431 (v6045 : BitVec 32) : BitVec 32 :=
  let c3_i32_3452 : BitVec 32 := 3#32
  let v6046 : BitVec 32 := Scalar.shrsi v6045 c3_i32_3452
  let c3_i32_3453 : BitVec 32 := 3#32
  let v6047 : BitVec 32 := Scalar.shli v6046 c3_i32_3453
  v6047

def k1_off431 (v6045 : BitVec 32) : Fin 2 → Nat :=
  let c3_i32_3452 : BitVec 32 := 3#32
  let v6046 : BitVec 32 := Scalar.shrsi v6045 c3_i32_3452
  let c3_i32_3453 : BitVec 32 := 3#32
  let v6047 : BitVec 32 := Scalar.shli v6046 c3_i32_3453
  let v6048 : BitVec 32 := v6047
  let v6049 : Index := Scalar.indexCast v6048
  let c0_3454 : Index := 0#32
  ![v6049.toNat, 0]

def k1_chk431 (v6045 : BitVec 32) : Prop :=
  (8 ∣ (k1_mult431 v6045).toNat) ∧
  (∀ a, (k1_off431 v6045) a + S8x128.size a ≤ S12800x128.size a)
theorem k1_mult431_dvd : ∀ (v6045 : BitVec 32) (k1_hw431 : k1_chk431 v6045), 8 ∣ (k1_mult431 v6045).toNat := fun v6045 k1_hw431 => k1_hw431.1
theorem k1_off431_inb : ∀ (v6045 : BitVec 32) (k1_hw431 : k1_chk431 v6045), ∀ a, (k1_off431 v6045) a + S8x128.size a ≤ S12800x128.size a := fun v6045 k1_hw431 => k1_hw431.2

def k1_mult432 (v6059 : BitVec 32) : BitVec 32 :=
  let c3_i32_3460 : BitVec 32 := 3#32
  let v6060 : BitVec 32 := Scalar.shrsi v6059 c3_i32_3460
  let c3_i32_3461 : BitVec 32 := 3#32
  let v6061 : BitVec 32 := Scalar.shli v6060 c3_i32_3461
  v6061

def k1_off432 (v6059 : BitVec 32) : Fin 2 → Nat :=
  let c3_i32_3460 : BitVec 32 := 3#32
  let v6060 : BitVec 32 := Scalar.shrsi v6059 c3_i32_3460
  let c3_i32_3461 : BitVec 32 := 3#32
  let v6061 : BitVec 32 := Scalar.shli v6060 c3_i32_3461
  let v6062 : BitVec 32 := v6061
  let v6063 : Index := Scalar.indexCast v6062
  let c0_3462 : Index := 0#32
  ![v6063.toNat, 0]

def k1_chk432 (v6059 : BitVec 32) : Prop :=
  (8 ∣ (k1_mult432 v6059).toNat) ∧
  (∀ a, (k1_off432 v6059) a + S8x128.size a ≤ S12800x128.size a)
theorem k1_mult432_dvd : ∀ (v6059 : BitVec 32) (k1_hw432 : k1_chk432 v6059), 8 ∣ (k1_mult432 v6059).toNat := fun v6059 k1_hw432 => k1_hw432.1
theorem k1_off432_inb : ∀ (v6059 : BitVec 32) (k1_hw432 : k1_chk432 v6059), ∀ a, (k1_off432 v6059) a + S8x128.size a ≤ S12800x128.size a := fun v6059 k1_hw432 => k1_hw432.2

def k1_mult433 (v6073 : BitVec 32) : BitVec 32 :=
  let c3_i32_3468 : BitVec 32 := 3#32
  let v6074 : BitVec 32 := Scalar.shrsi v6073 c3_i32_3468
  let c3_i32_3469 : BitVec 32 := 3#32
  let v6075 : BitVec 32 := Scalar.shli v6074 c3_i32_3469
  v6075

def k1_off433 (v6073 : BitVec 32) : Fin 2 → Nat :=
  let c3_i32_3468 : BitVec 32 := 3#32
  let v6074 : BitVec 32 := Scalar.shrsi v6073 c3_i32_3468
  let c3_i32_3469 : BitVec 32 := 3#32
  let v6075 : BitVec 32 := Scalar.shli v6074 c3_i32_3469
  let v6076 : BitVec 32 := v6075
  let v6077 : Index := Scalar.indexCast v6076
  let c0_3470 : Index := 0#32
  ![v6077.toNat, 0]

def k1_chk433 (v6073 : BitVec 32) : Prop :=
  (8 ∣ (k1_mult433 v6073).toNat) ∧
  (∀ a, (k1_off433 v6073) a + S8x128.size a ≤ S12800x128.size a)
theorem k1_mult433_dvd : ∀ (v6073 : BitVec 32) (k1_hw433 : k1_chk433 v6073), 8 ∣ (k1_mult433 v6073).toNat := fun v6073 k1_hw433 => k1_hw433.1
theorem k1_off433_inb : ∀ (v6073 : BitVec 32) (k1_hw433 : k1_chk433 v6073), ∀ a, (k1_off433 v6073) a + S8x128.size a ≤ S12800x128.size a := fun v6073 k1_hw433 => k1_hw433.2

def k1_mult434 (v6087 : BitVec 32) : BitVec 32 :=
  let c3_i32_3476 : BitVec 32 := 3#32
  let v6088 : BitVec 32 := Scalar.shrsi v6087 c3_i32_3476
  let c3_i32_3477 : BitVec 32 := 3#32
  let v6089 : BitVec 32 := Scalar.shli v6088 c3_i32_3477
  v6089

def k1_off434 (v6087 : BitVec 32) : Fin 2 → Nat :=
  let c3_i32_3476 : BitVec 32 := 3#32
  let v6088 : BitVec 32 := Scalar.shrsi v6087 c3_i32_3476
  let c3_i32_3477 : BitVec 32 := 3#32
  let v6089 : BitVec 32 := Scalar.shli v6088 c3_i32_3477
  let v6090 : BitVec 32 := v6089
  let v6091 : Index := Scalar.indexCast v6090
  let c0_3478 : Index := 0#32
  ![v6091.toNat, 0]

def k1_chk434 (v6087 : BitVec 32) : Prop :=
  (8 ∣ (k1_mult434 v6087).toNat) ∧
  (∀ a, (k1_off434 v6087) a + S8x128.size a ≤ S12800x128.size a)
theorem k1_mult434_dvd : ∀ (v6087 : BitVec 32) (k1_hw434 : k1_chk434 v6087), 8 ∣ (k1_mult434 v6087).toNat := fun v6087 k1_hw434 => k1_hw434.1
theorem k1_off434_inb : ∀ (v6087 : BitVec 32) (k1_hw434 : k1_chk434 v6087), ∀ a, (k1_off434 v6087) a + S8x128.size a ≤ S12800x128.size a := fun v6087 k1_hw434 => k1_hw434.2

def k1_mult435 (v6101 : BitVec 32) : BitVec 32 :=
  let c3_i32_3484 : BitVec 32 := 3#32
  let v6102 : BitVec 32 := Scalar.shrsi v6101 c3_i32_3484
  let c3_i32_3485 : BitVec 32 := 3#32
  let v6103 : BitVec 32 := Scalar.shli v6102 c3_i32_3485
  v6103

def k1_off435 (v6101 : BitVec 32) : Fin 2 → Nat :=
  let c3_i32_3484 : BitVec 32 := 3#32
  let v6102 : BitVec 32 := Scalar.shrsi v6101 c3_i32_3484
  let c3_i32_3485 : BitVec 32 := 3#32
  let v6103 : BitVec 32 := Scalar.shli v6102 c3_i32_3485
  let v6104 : BitVec 32 := v6103
  let v6105 : Index := Scalar.indexCast v6104
  let c0_3486 : Index := 0#32
  ![v6105.toNat, 0]

def k1_chk435 (v6101 : BitVec 32) : Prop :=
  (8 ∣ (k1_mult435 v6101).toNat) ∧
  (∀ a, (k1_off435 v6101) a + S8x128.size a ≤ S12800x128.size a)
theorem k1_mult435_dvd : ∀ (v6101 : BitVec 32) (k1_hw435 : k1_chk435 v6101), 8 ∣ (k1_mult435 v6101).toNat := fun v6101 k1_hw435 => k1_hw435.1
theorem k1_off435_inb : ∀ (v6101 : BitVec 32) (k1_hw435 : k1_chk435 v6101), ∀ a, (k1_off435 v6101) a + S8x128.size a ≤ S12800x128.size a := fun v6101 k1_hw435 => k1_hw435.2

def k1_mult436 (v6115 : BitVec 32) : BitVec 32 :=
  let c3_i32_3492 : BitVec 32 := 3#32
  let v6116 : BitVec 32 := Scalar.shrsi v6115 c3_i32_3492
  let c3_i32_3493 : BitVec 32 := 3#32
  let v6117 : BitVec 32 := Scalar.shli v6116 c3_i32_3493
  v6117

def k1_off436 (v6115 : BitVec 32) : Fin 2 → Nat :=
  let c3_i32_3492 : BitVec 32 := 3#32
  let v6116 : BitVec 32 := Scalar.shrsi v6115 c3_i32_3492
  let c3_i32_3493 : BitVec 32 := 3#32
  let v6117 : BitVec 32 := Scalar.shli v6116 c3_i32_3493
  let v6118 : BitVec 32 := v6117
  let v6119 : Index := Scalar.indexCast v6118
  let c0_3494 : Index := 0#32
  ![v6119.toNat, 0]

def k1_chk436 (v6115 : BitVec 32) : Prop :=
  (8 ∣ (k1_mult436 v6115).toNat) ∧
  (∀ a, (k1_off436 v6115) a + S8x128.size a ≤ S12800x128.size a)
theorem k1_mult436_dvd : ∀ (v6115 : BitVec 32) (k1_hw436 : k1_chk436 v6115), 8 ∣ (k1_mult436 v6115).toNat := fun v6115 k1_hw436 => k1_hw436.1
theorem k1_off436_inb : ∀ (v6115 : BitVec 32) (k1_hw436 : k1_chk436 v6115), ∀ a, (k1_off436 v6115) a + S8x128.size a ≤ S12800x128.size a := fun v6115 k1_hw436 => k1_hw436.2

def k1_mult437 (v6129 : BitVec 32) : BitVec 32 :=
  let c3_i32_3500 : BitVec 32 := 3#32
  let v6130 : BitVec 32 := Scalar.shrsi v6129 c3_i32_3500
  let c3_i32_3501 : BitVec 32 := 3#32
  let v6131 : BitVec 32 := Scalar.shli v6130 c3_i32_3501
  v6131

def k1_off437 (v6129 : BitVec 32) : Fin 2 → Nat :=
  let c3_i32_3500 : BitVec 32 := 3#32
  let v6130 : BitVec 32 := Scalar.shrsi v6129 c3_i32_3500
  let c3_i32_3501 : BitVec 32 := 3#32
  let v6131 : BitVec 32 := Scalar.shli v6130 c3_i32_3501
  let v6132 : BitVec 32 := v6131
  let v6133 : Index := Scalar.indexCast v6132
  let c0_3502 : Index := 0#32
  ![v6133.toNat, 0]

def k1_chk437 (v6129 : BitVec 32) : Prop :=
  (8 ∣ (k1_mult437 v6129).toNat) ∧
  (∀ a, (k1_off437 v6129) a + S8x128.size a ≤ S12800x128.size a)
theorem k1_mult437_dvd : ∀ (v6129 : BitVec 32) (k1_hw437 : k1_chk437 v6129), 8 ∣ (k1_mult437 v6129).toNat := fun v6129 k1_hw437 => k1_hw437.1
theorem k1_off437_inb : ∀ (v6129 : BitVec 32) (k1_hw437 : k1_chk437 v6129), ∀ a, (k1_off437 v6129) a + S8x128.size a ≤ S12800x128.size a := fun v6129 k1_hw437 => k1_hw437.2

def k1_mult438 (v6143 : BitVec 32) : BitVec 32 :=
  let c3_i32_3508 : BitVec 32 := 3#32
  let v6144 : BitVec 32 := Scalar.shrsi v6143 c3_i32_3508
  let c3_i32_3509 : BitVec 32 := 3#32
  let v6145 : BitVec 32 := Scalar.shli v6144 c3_i32_3509
  v6145

def k1_off438 (v6143 : BitVec 32) : Fin 2 → Nat :=
  let c3_i32_3508 : BitVec 32 := 3#32
  let v6144 : BitVec 32 := Scalar.shrsi v6143 c3_i32_3508
  let c3_i32_3509 : BitVec 32 := 3#32
  let v6145 : BitVec 32 := Scalar.shli v6144 c3_i32_3509
  let v6146 : BitVec 32 := v6145
  let v6147 : Index := Scalar.indexCast v6146
  let c0_3510 : Index := 0#32
  ![v6147.toNat, 0]

def k1_chk438 (v6143 : BitVec 32) : Prop :=
  (8 ∣ (k1_mult438 v6143).toNat) ∧
  (∀ a, (k1_off438 v6143) a + S8x128.size a ≤ S12800x128.size a)
theorem k1_mult438_dvd : ∀ (v6143 : BitVec 32) (k1_hw438 : k1_chk438 v6143), 8 ∣ (k1_mult438 v6143).toNat := fun v6143 k1_hw438 => k1_hw438.1
theorem k1_off438_inb : ∀ (v6143 : BitVec 32) (k1_hw438 : k1_chk438 v6143), ∀ a, (k1_off438 v6143) a + S8x128.size a ≤ S12800x128.size a := fun v6143 k1_hw438 => k1_hw438.2

def k1_mult439 (v6157 : BitVec 32) : BitVec 32 :=
  let c3_i32_3516 : BitVec 32 := 3#32
  let v6158 : BitVec 32 := Scalar.shrsi v6157 c3_i32_3516
  let c3_i32_3517 : BitVec 32 := 3#32
  let v6159 : BitVec 32 := Scalar.shli v6158 c3_i32_3517
  v6159

def k1_off439 (v6157 : BitVec 32) : Fin 2 → Nat :=
  let c3_i32_3516 : BitVec 32 := 3#32
  let v6158 : BitVec 32 := Scalar.shrsi v6157 c3_i32_3516
  let c3_i32_3517 : BitVec 32 := 3#32
  let v6159 : BitVec 32 := Scalar.shli v6158 c3_i32_3517
  let v6160 : BitVec 32 := v6159
  let v6161 : Index := Scalar.indexCast v6160
  let c0_3518 : Index := 0#32
  ![v6161.toNat, 0]

def k1_chk439 (v6157 : BitVec 32) : Prop :=
  (8 ∣ (k1_mult439 v6157).toNat) ∧
  (∀ a, (k1_off439 v6157) a + S8x128.size a ≤ S12800x128.size a)
theorem k1_mult439_dvd : ∀ (v6157 : BitVec 32) (k1_hw439 : k1_chk439 v6157), 8 ∣ (k1_mult439 v6157).toNat := fun v6157 k1_hw439 => k1_hw439.1
theorem k1_off439_inb : ∀ (v6157 : BitVec 32) (k1_hw439 : k1_chk439 v6157), ∀ a, (k1_off439 v6157) a + S8x128.size a ≤ S12800x128.size a := fun v6157 k1_hw439 => k1_hw439.2

def k1_mult440 (v6171 : BitVec 32) : BitVec 32 :=
  let c3_i32_3524 : BitVec 32 := 3#32
  let v6172 : BitVec 32 := Scalar.shrsi v6171 c3_i32_3524
  let c3_i32_3525 : BitVec 32 := 3#32
  let v6173 : BitVec 32 := Scalar.shli v6172 c3_i32_3525
  v6173

def k1_off440 (v6171 : BitVec 32) : Fin 2 → Nat :=
  let c3_i32_3524 : BitVec 32 := 3#32
  let v6172 : BitVec 32 := Scalar.shrsi v6171 c3_i32_3524
  let c3_i32_3525 : BitVec 32 := 3#32
  let v6173 : BitVec 32 := Scalar.shli v6172 c3_i32_3525
  let v6174 : BitVec 32 := v6173
  let v6175 : Index := Scalar.indexCast v6174
  let c0_3526 : Index := 0#32
  ![v6175.toNat, 0]

def k1_chk440 (v6171 : BitVec 32) : Prop :=
  (8 ∣ (k1_mult440 v6171).toNat) ∧
  (∀ a, (k1_off440 v6171) a + S8x128.size a ≤ S12800x128.size a)
theorem k1_mult440_dvd : ∀ (v6171 : BitVec 32) (k1_hw440 : k1_chk440 v6171), 8 ∣ (k1_mult440 v6171).toNat := fun v6171 k1_hw440 => k1_hw440.1
theorem k1_off440_inb : ∀ (v6171 : BitVec 32) (k1_hw440 : k1_chk440 v6171), ∀ a, (k1_off440 v6171) a + S8x128.size a ≤ S12800x128.size a := fun v6171 k1_hw440 => k1_hw440.2

def k1_mult441 (v6185 : BitVec 32) : BitVec 32 :=
  let c3_i32_3532 : BitVec 32 := 3#32
  let v6186 : BitVec 32 := Scalar.shrsi v6185 c3_i32_3532
  let c3_i32_3533 : BitVec 32 := 3#32
  let v6187 : BitVec 32 := Scalar.shli v6186 c3_i32_3533
  v6187

def k1_off441 (v6185 : BitVec 32) : Fin 2 → Nat :=
  let c3_i32_3532 : BitVec 32 := 3#32
  let v6186 : BitVec 32 := Scalar.shrsi v6185 c3_i32_3532
  let c3_i32_3533 : BitVec 32 := 3#32
  let v6187 : BitVec 32 := Scalar.shli v6186 c3_i32_3533
  let v6188 : BitVec 32 := v6187
  let v6189 : Index := Scalar.indexCast v6188
  let c0_3534 : Index := 0#32
  ![v6189.toNat, 0]

def k1_chk441 (v6185 : BitVec 32) : Prop :=
  (8 ∣ (k1_mult441 v6185).toNat) ∧
  (∀ a, (k1_off441 v6185) a + S8x128.size a ≤ S12800x128.size a)
theorem k1_mult441_dvd : ∀ (v6185 : BitVec 32) (k1_hw441 : k1_chk441 v6185), 8 ∣ (k1_mult441 v6185).toNat := fun v6185 k1_hw441 => k1_hw441.1
theorem k1_off441_inb : ∀ (v6185 : BitVec 32) (k1_hw441 : k1_chk441 v6185), ∀ a, (k1_off441 v6185) a + S8x128.size a ≤ S12800x128.size a := fun v6185 k1_hw441 => k1_hw441.2

def k1_mult442 (v6199 : BitVec 32) : BitVec 32 :=
  let c3_i32_3540 : BitVec 32 := 3#32
  let v6200 : BitVec 32 := Scalar.shrsi v6199 c3_i32_3540
  let c3_i32_3541 : BitVec 32 := 3#32
  let v6201 : BitVec 32 := Scalar.shli v6200 c3_i32_3541
  v6201

def k1_off442 (v6199 : BitVec 32) : Fin 2 → Nat :=
  let c3_i32_3540 : BitVec 32 := 3#32
  let v6200 : BitVec 32 := Scalar.shrsi v6199 c3_i32_3540
  let c3_i32_3541 : BitVec 32 := 3#32
  let v6201 : BitVec 32 := Scalar.shli v6200 c3_i32_3541
  let v6202 : BitVec 32 := v6201
  let v6203 : Index := Scalar.indexCast v6202
  let c0_3542 : Index := 0#32
  ![v6203.toNat, 0]

def k1_chk442 (v6199 : BitVec 32) : Prop :=
  (8 ∣ (k1_mult442 v6199).toNat) ∧
  (∀ a, (k1_off442 v6199) a + S8x128.size a ≤ S12800x128.size a)
theorem k1_mult442_dvd : ∀ (v6199 : BitVec 32) (k1_hw442 : k1_chk442 v6199), 8 ∣ (k1_mult442 v6199).toNat := fun v6199 k1_hw442 => k1_hw442.1
theorem k1_off442_inb : ∀ (v6199 : BitVec 32) (k1_hw442 : k1_chk442 v6199), ∀ a, (k1_off442 v6199) a + S8x128.size a ≤ S12800x128.size a := fun v6199 k1_hw442 => k1_hw442.2

def k1_mult443 (v6213 : BitVec 32) : BitVec 32 :=
  let c3_i32_3548 : BitVec 32 := 3#32
  let v6214 : BitVec 32 := Scalar.shrsi v6213 c3_i32_3548
  let c3_i32_3549 : BitVec 32 := 3#32
  let v6215 : BitVec 32 := Scalar.shli v6214 c3_i32_3549
  v6215

def k1_off443 (v6213 : BitVec 32) : Fin 2 → Nat :=
  let c3_i32_3548 : BitVec 32 := 3#32
  let v6214 : BitVec 32 := Scalar.shrsi v6213 c3_i32_3548
  let c3_i32_3549 : BitVec 32 := 3#32
  let v6215 : BitVec 32 := Scalar.shli v6214 c3_i32_3549
  let v6216 : BitVec 32 := v6215
  let v6217 : Index := Scalar.indexCast v6216
  let c0_3550 : Index := 0#32
  ![v6217.toNat, 0]

def k1_chk443 (v6213 : BitVec 32) : Prop :=
  (8 ∣ (k1_mult443 v6213).toNat) ∧
  (∀ a, (k1_off443 v6213) a + S8x128.size a ≤ S12800x128.size a)
theorem k1_mult443_dvd : ∀ (v6213 : BitVec 32) (k1_hw443 : k1_chk443 v6213), 8 ∣ (k1_mult443 v6213).toNat := fun v6213 k1_hw443 => k1_hw443.1
theorem k1_off443_inb : ∀ (v6213 : BitVec 32) (k1_hw443 : k1_chk443 v6213), ∀ a, (k1_off443 v6213) a + S8x128.size a ≤ S12800x128.size a := fun v6213 k1_hw443 => k1_hw443.2

def k1_mult444 (v6227 : BitVec 32) : BitVec 32 :=
  let c3_i32_3556 : BitVec 32 := 3#32
  let v6228 : BitVec 32 := Scalar.shrsi v6227 c3_i32_3556
  let c3_i32_3557 : BitVec 32 := 3#32
  let v6229 : BitVec 32 := Scalar.shli v6228 c3_i32_3557
  v6229

def k1_off444 (v6227 : BitVec 32) : Fin 2 → Nat :=
  let c3_i32_3556 : BitVec 32 := 3#32
  let v6228 : BitVec 32 := Scalar.shrsi v6227 c3_i32_3556
  let c3_i32_3557 : BitVec 32 := 3#32
  let v6229 : BitVec 32 := Scalar.shli v6228 c3_i32_3557
  let v6230 : BitVec 32 := v6229
  let v6231 : Index := Scalar.indexCast v6230
  let c0_3558 : Index := 0#32
  ![v6231.toNat, 0]

def k1_chk444 (v6227 : BitVec 32) : Prop :=
  (8 ∣ (k1_mult444 v6227).toNat) ∧
  (∀ a, (k1_off444 v6227) a + S8x128.size a ≤ S12800x128.size a)
theorem k1_mult444_dvd : ∀ (v6227 : BitVec 32) (k1_hw444 : k1_chk444 v6227), 8 ∣ (k1_mult444 v6227).toNat := fun v6227 k1_hw444 => k1_hw444.1
theorem k1_off444_inb : ∀ (v6227 : BitVec 32) (k1_hw444 : k1_chk444 v6227), ∀ a, (k1_off444 v6227) a + S8x128.size a ≤ S12800x128.size a := fun v6227 k1_hw444 => k1_hw444.2

def k1_mult445 (v6241 : BitVec 32) : BitVec 32 :=
  let c3_i32_3564 : BitVec 32 := 3#32
  let v6242 : BitVec 32 := Scalar.shrsi v6241 c3_i32_3564
  let c3_i32_3565 : BitVec 32 := 3#32
  let v6243 : BitVec 32 := Scalar.shli v6242 c3_i32_3565
  v6243

def k1_off445 (v6241 : BitVec 32) : Fin 2 → Nat :=
  let c3_i32_3564 : BitVec 32 := 3#32
  let v6242 : BitVec 32 := Scalar.shrsi v6241 c3_i32_3564
  let c3_i32_3565 : BitVec 32 := 3#32
  let v6243 : BitVec 32 := Scalar.shli v6242 c3_i32_3565
  let v6244 : BitVec 32 := v6243
  let v6245 : Index := Scalar.indexCast v6244
  let c0_3566 : Index := 0#32
  ![v6245.toNat, 0]

def k1_chk445 (v6241 : BitVec 32) : Prop :=
  (8 ∣ (k1_mult445 v6241).toNat) ∧
  (∀ a, (k1_off445 v6241) a + S8x128.size a ≤ S12800x128.size a)
theorem k1_mult445_dvd : ∀ (v6241 : BitVec 32) (k1_hw445 : k1_chk445 v6241), 8 ∣ (k1_mult445 v6241).toNat := fun v6241 k1_hw445 => k1_hw445.1
theorem k1_off445_inb : ∀ (v6241 : BitVec 32) (k1_hw445 : k1_chk445 v6241), ∀ a, (k1_off445 v6241) a + S8x128.size a ≤ S12800x128.size a := fun v6241 k1_hw445 => k1_hw445.2

def k1_mult446 (v6255 : BitVec 32) : BitVec 32 :=
  let c3_i32_3572 : BitVec 32 := 3#32
  let v6256 : BitVec 32 := Scalar.shrsi v6255 c3_i32_3572
  let c3_i32_3573 : BitVec 32 := 3#32
  let v6257 : BitVec 32 := Scalar.shli v6256 c3_i32_3573
  v6257

def k1_off446 (v6255 : BitVec 32) : Fin 2 → Nat :=
  let c3_i32_3572 : BitVec 32 := 3#32
  let v6256 : BitVec 32 := Scalar.shrsi v6255 c3_i32_3572
  let c3_i32_3573 : BitVec 32 := 3#32
  let v6257 : BitVec 32 := Scalar.shli v6256 c3_i32_3573
  let v6258 : BitVec 32 := v6257
  let v6259 : Index := Scalar.indexCast v6258
  let c0_3574 : Index := 0#32
  ![v6259.toNat, 0]

def k1_chk446 (v6255 : BitVec 32) : Prop :=
  (8 ∣ (k1_mult446 v6255).toNat) ∧
  (∀ a, (k1_off446 v6255) a + S8x128.size a ≤ S12800x128.size a)
theorem k1_mult446_dvd : ∀ (v6255 : BitVec 32) (k1_hw446 : k1_chk446 v6255), 8 ∣ (k1_mult446 v6255).toNat := fun v6255 k1_hw446 => k1_hw446.1
theorem k1_off446_inb : ∀ (v6255 : BitVec 32) (k1_hw446 : k1_chk446 v6255), ∀ a, (k1_off446 v6255) a + S8x128.size a ≤ S12800x128.size a := fun v6255 k1_hw446 => k1_hw446.2

def k1_mult447 (v6269 : BitVec 32) : BitVec 32 :=
  let c3_i32_3580 : BitVec 32 := 3#32
  let v6270 : BitVec 32 := Scalar.shrsi v6269 c3_i32_3580
  let c3_i32_3581 : BitVec 32 := 3#32
  let v6271 : BitVec 32 := Scalar.shli v6270 c3_i32_3581
  v6271

def k1_off447 (v6269 : BitVec 32) : Fin 2 → Nat :=
  let c3_i32_3580 : BitVec 32 := 3#32
  let v6270 : BitVec 32 := Scalar.shrsi v6269 c3_i32_3580
  let c3_i32_3581 : BitVec 32 := 3#32
  let v6271 : BitVec 32 := Scalar.shli v6270 c3_i32_3581
  let v6272 : BitVec 32 := v6271
  let v6273 : Index := Scalar.indexCast v6272
  let c0_3582 : Index := 0#32
  ![v6273.toNat, 0]

def k1_chk447 (v6269 : BitVec 32) : Prop :=
  (8 ∣ (k1_mult447 v6269).toNat) ∧
  (∀ a, (k1_off447 v6269) a + S8x128.size a ≤ S12800x128.size a)
theorem k1_mult447_dvd : ∀ (v6269 : BitVec 32) (k1_hw447 : k1_chk447 v6269), 8 ∣ (k1_mult447 v6269).toNat := fun v6269 k1_hw447 => k1_hw447.1
theorem k1_off447_inb : ∀ (v6269 : BitVec 32) (k1_hw447 : k1_chk447 v6269), ∀ a, (k1_off447 v6269) a + S8x128.size a ≤ S12800x128.size a := fun v6269 k1_hw447 => k1_hw447.2

def k1_mult448 (v6283 : BitVec 32) : BitVec 32 :=
  let c3_i32_3588 : BitVec 32 := 3#32
  let v6284 : BitVec 32 := Scalar.shrsi v6283 c3_i32_3588
  let c3_i32_3589 : BitVec 32 := 3#32
  let v6285 : BitVec 32 := Scalar.shli v6284 c3_i32_3589
  v6285

def k1_off448 (v6283 : BitVec 32) : Fin 2 → Nat :=
  let c3_i32_3588 : BitVec 32 := 3#32
  let v6284 : BitVec 32 := Scalar.shrsi v6283 c3_i32_3588
  let c3_i32_3589 : BitVec 32 := 3#32
  let v6285 : BitVec 32 := Scalar.shli v6284 c3_i32_3589
  let v6286 : BitVec 32 := v6285
  let v6287 : Index := Scalar.indexCast v6286
  let c0_3590 : Index := 0#32
  ![v6287.toNat, 0]

def k1_chk448 (v6283 : BitVec 32) : Prop :=
  (8 ∣ (k1_mult448 v6283).toNat) ∧
  (∀ a, (k1_off448 v6283) a + S8x128.size a ≤ S12800x128.size a)
theorem k1_mult448_dvd : ∀ (v6283 : BitVec 32) (k1_hw448 : k1_chk448 v6283), 8 ∣ (k1_mult448 v6283).toNat := fun v6283 k1_hw448 => k1_hw448.1
theorem k1_off448_inb : ∀ (v6283 : BitVec 32) (k1_hw448 : k1_chk448 v6283), ∀ a, (k1_off448 v6283) a + S8x128.size a ≤ S12800x128.size a := fun v6283 k1_hw448 => k1_hw448.2

def k1_mult449 (v6297 : BitVec 32) : BitVec 32 :=
  let c3_i32_3596 : BitVec 32 := 3#32
  let v6298 : BitVec 32 := Scalar.shrsi v6297 c3_i32_3596
  let c3_i32_3597 : BitVec 32 := 3#32
  let v6299 : BitVec 32 := Scalar.shli v6298 c3_i32_3597
  v6299

def k1_off449 (v6297 : BitVec 32) : Fin 2 → Nat :=
  let c3_i32_3596 : BitVec 32 := 3#32
  let v6298 : BitVec 32 := Scalar.shrsi v6297 c3_i32_3596
  let c3_i32_3597 : BitVec 32 := 3#32
  let v6299 : BitVec 32 := Scalar.shli v6298 c3_i32_3597
  let v6300 : BitVec 32 := v6299
  let v6301 : Index := Scalar.indexCast v6300
  let c0_3598 : Index := 0#32
  ![v6301.toNat, 0]

def k1_chk449 (v6297 : BitVec 32) : Prop :=
  (8 ∣ (k1_mult449 v6297).toNat) ∧
  (∀ a, (k1_off449 v6297) a + S8x128.size a ≤ S12800x128.size a)
theorem k1_mult449_dvd : ∀ (v6297 : BitVec 32) (k1_hw449 : k1_chk449 v6297), 8 ∣ (k1_mult449 v6297).toNat := fun v6297 k1_hw449 => k1_hw449.1
theorem k1_off449_inb : ∀ (v6297 : BitVec 32) (k1_hw449 : k1_chk449 v6297), ∀ a, (k1_off449 v6297) a + S8x128.size a ≤ S12800x128.size a := fun v6297 k1_hw449 => k1_hw449.2

def k1_mult450 (v6311 : BitVec 32) : BitVec 32 :=
  let c3_i32_3604 : BitVec 32 := 3#32
  let v6312 : BitVec 32 := Scalar.shrsi v6311 c3_i32_3604
  let c3_i32_3605 : BitVec 32 := 3#32
  let v6313 : BitVec 32 := Scalar.shli v6312 c3_i32_3605
  v6313

def k1_off450 (v6311 : BitVec 32) : Fin 2 → Nat :=
  let c3_i32_3604 : BitVec 32 := 3#32
  let v6312 : BitVec 32 := Scalar.shrsi v6311 c3_i32_3604
  let c3_i32_3605 : BitVec 32 := 3#32
  let v6313 : BitVec 32 := Scalar.shli v6312 c3_i32_3605
  let v6314 : BitVec 32 := v6313
  let v6315 : Index := Scalar.indexCast v6314
  let c0_3606 : Index := 0#32
  ![v6315.toNat, 0]

def k1_chk450 (v6311 : BitVec 32) : Prop :=
  (8 ∣ (k1_mult450 v6311).toNat) ∧
  (∀ a, (k1_off450 v6311) a + S8x128.size a ≤ S12800x128.size a)
theorem k1_mult450_dvd : ∀ (v6311 : BitVec 32) (k1_hw450 : k1_chk450 v6311), 8 ∣ (k1_mult450 v6311).toNat := fun v6311 k1_hw450 => k1_hw450.1
theorem k1_off450_inb : ∀ (v6311 : BitVec 32) (k1_hw450 : k1_chk450 v6311), ∀ a, (k1_off450 v6311) a + S8x128.size a ≤ S12800x128.size a := fun v6311 k1_hw450 => k1_hw450.2

def k1_mult451 (v6325 : BitVec 32) : BitVec 32 :=
  let c3_i32_3612 : BitVec 32 := 3#32
  let v6326 : BitVec 32 := Scalar.shrsi v6325 c3_i32_3612
  let c3_i32_3613 : BitVec 32 := 3#32
  let v6327 : BitVec 32 := Scalar.shli v6326 c3_i32_3613
  v6327

def k1_off451 (v6325 : BitVec 32) : Fin 2 → Nat :=
  let c3_i32_3612 : BitVec 32 := 3#32
  let v6326 : BitVec 32 := Scalar.shrsi v6325 c3_i32_3612
  let c3_i32_3613 : BitVec 32 := 3#32
  let v6327 : BitVec 32 := Scalar.shli v6326 c3_i32_3613
  let v6328 : BitVec 32 := v6327
  let v6329 : Index := Scalar.indexCast v6328
  let c0_3614 : Index := 0#32
  ![v6329.toNat, 0]

def k1_chk451 (v6325 : BitVec 32) : Prop :=
  (8 ∣ (k1_mult451 v6325).toNat) ∧
  (∀ a, (k1_off451 v6325) a + S8x128.size a ≤ S12800x128.size a)
theorem k1_mult451_dvd : ∀ (v6325 : BitVec 32) (k1_hw451 : k1_chk451 v6325), 8 ∣ (k1_mult451 v6325).toNat := fun v6325 k1_hw451 => k1_hw451.1
theorem k1_off451_inb : ∀ (v6325 : BitVec 32) (k1_hw451 : k1_chk451 v6325), ∀ a, (k1_off451 v6325) a + S8x128.size a ≤ S12800x128.size a := fun v6325 k1_hw451 => k1_hw451.2

def k1_mult452 (v6339 : BitVec 32) : BitVec 32 :=
  let c3_i32_3620 : BitVec 32 := 3#32
  let v6340 : BitVec 32 := Scalar.shrsi v6339 c3_i32_3620
  let c3_i32_3621 : BitVec 32 := 3#32
  let v6341 : BitVec 32 := Scalar.shli v6340 c3_i32_3621
  v6341

def k1_off452 (v6339 : BitVec 32) : Fin 2 → Nat :=
  let c3_i32_3620 : BitVec 32 := 3#32
  let v6340 : BitVec 32 := Scalar.shrsi v6339 c3_i32_3620
  let c3_i32_3621 : BitVec 32 := 3#32
  let v6341 : BitVec 32 := Scalar.shli v6340 c3_i32_3621
  let v6342 : BitVec 32 := v6341
  let v6343 : Index := Scalar.indexCast v6342
  let c0_3622 : Index := 0#32
  ![v6343.toNat, 0]

def k1_chk452 (v6339 : BitVec 32) : Prop :=
  (8 ∣ (k1_mult452 v6339).toNat) ∧
  (∀ a, (k1_off452 v6339) a + S8x128.size a ≤ S12800x128.size a)
theorem k1_mult452_dvd : ∀ (v6339 : BitVec 32) (k1_hw452 : k1_chk452 v6339), 8 ∣ (k1_mult452 v6339).toNat := fun v6339 k1_hw452 => k1_hw452.1
theorem k1_off452_inb : ∀ (v6339 : BitVec 32) (k1_hw452 : k1_chk452 v6339), ∀ a, (k1_off452 v6339) a + S8x128.size a ≤ S12800x128.size a := fun v6339 k1_hw452 => k1_hw452.2

def k1_mult453 (v6353 : BitVec 32) : BitVec 32 :=
  let c3_i32_3628 : BitVec 32 := 3#32
  let v6354 : BitVec 32 := Scalar.shrsi v6353 c3_i32_3628
  let c3_i32_3629 : BitVec 32 := 3#32
  let v6355 : BitVec 32 := Scalar.shli v6354 c3_i32_3629
  v6355

def k1_off453 (v6353 : BitVec 32) : Fin 2 → Nat :=
  let c3_i32_3628 : BitVec 32 := 3#32
  let v6354 : BitVec 32 := Scalar.shrsi v6353 c3_i32_3628
  let c3_i32_3629 : BitVec 32 := 3#32
  let v6355 : BitVec 32 := Scalar.shli v6354 c3_i32_3629
  let v6356 : BitVec 32 := v6355
  let v6357 : Index := Scalar.indexCast v6356
  let c0_3630 : Index := 0#32
  ![v6357.toNat, 0]

def k1_chk453 (v6353 : BitVec 32) : Prop :=
  (8 ∣ (k1_mult453 v6353).toNat) ∧
  (∀ a, (k1_off453 v6353) a + S8x128.size a ≤ S12800x128.size a)
theorem k1_mult453_dvd : ∀ (v6353 : BitVec 32) (k1_hw453 : k1_chk453 v6353), 8 ∣ (k1_mult453 v6353).toNat := fun v6353 k1_hw453 => k1_hw453.1
theorem k1_off453_inb : ∀ (v6353 : BitVec 32) (k1_hw453 : k1_chk453 v6353), ∀ a, (k1_off453 v6353) a + S8x128.size a ≤ S12800x128.size a := fun v6353 k1_hw453 => k1_hw453.2

def k1_mult454 (v6367 : BitVec 32) : BitVec 32 :=
  let c3_i32_3636 : BitVec 32 := 3#32
  let v6368 : BitVec 32 := Scalar.shrsi v6367 c3_i32_3636
  let c3_i32_3637 : BitVec 32 := 3#32
  let v6369 : BitVec 32 := Scalar.shli v6368 c3_i32_3637
  v6369

def k1_off454 (v6367 : BitVec 32) : Fin 2 → Nat :=
  let c3_i32_3636 : BitVec 32 := 3#32
  let v6368 : BitVec 32 := Scalar.shrsi v6367 c3_i32_3636
  let c3_i32_3637 : BitVec 32 := 3#32
  let v6369 : BitVec 32 := Scalar.shli v6368 c3_i32_3637
  let v6370 : BitVec 32 := v6369
  let v6371 : Index := Scalar.indexCast v6370
  let c0_3638 : Index := 0#32
  ![v6371.toNat, 0]

def k1_chk454 (v6367 : BitVec 32) : Prop :=
  (8 ∣ (k1_mult454 v6367).toNat) ∧
  (∀ a, (k1_off454 v6367) a + S8x128.size a ≤ S12800x128.size a)
theorem k1_mult454_dvd : ∀ (v6367 : BitVec 32) (k1_hw454 : k1_chk454 v6367), 8 ∣ (k1_mult454 v6367).toNat := fun v6367 k1_hw454 => k1_hw454.1
theorem k1_off454_inb : ∀ (v6367 : BitVec 32) (k1_hw454 : k1_chk454 v6367), ∀ a, (k1_off454 v6367) a + S8x128.size a ≤ S12800x128.size a := fun v6367 k1_hw454 => k1_hw454.2

def k1_mult455 (v6381 : BitVec 32) : BitVec 32 :=
  let c3_i32_3644 : BitVec 32 := 3#32
  let v6382 : BitVec 32 := Scalar.shrsi v6381 c3_i32_3644
  let c3_i32_3645 : BitVec 32 := 3#32
  let v6383 : BitVec 32 := Scalar.shli v6382 c3_i32_3645
  v6383

def k1_off455 (v6381 : BitVec 32) : Fin 2 → Nat :=
  let c3_i32_3644 : BitVec 32 := 3#32
  let v6382 : BitVec 32 := Scalar.shrsi v6381 c3_i32_3644
  let c3_i32_3645 : BitVec 32 := 3#32
  let v6383 : BitVec 32 := Scalar.shli v6382 c3_i32_3645
  let v6384 : BitVec 32 := v6383
  let v6385 : Index := Scalar.indexCast v6384
  let c0_3646 : Index := 0#32
  ![v6385.toNat, 0]

def k1_chk455 (v6381 : BitVec 32) : Prop :=
  (8 ∣ (k1_mult455 v6381).toNat) ∧
  (∀ a, (k1_off455 v6381) a + S8x128.size a ≤ S12800x128.size a)
theorem k1_mult455_dvd : ∀ (v6381 : BitVec 32) (k1_hw455 : k1_chk455 v6381), 8 ∣ (k1_mult455 v6381).toNat := fun v6381 k1_hw455 => k1_hw455.1
theorem k1_off455_inb : ∀ (v6381 : BitVec 32) (k1_hw455 : k1_chk455 v6381), ∀ a, (k1_off455 v6381) a + S8x128.size a ≤ S12800x128.size a := fun v6381 k1_hw455 => k1_hw455.2

def k1_mult456 (v6395 : BitVec 32) : BitVec 32 :=
  let c3_i32_3652 : BitVec 32 := 3#32
  let v6396 : BitVec 32 := Scalar.shrsi v6395 c3_i32_3652
  let c3_i32_3653 : BitVec 32 := 3#32
  let v6397 : BitVec 32 := Scalar.shli v6396 c3_i32_3653
  v6397

def k1_off456 (v6395 : BitVec 32) : Fin 2 → Nat :=
  let c3_i32_3652 : BitVec 32 := 3#32
  let v6396 : BitVec 32 := Scalar.shrsi v6395 c3_i32_3652
  let c3_i32_3653 : BitVec 32 := 3#32
  let v6397 : BitVec 32 := Scalar.shli v6396 c3_i32_3653
  let v6398 : BitVec 32 := v6397
  let v6399 : Index := Scalar.indexCast v6398
  let c0_3654 : Index := 0#32
  ![v6399.toNat, 0]

def k1_chk456 (v6395 : BitVec 32) : Prop :=
  (8 ∣ (k1_mult456 v6395).toNat) ∧
  (∀ a, (k1_off456 v6395) a + S8x128.size a ≤ S12800x128.size a)
theorem k1_mult456_dvd : ∀ (v6395 : BitVec 32) (k1_hw456 : k1_chk456 v6395), 8 ∣ (k1_mult456 v6395).toNat := fun v6395 k1_hw456 => k1_hw456.1
theorem k1_off456_inb : ∀ (v6395 : BitVec 32) (k1_hw456 : k1_chk456 v6395), ∀ a, (k1_off456 v6395) a + S8x128.size a ≤ S12800x128.size a := fun v6395 k1_hw456 => k1_hw456.2

def k1_mult457 (v6409 : BitVec 32) : BitVec 32 :=
  let c3_i32_3660 : BitVec 32 := 3#32
  let v6410 : BitVec 32 := Scalar.shrsi v6409 c3_i32_3660
  let c3_i32_3661 : BitVec 32 := 3#32
  let v6411 : BitVec 32 := Scalar.shli v6410 c3_i32_3661
  v6411

def k1_off457 (v6409 : BitVec 32) : Fin 2 → Nat :=
  let c3_i32_3660 : BitVec 32 := 3#32
  let v6410 : BitVec 32 := Scalar.shrsi v6409 c3_i32_3660
  let c3_i32_3661 : BitVec 32 := 3#32
  let v6411 : BitVec 32 := Scalar.shli v6410 c3_i32_3661
  let v6412 : BitVec 32 := v6411
  let v6413 : Index := Scalar.indexCast v6412
  let c0_3662 : Index := 0#32
  ![v6413.toNat, 0]

def k1_chk457 (v6409 : BitVec 32) : Prop :=
  (8 ∣ (k1_mult457 v6409).toNat) ∧
  (∀ a, (k1_off457 v6409) a + S8x128.size a ≤ S12800x128.size a)
theorem k1_mult457_dvd : ∀ (v6409 : BitVec 32) (k1_hw457 : k1_chk457 v6409), 8 ∣ (k1_mult457 v6409).toNat := fun v6409 k1_hw457 => k1_hw457.1
theorem k1_off457_inb : ∀ (v6409 : BitVec 32) (k1_hw457 : k1_chk457 v6409), ∀ a, (k1_off457 v6409) a + S8x128.size a ≤ S12800x128.size a := fun v6409 k1_hw457 => k1_hw457.2

def k1_mult458 (v6423 : BitVec 32) : BitVec 32 :=
  let c3_i32_3668 : BitVec 32 := 3#32
  let v6424 : BitVec 32 := Scalar.shrsi v6423 c3_i32_3668
  let c3_i32_3669 : BitVec 32 := 3#32
  let v6425 : BitVec 32 := Scalar.shli v6424 c3_i32_3669
  v6425

def k1_off458 (v6423 : BitVec 32) : Fin 2 → Nat :=
  let c3_i32_3668 : BitVec 32 := 3#32
  let v6424 : BitVec 32 := Scalar.shrsi v6423 c3_i32_3668
  let c3_i32_3669 : BitVec 32 := 3#32
  let v6425 : BitVec 32 := Scalar.shli v6424 c3_i32_3669
  let v6426 : BitVec 32 := v6425
  let v6427 : Index := Scalar.indexCast v6426
  let c0_3670 : Index := 0#32
  ![v6427.toNat, 0]

def k1_chk458 (v6423 : BitVec 32) : Prop :=
  (8 ∣ (k1_mult458 v6423).toNat) ∧
  (∀ a, (k1_off458 v6423) a + S8x128.size a ≤ S12800x128.size a)
theorem k1_mult458_dvd : ∀ (v6423 : BitVec 32) (k1_hw458 : k1_chk458 v6423), 8 ∣ (k1_mult458 v6423).toNat := fun v6423 k1_hw458 => k1_hw458.1
theorem k1_off458_inb : ∀ (v6423 : BitVec 32) (k1_hw458 : k1_chk458 v6423), ∀ a, (k1_off458 v6423) a + S8x128.size a ≤ S12800x128.size a := fun v6423 k1_hw458 => k1_hw458.2

def k1_mult459 (v6437 : BitVec 32) : BitVec 32 :=
  let c3_i32_3676 : BitVec 32 := 3#32
  let v6438 : BitVec 32 := Scalar.shrsi v6437 c3_i32_3676
  let c3_i32_3677 : BitVec 32 := 3#32
  let v6439 : BitVec 32 := Scalar.shli v6438 c3_i32_3677
  v6439

def k1_off459 (v6437 : BitVec 32) : Fin 2 → Nat :=
  let c3_i32_3676 : BitVec 32 := 3#32
  let v6438 : BitVec 32 := Scalar.shrsi v6437 c3_i32_3676
  let c3_i32_3677 : BitVec 32 := 3#32
  let v6439 : BitVec 32 := Scalar.shli v6438 c3_i32_3677
  let v6440 : BitVec 32 := v6439
  let v6441 : Index := Scalar.indexCast v6440
  let c0_3678 : Index := 0#32
  ![v6441.toNat, 0]

def k1_chk459 (v6437 : BitVec 32) : Prop :=
  (8 ∣ (k1_mult459 v6437).toNat) ∧
  (∀ a, (k1_off459 v6437) a + S8x128.size a ≤ S12800x128.size a)
theorem k1_mult459_dvd : ∀ (v6437 : BitVec 32) (k1_hw459 : k1_chk459 v6437), 8 ∣ (k1_mult459 v6437).toNat := fun v6437 k1_hw459 => k1_hw459.1
theorem k1_off459_inb : ∀ (v6437 : BitVec 32) (k1_hw459 : k1_chk459 v6437), ∀ a, (k1_off459 v6437) a + S8x128.size a ≤ S12800x128.size a := fun v6437 k1_hw459 => k1_hw459.2

def k1_mult460 (v6451 : BitVec 32) : BitVec 32 :=
  let c3_i32_3684 : BitVec 32 := 3#32
  let v6452 : BitVec 32 := Scalar.shrsi v6451 c3_i32_3684
  let c3_i32_3685 : BitVec 32 := 3#32
  let v6453 : BitVec 32 := Scalar.shli v6452 c3_i32_3685
  v6453

def k1_off460 (v6451 : BitVec 32) : Fin 2 → Nat :=
  let c3_i32_3684 : BitVec 32 := 3#32
  let v6452 : BitVec 32 := Scalar.shrsi v6451 c3_i32_3684
  let c3_i32_3685 : BitVec 32 := 3#32
  let v6453 : BitVec 32 := Scalar.shli v6452 c3_i32_3685
  let v6454 : BitVec 32 := v6453
  let v6455 : Index := Scalar.indexCast v6454
  let c0_3686 : Index := 0#32
  ![v6455.toNat, 0]

def k1_chk460 (v6451 : BitVec 32) : Prop :=
  (8 ∣ (k1_mult460 v6451).toNat) ∧
  (∀ a, (k1_off460 v6451) a + S8x128.size a ≤ S12800x128.size a)
theorem k1_mult460_dvd : ∀ (v6451 : BitVec 32) (k1_hw460 : k1_chk460 v6451), 8 ∣ (k1_mult460 v6451).toNat := fun v6451 k1_hw460 => k1_hw460.1
theorem k1_off460_inb : ∀ (v6451 : BitVec 32) (k1_hw460 : k1_chk460 v6451), ∀ a, (k1_off460 v6451) a + S8x128.size a ≤ S12800x128.size a := fun v6451 k1_hw460 => k1_hw460.2

def k1_mult461 (v6465 : BitVec 32) : BitVec 32 :=
  let c3_i32_3692 : BitVec 32 := 3#32
  let v6466 : BitVec 32 := Scalar.shrsi v6465 c3_i32_3692
  let c3_i32_3693 : BitVec 32 := 3#32
  let v6467 : BitVec 32 := Scalar.shli v6466 c3_i32_3693
  v6467

def k1_off461 (v6465 : BitVec 32) : Fin 2 → Nat :=
  let c3_i32_3692 : BitVec 32 := 3#32
  let v6466 : BitVec 32 := Scalar.shrsi v6465 c3_i32_3692
  let c3_i32_3693 : BitVec 32 := 3#32
  let v6467 : BitVec 32 := Scalar.shli v6466 c3_i32_3693
  let v6468 : BitVec 32 := v6467
  let v6469 : Index := Scalar.indexCast v6468
  let c0_3694 : Index := 0#32
  ![v6469.toNat, 0]

def k1_chk461 (v6465 : BitVec 32) : Prop :=
  (8 ∣ (k1_mult461 v6465).toNat) ∧
  (∀ a, (k1_off461 v6465) a + S8x128.size a ≤ S12800x128.size a)
theorem k1_mult461_dvd : ∀ (v6465 : BitVec 32) (k1_hw461 : k1_chk461 v6465), 8 ∣ (k1_mult461 v6465).toNat := fun v6465 k1_hw461 => k1_hw461.1
theorem k1_off461_inb : ∀ (v6465 : BitVec 32) (k1_hw461 : k1_chk461 v6465), ∀ a, (k1_off461 v6465) a + S8x128.size a ≤ S12800x128.size a := fun v6465 k1_hw461 => k1_hw461.2

def k1_mult462 (v6479 : BitVec 32) : BitVec 32 :=
  let c3_i32_3700 : BitVec 32 := 3#32
  let v6480 : BitVec 32 := Scalar.shrsi v6479 c3_i32_3700
  let c3_i32_3701 : BitVec 32 := 3#32
  let v6481 : BitVec 32 := Scalar.shli v6480 c3_i32_3701
  v6481

def k1_off462 (v6479 : BitVec 32) : Fin 2 → Nat :=
  let c3_i32_3700 : BitVec 32 := 3#32
  let v6480 : BitVec 32 := Scalar.shrsi v6479 c3_i32_3700
  let c3_i32_3701 : BitVec 32 := 3#32
  let v6481 : BitVec 32 := Scalar.shli v6480 c3_i32_3701
  let v6482 : BitVec 32 := v6481
  let v6483 : Index := Scalar.indexCast v6482
  let c0_3702 : Index := 0#32
  ![v6483.toNat, 0]

def k1_chk462 (v6479 : BitVec 32) : Prop :=
  (8 ∣ (k1_mult462 v6479).toNat) ∧
  (∀ a, (k1_off462 v6479) a + S8x128.size a ≤ S12800x128.size a)
theorem k1_mult462_dvd : ∀ (v6479 : BitVec 32) (k1_hw462 : k1_chk462 v6479), 8 ∣ (k1_mult462 v6479).toNat := fun v6479 k1_hw462 => k1_hw462.1
theorem k1_off462_inb : ∀ (v6479 : BitVec 32) (k1_hw462 : k1_chk462 v6479), ∀ a, (k1_off462 v6479) a + S8x128.size a ≤ S12800x128.size a := fun v6479 k1_hw462 => k1_hw462.2

def k1_mult463 (v6493 : BitVec 32) : BitVec 32 :=
  let c3_i32_3708 : BitVec 32 := 3#32
  let v6494 : BitVec 32 := Scalar.shrsi v6493 c3_i32_3708
  let c3_i32_3709 : BitVec 32 := 3#32
  let v6495 : BitVec 32 := Scalar.shli v6494 c3_i32_3709
  v6495

def k1_off463 (v6493 : BitVec 32) : Fin 2 → Nat :=
  let c3_i32_3708 : BitVec 32 := 3#32
  let v6494 : BitVec 32 := Scalar.shrsi v6493 c3_i32_3708
  let c3_i32_3709 : BitVec 32 := 3#32
  let v6495 : BitVec 32 := Scalar.shli v6494 c3_i32_3709
  let v6496 : BitVec 32 := v6495
  let v6497 : Index := Scalar.indexCast v6496
  let c0_3710 : Index := 0#32
  ![v6497.toNat, 0]

def k1_chk463 (v6493 : BitVec 32) : Prop :=
  (8 ∣ (k1_mult463 v6493).toNat) ∧
  (∀ a, (k1_off463 v6493) a + S8x128.size a ≤ S12800x128.size a)
theorem k1_mult463_dvd : ∀ (v6493 : BitVec 32) (k1_hw463 : k1_chk463 v6493), 8 ∣ (k1_mult463 v6493).toNat := fun v6493 k1_hw463 => k1_hw463.1
theorem k1_off463_inb : ∀ (v6493 : BitVec 32) (k1_hw463 : k1_chk463 v6493), ∀ a, (k1_off463 v6493) a + S8x128.size a ≤ S12800x128.size a := fun v6493 k1_hw463 => k1_hw463.2

def k1_mult464 (v6507 : BitVec 32) : BitVec 32 :=
  let c3_i32_3716 : BitVec 32 := 3#32
  let v6508 : BitVec 32 := Scalar.shrsi v6507 c3_i32_3716
  let c3_i32_3717 : BitVec 32 := 3#32
  let v6509 : BitVec 32 := Scalar.shli v6508 c3_i32_3717
  v6509

def k1_off464 (v6507 : BitVec 32) : Fin 2 → Nat :=
  let c3_i32_3716 : BitVec 32 := 3#32
  let v6508 : BitVec 32 := Scalar.shrsi v6507 c3_i32_3716
  let c3_i32_3717 : BitVec 32 := 3#32
  let v6509 : BitVec 32 := Scalar.shli v6508 c3_i32_3717
  let v6510 : BitVec 32 := v6509
  let v6511 : Index := Scalar.indexCast v6510
  let c0_3718 : Index := 0#32
  ![v6511.toNat, 0]

def k1_chk464 (v6507 : BitVec 32) : Prop :=
  (8 ∣ (k1_mult464 v6507).toNat) ∧
  (∀ a, (k1_off464 v6507) a + S8x128.size a ≤ S12800x128.size a)
theorem k1_mult464_dvd : ∀ (v6507 : BitVec 32) (k1_hw464 : k1_chk464 v6507), 8 ∣ (k1_mult464 v6507).toNat := fun v6507 k1_hw464 => k1_hw464.1
theorem k1_off464_inb : ∀ (v6507 : BitVec 32) (k1_hw464 : k1_chk464 v6507), ∀ a, (k1_off464 v6507) a + S8x128.size a ≤ S12800x128.size a := fun v6507 k1_hw464 => k1_hw464.2

def k1_mult465 (v6521 : BitVec 32) : BitVec 32 :=
  let c3_i32_3724 : BitVec 32 := 3#32
  let v6522 : BitVec 32 := Scalar.shrsi v6521 c3_i32_3724
  let c3_i32_3725 : BitVec 32 := 3#32
  let v6523 : BitVec 32 := Scalar.shli v6522 c3_i32_3725
  v6523

def k1_off465 (v6521 : BitVec 32) : Fin 2 → Nat :=
  let c3_i32_3724 : BitVec 32 := 3#32
  let v6522 : BitVec 32 := Scalar.shrsi v6521 c3_i32_3724
  let c3_i32_3725 : BitVec 32 := 3#32
  let v6523 : BitVec 32 := Scalar.shli v6522 c3_i32_3725
  let v6524 : BitVec 32 := v6523
  let v6525 : Index := Scalar.indexCast v6524
  let c0_3726 : Index := 0#32
  ![v6525.toNat, 0]

def k1_chk465 (v6521 : BitVec 32) : Prop :=
  (8 ∣ (k1_mult465 v6521).toNat) ∧
  (∀ a, (k1_off465 v6521) a + S8x128.size a ≤ S12800x128.size a)
theorem k1_mult465_dvd : ∀ (v6521 : BitVec 32) (k1_hw465 : k1_chk465 v6521), 8 ∣ (k1_mult465 v6521).toNat := fun v6521 k1_hw465 => k1_hw465.1
theorem k1_off465_inb : ∀ (v6521 : BitVec 32) (k1_hw465 : k1_chk465 v6521), ∀ a, (k1_off465 v6521) a + S8x128.size a ≤ S12800x128.size a := fun v6521 k1_hw465 => k1_hw465.2

def k1_mult466 (v6535 : BitVec 32) : BitVec 32 :=
  let c3_i32_3732 : BitVec 32 := 3#32
  let v6536 : BitVec 32 := Scalar.shrsi v6535 c3_i32_3732
  let c3_i32_3733 : BitVec 32 := 3#32
  let v6537 : BitVec 32 := Scalar.shli v6536 c3_i32_3733
  v6537

def k1_off466 (v6535 : BitVec 32) : Fin 2 → Nat :=
  let c3_i32_3732 : BitVec 32 := 3#32
  let v6536 : BitVec 32 := Scalar.shrsi v6535 c3_i32_3732
  let c3_i32_3733 : BitVec 32 := 3#32
  let v6537 : BitVec 32 := Scalar.shli v6536 c3_i32_3733
  let v6538 : BitVec 32 := v6537
  let v6539 : Index := Scalar.indexCast v6538
  let c0_3734 : Index := 0#32
  ![v6539.toNat, 0]

def k1_chk466 (v6535 : BitVec 32) : Prop :=
  (8 ∣ (k1_mult466 v6535).toNat) ∧
  (∀ a, (k1_off466 v6535) a + S8x128.size a ≤ S12800x128.size a)
theorem k1_mult466_dvd : ∀ (v6535 : BitVec 32) (k1_hw466 : k1_chk466 v6535), 8 ∣ (k1_mult466 v6535).toNat := fun v6535 k1_hw466 => k1_hw466.1
theorem k1_off466_inb : ∀ (v6535 : BitVec 32) (k1_hw466 : k1_chk466 v6535), ∀ a, (k1_off466 v6535) a + S8x128.size a ≤ S12800x128.size a := fun v6535 k1_hw466 => k1_hw466.2

def k1_mult467 (v6549 : BitVec 32) : BitVec 32 :=
  let c3_i32_3740 : BitVec 32 := 3#32
  let v6550 : BitVec 32 := Scalar.shrsi v6549 c3_i32_3740
  let c3_i32_3741 : BitVec 32 := 3#32
  let v6551 : BitVec 32 := Scalar.shli v6550 c3_i32_3741
  v6551

def k1_off467 (v6549 : BitVec 32) : Fin 2 → Nat :=
  let c3_i32_3740 : BitVec 32 := 3#32
  let v6550 : BitVec 32 := Scalar.shrsi v6549 c3_i32_3740
  let c3_i32_3741 : BitVec 32 := 3#32
  let v6551 : BitVec 32 := Scalar.shli v6550 c3_i32_3741
  let v6552 : BitVec 32 := v6551
  let v6553 : Index := Scalar.indexCast v6552
  let c0_3742 : Index := 0#32
  ![v6553.toNat, 0]

def k1_chk467 (v6549 : BitVec 32) : Prop :=
  (8 ∣ (k1_mult467 v6549).toNat) ∧
  (∀ a, (k1_off467 v6549) a + S8x128.size a ≤ S12800x128.size a)
theorem k1_mult467_dvd : ∀ (v6549 : BitVec 32) (k1_hw467 : k1_chk467 v6549), 8 ∣ (k1_mult467 v6549).toNat := fun v6549 k1_hw467 => k1_hw467.1
theorem k1_off467_inb : ∀ (v6549 : BitVec 32) (k1_hw467 : k1_chk467 v6549), ∀ a, (k1_off467 v6549) a + S8x128.size a ≤ S12800x128.size a := fun v6549 k1_hw467 => k1_hw467.2

def k1_mult468 (v6563 : BitVec 32) : BitVec 32 :=
  let c3_i32_3748 : BitVec 32 := 3#32
  let v6564 : BitVec 32 := Scalar.shrsi v6563 c3_i32_3748
  let c3_i32_3749 : BitVec 32 := 3#32
  let v6565 : BitVec 32 := Scalar.shli v6564 c3_i32_3749
  v6565

def k1_off468 (v6563 : BitVec 32) : Fin 2 → Nat :=
  let c3_i32_3748 : BitVec 32 := 3#32
  let v6564 : BitVec 32 := Scalar.shrsi v6563 c3_i32_3748
  let c3_i32_3749 : BitVec 32 := 3#32
  let v6565 : BitVec 32 := Scalar.shli v6564 c3_i32_3749
  let v6566 : BitVec 32 := v6565
  let v6567 : Index := Scalar.indexCast v6566
  let c0_3750 : Index := 0#32
  ![v6567.toNat, 0]

def k1_chk468 (v6563 : BitVec 32) : Prop :=
  (8 ∣ (k1_mult468 v6563).toNat) ∧
  (∀ a, (k1_off468 v6563) a + S8x128.size a ≤ S12800x128.size a)
theorem k1_mult468_dvd : ∀ (v6563 : BitVec 32) (k1_hw468 : k1_chk468 v6563), 8 ∣ (k1_mult468 v6563).toNat := fun v6563 k1_hw468 => k1_hw468.1
theorem k1_off468_inb : ∀ (v6563 : BitVec 32) (k1_hw468 : k1_chk468 v6563), ∀ a, (k1_off468 v6563) a + S8x128.size a ≤ S12800x128.size a := fun v6563 k1_hw468 => k1_hw468.2

def k1_mult469 (v6577 : BitVec 32) : BitVec 32 :=
  let c3_i32_3756 : BitVec 32 := 3#32
  let v6578 : BitVec 32 := Scalar.shrsi v6577 c3_i32_3756
  let c3_i32_3757 : BitVec 32 := 3#32
  let v6579 : BitVec 32 := Scalar.shli v6578 c3_i32_3757
  v6579

def k1_off469 (v6577 : BitVec 32) : Fin 2 → Nat :=
  let c3_i32_3756 : BitVec 32 := 3#32
  let v6578 : BitVec 32 := Scalar.shrsi v6577 c3_i32_3756
  let c3_i32_3757 : BitVec 32 := 3#32
  let v6579 : BitVec 32 := Scalar.shli v6578 c3_i32_3757
  let v6580 : BitVec 32 := v6579
  let v6581 : Index := Scalar.indexCast v6580
  let c0_3758 : Index := 0#32
  ![v6581.toNat, 0]

def k1_chk469 (v6577 : BitVec 32) : Prop :=
  (8 ∣ (k1_mult469 v6577).toNat) ∧
  (∀ a, (k1_off469 v6577) a + S8x128.size a ≤ S12800x128.size a)
theorem k1_mult469_dvd : ∀ (v6577 : BitVec 32) (k1_hw469 : k1_chk469 v6577), 8 ∣ (k1_mult469 v6577).toNat := fun v6577 k1_hw469 => k1_hw469.1
theorem k1_off469_inb : ∀ (v6577 : BitVec 32) (k1_hw469 : k1_chk469 v6577), ∀ a, (k1_off469 v6577) a + S8x128.size a ≤ S12800x128.size a := fun v6577 k1_hw469 => k1_hw469.2

def k1_mult470 (v6591 : BitVec 32) : BitVec 32 :=
  let c3_i32_3764 : BitVec 32 := 3#32
  let v6592 : BitVec 32 := Scalar.shrsi v6591 c3_i32_3764
  let c3_i32_3765 : BitVec 32 := 3#32
  let v6593 : BitVec 32 := Scalar.shli v6592 c3_i32_3765
  v6593

def k1_off470 (v6591 : BitVec 32) : Fin 2 → Nat :=
  let c3_i32_3764 : BitVec 32 := 3#32
  let v6592 : BitVec 32 := Scalar.shrsi v6591 c3_i32_3764
  let c3_i32_3765 : BitVec 32 := 3#32
  let v6593 : BitVec 32 := Scalar.shli v6592 c3_i32_3765
  let v6594 : BitVec 32 := v6593
  let v6595 : Index := Scalar.indexCast v6594
  let c0_3766 : Index := 0#32
  ![v6595.toNat, 0]

def k1_chk470 (v6591 : BitVec 32) : Prop :=
  (8 ∣ (k1_mult470 v6591).toNat) ∧
  (∀ a, (k1_off470 v6591) a + S8x128.size a ≤ S12800x128.size a)
theorem k1_mult470_dvd : ∀ (v6591 : BitVec 32) (k1_hw470 : k1_chk470 v6591), 8 ∣ (k1_mult470 v6591).toNat := fun v6591 k1_hw470 => k1_hw470.1
theorem k1_off470_inb : ∀ (v6591 : BitVec 32) (k1_hw470 : k1_chk470 v6591), ∀ a, (k1_off470 v6591) a + S8x128.size a ≤ S12800x128.size a := fun v6591 k1_hw470 => k1_hw470.2

def k1_mult471 (v6605 : BitVec 32) : BitVec 32 :=
  let c3_i32_3772 : BitVec 32 := 3#32
  let v6606 : BitVec 32 := Scalar.shrsi v6605 c3_i32_3772
  let c3_i32_3773 : BitVec 32 := 3#32
  let v6607 : BitVec 32 := Scalar.shli v6606 c3_i32_3773
  v6607

def k1_off471 (v6605 : BitVec 32) : Fin 2 → Nat :=
  let c3_i32_3772 : BitVec 32 := 3#32
  let v6606 : BitVec 32 := Scalar.shrsi v6605 c3_i32_3772
  let c3_i32_3773 : BitVec 32 := 3#32
  let v6607 : BitVec 32 := Scalar.shli v6606 c3_i32_3773
  let v6608 : BitVec 32 := v6607
  let v6609 : Index := Scalar.indexCast v6608
  let c0_3774 : Index := 0#32
  ![v6609.toNat, 0]

def k1_chk471 (v6605 : BitVec 32) : Prop :=
  (8 ∣ (k1_mult471 v6605).toNat) ∧
  (∀ a, (k1_off471 v6605) a + S8x128.size a ≤ S12800x128.size a)
theorem k1_mult471_dvd : ∀ (v6605 : BitVec 32) (k1_hw471 : k1_chk471 v6605), 8 ∣ (k1_mult471 v6605).toNat := fun v6605 k1_hw471 => k1_hw471.1
theorem k1_off471_inb : ∀ (v6605 : BitVec 32) (k1_hw471 : k1_chk471 v6605), ∀ a, (k1_off471 v6605) a + S8x128.size a ≤ S12800x128.size a := fun v6605 k1_hw471 => k1_hw471.2

def k1_mult472 (v6619 : BitVec 32) : BitVec 32 :=
  let c3_i32_3780 : BitVec 32 := 3#32
  let v6620 : BitVec 32 := Scalar.shrsi v6619 c3_i32_3780
  let c3_i32_3781 : BitVec 32 := 3#32
  let v6621 : BitVec 32 := Scalar.shli v6620 c3_i32_3781
  v6621

def k1_off472 (v6619 : BitVec 32) : Fin 2 → Nat :=
  let c3_i32_3780 : BitVec 32 := 3#32
  let v6620 : BitVec 32 := Scalar.shrsi v6619 c3_i32_3780
  let c3_i32_3781 : BitVec 32 := 3#32
  let v6621 : BitVec 32 := Scalar.shli v6620 c3_i32_3781
  let v6622 : BitVec 32 := v6621
  let v6623 : Index := Scalar.indexCast v6622
  let c0_3782 : Index := 0#32
  ![v6623.toNat, 0]

def k1_chk472 (v6619 : BitVec 32) : Prop :=
  (8 ∣ (k1_mult472 v6619).toNat) ∧
  (∀ a, (k1_off472 v6619) a + S8x128.size a ≤ S12800x128.size a)
theorem k1_mult472_dvd : ∀ (v6619 : BitVec 32) (k1_hw472 : k1_chk472 v6619), 8 ∣ (k1_mult472 v6619).toNat := fun v6619 k1_hw472 => k1_hw472.1
theorem k1_off472_inb : ∀ (v6619 : BitVec 32) (k1_hw472 : k1_chk472 v6619), ∀ a, (k1_off472 v6619) a + S8x128.size a ≤ S12800x128.size a := fun v6619 k1_hw472 => k1_hw472.2

def k1_mult473 (v6633 : BitVec 32) : BitVec 32 :=
  let c3_i32_3788 : BitVec 32 := 3#32
  let v6634 : BitVec 32 := Scalar.shrsi v6633 c3_i32_3788
  let c3_i32_3789 : BitVec 32 := 3#32
  let v6635 : BitVec 32 := Scalar.shli v6634 c3_i32_3789
  v6635

def k1_off473 (v6633 : BitVec 32) : Fin 2 → Nat :=
  let c3_i32_3788 : BitVec 32 := 3#32
  let v6634 : BitVec 32 := Scalar.shrsi v6633 c3_i32_3788
  let c3_i32_3789 : BitVec 32 := 3#32
  let v6635 : BitVec 32 := Scalar.shli v6634 c3_i32_3789
  let v6636 : BitVec 32 := v6635
  let v6637 : Index := Scalar.indexCast v6636
  let c0_3790 : Index := 0#32
  ![v6637.toNat, 0]

def k1_chk473 (v6633 : BitVec 32) : Prop :=
  (8 ∣ (k1_mult473 v6633).toNat) ∧
  (∀ a, (k1_off473 v6633) a + S8x128.size a ≤ S12800x128.size a)
theorem k1_mult473_dvd : ∀ (v6633 : BitVec 32) (k1_hw473 : k1_chk473 v6633), 8 ∣ (k1_mult473 v6633).toNat := fun v6633 k1_hw473 => k1_hw473.1
theorem k1_off473_inb : ∀ (v6633 : BitVec 32) (k1_hw473 : k1_chk473 v6633), ∀ a, (k1_off473 v6633) a + S8x128.size a ≤ S12800x128.size a := fun v6633 k1_hw473 => k1_hw473.2

def k1_mult474 (v6647 : BitVec 32) : BitVec 32 :=
  let c3_i32_3796 : BitVec 32 := 3#32
  let v6648 : BitVec 32 := Scalar.shrsi v6647 c3_i32_3796
  let c3_i32_3797 : BitVec 32 := 3#32
  let v6649 : BitVec 32 := Scalar.shli v6648 c3_i32_3797
  v6649

def k1_off474 (v6647 : BitVec 32) : Fin 2 → Nat :=
  let c3_i32_3796 : BitVec 32 := 3#32
  let v6648 : BitVec 32 := Scalar.shrsi v6647 c3_i32_3796
  let c3_i32_3797 : BitVec 32 := 3#32
  let v6649 : BitVec 32 := Scalar.shli v6648 c3_i32_3797
  let v6650 : BitVec 32 := v6649
  let v6651 : Index := Scalar.indexCast v6650
  let c0_3798 : Index := 0#32
  ![v6651.toNat, 0]

def k1_chk474 (v6647 : BitVec 32) : Prop :=
  (8 ∣ (k1_mult474 v6647).toNat) ∧
  (∀ a, (k1_off474 v6647) a + S8x128.size a ≤ S12800x128.size a)
theorem k1_mult474_dvd : ∀ (v6647 : BitVec 32) (k1_hw474 : k1_chk474 v6647), 8 ∣ (k1_mult474 v6647).toNat := fun v6647 k1_hw474 => k1_hw474.1
theorem k1_off474_inb : ∀ (v6647 : BitVec 32) (k1_hw474 : k1_chk474 v6647), ∀ a, (k1_off474 v6647) a + S8x128.size a ≤ S12800x128.size a := fun v6647 k1_hw474 => k1_hw474.2

def k1_mult475 (v6661 : BitVec 32) : BitVec 32 :=
  let c3_i32_3804 : BitVec 32 := 3#32
  let v6662 : BitVec 32 := Scalar.shrsi v6661 c3_i32_3804
  let c3_i32_3805 : BitVec 32 := 3#32
  let v6663 : BitVec 32 := Scalar.shli v6662 c3_i32_3805
  v6663

def k1_off475 (v6661 : BitVec 32) : Fin 2 → Nat :=
  let c3_i32_3804 : BitVec 32 := 3#32
  let v6662 : BitVec 32 := Scalar.shrsi v6661 c3_i32_3804
  let c3_i32_3805 : BitVec 32 := 3#32
  let v6663 : BitVec 32 := Scalar.shli v6662 c3_i32_3805
  let v6664 : BitVec 32 := v6663
  let v6665 : Index := Scalar.indexCast v6664
  let c0_3806 : Index := 0#32
  ![v6665.toNat, 0]

def k1_chk475 (v6661 : BitVec 32) : Prop :=
  (8 ∣ (k1_mult475 v6661).toNat) ∧
  (∀ a, (k1_off475 v6661) a + S8x128.size a ≤ S12800x128.size a)
theorem k1_mult475_dvd : ∀ (v6661 : BitVec 32) (k1_hw475 : k1_chk475 v6661), 8 ∣ (k1_mult475 v6661).toNat := fun v6661 k1_hw475 => k1_hw475.1
theorem k1_off475_inb : ∀ (v6661 : BitVec 32) (k1_hw475 : k1_chk475 v6661), ∀ a, (k1_off475 v6661) a + S8x128.size a ≤ S12800x128.size a := fun v6661 k1_hw475 => k1_hw475.2

def k1_mult476 (v6675 : BitVec 32) : BitVec 32 :=
  let c3_i32_3812 : BitVec 32 := 3#32
  let v6676 : BitVec 32 := Scalar.shrsi v6675 c3_i32_3812
  let c3_i32_3813 : BitVec 32 := 3#32
  let v6677 : BitVec 32 := Scalar.shli v6676 c3_i32_3813
  v6677

def k1_off476 (v6675 : BitVec 32) : Fin 2 → Nat :=
  let c3_i32_3812 : BitVec 32 := 3#32
  let v6676 : BitVec 32 := Scalar.shrsi v6675 c3_i32_3812
  let c3_i32_3813 : BitVec 32 := 3#32
  let v6677 : BitVec 32 := Scalar.shli v6676 c3_i32_3813
  let v6678 : BitVec 32 := v6677
  let v6679 : Index := Scalar.indexCast v6678
  let c0_3814 : Index := 0#32
  ![v6679.toNat, 0]

def k1_chk476 (v6675 : BitVec 32) : Prop :=
  (8 ∣ (k1_mult476 v6675).toNat) ∧
  (∀ a, (k1_off476 v6675) a + S8x128.size a ≤ S12800x128.size a)
theorem k1_mult476_dvd : ∀ (v6675 : BitVec 32) (k1_hw476 : k1_chk476 v6675), 8 ∣ (k1_mult476 v6675).toNat := fun v6675 k1_hw476 => k1_hw476.1
theorem k1_off476_inb : ∀ (v6675 : BitVec 32) (k1_hw476 : k1_chk476 v6675), ∀ a, (k1_off476 v6675) a + S8x128.size a ≤ S12800x128.size a := fun v6675 k1_hw476 => k1_hw476.2

def k1_mult477 (v6689 : BitVec 32) : BitVec 32 :=
  let c3_i32_3820 : BitVec 32 := 3#32
  let v6690 : BitVec 32 := Scalar.shrsi v6689 c3_i32_3820
  let c3_i32_3821 : BitVec 32 := 3#32
  let v6691 : BitVec 32 := Scalar.shli v6690 c3_i32_3821
  v6691

def k1_off477 (v6689 : BitVec 32) : Fin 2 → Nat :=
  let c3_i32_3820 : BitVec 32 := 3#32
  let v6690 : BitVec 32 := Scalar.shrsi v6689 c3_i32_3820
  let c3_i32_3821 : BitVec 32 := 3#32
  let v6691 : BitVec 32 := Scalar.shli v6690 c3_i32_3821
  let v6692 : BitVec 32 := v6691
  let v6693 : Index := Scalar.indexCast v6692
  let c0_3822 : Index := 0#32
  ![v6693.toNat, 0]

def k1_chk477 (v6689 : BitVec 32) : Prop :=
  (8 ∣ (k1_mult477 v6689).toNat) ∧
  (∀ a, (k1_off477 v6689) a + S8x128.size a ≤ S12800x128.size a)
theorem k1_mult477_dvd : ∀ (v6689 : BitVec 32) (k1_hw477 : k1_chk477 v6689), 8 ∣ (k1_mult477 v6689).toNat := fun v6689 k1_hw477 => k1_hw477.1
theorem k1_off477_inb : ∀ (v6689 : BitVec 32) (k1_hw477 : k1_chk477 v6689), ∀ a, (k1_off477 v6689) a + S8x128.size a ≤ S12800x128.size a := fun v6689 k1_hw477 => k1_hw477.2

def k1_mult478 (v6703 : BitVec 32) : BitVec 32 :=
  let c3_i32_3828 : BitVec 32 := 3#32
  let v6704 : BitVec 32 := Scalar.shrsi v6703 c3_i32_3828
  let c3_i32_3829 : BitVec 32 := 3#32
  let v6705 : BitVec 32 := Scalar.shli v6704 c3_i32_3829
  v6705

def k1_off478 (v6703 : BitVec 32) : Fin 2 → Nat :=
  let c3_i32_3828 : BitVec 32 := 3#32
  let v6704 : BitVec 32 := Scalar.shrsi v6703 c3_i32_3828
  let c3_i32_3829 : BitVec 32 := 3#32
  let v6705 : BitVec 32 := Scalar.shli v6704 c3_i32_3829
  let v6706 : BitVec 32 := v6705
  let v6707 : Index := Scalar.indexCast v6706
  let c0_3830 : Index := 0#32
  ![v6707.toNat, 0]

def k1_chk478 (v6703 : BitVec 32) : Prop :=
  (8 ∣ (k1_mult478 v6703).toNat) ∧
  (∀ a, (k1_off478 v6703) a + S8x128.size a ≤ S12800x128.size a)
theorem k1_mult478_dvd : ∀ (v6703 : BitVec 32) (k1_hw478 : k1_chk478 v6703), 8 ∣ (k1_mult478 v6703).toNat := fun v6703 k1_hw478 => k1_hw478.1
theorem k1_off478_inb : ∀ (v6703 : BitVec 32) (k1_hw478 : k1_chk478 v6703), ∀ a, (k1_off478 v6703) a + S8x128.size a ≤ S12800x128.size a := fun v6703 k1_hw478 => k1_hw478.2

def k1_mult479 (v6717 : BitVec 32) : BitVec 32 :=
  let c3_i32_3836 : BitVec 32 := 3#32
  let v6718 : BitVec 32 := Scalar.shrsi v6717 c3_i32_3836
  let c3_i32_3837 : BitVec 32 := 3#32
  let v6719 : BitVec 32 := Scalar.shli v6718 c3_i32_3837
  v6719

def k1_off479 (v6717 : BitVec 32) : Fin 2 → Nat :=
  let c3_i32_3836 : BitVec 32 := 3#32
  let v6718 : BitVec 32 := Scalar.shrsi v6717 c3_i32_3836
  let c3_i32_3837 : BitVec 32 := 3#32
  let v6719 : BitVec 32 := Scalar.shli v6718 c3_i32_3837
  let v6720 : BitVec 32 := v6719
  let v6721 : Index := Scalar.indexCast v6720
  let c0_3838 : Index := 0#32
  ![v6721.toNat, 0]

def k1_chk479 (v6717 : BitVec 32) : Prop :=
  (8 ∣ (k1_mult479 v6717).toNat) ∧
  (∀ a, (k1_off479 v6717) a + S8x128.size a ≤ S12800x128.size a)
theorem k1_mult479_dvd : ∀ (v6717 : BitVec 32) (k1_hw479 : k1_chk479 v6717), 8 ∣ (k1_mult479 v6717).toNat := fun v6717 k1_hw479 => k1_hw479.1
theorem k1_off479_inb : ∀ (v6717 : BitVec 32) (k1_hw479 : k1_chk479 v6717), ∀ a, (k1_off479 v6717) a + S8x128.size a ≤ S12800x128.size a := fun v6717 k1_hw479 => k1_hw479.2

def k1_mult480 (v6731 : BitVec 32) : BitVec 32 :=
  let c3_i32_3844 : BitVec 32 := 3#32
  let v6732 : BitVec 32 := Scalar.shrsi v6731 c3_i32_3844
  let c3_i32_3845 : BitVec 32 := 3#32
  let v6733 : BitVec 32 := Scalar.shli v6732 c3_i32_3845
  v6733

def k1_off480 (v6731 : BitVec 32) : Fin 2 → Nat :=
  let c3_i32_3844 : BitVec 32 := 3#32
  let v6732 : BitVec 32 := Scalar.shrsi v6731 c3_i32_3844
  let c3_i32_3845 : BitVec 32 := 3#32
  let v6733 : BitVec 32 := Scalar.shli v6732 c3_i32_3845
  let v6734 : BitVec 32 := v6733
  let v6735 : Index := Scalar.indexCast v6734
  let c0_3846 : Index := 0#32
  ![v6735.toNat, 0]

def k1_chk480 (v6731 : BitVec 32) : Prop :=
  (8 ∣ (k1_mult480 v6731).toNat) ∧
  (∀ a, (k1_off480 v6731) a + S8x128.size a ≤ S12800x128.size a)
theorem k1_mult480_dvd : ∀ (v6731 : BitVec 32) (k1_hw480 : k1_chk480 v6731), 8 ∣ (k1_mult480 v6731).toNat := fun v6731 k1_hw480 => k1_hw480.1
theorem k1_off480_inb : ∀ (v6731 : BitVec 32) (k1_hw480 : k1_chk480 v6731), ∀ a, (k1_off480 v6731) a + S8x128.size a ≤ S12800x128.size a := fun v6731 k1_hw480 => k1_hw480.2

def k1_mult481 (v6745 : BitVec 32) : BitVec 32 :=
  let c3_i32_3852 : BitVec 32 := 3#32
  let v6746 : BitVec 32 := Scalar.shrsi v6745 c3_i32_3852
  let c3_i32_3853 : BitVec 32 := 3#32
  let v6747 : BitVec 32 := Scalar.shli v6746 c3_i32_3853
  v6747

def k1_off481 (v6745 : BitVec 32) : Fin 2 → Nat :=
  let c3_i32_3852 : BitVec 32 := 3#32
  let v6746 : BitVec 32 := Scalar.shrsi v6745 c3_i32_3852
  let c3_i32_3853 : BitVec 32 := 3#32
  let v6747 : BitVec 32 := Scalar.shli v6746 c3_i32_3853
  let v6748 : BitVec 32 := v6747
  let v6749 : Index := Scalar.indexCast v6748
  let c0_3854 : Index := 0#32
  ![v6749.toNat, 0]

def k1_chk481 (v6745 : BitVec 32) : Prop :=
  (8 ∣ (k1_mult481 v6745).toNat) ∧
  (∀ a, (k1_off481 v6745) a + S8x128.size a ≤ S12800x128.size a)
theorem k1_mult481_dvd : ∀ (v6745 : BitVec 32) (k1_hw481 : k1_chk481 v6745), 8 ∣ (k1_mult481 v6745).toNat := fun v6745 k1_hw481 => k1_hw481.1
theorem k1_off481_inb : ∀ (v6745 : BitVec 32) (k1_hw481 : k1_chk481 v6745), ∀ a, (k1_off481 v6745) a + S8x128.size a ≤ S12800x128.size a := fun v6745 k1_hw481 => k1_hw481.2

def k1_mult482 (v6759 : BitVec 32) : BitVec 32 :=
  let c3_i32_3860 : BitVec 32 := 3#32
  let v6760 : BitVec 32 := Scalar.shrsi v6759 c3_i32_3860
  let c3_i32_3861 : BitVec 32 := 3#32
  let v6761 : BitVec 32 := Scalar.shli v6760 c3_i32_3861
  v6761

def k1_off482 (v6759 : BitVec 32) : Fin 2 → Nat :=
  let c3_i32_3860 : BitVec 32 := 3#32
  let v6760 : BitVec 32 := Scalar.shrsi v6759 c3_i32_3860
  let c3_i32_3861 : BitVec 32 := 3#32
  let v6761 : BitVec 32 := Scalar.shli v6760 c3_i32_3861
  let v6762 : BitVec 32 := v6761
  let v6763 : Index := Scalar.indexCast v6762
  let c0_3862 : Index := 0#32
  ![v6763.toNat, 0]

def k1_chk482 (v6759 : BitVec 32) : Prop :=
  (8 ∣ (k1_mult482 v6759).toNat) ∧
  (∀ a, (k1_off482 v6759) a + S8x128.size a ≤ S12800x128.size a)
theorem k1_mult482_dvd : ∀ (v6759 : BitVec 32) (k1_hw482 : k1_chk482 v6759), 8 ∣ (k1_mult482 v6759).toNat := fun v6759 k1_hw482 => k1_hw482.1
theorem k1_off482_inb : ∀ (v6759 : BitVec 32) (k1_hw482 : k1_chk482 v6759), ∀ a, (k1_off482 v6759) a + S8x128.size a ≤ S12800x128.size a := fun v6759 k1_hw482 => k1_hw482.2

def k1_mult483 (v6773 : BitVec 32) : BitVec 32 :=
  let c3_i32_3868 : BitVec 32 := 3#32
  let v6774 : BitVec 32 := Scalar.shrsi v6773 c3_i32_3868
  let c3_i32_3869 : BitVec 32 := 3#32
  let v6775 : BitVec 32 := Scalar.shli v6774 c3_i32_3869
  v6775

def k1_off483 (v6773 : BitVec 32) : Fin 2 → Nat :=
  let c3_i32_3868 : BitVec 32 := 3#32
  let v6774 : BitVec 32 := Scalar.shrsi v6773 c3_i32_3868
  let c3_i32_3869 : BitVec 32 := 3#32
  let v6775 : BitVec 32 := Scalar.shli v6774 c3_i32_3869
  let v6776 : BitVec 32 := v6775
  let v6777 : Index := Scalar.indexCast v6776
  let c0_3870 : Index := 0#32
  ![v6777.toNat, 0]

def k1_chk483 (v6773 : BitVec 32) : Prop :=
  (8 ∣ (k1_mult483 v6773).toNat) ∧
  (∀ a, (k1_off483 v6773) a + S8x128.size a ≤ S12800x128.size a)
theorem k1_mult483_dvd : ∀ (v6773 : BitVec 32) (k1_hw483 : k1_chk483 v6773), 8 ∣ (k1_mult483 v6773).toNat := fun v6773 k1_hw483 => k1_hw483.1
theorem k1_off483_inb : ∀ (v6773 : BitVec 32) (k1_hw483 : k1_chk483 v6773), ∀ a, (k1_off483 v6773) a + S8x128.size a ≤ S12800x128.size a := fun v6773 k1_hw483 => k1_hw483.2

def k1_mult484 (v6787 : BitVec 32) : BitVec 32 :=
  let c3_i32_3876 : BitVec 32 := 3#32
  let v6788 : BitVec 32 := Scalar.shrsi v6787 c3_i32_3876
  let c3_i32_3877 : BitVec 32 := 3#32
  let v6789 : BitVec 32 := Scalar.shli v6788 c3_i32_3877
  v6789

def k1_off484 (v6787 : BitVec 32) : Fin 2 → Nat :=
  let c3_i32_3876 : BitVec 32 := 3#32
  let v6788 : BitVec 32 := Scalar.shrsi v6787 c3_i32_3876
  let c3_i32_3877 : BitVec 32 := 3#32
  let v6789 : BitVec 32 := Scalar.shli v6788 c3_i32_3877
  let v6790 : BitVec 32 := v6789
  let v6791 : Index := Scalar.indexCast v6790
  let c0_3878 : Index := 0#32
  ![v6791.toNat, 0]

def k1_chk484 (v6787 : BitVec 32) : Prop :=
  (8 ∣ (k1_mult484 v6787).toNat) ∧
  (∀ a, (k1_off484 v6787) a + S8x128.size a ≤ S12800x128.size a)
theorem k1_mult484_dvd : ∀ (v6787 : BitVec 32) (k1_hw484 : k1_chk484 v6787), 8 ∣ (k1_mult484 v6787).toNat := fun v6787 k1_hw484 => k1_hw484.1
theorem k1_off484_inb : ∀ (v6787 : BitVec 32) (k1_hw484 : k1_chk484 v6787), ∀ a, (k1_off484 v6787) a + S8x128.size a ≤ S12800x128.size a := fun v6787 k1_hw484 => k1_hw484.2

def k1_mult485 (v6801 : BitVec 32) : BitVec 32 :=
  let c3_i32_3884 : BitVec 32 := 3#32
  let v6802 : BitVec 32 := Scalar.shrsi v6801 c3_i32_3884
  let c3_i32_3885 : BitVec 32 := 3#32
  let v6803 : BitVec 32 := Scalar.shli v6802 c3_i32_3885
  v6803

def k1_off485 (v6801 : BitVec 32) : Fin 2 → Nat :=
  let c3_i32_3884 : BitVec 32 := 3#32
  let v6802 : BitVec 32 := Scalar.shrsi v6801 c3_i32_3884
  let c3_i32_3885 : BitVec 32 := 3#32
  let v6803 : BitVec 32 := Scalar.shli v6802 c3_i32_3885
  let v6804 : BitVec 32 := v6803
  let v6805 : Index := Scalar.indexCast v6804
  let c0_3886 : Index := 0#32
  ![v6805.toNat, 0]

def k1_chk485 (v6801 : BitVec 32) : Prop :=
  (8 ∣ (k1_mult485 v6801).toNat) ∧
  (∀ a, (k1_off485 v6801) a + S8x128.size a ≤ S12800x128.size a)
theorem k1_mult485_dvd : ∀ (v6801 : BitVec 32) (k1_hw485 : k1_chk485 v6801), 8 ∣ (k1_mult485 v6801).toNat := fun v6801 k1_hw485 => k1_hw485.1
theorem k1_off485_inb : ∀ (v6801 : BitVec 32) (k1_hw485 : k1_chk485 v6801), ∀ a, (k1_off485 v6801) a + S8x128.size a ≤ S12800x128.size a := fun v6801 k1_hw485 => k1_hw485.2

def k1_mult486 (v6815 : BitVec 32) : BitVec 32 :=
  let c3_i32_3892 : BitVec 32 := 3#32
  let v6816 : BitVec 32 := Scalar.shrsi v6815 c3_i32_3892
  let c3_i32_3893 : BitVec 32 := 3#32
  let v6817 : BitVec 32 := Scalar.shli v6816 c3_i32_3893
  v6817

def k1_off486 (v6815 : BitVec 32) : Fin 2 → Nat :=
  let c3_i32_3892 : BitVec 32 := 3#32
  let v6816 : BitVec 32 := Scalar.shrsi v6815 c3_i32_3892
  let c3_i32_3893 : BitVec 32 := 3#32
  let v6817 : BitVec 32 := Scalar.shli v6816 c3_i32_3893
  let v6818 : BitVec 32 := v6817
  let v6819 : Index := Scalar.indexCast v6818
  let c0_3894 : Index := 0#32
  ![v6819.toNat, 0]

def k1_chk486 (v6815 : BitVec 32) : Prop :=
  (8 ∣ (k1_mult486 v6815).toNat) ∧
  (∀ a, (k1_off486 v6815) a + S8x128.size a ≤ S12800x128.size a)
theorem k1_mult486_dvd : ∀ (v6815 : BitVec 32) (k1_hw486 : k1_chk486 v6815), 8 ∣ (k1_mult486 v6815).toNat := fun v6815 k1_hw486 => k1_hw486.1
theorem k1_off486_inb : ∀ (v6815 : BitVec 32) (k1_hw486 : k1_chk486 v6815), ∀ a, (k1_off486 v6815) a + S8x128.size a ≤ S12800x128.size a := fun v6815 k1_hw486 => k1_hw486.2

def k1_mult487 (v6829 : BitVec 32) : BitVec 32 :=
  let c3_i32_3900 : BitVec 32 := 3#32
  let v6830 : BitVec 32 := Scalar.shrsi v6829 c3_i32_3900
  let c3_i32_3901 : BitVec 32 := 3#32
  let v6831 : BitVec 32 := Scalar.shli v6830 c3_i32_3901
  v6831

def k1_off487 (v6829 : BitVec 32) : Fin 2 → Nat :=
  let c3_i32_3900 : BitVec 32 := 3#32
  let v6830 : BitVec 32 := Scalar.shrsi v6829 c3_i32_3900
  let c3_i32_3901 : BitVec 32 := 3#32
  let v6831 : BitVec 32 := Scalar.shli v6830 c3_i32_3901
  let v6832 : BitVec 32 := v6831
  let v6833 : Index := Scalar.indexCast v6832
  let c0_3902 : Index := 0#32
  ![v6833.toNat, 0]

def k1_chk487 (v6829 : BitVec 32) : Prop :=
  (8 ∣ (k1_mult487 v6829).toNat) ∧
  (∀ a, (k1_off487 v6829) a + S8x128.size a ≤ S12800x128.size a)
theorem k1_mult487_dvd : ∀ (v6829 : BitVec 32) (k1_hw487 : k1_chk487 v6829), 8 ∣ (k1_mult487 v6829).toNat := fun v6829 k1_hw487 => k1_hw487.1
theorem k1_off487_inb : ∀ (v6829 : BitVec 32) (k1_hw487 : k1_chk487 v6829), ∀ a, (k1_off487 v6829) a + S8x128.size a ≤ S12800x128.size a := fun v6829 k1_hw487 => k1_hw487.2

def k1_mult488 (v6843 : BitVec 32) : BitVec 32 :=
  let c3_i32_3908 : BitVec 32 := 3#32
  let v6844 : BitVec 32 := Scalar.shrsi v6843 c3_i32_3908
  let c3_i32_3909 : BitVec 32 := 3#32
  let v6845 : BitVec 32 := Scalar.shli v6844 c3_i32_3909
  v6845

def k1_off488 (v6843 : BitVec 32) : Fin 2 → Nat :=
  let c3_i32_3908 : BitVec 32 := 3#32
  let v6844 : BitVec 32 := Scalar.shrsi v6843 c3_i32_3908
  let c3_i32_3909 : BitVec 32 := 3#32
  let v6845 : BitVec 32 := Scalar.shli v6844 c3_i32_3909
  let v6846 : BitVec 32 := v6845
  let v6847 : Index := Scalar.indexCast v6846
  let c0_3910 : Index := 0#32
  ![v6847.toNat, 0]

def k1_chk488 (v6843 : BitVec 32) : Prop :=
  (8 ∣ (k1_mult488 v6843).toNat) ∧
  (∀ a, (k1_off488 v6843) a + S8x128.size a ≤ S12800x128.size a)
theorem k1_mult488_dvd : ∀ (v6843 : BitVec 32) (k1_hw488 : k1_chk488 v6843), 8 ∣ (k1_mult488 v6843).toNat := fun v6843 k1_hw488 => k1_hw488.1
theorem k1_off488_inb : ∀ (v6843 : BitVec 32) (k1_hw488 : k1_chk488 v6843), ∀ a, (k1_off488 v6843) a + S8x128.size a ≤ S12800x128.size a := fun v6843 k1_hw488 => k1_hw488.2

def k1_mult489 (v6857 : BitVec 32) : BitVec 32 :=
  let c3_i32_3916 : BitVec 32 := 3#32
  let v6858 : BitVec 32 := Scalar.shrsi v6857 c3_i32_3916
  let c3_i32_3917 : BitVec 32 := 3#32
  let v6859 : BitVec 32 := Scalar.shli v6858 c3_i32_3917
  v6859

def k1_off489 (v6857 : BitVec 32) : Fin 2 → Nat :=
  let c3_i32_3916 : BitVec 32 := 3#32
  let v6858 : BitVec 32 := Scalar.shrsi v6857 c3_i32_3916
  let c3_i32_3917 : BitVec 32 := 3#32
  let v6859 : BitVec 32 := Scalar.shli v6858 c3_i32_3917
  let v6860 : BitVec 32 := v6859
  let v6861 : Index := Scalar.indexCast v6860
  let c0_3918 : Index := 0#32
  ![v6861.toNat, 0]

def k1_chk489 (v6857 : BitVec 32) : Prop :=
  (8 ∣ (k1_mult489 v6857).toNat) ∧
  (∀ a, (k1_off489 v6857) a + S8x128.size a ≤ S12800x128.size a)
theorem k1_mult489_dvd : ∀ (v6857 : BitVec 32) (k1_hw489 : k1_chk489 v6857), 8 ∣ (k1_mult489 v6857).toNat := fun v6857 k1_hw489 => k1_hw489.1
theorem k1_off489_inb : ∀ (v6857 : BitVec 32) (k1_hw489 : k1_chk489 v6857), ∀ a, (k1_off489 v6857) a + S8x128.size a ≤ S12800x128.size a := fun v6857 k1_hw489 => k1_hw489.2

def k1_mult490 (v6871 : BitVec 32) : BitVec 32 :=
  let c3_i32_3924 : BitVec 32 := 3#32
  let v6872 : BitVec 32 := Scalar.shrsi v6871 c3_i32_3924
  let c3_i32_3925 : BitVec 32 := 3#32
  let v6873 : BitVec 32 := Scalar.shli v6872 c3_i32_3925
  v6873

def k1_off490 (v6871 : BitVec 32) : Fin 2 → Nat :=
  let c3_i32_3924 : BitVec 32 := 3#32
  let v6872 : BitVec 32 := Scalar.shrsi v6871 c3_i32_3924
  let c3_i32_3925 : BitVec 32 := 3#32
  let v6873 : BitVec 32 := Scalar.shli v6872 c3_i32_3925
  let v6874 : BitVec 32 := v6873
  let v6875 : Index := Scalar.indexCast v6874
  let c0_3926 : Index := 0#32
  ![v6875.toNat, 0]

def k1_chk490 (v6871 : BitVec 32) : Prop :=
  (8 ∣ (k1_mult490 v6871).toNat) ∧
  (∀ a, (k1_off490 v6871) a + S8x128.size a ≤ S12800x128.size a)
theorem k1_mult490_dvd : ∀ (v6871 : BitVec 32) (k1_hw490 : k1_chk490 v6871), 8 ∣ (k1_mult490 v6871).toNat := fun v6871 k1_hw490 => k1_hw490.1
theorem k1_off490_inb : ∀ (v6871 : BitVec 32) (k1_hw490 : k1_chk490 v6871), ∀ a, (k1_off490 v6871) a + S8x128.size a ≤ S12800x128.size a := fun v6871 k1_hw490 => k1_hw490.2

def k1_mult491 (v6885 : BitVec 32) : BitVec 32 :=
  let c3_i32_3932 : BitVec 32 := 3#32
  let v6886 : BitVec 32 := Scalar.shrsi v6885 c3_i32_3932
  let c3_i32_3933 : BitVec 32 := 3#32
  let v6887 : BitVec 32 := Scalar.shli v6886 c3_i32_3933
  v6887

def k1_off491 (v6885 : BitVec 32) : Fin 2 → Nat :=
  let c3_i32_3932 : BitVec 32 := 3#32
  let v6886 : BitVec 32 := Scalar.shrsi v6885 c3_i32_3932
  let c3_i32_3933 : BitVec 32 := 3#32
  let v6887 : BitVec 32 := Scalar.shli v6886 c3_i32_3933
  let v6888 : BitVec 32 := v6887
  let v6889 : Index := Scalar.indexCast v6888
  let c0_3934 : Index := 0#32
  ![v6889.toNat, 0]

def k1_chk491 (v6885 : BitVec 32) : Prop :=
  (8 ∣ (k1_mult491 v6885).toNat) ∧
  (∀ a, (k1_off491 v6885) a + S8x128.size a ≤ S12800x128.size a)
theorem k1_mult491_dvd : ∀ (v6885 : BitVec 32) (k1_hw491 : k1_chk491 v6885), 8 ∣ (k1_mult491 v6885).toNat := fun v6885 k1_hw491 => k1_hw491.1
theorem k1_off491_inb : ∀ (v6885 : BitVec 32) (k1_hw491 : k1_chk491 v6885), ∀ a, (k1_off491 v6885) a + S8x128.size a ≤ S12800x128.size a := fun v6885 k1_hw491 => k1_hw491.2

def k1_mult492 (v6899 : BitVec 32) : BitVec 32 :=
  let c3_i32_3940 : BitVec 32 := 3#32
  let v6900 : BitVec 32 := Scalar.shrsi v6899 c3_i32_3940
  let c3_i32_3941 : BitVec 32 := 3#32
  let v6901 : BitVec 32 := Scalar.shli v6900 c3_i32_3941
  v6901

def k1_off492 (v6899 : BitVec 32) : Fin 2 → Nat :=
  let c3_i32_3940 : BitVec 32 := 3#32
  let v6900 : BitVec 32 := Scalar.shrsi v6899 c3_i32_3940
  let c3_i32_3941 : BitVec 32 := 3#32
  let v6901 : BitVec 32 := Scalar.shli v6900 c3_i32_3941
  let v6902 : BitVec 32 := v6901
  let v6903 : Index := Scalar.indexCast v6902
  let c0_3942 : Index := 0#32
  ![v6903.toNat, 0]

def k1_chk492 (v6899 : BitVec 32) : Prop :=
  (8 ∣ (k1_mult492 v6899).toNat) ∧
  (∀ a, (k1_off492 v6899) a + S8x128.size a ≤ S12800x128.size a)
theorem k1_mult492_dvd : ∀ (v6899 : BitVec 32) (k1_hw492 : k1_chk492 v6899), 8 ∣ (k1_mult492 v6899).toNat := fun v6899 k1_hw492 => k1_hw492.1
theorem k1_off492_inb : ∀ (v6899 : BitVec 32) (k1_hw492 : k1_chk492 v6899), ∀ a, (k1_off492 v6899) a + S8x128.size a ≤ S12800x128.size a := fun v6899 k1_hw492 => k1_hw492.2

def k1_mult493 (v6913 : BitVec 32) : BitVec 32 :=
  let c3_i32_3948 : BitVec 32 := 3#32
  let v6914 : BitVec 32 := Scalar.shrsi v6913 c3_i32_3948
  let c3_i32_3949 : BitVec 32 := 3#32
  let v6915 : BitVec 32 := Scalar.shli v6914 c3_i32_3949
  v6915

def k1_off493 (v6913 : BitVec 32) : Fin 2 → Nat :=
  let c3_i32_3948 : BitVec 32 := 3#32
  let v6914 : BitVec 32 := Scalar.shrsi v6913 c3_i32_3948
  let c3_i32_3949 : BitVec 32 := 3#32
  let v6915 : BitVec 32 := Scalar.shli v6914 c3_i32_3949
  let v6916 : BitVec 32 := v6915
  let v6917 : Index := Scalar.indexCast v6916
  let c0_3950 : Index := 0#32
  ![v6917.toNat, 0]

def k1_chk493 (v6913 : BitVec 32) : Prop :=
  (8 ∣ (k1_mult493 v6913).toNat) ∧
  (∀ a, (k1_off493 v6913) a + S8x128.size a ≤ S12800x128.size a)
theorem k1_mult493_dvd : ∀ (v6913 : BitVec 32) (k1_hw493 : k1_chk493 v6913), 8 ∣ (k1_mult493 v6913).toNat := fun v6913 k1_hw493 => k1_hw493.1
theorem k1_off493_inb : ∀ (v6913 : BitVec 32) (k1_hw493 : k1_chk493 v6913), ∀ a, (k1_off493 v6913) a + S8x128.size a ≤ S12800x128.size a := fun v6913 k1_hw493 => k1_hw493.2

def k1_mult494 (v6927 : BitVec 32) : BitVec 32 :=
  let c3_i32_3956 : BitVec 32 := 3#32
  let v6928 : BitVec 32 := Scalar.shrsi v6927 c3_i32_3956
  let c3_i32_3957 : BitVec 32 := 3#32
  let v6929 : BitVec 32 := Scalar.shli v6928 c3_i32_3957
  v6929

def k1_off494 (v6927 : BitVec 32) : Fin 2 → Nat :=
  let c3_i32_3956 : BitVec 32 := 3#32
  let v6928 : BitVec 32 := Scalar.shrsi v6927 c3_i32_3956
  let c3_i32_3957 : BitVec 32 := 3#32
  let v6929 : BitVec 32 := Scalar.shli v6928 c3_i32_3957
  let v6930 : BitVec 32 := v6929
  let v6931 : Index := Scalar.indexCast v6930
  let c0_3958 : Index := 0#32
  ![v6931.toNat, 0]

def k1_chk494 (v6927 : BitVec 32) : Prop :=
  (8 ∣ (k1_mult494 v6927).toNat) ∧
  (∀ a, (k1_off494 v6927) a + S8x128.size a ≤ S12800x128.size a)
theorem k1_mult494_dvd : ∀ (v6927 : BitVec 32) (k1_hw494 : k1_chk494 v6927), 8 ∣ (k1_mult494 v6927).toNat := fun v6927 k1_hw494 => k1_hw494.1
theorem k1_off494_inb : ∀ (v6927 : BitVec 32) (k1_hw494 : k1_chk494 v6927), ∀ a, (k1_off494 v6927) a + S8x128.size a ≤ S12800x128.size a := fun v6927 k1_hw494 => k1_hw494.2

def k1_mult495 (v6941 : BitVec 32) : BitVec 32 :=
  let c3_i32_3964 : BitVec 32 := 3#32
  let v6942 : BitVec 32 := Scalar.shrsi v6941 c3_i32_3964
  let c3_i32_3965 : BitVec 32 := 3#32
  let v6943 : BitVec 32 := Scalar.shli v6942 c3_i32_3965
  v6943

def k1_off495 (v6941 : BitVec 32) : Fin 2 → Nat :=
  let c3_i32_3964 : BitVec 32 := 3#32
  let v6942 : BitVec 32 := Scalar.shrsi v6941 c3_i32_3964
  let c3_i32_3965 : BitVec 32 := 3#32
  let v6943 : BitVec 32 := Scalar.shli v6942 c3_i32_3965
  let v6944 : BitVec 32 := v6943
  let v6945 : Index := Scalar.indexCast v6944
  let c0_3966 : Index := 0#32
  ![v6945.toNat, 0]

def k1_chk495 (v6941 : BitVec 32) : Prop :=
  (8 ∣ (k1_mult495 v6941).toNat) ∧
  (∀ a, (k1_off495 v6941) a + S8x128.size a ≤ S12800x128.size a)
theorem k1_mult495_dvd : ∀ (v6941 : BitVec 32) (k1_hw495 : k1_chk495 v6941), 8 ∣ (k1_mult495 v6941).toNat := fun v6941 k1_hw495 => k1_hw495.1
theorem k1_off495_inb : ∀ (v6941 : BitVec 32) (k1_hw495 : k1_chk495 v6941), ∀ a, (k1_off495 v6941) a + S8x128.size a ≤ S12800x128.size a := fun v6941 k1_hw495 => k1_hw495.2

def k1_mult496 (v6955 : BitVec 32) : BitVec 32 :=
  let c3_i32_3972 : BitVec 32 := 3#32
  let v6956 : BitVec 32 := Scalar.shrsi v6955 c3_i32_3972
  let c3_i32_3973 : BitVec 32 := 3#32
  let v6957 : BitVec 32 := Scalar.shli v6956 c3_i32_3973
  v6957

def k1_off496 (v6955 : BitVec 32) : Fin 2 → Nat :=
  let c3_i32_3972 : BitVec 32 := 3#32
  let v6956 : BitVec 32 := Scalar.shrsi v6955 c3_i32_3972
  let c3_i32_3973 : BitVec 32 := 3#32
  let v6957 : BitVec 32 := Scalar.shli v6956 c3_i32_3973
  let v6958 : BitVec 32 := v6957
  let v6959 : Index := Scalar.indexCast v6958
  let c0_3974 : Index := 0#32
  ![v6959.toNat, 0]

def k1_chk496 (v6955 : BitVec 32) : Prop :=
  (8 ∣ (k1_mult496 v6955).toNat) ∧
  (∀ a, (k1_off496 v6955) a + S8x128.size a ≤ S12800x128.size a)
theorem k1_mult496_dvd : ∀ (v6955 : BitVec 32) (k1_hw496 : k1_chk496 v6955), 8 ∣ (k1_mult496 v6955).toNat := fun v6955 k1_hw496 => k1_hw496.1
theorem k1_off496_inb : ∀ (v6955 : BitVec 32) (k1_hw496 : k1_chk496 v6955), ∀ a, (k1_off496 v6955) a + S8x128.size a ≤ S12800x128.size a := fun v6955 k1_hw496 => k1_hw496.2

def k1_mult497 (v6969 : BitVec 32) : BitVec 32 :=
  let c3_i32_3980 : BitVec 32 := 3#32
  let v6970 : BitVec 32 := Scalar.shrsi v6969 c3_i32_3980
  let c3_i32_3981 : BitVec 32 := 3#32
  let v6971 : BitVec 32 := Scalar.shli v6970 c3_i32_3981
  v6971

def k1_off497 (v6969 : BitVec 32) : Fin 2 → Nat :=
  let c3_i32_3980 : BitVec 32 := 3#32
  let v6970 : BitVec 32 := Scalar.shrsi v6969 c3_i32_3980
  let c3_i32_3981 : BitVec 32 := 3#32
  let v6971 : BitVec 32 := Scalar.shli v6970 c3_i32_3981
  let v6972 : BitVec 32 := v6971
  let v6973 : Index := Scalar.indexCast v6972
  let c0_3982 : Index := 0#32
  ![v6973.toNat, 0]

def k1_chk497 (v6969 : BitVec 32) : Prop :=
  (8 ∣ (k1_mult497 v6969).toNat) ∧
  (∀ a, (k1_off497 v6969) a + S8x128.size a ≤ S12800x128.size a)
theorem k1_mult497_dvd : ∀ (v6969 : BitVec 32) (k1_hw497 : k1_chk497 v6969), 8 ∣ (k1_mult497 v6969).toNat := fun v6969 k1_hw497 => k1_hw497.1
theorem k1_off497_inb : ∀ (v6969 : BitVec 32) (k1_hw497 : k1_chk497 v6969), ∀ a, (k1_off497 v6969) a + S8x128.size a ≤ S12800x128.size a := fun v6969 k1_hw497 => k1_hw497.2

def k1_mult498 (v6983 : BitVec 32) : BitVec 32 :=
  let c3_i32_3988 : BitVec 32 := 3#32
  let v6984 : BitVec 32 := Scalar.shrsi v6983 c3_i32_3988
  let c3_i32_3989 : BitVec 32 := 3#32
  let v6985 : BitVec 32 := Scalar.shli v6984 c3_i32_3989
  v6985

def k1_off498 (v6983 : BitVec 32) : Fin 2 → Nat :=
  let c3_i32_3988 : BitVec 32 := 3#32
  let v6984 : BitVec 32 := Scalar.shrsi v6983 c3_i32_3988
  let c3_i32_3989 : BitVec 32 := 3#32
  let v6985 : BitVec 32 := Scalar.shli v6984 c3_i32_3989
  let v6986 : BitVec 32 := v6985
  let v6987 : Index := Scalar.indexCast v6986
  let c0_3990 : Index := 0#32
  ![v6987.toNat, 0]

def k1_chk498 (v6983 : BitVec 32) : Prop :=
  (8 ∣ (k1_mult498 v6983).toNat) ∧
  (∀ a, (k1_off498 v6983) a + S8x128.size a ≤ S12800x128.size a)
theorem k1_mult498_dvd : ∀ (v6983 : BitVec 32) (k1_hw498 : k1_chk498 v6983), 8 ∣ (k1_mult498 v6983).toNat := fun v6983 k1_hw498 => k1_hw498.1
theorem k1_off498_inb : ∀ (v6983 : BitVec 32) (k1_hw498 : k1_chk498 v6983), ∀ a, (k1_off498 v6983) a + S8x128.size a ≤ S12800x128.size a := fun v6983 k1_hw498 => k1_hw498.2

def k1_mult499 (v6997 : BitVec 32) : BitVec 32 :=
  let c3_i32_3996 : BitVec 32 := 3#32
  let v6998 : BitVec 32 := Scalar.shrsi v6997 c3_i32_3996
  let c3_i32_3997 : BitVec 32 := 3#32
  let v6999 : BitVec 32 := Scalar.shli v6998 c3_i32_3997
  v6999

def k1_off499 (v6997 : BitVec 32) : Fin 2 → Nat :=
  let c3_i32_3996 : BitVec 32 := 3#32
  let v6998 : BitVec 32 := Scalar.shrsi v6997 c3_i32_3996
  let c3_i32_3997 : BitVec 32 := 3#32
  let v6999 : BitVec 32 := Scalar.shli v6998 c3_i32_3997
  let v7000 : BitVec 32 := v6999
  let v7001 : Index := Scalar.indexCast v7000
  let c0_3998 : Index := 0#32
  ![v7001.toNat, 0]

def k1_chk499 (v6997 : BitVec 32) : Prop :=
  (8 ∣ (k1_mult499 v6997).toNat) ∧
  (∀ a, (k1_off499 v6997) a + S8x128.size a ≤ S12800x128.size a)
theorem k1_mult499_dvd : ∀ (v6997 : BitVec 32) (k1_hw499 : k1_chk499 v6997), 8 ∣ (k1_mult499 v6997).toNat := fun v6997 k1_hw499 => k1_hw499.1
theorem k1_off499_inb : ∀ (v6997 : BitVec 32) (k1_hw499 : k1_chk499 v6997), ∀ a, (k1_off499 v6997) a + S8x128.size a ≤ S12800x128.size a := fun v6997 k1_hw499 => k1_hw499.2

def k1_mult500 (v7011 : BitVec 32) : BitVec 32 :=
  let c3_i32_4004 : BitVec 32 := 3#32
  let v7012 : BitVec 32 := Scalar.shrsi v7011 c3_i32_4004
  let c3_i32_4005 : BitVec 32 := 3#32
  let v7013 : BitVec 32 := Scalar.shli v7012 c3_i32_4005
  v7013

def k1_off500 (v7011 : BitVec 32) : Fin 2 → Nat :=
  let c3_i32_4004 : BitVec 32 := 3#32
  let v7012 : BitVec 32 := Scalar.shrsi v7011 c3_i32_4004
  let c3_i32_4005 : BitVec 32 := 3#32
  let v7013 : BitVec 32 := Scalar.shli v7012 c3_i32_4005
  let v7014 : BitVec 32 := v7013
  let v7015 : Index := Scalar.indexCast v7014
  let c0_4006 : Index := 0#32
  ![v7015.toNat, 0]

def k1_chk500 (v7011 : BitVec 32) : Prop :=
  (8 ∣ (k1_mult500 v7011).toNat) ∧
  (∀ a, (k1_off500 v7011) a + S8x128.size a ≤ S12800x128.size a)
theorem k1_mult500_dvd : ∀ (v7011 : BitVec 32) (k1_hw500 : k1_chk500 v7011), 8 ∣ (k1_mult500 v7011).toNat := fun v7011 k1_hw500 => k1_hw500.1
theorem k1_off500_inb : ∀ (v7011 : BitVec 32) (k1_hw500 : k1_chk500 v7011), ∀ a, (k1_off500 v7011) a + S8x128.size a ≤ S12800x128.size a := fun v7011 k1_hw500 => k1_hw500.2

def k1_mult501 (v7025 : BitVec 32) : BitVec 32 :=
  let c3_i32_4012 : BitVec 32 := 3#32
  let v7026 : BitVec 32 := Scalar.shrsi v7025 c3_i32_4012
  let c3_i32_4013 : BitVec 32 := 3#32
  let v7027 : BitVec 32 := Scalar.shli v7026 c3_i32_4013
  v7027

def k1_off501 (v7025 : BitVec 32) : Fin 2 → Nat :=
  let c3_i32_4012 : BitVec 32 := 3#32
  let v7026 : BitVec 32 := Scalar.shrsi v7025 c3_i32_4012
  let c3_i32_4013 : BitVec 32 := 3#32
  let v7027 : BitVec 32 := Scalar.shli v7026 c3_i32_4013
  let v7028 : BitVec 32 := v7027
  let v7029 : Index := Scalar.indexCast v7028
  let c0_4014 : Index := 0#32
  ![v7029.toNat, 0]

def k1_chk501 (v7025 : BitVec 32) : Prop :=
  (8 ∣ (k1_mult501 v7025).toNat) ∧
  (∀ a, (k1_off501 v7025) a + S8x128.size a ≤ S12800x128.size a)
theorem k1_mult501_dvd : ∀ (v7025 : BitVec 32) (k1_hw501 : k1_chk501 v7025), 8 ∣ (k1_mult501 v7025).toNat := fun v7025 k1_hw501 => k1_hw501.1
theorem k1_off501_inb : ∀ (v7025 : BitVec 32) (k1_hw501 : k1_chk501 v7025), ∀ a, (k1_off501 v7025) a + S8x128.size a ≤ S12800x128.size a := fun v7025 k1_hw501 => k1_hw501.2

def k1_mult502 (v7039 : BitVec 32) : BitVec 32 :=
  let c3_i32_4020 : BitVec 32 := 3#32
  let v7040 : BitVec 32 := Scalar.shrsi v7039 c3_i32_4020
  let c3_i32_4021 : BitVec 32 := 3#32
  let v7041 : BitVec 32 := Scalar.shli v7040 c3_i32_4021
  v7041

def k1_off502 (v7039 : BitVec 32) : Fin 2 → Nat :=
  let c3_i32_4020 : BitVec 32 := 3#32
  let v7040 : BitVec 32 := Scalar.shrsi v7039 c3_i32_4020
  let c3_i32_4021 : BitVec 32 := 3#32
  let v7041 : BitVec 32 := Scalar.shli v7040 c3_i32_4021
  let v7042 : BitVec 32 := v7041
  let v7043 : Index := Scalar.indexCast v7042
  let c0_4022 : Index := 0#32
  ![v7043.toNat, 0]

def k1_chk502 (v7039 : BitVec 32) : Prop :=
  (8 ∣ (k1_mult502 v7039).toNat) ∧
  (∀ a, (k1_off502 v7039) a + S8x128.size a ≤ S12800x128.size a)
theorem k1_mult502_dvd : ∀ (v7039 : BitVec 32) (k1_hw502 : k1_chk502 v7039), 8 ∣ (k1_mult502 v7039).toNat := fun v7039 k1_hw502 => k1_hw502.1
theorem k1_off502_inb : ∀ (v7039 : BitVec 32) (k1_hw502 : k1_chk502 v7039), ∀ a, (k1_off502 v7039) a + S8x128.size a ≤ S12800x128.size a := fun v7039 k1_hw502 => k1_hw502.2

def k1_mult503 (v7053 : BitVec 32) : BitVec 32 :=
  let c3_i32_4028 : BitVec 32 := 3#32
  let v7054 : BitVec 32 := Scalar.shrsi v7053 c3_i32_4028
  let c3_i32_4029 : BitVec 32 := 3#32
  let v7055 : BitVec 32 := Scalar.shli v7054 c3_i32_4029
  v7055

def k1_off503 (v7053 : BitVec 32) : Fin 2 → Nat :=
  let c3_i32_4028 : BitVec 32 := 3#32
  let v7054 : BitVec 32 := Scalar.shrsi v7053 c3_i32_4028
  let c3_i32_4029 : BitVec 32 := 3#32
  let v7055 : BitVec 32 := Scalar.shli v7054 c3_i32_4029
  let v7056 : BitVec 32 := v7055
  let v7057 : Index := Scalar.indexCast v7056
  let c0_4030 : Index := 0#32
  ![v7057.toNat, 0]

def k1_chk503 (v7053 : BitVec 32) : Prop :=
  (8 ∣ (k1_mult503 v7053).toNat) ∧
  (∀ a, (k1_off503 v7053) a + S8x128.size a ≤ S12800x128.size a)
theorem k1_mult503_dvd : ∀ (v7053 : BitVec 32) (k1_hw503 : k1_chk503 v7053), 8 ∣ (k1_mult503 v7053).toNat := fun v7053 k1_hw503 => k1_hw503.1
theorem k1_off503_inb : ∀ (v7053 : BitVec 32) (k1_hw503 : k1_chk503 v7053), ∀ a, (k1_off503 v7053) a + S8x128.size a ≤ S12800x128.size a := fun v7053 k1_hw503 => k1_hw503.2

def k1_mult504 (v7067 : BitVec 32) : BitVec 32 :=
  let c3_i32_4036 : BitVec 32 := 3#32
  let v7068 : BitVec 32 := Scalar.shrsi v7067 c3_i32_4036
  let c3_i32_4037 : BitVec 32 := 3#32
  let v7069 : BitVec 32 := Scalar.shli v7068 c3_i32_4037
  v7069

def k1_off504 (v7067 : BitVec 32) : Fin 2 → Nat :=
  let c3_i32_4036 : BitVec 32 := 3#32
  let v7068 : BitVec 32 := Scalar.shrsi v7067 c3_i32_4036
  let c3_i32_4037 : BitVec 32 := 3#32
  let v7069 : BitVec 32 := Scalar.shli v7068 c3_i32_4037
  let v7070 : BitVec 32 := v7069
  let v7071 : Index := Scalar.indexCast v7070
  let c0_4038 : Index := 0#32
  ![v7071.toNat, 0]

def k1_chk504 (v7067 : BitVec 32) : Prop :=
  (8 ∣ (k1_mult504 v7067).toNat) ∧
  (∀ a, (k1_off504 v7067) a + S8x128.size a ≤ S12800x128.size a)
theorem k1_mult504_dvd : ∀ (v7067 : BitVec 32) (k1_hw504 : k1_chk504 v7067), 8 ∣ (k1_mult504 v7067).toNat := fun v7067 k1_hw504 => k1_hw504.1
theorem k1_off504_inb : ∀ (v7067 : BitVec 32) (k1_hw504 : k1_chk504 v7067), ∀ a, (k1_off504 v7067) a + S8x128.size a ≤ S12800x128.size a := fun v7067 k1_hw504 => k1_hw504.2

def k1_mult505 (v7081 : BitVec 32) : BitVec 32 :=
  let c3_i32_4044 : BitVec 32 := 3#32
  let v7082 : BitVec 32 := Scalar.shrsi v7081 c3_i32_4044
  let c3_i32_4045 : BitVec 32 := 3#32
  let v7083 : BitVec 32 := Scalar.shli v7082 c3_i32_4045
  v7083

def k1_off505 (v7081 : BitVec 32) : Fin 2 → Nat :=
  let c3_i32_4044 : BitVec 32 := 3#32
  let v7082 : BitVec 32 := Scalar.shrsi v7081 c3_i32_4044
  let c3_i32_4045 : BitVec 32 := 3#32
  let v7083 : BitVec 32 := Scalar.shli v7082 c3_i32_4045
  let v7084 : BitVec 32 := v7083
  let v7085 : Index := Scalar.indexCast v7084
  let c0_4046 : Index := 0#32
  ![v7085.toNat, 0]

def k1_chk505 (v7081 : BitVec 32) : Prop :=
  (8 ∣ (k1_mult505 v7081).toNat) ∧
  (∀ a, (k1_off505 v7081) a + S8x128.size a ≤ S12800x128.size a)
theorem k1_mult505_dvd : ∀ (v7081 : BitVec 32) (k1_hw505 : k1_chk505 v7081), 8 ∣ (k1_mult505 v7081).toNat := fun v7081 k1_hw505 => k1_hw505.1
theorem k1_off505_inb : ∀ (v7081 : BitVec 32) (k1_hw505 : k1_chk505 v7081), ∀ a, (k1_off505 v7081) a + S8x128.size a ≤ S12800x128.size a := fun v7081 k1_hw505 => k1_hw505.2

def k1_mult506 (v7095 : BitVec 32) : BitVec 32 :=
  let c3_i32_4052 : BitVec 32 := 3#32
  let v7096 : BitVec 32 := Scalar.shrsi v7095 c3_i32_4052
  let c3_i32_4053 : BitVec 32 := 3#32
  let v7097 : BitVec 32 := Scalar.shli v7096 c3_i32_4053
  v7097

def k1_off506 (v7095 : BitVec 32) : Fin 2 → Nat :=
  let c3_i32_4052 : BitVec 32 := 3#32
  let v7096 : BitVec 32 := Scalar.shrsi v7095 c3_i32_4052
  let c3_i32_4053 : BitVec 32 := 3#32
  let v7097 : BitVec 32 := Scalar.shli v7096 c3_i32_4053
  let v7098 : BitVec 32 := v7097
  let v7099 : Index := Scalar.indexCast v7098
  let c0_4054 : Index := 0#32
  ![v7099.toNat, 0]

def k1_chk506 (v7095 : BitVec 32) : Prop :=
  (8 ∣ (k1_mult506 v7095).toNat) ∧
  (∀ a, (k1_off506 v7095) a + S8x128.size a ≤ S12800x128.size a)
theorem k1_mult506_dvd : ∀ (v7095 : BitVec 32) (k1_hw506 : k1_chk506 v7095), 8 ∣ (k1_mult506 v7095).toNat := fun v7095 k1_hw506 => k1_hw506.1
theorem k1_off506_inb : ∀ (v7095 : BitVec 32) (k1_hw506 : k1_chk506 v7095), ∀ a, (k1_off506 v7095) a + S8x128.size a ≤ S12800x128.size a := fun v7095 k1_hw506 => k1_hw506.2

def k1_mult507 (v7109 : BitVec 32) : BitVec 32 :=
  let c3_i32_4060 : BitVec 32 := 3#32
  let v7110 : BitVec 32 := Scalar.shrsi v7109 c3_i32_4060
  let c3_i32_4061 : BitVec 32 := 3#32
  let v7111 : BitVec 32 := Scalar.shli v7110 c3_i32_4061
  v7111

def k1_off507 (v7109 : BitVec 32) : Fin 2 → Nat :=
  let c3_i32_4060 : BitVec 32 := 3#32
  let v7110 : BitVec 32 := Scalar.shrsi v7109 c3_i32_4060
  let c3_i32_4061 : BitVec 32 := 3#32
  let v7111 : BitVec 32 := Scalar.shli v7110 c3_i32_4061
  let v7112 : BitVec 32 := v7111
  let v7113 : Index := Scalar.indexCast v7112
  let c0_4062 : Index := 0#32
  ![v7113.toNat, 0]

def k1_chk507 (v7109 : BitVec 32) : Prop :=
  (8 ∣ (k1_mult507 v7109).toNat) ∧
  (∀ a, (k1_off507 v7109) a + S8x128.size a ≤ S12800x128.size a)
theorem k1_mult507_dvd : ∀ (v7109 : BitVec 32) (k1_hw507 : k1_chk507 v7109), 8 ∣ (k1_mult507 v7109).toNat := fun v7109 k1_hw507 => k1_hw507.1
theorem k1_off507_inb : ∀ (v7109 : BitVec 32) (k1_hw507 : k1_chk507 v7109), ∀ a, (k1_off507 v7109) a + S8x128.size a ≤ S12800x128.size a := fun v7109 k1_hw507 => k1_hw507.2

def k1_mult508 (v7123 : BitVec 32) : BitVec 32 :=
  let c3_i32_4068 : BitVec 32 := 3#32
  let v7124 : BitVec 32 := Scalar.shrsi v7123 c3_i32_4068
  let c3_i32_4069 : BitVec 32 := 3#32
  let v7125 : BitVec 32 := Scalar.shli v7124 c3_i32_4069
  v7125

def k1_off508 (v7123 : BitVec 32) : Fin 2 → Nat :=
  let c3_i32_4068 : BitVec 32 := 3#32
  let v7124 : BitVec 32 := Scalar.shrsi v7123 c3_i32_4068
  let c3_i32_4069 : BitVec 32 := 3#32
  let v7125 : BitVec 32 := Scalar.shli v7124 c3_i32_4069
  let v7126 : BitVec 32 := v7125
  let v7127 : Index := Scalar.indexCast v7126
  let c0_4070 : Index := 0#32
  ![v7127.toNat, 0]

def k1_chk508 (v7123 : BitVec 32) : Prop :=
  (8 ∣ (k1_mult508 v7123).toNat) ∧
  (∀ a, (k1_off508 v7123) a + S8x128.size a ≤ S12800x128.size a)
theorem k1_mult508_dvd : ∀ (v7123 : BitVec 32) (k1_hw508 : k1_chk508 v7123), 8 ∣ (k1_mult508 v7123).toNat := fun v7123 k1_hw508 => k1_hw508.1
theorem k1_off508_inb : ∀ (v7123 : BitVec 32) (k1_hw508 : k1_chk508 v7123), ∀ a, (k1_off508 v7123) a + S8x128.size a ≤ S12800x128.size a := fun v7123 k1_hw508 => k1_hw508.2

def k1_mult509 (v7137 : BitVec 32) : BitVec 32 :=
  let c3_i32_4076 : BitVec 32 := 3#32
  let v7138 : BitVec 32 := Scalar.shrsi v7137 c3_i32_4076
  let c3_i32_4077 : BitVec 32 := 3#32
  let v7139 : BitVec 32 := Scalar.shli v7138 c3_i32_4077
  v7139

def k1_off509 (v7137 : BitVec 32) : Fin 2 → Nat :=
  let c3_i32_4076 : BitVec 32 := 3#32
  let v7138 : BitVec 32 := Scalar.shrsi v7137 c3_i32_4076
  let c3_i32_4077 : BitVec 32 := 3#32
  let v7139 : BitVec 32 := Scalar.shli v7138 c3_i32_4077
  let v7140 : BitVec 32 := v7139
  let v7141 : Index := Scalar.indexCast v7140
  let c0_4078 : Index := 0#32
  ![v7141.toNat, 0]

def k1_chk509 (v7137 : BitVec 32) : Prop :=
  (8 ∣ (k1_mult509 v7137).toNat) ∧
  (∀ a, (k1_off509 v7137) a + S8x128.size a ≤ S12800x128.size a)
theorem k1_mult509_dvd : ∀ (v7137 : BitVec 32) (k1_hw509 : k1_chk509 v7137), 8 ∣ (k1_mult509 v7137).toNat := fun v7137 k1_hw509 => k1_hw509.1
theorem k1_off509_inb : ∀ (v7137 : BitVec 32) (k1_hw509 : k1_chk509 v7137), ∀ a, (k1_off509 v7137) a + S8x128.size a ≤ S12800x128.size a := fun v7137 k1_hw509 => k1_hw509.2

def k1_mult510 (v7151 : BitVec 32) : BitVec 32 :=
  let c3_i32_4084 : BitVec 32 := 3#32
  let v7152 : BitVec 32 := Scalar.shrsi v7151 c3_i32_4084
  let c3_i32_4085 : BitVec 32 := 3#32
  let v7153 : BitVec 32 := Scalar.shli v7152 c3_i32_4085
  v7153

def k1_off510 (v7151 : BitVec 32) : Fin 2 → Nat :=
  let c3_i32_4084 : BitVec 32 := 3#32
  let v7152 : BitVec 32 := Scalar.shrsi v7151 c3_i32_4084
  let c3_i32_4085 : BitVec 32 := 3#32
  let v7153 : BitVec 32 := Scalar.shli v7152 c3_i32_4085
  let v7154 : BitVec 32 := v7153
  let v7155 : Index := Scalar.indexCast v7154
  let c0_4086 : Index := 0#32
  ![v7155.toNat, 0]

def k1_chk510 (v7151 : BitVec 32) : Prop :=
  (8 ∣ (k1_mult510 v7151).toNat) ∧
  (∀ a, (k1_off510 v7151) a + S8x128.size a ≤ S12800x128.size a)
theorem k1_mult510_dvd : ∀ (v7151 : BitVec 32) (k1_hw510 : k1_chk510 v7151), 8 ∣ (k1_mult510 v7151).toNat := fun v7151 k1_hw510 => k1_hw510.1
theorem k1_off510_inb : ∀ (v7151 : BitVec 32) (k1_hw510 : k1_chk510 v7151), ∀ a, (k1_off510 v7151) a + S8x128.size a ≤ S12800x128.size a := fun v7151 k1_hw510 => k1_hw510.2

def k1_mult511 (v7165 : BitVec 32) : BitVec 32 :=
  let c3_i32_4092 : BitVec 32 := 3#32
  let v7166 : BitVec 32 := Scalar.shrsi v7165 c3_i32_4092
  let c3_i32_4093 : BitVec 32 := 3#32
  let v7167 : BitVec 32 := Scalar.shli v7166 c3_i32_4093
  v7167

def k1_off511 (v7165 : BitVec 32) : Fin 2 → Nat :=
  let c3_i32_4092 : BitVec 32 := 3#32
  let v7166 : BitVec 32 := Scalar.shrsi v7165 c3_i32_4092
  let c3_i32_4093 : BitVec 32 := 3#32
  let v7167 : BitVec 32 := Scalar.shli v7166 c3_i32_4093
  let v7168 : BitVec 32 := v7167
  let v7169 : Index := Scalar.indexCast v7168
  let c0_4094 : Index := 0#32
  ![v7169.toNat, 0]

def k1_chk511 (v7165 : BitVec 32) : Prop :=
  (8 ∣ (k1_mult511 v7165).toNat) ∧
  (∀ a, (k1_off511 v7165) a + S8x128.size a ≤ S12800x128.size a)
theorem k1_mult511_dvd : ∀ (v7165 : BitVec 32) (k1_hw511 : k1_chk511 v7165), 8 ∣ (k1_mult511 v7165).toNat := fun v7165 k1_hw511 => k1_hw511.1
theorem k1_off511_inb : ∀ (v7165 : BitVec 32) (k1_hw511 : k1_chk511 v7165), ∀ a, (k1_off511 v7165) a + S8x128.size a ≤ S12800x128.size a := fun v7165 k1_hw511 => k1_hw511.2

def k1_mult512 (v7179 : BitVec 32) : BitVec 32 :=
  let c3_i32_4100 : BitVec 32 := 3#32
  let v7180 : BitVec 32 := Scalar.shrsi v7179 c3_i32_4100
  let c3_i32_4101 : BitVec 32 := 3#32
  let v7181 : BitVec 32 := Scalar.shli v7180 c3_i32_4101
  v7181

def k1_off512 (v7179 : BitVec 32) : Fin 2 → Nat :=
  let c3_i32_4100 : BitVec 32 := 3#32
  let v7180 : BitVec 32 := Scalar.shrsi v7179 c3_i32_4100
  let c3_i32_4101 : BitVec 32 := 3#32
  let v7181 : BitVec 32 := Scalar.shli v7180 c3_i32_4101
  let v7182 : BitVec 32 := v7181
  let v7183 : Index := Scalar.indexCast v7182
  let c0_4102 : Index := 0#32
  ![v7183.toNat, 0]

def k1_chk512 (v7179 : BitVec 32) : Prop :=
  (8 ∣ (k1_mult512 v7179).toNat) ∧
  (∀ a, (k1_off512 v7179) a + S8x128.size a ≤ S12800x128.size a)
theorem k1_mult512_dvd : ∀ (v7179 : BitVec 32) (k1_hw512 : k1_chk512 v7179), 8 ∣ (k1_mult512 v7179).toNat := fun v7179 k1_hw512 => k1_hw512.1
theorem k1_off512_inb : ∀ (v7179 : BitVec 32) (k1_hw512 : k1_chk512 v7179), ∀ a, (k1_off512 v7179) a + S8x128.size a ≤ S12800x128.size a := fun v7179 k1_hw512 => k1_hw512.2

def k1_mult513 (v7193 : BitVec 32) : BitVec 32 :=
  let c3_i32_4108 : BitVec 32 := 3#32
  let v7194 : BitVec 32 := Scalar.shrsi v7193 c3_i32_4108
  let c3_i32_4109 : BitVec 32 := 3#32
  let v7195 : BitVec 32 := Scalar.shli v7194 c3_i32_4109
  v7195

def k1_off513 (v7193 : BitVec 32) : Fin 2 → Nat :=
  let c3_i32_4108 : BitVec 32 := 3#32
  let v7194 : BitVec 32 := Scalar.shrsi v7193 c3_i32_4108
  let c3_i32_4109 : BitVec 32 := 3#32
  let v7195 : BitVec 32 := Scalar.shli v7194 c3_i32_4109
  let v7196 : BitVec 32 := v7195
  let v7197 : Index := Scalar.indexCast v7196
  let c0_4110 : Index := 0#32
  ![v7197.toNat, 0]

def k1_chk513 (v7193 : BitVec 32) : Prop :=
  (8 ∣ (k1_mult513 v7193).toNat) ∧
  (∀ a, (k1_off513 v7193) a + S8x128.size a ≤ S12800x128.size a)
theorem k1_mult513_dvd : ∀ (v7193 : BitVec 32) (k1_hw513 : k1_chk513 v7193), 8 ∣ (k1_mult513 v7193).toNat := fun v7193 k1_hw513 => k1_hw513.1
theorem k1_off513_inb : ∀ (v7193 : BitVec 32) (k1_hw513 : k1_chk513 v7193), ∀ a, (k1_off513 v7193) a + S8x128.size a ≤ S12800x128.size a := fun v7193 k1_hw513 => k1_hw513.2

def k1_mult514 (v7207 : BitVec 32) : BitVec 32 :=
  let c3_i32_4116 : BitVec 32 := 3#32
  let v7208 : BitVec 32 := Scalar.shrsi v7207 c3_i32_4116
  let c3_i32_4117 : BitVec 32 := 3#32
  let v7209 : BitVec 32 := Scalar.shli v7208 c3_i32_4117
  v7209

def k1_off514 (v7207 : BitVec 32) : Fin 2 → Nat :=
  let c3_i32_4116 : BitVec 32 := 3#32
  let v7208 : BitVec 32 := Scalar.shrsi v7207 c3_i32_4116
  let c3_i32_4117 : BitVec 32 := 3#32
  let v7209 : BitVec 32 := Scalar.shli v7208 c3_i32_4117
  let v7210 : BitVec 32 := v7209
  let v7211 : Index := Scalar.indexCast v7210
  let c0_4118 : Index := 0#32
  ![v7211.toNat, 0]

def k1_chk514 (v7207 : BitVec 32) : Prop :=
  (8 ∣ (k1_mult514 v7207).toNat) ∧
  (∀ a, (k1_off514 v7207) a + S8x128.size a ≤ S12800x128.size a)
theorem k1_mult514_dvd : ∀ (v7207 : BitVec 32) (k1_hw514 : k1_chk514 v7207), 8 ∣ (k1_mult514 v7207).toNat := fun v7207 k1_hw514 => k1_hw514.1
theorem k1_off514_inb : ∀ (v7207 : BitVec 32) (k1_hw514 : k1_chk514 v7207), ∀ a, (k1_off514 v7207) a + S8x128.size a ≤ S12800x128.size a := fun v7207 k1_hw514 => k1_hw514.2

def k1_mult515 (v7221 : BitVec 32) : BitVec 32 :=
  let c3_i32_4124 : BitVec 32 := 3#32
  let v7222 : BitVec 32 := Scalar.shrsi v7221 c3_i32_4124
  let c3_i32_4125 : BitVec 32 := 3#32
  let v7223 : BitVec 32 := Scalar.shli v7222 c3_i32_4125
  v7223

def k1_off515 (v7221 : BitVec 32) : Fin 2 → Nat :=
  let c3_i32_4124 : BitVec 32 := 3#32
  let v7222 : BitVec 32 := Scalar.shrsi v7221 c3_i32_4124
  let c3_i32_4125 : BitVec 32 := 3#32
  let v7223 : BitVec 32 := Scalar.shli v7222 c3_i32_4125
  let v7224 : BitVec 32 := v7223
  let v7225 : Index := Scalar.indexCast v7224
  let c0_4126 : Index := 0#32
  ![v7225.toNat, 0]

def k1_chk515 (v7221 : BitVec 32) : Prop :=
  (8 ∣ (k1_mult515 v7221).toNat) ∧
  (∀ a, (k1_off515 v7221) a + S8x128.size a ≤ S12800x128.size a)
theorem k1_mult515_dvd : ∀ (v7221 : BitVec 32) (k1_hw515 : k1_chk515 v7221), 8 ∣ (k1_mult515 v7221).toNat := fun v7221 k1_hw515 => k1_hw515.1
theorem k1_off515_inb : ∀ (v7221 : BitVec 32) (k1_hw515 : k1_chk515 v7221), ∀ a, (k1_off515 v7221) a + S8x128.size a ≤ S12800x128.size a := fun v7221 k1_hw515 => k1_hw515.2

def k1_mult516 (v7235 : BitVec 32) : BitVec 32 :=
  let c3_i32_4132 : BitVec 32 := 3#32
  let v7236 : BitVec 32 := Scalar.shrsi v7235 c3_i32_4132
  let c3_i32_4133 : BitVec 32 := 3#32
  let v7237 : BitVec 32 := Scalar.shli v7236 c3_i32_4133
  v7237

def k1_off516 (v7235 : BitVec 32) : Fin 2 → Nat :=
  let c3_i32_4132 : BitVec 32 := 3#32
  let v7236 : BitVec 32 := Scalar.shrsi v7235 c3_i32_4132
  let c3_i32_4133 : BitVec 32 := 3#32
  let v7237 : BitVec 32 := Scalar.shli v7236 c3_i32_4133
  let v7238 : BitVec 32 := v7237
  let v7239 : Index := Scalar.indexCast v7238
  let c0_4134 : Index := 0#32
  ![v7239.toNat, 0]

def k1_chk516 (v7235 : BitVec 32) : Prop :=
  (8 ∣ (k1_mult516 v7235).toNat) ∧
  (∀ a, (k1_off516 v7235) a + S8x128.size a ≤ S12800x128.size a)
theorem k1_mult516_dvd : ∀ (v7235 : BitVec 32) (k1_hw516 : k1_chk516 v7235), 8 ∣ (k1_mult516 v7235).toNat := fun v7235 k1_hw516 => k1_hw516.1
theorem k1_off516_inb : ∀ (v7235 : BitVec 32) (k1_hw516 : k1_chk516 v7235), ∀ a, (k1_off516 v7235) a + S8x128.size a ≤ S12800x128.size a := fun v7235 k1_hw516 => k1_hw516.2

def k1_mult517 (v7249 : BitVec 32) : BitVec 32 :=
  let c3_i32_4140 : BitVec 32 := 3#32
  let v7250 : BitVec 32 := Scalar.shrsi v7249 c3_i32_4140
  let c3_i32_4141 : BitVec 32 := 3#32
  let v7251 : BitVec 32 := Scalar.shli v7250 c3_i32_4141
  v7251

def k1_off517 (v7249 : BitVec 32) : Fin 2 → Nat :=
  let c3_i32_4140 : BitVec 32 := 3#32
  let v7250 : BitVec 32 := Scalar.shrsi v7249 c3_i32_4140
  let c3_i32_4141 : BitVec 32 := 3#32
  let v7251 : BitVec 32 := Scalar.shli v7250 c3_i32_4141
  let v7252 : BitVec 32 := v7251
  let v7253 : Index := Scalar.indexCast v7252
  let c0_4142 : Index := 0#32
  ![v7253.toNat, 0]

def k1_chk517 (v7249 : BitVec 32) : Prop :=
  (8 ∣ (k1_mult517 v7249).toNat) ∧
  (∀ a, (k1_off517 v7249) a + S8x128.size a ≤ S12800x128.size a)
theorem k1_mult517_dvd : ∀ (v7249 : BitVec 32) (k1_hw517 : k1_chk517 v7249), 8 ∣ (k1_mult517 v7249).toNat := fun v7249 k1_hw517 => k1_hw517.1
theorem k1_off517_inb : ∀ (v7249 : BitVec 32) (k1_hw517 : k1_chk517 v7249), ∀ a, (k1_off517 v7249) a + S8x128.size a ≤ S12800x128.size a := fun v7249 k1_hw517 => k1_hw517.2

def k1_mult518 (v7263 : BitVec 32) : BitVec 32 :=
  let c3_i32_4148 : BitVec 32 := 3#32
  let v7264 : BitVec 32 := Scalar.shrsi v7263 c3_i32_4148
  let c3_i32_4149 : BitVec 32 := 3#32
  let v7265 : BitVec 32 := Scalar.shli v7264 c3_i32_4149
  v7265

def k1_off518 (v7263 : BitVec 32) : Fin 2 → Nat :=
  let c3_i32_4148 : BitVec 32 := 3#32
  let v7264 : BitVec 32 := Scalar.shrsi v7263 c3_i32_4148
  let c3_i32_4149 : BitVec 32 := 3#32
  let v7265 : BitVec 32 := Scalar.shli v7264 c3_i32_4149
  let v7266 : BitVec 32 := v7265
  let v7267 : Index := Scalar.indexCast v7266
  let c0_4150 : Index := 0#32
  ![v7267.toNat, 0]

def k1_chk518 (v7263 : BitVec 32) : Prop :=
  (8 ∣ (k1_mult518 v7263).toNat) ∧
  (∀ a, (k1_off518 v7263) a + S8x128.size a ≤ S12800x128.size a)
theorem k1_mult518_dvd : ∀ (v7263 : BitVec 32) (k1_hw518 : k1_chk518 v7263), 8 ∣ (k1_mult518 v7263).toNat := fun v7263 k1_hw518 => k1_hw518.1
theorem k1_off518_inb : ∀ (v7263 : BitVec 32) (k1_hw518 : k1_chk518 v7263), ∀ a, (k1_off518 v7263) a + S8x128.size a ≤ S12800x128.size a := fun v7263 k1_hw518 => k1_hw518.2

def k1_mult519 (v7277 : BitVec 32) : BitVec 32 :=
  let c3_i32_4156 : BitVec 32 := 3#32
  let v7278 : BitVec 32 := Scalar.shrsi v7277 c3_i32_4156
  let c3_i32_4157 : BitVec 32 := 3#32
  let v7279 : BitVec 32 := Scalar.shli v7278 c3_i32_4157
  v7279

def k1_off519 (v7277 : BitVec 32) : Fin 2 → Nat :=
  let c3_i32_4156 : BitVec 32 := 3#32
  let v7278 : BitVec 32 := Scalar.shrsi v7277 c3_i32_4156
  let c3_i32_4157 : BitVec 32 := 3#32
  let v7279 : BitVec 32 := Scalar.shli v7278 c3_i32_4157
  let v7280 : BitVec 32 := v7279
  let v7281 : Index := Scalar.indexCast v7280
  let c0_4158 : Index := 0#32
  ![v7281.toNat, 0]

def k1_chk519 (v7277 : BitVec 32) : Prop :=
  (8 ∣ (k1_mult519 v7277).toNat) ∧
  (∀ a, (k1_off519 v7277) a + S8x128.size a ≤ S12800x128.size a)
theorem k1_mult519_dvd : ∀ (v7277 : BitVec 32) (k1_hw519 : k1_chk519 v7277), 8 ∣ (k1_mult519 v7277).toNat := fun v7277 k1_hw519 => k1_hw519.1
theorem k1_off519_inb : ∀ (v7277 : BitVec 32) (k1_hw519 : k1_chk519 v7277), ∀ a, (k1_off519 v7277) a + S8x128.size a ≤ S12800x128.size a := fun v7277 k1_hw519 => k1_hw519.2

def k1_mult520 (v7291 : BitVec 32) : BitVec 32 :=
  let c3_i32_4164 : BitVec 32 := 3#32
  let v7292 : BitVec 32 := Scalar.shrsi v7291 c3_i32_4164
  let c3_i32_4165 : BitVec 32 := 3#32
  let v7293 : BitVec 32 := Scalar.shli v7292 c3_i32_4165
  v7293

def k1_off520 (v7291 : BitVec 32) : Fin 2 → Nat :=
  let c3_i32_4164 : BitVec 32 := 3#32
  let v7292 : BitVec 32 := Scalar.shrsi v7291 c3_i32_4164
  let c3_i32_4165 : BitVec 32 := 3#32
  let v7293 : BitVec 32 := Scalar.shli v7292 c3_i32_4165
  let v7294 : BitVec 32 := v7293
  let v7295 : Index := Scalar.indexCast v7294
  let c0_4166 : Index := 0#32
  ![v7295.toNat, 0]

def k1_chk520 (v7291 : BitVec 32) : Prop :=
  (8 ∣ (k1_mult520 v7291).toNat) ∧
  (∀ a, (k1_off520 v7291) a + S8x128.size a ≤ S12800x128.size a)
theorem k1_mult520_dvd : ∀ (v7291 : BitVec 32) (k1_hw520 : k1_chk520 v7291), 8 ∣ (k1_mult520 v7291).toNat := fun v7291 k1_hw520 => k1_hw520.1
theorem k1_off520_inb : ∀ (v7291 : BitVec 32) (k1_hw520 : k1_chk520 v7291), ∀ a, (k1_off520 v7291) a + S8x128.size a ≤ S12800x128.size a := fun v7291 k1_hw520 => k1_hw520.2

def k1_mult521 (v7305 : BitVec 32) : BitVec 32 :=
  let c3_i32_4172 : BitVec 32 := 3#32
  let v7306 : BitVec 32 := Scalar.shrsi v7305 c3_i32_4172
  let c3_i32_4173 : BitVec 32 := 3#32
  let v7307 : BitVec 32 := Scalar.shli v7306 c3_i32_4173
  v7307

def k1_off521 (v7305 : BitVec 32) : Fin 2 → Nat :=
  let c3_i32_4172 : BitVec 32 := 3#32
  let v7306 : BitVec 32 := Scalar.shrsi v7305 c3_i32_4172
  let c3_i32_4173 : BitVec 32 := 3#32
  let v7307 : BitVec 32 := Scalar.shli v7306 c3_i32_4173
  let v7308 : BitVec 32 := v7307
  let v7309 : Index := Scalar.indexCast v7308
  let c0_4174 : Index := 0#32
  ![v7309.toNat, 0]

def k1_chk521 (v7305 : BitVec 32) : Prop :=
  (8 ∣ (k1_mult521 v7305).toNat) ∧
  (∀ a, (k1_off521 v7305) a + S8x128.size a ≤ S12800x128.size a)
theorem k1_mult521_dvd : ∀ (v7305 : BitVec 32) (k1_hw521 : k1_chk521 v7305), 8 ∣ (k1_mult521 v7305).toNat := fun v7305 k1_hw521 => k1_hw521.1
theorem k1_off521_inb : ∀ (v7305 : BitVec 32) (k1_hw521 : k1_chk521 v7305), ∀ a, (k1_off521 v7305) a + S8x128.size a ≤ S12800x128.size a := fun v7305 k1_hw521 => k1_hw521.2

def k1_mult522 (v7319 : BitVec 32) : BitVec 32 :=
  let c3_i32_4180 : BitVec 32 := 3#32
  let v7320 : BitVec 32 := Scalar.shrsi v7319 c3_i32_4180
  let c3_i32_4181 : BitVec 32 := 3#32
  let v7321 : BitVec 32 := Scalar.shli v7320 c3_i32_4181
  v7321

def k1_off522 (v7319 : BitVec 32) : Fin 2 → Nat :=
  let c3_i32_4180 : BitVec 32 := 3#32
  let v7320 : BitVec 32 := Scalar.shrsi v7319 c3_i32_4180
  let c3_i32_4181 : BitVec 32 := 3#32
  let v7321 : BitVec 32 := Scalar.shli v7320 c3_i32_4181
  let v7322 : BitVec 32 := v7321
  let v7323 : Index := Scalar.indexCast v7322
  let c0_4182 : Index := 0#32
  ![v7323.toNat, 0]

def k1_chk522 (v7319 : BitVec 32) : Prop :=
  (8 ∣ (k1_mult522 v7319).toNat) ∧
  (∀ a, (k1_off522 v7319) a + S8x128.size a ≤ S12800x128.size a)
theorem k1_mult522_dvd : ∀ (v7319 : BitVec 32) (k1_hw522 : k1_chk522 v7319), 8 ∣ (k1_mult522 v7319).toNat := fun v7319 k1_hw522 => k1_hw522.1
theorem k1_off522_inb : ∀ (v7319 : BitVec 32) (k1_hw522 : k1_chk522 v7319), ∀ a, (k1_off522 v7319) a + S8x128.size a ≤ S12800x128.size a := fun v7319 k1_hw522 => k1_hw522.2

def k1_mult523 (v7333 : BitVec 32) : BitVec 32 :=
  let c3_i32_4188 : BitVec 32 := 3#32
  let v7334 : BitVec 32 := Scalar.shrsi v7333 c3_i32_4188
  let c3_i32_4189 : BitVec 32 := 3#32
  let v7335 : BitVec 32 := Scalar.shli v7334 c3_i32_4189
  v7335

def k1_off523 (v7333 : BitVec 32) : Fin 2 → Nat :=
  let c3_i32_4188 : BitVec 32 := 3#32
  let v7334 : BitVec 32 := Scalar.shrsi v7333 c3_i32_4188
  let c3_i32_4189 : BitVec 32 := 3#32
  let v7335 : BitVec 32 := Scalar.shli v7334 c3_i32_4189
  let v7336 : BitVec 32 := v7335
  let v7337 : Index := Scalar.indexCast v7336
  let c0_4190 : Index := 0#32
  ![v7337.toNat, 0]

def k1_chk523 (v7333 : BitVec 32) : Prop :=
  (8 ∣ (k1_mult523 v7333).toNat) ∧
  (∀ a, (k1_off523 v7333) a + S8x128.size a ≤ S12800x128.size a)
theorem k1_mult523_dvd : ∀ (v7333 : BitVec 32) (k1_hw523 : k1_chk523 v7333), 8 ∣ (k1_mult523 v7333).toNat := fun v7333 k1_hw523 => k1_hw523.1
theorem k1_off523_inb : ∀ (v7333 : BitVec 32) (k1_hw523 : k1_chk523 v7333), ∀ a, (k1_off523 v7333) a + S8x128.size a ≤ S12800x128.size a := fun v7333 k1_hw523 => k1_hw523.2

def k1_mult524 (v7347 : BitVec 32) : BitVec 32 :=
  let c3_i32_4196 : BitVec 32 := 3#32
  let v7348 : BitVec 32 := Scalar.shrsi v7347 c3_i32_4196
  let c3_i32_4197 : BitVec 32 := 3#32
  let v7349 : BitVec 32 := Scalar.shli v7348 c3_i32_4197
  v7349

def k1_off524 (v7347 : BitVec 32) : Fin 2 → Nat :=
  let c3_i32_4196 : BitVec 32 := 3#32
  let v7348 : BitVec 32 := Scalar.shrsi v7347 c3_i32_4196
  let c3_i32_4197 : BitVec 32 := 3#32
  let v7349 : BitVec 32 := Scalar.shli v7348 c3_i32_4197
  let v7350 : BitVec 32 := v7349
  let v7351 : Index := Scalar.indexCast v7350
  let c0_4198 : Index := 0#32
  ![v7351.toNat, 0]

def k1_chk524 (v7347 : BitVec 32) : Prop :=
  (8 ∣ (k1_mult524 v7347).toNat) ∧
  (∀ a, (k1_off524 v7347) a + S8x128.size a ≤ S12800x128.size a)
theorem k1_mult524_dvd : ∀ (v7347 : BitVec 32) (k1_hw524 : k1_chk524 v7347), 8 ∣ (k1_mult524 v7347).toNat := fun v7347 k1_hw524 => k1_hw524.1
theorem k1_off524_inb : ∀ (v7347 : BitVec 32) (k1_hw524 : k1_chk524 v7347), ∀ a, (k1_off524 v7347) a + S8x128.size a ≤ S12800x128.size a := fun v7347 k1_hw524 => k1_hw524.2

def k1_mult525 (v7361 : BitVec 32) : BitVec 32 :=
  let c3_i32_4204 : BitVec 32 := 3#32
  let v7362 : BitVec 32 := Scalar.shrsi v7361 c3_i32_4204
  let c3_i32_4205 : BitVec 32 := 3#32
  let v7363 : BitVec 32 := Scalar.shli v7362 c3_i32_4205
  v7363

def k1_off525 (v7361 : BitVec 32) : Fin 2 → Nat :=
  let c3_i32_4204 : BitVec 32 := 3#32
  let v7362 : BitVec 32 := Scalar.shrsi v7361 c3_i32_4204
  let c3_i32_4205 : BitVec 32 := 3#32
  let v7363 : BitVec 32 := Scalar.shli v7362 c3_i32_4205
  let v7364 : BitVec 32 := v7363
  let v7365 : Index := Scalar.indexCast v7364
  let c0_4206 : Index := 0#32
  ![v7365.toNat, 0]

def k1_chk525 (v7361 : BitVec 32) : Prop :=
  (8 ∣ (k1_mult525 v7361).toNat) ∧
  (∀ a, (k1_off525 v7361) a + S8x128.size a ≤ S12800x128.size a)
theorem k1_mult525_dvd : ∀ (v7361 : BitVec 32) (k1_hw525 : k1_chk525 v7361), 8 ∣ (k1_mult525 v7361).toNat := fun v7361 k1_hw525 => k1_hw525.1
theorem k1_off525_inb : ∀ (v7361 : BitVec 32) (k1_hw525 : k1_chk525 v7361), ∀ a, (k1_off525 v7361) a + S8x128.size a ≤ S12800x128.size a := fun v7361 k1_hw525 => k1_hw525.2

def k1_mult526 (v7375 : BitVec 32) : BitVec 32 :=
  let c3_i32_4212 : BitVec 32 := 3#32
  let v7376 : BitVec 32 := Scalar.shrsi v7375 c3_i32_4212
  let c3_i32_4213 : BitVec 32 := 3#32
  let v7377 : BitVec 32 := Scalar.shli v7376 c3_i32_4213
  v7377

def k1_off526 (v7375 : BitVec 32) : Fin 2 → Nat :=
  let c3_i32_4212 : BitVec 32 := 3#32
  let v7376 : BitVec 32 := Scalar.shrsi v7375 c3_i32_4212
  let c3_i32_4213 : BitVec 32 := 3#32
  let v7377 : BitVec 32 := Scalar.shli v7376 c3_i32_4213
  let v7378 : BitVec 32 := v7377
  let v7379 : Index := Scalar.indexCast v7378
  let c0_4214 : Index := 0#32
  ![v7379.toNat, 0]

def k1_chk526 (v7375 : BitVec 32) : Prop :=
  (8 ∣ (k1_mult526 v7375).toNat) ∧
  (∀ a, (k1_off526 v7375) a + S8x128.size a ≤ S12800x128.size a)
theorem k1_mult526_dvd : ∀ (v7375 : BitVec 32) (k1_hw526 : k1_chk526 v7375), 8 ∣ (k1_mult526 v7375).toNat := fun v7375 k1_hw526 => k1_hw526.1
theorem k1_off526_inb : ∀ (v7375 : BitVec 32) (k1_hw526 : k1_chk526 v7375), ∀ a, (k1_off526 v7375) a + S8x128.size a ≤ S12800x128.size a := fun v7375 k1_hw526 => k1_hw526.2

def k1_mult527 (v7389 : BitVec 32) : BitVec 32 :=
  let c3_i32_4220 : BitVec 32 := 3#32
  let v7390 : BitVec 32 := Scalar.shrsi v7389 c3_i32_4220
  let c3_i32_4221 : BitVec 32 := 3#32
  let v7391 : BitVec 32 := Scalar.shli v7390 c3_i32_4221
  v7391

def k1_off527 (v7389 : BitVec 32) : Fin 2 → Nat :=
  let c3_i32_4220 : BitVec 32 := 3#32
  let v7390 : BitVec 32 := Scalar.shrsi v7389 c3_i32_4220
  let c3_i32_4221 : BitVec 32 := 3#32
  let v7391 : BitVec 32 := Scalar.shli v7390 c3_i32_4221
  let v7392 : BitVec 32 := v7391
  let v7393 : Index := Scalar.indexCast v7392
  let c0_4222 : Index := 0#32
  ![v7393.toNat, 0]

def k1_chk527 (v7389 : BitVec 32) : Prop :=
  (8 ∣ (k1_mult527 v7389).toNat) ∧
  (∀ a, (k1_off527 v7389) a + S8x128.size a ≤ S12800x128.size a)
theorem k1_mult527_dvd : ∀ (v7389 : BitVec 32) (k1_hw527 : k1_chk527 v7389), 8 ∣ (k1_mult527 v7389).toNat := fun v7389 k1_hw527 => k1_hw527.1
theorem k1_off527_inb : ∀ (v7389 : BitVec 32) (k1_hw527 : k1_chk527 v7389), ∀ a, (k1_off527 v7389) a + S8x128.size a ≤ S12800x128.size a := fun v7389 k1_hw527 => k1_hw527.2

def k1_mult528 (v7403 : BitVec 32) : BitVec 32 :=
  let c3_i32_4228 : BitVec 32 := 3#32
  let v7404 : BitVec 32 := Scalar.shrsi v7403 c3_i32_4228
  let c3_i32_4229 : BitVec 32 := 3#32
  let v7405 : BitVec 32 := Scalar.shli v7404 c3_i32_4229
  v7405

def k1_off528 (v7403 : BitVec 32) : Fin 2 → Nat :=
  let c3_i32_4228 : BitVec 32 := 3#32
  let v7404 : BitVec 32 := Scalar.shrsi v7403 c3_i32_4228
  let c3_i32_4229 : BitVec 32 := 3#32
  let v7405 : BitVec 32 := Scalar.shli v7404 c3_i32_4229
  let v7406 : BitVec 32 := v7405
  let v7407 : Index := Scalar.indexCast v7406
  let c0_4230 : Index := 0#32
  ![v7407.toNat, 0]

def k1_chk528 (v7403 : BitVec 32) : Prop :=
  (8 ∣ (k1_mult528 v7403).toNat) ∧
  (∀ a, (k1_off528 v7403) a + S8x128.size a ≤ S12800x128.size a)
theorem k1_mult528_dvd : ∀ (v7403 : BitVec 32) (k1_hw528 : k1_chk528 v7403), 8 ∣ (k1_mult528 v7403).toNat := fun v7403 k1_hw528 => k1_hw528.1
theorem k1_off528_inb : ∀ (v7403 : BitVec 32) (k1_hw528 : k1_chk528 v7403), ∀ a, (k1_off528 v7403) a + S8x128.size a ≤ S12800x128.size a := fun v7403 k1_hw528 => k1_hw528.2

def k1_mult529 (v7417 : BitVec 32) : BitVec 32 :=
  let c3_i32_4236 : BitVec 32 := 3#32
  let v7418 : BitVec 32 := Scalar.shrsi v7417 c3_i32_4236
  let c3_i32_4237 : BitVec 32 := 3#32
  let v7419 : BitVec 32 := Scalar.shli v7418 c3_i32_4237
  v7419

def k1_off529 (v7417 : BitVec 32) : Fin 2 → Nat :=
  let c3_i32_4236 : BitVec 32 := 3#32
  let v7418 : BitVec 32 := Scalar.shrsi v7417 c3_i32_4236
  let c3_i32_4237 : BitVec 32 := 3#32
  let v7419 : BitVec 32 := Scalar.shli v7418 c3_i32_4237
  let v7420 : BitVec 32 := v7419
  let v7421 : Index := Scalar.indexCast v7420
  let c0_4238 : Index := 0#32
  ![v7421.toNat, 0]

def k1_chk529 (v7417 : BitVec 32) : Prop :=
  (8 ∣ (k1_mult529 v7417).toNat) ∧
  (∀ a, (k1_off529 v7417) a + S8x128.size a ≤ S12800x128.size a)
theorem k1_mult529_dvd : ∀ (v7417 : BitVec 32) (k1_hw529 : k1_chk529 v7417), 8 ∣ (k1_mult529 v7417).toNat := fun v7417 k1_hw529 => k1_hw529.1
theorem k1_off529_inb : ∀ (v7417 : BitVec 32) (k1_hw529 : k1_chk529 v7417), ∀ a, (k1_off529 v7417) a + S8x128.size a ≤ S12800x128.size a := fun v7417 k1_hw529 => k1_hw529.2

def k1_mult530 (v7431 : BitVec 32) : BitVec 32 :=
  let c3_i32_4244 : BitVec 32 := 3#32
  let v7432 : BitVec 32 := Scalar.shrsi v7431 c3_i32_4244
  let c3_i32_4245 : BitVec 32 := 3#32
  let v7433 : BitVec 32 := Scalar.shli v7432 c3_i32_4245
  v7433

def k1_off530 (v7431 : BitVec 32) : Fin 2 → Nat :=
  let c3_i32_4244 : BitVec 32 := 3#32
  let v7432 : BitVec 32 := Scalar.shrsi v7431 c3_i32_4244
  let c3_i32_4245 : BitVec 32 := 3#32
  let v7433 : BitVec 32 := Scalar.shli v7432 c3_i32_4245
  let v7434 : BitVec 32 := v7433
  let v7435 : Index := Scalar.indexCast v7434
  let c0_4246 : Index := 0#32
  ![v7435.toNat, 0]

def k1_chk530 (v7431 : BitVec 32) : Prop :=
  (8 ∣ (k1_mult530 v7431).toNat) ∧
  (∀ a, (k1_off530 v7431) a + S8x128.size a ≤ S12800x128.size a)
theorem k1_mult530_dvd : ∀ (v7431 : BitVec 32) (k1_hw530 : k1_chk530 v7431), 8 ∣ (k1_mult530 v7431).toNat := fun v7431 k1_hw530 => k1_hw530.1
theorem k1_off530_inb : ∀ (v7431 : BitVec 32) (k1_hw530 : k1_chk530 v7431), ∀ a, (k1_off530 v7431) a + S8x128.size a ≤ S12800x128.size a := fun v7431 k1_hw530 => k1_hw530.2

def k1_mult531 (v7445 : BitVec 32) : BitVec 32 :=
  let c3_i32_4252 : BitVec 32 := 3#32
  let v7446 : BitVec 32 := Scalar.shrsi v7445 c3_i32_4252
  let c3_i32_4253 : BitVec 32 := 3#32
  let v7447 : BitVec 32 := Scalar.shli v7446 c3_i32_4253
  v7447

def k1_off531 (v7445 : BitVec 32) : Fin 2 → Nat :=
  let c3_i32_4252 : BitVec 32 := 3#32
  let v7446 : BitVec 32 := Scalar.shrsi v7445 c3_i32_4252
  let c3_i32_4253 : BitVec 32 := 3#32
  let v7447 : BitVec 32 := Scalar.shli v7446 c3_i32_4253
  let v7448 : BitVec 32 := v7447
  let v7449 : Index := Scalar.indexCast v7448
  let c0_4254 : Index := 0#32
  ![v7449.toNat, 0]

def k1_chk531 (v7445 : BitVec 32) : Prop :=
  (8 ∣ (k1_mult531 v7445).toNat) ∧
  (∀ a, (k1_off531 v7445) a + S8x128.size a ≤ S12800x128.size a)
theorem k1_mult531_dvd : ∀ (v7445 : BitVec 32) (k1_hw531 : k1_chk531 v7445), 8 ∣ (k1_mult531 v7445).toNat := fun v7445 k1_hw531 => k1_hw531.1
theorem k1_off531_inb : ∀ (v7445 : BitVec 32) (k1_hw531 : k1_chk531 v7445), ∀ a, (k1_off531 v7445) a + S8x128.size a ≤ S12800x128.size a := fun v7445 k1_hw531 => k1_hw531.2

def k1_mult532 (v7459 : BitVec 32) : BitVec 32 :=
  let c3_i32_4260 : BitVec 32 := 3#32
  let v7460 : BitVec 32 := Scalar.shrsi v7459 c3_i32_4260
  let c3_i32_4261 : BitVec 32 := 3#32
  let v7461 : BitVec 32 := Scalar.shli v7460 c3_i32_4261
  v7461

def k1_off532 (v7459 : BitVec 32) : Fin 2 → Nat :=
  let c3_i32_4260 : BitVec 32 := 3#32
  let v7460 : BitVec 32 := Scalar.shrsi v7459 c3_i32_4260
  let c3_i32_4261 : BitVec 32 := 3#32
  let v7461 : BitVec 32 := Scalar.shli v7460 c3_i32_4261
  let v7462 : BitVec 32 := v7461
  let v7463 : Index := Scalar.indexCast v7462
  let c0_4262 : Index := 0#32
  ![v7463.toNat, 0]

def k1_chk532 (v7459 : BitVec 32) : Prop :=
  (8 ∣ (k1_mult532 v7459).toNat) ∧
  (∀ a, (k1_off532 v7459) a + S8x128.size a ≤ S12800x128.size a)
theorem k1_mult532_dvd : ∀ (v7459 : BitVec 32) (k1_hw532 : k1_chk532 v7459), 8 ∣ (k1_mult532 v7459).toNat := fun v7459 k1_hw532 => k1_hw532.1
theorem k1_off532_inb : ∀ (v7459 : BitVec 32) (k1_hw532 : k1_chk532 v7459), ∀ a, (k1_off532 v7459) a + S8x128.size a ≤ S12800x128.size a := fun v7459 k1_hw532 => k1_hw532.2

def k1_mult533 (v7473 : BitVec 32) : BitVec 32 :=
  let c3_i32_4268 : BitVec 32 := 3#32
  let v7474 : BitVec 32 := Scalar.shrsi v7473 c3_i32_4268
  let c3_i32_4269 : BitVec 32 := 3#32
  let v7475 : BitVec 32 := Scalar.shli v7474 c3_i32_4269
  v7475

def k1_off533 (v7473 : BitVec 32) : Fin 2 → Nat :=
  let c3_i32_4268 : BitVec 32 := 3#32
  let v7474 : BitVec 32 := Scalar.shrsi v7473 c3_i32_4268
  let c3_i32_4269 : BitVec 32 := 3#32
  let v7475 : BitVec 32 := Scalar.shli v7474 c3_i32_4269
  let v7476 : BitVec 32 := v7475
  let v7477 : Index := Scalar.indexCast v7476
  let c0_4270 : Index := 0#32
  ![v7477.toNat, 0]

def k1_chk533 (v7473 : BitVec 32) : Prop :=
  (8 ∣ (k1_mult533 v7473).toNat) ∧
  (∀ a, (k1_off533 v7473) a + S8x128.size a ≤ S12800x128.size a)
theorem k1_mult533_dvd : ∀ (v7473 : BitVec 32) (k1_hw533 : k1_chk533 v7473), 8 ∣ (k1_mult533 v7473).toNat := fun v7473 k1_hw533 => k1_hw533.1
theorem k1_off533_inb : ∀ (v7473 : BitVec 32) (k1_hw533 : k1_chk533 v7473), ∀ a, (k1_off533 v7473) a + S8x128.size a ≤ S12800x128.size a := fun v7473 k1_hw533 => k1_hw533.2

def k1_mult534 (v7487 : BitVec 32) : BitVec 32 :=
  let c3_i32_4276 : BitVec 32 := 3#32
  let v7488 : BitVec 32 := Scalar.shrsi v7487 c3_i32_4276
  let c3_i32_4277 : BitVec 32 := 3#32
  let v7489 : BitVec 32 := Scalar.shli v7488 c3_i32_4277
  v7489

def k1_off534 (v7487 : BitVec 32) : Fin 2 → Nat :=
  let c3_i32_4276 : BitVec 32 := 3#32
  let v7488 : BitVec 32 := Scalar.shrsi v7487 c3_i32_4276
  let c3_i32_4277 : BitVec 32 := 3#32
  let v7489 : BitVec 32 := Scalar.shli v7488 c3_i32_4277
  let v7490 : BitVec 32 := v7489
  let v7491 : Index := Scalar.indexCast v7490
  let c0_4278 : Index := 0#32
  ![v7491.toNat, 0]

def k1_chk534 (v7487 : BitVec 32) : Prop :=
  (8 ∣ (k1_mult534 v7487).toNat) ∧
  (∀ a, (k1_off534 v7487) a + S8x128.size a ≤ S12800x128.size a)
theorem k1_mult534_dvd : ∀ (v7487 : BitVec 32) (k1_hw534 : k1_chk534 v7487), 8 ∣ (k1_mult534 v7487).toNat := fun v7487 k1_hw534 => k1_hw534.1
theorem k1_off534_inb : ∀ (v7487 : BitVec 32) (k1_hw534 : k1_chk534 v7487), ∀ a, (k1_off534 v7487) a + S8x128.size a ≤ S12800x128.size a := fun v7487 k1_hw534 => k1_hw534.2

def k1_mult535 (v7501 : BitVec 32) : BitVec 32 :=
  let c3_i32_4284 : BitVec 32 := 3#32
  let v7502 : BitVec 32 := Scalar.shrsi v7501 c3_i32_4284
  let c3_i32_4285 : BitVec 32 := 3#32
  let v7503 : BitVec 32 := Scalar.shli v7502 c3_i32_4285
  v7503

def k1_off535 (v7501 : BitVec 32) : Fin 2 → Nat :=
  let c3_i32_4284 : BitVec 32 := 3#32
  let v7502 : BitVec 32 := Scalar.shrsi v7501 c3_i32_4284
  let c3_i32_4285 : BitVec 32 := 3#32
  let v7503 : BitVec 32 := Scalar.shli v7502 c3_i32_4285
  let v7504 : BitVec 32 := v7503
  let v7505 : Index := Scalar.indexCast v7504
  let c0_4286 : Index := 0#32
  ![v7505.toNat, 0]

def k1_chk535 (v7501 : BitVec 32) : Prop :=
  (8 ∣ (k1_mult535 v7501).toNat) ∧
  (∀ a, (k1_off535 v7501) a + S8x128.size a ≤ S12800x128.size a)
theorem k1_mult535_dvd : ∀ (v7501 : BitVec 32) (k1_hw535 : k1_chk535 v7501), 8 ∣ (k1_mult535 v7501).toNat := fun v7501 k1_hw535 => k1_hw535.1
theorem k1_off535_inb : ∀ (v7501 : BitVec 32) (k1_hw535 : k1_chk535 v7501), ∀ a, (k1_off535 v7501) a + S8x128.size a ≤ S12800x128.size a := fun v7501 k1_hw535 => k1_hw535.2

def k1_mult536 (v7515 : BitVec 32) : BitVec 32 :=
  let c3_i32_4292 : BitVec 32 := 3#32
  let v7516 : BitVec 32 := Scalar.shrsi v7515 c3_i32_4292
  let c3_i32_4293 : BitVec 32 := 3#32
  let v7517 : BitVec 32 := Scalar.shli v7516 c3_i32_4293
  v7517

def k1_off536 (v7515 : BitVec 32) : Fin 2 → Nat :=
  let c3_i32_4292 : BitVec 32 := 3#32
  let v7516 : BitVec 32 := Scalar.shrsi v7515 c3_i32_4292
  let c3_i32_4293 : BitVec 32 := 3#32
  let v7517 : BitVec 32 := Scalar.shli v7516 c3_i32_4293
  let v7518 : BitVec 32 := v7517
  let v7519 : Index := Scalar.indexCast v7518
  let c0_4294 : Index := 0#32
  ![v7519.toNat, 0]

def k1_chk536 (v7515 : BitVec 32) : Prop :=
  (8 ∣ (k1_mult536 v7515).toNat) ∧
  (∀ a, (k1_off536 v7515) a + S8x128.size a ≤ S12800x128.size a)
theorem k1_mult536_dvd : ∀ (v7515 : BitVec 32) (k1_hw536 : k1_chk536 v7515), 8 ∣ (k1_mult536 v7515).toNat := fun v7515 k1_hw536 => k1_hw536.1
theorem k1_off536_inb : ∀ (v7515 : BitVec 32) (k1_hw536 : k1_chk536 v7515), ∀ a, (k1_off536 v7515) a + S8x128.size a ≤ S12800x128.size a := fun v7515 k1_hw536 => k1_hw536.2

def k1_mult537 (v7529 : BitVec 32) : BitVec 32 :=
  let c3_i32_4300 : BitVec 32 := 3#32
  let v7530 : BitVec 32 := Scalar.shrsi v7529 c3_i32_4300
  let c3_i32_4301 : BitVec 32 := 3#32
  let v7531 : BitVec 32 := Scalar.shli v7530 c3_i32_4301
  v7531

def k1_off537 (v7529 : BitVec 32) : Fin 2 → Nat :=
  let c3_i32_4300 : BitVec 32 := 3#32
  let v7530 : BitVec 32 := Scalar.shrsi v7529 c3_i32_4300
  let c3_i32_4301 : BitVec 32 := 3#32
  let v7531 : BitVec 32 := Scalar.shli v7530 c3_i32_4301
  let v7532 : BitVec 32 := v7531
  let v7533 : Index := Scalar.indexCast v7532
  let c0_4302 : Index := 0#32
  ![v7533.toNat, 0]

def k1_chk537 (v7529 : BitVec 32) : Prop :=
  (8 ∣ (k1_mult537 v7529).toNat) ∧
  (∀ a, (k1_off537 v7529) a + S8x128.size a ≤ S12800x128.size a)
theorem k1_mult537_dvd : ∀ (v7529 : BitVec 32) (k1_hw537 : k1_chk537 v7529), 8 ∣ (k1_mult537 v7529).toNat := fun v7529 k1_hw537 => k1_hw537.1
theorem k1_off537_inb : ∀ (v7529 : BitVec 32) (k1_hw537 : k1_chk537 v7529), ∀ a, (k1_off537 v7529) a + S8x128.size a ≤ S12800x128.size a := fun v7529 k1_hw537 => k1_hw537.2

def k1_mult538 (v7543 : BitVec 32) : BitVec 32 :=
  let c3_i32_4308 : BitVec 32 := 3#32
  let v7544 : BitVec 32 := Scalar.shrsi v7543 c3_i32_4308
  let c3_i32_4309 : BitVec 32 := 3#32
  let v7545 : BitVec 32 := Scalar.shli v7544 c3_i32_4309
  v7545

def k1_off538 (v7543 : BitVec 32) : Fin 2 → Nat :=
  let c3_i32_4308 : BitVec 32 := 3#32
  let v7544 : BitVec 32 := Scalar.shrsi v7543 c3_i32_4308
  let c3_i32_4309 : BitVec 32 := 3#32
  let v7545 : BitVec 32 := Scalar.shli v7544 c3_i32_4309
  let v7546 : BitVec 32 := v7545
  let v7547 : Index := Scalar.indexCast v7546
  let c0_4310 : Index := 0#32
  ![v7547.toNat, 0]

def k1_chk538 (v7543 : BitVec 32) : Prop :=
  (8 ∣ (k1_mult538 v7543).toNat) ∧
  (∀ a, (k1_off538 v7543) a + S8x128.size a ≤ S12800x128.size a)
theorem k1_mult538_dvd : ∀ (v7543 : BitVec 32) (k1_hw538 : k1_chk538 v7543), 8 ∣ (k1_mult538 v7543).toNat := fun v7543 k1_hw538 => k1_hw538.1
theorem k1_off538_inb : ∀ (v7543 : BitVec 32) (k1_hw538 : k1_chk538 v7543), ∀ a, (k1_off538 v7543) a + S8x128.size a ≤ S12800x128.size a := fun v7543 k1_hw538 => k1_hw538.2

def k1_mult539 (v7557 : BitVec 32) : BitVec 32 :=
  let c3_i32_4316 : BitVec 32 := 3#32
  let v7558 : BitVec 32 := Scalar.shrsi v7557 c3_i32_4316
  let c3_i32_4317 : BitVec 32 := 3#32
  let v7559 : BitVec 32 := Scalar.shli v7558 c3_i32_4317
  v7559

def k1_off539 (v7557 : BitVec 32) : Fin 2 → Nat :=
  let c3_i32_4316 : BitVec 32 := 3#32
  let v7558 : BitVec 32 := Scalar.shrsi v7557 c3_i32_4316
  let c3_i32_4317 : BitVec 32 := 3#32
  let v7559 : BitVec 32 := Scalar.shli v7558 c3_i32_4317
  let v7560 : BitVec 32 := v7559
  let v7561 : Index := Scalar.indexCast v7560
  let c0_4318 : Index := 0#32
  ![v7561.toNat, 0]

def k1_chk539 (v7557 : BitVec 32) : Prop :=
  (8 ∣ (k1_mult539 v7557).toNat) ∧
  (∀ a, (k1_off539 v7557) a + S8x128.size a ≤ S12800x128.size a)
theorem k1_mult539_dvd : ∀ (v7557 : BitVec 32) (k1_hw539 : k1_chk539 v7557), 8 ∣ (k1_mult539 v7557).toNat := fun v7557 k1_hw539 => k1_hw539.1
theorem k1_off539_inb : ∀ (v7557 : BitVec 32) (k1_hw539 : k1_chk539 v7557), ∀ a, (k1_off539 v7557) a + S8x128.size a ≤ S12800x128.size a := fun v7557 k1_hw539 => k1_hw539.2

def k1_mult540 (v7571 : BitVec 32) : BitVec 32 :=
  let c3_i32_4324 : BitVec 32 := 3#32
  let v7572 : BitVec 32 := Scalar.shrsi v7571 c3_i32_4324
  let c3_i32_4325 : BitVec 32 := 3#32
  let v7573 : BitVec 32 := Scalar.shli v7572 c3_i32_4325
  v7573

def k1_off540 (v7571 : BitVec 32) : Fin 2 → Nat :=
  let c3_i32_4324 : BitVec 32 := 3#32
  let v7572 : BitVec 32 := Scalar.shrsi v7571 c3_i32_4324
  let c3_i32_4325 : BitVec 32 := 3#32
  let v7573 : BitVec 32 := Scalar.shli v7572 c3_i32_4325
  let v7574 : BitVec 32 := v7573
  let v7575 : Index := Scalar.indexCast v7574
  let c0_4326 : Index := 0#32
  ![v7575.toNat, 0]

def k1_chk540 (v7571 : BitVec 32) : Prop :=
  (8 ∣ (k1_mult540 v7571).toNat) ∧
  (∀ a, (k1_off540 v7571) a + S8x128.size a ≤ S12800x128.size a)
theorem k1_mult540_dvd : ∀ (v7571 : BitVec 32) (k1_hw540 : k1_chk540 v7571), 8 ∣ (k1_mult540 v7571).toNat := fun v7571 k1_hw540 => k1_hw540.1
theorem k1_off540_inb : ∀ (v7571 : BitVec 32) (k1_hw540 : k1_chk540 v7571), ∀ a, (k1_off540 v7571) a + S8x128.size a ≤ S12800x128.size a := fun v7571 k1_hw540 => k1_hw540.2

def k1_mult541 (v7585 : BitVec 32) : BitVec 32 :=
  let c3_i32_4332 : BitVec 32 := 3#32
  let v7586 : BitVec 32 := Scalar.shrsi v7585 c3_i32_4332
  let c3_i32_4333 : BitVec 32 := 3#32
  let v7587 : BitVec 32 := Scalar.shli v7586 c3_i32_4333
  v7587

def k1_off541 (v7585 : BitVec 32) : Fin 2 → Nat :=
  let c3_i32_4332 : BitVec 32 := 3#32
  let v7586 : BitVec 32 := Scalar.shrsi v7585 c3_i32_4332
  let c3_i32_4333 : BitVec 32 := 3#32
  let v7587 : BitVec 32 := Scalar.shli v7586 c3_i32_4333
  let v7588 : BitVec 32 := v7587
  let v7589 : Index := Scalar.indexCast v7588
  let c0_4334 : Index := 0#32
  ![v7589.toNat, 0]

def k1_chk541 (v7585 : BitVec 32) : Prop :=
  (8 ∣ (k1_mult541 v7585).toNat) ∧
  (∀ a, (k1_off541 v7585) a + S8x128.size a ≤ S12800x128.size a)
theorem k1_mult541_dvd : ∀ (v7585 : BitVec 32) (k1_hw541 : k1_chk541 v7585), 8 ∣ (k1_mult541 v7585).toNat := fun v7585 k1_hw541 => k1_hw541.1
theorem k1_off541_inb : ∀ (v7585 : BitVec 32) (k1_hw541 : k1_chk541 v7585), ∀ a, (k1_off541 v7585) a + S8x128.size a ≤ S12800x128.size a := fun v7585 k1_hw541 => k1_hw541.2

def k1_mult542 (v7599 : BitVec 32) : BitVec 32 :=
  let c3_i32_4340 : BitVec 32 := 3#32
  let v7600 : BitVec 32 := Scalar.shrsi v7599 c3_i32_4340
  let c3_i32_4341 : BitVec 32 := 3#32
  let v7601 : BitVec 32 := Scalar.shli v7600 c3_i32_4341
  v7601

def k1_off542 (v7599 : BitVec 32) : Fin 2 → Nat :=
  let c3_i32_4340 : BitVec 32 := 3#32
  let v7600 : BitVec 32 := Scalar.shrsi v7599 c3_i32_4340
  let c3_i32_4341 : BitVec 32 := 3#32
  let v7601 : BitVec 32 := Scalar.shli v7600 c3_i32_4341
  let v7602 : BitVec 32 := v7601
  let v7603 : Index := Scalar.indexCast v7602
  let c0_4342 : Index := 0#32
  ![v7603.toNat, 0]

def k1_chk542 (v7599 : BitVec 32) : Prop :=
  (8 ∣ (k1_mult542 v7599).toNat) ∧
  (∀ a, (k1_off542 v7599) a + S8x128.size a ≤ S12800x128.size a)
theorem k1_mult542_dvd : ∀ (v7599 : BitVec 32) (k1_hw542 : k1_chk542 v7599), 8 ∣ (k1_mult542 v7599).toNat := fun v7599 k1_hw542 => k1_hw542.1
theorem k1_off542_inb : ∀ (v7599 : BitVec 32) (k1_hw542 : k1_chk542 v7599), ∀ a, (k1_off542 v7599) a + S8x128.size a ≤ S12800x128.size a := fun v7599 k1_hw542 => k1_hw542.2

def k1_mult543 (v7613 : BitVec 32) : BitVec 32 :=
  let c3_i32_4348 : BitVec 32 := 3#32
  let v7614 : BitVec 32 := Scalar.shrsi v7613 c3_i32_4348
  let c3_i32_4349 : BitVec 32 := 3#32
  let v7615 : BitVec 32 := Scalar.shli v7614 c3_i32_4349
  v7615

def k1_off543 (v7613 : BitVec 32) : Fin 2 → Nat :=
  let c3_i32_4348 : BitVec 32 := 3#32
  let v7614 : BitVec 32 := Scalar.shrsi v7613 c3_i32_4348
  let c3_i32_4349 : BitVec 32 := 3#32
  let v7615 : BitVec 32 := Scalar.shli v7614 c3_i32_4349
  let v7616 : BitVec 32 := v7615
  let v7617 : Index := Scalar.indexCast v7616
  let c0_4350 : Index := 0#32
  ![v7617.toNat, 0]

def k1_chk543 (v7613 : BitVec 32) : Prop :=
  (8 ∣ (k1_mult543 v7613).toNat) ∧
  (∀ a, (k1_off543 v7613) a + S8x128.size a ≤ S12800x128.size a)
theorem k1_mult543_dvd : ∀ (v7613 : BitVec 32) (k1_hw543 : k1_chk543 v7613), 8 ∣ (k1_mult543 v7613).toNat := fun v7613 k1_hw543 => k1_hw543.1
theorem k1_off543_inb : ∀ (v7613 : BitVec 32) (k1_hw543 : k1_chk543 v7613), ∀ a, (k1_off543 v7613) a + S8x128.size a ≤ S12800x128.size a := fun v7613 k1_hw543 => k1_hw543.2

def k1_mult544 (v7627 : BitVec 32) : BitVec 32 :=
  let c3_i32_4356 : BitVec 32 := 3#32
  let v7628 : BitVec 32 := Scalar.shrsi v7627 c3_i32_4356
  let c3_i32_4357 : BitVec 32 := 3#32
  let v7629 : BitVec 32 := Scalar.shli v7628 c3_i32_4357
  v7629

def k1_off544 (v7627 : BitVec 32) : Fin 2 → Nat :=
  let c3_i32_4356 : BitVec 32 := 3#32
  let v7628 : BitVec 32 := Scalar.shrsi v7627 c3_i32_4356
  let c3_i32_4357 : BitVec 32 := 3#32
  let v7629 : BitVec 32 := Scalar.shli v7628 c3_i32_4357
  let v7630 : BitVec 32 := v7629
  let v7631 : Index := Scalar.indexCast v7630
  let c0_4358 : Index := 0#32
  ![v7631.toNat, 0]

def k1_chk544 (v7627 : BitVec 32) : Prop :=
  (8 ∣ (k1_mult544 v7627).toNat) ∧
  (∀ a, (k1_off544 v7627) a + S8x128.size a ≤ S12800x128.size a)
theorem k1_mult544_dvd : ∀ (v7627 : BitVec 32) (k1_hw544 : k1_chk544 v7627), 8 ∣ (k1_mult544 v7627).toNat := fun v7627 k1_hw544 => k1_hw544.1
theorem k1_off544_inb : ∀ (v7627 : BitVec 32) (k1_hw544 : k1_chk544 v7627), ∀ a, (k1_off544 v7627) a + S8x128.size a ≤ S12800x128.size a := fun v7627 k1_hw544 => k1_hw544.2

def k1_mult545 (v7641 : BitVec 32) : BitVec 32 :=
  let c3_i32_4364 : BitVec 32 := 3#32
  let v7642 : BitVec 32 := Scalar.shrsi v7641 c3_i32_4364
  let c3_i32_4365 : BitVec 32 := 3#32
  let v7643 : BitVec 32 := Scalar.shli v7642 c3_i32_4365
  v7643

def k1_off545 (v7641 : BitVec 32) : Fin 2 → Nat :=
  let c3_i32_4364 : BitVec 32 := 3#32
  let v7642 : BitVec 32 := Scalar.shrsi v7641 c3_i32_4364
  let c3_i32_4365 : BitVec 32 := 3#32
  let v7643 : BitVec 32 := Scalar.shli v7642 c3_i32_4365
  let v7644 : BitVec 32 := v7643
  let v7645 : Index := Scalar.indexCast v7644
  let c0_4366 : Index := 0#32
  ![v7645.toNat, 0]

def k1_chk545 (v7641 : BitVec 32) : Prop :=
  (8 ∣ (k1_mult545 v7641).toNat) ∧
  (∀ a, (k1_off545 v7641) a + S8x128.size a ≤ S12800x128.size a)
theorem k1_mult545_dvd : ∀ (v7641 : BitVec 32) (k1_hw545 : k1_chk545 v7641), 8 ∣ (k1_mult545 v7641).toNat := fun v7641 k1_hw545 => k1_hw545.1
theorem k1_off545_inb : ∀ (v7641 : BitVec 32) (k1_hw545 : k1_chk545 v7641), ∀ a, (k1_off545 v7641) a + S8x128.size a ≤ S12800x128.size a := fun v7641 k1_hw545 => k1_hw545.2

def k1_mult546 (v7655 : BitVec 32) : BitVec 32 :=
  let c3_i32_4372 : BitVec 32 := 3#32
  let v7656 : BitVec 32 := Scalar.shrsi v7655 c3_i32_4372
  let c3_i32_4373 : BitVec 32 := 3#32
  let v7657 : BitVec 32 := Scalar.shli v7656 c3_i32_4373
  v7657

def k1_off546 (v7655 : BitVec 32) : Fin 2 → Nat :=
  let c3_i32_4372 : BitVec 32 := 3#32
  let v7656 : BitVec 32 := Scalar.shrsi v7655 c3_i32_4372
  let c3_i32_4373 : BitVec 32 := 3#32
  let v7657 : BitVec 32 := Scalar.shli v7656 c3_i32_4373
  let v7658 : BitVec 32 := v7657
  let v7659 : Index := Scalar.indexCast v7658
  let c0_4374 : Index := 0#32
  ![v7659.toNat, 0]

def k1_chk546 (v7655 : BitVec 32) : Prop :=
  (8 ∣ (k1_mult546 v7655).toNat) ∧
  (∀ a, (k1_off546 v7655) a + S8x128.size a ≤ S12800x128.size a)
theorem k1_mult546_dvd : ∀ (v7655 : BitVec 32) (k1_hw546 : k1_chk546 v7655), 8 ∣ (k1_mult546 v7655).toNat := fun v7655 k1_hw546 => k1_hw546.1
theorem k1_off546_inb : ∀ (v7655 : BitVec 32) (k1_hw546 : k1_chk546 v7655), ∀ a, (k1_off546 v7655) a + S8x128.size a ≤ S12800x128.size a := fun v7655 k1_hw546 => k1_hw546.2

def k1_mult547 (v7669 : BitVec 32) : BitVec 32 :=
  let c3_i32_4380 : BitVec 32 := 3#32
  let v7670 : BitVec 32 := Scalar.shrsi v7669 c3_i32_4380
  let c3_i32_4381 : BitVec 32 := 3#32
  let v7671 : BitVec 32 := Scalar.shli v7670 c3_i32_4381
  v7671

def k1_off547 (v7669 : BitVec 32) : Fin 2 → Nat :=
  let c3_i32_4380 : BitVec 32 := 3#32
  let v7670 : BitVec 32 := Scalar.shrsi v7669 c3_i32_4380
  let c3_i32_4381 : BitVec 32 := 3#32
  let v7671 : BitVec 32 := Scalar.shli v7670 c3_i32_4381
  let v7672 : BitVec 32 := v7671
  let v7673 : Index := Scalar.indexCast v7672
  let c0_4382 : Index := 0#32
  ![v7673.toNat, 0]

def k1_chk547 (v7669 : BitVec 32) : Prop :=
  (8 ∣ (k1_mult547 v7669).toNat) ∧
  (∀ a, (k1_off547 v7669) a + S8x128.size a ≤ S12800x128.size a)
theorem k1_mult547_dvd : ∀ (v7669 : BitVec 32) (k1_hw547 : k1_chk547 v7669), 8 ∣ (k1_mult547 v7669).toNat := fun v7669 k1_hw547 => k1_hw547.1
theorem k1_off547_inb : ∀ (v7669 : BitVec 32) (k1_hw547 : k1_chk547 v7669), ∀ a, (k1_off547 v7669) a + S8x128.size a ≤ S12800x128.size a := fun v7669 k1_hw547 => k1_hw547.2

def k1_mult548 (v7683 : BitVec 32) : BitVec 32 :=
  let c3_i32_4388 : BitVec 32 := 3#32
  let v7684 : BitVec 32 := Scalar.shrsi v7683 c3_i32_4388
  let c3_i32_4389 : BitVec 32 := 3#32
  let v7685 : BitVec 32 := Scalar.shli v7684 c3_i32_4389
  v7685

def k1_off548 (v7683 : BitVec 32) : Fin 2 → Nat :=
  let c3_i32_4388 : BitVec 32 := 3#32
  let v7684 : BitVec 32 := Scalar.shrsi v7683 c3_i32_4388
  let c3_i32_4389 : BitVec 32 := 3#32
  let v7685 : BitVec 32 := Scalar.shli v7684 c3_i32_4389
  let v7686 : BitVec 32 := v7685
  let v7687 : Index := Scalar.indexCast v7686
  let c0_4390 : Index := 0#32
  ![v7687.toNat, 0]

def k1_chk548 (v7683 : BitVec 32) : Prop :=
  (8 ∣ (k1_mult548 v7683).toNat) ∧
  (∀ a, (k1_off548 v7683) a + S8x128.size a ≤ S12800x128.size a)
theorem k1_mult548_dvd : ∀ (v7683 : BitVec 32) (k1_hw548 : k1_chk548 v7683), 8 ∣ (k1_mult548 v7683).toNat := fun v7683 k1_hw548 => k1_hw548.1
theorem k1_off548_inb : ∀ (v7683 : BitVec 32) (k1_hw548 : k1_chk548 v7683), ∀ a, (k1_off548 v7683) a + S8x128.size a ≤ S12800x128.size a := fun v7683 k1_hw548 => k1_hw548.2

def k1_mult549 (v7697 : BitVec 32) : BitVec 32 :=
  let c3_i32_4396 : BitVec 32 := 3#32
  let v7698 : BitVec 32 := Scalar.shrsi v7697 c3_i32_4396
  let c3_i32_4397 : BitVec 32 := 3#32
  let v7699 : BitVec 32 := Scalar.shli v7698 c3_i32_4397
  v7699

def k1_off549 (v7697 : BitVec 32) : Fin 2 → Nat :=
  let c3_i32_4396 : BitVec 32 := 3#32
  let v7698 : BitVec 32 := Scalar.shrsi v7697 c3_i32_4396
  let c3_i32_4397 : BitVec 32 := 3#32
  let v7699 : BitVec 32 := Scalar.shli v7698 c3_i32_4397
  let v7700 : BitVec 32 := v7699
  let v7701 : Index := Scalar.indexCast v7700
  let c0_4398 : Index := 0#32
  ![v7701.toNat, 0]

def k1_chk549 (v7697 : BitVec 32) : Prop :=
  (8 ∣ (k1_mult549 v7697).toNat) ∧
  (∀ a, (k1_off549 v7697) a + S8x128.size a ≤ S12800x128.size a)
theorem k1_mult549_dvd : ∀ (v7697 : BitVec 32) (k1_hw549 : k1_chk549 v7697), 8 ∣ (k1_mult549 v7697).toNat := fun v7697 k1_hw549 => k1_hw549.1
theorem k1_off549_inb : ∀ (v7697 : BitVec 32) (k1_hw549 : k1_chk549 v7697), ∀ a, (k1_off549 v7697) a + S8x128.size a ≤ S12800x128.size a := fun v7697 k1_hw549 => k1_hw549.2

def k1_mult550 (v7711 : BitVec 32) : BitVec 32 :=
  let c3_i32_4404 : BitVec 32 := 3#32
  let v7712 : BitVec 32 := Scalar.shrsi v7711 c3_i32_4404
  let c3_i32_4405 : BitVec 32 := 3#32
  let v7713 : BitVec 32 := Scalar.shli v7712 c3_i32_4405
  v7713

def k1_off550 (v7711 : BitVec 32) : Fin 2 → Nat :=
  let c3_i32_4404 : BitVec 32 := 3#32
  let v7712 : BitVec 32 := Scalar.shrsi v7711 c3_i32_4404
  let c3_i32_4405 : BitVec 32 := 3#32
  let v7713 : BitVec 32 := Scalar.shli v7712 c3_i32_4405
  let v7714 : BitVec 32 := v7713
  let v7715 : Index := Scalar.indexCast v7714
  let c0_4406 : Index := 0#32
  ![v7715.toNat, 0]

def k1_chk550 (v7711 : BitVec 32) : Prop :=
  (8 ∣ (k1_mult550 v7711).toNat) ∧
  (∀ a, (k1_off550 v7711) a + S8x128.size a ≤ S12800x128.size a)
theorem k1_mult550_dvd : ∀ (v7711 : BitVec 32) (k1_hw550 : k1_chk550 v7711), 8 ∣ (k1_mult550 v7711).toNat := fun v7711 k1_hw550 => k1_hw550.1
theorem k1_off550_inb : ∀ (v7711 : BitVec 32) (k1_hw550 : k1_chk550 v7711), ∀ a, (k1_off550 v7711) a + S8x128.size a ≤ S12800x128.size a := fun v7711 k1_hw550 => k1_hw550.2

def k1_mult551 (v7725 : BitVec 32) : BitVec 32 :=
  let c3_i32_4412 : BitVec 32 := 3#32
  let v7726 : BitVec 32 := Scalar.shrsi v7725 c3_i32_4412
  let c3_i32_4413 : BitVec 32 := 3#32
  let v7727 : BitVec 32 := Scalar.shli v7726 c3_i32_4413
  v7727

def k1_off551 (v7725 : BitVec 32) : Fin 2 → Nat :=
  let c3_i32_4412 : BitVec 32 := 3#32
  let v7726 : BitVec 32 := Scalar.shrsi v7725 c3_i32_4412
  let c3_i32_4413 : BitVec 32 := 3#32
  let v7727 : BitVec 32 := Scalar.shli v7726 c3_i32_4413
  let v7728 : BitVec 32 := v7727
  let v7729 : Index := Scalar.indexCast v7728
  let c0_4414 : Index := 0#32
  ![v7729.toNat, 0]

def k1_chk551 (v7725 : BitVec 32) : Prop :=
  (8 ∣ (k1_mult551 v7725).toNat) ∧
  (∀ a, (k1_off551 v7725) a + S8x128.size a ≤ S12800x128.size a)
theorem k1_mult551_dvd : ∀ (v7725 : BitVec 32) (k1_hw551 : k1_chk551 v7725), 8 ∣ (k1_mult551 v7725).toNat := fun v7725 k1_hw551 => k1_hw551.1
theorem k1_off551_inb : ∀ (v7725 : BitVec 32) (k1_hw551 : k1_chk551 v7725), ∀ a, (k1_off551 v7725) a + S8x128.size a ≤ S12800x128.size a := fun v7725 k1_hw551 => k1_hw551.2

def k1_mult552 (v7739 : BitVec 32) : BitVec 32 :=
  let c3_i32_4420 : BitVec 32 := 3#32
  let v7740 : BitVec 32 := Scalar.shrsi v7739 c3_i32_4420
  let c3_i32_4421 : BitVec 32 := 3#32
  let v7741 : BitVec 32 := Scalar.shli v7740 c3_i32_4421
  v7741

def k1_off552 (v7739 : BitVec 32) : Fin 2 → Nat :=
  let c3_i32_4420 : BitVec 32 := 3#32
  let v7740 : BitVec 32 := Scalar.shrsi v7739 c3_i32_4420
  let c3_i32_4421 : BitVec 32 := 3#32
  let v7741 : BitVec 32 := Scalar.shli v7740 c3_i32_4421
  let v7742 : BitVec 32 := v7741
  let v7743 : Index := Scalar.indexCast v7742
  let c0_4422 : Index := 0#32
  ![v7743.toNat, 0]

def k1_chk552 (v7739 : BitVec 32) : Prop :=
  (8 ∣ (k1_mult552 v7739).toNat) ∧
  (∀ a, (k1_off552 v7739) a + S8x128.size a ≤ S12800x128.size a)
theorem k1_mult552_dvd : ∀ (v7739 : BitVec 32) (k1_hw552 : k1_chk552 v7739), 8 ∣ (k1_mult552 v7739).toNat := fun v7739 k1_hw552 => k1_hw552.1
theorem k1_off552_inb : ∀ (v7739 : BitVec 32) (k1_hw552 : k1_chk552 v7739), ∀ a, (k1_off552 v7739) a + S8x128.size a ≤ S12800x128.size a := fun v7739 k1_hw552 => k1_hw552.2

def k1_mult553 (v7753 : BitVec 32) : BitVec 32 :=
  let c3_i32_4428 : BitVec 32 := 3#32
  let v7754 : BitVec 32 := Scalar.shrsi v7753 c3_i32_4428
  let c3_i32_4429 : BitVec 32 := 3#32
  let v7755 : BitVec 32 := Scalar.shli v7754 c3_i32_4429
  v7755

def k1_off553 (v7753 : BitVec 32) : Fin 2 → Nat :=
  let c3_i32_4428 : BitVec 32 := 3#32
  let v7754 : BitVec 32 := Scalar.shrsi v7753 c3_i32_4428
  let c3_i32_4429 : BitVec 32 := 3#32
  let v7755 : BitVec 32 := Scalar.shli v7754 c3_i32_4429
  let v7756 : BitVec 32 := v7755
  let v7757 : Index := Scalar.indexCast v7756
  let c0_4430 : Index := 0#32
  ![v7757.toNat, 0]

def k1_chk553 (v7753 : BitVec 32) : Prop :=
  (8 ∣ (k1_mult553 v7753).toNat) ∧
  (∀ a, (k1_off553 v7753) a + S8x128.size a ≤ S12800x128.size a)
theorem k1_mult553_dvd : ∀ (v7753 : BitVec 32) (k1_hw553 : k1_chk553 v7753), 8 ∣ (k1_mult553 v7753).toNat := fun v7753 k1_hw553 => k1_hw553.1
theorem k1_off553_inb : ∀ (v7753 : BitVec 32) (k1_hw553 : k1_chk553 v7753), ∀ a, (k1_off553 v7753) a + S8x128.size a ≤ S12800x128.size a := fun v7753 k1_hw553 => k1_hw553.2

def k1_mult554 (v7767 : BitVec 32) : BitVec 32 :=
  let c3_i32_4436 : BitVec 32 := 3#32
  let v7768 : BitVec 32 := Scalar.shrsi v7767 c3_i32_4436
  let c3_i32_4437 : BitVec 32 := 3#32
  let v7769 : BitVec 32 := Scalar.shli v7768 c3_i32_4437
  v7769

def k1_off554 (v7767 : BitVec 32) : Fin 2 → Nat :=
  let c3_i32_4436 : BitVec 32 := 3#32
  let v7768 : BitVec 32 := Scalar.shrsi v7767 c3_i32_4436
  let c3_i32_4437 : BitVec 32 := 3#32
  let v7769 : BitVec 32 := Scalar.shli v7768 c3_i32_4437
  let v7770 : BitVec 32 := v7769
  let v7771 : Index := Scalar.indexCast v7770
  let c0_4438 : Index := 0#32
  ![v7771.toNat, 0]

def k1_chk554 (v7767 : BitVec 32) : Prop :=
  (8 ∣ (k1_mult554 v7767).toNat) ∧
  (∀ a, (k1_off554 v7767) a + S8x128.size a ≤ S12800x128.size a)
theorem k1_mult554_dvd : ∀ (v7767 : BitVec 32) (k1_hw554 : k1_chk554 v7767), 8 ∣ (k1_mult554 v7767).toNat := fun v7767 k1_hw554 => k1_hw554.1
theorem k1_off554_inb : ∀ (v7767 : BitVec 32) (k1_hw554 : k1_chk554 v7767), ∀ a, (k1_off554 v7767) a + S8x128.size a ≤ S12800x128.size a := fun v7767 k1_hw554 => k1_hw554.2

def k1_mult555 (v7781 : BitVec 32) : BitVec 32 :=
  let c3_i32_4444 : BitVec 32 := 3#32
  let v7782 : BitVec 32 := Scalar.shrsi v7781 c3_i32_4444
  let c3_i32_4445 : BitVec 32 := 3#32
  let v7783 : BitVec 32 := Scalar.shli v7782 c3_i32_4445
  v7783

def k1_off555 (v7781 : BitVec 32) : Fin 2 → Nat :=
  let c3_i32_4444 : BitVec 32 := 3#32
  let v7782 : BitVec 32 := Scalar.shrsi v7781 c3_i32_4444
  let c3_i32_4445 : BitVec 32 := 3#32
  let v7783 : BitVec 32 := Scalar.shli v7782 c3_i32_4445
  let v7784 : BitVec 32 := v7783
  let v7785 : Index := Scalar.indexCast v7784
  let c0_4446 : Index := 0#32
  ![v7785.toNat, 0]

def k1_chk555 (v7781 : BitVec 32) : Prop :=
  (8 ∣ (k1_mult555 v7781).toNat) ∧
  (∀ a, (k1_off555 v7781) a + S8x128.size a ≤ S12800x128.size a)
theorem k1_mult555_dvd : ∀ (v7781 : BitVec 32) (k1_hw555 : k1_chk555 v7781), 8 ∣ (k1_mult555 v7781).toNat := fun v7781 k1_hw555 => k1_hw555.1
theorem k1_off555_inb : ∀ (v7781 : BitVec 32) (k1_hw555 : k1_chk555 v7781), ∀ a, (k1_off555 v7781) a + S8x128.size a ≤ S12800x128.size a := fun v7781 k1_hw555 => k1_hw555.2

def k1_mult556 (v7795 : BitVec 32) : BitVec 32 :=
  let c3_i32_4452 : BitVec 32 := 3#32
  let v7796 : BitVec 32 := Scalar.shrsi v7795 c3_i32_4452
  let c3_i32_4453 : BitVec 32 := 3#32
  let v7797 : BitVec 32 := Scalar.shli v7796 c3_i32_4453
  v7797

def k1_off556 (v7795 : BitVec 32) : Fin 2 → Nat :=
  let c3_i32_4452 : BitVec 32 := 3#32
  let v7796 : BitVec 32 := Scalar.shrsi v7795 c3_i32_4452
  let c3_i32_4453 : BitVec 32 := 3#32
  let v7797 : BitVec 32 := Scalar.shli v7796 c3_i32_4453
  let v7798 : BitVec 32 := v7797
  let v7799 : Index := Scalar.indexCast v7798
  let c0_4454 : Index := 0#32
  ![v7799.toNat, 0]

def k1_chk556 (v7795 : BitVec 32) : Prop :=
  (8 ∣ (k1_mult556 v7795).toNat) ∧
  (∀ a, (k1_off556 v7795) a + S8x128.size a ≤ S12800x128.size a)
theorem k1_mult556_dvd : ∀ (v7795 : BitVec 32) (k1_hw556 : k1_chk556 v7795), 8 ∣ (k1_mult556 v7795).toNat := fun v7795 k1_hw556 => k1_hw556.1
theorem k1_off556_inb : ∀ (v7795 : BitVec 32) (k1_hw556 : k1_chk556 v7795), ∀ a, (k1_off556 v7795) a + S8x128.size a ≤ S12800x128.size a := fun v7795 k1_hw556 => k1_hw556.2

def k1_mult557 (v7809 : BitVec 32) : BitVec 32 :=
  let c3_i32_4460 : BitVec 32 := 3#32
  let v7810 : BitVec 32 := Scalar.shrsi v7809 c3_i32_4460
  let c3_i32_4461 : BitVec 32 := 3#32
  let v7811 : BitVec 32 := Scalar.shli v7810 c3_i32_4461
  v7811

def k1_off557 (v7809 : BitVec 32) : Fin 2 → Nat :=
  let c3_i32_4460 : BitVec 32 := 3#32
  let v7810 : BitVec 32 := Scalar.shrsi v7809 c3_i32_4460
  let c3_i32_4461 : BitVec 32 := 3#32
  let v7811 : BitVec 32 := Scalar.shli v7810 c3_i32_4461
  let v7812 : BitVec 32 := v7811
  let v7813 : Index := Scalar.indexCast v7812
  let c0_4462 : Index := 0#32
  ![v7813.toNat, 0]

def k1_chk557 (v7809 : BitVec 32) : Prop :=
  (8 ∣ (k1_mult557 v7809).toNat) ∧
  (∀ a, (k1_off557 v7809) a + S8x128.size a ≤ S12800x128.size a)
theorem k1_mult557_dvd : ∀ (v7809 : BitVec 32) (k1_hw557 : k1_chk557 v7809), 8 ∣ (k1_mult557 v7809).toNat := fun v7809 k1_hw557 => k1_hw557.1
theorem k1_off557_inb : ∀ (v7809 : BitVec 32) (k1_hw557 : k1_chk557 v7809), ∀ a, (k1_off557 v7809) a + S8x128.size a ≤ S12800x128.size a := fun v7809 k1_hw557 => k1_hw557.2

def k1_mult558 (v7823 : BitVec 32) : BitVec 32 :=
  let c3_i32_4468 : BitVec 32 := 3#32
  let v7824 : BitVec 32 := Scalar.shrsi v7823 c3_i32_4468
  let c3_i32_4469 : BitVec 32 := 3#32
  let v7825 : BitVec 32 := Scalar.shli v7824 c3_i32_4469
  v7825

def k1_off558 (v7823 : BitVec 32) : Fin 2 → Nat :=
  let c3_i32_4468 : BitVec 32 := 3#32
  let v7824 : BitVec 32 := Scalar.shrsi v7823 c3_i32_4468
  let c3_i32_4469 : BitVec 32 := 3#32
  let v7825 : BitVec 32 := Scalar.shli v7824 c3_i32_4469
  let v7826 : BitVec 32 := v7825
  let v7827 : Index := Scalar.indexCast v7826
  let c0_4470 : Index := 0#32
  ![v7827.toNat, 0]

def k1_chk558 (v7823 : BitVec 32) : Prop :=
  (8 ∣ (k1_mult558 v7823).toNat) ∧
  (∀ a, (k1_off558 v7823) a + S8x128.size a ≤ S12800x128.size a)
theorem k1_mult558_dvd : ∀ (v7823 : BitVec 32) (k1_hw558 : k1_chk558 v7823), 8 ∣ (k1_mult558 v7823).toNat := fun v7823 k1_hw558 => k1_hw558.1
theorem k1_off558_inb : ∀ (v7823 : BitVec 32) (k1_hw558 : k1_chk558 v7823), ∀ a, (k1_off558 v7823) a + S8x128.size a ≤ S12800x128.size a := fun v7823 k1_hw558 => k1_hw558.2

def k1_mult559 (v7837 : BitVec 32) : BitVec 32 :=
  let c3_i32_4476 : BitVec 32 := 3#32
  let v7838 : BitVec 32 := Scalar.shrsi v7837 c3_i32_4476
  let c3_i32_4477 : BitVec 32 := 3#32
  let v7839 : BitVec 32 := Scalar.shli v7838 c3_i32_4477
  v7839

def k1_off559 (v7837 : BitVec 32) : Fin 2 → Nat :=
  let c3_i32_4476 : BitVec 32 := 3#32
  let v7838 : BitVec 32 := Scalar.shrsi v7837 c3_i32_4476
  let c3_i32_4477 : BitVec 32 := 3#32
  let v7839 : BitVec 32 := Scalar.shli v7838 c3_i32_4477
  let v7840 : BitVec 32 := v7839
  let v7841 : Index := Scalar.indexCast v7840
  let c0_4478 : Index := 0#32
  ![v7841.toNat, 0]

def k1_chk559 (v7837 : BitVec 32) : Prop :=
  (8 ∣ (k1_mult559 v7837).toNat) ∧
  (∀ a, (k1_off559 v7837) a + S8x128.size a ≤ S12800x128.size a)
theorem k1_mult559_dvd : ∀ (v7837 : BitVec 32) (k1_hw559 : k1_chk559 v7837), 8 ∣ (k1_mult559 v7837).toNat := fun v7837 k1_hw559 => k1_hw559.1
theorem k1_off559_inb : ∀ (v7837 : BitVec 32) (k1_hw559 : k1_chk559 v7837), ∀ a, (k1_off559 v7837) a + S8x128.size a ≤ S12800x128.size a := fun v7837 k1_hw559 => k1_hw559.2

def k1_mult560 (v7851 : BitVec 32) : BitVec 32 :=
  let c3_i32_4484 : BitVec 32 := 3#32
  let v7852 : BitVec 32 := Scalar.shrsi v7851 c3_i32_4484
  let c3_i32_4485 : BitVec 32 := 3#32
  let v7853 : BitVec 32 := Scalar.shli v7852 c3_i32_4485
  v7853

def k1_off560 (v7851 : BitVec 32) : Fin 2 → Nat :=
  let c3_i32_4484 : BitVec 32 := 3#32
  let v7852 : BitVec 32 := Scalar.shrsi v7851 c3_i32_4484
  let c3_i32_4485 : BitVec 32 := 3#32
  let v7853 : BitVec 32 := Scalar.shli v7852 c3_i32_4485
  let v7854 : BitVec 32 := v7853
  let v7855 : Index := Scalar.indexCast v7854
  let c0_4486 : Index := 0#32
  ![v7855.toNat, 0]

def k1_chk560 (v7851 : BitVec 32) : Prop :=
  (8 ∣ (k1_mult560 v7851).toNat) ∧
  (∀ a, (k1_off560 v7851) a + S8x128.size a ≤ S12800x128.size a)
theorem k1_mult560_dvd : ∀ (v7851 : BitVec 32) (k1_hw560 : k1_chk560 v7851), 8 ∣ (k1_mult560 v7851).toNat := fun v7851 k1_hw560 => k1_hw560.1
theorem k1_off560_inb : ∀ (v7851 : BitVec 32) (k1_hw560 : k1_chk560 v7851), ∀ a, (k1_off560 v7851) a + S8x128.size a ≤ S12800x128.size a := fun v7851 k1_hw560 => k1_hw560.2

def k1_mult561 (v7865 : BitVec 32) : BitVec 32 :=
  let c3_i32_4492 : BitVec 32 := 3#32
  let v7866 : BitVec 32 := Scalar.shrsi v7865 c3_i32_4492
  let c3_i32_4493 : BitVec 32 := 3#32
  let v7867 : BitVec 32 := Scalar.shli v7866 c3_i32_4493
  v7867

def k1_off561 (v7865 : BitVec 32) : Fin 2 → Nat :=
  let c3_i32_4492 : BitVec 32 := 3#32
  let v7866 : BitVec 32 := Scalar.shrsi v7865 c3_i32_4492
  let c3_i32_4493 : BitVec 32 := 3#32
  let v7867 : BitVec 32 := Scalar.shli v7866 c3_i32_4493
  let v7868 : BitVec 32 := v7867
  let v7869 : Index := Scalar.indexCast v7868
  let c0_4494 : Index := 0#32
  ![v7869.toNat, 0]

def k1_chk561 (v7865 : BitVec 32) : Prop :=
  (8 ∣ (k1_mult561 v7865).toNat) ∧
  (∀ a, (k1_off561 v7865) a + S8x128.size a ≤ S12800x128.size a)
theorem k1_mult561_dvd : ∀ (v7865 : BitVec 32) (k1_hw561 : k1_chk561 v7865), 8 ∣ (k1_mult561 v7865).toNat := fun v7865 k1_hw561 => k1_hw561.1
theorem k1_off561_inb : ∀ (v7865 : BitVec 32) (k1_hw561 : k1_chk561 v7865), ∀ a, (k1_off561 v7865) a + S8x128.size a ≤ S12800x128.size a := fun v7865 k1_hw561 => k1_hw561.2

def k1_mult562 (v7879 : BitVec 32) : BitVec 32 :=
  let c3_i32_4500 : BitVec 32 := 3#32
  let v7880 : BitVec 32 := Scalar.shrsi v7879 c3_i32_4500
  let c3_i32_4501 : BitVec 32 := 3#32
  let v7881 : BitVec 32 := Scalar.shli v7880 c3_i32_4501
  v7881

def k1_off562 (v7879 : BitVec 32) : Fin 2 → Nat :=
  let c3_i32_4500 : BitVec 32 := 3#32
  let v7880 : BitVec 32 := Scalar.shrsi v7879 c3_i32_4500
  let c3_i32_4501 : BitVec 32 := 3#32
  let v7881 : BitVec 32 := Scalar.shli v7880 c3_i32_4501
  let v7882 : BitVec 32 := v7881
  let v7883 : Index := Scalar.indexCast v7882
  let c0_4502 : Index := 0#32
  ![v7883.toNat, 0]

def k1_chk562 (v7879 : BitVec 32) : Prop :=
  (8 ∣ (k1_mult562 v7879).toNat) ∧
  (∀ a, (k1_off562 v7879) a + S8x128.size a ≤ S12800x128.size a)
theorem k1_mult562_dvd : ∀ (v7879 : BitVec 32) (k1_hw562 : k1_chk562 v7879), 8 ∣ (k1_mult562 v7879).toNat := fun v7879 k1_hw562 => k1_hw562.1
theorem k1_off562_inb : ∀ (v7879 : BitVec 32) (k1_hw562 : k1_chk562 v7879), ∀ a, (k1_off562 v7879) a + S8x128.size a ≤ S12800x128.size a := fun v7879 k1_hw562 => k1_hw562.2

def k1_mult563 (v7893 : BitVec 32) : BitVec 32 :=
  let c3_i32_4508 : BitVec 32 := 3#32
  let v7894 : BitVec 32 := Scalar.shrsi v7893 c3_i32_4508
  let c3_i32_4509 : BitVec 32 := 3#32
  let v7895 : BitVec 32 := Scalar.shli v7894 c3_i32_4509
  v7895

def k1_off563 (v7893 : BitVec 32) : Fin 2 → Nat :=
  let c3_i32_4508 : BitVec 32 := 3#32
  let v7894 : BitVec 32 := Scalar.shrsi v7893 c3_i32_4508
  let c3_i32_4509 : BitVec 32 := 3#32
  let v7895 : BitVec 32 := Scalar.shli v7894 c3_i32_4509
  let v7896 : BitVec 32 := v7895
  let v7897 : Index := Scalar.indexCast v7896
  let c0_4510 : Index := 0#32
  ![v7897.toNat, 0]

def k1_chk563 (v7893 : BitVec 32) : Prop :=
  (8 ∣ (k1_mult563 v7893).toNat) ∧
  (∀ a, (k1_off563 v7893) a + S8x128.size a ≤ S12800x128.size a)
theorem k1_mult563_dvd : ∀ (v7893 : BitVec 32) (k1_hw563 : k1_chk563 v7893), 8 ∣ (k1_mult563 v7893).toNat := fun v7893 k1_hw563 => k1_hw563.1
theorem k1_off563_inb : ∀ (v7893 : BitVec 32) (k1_hw563 : k1_chk563 v7893), ∀ a, (k1_off563 v7893) a + S8x128.size a ≤ S12800x128.size a := fun v7893 k1_hw563 => k1_hw563.2

def k1_mult564 (v7907 : BitVec 32) : BitVec 32 :=
  let c3_i32_4516 : BitVec 32 := 3#32
  let v7908 : BitVec 32 := Scalar.shrsi v7907 c3_i32_4516
  let c3_i32_4517 : BitVec 32 := 3#32
  let v7909 : BitVec 32 := Scalar.shli v7908 c3_i32_4517
  v7909

def k1_off564 (v7907 : BitVec 32) : Fin 2 → Nat :=
  let c3_i32_4516 : BitVec 32 := 3#32
  let v7908 : BitVec 32 := Scalar.shrsi v7907 c3_i32_4516
  let c3_i32_4517 : BitVec 32 := 3#32
  let v7909 : BitVec 32 := Scalar.shli v7908 c3_i32_4517
  let v7910 : BitVec 32 := v7909
  let v7911 : Index := Scalar.indexCast v7910
  let c0_4518 : Index := 0#32
  ![v7911.toNat, 0]

def k1_chk564 (v7907 : BitVec 32) : Prop :=
  (8 ∣ (k1_mult564 v7907).toNat) ∧
  (∀ a, (k1_off564 v7907) a + S8x128.size a ≤ S12800x128.size a)
theorem k1_mult564_dvd : ∀ (v7907 : BitVec 32) (k1_hw564 : k1_chk564 v7907), 8 ∣ (k1_mult564 v7907).toNat := fun v7907 k1_hw564 => k1_hw564.1
theorem k1_off564_inb : ∀ (v7907 : BitVec 32) (k1_hw564 : k1_chk564 v7907), ∀ a, (k1_off564 v7907) a + S8x128.size a ≤ S12800x128.size a := fun v7907 k1_hw564 => k1_hw564.2

def k1_mult565 (v7921 : BitVec 32) : BitVec 32 :=
  let c3_i32_4524 : BitVec 32 := 3#32
  let v7922 : BitVec 32 := Scalar.shrsi v7921 c3_i32_4524
  let c3_i32_4525 : BitVec 32 := 3#32
  let v7923 : BitVec 32 := Scalar.shli v7922 c3_i32_4525
  v7923

def k1_off565 (v7921 : BitVec 32) : Fin 2 → Nat :=
  let c3_i32_4524 : BitVec 32 := 3#32
  let v7922 : BitVec 32 := Scalar.shrsi v7921 c3_i32_4524
  let c3_i32_4525 : BitVec 32 := 3#32
  let v7923 : BitVec 32 := Scalar.shli v7922 c3_i32_4525
  let v7924 : BitVec 32 := v7923
  let v7925 : Index := Scalar.indexCast v7924
  let c0_4526 : Index := 0#32
  ![v7925.toNat, 0]

def k1_chk565 (v7921 : BitVec 32) : Prop :=
  (8 ∣ (k1_mult565 v7921).toNat) ∧
  (∀ a, (k1_off565 v7921) a + S8x128.size a ≤ S12800x128.size a)
theorem k1_mult565_dvd : ∀ (v7921 : BitVec 32) (k1_hw565 : k1_chk565 v7921), 8 ∣ (k1_mult565 v7921).toNat := fun v7921 k1_hw565 => k1_hw565.1
theorem k1_off565_inb : ∀ (v7921 : BitVec 32) (k1_hw565 : k1_chk565 v7921), ∀ a, (k1_off565 v7921) a + S8x128.size a ≤ S12800x128.size a := fun v7921 k1_hw565 => k1_hw565.2

def k1_mult566 (v7935 : BitVec 32) : BitVec 32 :=
  let c3_i32_4532 : BitVec 32 := 3#32
  let v7936 : BitVec 32 := Scalar.shrsi v7935 c3_i32_4532
  let c3_i32_4533 : BitVec 32 := 3#32
  let v7937 : BitVec 32 := Scalar.shli v7936 c3_i32_4533
  v7937

def k1_off566 (v7935 : BitVec 32) : Fin 2 → Nat :=
  let c3_i32_4532 : BitVec 32 := 3#32
  let v7936 : BitVec 32 := Scalar.shrsi v7935 c3_i32_4532
  let c3_i32_4533 : BitVec 32 := 3#32
  let v7937 : BitVec 32 := Scalar.shli v7936 c3_i32_4533
  let v7938 : BitVec 32 := v7937
  let v7939 : Index := Scalar.indexCast v7938
  let c0_4534 : Index := 0#32
  ![v7939.toNat, 0]

def k1_chk566 (v7935 : BitVec 32) : Prop :=
  (8 ∣ (k1_mult566 v7935).toNat) ∧
  (∀ a, (k1_off566 v7935) a + S8x128.size a ≤ S12800x128.size a)
theorem k1_mult566_dvd : ∀ (v7935 : BitVec 32) (k1_hw566 : k1_chk566 v7935), 8 ∣ (k1_mult566 v7935).toNat := fun v7935 k1_hw566 => k1_hw566.1
theorem k1_off566_inb : ∀ (v7935 : BitVec 32) (k1_hw566 : k1_chk566 v7935), ∀ a, (k1_off566 v7935) a + S8x128.size a ≤ S12800x128.size a := fun v7935 k1_hw566 => k1_hw566.2

def k1_mult567 (v7949 : BitVec 32) : BitVec 32 :=
  let c3_i32_4540 : BitVec 32 := 3#32
  let v7950 : BitVec 32 := Scalar.shrsi v7949 c3_i32_4540
  let c3_i32_4541 : BitVec 32 := 3#32
  let v7951 : BitVec 32 := Scalar.shli v7950 c3_i32_4541
  v7951

def k1_off567 (v7949 : BitVec 32) : Fin 2 → Nat :=
  let c3_i32_4540 : BitVec 32 := 3#32
  let v7950 : BitVec 32 := Scalar.shrsi v7949 c3_i32_4540
  let c3_i32_4541 : BitVec 32 := 3#32
  let v7951 : BitVec 32 := Scalar.shli v7950 c3_i32_4541
  let v7952 : BitVec 32 := v7951
  let v7953 : Index := Scalar.indexCast v7952
  let c0_4542 : Index := 0#32
  ![v7953.toNat, 0]

def k1_chk567 (v7949 : BitVec 32) : Prop :=
  (8 ∣ (k1_mult567 v7949).toNat) ∧
  (∀ a, (k1_off567 v7949) a + S8x128.size a ≤ S12800x128.size a)
theorem k1_mult567_dvd : ∀ (v7949 : BitVec 32) (k1_hw567 : k1_chk567 v7949), 8 ∣ (k1_mult567 v7949).toNat := fun v7949 k1_hw567 => k1_hw567.1
theorem k1_off567_inb : ∀ (v7949 : BitVec 32) (k1_hw567 : k1_chk567 v7949), ∀ a, (k1_off567 v7949) a + S8x128.size a ≤ S12800x128.size a := fun v7949 k1_hw567 => k1_hw567.2

def k1_mult568 (v7963 : BitVec 32) : BitVec 32 :=
  let c3_i32_4548 : BitVec 32 := 3#32
  let v7964 : BitVec 32 := Scalar.shrsi v7963 c3_i32_4548
  let c3_i32_4549 : BitVec 32 := 3#32
  let v7965 : BitVec 32 := Scalar.shli v7964 c3_i32_4549
  v7965

def k1_off568 (v7963 : BitVec 32) : Fin 2 → Nat :=
  let c3_i32_4548 : BitVec 32 := 3#32
  let v7964 : BitVec 32 := Scalar.shrsi v7963 c3_i32_4548
  let c3_i32_4549 : BitVec 32 := 3#32
  let v7965 : BitVec 32 := Scalar.shli v7964 c3_i32_4549
  let v7966 : BitVec 32 := v7965
  let v7967 : Index := Scalar.indexCast v7966
  let c0_4550 : Index := 0#32
  ![v7967.toNat, 0]

def k1_chk568 (v7963 : BitVec 32) : Prop :=
  (8 ∣ (k1_mult568 v7963).toNat) ∧
  (∀ a, (k1_off568 v7963) a + S8x128.size a ≤ S12800x128.size a)
theorem k1_mult568_dvd : ∀ (v7963 : BitVec 32) (k1_hw568 : k1_chk568 v7963), 8 ∣ (k1_mult568 v7963).toNat := fun v7963 k1_hw568 => k1_hw568.1
theorem k1_off568_inb : ∀ (v7963 : BitVec 32) (k1_hw568 : k1_chk568 v7963), ∀ a, (k1_off568 v7963) a + S8x128.size a ≤ S12800x128.size a := fun v7963 k1_hw568 => k1_hw568.2

def k1_mult569 (v7977 : BitVec 32) : BitVec 32 :=
  let c3_i32_4556 : BitVec 32 := 3#32
  let v7978 : BitVec 32 := Scalar.shrsi v7977 c3_i32_4556
  let c3_i32_4557 : BitVec 32 := 3#32
  let v7979 : BitVec 32 := Scalar.shli v7978 c3_i32_4557
  v7979

def k1_off569 (v7977 : BitVec 32) : Fin 2 → Nat :=
  let c3_i32_4556 : BitVec 32 := 3#32
  let v7978 : BitVec 32 := Scalar.shrsi v7977 c3_i32_4556
  let c3_i32_4557 : BitVec 32 := 3#32
  let v7979 : BitVec 32 := Scalar.shli v7978 c3_i32_4557
  let v7980 : BitVec 32 := v7979
  let v7981 : Index := Scalar.indexCast v7980
  let c0_4558 : Index := 0#32
  ![v7981.toNat, 0]

def k1_chk569 (v7977 : BitVec 32) : Prop :=
  (8 ∣ (k1_mult569 v7977).toNat) ∧
  (∀ a, (k1_off569 v7977) a + S8x128.size a ≤ S12800x128.size a)
theorem k1_mult569_dvd : ∀ (v7977 : BitVec 32) (k1_hw569 : k1_chk569 v7977), 8 ∣ (k1_mult569 v7977).toNat := fun v7977 k1_hw569 => k1_hw569.1
theorem k1_off569_inb : ∀ (v7977 : BitVec 32) (k1_hw569 : k1_chk569 v7977), ∀ a, (k1_off569 v7977) a + S8x128.size a ≤ S12800x128.size a := fun v7977 k1_hw569 => k1_hw569.2

def k1_mult570 (v7991 : BitVec 32) : BitVec 32 :=
  let c3_i32_4564 : BitVec 32 := 3#32
  let v7992 : BitVec 32 := Scalar.shrsi v7991 c3_i32_4564
  let c3_i32_4565 : BitVec 32 := 3#32
  let v7993 : BitVec 32 := Scalar.shli v7992 c3_i32_4565
  v7993

def k1_off570 (v7991 : BitVec 32) : Fin 2 → Nat :=
  let c3_i32_4564 : BitVec 32 := 3#32
  let v7992 : BitVec 32 := Scalar.shrsi v7991 c3_i32_4564
  let c3_i32_4565 : BitVec 32 := 3#32
  let v7993 : BitVec 32 := Scalar.shli v7992 c3_i32_4565
  let v7994 : BitVec 32 := v7993
  let v7995 : Index := Scalar.indexCast v7994
  let c0_4566 : Index := 0#32
  ![v7995.toNat, 0]

def k1_chk570 (v7991 : BitVec 32) : Prop :=
  (8 ∣ (k1_mult570 v7991).toNat) ∧
  (∀ a, (k1_off570 v7991) a + S8x128.size a ≤ S12800x128.size a)
theorem k1_mult570_dvd : ∀ (v7991 : BitVec 32) (k1_hw570 : k1_chk570 v7991), 8 ∣ (k1_mult570 v7991).toNat := fun v7991 k1_hw570 => k1_hw570.1
theorem k1_off570_inb : ∀ (v7991 : BitVec 32) (k1_hw570 : k1_chk570 v7991), ∀ a, (k1_off570 v7991) a + S8x128.size a ≤ S12800x128.size a := fun v7991 k1_hw570 => k1_hw570.2

def k1_mult571 (v8005 : BitVec 32) : BitVec 32 :=
  let c3_i32_4572 : BitVec 32 := 3#32
  let v8006 : BitVec 32 := Scalar.shrsi v8005 c3_i32_4572
  let c3_i32_4573 : BitVec 32 := 3#32
  let v8007 : BitVec 32 := Scalar.shli v8006 c3_i32_4573
  v8007

def k1_off571 (v8005 : BitVec 32) : Fin 2 → Nat :=
  let c3_i32_4572 : BitVec 32 := 3#32
  let v8006 : BitVec 32 := Scalar.shrsi v8005 c3_i32_4572
  let c3_i32_4573 : BitVec 32 := 3#32
  let v8007 : BitVec 32 := Scalar.shli v8006 c3_i32_4573
  let v8008 : BitVec 32 := v8007
  let v8009 : Index := Scalar.indexCast v8008
  let c0_4574 : Index := 0#32
  ![v8009.toNat, 0]

def k1_chk571 (v8005 : BitVec 32) : Prop :=
  (8 ∣ (k1_mult571 v8005).toNat) ∧
  (∀ a, (k1_off571 v8005) a + S8x128.size a ≤ S12800x128.size a)
theorem k1_mult571_dvd : ∀ (v8005 : BitVec 32) (k1_hw571 : k1_chk571 v8005), 8 ∣ (k1_mult571 v8005).toNat := fun v8005 k1_hw571 => k1_hw571.1
theorem k1_off571_inb : ∀ (v8005 : BitVec 32) (k1_hw571 : k1_chk571 v8005), ∀ a, (k1_off571 v8005) a + S8x128.size a ≤ S12800x128.size a := fun v8005 k1_hw571 => k1_hw571.2

def k1_mult572 (v8019 : BitVec 32) : BitVec 32 :=
  let c3_i32_4580 : BitVec 32 := 3#32
  let v8020 : BitVec 32 := Scalar.shrsi v8019 c3_i32_4580
  let c3_i32_4581 : BitVec 32 := 3#32
  let v8021 : BitVec 32 := Scalar.shli v8020 c3_i32_4581
  v8021

def k1_off572 (v8019 : BitVec 32) : Fin 2 → Nat :=
  let c3_i32_4580 : BitVec 32 := 3#32
  let v8020 : BitVec 32 := Scalar.shrsi v8019 c3_i32_4580
  let c3_i32_4581 : BitVec 32 := 3#32
  let v8021 : BitVec 32 := Scalar.shli v8020 c3_i32_4581
  let v8022 : BitVec 32 := v8021
  let v8023 : Index := Scalar.indexCast v8022
  let c0_4582 : Index := 0#32
  ![v8023.toNat, 0]

def k1_chk572 (v8019 : BitVec 32) : Prop :=
  (8 ∣ (k1_mult572 v8019).toNat) ∧
  (∀ a, (k1_off572 v8019) a + S8x128.size a ≤ S12800x128.size a)
theorem k1_mult572_dvd : ∀ (v8019 : BitVec 32) (k1_hw572 : k1_chk572 v8019), 8 ∣ (k1_mult572 v8019).toNat := fun v8019 k1_hw572 => k1_hw572.1
theorem k1_off572_inb : ∀ (v8019 : BitVec 32) (k1_hw572 : k1_chk572 v8019), ∀ a, (k1_off572 v8019) a + S8x128.size a ≤ S12800x128.size a := fun v8019 k1_hw572 => k1_hw572.2

def k1_mult573 (v8033 : BitVec 32) : BitVec 32 :=
  let c3_i32_4588 : BitVec 32 := 3#32
  let v8034 : BitVec 32 := Scalar.shrsi v8033 c3_i32_4588
  let c3_i32_4589 : BitVec 32 := 3#32
  let v8035 : BitVec 32 := Scalar.shli v8034 c3_i32_4589
  v8035

def k1_off573 (v8033 : BitVec 32) : Fin 2 → Nat :=
  let c3_i32_4588 : BitVec 32 := 3#32
  let v8034 : BitVec 32 := Scalar.shrsi v8033 c3_i32_4588
  let c3_i32_4589 : BitVec 32 := 3#32
  let v8035 : BitVec 32 := Scalar.shli v8034 c3_i32_4589
  let v8036 : BitVec 32 := v8035
  let v8037 : Index := Scalar.indexCast v8036
  let c0_4590 : Index := 0#32
  ![v8037.toNat, 0]

def k1_chk573 (v8033 : BitVec 32) : Prop :=
  (8 ∣ (k1_mult573 v8033).toNat) ∧
  (∀ a, (k1_off573 v8033) a + S8x128.size a ≤ S12800x128.size a)
theorem k1_mult573_dvd : ∀ (v8033 : BitVec 32) (k1_hw573 : k1_chk573 v8033), 8 ∣ (k1_mult573 v8033).toNat := fun v8033 k1_hw573 => k1_hw573.1
theorem k1_off573_inb : ∀ (v8033 : BitVec 32) (k1_hw573 : k1_chk573 v8033), ∀ a, (k1_off573 v8033) a + S8x128.size a ≤ S12800x128.size a := fun v8033 k1_hw573 => k1_hw573.2

def k1_mult574 (v8047 : BitVec 32) : BitVec 32 :=
  let c3_i32_4596 : BitVec 32 := 3#32
  let v8048 : BitVec 32 := Scalar.shrsi v8047 c3_i32_4596
  let c3_i32_4597 : BitVec 32 := 3#32
  let v8049 : BitVec 32 := Scalar.shli v8048 c3_i32_4597
  v8049

def k1_off574 (v8047 : BitVec 32) : Fin 2 → Nat :=
  let c3_i32_4596 : BitVec 32 := 3#32
  let v8048 : BitVec 32 := Scalar.shrsi v8047 c3_i32_4596
  let c3_i32_4597 : BitVec 32 := 3#32
  let v8049 : BitVec 32 := Scalar.shli v8048 c3_i32_4597
  let v8050 : BitVec 32 := v8049
  let v8051 : Index := Scalar.indexCast v8050
  let c0_4598 : Index := 0#32
  ![v8051.toNat, 0]

def k1_chk574 (v8047 : BitVec 32) : Prop :=
  (8 ∣ (k1_mult574 v8047).toNat) ∧
  (∀ a, (k1_off574 v8047) a + S8x128.size a ≤ S12800x128.size a)
theorem k1_mult574_dvd : ∀ (v8047 : BitVec 32) (k1_hw574 : k1_chk574 v8047), 8 ∣ (k1_mult574 v8047).toNat := fun v8047 k1_hw574 => k1_hw574.1
theorem k1_off574_inb : ∀ (v8047 : BitVec 32) (k1_hw574 : k1_chk574 v8047), ∀ a, (k1_off574 v8047) a + S8x128.size a ≤ S12800x128.size a := fun v8047 k1_hw574 => k1_hw574.2

def k1_mult575 (v8061 : BitVec 32) : BitVec 32 :=
  let c3_i32_4604 : BitVec 32 := 3#32
  let v8062 : BitVec 32 := Scalar.shrsi v8061 c3_i32_4604
  let c3_i32_4605 : BitVec 32 := 3#32
  let v8063 : BitVec 32 := Scalar.shli v8062 c3_i32_4605
  v8063

def k1_off575 (v8061 : BitVec 32) : Fin 2 → Nat :=
  let c3_i32_4604 : BitVec 32 := 3#32
  let v8062 : BitVec 32 := Scalar.shrsi v8061 c3_i32_4604
  let c3_i32_4605 : BitVec 32 := 3#32
  let v8063 : BitVec 32 := Scalar.shli v8062 c3_i32_4605
  let v8064 : BitVec 32 := v8063
  let v8065 : Index := Scalar.indexCast v8064
  let c0_4606 : Index := 0#32
  ![v8065.toNat, 0]

def k1_chk575 (v8061 : BitVec 32) : Prop :=
  (8 ∣ (k1_mult575 v8061).toNat) ∧
  (∀ a, (k1_off575 v8061) a + S8x128.size a ≤ S12800x128.size a)
theorem k1_mult575_dvd : ∀ (v8061 : BitVec 32) (k1_hw575 : k1_chk575 v8061), 8 ∣ (k1_mult575 v8061).toNat := fun v8061 k1_hw575 => k1_hw575.1
theorem k1_off575_inb : ∀ (v8061 : BitVec 32) (k1_hw575 : k1_chk575 v8061), ∀ a, (k1_off575 v8061) a + S8x128.size a ≤ S12800x128.size a := fun v8061 k1_hw575 => k1_hw575.2

def k1_mult576 (v8075 : BitVec 32) : BitVec 32 :=
  let c3_i32_4612 : BitVec 32 := 3#32
  let v8076 : BitVec 32 := Scalar.shrsi v8075 c3_i32_4612
  let c3_i32_4613 : BitVec 32 := 3#32
  let v8077 : BitVec 32 := Scalar.shli v8076 c3_i32_4613
  v8077

def k1_off576 (v8075 : BitVec 32) : Fin 2 → Nat :=
  let c3_i32_4612 : BitVec 32 := 3#32
  let v8076 : BitVec 32 := Scalar.shrsi v8075 c3_i32_4612
  let c3_i32_4613 : BitVec 32 := 3#32
  let v8077 : BitVec 32 := Scalar.shli v8076 c3_i32_4613
  let v8078 : BitVec 32 := v8077
  let v8079 : Index := Scalar.indexCast v8078
  let c0_4614 : Index := 0#32
  ![v8079.toNat, 0]

def k1_chk576 (v8075 : BitVec 32) : Prop :=
  (8 ∣ (k1_mult576 v8075).toNat) ∧
  (∀ a, (k1_off576 v8075) a + S8x128.size a ≤ S12800x128.size a)
theorem k1_mult576_dvd : ∀ (v8075 : BitVec 32) (k1_hw576 : k1_chk576 v8075), 8 ∣ (k1_mult576 v8075).toNat := fun v8075 k1_hw576 => k1_hw576.1
theorem k1_off576_inb : ∀ (v8075 : BitVec 32) (k1_hw576 : k1_chk576 v8075), ∀ a, (k1_off576 v8075) a + S8x128.size a ≤ S12800x128.size a := fun v8075 k1_hw576 => k1_hw576.2

def k1_mult577 (v8089 : BitVec 32) : BitVec 32 :=
  let c3_i32_4620 : BitVec 32 := 3#32
  let v8090 : BitVec 32 := Scalar.shrsi v8089 c3_i32_4620
  let c3_i32_4621 : BitVec 32 := 3#32
  let v8091 : BitVec 32 := Scalar.shli v8090 c3_i32_4621
  v8091

def k1_off577 (v8089 : BitVec 32) : Fin 2 → Nat :=
  let c3_i32_4620 : BitVec 32 := 3#32
  let v8090 : BitVec 32 := Scalar.shrsi v8089 c3_i32_4620
  let c3_i32_4621 : BitVec 32 := 3#32
  let v8091 : BitVec 32 := Scalar.shli v8090 c3_i32_4621
  let v8092 : BitVec 32 := v8091
  let v8093 : Index := Scalar.indexCast v8092
  let c0_4622 : Index := 0#32
  ![v8093.toNat, 0]

def k1_chk577 (v8089 : BitVec 32) : Prop :=
  (8 ∣ (k1_mult577 v8089).toNat) ∧
  (∀ a, (k1_off577 v8089) a + S8x128.size a ≤ S12800x128.size a)
theorem k1_mult577_dvd : ∀ (v8089 : BitVec 32) (k1_hw577 : k1_chk577 v8089), 8 ∣ (k1_mult577 v8089).toNat := fun v8089 k1_hw577 => k1_hw577.1
theorem k1_off577_inb : ∀ (v8089 : BitVec 32) (k1_hw577 : k1_chk577 v8089), ∀ a, (k1_off577 v8089) a + S8x128.size a ≤ S12800x128.size a := fun v8089 k1_hw577 => k1_hw577.2

def k1_mult578 (v8103 : BitVec 32) : BitVec 32 :=
  let c3_i32_4628 : BitVec 32 := 3#32
  let v8104 : BitVec 32 := Scalar.shrsi v8103 c3_i32_4628
  let c3_i32_4629 : BitVec 32 := 3#32
  let v8105 : BitVec 32 := Scalar.shli v8104 c3_i32_4629
  v8105

def k1_off578 (v8103 : BitVec 32) : Fin 2 → Nat :=
  let c3_i32_4628 : BitVec 32 := 3#32
  let v8104 : BitVec 32 := Scalar.shrsi v8103 c3_i32_4628
  let c3_i32_4629 : BitVec 32 := 3#32
  let v8105 : BitVec 32 := Scalar.shli v8104 c3_i32_4629
  let v8106 : BitVec 32 := v8105
  let v8107 : Index := Scalar.indexCast v8106
  let c0_4630 : Index := 0#32
  ![v8107.toNat, 0]

def k1_chk578 (v8103 : BitVec 32) : Prop :=
  (8 ∣ (k1_mult578 v8103).toNat) ∧
  (∀ a, (k1_off578 v8103) a + S8x128.size a ≤ S12800x128.size a)
theorem k1_mult578_dvd : ∀ (v8103 : BitVec 32) (k1_hw578 : k1_chk578 v8103), 8 ∣ (k1_mult578 v8103).toNat := fun v8103 k1_hw578 => k1_hw578.1
theorem k1_off578_inb : ∀ (v8103 : BitVec 32) (k1_hw578 : k1_chk578 v8103), ∀ a, (k1_off578 v8103) a + S8x128.size a ≤ S12800x128.size a := fun v8103 k1_hw578 => k1_hw578.2

def k1_mult579 (v8117 : BitVec 32) : BitVec 32 :=
  let c3_i32_4636 : BitVec 32 := 3#32
  let v8118 : BitVec 32 := Scalar.shrsi v8117 c3_i32_4636
  let c3_i32_4637 : BitVec 32 := 3#32
  let v8119 : BitVec 32 := Scalar.shli v8118 c3_i32_4637
  v8119

def k1_off579 (v8117 : BitVec 32) : Fin 2 → Nat :=
  let c3_i32_4636 : BitVec 32 := 3#32
  let v8118 : BitVec 32 := Scalar.shrsi v8117 c3_i32_4636
  let c3_i32_4637 : BitVec 32 := 3#32
  let v8119 : BitVec 32 := Scalar.shli v8118 c3_i32_4637
  let v8120 : BitVec 32 := v8119
  let v8121 : Index := Scalar.indexCast v8120
  let c0_4638 : Index := 0#32
  ![v8121.toNat, 0]

def k1_chk579 (v8117 : BitVec 32) : Prop :=
  (8 ∣ (k1_mult579 v8117).toNat) ∧
  (∀ a, (k1_off579 v8117) a + S8x128.size a ≤ S12800x128.size a)
theorem k1_mult579_dvd : ∀ (v8117 : BitVec 32) (k1_hw579 : k1_chk579 v8117), 8 ∣ (k1_mult579 v8117).toNat := fun v8117 k1_hw579 => k1_hw579.1
theorem k1_off579_inb : ∀ (v8117 : BitVec 32) (k1_hw579 : k1_chk579 v8117), ∀ a, (k1_off579 v8117) a + S8x128.size a ≤ S12800x128.size a := fun v8117 k1_hw579 => k1_hw579.2

def k1_mult580 (v8131 : BitVec 32) : BitVec 32 :=
  let c3_i32_4644 : BitVec 32 := 3#32
  let v8132 : BitVec 32 := Scalar.shrsi v8131 c3_i32_4644
  let c3_i32_4645 : BitVec 32 := 3#32
  let v8133 : BitVec 32 := Scalar.shli v8132 c3_i32_4645
  v8133

def k1_off580 (v8131 : BitVec 32) : Fin 2 → Nat :=
  let c3_i32_4644 : BitVec 32 := 3#32
  let v8132 : BitVec 32 := Scalar.shrsi v8131 c3_i32_4644
  let c3_i32_4645 : BitVec 32 := 3#32
  let v8133 : BitVec 32 := Scalar.shli v8132 c3_i32_4645
  let v8134 : BitVec 32 := v8133
  let v8135 : Index := Scalar.indexCast v8134
  let c0_4646 : Index := 0#32
  ![v8135.toNat, 0]

def k1_chk580 (v8131 : BitVec 32) : Prop :=
  (8 ∣ (k1_mult580 v8131).toNat) ∧
  (∀ a, (k1_off580 v8131) a + S8x128.size a ≤ S12800x128.size a)
theorem k1_mult580_dvd : ∀ (v8131 : BitVec 32) (k1_hw580 : k1_chk580 v8131), 8 ∣ (k1_mult580 v8131).toNat := fun v8131 k1_hw580 => k1_hw580.1
theorem k1_off580_inb : ∀ (v8131 : BitVec 32) (k1_hw580 : k1_chk580 v8131), ∀ a, (k1_off580 v8131) a + S8x128.size a ≤ S12800x128.size a := fun v8131 k1_hw580 => k1_hw580.2

def k1_mult581 (v8145 : BitVec 32) : BitVec 32 :=
  let c3_i32_4652 : BitVec 32 := 3#32
  let v8146 : BitVec 32 := Scalar.shrsi v8145 c3_i32_4652
  let c3_i32_4653 : BitVec 32 := 3#32
  let v8147 : BitVec 32 := Scalar.shli v8146 c3_i32_4653
  v8147

def k1_off581 (v8145 : BitVec 32) : Fin 2 → Nat :=
  let c3_i32_4652 : BitVec 32 := 3#32
  let v8146 : BitVec 32 := Scalar.shrsi v8145 c3_i32_4652
  let c3_i32_4653 : BitVec 32 := 3#32
  let v8147 : BitVec 32 := Scalar.shli v8146 c3_i32_4653
  let v8148 : BitVec 32 := v8147
  let v8149 : Index := Scalar.indexCast v8148
  let c0_4654 : Index := 0#32
  ![v8149.toNat, 0]

def k1_chk581 (v8145 : BitVec 32) : Prop :=
  (8 ∣ (k1_mult581 v8145).toNat) ∧
  (∀ a, (k1_off581 v8145) a + S8x128.size a ≤ S12800x128.size a)
theorem k1_mult581_dvd : ∀ (v8145 : BitVec 32) (k1_hw581 : k1_chk581 v8145), 8 ∣ (k1_mult581 v8145).toNat := fun v8145 k1_hw581 => k1_hw581.1
theorem k1_off581_inb : ∀ (v8145 : BitVec 32) (k1_hw581 : k1_chk581 v8145), ∀ a, (k1_off581 v8145) a + S8x128.size a ≤ S12800x128.size a := fun v8145 k1_hw581 => k1_hw581.2

def k1_mult582 (v8159 : BitVec 32) : BitVec 32 :=
  let c3_i32_4660 : BitVec 32 := 3#32
  let v8160 : BitVec 32 := Scalar.shrsi v8159 c3_i32_4660
  let c3_i32_4661 : BitVec 32 := 3#32
  let v8161 : BitVec 32 := Scalar.shli v8160 c3_i32_4661
  v8161

def k1_off582 (v8159 : BitVec 32) : Fin 2 → Nat :=
  let c3_i32_4660 : BitVec 32 := 3#32
  let v8160 : BitVec 32 := Scalar.shrsi v8159 c3_i32_4660
  let c3_i32_4661 : BitVec 32 := 3#32
  let v8161 : BitVec 32 := Scalar.shli v8160 c3_i32_4661
  let v8162 : BitVec 32 := v8161
  let v8163 : Index := Scalar.indexCast v8162
  let c0_4662 : Index := 0#32
  ![v8163.toNat, 0]

def k1_chk582 (v8159 : BitVec 32) : Prop :=
  (8 ∣ (k1_mult582 v8159).toNat) ∧
  (∀ a, (k1_off582 v8159) a + S8x128.size a ≤ S12800x128.size a)
theorem k1_mult582_dvd : ∀ (v8159 : BitVec 32) (k1_hw582 : k1_chk582 v8159), 8 ∣ (k1_mult582 v8159).toNat := fun v8159 k1_hw582 => k1_hw582.1
theorem k1_off582_inb : ∀ (v8159 : BitVec 32) (k1_hw582 : k1_chk582 v8159), ∀ a, (k1_off582 v8159) a + S8x128.size a ≤ S12800x128.size a := fun v8159 k1_hw582 => k1_hw582.2

def k1_mult583 (v8173 : BitVec 32) : BitVec 32 :=
  let c3_i32_4668 : BitVec 32 := 3#32
  let v8174 : BitVec 32 := Scalar.shrsi v8173 c3_i32_4668
  let c3_i32_4669 : BitVec 32 := 3#32
  let v8175 : BitVec 32 := Scalar.shli v8174 c3_i32_4669
  v8175

def k1_off583 (v8173 : BitVec 32) : Fin 2 → Nat :=
  let c3_i32_4668 : BitVec 32 := 3#32
  let v8174 : BitVec 32 := Scalar.shrsi v8173 c3_i32_4668
  let c3_i32_4669 : BitVec 32 := 3#32
  let v8175 : BitVec 32 := Scalar.shli v8174 c3_i32_4669
  let v8176 : BitVec 32 := v8175
  let v8177 : Index := Scalar.indexCast v8176
  let c0_4670 : Index := 0#32
  ![v8177.toNat, 0]

def k1_chk583 (v8173 : BitVec 32) : Prop :=
  (8 ∣ (k1_mult583 v8173).toNat) ∧
  (∀ a, (k1_off583 v8173) a + S8x128.size a ≤ S12800x128.size a)
theorem k1_mult583_dvd : ∀ (v8173 : BitVec 32) (k1_hw583 : k1_chk583 v8173), 8 ∣ (k1_mult583 v8173).toNat := fun v8173 k1_hw583 => k1_hw583.1
theorem k1_off583_inb : ∀ (v8173 : BitVec 32) (k1_hw583 : k1_chk583 v8173), ∀ a, (k1_off583 v8173) a + S8x128.size a ≤ S12800x128.size a := fun v8173 k1_hw583 => k1_hw583.2

def k1_mult584 (v8187 : BitVec 32) : BitVec 32 :=
  let c3_i32_4676 : BitVec 32 := 3#32
  let v8188 : BitVec 32 := Scalar.shrsi v8187 c3_i32_4676
  let c3_i32_4677 : BitVec 32 := 3#32
  let v8189 : BitVec 32 := Scalar.shli v8188 c3_i32_4677
  v8189

def k1_off584 (v8187 : BitVec 32) : Fin 2 → Nat :=
  let c3_i32_4676 : BitVec 32 := 3#32
  let v8188 : BitVec 32 := Scalar.shrsi v8187 c3_i32_4676
  let c3_i32_4677 : BitVec 32 := 3#32
  let v8189 : BitVec 32 := Scalar.shli v8188 c3_i32_4677
  let v8190 : BitVec 32 := v8189
  let v8191 : Index := Scalar.indexCast v8190
  let c0_4678 : Index := 0#32
  ![v8191.toNat, 0]

def k1_chk584 (v8187 : BitVec 32) : Prop :=
  (8 ∣ (k1_mult584 v8187).toNat) ∧
  (∀ a, (k1_off584 v8187) a + S8x128.size a ≤ S12800x128.size a)
theorem k1_mult584_dvd : ∀ (v8187 : BitVec 32) (k1_hw584 : k1_chk584 v8187), 8 ∣ (k1_mult584 v8187).toNat := fun v8187 k1_hw584 => k1_hw584.1
theorem k1_off584_inb : ∀ (v8187 : BitVec 32) (k1_hw584 : k1_chk584 v8187), ∀ a, (k1_off584 v8187) a + S8x128.size a ≤ S12800x128.size a := fun v8187 k1_hw584 => k1_hw584.2

def k1_mult585 (v8201 : BitVec 32) : BitVec 32 :=
  let c3_i32_4684 : BitVec 32 := 3#32
  let v8202 : BitVec 32 := Scalar.shrsi v8201 c3_i32_4684
  let c3_i32_4685 : BitVec 32 := 3#32
  let v8203 : BitVec 32 := Scalar.shli v8202 c3_i32_4685
  v8203

def k1_off585 (v8201 : BitVec 32) : Fin 2 → Nat :=
  let c3_i32_4684 : BitVec 32 := 3#32
  let v8202 : BitVec 32 := Scalar.shrsi v8201 c3_i32_4684
  let c3_i32_4685 : BitVec 32 := 3#32
  let v8203 : BitVec 32 := Scalar.shli v8202 c3_i32_4685
  let v8204 : BitVec 32 := v8203
  let v8205 : Index := Scalar.indexCast v8204
  let c0_4686 : Index := 0#32
  ![v8205.toNat, 0]

def k1_chk585 (v8201 : BitVec 32) : Prop :=
  (8 ∣ (k1_mult585 v8201).toNat) ∧
  (∀ a, (k1_off585 v8201) a + S8x128.size a ≤ S12800x128.size a)
theorem k1_mult585_dvd : ∀ (v8201 : BitVec 32) (k1_hw585 : k1_chk585 v8201), 8 ∣ (k1_mult585 v8201).toNat := fun v8201 k1_hw585 => k1_hw585.1
theorem k1_off585_inb : ∀ (v8201 : BitVec 32) (k1_hw585 : k1_chk585 v8201), ∀ a, (k1_off585 v8201) a + S8x128.size a ≤ S12800x128.size a := fun v8201 k1_hw585 => k1_hw585.2

def k1_mult586 (v8215 : BitVec 32) : BitVec 32 :=
  let c3_i32_4692 : BitVec 32 := 3#32
  let v8216 : BitVec 32 := Scalar.shrsi v8215 c3_i32_4692
  let c3_i32_4693 : BitVec 32 := 3#32
  let v8217 : BitVec 32 := Scalar.shli v8216 c3_i32_4693
  v8217

def k1_off586 (v8215 : BitVec 32) : Fin 2 → Nat :=
  let c3_i32_4692 : BitVec 32 := 3#32
  let v8216 : BitVec 32 := Scalar.shrsi v8215 c3_i32_4692
  let c3_i32_4693 : BitVec 32 := 3#32
  let v8217 : BitVec 32 := Scalar.shli v8216 c3_i32_4693
  let v8218 : BitVec 32 := v8217
  let v8219 : Index := Scalar.indexCast v8218
  let c0_4694 : Index := 0#32
  ![v8219.toNat, 0]

def k1_chk586 (v8215 : BitVec 32) : Prop :=
  (8 ∣ (k1_mult586 v8215).toNat) ∧
  (∀ a, (k1_off586 v8215) a + S8x128.size a ≤ S12800x128.size a)
theorem k1_mult586_dvd : ∀ (v8215 : BitVec 32) (k1_hw586 : k1_chk586 v8215), 8 ∣ (k1_mult586 v8215).toNat := fun v8215 k1_hw586 => k1_hw586.1
theorem k1_off586_inb : ∀ (v8215 : BitVec 32) (k1_hw586 : k1_chk586 v8215), ∀ a, (k1_off586 v8215) a + S8x128.size a ≤ S12800x128.size a := fun v8215 k1_hw586 => k1_hw586.2

def k1_mult587 (v8229 : BitVec 32) : BitVec 32 :=
  let c3_i32_4700 : BitVec 32 := 3#32
  let v8230 : BitVec 32 := Scalar.shrsi v8229 c3_i32_4700
  let c3_i32_4701 : BitVec 32 := 3#32
  let v8231 : BitVec 32 := Scalar.shli v8230 c3_i32_4701
  v8231

def k1_off587 (v8229 : BitVec 32) : Fin 2 → Nat :=
  let c3_i32_4700 : BitVec 32 := 3#32
  let v8230 : BitVec 32 := Scalar.shrsi v8229 c3_i32_4700
  let c3_i32_4701 : BitVec 32 := 3#32
  let v8231 : BitVec 32 := Scalar.shli v8230 c3_i32_4701
  let v8232 : BitVec 32 := v8231
  let v8233 : Index := Scalar.indexCast v8232
  let c0_4702 : Index := 0#32
  ![v8233.toNat, 0]

def k1_chk587 (v8229 : BitVec 32) : Prop :=
  (8 ∣ (k1_mult587 v8229).toNat) ∧
  (∀ a, (k1_off587 v8229) a + S8x128.size a ≤ S12800x128.size a)
theorem k1_mult587_dvd : ∀ (v8229 : BitVec 32) (k1_hw587 : k1_chk587 v8229), 8 ∣ (k1_mult587 v8229).toNat := fun v8229 k1_hw587 => k1_hw587.1
theorem k1_off587_inb : ∀ (v8229 : BitVec 32) (k1_hw587 : k1_chk587 v8229), ∀ a, (k1_off587 v8229) a + S8x128.size a ≤ S12800x128.size a := fun v8229 k1_hw587 => k1_hw587.2

def k1_mult588 (v8243 : BitVec 32) : BitVec 32 :=
  let c3_i32_4708 : BitVec 32 := 3#32
  let v8244 : BitVec 32 := Scalar.shrsi v8243 c3_i32_4708
  let c3_i32_4709 : BitVec 32 := 3#32
  let v8245 : BitVec 32 := Scalar.shli v8244 c3_i32_4709
  v8245

def k1_off588 (v8243 : BitVec 32) : Fin 2 → Nat :=
  let c3_i32_4708 : BitVec 32 := 3#32
  let v8244 : BitVec 32 := Scalar.shrsi v8243 c3_i32_4708
  let c3_i32_4709 : BitVec 32 := 3#32
  let v8245 : BitVec 32 := Scalar.shli v8244 c3_i32_4709
  let v8246 : BitVec 32 := v8245
  let v8247 : Index := Scalar.indexCast v8246
  let c0_4710 : Index := 0#32
  ![v8247.toNat, 0]

def k1_chk588 (v8243 : BitVec 32) : Prop :=
  (8 ∣ (k1_mult588 v8243).toNat) ∧
  (∀ a, (k1_off588 v8243) a + S8x128.size a ≤ S12800x128.size a)
theorem k1_mult588_dvd : ∀ (v8243 : BitVec 32) (k1_hw588 : k1_chk588 v8243), 8 ∣ (k1_mult588 v8243).toNat := fun v8243 k1_hw588 => k1_hw588.1
theorem k1_off588_inb : ∀ (v8243 : BitVec 32) (k1_hw588 : k1_chk588 v8243), ∀ a, (k1_off588 v8243) a + S8x128.size a ≤ S12800x128.size a := fun v8243 k1_hw588 => k1_hw588.2

def k1_mult589 (v8257 : BitVec 32) : BitVec 32 :=
  let c3_i32_4716 : BitVec 32 := 3#32
  let v8258 : BitVec 32 := Scalar.shrsi v8257 c3_i32_4716
  let c3_i32_4717 : BitVec 32 := 3#32
  let v8259 : BitVec 32 := Scalar.shli v8258 c3_i32_4717
  v8259

def k1_off589 (v8257 : BitVec 32) : Fin 2 → Nat :=
  let c3_i32_4716 : BitVec 32 := 3#32
  let v8258 : BitVec 32 := Scalar.shrsi v8257 c3_i32_4716
  let c3_i32_4717 : BitVec 32 := 3#32
  let v8259 : BitVec 32 := Scalar.shli v8258 c3_i32_4717
  let v8260 : BitVec 32 := v8259
  let v8261 : Index := Scalar.indexCast v8260
  let c0_4718 : Index := 0#32
  ![v8261.toNat, 0]

def k1_chk589 (v8257 : BitVec 32) : Prop :=
  (8 ∣ (k1_mult589 v8257).toNat) ∧
  (∀ a, (k1_off589 v8257) a + S8x128.size a ≤ S12800x128.size a)
theorem k1_mult589_dvd : ∀ (v8257 : BitVec 32) (k1_hw589 : k1_chk589 v8257), 8 ∣ (k1_mult589 v8257).toNat := fun v8257 k1_hw589 => k1_hw589.1
theorem k1_off589_inb : ∀ (v8257 : BitVec 32) (k1_hw589 : k1_chk589 v8257), ∀ a, (k1_off589 v8257) a + S8x128.size a ≤ S12800x128.size a := fun v8257 k1_hw589 => k1_hw589.2

def k1_mult590 (v8271 : BitVec 32) : BitVec 32 :=
  let c3_i32_4724 : BitVec 32 := 3#32
  let v8272 : BitVec 32 := Scalar.shrsi v8271 c3_i32_4724
  let c3_i32_4725 : BitVec 32 := 3#32
  let v8273 : BitVec 32 := Scalar.shli v8272 c3_i32_4725
  v8273

def k1_off590 (v8271 : BitVec 32) : Fin 2 → Nat :=
  let c3_i32_4724 : BitVec 32 := 3#32
  let v8272 : BitVec 32 := Scalar.shrsi v8271 c3_i32_4724
  let c3_i32_4725 : BitVec 32 := 3#32
  let v8273 : BitVec 32 := Scalar.shli v8272 c3_i32_4725
  let v8274 : BitVec 32 := v8273
  let v8275 : Index := Scalar.indexCast v8274
  let c0_4726 : Index := 0#32
  ![v8275.toNat, 0]

def k1_chk590 (v8271 : BitVec 32) : Prop :=
  (8 ∣ (k1_mult590 v8271).toNat) ∧
  (∀ a, (k1_off590 v8271) a + S8x128.size a ≤ S12800x128.size a)
theorem k1_mult590_dvd : ∀ (v8271 : BitVec 32) (k1_hw590 : k1_chk590 v8271), 8 ∣ (k1_mult590 v8271).toNat := fun v8271 k1_hw590 => k1_hw590.1
theorem k1_off590_inb : ∀ (v8271 : BitVec 32) (k1_hw590 : k1_chk590 v8271), ∀ a, (k1_off590 v8271) a + S8x128.size a ≤ S12800x128.size a := fun v8271 k1_hw590 => k1_hw590.2

def k1_mult591 (v8285 : BitVec 32) : BitVec 32 :=
  let c3_i32_4732 : BitVec 32 := 3#32
  let v8286 : BitVec 32 := Scalar.shrsi v8285 c3_i32_4732
  let c3_i32_4733 : BitVec 32 := 3#32
  let v8287 : BitVec 32 := Scalar.shli v8286 c3_i32_4733
  v8287

def k1_off591 (v8285 : BitVec 32) : Fin 2 → Nat :=
  let c3_i32_4732 : BitVec 32 := 3#32
  let v8286 : BitVec 32 := Scalar.shrsi v8285 c3_i32_4732
  let c3_i32_4733 : BitVec 32 := 3#32
  let v8287 : BitVec 32 := Scalar.shli v8286 c3_i32_4733
  let v8288 : BitVec 32 := v8287
  let v8289 : Index := Scalar.indexCast v8288
  let c0_4734 : Index := 0#32
  ![v8289.toNat, 0]

def k1_chk591 (v8285 : BitVec 32) : Prop :=
  (8 ∣ (k1_mult591 v8285).toNat) ∧
  (∀ a, (k1_off591 v8285) a + S8x128.size a ≤ S12800x128.size a)
theorem k1_mult591_dvd : ∀ (v8285 : BitVec 32) (k1_hw591 : k1_chk591 v8285), 8 ∣ (k1_mult591 v8285).toNat := fun v8285 k1_hw591 => k1_hw591.1
theorem k1_off591_inb : ∀ (v8285 : BitVec 32) (k1_hw591 : k1_chk591 v8285), ∀ a, (k1_off591 v8285) a + S8x128.size a ≤ S12800x128.size a := fun v8285 k1_hw591 => k1_hw591.2

def k1_mult592 (v8299 : BitVec 32) : BitVec 32 :=
  let c3_i32_4740 : BitVec 32 := 3#32
  let v8300 : BitVec 32 := Scalar.shrsi v8299 c3_i32_4740
  let c3_i32_4741 : BitVec 32 := 3#32
  let v8301 : BitVec 32 := Scalar.shli v8300 c3_i32_4741
  v8301

def k1_off592 (v8299 : BitVec 32) : Fin 2 → Nat :=
  let c3_i32_4740 : BitVec 32 := 3#32
  let v8300 : BitVec 32 := Scalar.shrsi v8299 c3_i32_4740
  let c3_i32_4741 : BitVec 32 := 3#32
  let v8301 : BitVec 32 := Scalar.shli v8300 c3_i32_4741
  let v8302 : BitVec 32 := v8301
  let v8303 : Index := Scalar.indexCast v8302
  let c0_4742 : Index := 0#32
  ![v8303.toNat, 0]

def k1_chk592 (v8299 : BitVec 32) : Prop :=
  (8 ∣ (k1_mult592 v8299).toNat) ∧
  (∀ a, (k1_off592 v8299) a + S8x128.size a ≤ S12800x128.size a)
theorem k1_mult592_dvd : ∀ (v8299 : BitVec 32) (k1_hw592 : k1_chk592 v8299), 8 ∣ (k1_mult592 v8299).toNat := fun v8299 k1_hw592 => k1_hw592.1
theorem k1_off592_inb : ∀ (v8299 : BitVec 32) (k1_hw592 : k1_chk592 v8299), ∀ a, (k1_off592 v8299) a + S8x128.size a ≤ S12800x128.size a := fun v8299 k1_hw592 => k1_hw592.2

def k1_mult593 (v8313 : BitVec 32) : BitVec 32 :=
  let c3_i32_4748 : BitVec 32 := 3#32
  let v8314 : BitVec 32 := Scalar.shrsi v8313 c3_i32_4748
  let c3_i32_4749 : BitVec 32 := 3#32
  let v8315 : BitVec 32 := Scalar.shli v8314 c3_i32_4749
  v8315

def k1_off593 (v8313 : BitVec 32) : Fin 2 → Nat :=
  let c3_i32_4748 : BitVec 32 := 3#32
  let v8314 : BitVec 32 := Scalar.shrsi v8313 c3_i32_4748
  let c3_i32_4749 : BitVec 32 := 3#32
  let v8315 : BitVec 32 := Scalar.shli v8314 c3_i32_4749
  let v8316 : BitVec 32 := v8315
  let v8317 : Index := Scalar.indexCast v8316
  let c0_4750 : Index := 0#32
  ![v8317.toNat, 0]

def k1_chk593 (v8313 : BitVec 32) : Prop :=
  (8 ∣ (k1_mult593 v8313).toNat) ∧
  (∀ a, (k1_off593 v8313) a + S8x128.size a ≤ S12800x128.size a)
theorem k1_mult593_dvd : ∀ (v8313 : BitVec 32) (k1_hw593 : k1_chk593 v8313), 8 ∣ (k1_mult593 v8313).toNat := fun v8313 k1_hw593 => k1_hw593.1
theorem k1_off593_inb : ∀ (v8313 : BitVec 32) (k1_hw593 : k1_chk593 v8313), ∀ a, (k1_off593 v8313) a + S8x128.size a ≤ S12800x128.size a := fun v8313 k1_hw593 => k1_hw593.2

def k1_mult594 (v8327 : BitVec 32) : BitVec 32 :=
  let c3_i32_4756 : BitVec 32 := 3#32
  let v8328 : BitVec 32 := Scalar.shrsi v8327 c3_i32_4756
  let c3_i32_4757 : BitVec 32 := 3#32
  let v8329 : BitVec 32 := Scalar.shli v8328 c3_i32_4757
  v8329

def k1_off594 (v8327 : BitVec 32) : Fin 2 → Nat :=
  let c3_i32_4756 : BitVec 32 := 3#32
  let v8328 : BitVec 32 := Scalar.shrsi v8327 c3_i32_4756
  let c3_i32_4757 : BitVec 32 := 3#32
  let v8329 : BitVec 32 := Scalar.shli v8328 c3_i32_4757
  let v8330 : BitVec 32 := v8329
  let v8331 : Index := Scalar.indexCast v8330
  let c0_4758 : Index := 0#32
  ![v8331.toNat, 0]

def k1_chk594 (v8327 : BitVec 32) : Prop :=
  (8 ∣ (k1_mult594 v8327).toNat) ∧
  (∀ a, (k1_off594 v8327) a + S8x128.size a ≤ S12800x128.size a)
theorem k1_mult594_dvd : ∀ (v8327 : BitVec 32) (k1_hw594 : k1_chk594 v8327), 8 ∣ (k1_mult594 v8327).toNat := fun v8327 k1_hw594 => k1_hw594.1
theorem k1_off594_inb : ∀ (v8327 : BitVec 32) (k1_hw594 : k1_chk594 v8327), ∀ a, (k1_off594 v8327) a + S8x128.size a ≤ S12800x128.size a := fun v8327 k1_hw594 => k1_hw594.2

def k1_mult595 (v8341 : BitVec 32) : BitVec 32 :=
  let c3_i32_4764 : BitVec 32 := 3#32
  let v8342 : BitVec 32 := Scalar.shrsi v8341 c3_i32_4764
  let c3_i32_4765 : BitVec 32 := 3#32
  let v8343 : BitVec 32 := Scalar.shli v8342 c3_i32_4765
  v8343

def k1_off595 (v8341 : BitVec 32) : Fin 2 → Nat :=
  let c3_i32_4764 : BitVec 32 := 3#32
  let v8342 : BitVec 32 := Scalar.shrsi v8341 c3_i32_4764
  let c3_i32_4765 : BitVec 32 := 3#32
  let v8343 : BitVec 32 := Scalar.shli v8342 c3_i32_4765
  let v8344 : BitVec 32 := v8343
  let v8345 : Index := Scalar.indexCast v8344
  let c0_4766 : Index := 0#32
  ![v8345.toNat, 0]

def k1_chk595 (v8341 : BitVec 32) : Prop :=
  (8 ∣ (k1_mult595 v8341).toNat) ∧
  (∀ a, (k1_off595 v8341) a + S8x128.size a ≤ S12800x128.size a)
theorem k1_mult595_dvd : ∀ (v8341 : BitVec 32) (k1_hw595 : k1_chk595 v8341), 8 ∣ (k1_mult595 v8341).toNat := fun v8341 k1_hw595 => k1_hw595.1
theorem k1_off595_inb : ∀ (v8341 : BitVec 32) (k1_hw595 : k1_chk595 v8341), ∀ a, (k1_off595 v8341) a + S8x128.size a ≤ S12800x128.size a := fun v8341 k1_hw595 => k1_hw595.2

def k1_mult596 (v8355 : BitVec 32) : BitVec 32 :=
  let c3_i32_4772 : BitVec 32 := 3#32
  let v8356 : BitVec 32 := Scalar.shrsi v8355 c3_i32_4772
  let c3_i32_4773 : BitVec 32 := 3#32
  let v8357 : BitVec 32 := Scalar.shli v8356 c3_i32_4773
  v8357

def k1_off596 (v8355 : BitVec 32) : Fin 2 → Nat :=
  let c3_i32_4772 : BitVec 32 := 3#32
  let v8356 : BitVec 32 := Scalar.shrsi v8355 c3_i32_4772
  let c3_i32_4773 : BitVec 32 := 3#32
  let v8357 : BitVec 32 := Scalar.shli v8356 c3_i32_4773
  let v8358 : BitVec 32 := v8357
  let v8359 : Index := Scalar.indexCast v8358
  let c0_4774 : Index := 0#32
  ![v8359.toNat, 0]

def k1_chk596 (v8355 : BitVec 32) : Prop :=
  (8 ∣ (k1_mult596 v8355).toNat) ∧
  (∀ a, (k1_off596 v8355) a + S8x128.size a ≤ S12800x128.size a)
theorem k1_mult596_dvd : ∀ (v8355 : BitVec 32) (k1_hw596 : k1_chk596 v8355), 8 ∣ (k1_mult596 v8355).toNat := fun v8355 k1_hw596 => k1_hw596.1
theorem k1_off596_inb : ∀ (v8355 : BitVec 32) (k1_hw596 : k1_chk596 v8355), ∀ a, (k1_off596 v8355) a + S8x128.size a ≤ S12800x128.size a := fun v8355 k1_hw596 => k1_hw596.2

def k1_mult597 (v8369 : BitVec 32) : BitVec 32 :=
  let c3_i32_4780 : BitVec 32 := 3#32
  let v8370 : BitVec 32 := Scalar.shrsi v8369 c3_i32_4780
  let c3_i32_4781 : BitVec 32 := 3#32
  let v8371 : BitVec 32 := Scalar.shli v8370 c3_i32_4781
  v8371

def k1_off597 (v8369 : BitVec 32) : Fin 2 → Nat :=
  let c3_i32_4780 : BitVec 32 := 3#32
  let v8370 : BitVec 32 := Scalar.shrsi v8369 c3_i32_4780
  let c3_i32_4781 : BitVec 32 := 3#32
  let v8371 : BitVec 32 := Scalar.shli v8370 c3_i32_4781
  let v8372 : BitVec 32 := v8371
  let v8373 : Index := Scalar.indexCast v8372
  let c0_4782 : Index := 0#32
  ![v8373.toNat, 0]

def k1_chk597 (v8369 : BitVec 32) : Prop :=
  (8 ∣ (k1_mult597 v8369).toNat) ∧
  (∀ a, (k1_off597 v8369) a + S8x128.size a ≤ S12800x128.size a)
theorem k1_mult597_dvd : ∀ (v8369 : BitVec 32) (k1_hw597 : k1_chk597 v8369), 8 ∣ (k1_mult597 v8369).toNat := fun v8369 k1_hw597 => k1_hw597.1
theorem k1_off597_inb : ∀ (v8369 : BitVec 32) (k1_hw597 : k1_chk597 v8369), ∀ a, (k1_off597 v8369) a + S8x128.size a ≤ S12800x128.size a := fun v8369 k1_hw597 => k1_hw597.2

def k1_mult598 (v8383 : BitVec 32) : BitVec 32 :=
  let c3_i32_4788 : BitVec 32 := 3#32
  let v8384 : BitVec 32 := Scalar.shrsi v8383 c3_i32_4788
  let c3_i32_4789 : BitVec 32 := 3#32
  let v8385 : BitVec 32 := Scalar.shli v8384 c3_i32_4789
  v8385

def k1_off598 (v8383 : BitVec 32) : Fin 2 → Nat :=
  let c3_i32_4788 : BitVec 32 := 3#32
  let v8384 : BitVec 32 := Scalar.shrsi v8383 c3_i32_4788
  let c3_i32_4789 : BitVec 32 := 3#32
  let v8385 : BitVec 32 := Scalar.shli v8384 c3_i32_4789
  let v8386 : BitVec 32 := v8385
  let v8387 : Index := Scalar.indexCast v8386
  let c0_4790 : Index := 0#32
  ![v8387.toNat, 0]

def k1_chk598 (v8383 : BitVec 32) : Prop :=
  (8 ∣ (k1_mult598 v8383).toNat) ∧
  (∀ a, (k1_off598 v8383) a + S8x128.size a ≤ S12800x128.size a)
theorem k1_mult598_dvd : ∀ (v8383 : BitVec 32) (k1_hw598 : k1_chk598 v8383), 8 ∣ (k1_mult598 v8383).toNat := fun v8383 k1_hw598 => k1_hw598.1
theorem k1_off598_inb : ∀ (v8383 : BitVec 32) (k1_hw598 : k1_chk598 v8383), ∀ a, (k1_off598 v8383) a + S8x128.size a ≤ S12800x128.size a := fun v8383 k1_hw598 => k1_hw598.2

def k1_mult599 (v8397 : BitVec 32) : BitVec 32 :=
  let c3_i32_4796 : BitVec 32 := 3#32
  let v8398 : BitVec 32 := Scalar.shrsi v8397 c3_i32_4796
  let c3_i32_4797 : BitVec 32 := 3#32
  let v8399 : BitVec 32 := Scalar.shli v8398 c3_i32_4797
  v8399

def k1_off599 (v8397 : BitVec 32) : Fin 2 → Nat :=
  let c3_i32_4796 : BitVec 32 := 3#32
  let v8398 : BitVec 32 := Scalar.shrsi v8397 c3_i32_4796
  let c3_i32_4797 : BitVec 32 := 3#32
  let v8399 : BitVec 32 := Scalar.shli v8398 c3_i32_4797
  let v8400 : BitVec 32 := v8399
  let v8401 : Index := Scalar.indexCast v8400
  let c0_4798 : Index := 0#32
  ![v8401.toNat, 0]

def k1_chk599 (v8397 : BitVec 32) : Prop :=
  (8 ∣ (k1_mult599 v8397).toNat) ∧
  (∀ a, (k1_off599 v8397) a + S8x128.size a ≤ S12800x128.size a)
theorem k1_mult599_dvd : ∀ (v8397 : BitVec 32) (k1_hw599 : k1_chk599 v8397), 8 ∣ (k1_mult599 v8397).toNat := fun v8397 k1_hw599 => k1_hw599.1
theorem k1_off599_inb : ∀ (v8397 : BitVec 32) (k1_hw599 : k1_chk599 v8397), ∀ a, (k1_off599 v8397) a + S8x128.size a ≤ S12800x128.size a := fun v8397 k1_hw599 => k1_hw599.2

def k1_mult600 (v8411 : BitVec 32) : BitVec 32 :=
  let c3_i32_4804 : BitVec 32 := 3#32
  let v8412 : BitVec 32 := Scalar.shrsi v8411 c3_i32_4804
  let c3_i32_4805 : BitVec 32 := 3#32
  let v8413 : BitVec 32 := Scalar.shli v8412 c3_i32_4805
  v8413

def k1_off600 (v8411 : BitVec 32) : Fin 2 → Nat :=
  let c3_i32_4804 : BitVec 32 := 3#32
  let v8412 : BitVec 32 := Scalar.shrsi v8411 c3_i32_4804
  let c3_i32_4805 : BitVec 32 := 3#32
  let v8413 : BitVec 32 := Scalar.shli v8412 c3_i32_4805
  let v8414 : BitVec 32 := v8413
  let v8415 : Index := Scalar.indexCast v8414
  let c0_4806 : Index := 0#32
  ![v8415.toNat, 0]

def k1_chk600 (v8411 : BitVec 32) : Prop :=
  (8 ∣ (k1_mult600 v8411).toNat) ∧
  (∀ a, (k1_off600 v8411) a + S8x128.size a ≤ S12800x128.size a)
theorem k1_mult600_dvd : ∀ (v8411 : BitVec 32) (k1_hw600 : k1_chk600 v8411), 8 ∣ (k1_mult600 v8411).toNat := fun v8411 k1_hw600 => k1_hw600.1
theorem k1_off600_inb : ∀ (v8411 : BitVec 32) (k1_hw600 : k1_chk600 v8411), ∀ a, (k1_off600 v8411) a + S8x128.size a ≤ S12800x128.size a := fun v8411 k1_hw600 => k1_hw600.2

def k1_mult601 (v8425 : BitVec 32) : BitVec 32 :=
  let c3_i32_4812 : BitVec 32 := 3#32
  let v8426 : BitVec 32 := Scalar.shrsi v8425 c3_i32_4812
  let c3_i32_4813 : BitVec 32 := 3#32
  let v8427 : BitVec 32 := Scalar.shli v8426 c3_i32_4813
  v8427

def k1_off601 (v8425 : BitVec 32) : Fin 2 → Nat :=
  let c3_i32_4812 : BitVec 32 := 3#32
  let v8426 : BitVec 32 := Scalar.shrsi v8425 c3_i32_4812
  let c3_i32_4813 : BitVec 32 := 3#32
  let v8427 : BitVec 32 := Scalar.shli v8426 c3_i32_4813
  let v8428 : BitVec 32 := v8427
  let v8429 : Index := Scalar.indexCast v8428
  let c0_4814 : Index := 0#32
  ![v8429.toNat, 0]

def k1_chk601 (v8425 : BitVec 32) : Prop :=
  (8 ∣ (k1_mult601 v8425).toNat) ∧
  (∀ a, (k1_off601 v8425) a + S8x128.size a ≤ S12800x128.size a)
theorem k1_mult601_dvd : ∀ (v8425 : BitVec 32) (k1_hw601 : k1_chk601 v8425), 8 ∣ (k1_mult601 v8425).toNat := fun v8425 k1_hw601 => k1_hw601.1
theorem k1_off601_inb : ∀ (v8425 : BitVec 32) (k1_hw601 : k1_chk601 v8425), ∀ a, (k1_off601 v8425) a + S8x128.size a ≤ S12800x128.size a := fun v8425 k1_hw601 => k1_hw601.2

def k1_mult602 (v8439 : BitVec 32) : BitVec 32 :=
  let c3_i32_4820 : BitVec 32 := 3#32
  let v8440 : BitVec 32 := Scalar.shrsi v8439 c3_i32_4820
  let c3_i32_4821 : BitVec 32 := 3#32
  let v8441 : BitVec 32 := Scalar.shli v8440 c3_i32_4821
  v8441

def k1_off602 (v8439 : BitVec 32) : Fin 2 → Nat :=
  let c3_i32_4820 : BitVec 32 := 3#32
  let v8440 : BitVec 32 := Scalar.shrsi v8439 c3_i32_4820
  let c3_i32_4821 : BitVec 32 := 3#32
  let v8441 : BitVec 32 := Scalar.shli v8440 c3_i32_4821
  let v8442 : BitVec 32 := v8441
  let v8443 : Index := Scalar.indexCast v8442
  let c0_4822 : Index := 0#32
  ![v8443.toNat, 0]

def k1_chk602 (v8439 : BitVec 32) : Prop :=
  (8 ∣ (k1_mult602 v8439).toNat) ∧
  (∀ a, (k1_off602 v8439) a + S8x128.size a ≤ S12800x128.size a)
theorem k1_mult602_dvd : ∀ (v8439 : BitVec 32) (k1_hw602 : k1_chk602 v8439), 8 ∣ (k1_mult602 v8439).toNat := fun v8439 k1_hw602 => k1_hw602.1
theorem k1_off602_inb : ∀ (v8439 : BitVec 32) (k1_hw602 : k1_chk602 v8439), ∀ a, (k1_off602 v8439) a + S8x128.size a ≤ S12800x128.size a := fun v8439 k1_hw602 => k1_hw602.2

def k1_mult603 (v8453 : BitVec 32) : BitVec 32 :=
  let c3_i32_4828 : BitVec 32 := 3#32
  let v8454 : BitVec 32 := Scalar.shrsi v8453 c3_i32_4828
  let c3_i32_4829 : BitVec 32 := 3#32
  let v8455 : BitVec 32 := Scalar.shli v8454 c3_i32_4829
  v8455

def k1_off603 (v8453 : BitVec 32) : Fin 2 → Nat :=
  let c3_i32_4828 : BitVec 32 := 3#32
  let v8454 : BitVec 32 := Scalar.shrsi v8453 c3_i32_4828
  let c3_i32_4829 : BitVec 32 := 3#32
  let v8455 : BitVec 32 := Scalar.shli v8454 c3_i32_4829
  let v8456 : BitVec 32 := v8455
  let v8457 : Index := Scalar.indexCast v8456
  let c0_4830 : Index := 0#32
  ![v8457.toNat, 0]

def k1_chk603 (v8453 : BitVec 32) : Prop :=
  (8 ∣ (k1_mult603 v8453).toNat) ∧
  (∀ a, (k1_off603 v8453) a + S8x128.size a ≤ S12800x128.size a)
theorem k1_mult603_dvd : ∀ (v8453 : BitVec 32) (k1_hw603 : k1_chk603 v8453), 8 ∣ (k1_mult603 v8453).toNat := fun v8453 k1_hw603 => k1_hw603.1
theorem k1_off603_inb : ∀ (v8453 : BitVec 32) (k1_hw603 : k1_chk603 v8453), ∀ a, (k1_off603 v8453) a + S8x128.size a ≤ S12800x128.size a := fun v8453 k1_hw603 => k1_hw603.2

def k1_mult604 (v8467 : BitVec 32) : BitVec 32 :=
  let c3_i32_4836 : BitVec 32 := 3#32
  let v8468 : BitVec 32 := Scalar.shrsi v8467 c3_i32_4836
  let c3_i32_4837 : BitVec 32 := 3#32
  let v8469 : BitVec 32 := Scalar.shli v8468 c3_i32_4837
  v8469

def k1_off604 (v8467 : BitVec 32) : Fin 2 → Nat :=
  let c3_i32_4836 : BitVec 32 := 3#32
  let v8468 : BitVec 32 := Scalar.shrsi v8467 c3_i32_4836
  let c3_i32_4837 : BitVec 32 := 3#32
  let v8469 : BitVec 32 := Scalar.shli v8468 c3_i32_4837
  let v8470 : BitVec 32 := v8469
  let v8471 : Index := Scalar.indexCast v8470
  let c0_4838 : Index := 0#32
  ![v8471.toNat, 0]

def k1_chk604 (v8467 : BitVec 32) : Prop :=
  (8 ∣ (k1_mult604 v8467).toNat) ∧
  (∀ a, (k1_off604 v8467) a + S8x128.size a ≤ S12800x128.size a)
theorem k1_mult604_dvd : ∀ (v8467 : BitVec 32) (k1_hw604 : k1_chk604 v8467), 8 ∣ (k1_mult604 v8467).toNat := fun v8467 k1_hw604 => k1_hw604.1
theorem k1_off604_inb : ∀ (v8467 : BitVec 32) (k1_hw604 : k1_chk604 v8467), ∀ a, (k1_off604 v8467) a + S8x128.size a ≤ S12800x128.size a := fun v8467 k1_hw604 => k1_hw604.2

def k1_mult605 (v8481 : BitVec 32) : BitVec 32 :=
  let c3_i32_4844 : BitVec 32 := 3#32
  let v8482 : BitVec 32 := Scalar.shrsi v8481 c3_i32_4844
  let c3_i32_4845 : BitVec 32 := 3#32
  let v8483 : BitVec 32 := Scalar.shli v8482 c3_i32_4845
  v8483

def k1_off605 (v8481 : BitVec 32) : Fin 2 → Nat :=
  let c3_i32_4844 : BitVec 32 := 3#32
  let v8482 : BitVec 32 := Scalar.shrsi v8481 c3_i32_4844
  let c3_i32_4845 : BitVec 32 := 3#32
  let v8483 : BitVec 32 := Scalar.shli v8482 c3_i32_4845
  let v8484 : BitVec 32 := v8483
  let v8485 : Index := Scalar.indexCast v8484
  let c0_4846 : Index := 0#32
  ![v8485.toNat, 0]

def k1_chk605 (v8481 : BitVec 32) : Prop :=
  (8 ∣ (k1_mult605 v8481).toNat) ∧
  (∀ a, (k1_off605 v8481) a + S8x128.size a ≤ S12800x128.size a)
theorem k1_mult605_dvd : ∀ (v8481 : BitVec 32) (k1_hw605 : k1_chk605 v8481), 8 ∣ (k1_mult605 v8481).toNat := fun v8481 k1_hw605 => k1_hw605.1
theorem k1_off605_inb : ∀ (v8481 : BitVec 32) (k1_hw605 : k1_chk605 v8481), ∀ a, (k1_off605 v8481) a + S8x128.size a ≤ S12800x128.size a := fun v8481 k1_hw605 => k1_hw605.2

def k1_mult606 (v8495 : BitVec 32) : BitVec 32 :=
  let c3_i32_4852 : BitVec 32 := 3#32
  let v8496 : BitVec 32 := Scalar.shrsi v8495 c3_i32_4852
  let c3_i32_4853 : BitVec 32 := 3#32
  let v8497 : BitVec 32 := Scalar.shli v8496 c3_i32_4853
  v8497

def k1_off606 (v8495 : BitVec 32) : Fin 2 → Nat :=
  let c3_i32_4852 : BitVec 32 := 3#32
  let v8496 : BitVec 32 := Scalar.shrsi v8495 c3_i32_4852
  let c3_i32_4853 : BitVec 32 := 3#32
  let v8497 : BitVec 32 := Scalar.shli v8496 c3_i32_4853
  let v8498 : BitVec 32 := v8497
  let v8499 : Index := Scalar.indexCast v8498
  let c0_4854 : Index := 0#32
  ![v8499.toNat, 0]

def k1_chk606 (v8495 : BitVec 32) : Prop :=
  (8 ∣ (k1_mult606 v8495).toNat) ∧
  (∀ a, (k1_off606 v8495) a + S8x128.size a ≤ S12800x128.size a)
theorem k1_mult606_dvd : ∀ (v8495 : BitVec 32) (k1_hw606 : k1_chk606 v8495), 8 ∣ (k1_mult606 v8495).toNat := fun v8495 k1_hw606 => k1_hw606.1
theorem k1_off606_inb : ∀ (v8495 : BitVec 32) (k1_hw606 : k1_chk606 v8495), ∀ a, (k1_off606 v8495) a + S8x128.size a ≤ S12800x128.size a := fun v8495 k1_hw606 => k1_hw606.2

def k1_mult607 (v8509 : BitVec 32) : BitVec 32 :=
  let c3_i32_4860 : BitVec 32 := 3#32
  let v8510 : BitVec 32 := Scalar.shrsi v8509 c3_i32_4860
  let c3_i32_4861 : BitVec 32 := 3#32
  let v8511 : BitVec 32 := Scalar.shli v8510 c3_i32_4861
  v8511

def k1_off607 (v8509 : BitVec 32) : Fin 2 → Nat :=
  let c3_i32_4860 : BitVec 32 := 3#32
  let v8510 : BitVec 32 := Scalar.shrsi v8509 c3_i32_4860
  let c3_i32_4861 : BitVec 32 := 3#32
  let v8511 : BitVec 32 := Scalar.shli v8510 c3_i32_4861
  let v8512 : BitVec 32 := v8511
  let v8513 : Index := Scalar.indexCast v8512
  let c0_4862 : Index := 0#32
  ![v8513.toNat, 0]

def k1_chk607 (v8509 : BitVec 32) : Prop :=
  (8 ∣ (k1_mult607 v8509).toNat) ∧
  (∀ a, (k1_off607 v8509) a + S8x128.size a ≤ S12800x128.size a)
theorem k1_mult607_dvd : ∀ (v8509 : BitVec 32) (k1_hw607 : k1_chk607 v8509), 8 ∣ (k1_mult607 v8509).toNat := fun v8509 k1_hw607 => k1_hw607.1
theorem k1_off607_inb : ∀ (v8509 : BitVec 32) (k1_hw607 : k1_chk607 v8509), ∀ a, (k1_off607 v8509) a + S8x128.size a ≤ S12800x128.size a := fun v8509 k1_hw607 => k1_hw607.2

def k1_mult608 (v8523 : BitVec 32) : BitVec 32 :=
  let c3_i32_4868 : BitVec 32 := 3#32
  let v8524 : BitVec 32 := Scalar.shrsi v8523 c3_i32_4868
  let c3_i32_4869 : BitVec 32 := 3#32
  let v8525 : BitVec 32 := Scalar.shli v8524 c3_i32_4869
  v8525

def k1_off608 (v8523 : BitVec 32) : Fin 2 → Nat :=
  let c3_i32_4868 : BitVec 32 := 3#32
  let v8524 : BitVec 32 := Scalar.shrsi v8523 c3_i32_4868
  let c3_i32_4869 : BitVec 32 := 3#32
  let v8525 : BitVec 32 := Scalar.shli v8524 c3_i32_4869
  let v8526 : BitVec 32 := v8525
  let v8527 : Index := Scalar.indexCast v8526
  let c0_4870 : Index := 0#32
  ![v8527.toNat, 0]

def k1_chk608 (v8523 : BitVec 32) : Prop :=
  (8 ∣ (k1_mult608 v8523).toNat) ∧
  (∀ a, (k1_off608 v8523) a + S8x128.size a ≤ S12800x128.size a)
theorem k1_mult608_dvd : ∀ (v8523 : BitVec 32) (k1_hw608 : k1_chk608 v8523), 8 ∣ (k1_mult608 v8523).toNat := fun v8523 k1_hw608 => k1_hw608.1
theorem k1_off608_inb : ∀ (v8523 : BitVec 32) (k1_hw608 : k1_chk608 v8523), ∀ a, (k1_off608 v8523) a + S8x128.size a ≤ S12800x128.size a := fun v8523 k1_hw608 => k1_hw608.2

def k1_mult609 (v8537 : BitVec 32) : BitVec 32 :=
  let c3_i32_4876 : BitVec 32 := 3#32
  let v8538 : BitVec 32 := Scalar.shrsi v8537 c3_i32_4876
  let c3_i32_4877 : BitVec 32 := 3#32
  let v8539 : BitVec 32 := Scalar.shli v8538 c3_i32_4877
  v8539

def k1_off609 (v8537 : BitVec 32) : Fin 2 → Nat :=
  let c3_i32_4876 : BitVec 32 := 3#32
  let v8538 : BitVec 32 := Scalar.shrsi v8537 c3_i32_4876
  let c3_i32_4877 : BitVec 32 := 3#32
  let v8539 : BitVec 32 := Scalar.shli v8538 c3_i32_4877
  let v8540 : BitVec 32 := v8539
  let v8541 : Index := Scalar.indexCast v8540
  let c0_4878 : Index := 0#32
  ![v8541.toNat, 0]

def k1_chk609 (v8537 : BitVec 32) : Prop :=
  (8 ∣ (k1_mult609 v8537).toNat) ∧
  (∀ a, (k1_off609 v8537) a + S8x128.size a ≤ S12800x128.size a)
theorem k1_mult609_dvd : ∀ (v8537 : BitVec 32) (k1_hw609 : k1_chk609 v8537), 8 ∣ (k1_mult609 v8537).toNat := fun v8537 k1_hw609 => k1_hw609.1
theorem k1_off609_inb : ∀ (v8537 : BitVec 32) (k1_hw609 : k1_chk609 v8537), ∀ a, (k1_off609 v8537) a + S8x128.size a ≤ S12800x128.size a := fun v8537 k1_hw609 => k1_hw609.2

def k1_mult610 (v8551 : BitVec 32) : BitVec 32 :=
  let c3_i32_4884 : BitVec 32 := 3#32
  let v8552 : BitVec 32 := Scalar.shrsi v8551 c3_i32_4884
  let c3_i32_4885 : BitVec 32 := 3#32
  let v8553 : BitVec 32 := Scalar.shli v8552 c3_i32_4885
  v8553

def k1_off610 (v8551 : BitVec 32) : Fin 2 → Nat :=
  let c3_i32_4884 : BitVec 32 := 3#32
  let v8552 : BitVec 32 := Scalar.shrsi v8551 c3_i32_4884
  let c3_i32_4885 : BitVec 32 := 3#32
  let v8553 : BitVec 32 := Scalar.shli v8552 c3_i32_4885
  let v8554 : BitVec 32 := v8553
  let v8555 : Index := Scalar.indexCast v8554
  let c0_4886 : Index := 0#32
  ![v8555.toNat, 0]

def k1_chk610 (v8551 : BitVec 32) : Prop :=
  (8 ∣ (k1_mult610 v8551).toNat) ∧
  (∀ a, (k1_off610 v8551) a + S8x128.size a ≤ S12800x128.size a)
theorem k1_mult610_dvd : ∀ (v8551 : BitVec 32) (k1_hw610 : k1_chk610 v8551), 8 ∣ (k1_mult610 v8551).toNat := fun v8551 k1_hw610 => k1_hw610.1
theorem k1_off610_inb : ∀ (v8551 : BitVec 32) (k1_hw610 : k1_chk610 v8551), ∀ a, (k1_off610 v8551) a + S8x128.size a ≤ S12800x128.size a := fun v8551 k1_hw610 => k1_hw610.2

def k1_mult611 (v8565 : BitVec 32) : BitVec 32 :=
  let c3_i32_4892 : BitVec 32 := 3#32
  let v8566 : BitVec 32 := Scalar.shrsi v8565 c3_i32_4892
  let c3_i32_4893 : BitVec 32 := 3#32
  let v8567 : BitVec 32 := Scalar.shli v8566 c3_i32_4893
  v8567

def k1_off611 (v8565 : BitVec 32) : Fin 2 → Nat :=
  let c3_i32_4892 : BitVec 32 := 3#32
  let v8566 : BitVec 32 := Scalar.shrsi v8565 c3_i32_4892
  let c3_i32_4893 : BitVec 32 := 3#32
  let v8567 : BitVec 32 := Scalar.shli v8566 c3_i32_4893
  let v8568 : BitVec 32 := v8567
  let v8569 : Index := Scalar.indexCast v8568
  let c0_4894 : Index := 0#32
  ![v8569.toNat, 0]

def k1_chk611 (v8565 : BitVec 32) : Prop :=
  (8 ∣ (k1_mult611 v8565).toNat) ∧
  (∀ a, (k1_off611 v8565) a + S8x128.size a ≤ S12800x128.size a)
theorem k1_mult611_dvd : ∀ (v8565 : BitVec 32) (k1_hw611 : k1_chk611 v8565), 8 ∣ (k1_mult611 v8565).toNat := fun v8565 k1_hw611 => k1_hw611.1
theorem k1_off611_inb : ∀ (v8565 : BitVec 32) (k1_hw611 : k1_chk611 v8565), ∀ a, (k1_off611 v8565) a + S8x128.size a ≤ S12800x128.size a := fun v8565 k1_hw611 => k1_hw611.2

def k1_mult612 (v8579 : BitVec 32) : BitVec 32 :=
  let c3_i32_4900 : BitVec 32 := 3#32
  let v8580 : BitVec 32 := Scalar.shrsi v8579 c3_i32_4900
  let c3_i32_4901 : BitVec 32 := 3#32
  let v8581 : BitVec 32 := Scalar.shli v8580 c3_i32_4901
  v8581

def k1_off612 (v8579 : BitVec 32) : Fin 2 → Nat :=
  let c3_i32_4900 : BitVec 32 := 3#32
  let v8580 : BitVec 32 := Scalar.shrsi v8579 c3_i32_4900
  let c3_i32_4901 : BitVec 32 := 3#32
  let v8581 : BitVec 32 := Scalar.shli v8580 c3_i32_4901
  let v8582 : BitVec 32 := v8581
  let v8583 : Index := Scalar.indexCast v8582
  let c0_4902 : Index := 0#32
  ![v8583.toNat, 0]

def k1_chk612 (v8579 : BitVec 32) : Prop :=
  (8 ∣ (k1_mult612 v8579).toNat) ∧
  (∀ a, (k1_off612 v8579) a + S8x128.size a ≤ S12800x128.size a)
theorem k1_mult612_dvd : ∀ (v8579 : BitVec 32) (k1_hw612 : k1_chk612 v8579), 8 ∣ (k1_mult612 v8579).toNat := fun v8579 k1_hw612 => k1_hw612.1
theorem k1_off612_inb : ∀ (v8579 : BitVec 32) (k1_hw612 : k1_chk612 v8579), ∀ a, (k1_off612 v8579) a + S8x128.size a ≤ S12800x128.size a := fun v8579 k1_hw612 => k1_hw612.2

def k1_mult613 (v8593 : BitVec 32) : BitVec 32 :=
  let c3_i32_4908 : BitVec 32 := 3#32
  let v8594 : BitVec 32 := Scalar.shrsi v8593 c3_i32_4908
  let c3_i32_4909 : BitVec 32 := 3#32
  let v8595 : BitVec 32 := Scalar.shli v8594 c3_i32_4909
  v8595

def k1_off613 (v8593 : BitVec 32) : Fin 2 → Nat :=
  let c3_i32_4908 : BitVec 32 := 3#32
  let v8594 : BitVec 32 := Scalar.shrsi v8593 c3_i32_4908
  let c3_i32_4909 : BitVec 32 := 3#32
  let v8595 : BitVec 32 := Scalar.shli v8594 c3_i32_4909
  let v8596 : BitVec 32 := v8595
  let v8597 : Index := Scalar.indexCast v8596
  let c0_4910 : Index := 0#32
  ![v8597.toNat, 0]

def k1_chk613 (v8593 : BitVec 32) : Prop :=
  (8 ∣ (k1_mult613 v8593).toNat) ∧
  (∀ a, (k1_off613 v8593) a + S8x128.size a ≤ S12800x128.size a)
theorem k1_mult613_dvd : ∀ (v8593 : BitVec 32) (k1_hw613 : k1_chk613 v8593), 8 ∣ (k1_mult613 v8593).toNat := fun v8593 k1_hw613 => k1_hw613.1
theorem k1_off613_inb : ∀ (v8593 : BitVec 32) (k1_hw613 : k1_chk613 v8593), ∀ a, (k1_off613 v8593) a + S8x128.size a ≤ S12800x128.size a := fun v8593 k1_hw613 => k1_hw613.2

def k1_mult614 (v8607 : BitVec 32) : BitVec 32 :=
  let c3_i32_4916 : BitVec 32 := 3#32
  let v8608 : BitVec 32 := Scalar.shrsi v8607 c3_i32_4916
  let c3_i32_4917 : BitVec 32 := 3#32
  let v8609 : BitVec 32 := Scalar.shli v8608 c3_i32_4917
  v8609

def k1_off614 (v8607 : BitVec 32) : Fin 2 → Nat :=
  let c3_i32_4916 : BitVec 32 := 3#32
  let v8608 : BitVec 32 := Scalar.shrsi v8607 c3_i32_4916
  let c3_i32_4917 : BitVec 32 := 3#32
  let v8609 : BitVec 32 := Scalar.shli v8608 c3_i32_4917
  let v8610 : BitVec 32 := v8609
  let v8611 : Index := Scalar.indexCast v8610
  let c0_4918 : Index := 0#32
  ![v8611.toNat, 0]

def k1_chk614 (v8607 : BitVec 32) : Prop :=
  (8 ∣ (k1_mult614 v8607).toNat) ∧
  (∀ a, (k1_off614 v8607) a + S8x128.size a ≤ S12800x128.size a)
theorem k1_mult614_dvd : ∀ (v8607 : BitVec 32) (k1_hw614 : k1_chk614 v8607), 8 ∣ (k1_mult614 v8607).toNat := fun v8607 k1_hw614 => k1_hw614.1
theorem k1_off614_inb : ∀ (v8607 : BitVec 32) (k1_hw614 : k1_chk614 v8607), ∀ a, (k1_off614 v8607) a + S8x128.size a ≤ S12800x128.size a := fun v8607 k1_hw614 => k1_hw614.2

def k1_mult615 (v8621 : BitVec 32) : BitVec 32 :=
  let c3_i32_4924 : BitVec 32 := 3#32
  let v8622 : BitVec 32 := Scalar.shrsi v8621 c3_i32_4924
  let c3_i32_4925 : BitVec 32 := 3#32
  let v8623 : BitVec 32 := Scalar.shli v8622 c3_i32_4925
  v8623

def k1_off615 (v8621 : BitVec 32) : Fin 2 → Nat :=
  let c3_i32_4924 : BitVec 32 := 3#32
  let v8622 : BitVec 32 := Scalar.shrsi v8621 c3_i32_4924
  let c3_i32_4925 : BitVec 32 := 3#32
  let v8623 : BitVec 32 := Scalar.shli v8622 c3_i32_4925
  let v8624 : BitVec 32 := v8623
  let v8625 : Index := Scalar.indexCast v8624
  let c0_4926 : Index := 0#32
  ![v8625.toNat, 0]

def k1_chk615 (v8621 : BitVec 32) : Prop :=
  (8 ∣ (k1_mult615 v8621).toNat) ∧
  (∀ a, (k1_off615 v8621) a + S8x128.size a ≤ S12800x128.size a)
theorem k1_mult615_dvd : ∀ (v8621 : BitVec 32) (k1_hw615 : k1_chk615 v8621), 8 ∣ (k1_mult615 v8621).toNat := fun v8621 k1_hw615 => k1_hw615.1
theorem k1_off615_inb : ∀ (v8621 : BitVec 32) (k1_hw615 : k1_chk615 v8621), ∀ a, (k1_off615 v8621) a + S8x128.size a ≤ S12800x128.size a := fun v8621 k1_hw615 => k1_hw615.2

def k1_mult616 (v8635 : BitVec 32) : BitVec 32 :=
  let c3_i32_4932 : BitVec 32 := 3#32
  let v8636 : BitVec 32 := Scalar.shrsi v8635 c3_i32_4932
  let c3_i32_4933 : BitVec 32 := 3#32
  let v8637 : BitVec 32 := Scalar.shli v8636 c3_i32_4933
  v8637

def k1_off616 (v8635 : BitVec 32) : Fin 2 → Nat :=
  let c3_i32_4932 : BitVec 32 := 3#32
  let v8636 : BitVec 32 := Scalar.shrsi v8635 c3_i32_4932
  let c3_i32_4933 : BitVec 32 := 3#32
  let v8637 : BitVec 32 := Scalar.shli v8636 c3_i32_4933
  let v8638 : BitVec 32 := v8637
  let v8639 : Index := Scalar.indexCast v8638
  let c0_4934 : Index := 0#32
  ![v8639.toNat, 0]

def k1_chk616 (v8635 : BitVec 32) : Prop :=
  (8 ∣ (k1_mult616 v8635).toNat) ∧
  (∀ a, (k1_off616 v8635) a + S8x128.size a ≤ S12800x128.size a)
theorem k1_mult616_dvd : ∀ (v8635 : BitVec 32) (k1_hw616 : k1_chk616 v8635), 8 ∣ (k1_mult616 v8635).toNat := fun v8635 k1_hw616 => k1_hw616.1
theorem k1_off616_inb : ∀ (v8635 : BitVec 32) (k1_hw616 : k1_chk616 v8635), ∀ a, (k1_off616 v8635) a + S8x128.size a ≤ S12800x128.size a := fun v8635 k1_hw616 => k1_hw616.2

def k1_mult617 (v8649 : BitVec 32) : BitVec 32 :=
  let c3_i32_4940 : BitVec 32 := 3#32
  let v8650 : BitVec 32 := Scalar.shrsi v8649 c3_i32_4940
  let c3_i32_4941 : BitVec 32 := 3#32
  let v8651 : BitVec 32 := Scalar.shli v8650 c3_i32_4941
  v8651

def k1_off617 (v8649 : BitVec 32) : Fin 2 → Nat :=
  let c3_i32_4940 : BitVec 32 := 3#32
  let v8650 : BitVec 32 := Scalar.shrsi v8649 c3_i32_4940
  let c3_i32_4941 : BitVec 32 := 3#32
  let v8651 : BitVec 32 := Scalar.shli v8650 c3_i32_4941
  let v8652 : BitVec 32 := v8651
  let v8653 : Index := Scalar.indexCast v8652
  let c0_4942 : Index := 0#32
  ![v8653.toNat, 0]

def k1_chk617 (v8649 : BitVec 32) : Prop :=
  (8 ∣ (k1_mult617 v8649).toNat) ∧
  (∀ a, (k1_off617 v8649) a + S8x128.size a ≤ S12800x128.size a)
theorem k1_mult617_dvd : ∀ (v8649 : BitVec 32) (k1_hw617 : k1_chk617 v8649), 8 ∣ (k1_mult617 v8649).toNat := fun v8649 k1_hw617 => k1_hw617.1
theorem k1_off617_inb : ∀ (v8649 : BitVec 32) (k1_hw617 : k1_chk617 v8649), ∀ a, (k1_off617 v8649) a + S8x128.size a ≤ S12800x128.size a := fun v8649 k1_hw617 => k1_hw617.2

def k1_mult618 (v8663 : BitVec 32) : BitVec 32 :=
  let c3_i32_4948 : BitVec 32 := 3#32
  let v8664 : BitVec 32 := Scalar.shrsi v8663 c3_i32_4948
  let c3_i32_4949 : BitVec 32 := 3#32
  let v8665 : BitVec 32 := Scalar.shli v8664 c3_i32_4949
  v8665

def k1_off618 (v8663 : BitVec 32) : Fin 2 → Nat :=
  let c3_i32_4948 : BitVec 32 := 3#32
  let v8664 : BitVec 32 := Scalar.shrsi v8663 c3_i32_4948
  let c3_i32_4949 : BitVec 32 := 3#32
  let v8665 : BitVec 32 := Scalar.shli v8664 c3_i32_4949
  let v8666 : BitVec 32 := v8665
  let v8667 : Index := Scalar.indexCast v8666
  let c0_4950 : Index := 0#32
  ![v8667.toNat, 0]

def k1_chk618 (v8663 : BitVec 32) : Prop :=
  (8 ∣ (k1_mult618 v8663).toNat) ∧
  (∀ a, (k1_off618 v8663) a + S8x128.size a ≤ S12800x128.size a)
theorem k1_mult618_dvd : ∀ (v8663 : BitVec 32) (k1_hw618 : k1_chk618 v8663), 8 ∣ (k1_mult618 v8663).toNat := fun v8663 k1_hw618 => k1_hw618.1
theorem k1_off618_inb : ∀ (v8663 : BitVec 32) (k1_hw618 : k1_chk618 v8663), ∀ a, (k1_off618 v8663) a + S8x128.size a ≤ S12800x128.size a := fun v8663 k1_hw618 => k1_hw618.2

def k1_mult619 (v8677 : BitVec 32) : BitVec 32 :=
  let c3_i32_4956 : BitVec 32 := 3#32
  let v8678 : BitVec 32 := Scalar.shrsi v8677 c3_i32_4956
  let c3_i32_4957 : BitVec 32 := 3#32
  let v8679 : BitVec 32 := Scalar.shli v8678 c3_i32_4957
  v8679

def k1_off619 (v8677 : BitVec 32) : Fin 2 → Nat :=
  let c3_i32_4956 : BitVec 32 := 3#32
  let v8678 : BitVec 32 := Scalar.shrsi v8677 c3_i32_4956
  let c3_i32_4957 : BitVec 32 := 3#32
  let v8679 : BitVec 32 := Scalar.shli v8678 c3_i32_4957
  let v8680 : BitVec 32 := v8679
  let v8681 : Index := Scalar.indexCast v8680
  let c0_4958 : Index := 0#32
  ![v8681.toNat, 0]

def k1_chk619 (v8677 : BitVec 32) : Prop :=
  (8 ∣ (k1_mult619 v8677).toNat) ∧
  (∀ a, (k1_off619 v8677) a + S8x128.size a ≤ S12800x128.size a)
theorem k1_mult619_dvd : ∀ (v8677 : BitVec 32) (k1_hw619 : k1_chk619 v8677), 8 ∣ (k1_mult619 v8677).toNat := fun v8677 k1_hw619 => k1_hw619.1
theorem k1_off619_inb : ∀ (v8677 : BitVec 32) (k1_hw619 : k1_chk619 v8677), ∀ a, (k1_off619 v8677) a + S8x128.size a ≤ S12800x128.size a := fun v8677 k1_hw619 => k1_hw619.2

def k1_mult620 (v8691 : BitVec 32) : BitVec 32 :=
  let c3_i32_4964 : BitVec 32 := 3#32
  let v8692 : BitVec 32 := Scalar.shrsi v8691 c3_i32_4964
  let c3_i32_4965 : BitVec 32 := 3#32
  let v8693 : BitVec 32 := Scalar.shli v8692 c3_i32_4965
  v8693

def k1_off620 (v8691 : BitVec 32) : Fin 2 → Nat :=
  let c3_i32_4964 : BitVec 32 := 3#32
  let v8692 : BitVec 32 := Scalar.shrsi v8691 c3_i32_4964
  let c3_i32_4965 : BitVec 32 := 3#32
  let v8693 : BitVec 32 := Scalar.shli v8692 c3_i32_4965
  let v8694 : BitVec 32 := v8693
  let v8695 : Index := Scalar.indexCast v8694
  let c0_4966 : Index := 0#32
  ![v8695.toNat, 0]

def k1_chk620 (v8691 : BitVec 32) : Prop :=
  (8 ∣ (k1_mult620 v8691).toNat) ∧
  (∀ a, (k1_off620 v8691) a + S8x128.size a ≤ S12800x128.size a)
theorem k1_mult620_dvd : ∀ (v8691 : BitVec 32) (k1_hw620 : k1_chk620 v8691), 8 ∣ (k1_mult620 v8691).toNat := fun v8691 k1_hw620 => k1_hw620.1
theorem k1_off620_inb : ∀ (v8691 : BitVec 32) (k1_hw620 : k1_chk620 v8691), ∀ a, (k1_off620 v8691) a + S8x128.size a ≤ S12800x128.size a := fun v8691 k1_hw620 => k1_hw620.2

def k1_mult621 (v8705 : BitVec 32) : BitVec 32 :=
  let c3_i32_4972 : BitVec 32 := 3#32
  let v8706 : BitVec 32 := Scalar.shrsi v8705 c3_i32_4972
  let c3_i32_4973 : BitVec 32 := 3#32
  let v8707 : BitVec 32 := Scalar.shli v8706 c3_i32_4973
  v8707

def k1_off621 (v8705 : BitVec 32) : Fin 2 → Nat :=
  let c3_i32_4972 : BitVec 32 := 3#32
  let v8706 : BitVec 32 := Scalar.shrsi v8705 c3_i32_4972
  let c3_i32_4973 : BitVec 32 := 3#32
  let v8707 : BitVec 32 := Scalar.shli v8706 c3_i32_4973
  let v8708 : BitVec 32 := v8707
  let v8709 : Index := Scalar.indexCast v8708
  let c0_4974 : Index := 0#32
  ![v8709.toNat, 0]

def k1_chk621 (v8705 : BitVec 32) : Prop :=
  (8 ∣ (k1_mult621 v8705).toNat) ∧
  (∀ a, (k1_off621 v8705) a + S8x128.size a ≤ S12800x128.size a)
theorem k1_mult621_dvd : ∀ (v8705 : BitVec 32) (k1_hw621 : k1_chk621 v8705), 8 ∣ (k1_mult621 v8705).toNat := fun v8705 k1_hw621 => k1_hw621.1
theorem k1_off621_inb : ∀ (v8705 : BitVec 32) (k1_hw621 : k1_chk621 v8705), ∀ a, (k1_off621 v8705) a + S8x128.size a ≤ S12800x128.size a := fun v8705 k1_hw621 => k1_hw621.2

def k1_mult622 (v8719 : BitVec 32) : BitVec 32 :=
  let c3_i32_4980 : BitVec 32 := 3#32
  let v8720 : BitVec 32 := Scalar.shrsi v8719 c3_i32_4980
  let c3_i32_4981 : BitVec 32 := 3#32
  let v8721 : BitVec 32 := Scalar.shli v8720 c3_i32_4981
  v8721

def k1_off622 (v8719 : BitVec 32) : Fin 2 → Nat :=
  let c3_i32_4980 : BitVec 32 := 3#32
  let v8720 : BitVec 32 := Scalar.shrsi v8719 c3_i32_4980
  let c3_i32_4981 : BitVec 32 := 3#32
  let v8721 : BitVec 32 := Scalar.shli v8720 c3_i32_4981
  let v8722 : BitVec 32 := v8721
  let v8723 : Index := Scalar.indexCast v8722
  let c0_4982 : Index := 0#32
  ![v8723.toNat, 0]

def k1_chk622 (v8719 : BitVec 32) : Prop :=
  (8 ∣ (k1_mult622 v8719).toNat) ∧
  (∀ a, (k1_off622 v8719) a + S8x128.size a ≤ S12800x128.size a)
theorem k1_mult622_dvd : ∀ (v8719 : BitVec 32) (k1_hw622 : k1_chk622 v8719), 8 ∣ (k1_mult622 v8719).toNat := fun v8719 k1_hw622 => k1_hw622.1
theorem k1_off622_inb : ∀ (v8719 : BitVec 32) (k1_hw622 : k1_chk622 v8719), ∀ a, (k1_off622 v8719) a + S8x128.size a ≤ S12800x128.size a := fun v8719 k1_hw622 => k1_hw622.2

def k1_mult623 (v8733 : BitVec 32) : BitVec 32 :=
  let c3_i32_4988 : BitVec 32 := 3#32
  let v8734 : BitVec 32 := Scalar.shrsi v8733 c3_i32_4988
  let c3_i32_4989 : BitVec 32 := 3#32
  let v8735 : BitVec 32 := Scalar.shli v8734 c3_i32_4989
  v8735

def k1_off623 (v8733 : BitVec 32) : Fin 2 → Nat :=
  let c3_i32_4988 : BitVec 32 := 3#32
  let v8734 : BitVec 32 := Scalar.shrsi v8733 c3_i32_4988
  let c3_i32_4989 : BitVec 32 := 3#32
  let v8735 : BitVec 32 := Scalar.shli v8734 c3_i32_4989
  let v8736 : BitVec 32 := v8735
  let v8737 : Index := Scalar.indexCast v8736
  let c0_4990 : Index := 0#32
  ![v8737.toNat, 0]

def k1_chk623 (v8733 : BitVec 32) : Prop :=
  (8 ∣ (k1_mult623 v8733).toNat) ∧
  (∀ a, (k1_off623 v8733) a + S8x128.size a ≤ S12800x128.size a)
theorem k1_mult623_dvd : ∀ (v8733 : BitVec 32) (k1_hw623 : k1_chk623 v8733), 8 ∣ (k1_mult623 v8733).toNat := fun v8733 k1_hw623 => k1_hw623.1
theorem k1_off623_inb : ∀ (v8733 : BitVec 32) (k1_hw623 : k1_chk623 v8733), ∀ a, (k1_off623 v8733) a + S8x128.size a ≤ S12800x128.size a := fun v8733 k1_hw623 => k1_hw623.2

def k1_mult624 (v8747 : BitVec 32) : BitVec 32 :=
  let c3_i32_4996 : BitVec 32 := 3#32
  let v8748 : BitVec 32 := Scalar.shrsi v8747 c3_i32_4996
  let c3_i32_4997 : BitVec 32 := 3#32
  let v8749 : BitVec 32 := Scalar.shli v8748 c3_i32_4997
  v8749

def k1_off624 (v8747 : BitVec 32) : Fin 2 → Nat :=
  let c3_i32_4996 : BitVec 32 := 3#32
  let v8748 : BitVec 32 := Scalar.shrsi v8747 c3_i32_4996
  let c3_i32_4997 : BitVec 32 := 3#32
  let v8749 : BitVec 32 := Scalar.shli v8748 c3_i32_4997
  let v8750 : BitVec 32 := v8749
  let v8751 : Index := Scalar.indexCast v8750
  let c0_4998 : Index := 0#32
  ![v8751.toNat, 0]

def k1_chk624 (v8747 : BitVec 32) : Prop :=
  (8 ∣ (k1_mult624 v8747).toNat) ∧
  (∀ a, (k1_off624 v8747) a + S8x128.size a ≤ S12800x128.size a)
theorem k1_mult624_dvd : ∀ (v8747 : BitVec 32) (k1_hw624 : k1_chk624 v8747), 8 ∣ (k1_mult624 v8747).toNat := fun v8747 k1_hw624 => k1_hw624.1
theorem k1_off624_inb : ∀ (v8747 : BitVec 32) (k1_hw624 : k1_chk624 v8747), ∀ a, (k1_off624 v8747) a + S8x128.size a ≤ S12800x128.size a := fun v8747 k1_hw624 => k1_hw624.2

def k1_mult625 (v8761 : BitVec 32) : BitVec 32 :=
  let c3_i32_5004 : BitVec 32 := 3#32
  let v8762 : BitVec 32 := Scalar.shrsi v8761 c3_i32_5004
  let c3_i32_5005 : BitVec 32 := 3#32
  let v8763 : BitVec 32 := Scalar.shli v8762 c3_i32_5005
  v8763

def k1_off625 (v8761 : BitVec 32) : Fin 2 → Nat :=
  let c3_i32_5004 : BitVec 32 := 3#32
  let v8762 : BitVec 32 := Scalar.shrsi v8761 c3_i32_5004
  let c3_i32_5005 : BitVec 32 := 3#32
  let v8763 : BitVec 32 := Scalar.shli v8762 c3_i32_5005
  let v8764 : BitVec 32 := v8763
  let v8765 : Index := Scalar.indexCast v8764
  let c0_5006 : Index := 0#32
  ![v8765.toNat, 0]

def k1_chk625 (v8761 : BitVec 32) : Prop :=
  (8 ∣ (k1_mult625 v8761).toNat) ∧
  (∀ a, (k1_off625 v8761) a + S8x128.size a ≤ S12800x128.size a)
theorem k1_mult625_dvd : ∀ (v8761 : BitVec 32) (k1_hw625 : k1_chk625 v8761), 8 ∣ (k1_mult625 v8761).toNat := fun v8761 k1_hw625 => k1_hw625.1
theorem k1_off625_inb : ∀ (v8761 : BitVec 32) (k1_hw625 : k1_chk625 v8761), ∀ a, (k1_off625 v8761) a + S8x128.size a ≤ S12800x128.size a := fun v8761 k1_hw625 => k1_hw625.2

def k1_mult626 (v8775 : BitVec 32) : BitVec 32 :=
  let c3_i32_5012 : BitVec 32 := 3#32
  let v8776 : BitVec 32 := Scalar.shrsi v8775 c3_i32_5012
  let c3_i32_5013 : BitVec 32 := 3#32
  let v8777 : BitVec 32 := Scalar.shli v8776 c3_i32_5013
  v8777

def k1_off626 (v8775 : BitVec 32) : Fin 2 → Nat :=
  let c3_i32_5012 : BitVec 32 := 3#32
  let v8776 : BitVec 32 := Scalar.shrsi v8775 c3_i32_5012
  let c3_i32_5013 : BitVec 32 := 3#32
  let v8777 : BitVec 32 := Scalar.shli v8776 c3_i32_5013
  let v8778 : BitVec 32 := v8777
  let v8779 : Index := Scalar.indexCast v8778
  let c0_5014 : Index := 0#32
  ![v8779.toNat, 0]

def k1_chk626 (v8775 : BitVec 32) : Prop :=
  (8 ∣ (k1_mult626 v8775).toNat) ∧
  (∀ a, (k1_off626 v8775) a + S8x128.size a ≤ S12800x128.size a)
theorem k1_mult626_dvd : ∀ (v8775 : BitVec 32) (k1_hw626 : k1_chk626 v8775), 8 ∣ (k1_mult626 v8775).toNat := fun v8775 k1_hw626 => k1_hw626.1
theorem k1_off626_inb : ∀ (v8775 : BitVec 32) (k1_hw626 : k1_chk626 v8775), ∀ a, (k1_off626 v8775) a + S8x128.size a ≤ S12800x128.size a := fun v8775 k1_hw626 => k1_hw626.2

def k1_mult627 (v8789 : BitVec 32) : BitVec 32 :=
  let c3_i32_5020 : BitVec 32 := 3#32
  let v8790 : BitVec 32 := Scalar.shrsi v8789 c3_i32_5020
  let c3_i32_5021 : BitVec 32 := 3#32
  let v8791 : BitVec 32 := Scalar.shli v8790 c3_i32_5021
  v8791

def k1_off627 (v8789 : BitVec 32) : Fin 2 → Nat :=
  let c3_i32_5020 : BitVec 32 := 3#32
  let v8790 : BitVec 32 := Scalar.shrsi v8789 c3_i32_5020
  let c3_i32_5021 : BitVec 32 := 3#32
  let v8791 : BitVec 32 := Scalar.shli v8790 c3_i32_5021
  let v8792 : BitVec 32 := v8791
  let v8793 : Index := Scalar.indexCast v8792
  let c0_5022 : Index := 0#32
  ![v8793.toNat, 0]

def k1_chk627 (v8789 : BitVec 32) : Prop :=
  (8 ∣ (k1_mult627 v8789).toNat) ∧
  (∀ a, (k1_off627 v8789) a + S8x128.size a ≤ S12800x128.size a)
theorem k1_mult627_dvd : ∀ (v8789 : BitVec 32) (k1_hw627 : k1_chk627 v8789), 8 ∣ (k1_mult627 v8789).toNat := fun v8789 k1_hw627 => k1_hw627.1
theorem k1_off627_inb : ∀ (v8789 : BitVec 32) (k1_hw627 : k1_chk627 v8789), ∀ a, (k1_off627 v8789) a + S8x128.size a ≤ S12800x128.size a := fun v8789 k1_hw627 => k1_hw627.2

def k1_mult628 (v8803 : BitVec 32) : BitVec 32 :=
  let c3_i32_5028 : BitVec 32 := 3#32
  let v8804 : BitVec 32 := Scalar.shrsi v8803 c3_i32_5028
  let c3_i32_5029 : BitVec 32 := 3#32
  let v8805 : BitVec 32 := Scalar.shli v8804 c3_i32_5029
  v8805

def k1_off628 (v8803 : BitVec 32) : Fin 2 → Nat :=
  let c3_i32_5028 : BitVec 32 := 3#32
  let v8804 : BitVec 32 := Scalar.shrsi v8803 c3_i32_5028
  let c3_i32_5029 : BitVec 32 := 3#32
  let v8805 : BitVec 32 := Scalar.shli v8804 c3_i32_5029
  let v8806 : BitVec 32 := v8805
  let v8807 : Index := Scalar.indexCast v8806
  let c0_5030 : Index := 0#32
  ![v8807.toNat, 0]

def k1_chk628 (v8803 : BitVec 32) : Prop :=
  (8 ∣ (k1_mult628 v8803).toNat) ∧
  (∀ a, (k1_off628 v8803) a + S8x128.size a ≤ S12800x128.size a)
theorem k1_mult628_dvd : ∀ (v8803 : BitVec 32) (k1_hw628 : k1_chk628 v8803), 8 ∣ (k1_mult628 v8803).toNat := fun v8803 k1_hw628 => k1_hw628.1
theorem k1_off628_inb : ∀ (v8803 : BitVec 32) (k1_hw628 : k1_chk628 v8803), ∀ a, (k1_off628 v8803) a + S8x128.size a ≤ S12800x128.size a := fun v8803 k1_hw628 => k1_hw628.2

def k1_mult629 (v8817 : BitVec 32) : BitVec 32 :=
  let c3_i32_5036 : BitVec 32 := 3#32
  let v8818 : BitVec 32 := Scalar.shrsi v8817 c3_i32_5036
  let c3_i32_5037 : BitVec 32 := 3#32
  let v8819 : BitVec 32 := Scalar.shli v8818 c3_i32_5037
  v8819

def k1_off629 (v8817 : BitVec 32) : Fin 2 → Nat :=
  let c3_i32_5036 : BitVec 32 := 3#32
  let v8818 : BitVec 32 := Scalar.shrsi v8817 c3_i32_5036
  let c3_i32_5037 : BitVec 32 := 3#32
  let v8819 : BitVec 32 := Scalar.shli v8818 c3_i32_5037
  let v8820 : BitVec 32 := v8819
  let v8821 : Index := Scalar.indexCast v8820
  let c0_5038 : Index := 0#32
  ![v8821.toNat, 0]

def k1_chk629 (v8817 : BitVec 32) : Prop :=
  (8 ∣ (k1_mult629 v8817).toNat) ∧
  (∀ a, (k1_off629 v8817) a + S8x128.size a ≤ S12800x128.size a)
theorem k1_mult629_dvd : ∀ (v8817 : BitVec 32) (k1_hw629 : k1_chk629 v8817), 8 ∣ (k1_mult629 v8817).toNat := fun v8817 k1_hw629 => k1_hw629.1
theorem k1_off629_inb : ∀ (v8817 : BitVec 32) (k1_hw629 : k1_chk629 v8817), ∀ a, (k1_off629 v8817) a + S8x128.size a ≤ S12800x128.size a := fun v8817 k1_hw629 => k1_hw629.2

def k1_mult630 (v8831 : BitVec 32) : BitVec 32 :=
  let c3_i32_5044 : BitVec 32 := 3#32
  let v8832 : BitVec 32 := Scalar.shrsi v8831 c3_i32_5044
  let c3_i32_5045 : BitVec 32 := 3#32
  let v8833 : BitVec 32 := Scalar.shli v8832 c3_i32_5045
  v8833

def k1_off630 (v8831 : BitVec 32) : Fin 2 → Nat :=
  let c3_i32_5044 : BitVec 32 := 3#32
  let v8832 : BitVec 32 := Scalar.shrsi v8831 c3_i32_5044
  let c3_i32_5045 : BitVec 32 := 3#32
  let v8833 : BitVec 32 := Scalar.shli v8832 c3_i32_5045
  let v8834 : BitVec 32 := v8833
  let v8835 : Index := Scalar.indexCast v8834
  let c0_5046 : Index := 0#32
  ![v8835.toNat, 0]

def k1_chk630 (v8831 : BitVec 32) : Prop :=
  (8 ∣ (k1_mult630 v8831).toNat) ∧
  (∀ a, (k1_off630 v8831) a + S8x128.size a ≤ S12800x128.size a)
theorem k1_mult630_dvd : ∀ (v8831 : BitVec 32) (k1_hw630 : k1_chk630 v8831), 8 ∣ (k1_mult630 v8831).toNat := fun v8831 k1_hw630 => k1_hw630.1
theorem k1_off630_inb : ∀ (v8831 : BitVec 32) (k1_hw630 : k1_chk630 v8831), ∀ a, (k1_off630 v8831) a + S8x128.size a ≤ S12800x128.size a := fun v8831 k1_hw630 => k1_hw630.2

def k1_mult631 (v8845 : BitVec 32) : BitVec 32 :=
  let c3_i32_5052 : BitVec 32 := 3#32
  let v8846 : BitVec 32 := Scalar.shrsi v8845 c3_i32_5052
  let c3_i32_5053 : BitVec 32 := 3#32
  let v8847 : BitVec 32 := Scalar.shli v8846 c3_i32_5053
  v8847

def k1_off631 (v8845 : BitVec 32) : Fin 2 → Nat :=
  let c3_i32_5052 : BitVec 32 := 3#32
  let v8846 : BitVec 32 := Scalar.shrsi v8845 c3_i32_5052
  let c3_i32_5053 : BitVec 32 := 3#32
  let v8847 : BitVec 32 := Scalar.shli v8846 c3_i32_5053
  let v8848 : BitVec 32 := v8847
  let v8849 : Index := Scalar.indexCast v8848
  let c0_5054 : Index := 0#32
  ![v8849.toNat, 0]

def k1_chk631 (v8845 : BitVec 32) : Prop :=
  (8 ∣ (k1_mult631 v8845).toNat) ∧
  (∀ a, (k1_off631 v8845) a + S8x128.size a ≤ S12800x128.size a)
theorem k1_mult631_dvd : ∀ (v8845 : BitVec 32) (k1_hw631 : k1_chk631 v8845), 8 ∣ (k1_mult631 v8845).toNat := fun v8845 k1_hw631 => k1_hw631.1
theorem k1_off631_inb : ∀ (v8845 : BitVec 32) (k1_hw631 : k1_chk631 v8845), ∀ a, (k1_off631 v8845) a + S8x128.size a ≤ S12800x128.size a := fun v8845 k1_hw631 => k1_hw631.2

def k1_mult632 (v8859 : BitVec 32) : BitVec 32 :=
  let c3_i32_5060 : BitVec 32 := 3#32
  let v8860 : BitVec 32 := Scalar.shrsi v8859 c3_i32_5060
  let c3_i32_5061 : BitVec 32 := 3#32
  let v8861 : BitVec 32 := Scalar.shli v8860 c3_i32_5061
  v8861

def k1_off632 (v8859 : BitVec 32) : Fin 2 → Nat :=
  let c3_i32_5060 : BitVec 32 := 3#32
  let v8860 : BitVec 32 := Scalar.shrsi v8859 c3_i32_5060
  let c3_i32_5061 : BitVec 32 := 3#32
  let v8861 : BitVec 32 := Scalar.shli v8860 c3_i32_5061
  let v8862 : BitVec 32 := v8861
  let v8863 : Index := Scalar.indexCast v8862
  let c0_5062 : Index := 0#32
  ![v8863.toNat, 0]

def k1_chk632 (v8859 : BitVec 32) : Prop :=
  (8 ∣ (k1_mult632 v8859).toNat) ∧
  (∀ a, (k1_off632 v8859) a + S8x128.size a ≤ S12800x128.size a)
theorem k1_mult632_dvd : ∀ (v8859 : BitVec 32) (k1_hw632 : k1_chk632 v8859), 8 ∣ (k1_mult632 v8859).toNat := fun v8859 k1_hw632 => k1_hw632.1
theorem k1_off632_inb : ∀ (v8859 : BitVec 32) (k1_hw632 : k1_chk632 v8859), ∀ a, (k1_off632 v8859) a + S8x128.size a ≤ S12800x128.size a := fun v8859 k1_hw632 => k1_hw632.2

def k1_mult633 (v8873 : BitVec 32) : BitVec 32 :=
  let c3_i32_5068 : BitVec 32 := 3#32
  let v8874 : BitVec 32 := Scalar.shrsi v8873 c3_i32_5068
  let c3_i32_5069 : BitVec 32 := 3#32
  let v8875 : BitVec 32 := Scalar.shli v8874 c3_i32_5069
  v8875

def k1_off633 (v8873 : BitVec 32) : Fin 2 → Nat :=
  let c3_i32_5068 : BitVec 32 := 3#32
  let v8874 : BitVec 32 := Scalar.shrsi v8873 c3_i32_5068
  let c3_i32_5069 : BitVec 32 := 3#32
  let v8875 : BitVec 32 := Scalar.shli v8874 c3_i32_5069
  let v8876 : BitVec 32 := v8875
  let v8877 : Index := Scalar.indexCast v8876
  let c0_5070 : Index := 0#32
  ![v8877.toNat, 0]

def k1_chk633 (v8873 : BitVec 32) : Prop :=
  (8 ∣ (k1_mult633 v8873).toNat) ∧
  (∀ a, (k1_off633 v8873) a + S8x128.size a ≤ S12800x128.size a)
theorem k1_mult633_dvd : ∀ (v8873 : BitVec 32) (k1_hw633 : k1_chk633 v8873), 8 ∣ (k1_mult633 v8873).toNat := fun v8873 k1_hw633 => k1_hw633.1
theorem k1_off633_inb : ∀ (v8873 : BitVec 32) (k1_hw633 : k1_chk633 v8873), ∀ a, (k1_off633 v8873) a + S8x128.size a ≤ S12800x128.size a := fun v8873 k1_hw633 => k1_hw633.2

def k1_mult634 (v8887 : BitVec 32) : BitVec 32 :=
  let c3_i32_5076 : BitVec 32 := 3#32
  let v8888 : BitVec 32 := Scalar.shrsi v8887 c3_i32_5076
  let c3_i32_5077 : BitVec 32 := 3#32
  let v8889 : BitVec 32 := Scalar.shli v8888 c3_i32_5077
  v8889

def k1_off634 (v8887 : BitVec 32) : Fin 2 → Nat :=
  let c3_i32_5076 : BitVec 32 := 3#32
  let v8888 : BitVec 32 := Scalar.shrsi v8887 c3_i32_5076
  let c3_i32_5077 : BitVec 32 := 3#32
  let v8889 : BitVec 32 := Scalar.shli v8888 c3_i32_5077
  let v8890 : BitVec 32 := v8889
  let v8891 : Index := Scalar.indexCast v8890
  let c0_5078 : Index := 0#32
  ![v8891.toNat, 0]

def k1_chk634 (v8887 : BitVec 32) : Prop :=
  (8 ∣ (k1_mult634 v8887).toNat) ∧
  (∀ a, (k1_off634 v8887) a + S8x128.size a ≤ S12800x128.size a)
theorem k1_mult634_dvd : ∀ (v8887 : BitVec 32) (k1_hw634 : k1_chk634 v8887), 8 ∣ (k1_mult634 v8887).toNat := fun v8887 k1_hw634 => k1_hw634.1
theorem k1_off634_inb : ∀ (v8887 : BitVec 32) (k1_hw634 : k1_chk634 v8887), ∀ a, (k1_off634 v8887) a + S8x128.size a ≤ S12800x128.size a := fun v8887 k1_hw634 => k1_hw634.2

def k1_mult635 (v8901 : BitVec 32) : BitVec 32 :=
  let c3_i32_5084 : BitVec 32 := 3#32
  let v8902 : BitVec 32 := Scalar.shrsi v8901 c3_i32_5084
  let c3_i32_5085 : BitVec 32 := 3#32
  let v8903 : BitVec 32 := Scalar.shli v8902 c3_i32_5085
  v8903

def k1_off635 (v8901 : BitVec 32) : Fin 2 → Nat :=
  let c3_i32_5084 : BitVec 32 := 3#32
  let v8902 : BitVec 32 := Scalar.shrsi v8901 c3_i32_5084
  let c3_i32_5085 : BitVec 32 := 3#32
  let v8903 : BitVec 32 := Scalar.shli v8902 c3_i32_5085
  let v8904 : BitVec 32 := v8903
  let v8905 : Index := Scalar.indexCast v8904
  let c0_5086 : Index := 0#32
  ![v8905.toNat, 0]

def k1_chk635 (v8901 : BitVec 32) : Prop :=
  (8 ∣ (k1_mult635 v8901).toNat) ∧
  (∀ a, (k1_off635 v8901) a + S8x128.size a ≤ S12800x128.size a)
theorem k1_mult635_dvd : ∀ (v8901 : BitVec 32) (k1_hw635 : k1_chk635 v8901), 8 ∣ (k1_mult635 v8901).toNat := fun v8901 k1_hw635 => k1_hw635.1
theorem k1_off635_inb : ∀ (v8901 : BitVec 32) (k1_hw635 : k1_chk635 v8901), ∀ a, (k1_off635 v8901) a + S8x128.size a ≤ S12800x128.size a := fun v8901 k1_hw635 => k1_hw635.2

def k1_mult636 (v8915 : BitVec 32) : BitVec 32 :=
  let c3_i32_5092 : BitVec 32 := 3#32
  let v8916 : BitVec 32 := Scalar.shrsi v8915 c3_i32_5092
  let c3_i32_5093 : BitVec 32 := 3#32
  let v8917 : BitVec 32 := Scalar.shli v8916 c3_i32_5093
  v8917

def k1_off636 (v8915 : BitVec 32) : Fin 2 → Nat :=
  let c3_i32_5092 : BitVec 32 := 3#32
  let v8916 : BitVec 32 := Scalar.shrsi v8915 c3_i32_5092
  let c3_i32_5093 : BitVec 32 := 3#32
  let v8917 : BitVec 32 := Scalar.shli v8916 c3_i32_5093
  let v8918 : BitVec 32 := v8917
  let v8919 : Index := Scalar.indexCast v8918
  let c0_5094 : Index := 0#32
  ![v8919.toNat, 0]

def k1_chk636 (v8915 : BitVec 32) : Prop :=
  (8 ∣ (k1_mult636 v8915).toNat) ∧
  (∀ a, (k1_off636 v8915) a + S8x128.size a ≤ S12800x128.size a)
theorem k1_mult636_dvd : ∀ (v8915 : BitVec 32) (k1_hw636 : k1_chk636 v8915), 8 ∣ (k1_mult636 v8915).toNat := fun v8915 k1_hw636 => k1_hw636.1
theorem k1_off636_inb : ∀ (v8915 : BitVec 32) (k1_hw636 : k1_chk636 v8915), ∀ a, (k1_off636 v8915) a + S8x128.size a ≤ S12800x128.size a := fun v8915 k1_hw636 => k1_hw636.2

def k1_mult637 (v8929 : BitVec 32) : BitVec 32 :=
  let c3_i32_5100 : BitVec 32 := 3#32
  let v8930 : BitVec 32 := Scalar.shrsi v8929 c3_i32_5100
  let c3_i32_5101 : BitVec 32 := 3#32
  let v8931 : BitVec 32 := Scalar.shli v8930 c3_i32_5101
  v8931

def k1_off637 (v8929 : BitVec 32) : Fin 2 → Nat :=
  let c3_i32_5100 : BitVec 32 := 3#32
  let v8930 : BitVec 32 := Scalar.shrsi v8929 c3_i32_5100
  let c3_i32_5101 : BitVec 32 := 3#32
  let v8931 : BitVec 32 := Scalar.shli v8930 c3_i32_5101
  let v8932 : BitVec 32 := v8931
  let v8933 : Index := Scalar.indexCast v8932
  let c0_5102 : Index := 0#32
  ![v8933.toNat, 0]

def k1_chk637 (v8929 : BitVec 32) : Prop :=
  (8 ∣ (k1_mult637 v8929).toNat) ∧
  (∀ a, (k1_off637 v8929) a + S8x128.size a ≤ S12800x128.size a)
theorem k1_mult637_dvd : ∀ (v8929 : BitVec 32) (k1_hw637 : k1_chk637 v8929), 8 ∣ (k1_mult637 v8929).toNat := fun v8929 k1_hw637 => k1_hw637.1
theorem k1_off637_inb : ∀ (v8929 : BitVec 32) (k1_hw637 : k1_chk637 v8929), ∀ a, (k1_off637 v8929) a + S8x128.size a ≤ S12800x128.size a := fun v8929 k1_hw637 => k1_hw637.2

def k1_mult638 (v8943 : BitVec 32) : BitVec 32 :=
  let c3_i32_5108 : BitVec 32 := 3#32
  let v8944 : BitVec 32 := Scalar.shrsi v8943 c3_i32_5108
  let c3_i32_5109 : BitVec 32 := 3#32
  let v8945 : BitVec 32 := Scalar.shli v8944 c3_i32_5109
  v8945

def k1_off638 (v8943 : BitVec 32) : Fin 2 → Nat :=
  let c3_i32_5108 : BitVec 32 := 3#32
  let v8944 : BitVec 32 := Scalar.shrsi v8943 c3_i32_5108
  let c3_i32_5109 : BitVec 32 := 3#32
  let v8945 : BitVec 32 := Scalar.shli v8944 c3_i32_5109
  let v8946 : BitVec 32 := v8945
  let v8947 : Index := Scalar.indexCast v8946
  let c0_5110 : Index := 0#32
  ![v8947.toNat, 0]

def k1_chk638 (v8943 : BitVec 32) : Prop :=
  (8 ∣ (k1_mult638 v8943).toNat) ∧
  (∀ a, (k1_off638 v8943) a + S8x128.size a ≤ S12800x128.size a)
theorem k1_mult638_dvd : ∀ (v8943 : BitVec 32) (k1_hw638 : k1_chk638 v8943), 8 ∣ (k1_mult638 v8943).toNat := fun v8943 k1_hw638 => k1_hw638.1
theorem k1_off638_inb : ∀ (v8943 : BitVec 32) (k1_hw638 : k1_chk638 v8943), ∀ a, (k1_off638 v8943) a + S8x128.size a ≤ S12800x128.size a := fun v8943 k1_hw638 => k1_hw638.2

def k1_mult639 (v8957 : BitVec 32) : BitVec 32 :=
  let c3_i32_5116 : BitVec 32 := 3#32
  let v8958 : BitVec 32 := Scalar.shrsi v8957 c3_i32_5116
  let c3_i32_5117 : BitVec 32 := 3#32
  let v8959 : BitVec 32 := Scalar.shli v8958 c3_i32_5117
  v8959

def k1_off639 (v8957 : BitVec 32) : Fin 2 → Nat :=
  let c3_i32_5116 : BitVec 32 := 3#32
  let v8958 : BitVec 32 := Scalar.shrsi v8957 c3_i32_5116
  let c3_i32_5117 : BitVec 32 := 3#32
  let v8959 : BitVec 32 := Scalar.shli v8958 c3_i32_5117
  let v8960 : BitVec 32 := v8959
  let v8961 : Index := Scalar.indexCast v8960
  let c0_5118 : Index := 0#32
  ![v8961.toNat, 0]

def k1_chk639 (v8957 : BitVec 32) : Prop :=
  (8 ∣ (k1_mult639 v8957).toNat) ∧
  (∀ a, (k1_off639 v8957) a + S8x128.size a ≤ S12800x128.size a)
theorem k1_mult639_dvd : ∀ (v8957 : BitVec 32) (k1_hw639 : k1_chk639 v8957), 8 ∣ (k1_mult639 v8957).toNat := fun v8957 k1_hw639 => k1_hw639.1
theorem k1_off639_inb : ∀ (v8957 : BitVec 32) (k1_hw639 : k1_chk639 v8957), ∀ a, (k1_off639 v8957) a + S8x128.size a ≤ S12800x128.size a := fun v8957 k1_hw639 => k1_hw639.2

def k1_mult640 (v8971 : BitVec 32) : BitVec 32 :=
  let c3_i32_5124 : BitVec 32 := 3#32
  let v8972 : BitVec 32 := Scalar.shrsi v8971 c3_i32_5124
  let c3_i32_5125 : BitVec 32 := 3#32
  let v8973 : BitVec 32 := Scalar.shli v8972 c3_i32_5125
  v8973

def k1_off640 (v8971 : BitVec 32) : Fin 2 → Nat :=
  let c3_i32_5124 : BitVec 32 := 3#32
  let v8972 : BitVec 32 := Scalar.shrsi v8971 c3_i32_5124
  let c3_i32_5125 : BitVec 32 := 3#32
  let v8973 : BitVec 32 := Scalar.shli v8972 c3_i32_5125
  let v8974 : BitVec 32 := v8973
  let v8975 : Index := Scalar.indexCast v8974
  let c0_5126 : Index := 0#32
  ![v8975.toNat, 0]

def k1_chk640 (v8971 : BitVec 32) : Prop :=
  (8 ∣ (k1_mult640 v8971).toNat) ∧
  (∀ a, (k1_off640 v8971) a + S8x128.size a ≤ S12800x128.size a)
theorem k1_mult640_dvd : ∀ (v8971 : BitVec 32) (k1_hw640 : k1_chk640 v8971), 8 ∣ (k1_mult640 v8971).toNat := fun v8971 k1_hw640 => k1_hw640.1
theorem k1_off640_inb : ∀ (v8971 : BitVec 32) (k1_hw640 : k1_chk640 v8971), ∀ a, (k1_off640 v8971) a + S8x128.size a ≤ S12800x128.size a := fun v8971 k1_hw640 => k1_hw640.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .smem S1x1x640 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x640 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12800x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S640x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S400000x5x4 : Shape := ⟨3, ![400000, 5, 4]⟩
abbrev S400000 : Shape := ⟨1, ![400000]⟩
abbrev S2000000 : Shape := ⟨1, ![2000000]⟩
abbrev S4x32 : Shape := ⟨2, ![4, 32]⟩
abbrev S_ : Shape := ⟨0, ![]⟩
abbrev S400000x4 : Shape := ⟨2, ![400000, 4]⟩
abbrev S400000x1 : Shape := ⟨2, ![400000, 1]⟩
abbrev S400000x32 : Shape := ⟨2, ![400000, 32]⟩
abbrev S2000000x1 : Shape := ⟨2, ![2000000, 1]⟩
abbrev S2000000x32 : Shape := ⟨2, ![2000000, 32]⟩

abbrev nBuf : Space → Nat
  | .hbm => 39
  | .vmem => 0
  | .smem => 0
  | _ => 0

abbrev bufTy : (tb : Table) → Fin (tcTables nBuf tb) → BufTy
  | .hbm, ⟨0, _⟩ => ⟨S400000x5x4, .f32⟩
  | .hbm, ⟨1, _⟩ => ⟨S400000, .i32⟩
  | .hbm, ⟨2, _⟩ => ⟨S2000000, .i32⟩
  | .hbm, ⟨3, _⟩ => ⟨S4x32, .f32⟩
  | .hbm, ⟨4, _⟩ => ⟨S_, .i32⟩
  | .hbm, ⟨5, _⟩ => ⟨S_, .i32⟩
  | .hbm, ⟨6, _⟩ => ⟨S400000, .i32⟩
  | .hbm, ⟨7, _⟩ => ⟨S400000, .i32⟩
  | .hbm, ⟨8, _⟩ => ⟨S400000, .f32⟩
  | .hbm, ⟨9, _⟩ => ⟨S_, .f32⟩
  | .hbm, ⟨10, _⟩ => ⟨S400000x4, .f32⟩
  | .hbm, ⟨11, _⟩ => ⟨S400000x1, .f32⟩
  | .hbm, ⟨12, _⟩ => ⟨S400000x4, .f32⟩
  | .hbm, ⟨13, _⟩ => ⟨S400000x4, .f32⟩
  | .hbm, ⟨14, _⟩ => ⟨S400000x32, .f32⟩
  | .hbm, ⟨15, _⟩ => ⟨S_, .f32⟩
  | .hbm, ⟨16, _⟩ => ⟨S400000x32, .f32⟩
  | .hbm, ⟨17, _⟩ => ⟨S400000x32, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S_, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S2000000, .i32⟩
  | .hbm, ⟨32, _⟩ => ⟨S2000000x1, .i32⟩
  | .hbm, ⟨33, _⟩ => ⟨S2000000x32, .f32⟩
  | .hbm, ⟨34, _⟩ => ⟨S2000000x1, .i1⟩
  | .hbm, ⟨35, _⟩ => ⟨S_, .f32⟩
  | .hbm, ⟨36, _⟩ => ⟨S2000000x32, .i1⟩
  | .hbm, ⟨37, _⟩ => ⟨S2000000x32, .f32⟩
  | .hbm, ⟨38, _⟩ => ⟨S2000000x32, .f32⟩
  | _, _ => ⟨S400000x5x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_call2_v1 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call3_v0 : Ref sig .tc := ⟨.hbm, 36, rfl⟩
abbrev main_call3_v1 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Proof.KernelIdeal.Trips.lean ====
module

public import proofs.«01_k».proof.Proof.Gen.KernelIdeal
public import Idealize.ShloMosaic.Lib.Pipeline.Regions

/-!
# The gather kernel's printed body is a counted loop

The Pallas kernel's Python loop over the 640 points of a block is printed unrolled. Here one trip of
that loop is written with the trip number as a variable, the loop as a recursion on the number of
trips left, and the printed body is shown to be that loop between its two ends.
-/

@[expose] public section

noncomputable section

namespace Cert.KernelIdeal.Gather

open Idealize.ShloMosaic Idealize.SL.Sem
open Cert.KernelIdeal Cert.KernelIdeal.Gen

variable {F : FTy → Type} [FloatOps F]

/-- The programs of the gather kernel. -/
abbrev Pg (F : FTy → Type) (α : Type) : Type 1 := Prog (TpuEff nD τ sig (Elt F) Λ₀ .tc) α

/-! ## Where a trip reads and writes -/

theorem word_inb (n : ℕ) (h : n < 640) : ∀ a, (![0, 0, n] : Fin 3 → ℕ) a + S1x1x1.size a ≤ S1x1x640.size a := by
  intro a; fin_cases a <;> simp [S1x1x1, S1x1x640] <;> omega

theorem row_inb (n : ℕ) (h : n < 640) : ∀ a, (![n, 0] : Fin 2 → ℕ) a + S1x128.size a ≤ S640x128.size a := by
  intro a; fin_cases a <;> simp [S1x128, S640x128] <;> omega

theorem row_slices (n : ℕ) : S8x128.Slices ![n % 8, 0] S1x128 :=
  (by decide : ∀ r : Fin 8, S8x128.Slices ![r.val, 0] S1x128) ⟨n % 8, Nat.mod_lt _ (by decide)⟩

/-- The word of the row numbers' block that trip `n` reads. -/
abbrev wordRect (n : ℕ) (h : n < 640) : Rect S1x1x640 := Rect.unit (s := S1x1x640) ![0, 0, n] S1x1x1.size (word_inb n h)
theorem wordRect_one (n : ℕ) (h : n < 640) : (wordRect n h).shape.numel = 1 := by
  change S1x1x1.numel = 1
  exact Shapes1.Facts₀.numel1_S1x1x1
/-- The one index of that word. -/
abbrev wordAt (n : ℕ) (h : n < 640) : (wordRect n h).shape.Idx := Shape.Idx.first ((wordRect_one n h).symm ▸ Nat.one_pos)
/-- The row of the scratch block that trip `n` writes. -/
abbrev rowRect (n : ℕ) (h : n < 640) : Rect S640x128 := Rect.unit (s := S640x128) ![n, 0] S1x128.size (row_inb n h)
/-- The eight table rows loaded around row `v`. -/
abbrev tabRect (v : BitVec 32) (hv : k1_chk1 v) : Rect S12800x128 :=
  Rect.unit (s := S12800x128) (k1_off1 v) S8x128.size (k1_off1_inb v hv)

/-! ## One trip -/

section
variable (arg1 : Memref sig .tc .smem S1x1x640 .i32) (arg4 : Memref sig .tc .vmem S12800x128 .f32)
  (arg6 : Memref sig .tc .vmem S640x128 .f32)

/-- The row trip `n` keeps of the eight loaded ones: they are rotated by `n - v` modulo eight and the row at
    place `n` modulo eight is taken. -/
def picked (n : ℕ) (v : BitVec 32) (t : Vec F S8x128 .f32) : FVec F S1x128 .f32 :=
  shapeCast S1x128 (extractStridedSlice S1x128 ![n % 8, 0]
    (dynamicRotate 0 (Scalar.andi (Scalar.subi (BitVec.ofNat 32 n) v) 7#32) none
      (shapeCast S8x128 t Shapes1.Facts₀.shapeCasts_S8x128_S8x128) Shapes1.Facts₀.rotates_S8x128_d0) (row_slices n))
    Shapes1.Facts₀.shapeCasts_S1x128_S1x128

/-- The store that ends trip `n`. -/
def put (n : ℕ) (h : n < 640) (r : FVec F S1x128 .f32) : Pg F PUnit :=
  Prog.op (.store arg6 (rowRect n h) r Finset.univ (View.stores_vmem_bits_univ Shapes1.Facts₀.h_S1x128 rfl) (.inl rfl)) .ret

/-- The load that precedes that store; its value is not used. -/
def peek {α : Type} (n : ℕ) (h : n < 640) (K : Pg F α) : Pg F α :=
  Prog.op (.load arg6 (rowRect n h).toLoadRect (View.loadsAt_vmem Shapes1.Facts₀.h_S1x128)) fun _ => K

/-- Reading trip `n`'s row number, with the side condition the body assumes of it. -/
def ask {α : Type} (n : ℕ) (h : n < 640) (K : (v : BitVec 32) → k1_chk1 v → Pg F α) : Pg F α :=
  Prog.op (.load arg1 (wordRect n h).toLoadRect (View.loadsAt_rect (View.loads_smem_one rfl (wordRect_one n h))))
    fun (f : (wordRect n h).shape.Idx → Elt F .i32) =>
      Prog.op (TpuEff.assume (k1_chk1 (f (wordAt n h))) (k1_chk1.dec (f (wordAt n h)))) fun hv => K (f (wordAt n h)) hv.down

/-- Loading the eight table rows around row `v`. -/
def fetch {α : Type} (v : BitVec 32) (hv : k1_chk1 v) (K : Vec F S8x128 .f32 → Pg F α) : Pg F α :=
  Prog.op (.load arg4 (tabRect v hv).toLoadRect (View.loadsAt_vmem Shapes1.Facts₀.h_S8x128)) K

/-- The end of trip `n`, from the loaded rows on. -/
def finish {α : Type} (n : ℕ) (h : n < 640) (v : BitVec 32) (t : Vec F S8x128 .f32) (K : Pg F α) : Pg F α :=
  peek arg6 n h ((put arg6 n h (picked n v t)).bind fun _ => K)

/-- Trip `n` followed by `K`. -/
def trip {α : Type} (n : ℕ) (h : n < 640) (K : Pg F α) : Pg F α :=
  ask arg1 n h fun v hv => fetch arg4 v hv fun t => finish arg6 n h v t K

/-- The `k` trips before number `hi`, followed by `K`. -/
def trips {α : Type} (hi : ℕ) (hh : hi ≤ 640) : (k : ℕ) → k ≤ hi → Pg F α → Pg F α
  | 0, _, K => K
  | k + 1, hk, K => trip arg1 arg4 arg6 (hi - (k + 1)) (by omega) (trips hi hh k (by omega) K)

end

/-! ## The two ends -/

/-- The selection matrix, from the points' ids: row `p` is one on the four lanes of the place of point `p`'s voxel
    within its table row, and zero everywhere if the point has no voxel. -/
def selMat (v0 : Vec F S1x1x640 .i32) : FVec F S640x128 .f32 :=
  have v1 : IVec S1x640 32 := shapeCast S1x640 v0 Shapes1.Facts₀.shapeCasts_S1x1x640_S1x640
  have v15 : FVec F S32x640 .f32 :=
    select (andi (cmpi .eq
        (broadcastTo S32x640 (shapeCast S1x640 (andi v1 (broadcast S1x640 31#32)) Shapes1.Facts₀.shapeCasts_S1x640_S1x640)
          Shapes1.Facts₀.broadcasts_S1x640_S32x640)
        (iota .tc S32x640 32 [0] Shapes1.Facts₀.iota_S32x640_d0_w32))
      (cmpi .sge (broadcastTo S32x640 (shapeCast S1x640 v1 Shapes1.Facts₀.shapeCasts_S1x640_S1x640)
          Shapes1.Facts₀.broadcasts_S1x640_S32x640) (broadcast S32x640 0#32)))
      (broadcast S32x640 (Scalar.ofBits .f32 0x3F800000#32)) (broadcast S32x640 (Scalar.ofBits .f32 0x00000000#32))
  have v23 : FVec F S32x128 .f32 :=
    select (cmpi .eq (shrsi (iota .tc S32x128 32 [1] Shapes1.Facts₀.iota_S32x128_d1_w32) (broadcast S32x128 2#32))
        (iota .tc S32x128 32 [0] Shapes1.Facts₀.iota_S32x128_d0_w32))
      (broadcast S32x128 (Scalar.ofBits .f32 0x3F800000#32)) (broadcast S32x128 (Scalar.ofBits .f32 0x00000000#32))
  matmul dot_S32x640_S32x128_S640x128_0_0_1_1_n_n none v15 v23 (constant S640x128 .f32 0x00000000#32)

/-- What the body stores, from the scratch block, the selection matrix and the weights. -/
def outBlock (x sel : FVec F S640x128 .f32) (w : Vec F S128x32 .f32) : FVec F S640x32 .f32 :=
  maximumf (matmul dot_S640x128_S128x32_S640x32_1_0_0_1_n_n none (mulf x sel) w (constant S640x32 .f32 0x00000000#32))
    (broadcast S640x32 (Scalar.ofBits .f32 0x00000000#32))

/-- The end of the body: the scratch block is read whole, kept where the selection matrix is one, multiplied by the
    weights and stored with its negative entries cut off. -/
def close (arg3 : Memref sig .tc .vmem S128x32 .f32) (arg5 : Memref sig .tc .vmem S640x32 .f32)
    (arg6 : Memref sig .tc .vmem S640x128 .f32) (sel : FVec F S640x128 .f32) : Pg F PUnit :=
  Prog.op (.load arg6 (Rect.unit (s := S640x128) ![0, 0] S640x128.size Shapes2.Facts₀.inb_S640x128_S640x128_0_0).toLoadRect
      (View.loadsAt_vmem Shapes2.Facts₀.h_S640x128)) fun (x : Vec F S640x128 .f32) =>
  Prog.op (.load arg3 (Rect.unit (s := S128x32) ![0, 0] S128x32.size Shapes2.Facts₀.inb_S128x32_S128x32_0_0).toLoadRect
      (View.loadsAt_vmem Shapes2.Facts₀.h_S128x32)) fun (w : Vec F S128x32 .f32) =>
  Prog.op (.load arg5 (Rect.unit (s := S640x32) ![0, 0] S640x32.size Shapes2.Facts₀.inb_S640x32_S640x32_0_0).toLoadRect
      (View.loadsAt_vmem Shapes2.Facts₀.h_S640x32)) fun _ =>
  Prog.op (.store arg5 (Rect.unit (s := S640x32) ![0, 0] S640x32.size Shapes2.Facts₀.inb_S640x32_S640x32_0_0)
      (outBlock x sel w) Finset.univ (View.stores_vmem_bits_univ Shapes2.Facts₀.h_S640x32 rfl) (.inl rfl)) .ret

/-! ## The printed body -/

/-- The printed body is the selection matrix's load, the 640 trips, and the end. -/
theorem body_eq (i : grid1.Coords) (arg1 : Memref sig .tc .smem S1x1x640 .i32) (harg1 : arg1.IsWhole) (arg2 : Memref sig .tc .vmem S1x1x640 .i32) (harg2 : arg2.IsWhole) (arg3 : Memref sig .tc .vmem S128x32 .f32) (harg3 : arg3.IsWhole) (arg4 : Memref sig .tc .vmem S12800x128 .f32) (harg4 : arg4.IsWhole) (arg5 : Memref sig .tc .vmem S640x32 .f32) (harg5 : arg5.IsWhole) (arg6 : Memref sig .tc .vmem S640x128 .f32) (harg6 : arg6.IsWhole) :
    cc1__gather_body (F := F) i arg1 harg1 arg2 harg2 arg3 harg3 arg4 harg4 arg5 harg5 arg6 harg6
      = Prog.op (.load arg2 (Rect.unit (s := S1x1x640) ![0, 0, 0] S1x1x640.size Shapes1.Facts₀.inb_S1x1x640_S1x1x640_0_0_0).toLoadRect (View.loadsAt_vmem Shapes1.Facts₀.h_S1x1x640))
        fun v0 => trips arg1 arg4 arg6 640 le_rfl 640 le_rfl (close arg3 arg5 arg6 (selMat v0)) := by
  chain_rfl

end Cert.KernelIdeal.Gather
-- ==== Proof.KernelIdeal.Body.lean ====
module

public import proofs.«01_k».proof.Proof.KernelIdeal.Trips
public import Idealize.ShloMosaic.Lib.Pipeline.FrameBody
public import Idealize.ShloMosaic.Lib.Pipeline.Frame
public import Idealize.ShloMosaic.Lib.WritesUnit
public import Idealize.ShloMosaic.Lib.ValueIdxCore
public import Idealize.ShloMosaic.Lib.VecWindow
public import Idealize.ShloMosaic.Lib.Pipeline.Value

/-!
# What the gather kernel's body leaves in its output block

The 640 trips fill the scratch block row by row; the proof is one trip at a symbolic number and an
induction on the trips left. The body then leaves in the output block a term over the input blocks.
-/

@[expose] public section

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-! ## Loads and stores of a memref held at given contents -/

/-- A load of a memref held at `X` continues at the part of `X` it reads. -/
theorem wp_ld (c : Dev nD) (E : Set ℕ) {α : Type} {sp : CoreSpace} {s : Shape} {e : EltTy} (m : Memref sig .tc sp s e)
    (r : Rect s) (hl : m.view.LoadsAt r.toLoadRect) (k : (r.toLoadRect.shape.Idx → Elt F e) → Pg F α) (X : s.Idx → Elt F e)
    (Q : α → sProp 𝕄) (R : sProp 𝕄)
    (h : iprop(owns (c : Thread nD τ) m fullShare X ∗ R) ⊢ wp frame (wpE (defs₀ (F := F)) Variants.none c none) E (k (View.ld X r)) Q) :
    iprop(owns (c : Thread nD τ) m fullShare X ∗ R)
      ⊢ wp frame (wpE (defs₀ (F := F)) Variants.none c none) E (Prog.op (.load m r.toLoadRect hl) k) Q := by
  unfold owns at h ⊢
  iintro ⟨⟨%f, %hf, H⟩, HR⟩
  subst hf
  iapply (wp_load Variants.none (c : Thread nD τ) none E (m := m) (r := r.toLoadRect) (hl := hl) (k := k) (Q := Q) (f := f)
    (S := m.view.set) (q := fullShare) (m.view.setOn_subset_set _)) $$ H
  iintro H
  iapply h
  isplitl [H]
  · iexists f; isplitr; · ipureintro; rfl
    iexact H
  iexact HR

/-- A load of a memref whole continues at all of `X`. -/
theorem wp_ld_full (c : Dev nD) (E : Set ℕ) {α : Type} {sp : CoreSpace} {s : Shape} {e : EltTy} (m : Memref sig .tc sp s e)
    {off : Fin s.rank → ℕ} (inb : ∀ a, off a + s.size a ≤ s.size a)
    (hl : m.view.LoadsAt (Rect.unit off s.size inb).toLoadRect) (k : (s.Idx → Elt F e) → Pg F α) (X : s.Idx → Elt F e)
    (hoff : off = fun _ => 0) (Q : α → sProp 𝕄) (R : sProp 𝕄)
    (h : iprop(owns (c : Thread nD τ) m fullShare X ∗ R) ⊢ wp frame (wpE (defs₀ (F := F)) Variants.none c none) E (k X) Q) :
    iprop(owns (c : Thread nD τ) m fullShare X ∗ R)
      ⊢ wp frame (wpE (defs₀ (F := F)) Variants.none c none) E (Prog.op (.load m (Rect.unit off s.size inb).toLoadRect hl) k) Q := by
  refine wp_ld c E m (Rect.unit off s.size inb) hl k X Q R ?_
  have e : (View.ld X (Rect.unit off s.size inb) : s.Idx → Elt F e) = X := View.ld_unit_zero hoff inb X
  rw [show k (View.ld X (Rect.unit off s.size inb)) = k X from congrArg k e]
  exact h

/-- A store into a memref held at `X` continues with it at what the store leaves. -/
theorem wp_st (c : Dev nD) (E : Set ℕ) {α : Type} {sp : CoreSpace} {s : Shape} {e : EltTy} (m : Memref sig .tc sp s e)
    (r : Rect s) (w : r.shape.Idx → Elt F e) (hx : (m.access r).Stores Finset.univ)
    (hm : Finset.univ = Finset.univ ∨ ∀ a, r.stride a = 1) (k : PUnit → Pg F α) (X Y : s.Idx → Elt F e)
    (hY : ∀ f, m.view.read (Elt F) f = X → m.view.read (Elt F) (m.view.writes (Elt F) f [⟨r, w⟩]) = Y)
    (Q : α → sProp 𝕄) (R : sProp 𝕄)
    (h : iprop(owns (c : Thread nD τ) m fullShare Y ∗ R) ⊢ wp frame (wpE (defs₀ (F := F)) Variants.none c none) E (k ⟨⟩) Q) :
    iprop(owns (c : Thread nD τ) m fullShare X ∗ R)
      ⊢ wp frame (wpE (defs₀ (F := F)) Variants.none c none) E (Prog.op (.store m r w Finset.univ hx hm) k) Q := by
  unfold owns at h ⊢
  iintro ⟨⟨%f, %hf, H⟩, HR⟩
  iapply (wp_store_writes₀ Variants.none (c : Thread nD τ) none E (m := m) (r := r) (w := w) (hx := hx) (hm := hm) (k := k) (Q := Q) (f := f)
    (S := m.view.set) (m.view.set_slice_subset r)) $$ H
  iintro H
  iapply h
  isplitl [H]
  · iexists _; isplitr; swap; · iexact H
    ipureintro; exact hY f hf
  iexact HR

/-! ## The scratch block -/

/-- The row number the body reads at trip `n`. -/
def word (jw : Vec F S1x1x640 .i32) (n : ℕ) (h : n < 640) : BitVec 32 := View.ld jw (wordRect n h) (wordAt n h)

/-- Every row number names eight rows of the table. -/
def WordsOK (jw : Vec F S1x1x640 .i32) : Prop := ∀ (n : ℕ) (h : n < 640), k1_chk1 (word (F := F) jw n h)

/-- Row `n` of the scratch block after trip `n`. -/
def scrRow (jw : Vec F S1x1x640 .i32) (tab : Vec F S12800x128 .f32) (hw : WordsOK (F := F) jw) (n : ℕ) (h : n < 640) :
    FVec F S1x128 .f32 :=
  picked n (word (F := F) jw n h) (View.ld tab (tabRect (word (F := F) jw n h) (hw n h)))

/-- The scratch block after all the trips. -/
def scr (jw : Vec F S1x1x640 .i32) (tab : Vec F S12800x128 .f32) (hw : WordsOK (F := F) jw) : FVec F S640x128 .f32 :=
  fun y => scrRow jw tab hw (y 0).val (y 0).isLt (ix2 0 (y 1))

/-- `X` with row `n` replaced. -/
def setRow (X : FVec F S640x128 .f32) (n : ℕ) (w : FVec F S1x128 .f32) : FVec F S640x128 .f32 :=
  fun y => if (y 0).val = n then w (ix2 0 (y 1)) else X y

theorem read_setRow {sp : Space} (m : Memref sig .tc sp S640x128 .f32) (n : ℕ) (h : n < 640) (w : FVec F S1x128 .f32)
    (X : FVec F S640x128 .f32) (f) (hf : m.view.read (Elt F) f = X) :
    m.view.read (Elt F) (m.view.writes (Elt F) f [⟨rowRect n h, w⟩]) = setRow X n w := by
  subst hf
  funext y
  unfold setRow
  by_cases hy : (y 0).val = n
  · rw [if_pos hy]
    exact View.read_writes_cons_rows_of_mem m.view f (row_inb n h) w [] y (ix2 0 (y 1)) rfl (by simpa using hy) rfl
  · rw [if_neg hy]
    exact View.read_writes_cons_rows_of_not_mem (W := 1) m.view f (row_inb n h) w [] y rfl rfl (by omega)

/-- One trip, at a symbolic number: it sets row `n` of the scratch block. -/
theorem wp_trip (c : Dev nD) (E : Set ℕ) {α : Type} (arg1 : Memref sig .tc .smem S1x1x640 .i32)
    (arg4 : Memref sig .tc .vmem S12800x128 .f32) (arg6 : Memref sig .tc .vmem S640x128 .f32)
    (jw : Vec F S1x1x640 .i32) (tab : Vec F S12800x128 .f32) (hw : WordsOK (F := F) jw) (n : ℕ) (hn : n < 640)
    (X : FVec F S640x128 .f32) (K : Pg F α) (Q : α → sProp 𝕄) (R : sProp 𝕄)
    (h : iprop(owns (c : Thread nD τ) arg1 fullShare jw ∗ owns (c : Thread nD τ) arg4 fullShare tab
        ∗ owns (c : Thread nD τ) arg6 fullShare (setRow X n (scrRow jw tab hw n hn)) ∗ R)
      ⊢ wp frame (wpE (defs₀ (F := F)) Variants.none c none) E K Q) :
    iprop(owns (c : Thread nD τ) arg1 fullShare jw ∗ owns (c : Thread nD τ) arg4 fullShare tab
        ∗ owns (c : Thread nD τ) arg6 fullShare X ∗ R)
      ⊢ wp frame (wpE (defs₀ (F := F)) Variants.none c none) E (trip arg1 arg4 arg6 n hn K) Q := by
  unfold trip ask
  refine wp_ld c E arg1 (wordRect n hn) _ _ jw Q _ ?_
  refine BIBase.Entails.trans ?_ (wp_assume Variants.none (c : Thread nD τ) none E (hw n hn))
  unfold fetch
  iintro ⟨H1, H4, H6, HR⟩
  iapply (wp_ld c E arg4 (tabRect (word (F := F) jw n hn) (hw n hn)) _ _ tab Q
    iprop(owns (c : Thread nD τ) arg1 fullShare jw ∗ owns (c : Thread nD τ) arg6 fullShare X ∗ R) ?_)
  · unfold finish peek
    iintro ⟨H4, H1, H6, HR⟩
    iapply (wp_ld c E arg6 (rowRect n hn) _ _ X Q
      iprop(owns (c : Thread nD τ) arg1 fullShare jw ∗ owns (c : Thread nD τ) arg4 fullShare tab ∗ R) ?_)
    · refine wp_st c E arg6 (rowRect n hn) _ _ _ _ X _ (read_setRow arg6 n hn _ X) Q _ ?_
      iintro ⟨H6, H1, H4, HR⟩
      iapply h
      isplitl [H1]; · iexact H1
      isplitl [H4]; · iexact H4
      isplitl [H6]; · iexact H6
      iexact HR
    isplitl [H6]; · iexact H6
    isplitl [H1]; · iexact H1
    isplitl [H4]; · iexact H4
    iexact HR
  isplitl [H4]; · iexact H4
  isplitl [H1]; · iexact H1
  isplitl [H6]; · iexact H6
  iexact HR

/-- The trips: the rows set so far hold what `scr` says. -/
theorem wp_trips (c : Dev nD) (E : Set ℕ) {α : Type} (arg1 : Memref sig .tc .smem S1x1x640 .i32)
    (arg4 : Memref sig .tc .vmem S12800x128 .f32) (arg6 : Memref sig .tc .vmem S640x128 .f32)
    (jw : Vec F S1x1x640 .i32) (tab : Vec F S12800x128 .f32) (hw : WordsOK (F := F) jw)
    (K : Pg F α) (Q : α → sProp 𝕄) (R : sProp 𝕄) (hi : ℕ) (hh : hi ≤ 640)
    (h : ∀ X : FVec F S640x128 .f32, (∀ y, (y 0).val < hi → X y = scr jw tab hw y) →
      iprop(owns (c : Thread nD τ) arg1 fullShare jw ∗ owns (c : Thread nD τ) arg4 fullShare tab
        ∗ owns (c : Thread nD τ) arg6 fullShare X ∗ R)
      ⊢ wp frame (wpE (defs₀ (F := F)) Variants.none c none) E K Q) :
    ∀ (k : ℕ) (hk : k ≤ hi) (X : FVec F S640x128 .f32), (∀ y, (y 0).val < hi - k → X y = scr jw tab hw y) →
      iprop(owns (c : Thread nD τ) arg1 fullShare jw ∗ owns (c : Thread nD τ) arg4 fullShare tab
        ∗ owns (c : Thread nD τ) arg6 fullShare X ∗ R)
      ⊢ wp frame (wpE (defs₀ (F := F)) Variants.none c none) E (trips arg1 arg4 arg6 hi hh k hk K) Q
  | 0, _, X, hX => h X hX
  | k + 1, hk, X, hX => by
    unfold trips
    refine wp_trip c E arg1 arg4 arg6 jw tab hw (hi - (k + 1)) (by omega) X _ Q R ?_
    refine wp_trips c E arg1 arg4 arg6 jw tab hw K Q R hi hh h k (by omega) _ fun y hy => ?_
    unfold setRow
    by_cases e : (y 0).val = hi - (k + 1)
    · rw [if_pos e]; unfold scr; simp only [e]
    · rw [if_neg e]; exact hX y (by omega)

theorem zero2 : (![0, 0] : Fin 2 → ℕ) = fun _ => 0 := by funext a; fin_cases a <;> rfl
theorem zero3 : (![0, 0, 0] : Fin 3 → ℕ) = fun _ => 0 := by funext a; fin_cases a <;> rfl

/-- What the body leaves in its output block. -/
def outOf (jw ids : Vec F S1x1x640 .i32) (w : Vec F S128x32 .f32) (tab : Vec F S12800x128 .f32) (hw : WordsOK (F := F) jw) :
    FVec F S640x32 .f32 :=
  outBlock (scr jw tab hw) (selMat ids) w

/-- The body on whole staging memrefs: the inputs end as they were, the output block at `outOf` of them. -/
theorem wp_body (c : Dev nD) (E : Set ℕ) (i : grid1.Coords) (arg1 : Memref sig .tc .smem S1x1x640 .i32) (harg1 : arg1.IsWhole) (arg2 : Memref sig .tc .vmem S1x1x640 .i32) (harg2 : arg2.IsWhole) (arg3 : Memref sig .tc .vmem S128x32 .f32) (harg3 : arg3.IsWhole) (arg4 : Memref sig .tc .vmem S12800x128 .f32) (harg4 : arg4.IsWhole) (arg5 : Memref sig .tc .vmem S640x32 .f32) (harg5 : arg5.IsWhole) (arg6 : Memref sig .tc .vmem S640x128 .f32) (harg6 : arg6.IsWhole)
    (jw ids : Vec F S1x1x640 .i32) (w : Vec F S128x32 .f32) (tab : Vec F S12800x128 .f32) (hw : WordsOK (F := F) jw)
    (K : PUnit → sProp 𝕄) :
    iprop(owns (c : Thread nD τ) arg1 fullShare jw ∗ owns (c : Thread nD τ) arg2 fullShare ids ∗ owns (c : Thread nD τ) arg3 fullShare w ∗ owns (c : Thread nD τ) arg4 fullShare tab ∗ (∃ d, owns (c : Thread nD τ) arg5 fullShare d) ∗ (∃ d, owns (c : Thread nD τ) arg6 fullShare d)
        ∗ (iprop(owns (c : Thread nD τ) arg1 fullShare jw ∗ owns (c : Thread nD τ) arg2 fullShare ids ∗ owns (c : Thread nD τ) arg3 fullShare w ∗ owns (c : Thread nD τ) arg4 fullShare tab ∗ owns (c : Thread nD τ) arg5 fullShare (outOf jw ids w tab hw) ∗ (∃ d, owns (c : Thread nD τ) arg6 fullShare d)) -∗ K ⟨⟩))
      ⊢ wp frame (wpE (defs₀ (F := F)) Variants.none c none) E (cc1__gather_body i arg1 harg1 arg2 harg2 arg3 harg3 arg4 harg4 arg5 harg5 arg6 harg6) K := by
  rw [body_eq]
  generalize hKK : iprop(iprop(owns (c : Thread nD τ) arg1 fullShare jw ∗ owns (c : Thread nD τ) arg2 fullShare ids ∗ owns (c : Thread nD τ) arg3 fullShare w ∗ owns (c : Thread nD τ) arg4 fullShare tab ∗ owns (c : Thread nD τ) arg5 fullShare (outOf jw ids w tab hw) ∗ (∃ d, owns (c : Thread nD τ) arg6 fullShare d)) -∗ K ⟨⟩) = KK
  iintro ⟨H1, H2, H3, H4, ⟨%d5, H5⟩, ⟨%d6, H6⟩, Hk⟩
  iapply (wp_ld_full c E arg2 _ _ _ ids zero3 K iprop(owns (c : Thread nD τ) arg1 fullShare jw ∗ owns (c : Thread nD τ) arg3 fullShare w ∗ owns (c : Thread nD τ) arg4 fullShare tab ∗ owns (c : Thread nD τ) arg5 fullShare d5 ∗ owns (c : Thread nD τ) arg6 fullShare d6 ∗ KK) ?_)
  · iintro ⟨H2, H1, H3, H4, H5, H6, Hk⟩
    iapply (wp_trips c E arg1 arg4 arg6 jw tab hw _ K iprop(owns (c : Thread nD τ) arg2 fullShare ids ∗ owns (c : Thread nD τ) arg3 fullShare w ∗ owns (c : Thread nD τ) arg5 fullShare d5 ∗ KK)
      640 le_rfl ?_ 640 le_rfl d6 (fun y hy => absurd hy (by omega)))
    · intro X hX
      obtain rfl : X = scr jw tab hw := funext fun y => hX y (y 0).isLt
      unfold close
      iintro ⟨H1, H4, H6, H2, H3, H5, Hk⟩
      iapply (wp_ld_full c E arg6 _ _ _ (scr jw tab hw) zero2 K iprop(owns (c : Thread nD τ) arg1 fullShare jw ∗ owns (c : Thread nD τ) arg2 fullShare ids ∗ owns (c : Thread nD τ) arg3 fullShare w ∗ owns (c : Thread nD τ) arg4 fullShare tab ∗ owns (c : Thread nD τ) arg5 fullShare d5 ∗ KK) ?_)
      · iintro ⟨H6, H1, H2, H3, H4, H5, Hk⟩
        iapply (wp_ld_full c E arg3 _ _ _ w zero2 K iprop(owns (c : Thread nD τ) arg1 fullShare jw ∗ owns (c : Thread nD τ) arg2 fullShare ids ∗ owns (c : Thread nD τ) arg4 fullShare tab ∗ owns (c : Thread nD τ) arg5 fullShare d5 ∗ owns (c : Thread nD τ) arg6 fullShare (scr jw tab hw) ∗ KK) ?_)
        · iintro ⟨H3, H1, H2, H4, H5, H6, Hk⟩
          iapply (wp_ld_full c E arg5 _ _ _ d5 zero2 K iprop(owns (c : Thread nD τ) arg1 fullShare jw ∗ owns (c : Thread nD τ) arg2 fullShare ids ∗ owns (c : Thread nD τ) arg3 fullShare w ∗ owns (c : Thread nD τ) arg4 fullShare tab ∗ owns (c : Thread nD τ) arg6 fullShare (scr jw tab hw) ∗ KK) ?_)
          · refine wp_st c E arg5 _ _ _ _ _ d5 (outOf jw ids w tab hw)
              (fun f _ => View.read_writes_full arg5.view f _ (outBlock (scr jw tab hw) (selMat ids) w) []) K _ ?_
            subst hKK
            iintro ⟨H5, H1, H2, H3, H4, H6, Hk⟩
            rw [wp_ret]
            imodintro
            iapply Hk
            isplitl [H1]; · iexact H1
            isplitl [H2]; · iexact H2
            isplitl [H3]; · iexact H3
            isplitl [H4]; · iexact H4
            isplitl [H5]; · iexact H5
            iexists _; iexact H6
          isplitl [H5]; · iexact H5
          isplitl [H1]; · iexact H1
          isplitl [H2]; · iexact H2
          isplitl [H3]; · iexact H3
          isplitl [H4]; · iexact H4
          isplitl [H6]; · iexact H6
          iexact Hk
        isplitl [H3]; · iexact H3
        isplitl [H1]; · iexact H1
        isplitl [H2]; · iexact H2
        isplitl [H4]; · iexact H4
        isplitl [H5]; · iexact H5
        isplitl [H6]; · iexact H6
        iexact Hk
      isplitl [H6]; · iexact H6
      isplitl [H1]; · iexact H1
      isplitl [H2]; · iexact H2
      isplitl [H3]; · iexact H3
      isplitl [H4]; · iexact H4
      isplitl [H5]; · iexact H5
      iexact Hk
    isplitl [H1]; · iexact H1
    isplitl [H4]; · iexact H4
    isplitl [H6]; · iexact H6
    isplitl [H2]; · iexact H2
    isplitl [H3]; · iexact H3
    isplitl [H5]; · iexact H5
    iexact Hk
  isplitl [H2]; · iexact H2
  isplitl [H1]; · iexact H1
  isplitl [H3]; · iexact H3
  isplitl [H4]; · iexact H4
  isplitl [H5]; · iexact H5
  isplitl [H6]; · iexact H6
  iexact Hk

end Cert.KernelIdeal.Gather
-- ==== Proof.KernelIdeal.Table.lean ====
module

public import proofs.«01_k».proof.Proof.KernelIdeal.Body

/-!
# What the table kernel's body leaves in its output block

The body adds the five slices of its first block and multiplies with the reciprocal of the second block, that one
clamped below at one.
-/

@[expose] public section

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-- The five slices of the first block added up, left to right. -/
def tblSum (x : Vec F S512x640 .f32) : FVec F S512x128 .f32 :=
  have v : FVec F S512x640 .f32 := shapeCast S512x640 x Shapes1.Facts₀.shapeCasts_S512x640_S512x640
  addf (addf (addf (addf
      (extractStridedSlice S512x128 ![0, 0] v Shapes1.Facts₀.slices_S512x640_o0_0_S512x128)
      (extractStridedSlice S512x128 ![0, 128] v Shapes1.Facts₀.slices_S512x640_o0_128_S512x128))
      (extractStridedSlice S512x128 ![0, 256] v Shapes1.Facts₀.slices_S512x640_o0_256_S512x128))
      (extractStridedSlice S512x128 ![0, 384] v Shapes1.Facts₀.slices_S512x640_o0_384_S512x128))
      (extractStridedSlice S512x128 ![0, 512] v Shapes1.Facts₀.slices_S512x640_o0_512_S512x128)

/-- The reciprocal of the second block clamped below at one. -/
def tblRecip (n : Vec F S512x128 .i32) : FVec F S512x128 .f32 :=
  divf (broadcast S512x128 (Scalar.ofBits .f32 0x3F800000#32))
    (sitofp .f32 (maxsi (shapeCast S512x128 n Shapes1.Facts₀.shapeCasts_S512x128_S512x128 : IVec S512x128 32) (broadcast S512x128 (1#32))))

/-- What the body leaves in its output block. -/
def tblOf (x : Vec F S512x640 .f32) (n : Vec F S512x128 .i32) : FVec F S512x128 .f32 := mulf (tblSum x) (tblRecip n)

/-- The body is two loads, one load whose value is not used, and one store. -/
theorem table_eq (i : grid0.Coords) (arg1 : Memref sig .tc .vmem S512x640 .f32) (harg1 : arg1.IsWhole) (arg2 : Memref sig .tc .vmem S512x128 .i32) (harg2 : arg2.IsWhole) (arg3 : Memref sig .tc .vmem S512x128 .f32) (harg3 : arg3.IsWhole) :
    (cc0__table_body i arg1 harg1 arg2 harg2 arg3 harg3 : Pg F PUnit)
      = Prog.op (.load arg1 (Rect.unit (s := S512x640) ![0, 0] S512x640.size Shapes1.Facts₀.inb_S512x640_S512x640_0_0).toLoadRect (View.loadsAt_vmem Shapes1.Facts₀.h_S512x640))
          fun (x : Vec F S512x640 .f32) => Prog.op (.load arg2 (Rect.unit (s := S512x128) ![0, 0] S512x128.size Shapes1.Facts₀.inb_S512x128_S512x128_0_0).toLoadRect (View.loadsAt_vmem Shapes1.Facts₀.h_S512x128))
          fun (n : Vec F S512x128 .i32) => Prog.op (.load arg3 (Rect.unit (s := S512x128) ![0, 0] S512x128.size Shapes1.Facts₀.inb_S512x128_S512x128_0_0).toLoadRect (View.loadsAt_vmem Shapes1.Facts₀.h_S512x128))
          fun (_ : Vec F S512x128 .f32) => Prog.op (.store arg3 (Rect.unit (s := S512x128) ![0, 0] S512x128.size Shapes1.Facts₀.inb_S512x128_S512x128_0_0) (tblOf x n) Finset.univ (View.stores_vmem_bits_univ Shapes1.Facts₀.h_S512x128 rfl) (.inl rfl))
          fun _ => Prog.ret ⟨⟩ := by
  chain_rfl

/-- The body on whole staging memrefs: the inputs end as they were, the output block at `tblOf` of them. -/
theorem wp_table (c : Dev nD) (E : Set ℕ) (i : grid0.Coords) (arg1 : Memref sig .tc .vmem S512x640 .f32) (harg1 : arg1.IsWhole) (arg2 : Memref sig .tc .vmem S512x128 .i32) (harg2 : arg2.IsWhole) (arg3 : Memref sig .tc .vmem S512x128 .f32) (harg3 : arg3.IsWhole)
    (x : Vec F S512x640 .f32) (n : Vec F S512x128 .i32) (K : PUnit → sProp 𝕄) :
    iprop(owns (c : Thread nD τ) arg1 fullShare x ∗ owns (c : Thread nD τ) arg2 fullShare n ∗ (∃ d, owns (c : Thread nD τ) arg3 fullShare d)
        ∗ (iprop(owns (c : Thread nD τ) arg1 fullShare x ∗ owns (c : Thread nD τ) arg2 fullShare n ∗ owns (c : Thread nD τ) arg3 fullShare (tblOf x n)) -∗ K ⟨⟩))
      ⊢ wp frame (wpE (defs₀ (F := F)) Variants.none c none) E (cc0__table_body i arg1 harg1 arg2 harg2 arg3 harg3) K := by
  rw [table_eq]
  generalize hKK : iprop(iprop(owns (c : Thread nD τ) arg1 fullShare x ∗ owns (c : Thread nD τ) arg2 fullShare n ∗ owns (c : Thread nD τ) arg3 fullShare (tblOf x n)) -∗ K ⟨⟩) = KK
  iintro ⟨H1, H2, ⟨%d, H3⟩, Hk⟩
  iapply (wp_ld_full c E arg1 _ _ _ x zero2 K iprop(owns (c : Thread nD τ) arg2 fullShare n ∗ owns (c : Thread nD τ) arg3 fullShare d ∗ KK) ?_)
  · iintro ⟨H1, H2, H3, Hk⟩
    iapply (wp_ld_full c E arg2 _ _ _ n zero2 K iprop(owns (c : Thread nD τ) arg1 fullShare x ∗ owns (c : Thread nD τ) arg3 fullShare d ∗ KK) ?_)
    · iintro ⟨H2, H1, H3, Hk⟩
      iapply (wp_ld_full c E arg3 _ _ _ d zero2 K iprop(owns (c : Thread nD τ) arg1 fullShare x ∗ owns (c : Thread nD τ) arg2 fullShare n ∗ KK) ?_)
      · refine wp_st c E arg3 _ _ _ _ _ d (tblOf x n) (fun f _ => View.read_writes_full arg3.view f _ (tblOf x n) []) K _ ?_
        subst hKK
        iintro ⟨H3, H1, H2, Hk⟩
        rw [wp_ret]
        imodintro
        iapply Hk
        isplitl [H1]; · iexact H1
        isplitl [H2]; · iexact H2
        iexact H3
      isplitl [H3]; · iexact H3
      isplitl [H1]; · iexact H1
      isplitl [H2]; · iexact H2
      iexact Hk
    isplitl [H2]; · iexact H2
    isplitl [H1]; · iexact H1
    isplitl [H3]; · iexact H3
    iexact Hk
  isplitl [H1]; · iexact H1
  isplitl [H2]; · iexact H2
  isplitl [H3]; · iexact H3
  iexact Hk

end Cert.KernelIdeal.Gather
-- ==== Proof.KernelIdeal.Regions.lean ====
module

public import proofs.«01_k».proof.Proof.KernelIdeal.Table
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameSuffix

/-!
# The two kernel regions, at any contents they are entered from

Each region's proof data: the arrays as the region finds them, each input's staging buffer at its block, the output's at
what the body leaves of the input blocks. The gather region needs every row number in range; its output is stated
without that condition and the condition is asked for where the body runs.
-/

@[expose] public section

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The table region -/

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table region's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => tblOf (blk0 V c 0 t) (blk0 V c 1 t)
  Φ _ := Pipeline.ΦA spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = tblOf (blk0 V c 0 t) (blk0 V c 1 t) := by
  dsimp only [dat0]

/-- Input 0's staging buffer holds its block when the body runs. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)
/-- Input 1's staging buffer holds its block when the body runs. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)

/-- What the table body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the table body returns at point `t`. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (wp_table c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

/-- The table body meets its proof data at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-! ## The gather region -/

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

open Classical in
/-- What the gather body leaves in its output block, stated for any row numbers. -/
def outD (jw ids : Vec F S1x1x640 .i32) (w : Vec F S128x32 .f32) (tab : Vec F S12800x128 .f32) : FVec F S640x32 .f32 :=
  if h : WordsOK (F := F) jw then outOf jw ids w tab h else fun _ => Scalar.ofBits .f32 0#32

theorem outD_of (jw ids : Vec F S1x1x640 .i32) (w : Vec F S128x32 .f32) (tab : Vec F S12800x128 .f32) (h : WordsOK (F := F) jw) :
    outD jw ids w tab = outOf jw ids w tab h := by unfold outD; rw [dif_pos h]

/-- The gather region's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outD (blk1 V c 0 t) (blk1 V c 1 t) (blk1 V c 2 t) (blk1 V c 3 t)
  Φ _ := Pipeline.ΦA spec1 c
  q _ := fullShare
  owed _ := 0

theorem A1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = outD (blk1 V c 0 t) (blk1 V c 1 t) (blk1 V c 2 t) (blk1 V c 3 t) := by dsimp only [dat1]

/-- Input 0's staging buffer holds its block when the body runs. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)
/-- Input 1's staging buffer holds its block when the body runs. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)
/-- Input 2's staging buffer holds its block when the body runs, fetched there or not. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A1]; try rfl) t d).trans
    (by unfold Dat.fetched Dat.blockOf blk1; rw [A1]; try rfl)
/-- Input 3's staging buffer holds its block when the body runs, fetched there or not. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A1]; try rfl) t d).trans
    (by unfold Dat.fetched Dat.blockOf blk1; rw [A1]; try rfl)

/-- The scratch block as a memref. -/
abbrev scM : Memref sig .tc .vmem S640x128 .f32 := Memref.whole cc1_scratch0

/-- The gather region's invariant with the scratch block as a memref held at some contents. -/
theorem inv1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- What the gather body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the gather body returns at point `t`. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound1 (c : Dev nD) (t : Fin cfg1.N) (hw : WordsOK (F := F) (blk1 V c 0 t)) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, outD_of _ _ _ _ hw]
  rw [show (dat1 V c).Φ t.castSucc = Pipeline.ΦA spec1 c from rfl, inv1_eq]
  iintro ⟨⟨⟨HR0, HR1, HR2, HR3, HR4, HR5, HS⟩, Hg⟩, Ho, ⟨%d0, H0⟩, ⟨%d1, H1⟩, ⟨%d2, H2⟩, ⟨%d3, H3⟩, ⟨%d4, H4⟩⟩
  iapply (wp_body c Set.univ (grid1.coords t) _ _ _ _ _ _ _ _ _ _ _ _ (blk1 V c 0 t) (blk1 V c 1 t) (blk1 V c 2 t) (blk1 V c 3 t) hw _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HR0 HR1 HR2 HR3 HR4 HR5 HS Hg]
  · isplitl [HR0 HR1 HR2 HR3 HR4 HR5 HS]
    · isplitl [HR0]; · iexact HR0
      isplitl [HR1]; · iexact HR1
      isplitl [HR2]; · iexact HR2
      isplitl [HR3]; · iexact HR3
      isplitl [HR4]; · iexact HR4
      isplitl [HR5]; · iexact HR5
      iexact HS
    iexact Hg
  isplitl [Ho]; · iexact Ho
  isplitl [H0]; · iexact H0
  isplitl [H1]; · iexact H1
  isplitl [H2]; · iexact H2
  isplitl [H3]; · iexact H3
  iexact H4

theorem row1 (t : Fin cfg1.N) : defs₀ (F := F) .tc cfg1.body (cfg1.bodyArgs t (cfg1.slots t)) = bodyAt1 t := by
  unfold defs₀; rw [Defs.onTc_tc]

/-- The gather body meets its proof data at every point, the row numbers of every block in range. -/
theorem obligation1 (c : Dev nD) (hw : ∀ t, WordsOK (F := F) (blk1 V c 0 t)) :
    BodyObligation (dat1 (F := F) V c) (defs₀ (F := F)) Variants.none () Set.univ := fun t => by
  rw [bigSep_W1, bigSep_W1, row1]
  exact triple_restated (sound1 V c t (hw t)) rfl .rfl fun _ => .rfl

end Cert.KernelIdeal.Gather
-- ==== Proof.KernelIdeal.Run.lean ====
module

public import proofs.«01_k».proof.Proof.KernelIdeal.Regions
public import proofs.«01_k».proof.Proof.Gen.KernelIdeal.Regions

/-!
# The run of the whole program

The buffer contents at every boundary between the host stretches and the two regions, the regions as segments, and the
launch: every fair execution terminates, the arguments end as launched, every counter at zero, and the result holds what
the gather region's write-backs leave.
-/

@[expose] public section

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal
open Cert.KernelIdeal.Gen hiding V6 V7 V8 V9 V10 V6_of V7_of V8_of V9_of V10_of segs adm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- The table region's entry contents, by reference. -/
abbrev E5 : (c : Dev nD) → (b : Ref sig .tc) → Buf (Elt F) ((c : Thread nD τ).loc b) := fun c b => V5 m c b

/-- After the table region: its arrays at what the write-backs leave, every other buffer as entered. -/
def W6 (c : Dev nD) : Valuation τ sig (Elt F) :=
  Pipeline.withArrays spec0 c (V5 m c) fun w => (dat0 (E5 m) c).arrAt w cfg0.N
/-- After the first stretch between the regions. -/
abbrev W7 (c : Dev nD) : Valuation τ sig (Elt F) := StableHlo.after hostOps1 (W6 m c)
/-- After the second stretch between the regions. -/
abbrev W8 (c : Dev nD) : Valuation τ sig (Elt F) := StableHlo.after hostOps1_1 (W7 m c)
/-- After the third stretch between the regions. -/
abbrev W9 (c : Dev nD) : Valuation τ sig (Elt F) := StableHlo.after hostOps1_2 (W8 m c)
/-- The gather region's entry contents, by reference. -/
abbrev E9 : (c : Dev nD) → (b : Ref sig .tc) → Buf (Elt F) ((c : Thread nD τ).loc b) := fun c b => W9 m c b
/-- After the gather region. -/
def W10 (c : Dev nD) : Valuation τ sig (Elt F) :=
  Pipeline.withArrays spec1 c (W9 m c) fun w => (dat1 (E9 m) c).arrAt w cfg1.N

theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
theorem W10_arr (c : Dev nD) (w : Fin cfg1.W) :
    W10 m c (Proc.devRef .tc (Pipeline.arrRef spec1 w)) = (dat1 (E9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
theorem W7_of (c : Dev nD) (r : Ref sig .tc) (h : r ∉ hostOps1_W) : W7 m c r = W6 m c r :=
  StableHlo.after_of_writes_sub hostOps1 _ hostOps1_writes h
theorem W8_of (c : Dev nD) (r : Ref sig .tc) (h : r ∉ hostOps1_1_W) : W8 m c r = W7 m c r :=
  StableHlo.after_of_writes_sub hostOps1_1 _ hostOps1_1_writes h
theorem W9_of (c : Dev nD) (r : Ref sig .tc) (h : r ∉ hostOps1_2_W) : W9 m c r = W8 m c r :=
  StableHlo.after_of_writes_sub hostOps1_2 _ hostOps1_2_writes h

/-- @main's arguments. -/
abbrev args : List (Ref sig .tc) := [main_arg0, main_arg1, main_arg2, main_arg3]

/-- No item writes an argument: they are as launched when the table region is entered, -/
theorem V5_args (c : Dev nD) : ∀ a ∈ args, V5 m c (Proc.devRef .tc a) = m ((c : Thread nD τ).loc a) := fun a ha =>
  (V5_of m c a ((ListAll.forall_mem_of_all_decide (by decide +kernel) : ∀ a ∈ args, a ∉ hostOps0_4_W) a ha)).trans <|
  (V4_of m c a ((ListAll.forall_mem_of_all_decide (by decide +kernel) : ∀ a ∈ args, a ∉ hostOps0_3_W) a ha)).trans <|
  (V3_of m c a ((ListAll.forall_mem_of_all_decide (by decide +kernel) : ∀ a ∈ args, a ∉ hostOps0_2_W) a ha)).trans <|
  (V2_of m c a ((ListAll.forall_mem_of_all_decide (by decide +kernel) : ∀ a ∈ args, a ∉ hostOps0_1_W) a ha)).trans <|
  (V1_of m c a ((ListAll.forall_mem_of_all_decide (by decide +kernel) : ∀ a ∈ args, a ∉ hostOps0_W) a ha)).trans rfl

/-- after it, -/
theorem W6_args (c : Dev nD) (a : Ref sig .tc) (ha : a ∈ args) : W6 m c (Proc.devRef .tc a) = m ((c : Thread nD τ).loc a) :=
  (W6_of_ne m c a ((ListAll.forall_mem_of_all_decide (by decide +kernel) :
    ∀ a ∈ args, ∀ w, Pipeline.arrRef spec0 w ≠ a) a ha)).trans (V5_args m c a ha)

/-- when the gather region is entered, -/
theorem W9_args (c : Dev nD) (a : Ref sig .tc) (ha : a ∈ args) : W9 m c (Proc.devRef .tc a) = m ((c : Thread nD τ).loc a) :=
  (W9_of m c a ((ListAll.forall_mem_of_all_decide (by decide +kernel) : ∀ a ∈ args, a ∉ hostOps1_2_W) a ha)).trans <|
  (W8_of m c a ((ListAll.forall_mem_of_all_decide (by decide +kernel) : ∀ a ∈ args, a ∉ hostOps1_1_W) a ha)).trans <|
  (W7_of m c a ((ListAll.forall_mem_of_all_decide (by decide +kernel) : ∀ a ∈ args, a ∉ hostOps1_W) a ha)).trans <|
  W6_args m c a ha

/-- and at the end. -/
theorem W10_args (c : Dev nD) (a : Ref sig .tc) (ha : a ∈ args) : W10 m c (Proc.devRef .tc a) = m ((c : Thread nD τ).loc a) :=
  (W10_of_ne m c a ((ListAll.forall_mem_of_all_decide (by decide +kernel) :
    ∀ a ∈ args, ∀ w, Pipeline.arrRef spec1 w ≠ a) a ha)).trans (W9_args m c a ha)

/-! ## The segments -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E9 m) c

/-- No level is assigned: no core owes another anything. -/
abbrev noLev : GSem nD τ sig → Finset Unit := fun _ => ∅
abbrev zeroLv : GSem nD τ sig → Unit → ℕ := fun _ _ => 0

/-- What rides beside the buffers: the generator register at some state, and nothing owed. -/
abbrev Rest (c : Dev nD) : sProp 𝕄 := iprop((∃ r, prngReg c r) ∗ ∃ W, owes (c : Thread nD τ) (0 : CellTallies nD τ sig Unit) W)

/-- A host stretch as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev zeroLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the nothing owed. -/
abbrev Last (c : Dev nD) : sProp 𝕄 := iprop(StableHlo.held (c : Thread nD τ) (Pipeline.ucRefs τ sig) (W10 m c) ∗ ∃ r, prngReg c r)

-- the library's lemmas are stated over the pinned configuration; unification unfolds it in a metavariable's type
set_option backward.isDefEq.respectTransparency.types false in
/-- The table region as a segment. -/
def reg0 : Pipeline.RegionSeg (pcfgs (F := F)) adm (pdats m) () defs₀ Variants.none noLev zeroLv 0 where
  win := launch0.win.to₀
  block_pos := launch0.block_pos
  stage_whole := launch0.stage_whole
  K := PEmpty
  osem k := k.elim
  ho := Pipeline.OwnSemFacts.none _
  hbody c := (obligation0 (E5 m) c).loose
  hwaits := Pipeline.hwaits_of_owed_zero _ _ _ _ noLev zeroLv 0 fun _ _ => rfl
  pre c := iprop(StableHlo.held (c : Thread nD τ) (Pipeline.ucRefs τ sig) (V5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) (A0 (E5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b => W6 m c b) ((pdats m 0 c).arrAt · cfg0.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Every row number the gather region reads is in range. -/
def RowsOK : Prop := ∀ c t, WordsOK (F := F) (blk1 (E9 m) c 0 t)

variable (hok : RowsOK m)

set_option backward.isDefEq.respectTransparency.types false in
/-- The gather region as a segment, every row number in range. -/
def reg1 : Pipeline.RegionSeg (pcfgs (F := F)) adm (pdats m) () defs₀ Variants.none noLev zeroLv 1 where
  win := launch1.win.to₀
  block_pos := launch1.block_pos
  stage_whole := launch1.stage_whole
  K := PEmpty
  osem k := k.elim
  ho := Pipeline.OwnSemFacts.none _
  hbody c := (obligation1 (E9 m) c (hok c)).loose
  hwaits := Pipeline.hwaits_of_owed_zero _ _ _ _ noLev zeroLv 1 fun _ _ => rfl
  pre c := iprop(StableHlo.held (c : Thread nD τ) (Pipeline.ucRefs τ sig) (W9 m c) ∗ Rest c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) (A1 (E9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (fun b => W10 m c b) ((pdats m 1 c).arrAt · cfg1.N) (fun w => (W10_arr m c w).symm)
      (fun b hb => W10_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's items in order. -/
abbrev segs : List (Pipeline.Seg (pcfgs (F := F)) adm (pdats m) () defs₀ Variants.none noLev zeroLv) :=
  [ .host (stretch hostOps0 hostOps0_sub hostOps0_fresh (V0 m)),
    .host (stretch hostOps0_1 hostOps0_1_sub hostOps0_1_fresh (V1 m)),
    .host (stretch hostOps0_2 hostOps0_2_sub hostOps0_2_fresh (V2 m)),
    .host (stretch hostOps0_3 hostOps0_3_sub hostOps0_3_fresh (V3 m)),
    .host (stretch hostOps0_4 hostOps0_4_sub hostOps0_4_fresh (V4 m)),
    .region (reg0 m),
    .host (stretch hostOps1 hostOps1_sub hostOps1_fresh (W6 m)),
    .host (stretch hostOps1_1 hostOps1_1_sub hostOps1_1_fresh (W7 m)),
    .host (stretch hostOps1_2 hostOps1_2_sub hostOps1_2_fresh (W8 m)),
    .region (reg1 m hok) ]

/-- @main is the run of its items. -/
theorem main_run (c : Dev nD) : main (F := F) c = Pipeline.Seg.run (segs m hok) := (main_chain c).trans (by chain_rfl)

include hok in
set_option backward.isDefEq.respectTransparency.types false in
/-- Every fair execution terminates, the arguments end as launched, the result holds what the gather region's write-backs
    leave, and every counter is at zero. -/
theorem run : θ_run defs (onTc (τ := τ) (main (F := F))) ⟨m, fun _ => 0, ρ⟩ (fun r => (∀ c : Dev nD,
      r.2.mem ((c.tc : Thread nD τ).loc main_v19) = (dat1 (E9 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m) () cellOf_inj emb₁ defs₀ Variants.none noLev zeroLv m ρ main (segs m hok)
    (fun c Q => by rw [main_run m hok c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Last m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLev zeroLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h hz => ⟨(fun c =>
      ⟨(h c _ (mem_uc main_v19 (by decide))).trans (W10_arr m c 4),
       (h c _ (mem_uc main_arg0 (by decide))).trans (W10_args m c main_arg0 (by decide)),
       (h c _ (mem_uc main_arg1 (by decide))).trans (W10_args m c main_arg1 (by decide)),
       (h c _ (mem_uc main_arg2 (by decide))).trans (W10_args m c main_arg2 (by decide)),
       (h c _ (mem_uc main_arg3 (by decide))).trans (W10_args m c main_arg3 (by decide))⟩),
      funext fun g => hz g (.inr (regions_no_unscoped g.2))⟩)

end Cert.KernelIdeal.Gather
-- ==== Proof.Ids.lean ====
module

public import proofs.«01_k».proof.Pre_ids_in_range
public import Idealize.ShloMosaic.Lib.ReduceAll
public import Idealize.ShloMosaic.PureOps

/-!
# Voxel ids

What the precondition says of a point's id: it lies below the number of voxels. A negative one marks a point outside the
grid. From an id the kernel computes a row number of the table by clamping it below at zero and shifting it down by five
bits.
-/

@[expose] public section

noncomputable section

namespace Cert.Ids

open Idealize.ShloMosaic

/-! ## Words -/

/-- The ids the precondition allows. -/
def IdOK (v : BitVec 32) : Prop := v.toInt < 400000

/-- The id clamped below at zero. -/
def vox (v : BitVec 32) : ℕ := if 0 ≤ v.toInt then v.toNat else 0

theorem vox_lt {v : BitVec 32} (h : IdOK v) : vox v < 400000 := by
  unfold vox
  split
  · next h0 => have : v.toInt < 400000 := h; rw [BitVec.toInt_eq_toNat_cond] at this h0; split at this <;> omega
  · omega

/-- The row number of an id. -/
def rowWord (v : BitVec 32) : BitVec 32 := IntOp.shrsi .host (Scalar.select (IntOp.cmpi .sge v 0#32) v 0#32) 5#32

theorem clamp_toNat (v : BitVec 32) : (Scalar.select (IntOp.cmpi .sge v 0#32) v 0#32).toNat = vox v := by
  unfold vox Scalar.select IntOp.cmpi
  by_cases h : 0 ≤ v.toInt
  · rw [if_pos h]; simp [BitVec.sle, h]
  · rw [if_neg h]; simp [BitVec.sle, h]

theorem shr_toNat (v : BitVec 32) (n : ℕ) (hn : n < 32) (h : v.toNat < 2 ^ 31) :
    (v.sshiftRight' (BitVec.ofNat 32 n)).toNat = v.toNat / 2 ^ n := by
  have hm : v.msb = false := by rw [BitVec.msb_eq_false_iff_two_mul_lt]; omega
  rw [BitVec.sshiftRight', BitVec.sshiftRight_eq_of_msb_false hm, BitVec.toNat_ushiftRight,
    BitVec.toNat_ofNat, Nat.mod_eq_of_lt (by omega), Nat.shiftRight_eq_div_pow]

theorem rowWord_toNat {v : BitVec 32} (h : IdOK v) : (rowWord v).toNat = vox v / 32 := by
  unfold rowWord IntOp.shrsi
  rw [if_pos (by decide)]
  have := vox_lt h
  rw [show (5#32 : BitVec 32) = BitVec.ofNat 32 5 from rfl, shr_toNat _ 5 (by decide) (by rw [clamp_toNat]; omega), clamp_toNat]
  rfl

theorem base_toNat {v : BitVec 32} (h : v.toNat < 12500) :
    (Scalar.shli (Scalar.shrsi v 3#32) 3#32).toNat = v.toNat / 8 * 8 := by
  unfold Scalar.shli Scalar.shrsi IntOp.shli IntOp.shrsi
  rw [if_pos (by decide), if_pos (by decide), BitVec.shiftLeft_eq', BitVec.toNat_shiftLeft,
    show (3#32 : BitVec 32) = BitVec.ofNat 32 3 from rfl, shr_toNat _ 3 (by decide) (by omega)]
  simp only [BitVec.toNat_ofNat, Nat.shiftLeft_eq, Nat.reducePow, Nat.reduceMod]
  omega

/-! ## The precondition read at a point -/

theorem idOK_of_pre {F : FTy → Type} [FloatOps F] [Cert.Pre_ids_in_range.Facts]
    (x0 : FVec F Pre_ids_in_range.S400000x5x4 .f32) (x1 : IVec Pre_ids_in_range.S400000 32)
    (x2 : IVec Pre_ids_in_range.S2000000 32) (x3 : FVec F Pre_ids_in_range.S4x32 .f32)
    (h : Cert.Pre_ids_in_range.fn x0 x1 x2 x3 = fun _ => 1#1) (i : Pre_ids_in_range.S2000000.Idx) : IdOK (x2 i) := by
  have ofBool_eq_one (p : Bool) : (BitVec.ofBool p = 1#1) ↔ p = true := by cases p <;> decide
  haveI : Subsingleton Pre_ids_in_range.S_.Idx := ⟨fun a b => funext fun k => k.elim0⟩
  have e := Host.reduce_andi_all _ _ _ _ _ (congrFun h (fun k => k.elim0)) i
  simp only [cmpi, broadcastInDim, constantI, IntOp.cmpi, ofBool_eq_one] at e
  rw [BitVec.slt, decide_eq_true_eq] at e
  exact e

end Cert.Ids
-- ==== Proof.KernelIdeal.Words.lean ====
module

public import proofs.«01_k».proof.Proof.KernelIdeal.Run
public import proofs.«01_k».proof.Proof.Ids

/-!
# The row numbers the gather region reads

A point's voxel id, below the number of voxels, gives the row number: the id clamped below at zero and
shifted down by five bits. Every row number lies in the part of the table the voxels fill, so the condition the body
assumes of each of them holds.
-/

@[expose] public section

noncomputable section

namespace Cert.KernelIdeal.Gather

open Idealize.ShloMosaic Idealize.ShloMosaic.TcCoe
open Idealize.ShloMosaic.ValueIdx
open Cert.KernelIdeal Cert.Ids
open Cert.KernelIdeal.Gen hiding V6 V7 V8 V9 V10 V6_of V7_of V8_of V9_of V10_of segs adm

variable {F : FTy → Type} [FloatOps F]

/-! ## Words -/

/-- The first of the eight table rows loaded for row `v`. -/
theorem off_eq {v : BitVec 32} (h : v.toNat < 12500) : k1_off1 v = ![v.toNat / 8 * 8, 0] := by
  unfold k1_off1
  simp only [Scalar.indexCast]
  rw [base_toNat h]

theorem chk_of_lt {v : BitVec 32} (h : v.toNat < 12500) : k1_chk1 v := by
  refine ⟨?_, fun a => ?_⟩
  · unfold k1_mult1; simp only; rw [base_toNat h]; exact Dvd.intro_left _ rfl
  · rw [off_eq h]
    fin_cases a
    · show v.toNat / 8 * 8 + 8 ≤ 12800; omega
    · show 0 + 128 ≤ 128; omega

theorem chk_rowWord {v : BitVec 32} (h : IdOK v) : k1_chk1 (rowWord v) :=
  chk_of_lt (by rw [rowWord_toNat h]; have := vox_lt h; omega)

/-! ## The stretches between the regions -/

variable (m : (ℓ : Loc nD τ sig) → Buf (Elt F) ℓ)

/-- The points' ids as launched. -/
abbrev ids (c : Dev nD) : IVec S2000000 32 := m ((c.tc : Thread nD τ).loc main_arg2)

/-- Every point's id is allowed. -/
def IdsOK : Prop := ∀ (c : Dev nD) (i : S2000000.Idx), IdOK (ids m c i)

theorem v14_after (U : Valuation τ sig (Elt F)) :
    StableHlo.after hostOps1_2 (StableHlo.after hostOps1_1 (StableHlo.after hostOps1 U)) main_v14
      = shapeCast S3125x1x640 (fun i => rowWord ((U main_arg2 : IVec S2000000 32) i)) shapeCasts_S2000000_S3125x1x640 := by
  chain_rfl

theorem E9_v14 (c : Dev nD) :
    (E9 m c main_v14 : IVec S3125x1x640 32)
      = shapeCast S3125x1x640 (fun i => rowWord (ids m c i)) shapeCasts_S2000000_S3125x1x640 := by
  refine (v14_after (W6 m c)).trans ?_
  rw [W6_args m c main_arg2 (by decide)]
  rfl

theorem rowsOK (h : IdsOK m) : RowsOK m := by
  intro c t n hn
  unfold word blk1
  have e := E9_v14 m c
  change k1_chk1 (((cfg1.win 0).blk t).view.read (Elt F) (E9 m c main_v14) _)
  rw [e]
  exact chk_rowWord (h c _)

end Cert.KernelIdeal.Gather
-- ==== Proof.Spec.lean ====
module

public import proofs.«01_k».proof.Proof.Ids
public import Idealize.ShloMosaic.Lib.Pointwise
public import Idealize.ShloMosaic.PureOps.Ideal

/-!
# What both programs compute

A voxel's mean is the sum of its slots over its number of points, that number clamped below at one. Its features are the
mean times the weights, cut off below at zero. A point gets the features of its voxel, and zeros if it has none.
-/

@[expose] public section

noncomputable section

namespace Cert.Spec

open Idealize.ShloMosaic Cert.Ids
open scoped BigOperators

/-- The number of points a mean is taken over. -/
def count (n : BitVec 32) : EReal := (((IntOp.maxsi n 1#32).toInt : ℝ) : EReal)

theorem maxsi_pos (n : BitVec 32) : 1 ≤ (IntOp.maxsi n 1#32).toInt := by
  have h1 : (1#32 : BitVec 32).toInt = 1 := by decide
  unfold IntOp.maxsi
  simp only [BitVec.slt, decide_eq_true_eq]
  split
  · next h => rw [h1] at h; omega
  · rw [h1]

theorem count_ne_zero (n : BitVec 32) : count n ≠ 0 := by
  unfold count
  have h := maxsi_pos n
  intro e
  rw [EReal.coe_eq_zero] at e
  have : (IntOp.maxsi n 1#32).toInt = 0 := by exact_mod_cast e
  omega

/-- The mean of voxel `q`, channel `ch`. -/
def mean (A : (⟨3, ![400000, 5, 4]⟩ : Shape).Idx → EReal) (N : (⟨1, ![400000]⟩ : Shape).Idx → BitVec 32)
    (q : Fin 400000) (ch : Fin 4) : EReal := Ideal.div (∑ s : Fin 5, A (ix3 q s ch)) (count (N (ix1 q)))

/-- The features of voxel `q`. -/
def feat (A : (⟨3, ![400000, 5, 4]⟩ : Shape).Idx → EReal) (N : (⟨1, ![400000]⟩ : Shape).Idx → BitVec 32)
    (W : (⟨2, ![4, 32]⟩ : Shape).Idx → EReal) (q : Fin 400000) (c : Fin 32) : EReal :=
  max (∑ ch : Fin 4, mean A N q ch * W (ix2 ch c)) 0

/-- What point `p` gets. -/
def out (A : (⟨3, ![400000, 5, 4]⟩ : Shape).Idx → EReal) (N : (⟨1, ![400000]⟩ : Shape).Idx → BitVec 32)
    (I : (⟨1, ![2000000]⟩ : Shape).Idx → BitVec 32) (W : (⟨2, ![4, 32]⟩ : Shape).Idx → EReal)
    (h : ∀ i, IdOK (I i)) (p : Fin 2000000) (c : Fin 32) : EReal :=
  if 0 ≤ (I (ix1 p)).toInt then feat A N W ⟨vox (I (ix1 p)), vox_lt (h _)⟩ c else 0

end Cert.Spec
-- ==== Proof.KernelIdeal.HostValue.lean ====
module

public import proofs.«01_k».proof.Proof.KernelIdeal.Words
public import proofs.«01_k».proof.Proof.Spec

/-!
# What the host computes around the two regions
-/

@[expose] public section

noncomputable section

namespace Cert.KernelIdeal.Gather

open Idealize.ShloMosaic Idealize.ShloMosaic.TcCoe
open Cert.KernelIdeal Cert.Ids
open Cert.KernelIdeal.Gen hiding V6 V7 V8 V9 V10 V6_of V7_of V8_of V9_of V10_of segs adm

/-! ## Before the table region -/

/-- The slots laid out 32 voxels to a row. -/
def slotsOf (A : FVec Ideal S400000x5x4 .f32) : FVec Ideal S12800x640 .f32 :=
  shapeCast S12800x640 (transpose S12800x5x32x4 [0, 2, 1, 3]
    (shapeCast S12800x32x5x4 (pad S409600x5x4 ![0, 0, 0] ![9600, 0, 0] ![0, 0, 0] A
      (sitofp .f32 (constantI S_ 32 0#32)) pads_S400000x5x4_S409600x5x4_096000_000_000 h_S_) shapeCasts_S409600x5x4_S12800x32x5x4)
    transposes_S12800x32x5x4_S12800x5x32x4_0_2_1_3) shapeCasts_S12800x5x32x4_S12800x640

/-- The numbers of points, four copies of each, 32 voxels to a row. -/
def countsOf (N : IVec S400000 32) : IVec S12800x128 32 :=
  shapeCast S12800x128 (shapeCast S1638400 (broadcastInDim S409600x4 ![0] bcast_S409600_S409600x4_0
    (pad S409600 ![0] ![9600] ![0] N (id (constantI S_ 32 1#32)) pads_S400000_S409600_096000 h_S_))
    shapeCasts_S409600x4_S1638400) shapeCasts_S1638400_S12800x128

theorem v3_after (U : Valuation τ sig (Elt Ideal)) :
    StableHlo.after hostOps0_4 (StableHlo.after hostOps0_3 (StableHlo.after hostOps0_2 (StableHlo.after hostOps0_1
      (StableHlo.after hostOps0 U)))) main_v3 = slotsOf (U main_arg0) := by
  chain_rfl

theorem v7_after (U : Valuation τ sig (Elt Ideal)) :
    StableHlo.after hostOps0_4 (StableHlo.after hostOps0_3 (StableHlo.after hostOps0_2 (StableHlo.after hostOps0_1
      (StableHlo.after hostOps0 U)))) main_v7 = countsOf (U main_arg1) := by
  chain_rfl

theorem slotsOf_apply (A : FVec Ideal S400000x5x4 .f32) (r : Fin 12800) (l : Fin 128) (k : Fin 5)
    (q : Fin 400000) (ch : Fin 4) (h : l.val + 128 * r.val = ch.val + 4 * q.val) :
    slotsOf A (ix2 r ⟨128 * k.val + l.val, by omega⟩) = A (ix3 q k ch) := by
  pointwise [slotsOf]
  rw [dif_pos (by omega)]
  exact congrArg A (congrArg₂ (fun a b => ix3 a k b) (Fin.ext (by show _ = q.val; simp only; omega)) (Fin.ext (by show _ = ch.val; simp only; omega)))

theorem countsOf_apply (N : IVec S400000 32) (r : Fin 12800) (l : Fin 128) (q : Fin 400000) (ch : Fin 4)
    (h : l.val + 128 * r.val = ch.val + 4 * q.val) : countsOf N (ix2 r l) = N (ix1 q) := by
  pointwise [countsOf]
  rw [dif_pos (by omega)]
  exact congrArg N (congrArg ix1 (Fin.ext (by show _ = q.val; simp only; omega)))

theorem E5_v3 (m : (ℓ : Loc nD τ sig) → Buf (Elt Ideal) ℓ) (c : Dev nD) :
    (E5 m c main_v3 : FVec Ideal S12800x640 .f32) = slotsOf (m ((c.tc : Thread nD τ).loc main_arg0)) :=
  v3_after _

theorem E5_v7 (m : (ℓ : Loc nD τ sig) → Buf (Elt Ideal) ℓ) (c : Dev nD) :
    (E5 m c main_v7 : IVec S12800x128 32) = countsOf (m ((c.tc : Thread nD τ).loc main_arg1)) :=
  v7_after _

/-! ## Between the regions -/

/-- The weights repeated for each of the 32 places of a row. -/
def weightsOf (W : FVec Ideal S4x32 .f32) : FVec Ideal S128x32 .f32 :=
  shapeCast S128x32 (broadcastInDim S32x4x1x32 ![0, 1, 2, 3] bcast_S1x4x1x32_S32x4x1x32_0_1_2_3
    (shapeCast S1x4x1x32 W shapeCasts_S4x32_S1x4x1x32)) shapeCasts_S32x4x1x32_S128x32

theorem weightsOf_apply (W : FVec Ideal S4x32 .f32) (l : Fin 128) (c : Fin 32) :
    weightsOf W (ix2 l c) = W (ix2 ⟨l.val % 4, by omega⟩ c) := by
  pointwise [weightsOf]

theorem v15_after (U : Valuation τ sig (Elt Ideal)) :
    StableHlo.after hostOps1_2 (StableHlo.after hostOps1_1 (StableHlo.after hostOps1 U)) main_v15
      = shapeCast S3125x1x640 (U main_arg2 : IVec S2000000 32) shapeCasts_S2000000_S3125x1x640 := by
  chain_rfl

theorem v18_after (U : Valuation τ sig (Elt Ideal)) :
    StableHlo.after hostOps1_2 (StableHlo.after hostOps1_1 (StableHlo.after hostOps1 U)) main_v18
      = weightsOf (U main_arg3) := by
  chain_rfl

theorem v8_after (U : Valuation τ sig (Elt Ideal)) :
    StableHlo.after hostOps1_2 (StableHlo.after hostOps1_1 (StableHlo.after hostOps1 U)) main_v8 = U main_v8 := by
  chain_rfl

variable (m : (ℓ : Loc nD τ sig) → Buf (Elt Ideal) ℓ)

theorem E9_v15 (c : Dev nD) :
    (E9 m c main_v15 : IVec S3125x1x640 32) = shapeCast S3125x1x640 (ids m c) shapeCasts_S2000000_S3125x1x640 := by
  refine (v15_after (W6 m c)).trans ?_
  rw [W6_args m c main_arg2 (by decide)]

theorem E9_v18 (c : Dev nD) :
    (E9 m c main_v18 : FVec Ideal S128x32 .f32) = weightsOf (m ((c.tc : Thread nD τ).loc main_arg3)) := by
  refine (v18_after (W6 m c)).trans ?_
  rw [W6_args m c main_arg3 (by decide)]

/-- The gather region's table is what the table region wrote. -/
theorem E9_v8 (c : Dev nD) :
    (E9 m c main_v8 : FVec Ideal S12800x128 .f32) = (dat0 (E5 m) c).arrAt 2 cfg0.N :=
  (v8_after (W6 m c)).trans (W6_arr m c 2)

/-- Point `640 t + p` of the array is point `p` of block `t`. -/
theorem points_apply {α : Type} (X : S2000000.Idx → α) (t : Fin 3125) (p : Fin 640) :
    shapeCast S3125x1x640 X shapeCasts_S2000000_S3125x1x640 (ix3 t 0 p) = X (ix1 ⟨t.val * 640 + p.val, by omega⟩) := by
  pointwise

end Cert.KernelIdeal.Gather
-- ==== Proof.Same.lean ====
module

public import proofs.«01_k».proof.Proof.KernelIdeal.HostValue
public import proofs.«01_k».proof.Proof.Gen.Kernel

/-!
# The kernel and its idealization are one program

No rule rewrote an operation, so the two printed programs agree at any reading of the floats, and what is proved of the
idealization's text at any reading holds of the kernel's.
-/

@[expose] public section

noncomputable section

namespace Cert.Proof

open Idealize.ShloMosaic Idealize.ShloMosaic.Tactic Idealize.SL.Sem

variable {F : FTy → Type} [FloatOps F]

theorem main_eq : Cert.Kernel.main (F := F) = Cert.KernelIdeal.main (F := F) := by chain_rfl

theorem defs_eq : Cert.Kernel.defs (F := F) = Cert.KernelIdeal.defs (F := F) := by chain_rfl

/-- A run of the one is a run of the other. -/
theorem run_eq (s : MemSt Cert.Kernel.nD Cert.Kernel.τ Cert.Kernel.sig (Elt F))
    (P : PUnit × MemSt Cert.Kernel.nD Cert.Kernel.τ Cert.Kernel.sig (Elt F) → Prop) :
    θ_run (Cert.Kernel.defs (F := F)) (onTc (τ := Cert.Kernel.τ) (Cert.Kernel.main (F := F))) s P
      = θ_run (Cert.KernelIdeal.defs (F := F)) (onTc (τ := Cert.KernelIdeal.τ) (Cert.KernelIdeal.main (F := F))) s P := by
  rw [← main_eq, ← defs_eq]
  rfl

end Cert.Proof
-- ==== Proof.Frames.lean ====
module

public import proofs.«01_k».proof.Defs
public import proofs.«01_k».proof.Proof.Same
public import proofs.«01_k».proof.Proof.KernelIdeal.Words
public import proofs.«01_k».proof.Proof.Gen.ReferenceIdeal
public import proofs.«01_k».proof.Proof.Gen.ReferenceIdeal.Run
public import proofs.«01_k».proof.Proof.Gen.Pre_ids_in_range

/-!
# The frames

The kernel, its idealization and the idealized reference run, leave their arguments as they were, and end with every
semaphore at zero.
-/

@[expose] public section

noncomputable section

namespace Cert.Proof

open Idealize.ShloMosaic Idealize.SL.Sem

/-- The precondition bounds every id. -/
theorem ids_Kernel (m : (ℓ : Loc Cert.Kernel.nD Cert.Kernel.τ Cert.Kernel.sig) → Buf (Elt Bits) ℓ)
    (h : Cert.Pre_Kernel m) : Cert.KernelIdeal.Gather.IdsOK (F := Bits) m :=
  fun c i => Cert.Ids.idOK_of_pre _ _ _ _ (h c) i

theorem ids_KernelIdeal (m : (ℓ : Loc Cert.KernelIdeal.nD Cert.KernelIdeal.τ Cert.KernelIdeal.sig) → Buf (Elt Ideal) ℓ)
    (h : Cert.Pre_KernelIdeal m) : Cert.KernelIdeal.Gather.IdsOK m :=
  fun c i => Cert.Ids.idOK_of_pre _ _ _ _ (h c) i

theorem frame_k : Cert.quiescent_Kernel := fun m ρ h =>
  (θ_run Cert.Kernel.defs _ _).mono (fun _ e => ⟨fun c => (e.1 c).2, e.2⟩)
    ((run_eq ⟨m, fun _ => 0, ρ⟩ _).mpr
      (Cert.KernelIdeal.Gather.run (F := Bits) m ρ (Cert.KernelIdeal.Gather.rowsOK (F := Bits) m (ids_Kernel m h))))

theorem frame_ki : Cert.quiescent_KernelIdeal := fun m ρ h =>
  (θ_run Cert.KernelIdeal.defs _ _).mono (fun _ e => ⟨fun c => (e.1 c).2, e.2⟩)
    (Cert.KernelIdeal.Gather.run m ρ (Cert.KernelIdeal.Gather.rowsOK m (ids_KernelIdeal m h)))

theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.RefValue.lean ====
module

public import proofs.«01_k».proof.Proof.Spec
public import proofs.«01_k».proof.Proof.Gen.ReferenceIdeal
public import proofs.«01_k».proof.Proof.Gen.ReferenceIdeal.Run
public import Idealize.ShloMosaic.Lib.Routing.Ops

/-!
# What the reference computes, point by point
-/

@[expose] public section

noncomputable section

namespace Cert.ReferenceIdeal.RefValue

open Idealize.ShloMosaic Idealize.SL.Sem Cert.Ids
open Cert.ReferenceIdeal Cert.ReferenceIdeal.Gen
open scoped BigOperators

/-- The features of every voxel, as the reference computes them. -/
def feats (A : FVec Ideal S400000x5x4 .f32) (N : IVec S400000 32) (W : FVec Ideal S4x32 .f32) : FVec Ideal S400000x32 .f32 :=
  maximumf (Host.dotGeneral dot_S400000x4_S4x32_S400000x32_1_0_0_1_n_n none (Host.divf (Host.reduceAdd A (constant S_ .f32 0x00000000#32) reducesTo_S400000x5x4_S400000x4_d1 h_S_) (broadcastInDim S400000x4 ![0, 1] bcast_S400000x1_S400000x4_0_1 (broadcastInDim S400000x1 ![0] bcast_S400000_S400000x1_0 (sitofp .f32 (maxsi (broadcastInDim S400000 ![] bcast_S_S400000 (id (constantI S_ 32 1#32))) N))))) W) (broadcastInDim S400000x32 ![] bcast_S_S400000x32 (constant S_ .f32 0x00000000#32))

theorem feats_apply (A : FVec Ideal S400000x5x4 .f32) (N : IVec S400000 32) (W : FVec Ideal S4x32 .f32) (q : Fin 400000) (c : Fin 32) :
    feats A N W (ix2 q c) = Spec.feat A N W q c := by
  pointwise [feats, Spec.feat, Spec.mean, Spec.count]
  rw [show IntOp.maxsi (id (constantI S_ 32 1#32) ix0) (N (ix1 q)) = IntOp.maxsi (N (ix1 q)) 1#32 from
    Std.Commutative.comm (op := IntOp.maxsi) _ _]
  rfl

/-- The ids clamped below at zero, as the reference computes them. -/
def clamped (I : IVec S2000000 32) : IVec S2000000 32 :=
  select (cmpi .sge I (broadcastInDim S2000000 ![] bcast_S_S2000000 (constantI S_ 32 0#32))) I (broadcastInDim S2000000 ![] bcast_S_S2000000 (id (constantI S_ 32 0#32)))

/-- The row the reference takes for each point. -/
def taken (I : IVec S2000000 32) : IVec S2000000x1 32 :=
  broadcastInDim S2000000x1 ![0] bcast_S2000000_S2000000x1_0 (select (cmpi .slt (clamped I) (broadcastInDim S2000000 ![] bcast_S_S2000000 (constantI S_ 32 0#32))) (addi (clamped I) (broadcastInDim S2000000 ![] bcast_S_S2000000 (constantI S_ 32 400000#32))) (clamped I))

/-- The reference's result. -/
def result (A : FVec Ideal S400000x5x4 .f32) (N : IVec S400000 32) (I : IVec S2000000 32) (W : FVec Ideal S4x32 .f32) : FVec Ideal S2000000x32 .f32 :=
  select (broadcastInDim S2000000x32 ![0, 1] bcast_S2000000x1_S2000000x32_0_1 (broadcastInDim S2000000x1 ![0] bcast_S2000000_S2000000x1_0 (cmpi .sge I (broadcastInDim S2000000 ![] bcast_S_S2000000 (constantI S_ 32 0#32))))) (Host.gather gather_S400000x32_S2000000x1_S2000000x32_1_0_n_n_0_1_132 (feats A N W) (taken I)) (broadcastInDim S2000000x32 ![] bcast_S_S2000000x32 (constant S_ .f32 0x00000000#32))

theorem taken_apply (I : IVec S2000000 32) (h : ∀ i, IdOK (I i)) (p : Fin 2000000) (z : Fin 1) :
    taken I (ix2 p z) = BitVec.ofNat 32 (vox (I (ix1 p))) := by
  have e : clamped I (ix1 p) = BitVec.ofNat 32 (vox (I (ix1 p))) := by
    apply BitVec.eq_of_toNat_eq
    have := vox_lt (h (ix1 p))
    rw [BitVec.toNat_ofNat, Nat.mod_eq_of_lt (by omega), ← clamp_toNat]
    pointwise [clamped]
    rfl
  pointwise [taken]
  have hv := vox_lt (h (ix1 p))
  have hs : (BitVec.ofNat 32 (vox (I (ix1 p)))).slt 0#32 = false := by
    rw [BitVec.slt, decide_eq_false_iff_not, BitVec.toInt_eq_toNat_of_lt (by rw [BitVec.toNat_ofNat]; omega)]
    simp; omega
  rw [e, IntOp.cmpi, hs]
  exact ValueIdx.select_zero _ _

theorem result_apply (A : FVec Ideal S400000x5x4 .f32) (N : IVec S400000 32) (I : IVec S2000000 32) (W : FVec Ideal S4x32 .f32)
    (h : ∀ i, IdOK (I i)) (p : Fin 2000000) (c : Fin 32) : result A N I W (ix2 p c) = Spec.out A N I W h p c := by
  have g : Host.gather gather_S400000x32_S2000000x1_S2000000x32_1_0_n_n_0_1_132 (feats A N W) (taken I) (ix2 p c)
      = Spec.feat A N W ⟨vox (I (ix1 p)), vox_lt (h _)⟩ c := by
    rw [← feats_apply, ix2_eq_valueIdx, ix2_eq_valueIdx]
    exact Routing.gather_row _ rfl rfl rfl rfl rfl _ _ p c ⟨vox (I (ix1 p)), vox_lt (h _)⟩
      (by rw [← ix2_eq_valueIdx]; exact taken_apply I h p 0) (by decide)
  unfold result Spec.out
  pointwise
  rw [g]
  by_cases h0 : 0 ≤ (I (ix1 p)).toInt
  · rw [if_pos h0, IntOp.cmpi, show BitVec.sle 0#32 (I (ix1 p)) = true by simpa [BitVec.sle] using h0]
    exact ValueIdx.select_one _ _
  · rw [if_neg h0, IntOp.cmpi, show BitVec.sle 0#32 (I (ix1 p)) = false by simpa [BitVec.sle] using h0]
    exact ValueIdx.select_zero _ _

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.RefValue
-- ==== Proof.KernelIdeal.BlockValue.lean ====
module

public import proofs.«01_k».proof.Proof.KernelIdeal.Words
public import proofs.«01_k».proof.Proof.Spec

/-!
# What the gather body leaves in its output block, entry by entry
-/

@[expose] public section

noncomputable section

namespace Cert.KernelIdeal.Gather

open Idealize.ShloMosaic Idealize.ShloMosaic.TcCoe
open Cert.KernelIdeal Cert.Ids
open Cert.KernelIdeal.Gen hiding V6 V7 V8 V9 V10 V6_of V7_of V8_of V9_of V10_of segs adm
open scoped BigOperators

/-! ## The scratch block -/

theorem and_seven (x : BitVec 32) : (x &&& 7#32).toNat = x.toNat % 8 := by
  rw [BitVec.toNat_and]; exact Nat.and_two_pow_sub_one_eq_mod x.toNat 3

theorem and_thirtyone (x : BitVec 32) : (x &&& 31#32).toNat = x.toNat % 32 := by
  rw [BitVec.toNat_and]; exact Nat.and_two_pow_sub_one_eq_mod x.toNat 5

/-- The rotation puts row `v` modulo eight of the loaded rows at place `n` modulo eight. -/
theorem rot_place (n : ℕ) (v : BitVec 32) :
    (n % 8 + 8 - (Scalar.andi (Scalar.subi (BitVec.ofNat 32 n) v) 7#32).toNat % 8) % 8 = v.toNat % 8 := by
  have e : (Scalar.andi (Scalar.subi (BitVec.ofNat 32 n) v) 7#32).toNat = (BitVec.ofNat 32 n - v).toNat % 8 := and_seven _
  rw [e, BitVec.toNat_sub, BitVec.toNat_ofNat]
  have := v.isLt
  omega

theorem picked_apply (n : ℕ) (v : BitVec 32) (t : Vec Ideal S8x128 .f32) (l : Fin 128) :
    picked n v t (ix2 0 l) = t (ix2 ⟨v.toNat % 8, by omega⟩ l) := by
  pointwise [picked]
  exact congrArg t (congrArg (fun r => ix2 r l) (Fin.ext (rot_place n v)))

theorem ld_tab (tab : Vec Ideal S12800x128 .f32) (v : BitVec 32) (hv : k1_chk1 v) (h : v.toNat < 12500) (r : Fin 8) (l : Fin 128) :
    (View.ld tab (tabRect v hv) : Vec Ideal S8x128 .f32) (ix2 r l) = tab (ix2 ⟨v.toNat / 8 * 8 + r.val, by omega⟩ l) := by
  pointwise
  refine congrArg tab (congrArg₂ ix2 (Fin.ext ?_) (Fin.ext ?_))
  · show k1_off1 v 0 + r.val = _; rw [off_eq h]; rfl
  · show k1_off1 v 1 + l.val = _; rw [off_eq h]; show 0 + l.val = l.val; omega

theorem word_apply (jw : Vec Ideal S1x1x640 .i32) (n : ℕ) (h : n < 640) :
    word (F := Ideal) jw n h = jw (ix3 0 0 ⟨n, h⟩) := by
  unfold word
  pointwise

/-- Row `p` of the scratch block is the table row its row number names. -/
theorem scr_apply (jw : Vec Ideal S1x1x640 .i32) (tab : Vec Ideal S12800x128 .f32) (hw : WordsOK (F := Ideal) jw)
    (p : Fin 640) (l : Fin 128) (v : BitVec 32) (hv : jw (ix3 0 0 p) = v) (h : v.toNat < 12500) :
    scr jw tab hw (ix2 p l) = tab (ix2 ⟨v.toNat, by omega⟩ l) := by
  subst hv
  have e : word (F := Ideal) jw p.val p.isLt = jw (ix3 0 0 p) := word_apply jw p.val p.isLt
  have h' : (word (F := Ideal) jw p.val p.isLt).toNat < 12500 := by rw [e]; exact h
  have es : scr jw tab hw (ix2 p l) = picked p.val (word (F := Ideal) jw p.val p.isLt)
      (View.ld tab (tabRect (word (F := Ideal) jw p.val p.isLt) (hw p.val p.isLt))) (ix2 0 l) := by
    rw [ix2_eq_valueIdx (0 : Fin 1) l]; rfl
  rw [es, picked_apply, ld_tab _ _ _ h']
  refine congrArg tab (congrArg (fun r => ix2 r l) (Fin.ext ?_))
  show (word (F := Ideal) jw p.val p.isLt).toNat / 8 * 8 + (word (F := Ideal) jw p.val p.isLt).toNat % 8 = _
  rw [e]
  show _ = (jw (ix3 0 0 p)).toNat
  omega

/-! ## The selection matrix -/

/-- The selection matrix is one at the lanes of the place of the point's voxel, and zero elsewhere. -/
theorem selMat_apply (v0 : Vec Ideal S1x1x640 .i32) (p : Fin 640) (l : Fin 128) :
    selMat (F := Ideal) v0 (ix2 p l)
      = if 0 ≤ (v0 (ix3 0 0 p) : BitVec 32).toInt ∧ (v0 (ix3 0 0 p) : BitVec 32).toNat % 32 = l.val / 4 then 1 else 0 := by
  pointwise [selMat]
  generalize (v0 (ix3 0 0 p) : BitVec 32) = v
  have hs : IntOp.shrsi ArithUnit.vector (BitVec.ofNat 32 l.val) 2#32 = BitVec.ofNat 32 (l.val / 4) := by
    apply BitVec.eq_of_toNat_eq
    unfold IntOp.shrsi
    rw [if_pos (by decide), show (2#32 : BitVec 32) = BitVec.ofNat 32 2 from rfl,
      shr_toNat _ 2 (by decide) (by rw [BitVec.toNat_ofNat]; omega)]
    simp only [BitVec.toNat_ofNat]
    omega
  have hc : ∀ x : Fin 32, IntOp.cmpi .eq (IntOp.shrsi ArithUnit.vector (BitVec.ofNat 32 l.val) 2#32) (BitVec.ofNat 32 x.val)
      = BitVec.ofBool (decide (l.val / 4 = x.val)) := by
    intro x
    rw [hs]
    unfold IntOp.cmpi
    refine congrArg BitVec.ofBool (decide_eq_decide.2 ⟨fun e => ?_, fun e => by rw [e]⟩)
    have := congrArg BitVec.toNat e
    simp only [BitVec.toNat_ofNat] at this
    omega
  have hm : ∀ x : Fin 32, IntOp.cmpi .eq (IntOp.andi v 31#32) (BitVec.ofNat 32 x.val) = BitVec.ofBool (decide (v.toNat % 32 = x.val)) := by
    intro x
    unfold IntOp.cmpi IntOp.andi
    refine congrArg BitVec.ofBool (decide_eq_decide.2 ⟨fun e => ?_, fun e => BitVec.eq_of_toNat_eq ?_⟩)
    · have := congrArg BitVec.toNat e
      rw [and_thirtyone] at this
      simp only [BitVec.toNat_ofNat] at this
      omega
    · rw [and_thirtyone, BitVec.toNat_ofNat]; omega
  have hg : IntOp.cmpi .sge v 0#32 = BitVec.ofBool (decide (0 ≤ v.toInt)) := by
    unfold IntOp.cmpi
    simp [BitVec.sle]
  have andi_ofBool (a b : Bool) : IntOp.andi (BitVec.ofBool a) (BitVec.ofBool b) = BitVec.ofBool (a && b) := by
    cases a <;> cases b <;> decide
  have sel (a : Bool) (x y : EReal) : Scalar.select (BitVec.ofBool a) x y = if a then x else y := by
    cases a
    · exact ValueIdx.select_zero _ _
    · exact ValueIdx.select_one _ _
  simp only [hc, hm, hg, andi_ofBool, sel]
  rw [Finset.sum_eq_single (⟨l.val / 4, by omega⟩ : Fin 32)]
  · simp [and_comm]
  · intro x _ hx
    rw [if_neg]
    simp only [decide_eq_true_eq]
    exact fun e => hx (Fin.ext e.symm)
  · simp

theorem outBlock_apply (x sel : FVec Ideal S640x128 .f32) (w : Vec Ideal S128x32 .f32) (p : Fin 640) (c : Fin 32) :
    outBlock x sel w (ix2 p c) = max (∑ l : Fin 128, x (ix2 p l) * sel (ix2 p l) * w (ix2 l c)) 0 := by
  pointwise [outBlock]

/-! ## The output block -/

/-- A sum over the 128 lanes, by place and channel. -/
theorem sum_lanes (f : Fin 128 → EReal) :
    ∑ l, f l = ∑ g : Fin 32, ∑ ch : Fin 4, f ⟨ch.val + 4 * g.val, by omega⟩ := by
  rw [← Fintype.sum_prod_type', ← (finProdFinEquiv (m := 32) (n := 4)).sum_comp]
  rfl

theorem outOf_apply (jw ids : Vec Ideal S1x1x640 .i32) (w : Vec Ideal S128x32 .f32) (tab : Vec Ideal S12800x128 .f32)
    (hw : WordsOK (F := Ideal) jw) (A : FVec Ideal S400000x5x4 .f32) (N : IVec S400000 32) (W : FVec Ideal S4x32 .f32)
    (p : Fin 640) (c : Fin 32) (v : BitVec 32) (hv : IdOK v) (hj : jw (ix3 0 0 p) = rowWord v) (hi : ids (ix3 0 0 p) = v)
    (hW : ∀ (l : Fin 128) (ch : Fin 4), l.val % 4 = ch.val → w (ix2 l c) = W (ix2 ch c))
    (hT : ∀ (r : Fin 12800) (l : Fin 128) (q : Fin 400000) (ch : Fin 4), l.val + 128 * r.val = ch.val + 4 * q.val →
      tab (ix2 r l) = Spec.mean A N q ch) :
    outOf jw ids w tab hw (ix2 p c) = if 0 ≤ v.toInt then Spec.feat A N W ⟨vox v, vox_lt hv⟩ c else 0 := by
  have hq := vox_lt hv
  have hr := rowWord_toNat hv
  unfold outOf
  rw [outBlock_apply]
  simp only [selMat_apply, hi, scr_apply jw tab hw p _ (rowWord v) hj (by rw [hr]; omega)]
  by_cases h0 : 0 ≤ v.toInt
  · have hvox : vox v = v.toNat := if_pos h0
    rw [if_pos h0]
    unfold Spec.feat
    refine congrArg (max · 0) ?_
    rw [sum_lanes, Finset.sum_eq_single (⟨v.toNat % 32, by omega⟩ : Fin 32)]
    · refine Finset.sum_congr rfl fun ch _ => ?_
      rw [if_pos ⟨h0, by simp only; omega⟩, mul_one, hW _ ch (by simp only; omega)]
      rw [hT _ _ ⟨vox v, hq⟩ ch (by simp only; rw [hr, hvox]; omega)]
    · intro g _ hg
      refine Finset.sum_eq_zero fun ch _ => ?_
      rw [if_neg, mul_zero, zero_mul]
      rintro ⟨_, e⟩
      exact hg (Fin.ext (by simp only at e ⊢; omega))
    · simp
  · rw [if_neg h0, Finset.sum_eq_zero, max_self]
    intro l _
    rw [if_neg (fun e => h0 e.1), mul_zero, zero_mul]

end Cert.KernelIdeal.Gather
-- ==== Proof.KernelIdeal.TableValue.lean ====
module

public import proofs.«01_k».proof.Proof.KernelIdeal.HostValue
public import Idealize.ShloMosaic.Lib.Pipeline.ValueKit.Geometry

/-!
# What the table region leaves: the means

Row `r` of the table holds the means of 32 voxels, four lanes each.
-/

@[expose] public section

noncomputable section

namespace Cert.KernelIdeal.Gather

open Idealize.ShloMosaic Idealize.ShloMosaic.TcCoe
open Cert.KernelIdeal Cert.Ids
open Cert.KernelIdeal.Gen hiding V6 V7 V8 V9 V10 V6_of V7_of V8_of V9_of V10_of segs adm
open scoped BigOperators

/-- The table from the slots and the numbers of points, entry by entry. -/
def tableOf (X : FVec Ideal S12800x640 .f32) (N : IVec S12800x128 32) : FVec Ideal S12800x128 .f32 := fun j =>
  (∑ k : Fin 5, X (ix2 (j 0) ⟨128 * k.val + (j 1).val, by have h : (j 1).val < 128 := (j 1).isLt; omega⟩))
    * Ideal.div 1 (Spec.count (N j))

theorem tblOf_apply (x : FVec Ideal S512x640 .f32) (n : IVec S512x128 32) (r : Fin 512) (l : Fin 128) :
    tblOf (F := Ideal) x n (ix2 r l)
      = (∑ k : Fin 5, x (ix2 r ⟨128 * k.val + l.val, by omega⟩)) * Ideal.div 1 (Spec.count (n (ix2 r l))) := by
  rw [Fin.sum_univ_five]
  pointwise [tblOf, tblSum, tblRecip, Spec.count]
  rfl

theorem mean_eq (A : FVec Ideal S400000x5x4 .f32) (N : IVec S400000 32) (r : Fin 12800) (l : Fin 128)
    (q : Fin 400000) (ch : Fin 4) (h : l.val + 128 * r.val = ch.val + 4 * q.val) :
    tableOf (slotsOf A) (countsOf N) (ix2 r l) = Spec.mean A N q ch := by
  unfold tableOf Spec.mean
  rw [countsOf_apply N r l q ch h, Ideal.mul_one_div (Spec.count_ne_zero _)]
  refine congrArg (Ideal.div · _) (Finset.sum_congr rfl fun k _ => ?_)
  exact slotsOf_apply A r l k q ch h

theorem table_final (V : (c : Dev nD) → (b : Ref sig .tc) → Buf (Elt Ideal) ((c : Thread nD τ).loc b)) (c : Dev nD) :
    (dat0 V c).arrAt 2 cfg0.N = tableOf (V c main_v3) (V c main_v7) := by
  have e0 : ∀ t : Fin cfg0.N, win0_0.index t = ![(grid0.coords t 0).val, 0] := (by decide +kernel : ∀ t : Fin grid0.N, _)
  have e1 : ∀ t : Fin cfg0.N, win0_1.index t = ![(grid0.coords t 0).val, 0] := (by decide +kernel : ∀ t : Fin grid0.N, _)
  have e2 : ∀ t : Fin cfg0.N, win0_2.index t = ![(grid0.coords t 0).val, 0] := (by decide +kernel : ∀ t : Fin grid0.N, _)
  refine (dat0 V c).arrAt_eq_of_covers 2 _ (by decide +kernel) fun t hf y => ?_
  blk_simp
  rw [after0_2]
  obtain ⟨r, l, rfl⟩ : ∃ (r : Fin 512) (l : Fin 128), y = ix2 r l :=
    ⟨y 0, y 1, eq_ix2 y⟩
  refine (tblOf_apply (blk0 V c 0 t) (blk0 V c 1 t) r l).trans ?_
  unfold tableOf
  refine congrArg₂ (· * ·) (Finset.sum_congr rfl fun k _ => ?_) (congrArg (fun n => Ideal.div 1 (Spec.count n)) ?_)
  · blk_simp [blk0]
    refine congrArg (V c main_v3) ?_
    blk_ext [e0, e2]
  · blk_simp [blk0]
    refine congrArg (V c main_v7) ?_
    blk_ext [e1, e2]

end Cert.KernelIdeal.Gather
-- ==== Proof.KernelIdeal.OutValue.lean ====
module

public import proofs.«01_k».proof.Proof.KernelIdeal.BlockValue
public import proofs.«01_k».proof.Proof.KernelIdeal.TableValue
public import proofs.«01_k».proof.Proof.KernelIdeal.HostValue
public import Idealize.ShloMosaic.Lib.Pipeline.ValueKit.Geometry

/-!
# The kernel's output array, entry by entry

The output's blocks cover it, one for each 640 points, and each block holds the output features of its points.
-/

@[expose] public section

set_option maxRecDepth 16384

noncomputable section

namespace Cert.KernelIdeal.Gather

open Idealize.ShloMosaic Idealize.ShloMosaic.TcCoe Idealize.ShloMosaic.Tactic
open Cert.KernelIdeal Cert.Ids
open Cert.KernelIdeal.Gen hiding V6 V7 V8 V9 V10 V6_of V7_of V8_of V9_of V10_of segs adm
open scoped BigOperators

/-! ## Where the blocks lie -/

theorem index1_0 : ∀ t : Fin cfg1.N, win1_0.index t = ![(grid1.coords t 0).val, 0, 0] := (by decide +kernel : ∀ t : Fin grid1.N, _)
theorem index1_1 : ∀ t : Fin cfg1.N, win1_1.index t = ![(grid1.coords t 0).val, 0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![(grid1.coords t 0).val, 0] := (by decide +kernel : ∀ t : Fin grid1.N, _)

/-- The output's blocks cover it. -/
theorem covers1 : (cfg1.win 4).Covers := by decide +kernel

/-- The number of a grid point's block. -/
def blockNo (t : Fin cfg1.N) : Fin 3125 := grid1.coords t 0

variable (V : (c : Dev nD) → (b : Ref sig .tc) → Buf (Elt Ideal) ((c : Thread nD τ).loc b)) (c : Dev nD)

/-! ## What the input blocks hold -/

theorem blk1_0_apply (t : Fin cfg1.N) (p : Fin 640) :
    (blk1 V c 0 t : Vec Ideal S1x1x640 .i32) (ix3 0 0 p) = (V c main_v14 : IVec S3125x1x640 32) (ix3 (blockNo t) 0 p) := by
  blk_simp [blk1]
  refine congrArg (V c main_v14) ?_
  unfold blockNo
  blk_ext [index1_0]

theorem blk1_1_apply (t : Fin cfg1.N) (p : Fin 640) :
    (blk1 V c 1 t : Vec Ideal S1x1x640 .i32) (ix3 0 0 p) = (V c main_v15 : IVec S3125x1x640 32) (ix3 (blockNo t) 0 p) := by
  blk_simp [blk1]
  refine congrArg (V c main_v15) ?_
  unfold blockNo
  blk_ext [index1_1]

theorem blk1_2_apply (t : Fin cfg1.N) (l : Fin 128) (k : Fin 32) :
    (blk1 V c 2 t : Vec Ideal S128x32 .f32) (ix2 l k) = (V c main_v18 : FVec Ideal S128x32 .f32) (ix2 l k) := by
  blk_simp [blk1]
  refine congrArg (V c main_v18) ?_
  blk_ext [index1_2]

theorem blk1_3_apply (t : Fin cfg1.N) (r : Fin 12800) (l : Fin 128) :
    (blk1 V c 3 t : Vec Ideal S12800x128 .f32) (ix2 r l) = (V c main_v8 : FVec Ideal S12800x128 .f32) (ix2 r l) := by
  blk_simp [blk1]
  refine congrArg (V c main_v8) ?_
  blk_ext [index1_3]

theorem emb1_4 (t : Fin cfg1.N) (p : Fin 640) (k : Fin 32) :
    (win1_4.blk t).view.emb (ix2 p k : S640x32.Idx)
      = (ix2 ⟨(blockNo t).val * 640 + p.val, by omega⟩ k : S2000000x32.Idx) := by
  unfold blockNo
  blk_ext [index1_4]

/-! ## The output -/

section
variable (hw : ∀ t, WordsOK (F := Ideal) (blk1 V c 0 t))
    (A : FVec Ideal S400000x5x4 .f32) (N : IVec S400000 32) (I : IVec S2000000 32) (W : FVec Ideal S4x32 .f32)
    (h : ∀ i, IdOK (I i))
    (h14 : (V c main_v14 : IVec S3125x1x640 32) = shapeCast S3125x1x640 (fun i => rowWord (I i)) shapeCasts_S2000000_S3125x1x640)
    (h15 : (V c main_v15 : IVec S3125x1x640 32) = shapeCast S3125x1x640 I shapeCasts_S2000000_S3125x1x640)
    (h18 : (V c main_v18 : FVec Ideal S128x32 .f32) = weightsOf W)
    (h8 : (V c main_v8 : FVec Ideal S12800x128 .f32) = tableOf (slotsOf A) (countsOf N))

include h14 h15 h18 h8 in
/-- The features of the points of block `t`. -/
theorem block_out (t : Fin cfg1.N) (p : Fin 640) (k : Fin 32) :
    outOf (blk1 V c 0 t) (blk1 V c 1 t) (blk1 V c 2 t) (blk1 V c 3 t) (hw t) (ix2 p k)
      = Spec.out A N I W h ⟨(blockNo t).val * 640 + p.val, by omega⟩ k := by
  refine outOf_apply _ _ _ _ (hw t) A N W p k (I (ix1 ⟨(blockNo t).val * 640 + p.val, by omega⟩)) (h _) ?_ ?_ ?_ ?_
  · rw [blk1_0_apply, h14, points_apply]
  · rw [blk1_1_apply, h15, points_apply]
  · intro l ch hl
    rw [blk1_2_apply, h18, weightsOf_apply]
    exact congrArg (fun x => W (ix2 x k)) (Fin.ext hl)
  · intro r l q ch hl
    rw [blk1_3_apply, h8]
    exact mean_eq A N r l q ch hl

include hw h14 h15 h18 h8 in
/-- The output array ends with the output features, whatever the region's input arrays are, as long as they are what
the rest of the kernel makes of the arguments. -/
theorem out_final :
    (dat1 V c).arrAt 4 cfg1.N = (fun j => Spec.out A N I W h (j 0) (j 1) : S2000000x32.Idx → EReal) := by
  refine (dat1 V c).arrAt_eq_of_covers 4 _ covers1 fun t hf y => ?_
  blk_simp
  rw [after1_4, outD_of _ _ _ _ (hw t)]
  obtain ⟨p, k, rfl⟩ : ∃ (p : Fin 640) (k : Fin 32), y = ix2 p k := ⟨y 0, y 1, eq_ix2 y⟩
  refine (block_out V c hw A N I W h h14 h15 h18 h8 t p k).trans ?_
  rw [emb1_4]
  rfl

end

/-- The kernel's result is the specification's. -/
theorem out_eq (m : (ℓ : Loc nD τ sig) → Buf (Elt Ideal) ℓ) (h : IdsOK m) (c : Dev nD) :
    (dat1 (E9 m) c).arrAt 4 cfg1.N
      = (fun j => Spec.out (m ((c.tc : Thread nD τ).loc main_arg0)) (m ((c.tc : Thread nD τ).loc main_arg1)) (ids m c)
          (m ((c.tc : Thread nD τ).loc main_arg3)) (h c) (j 0) (j 1) : S2000000x32.Idx → EReal) := by
  refine out_final (E9 m) c (rowsOK m h c) _ _ _ _ (h c) (E9_v14 m c) (E9_v15 m c) (E9_v18 m c) ?_
  rw [E9_v8, table_final, E5_v3, E5_v7]

end Cert.KernelIdeal.Gather
-- ==== Proof.Algebraic.lean ====
module

public import proofs.«01_k».proof.Proof.Frames
public import proofs.«01_k».proof.Proof.RefValue
public import proofs.«01_k».proof.Proof.KernelIdeal.OutValue

/-!
# The results are equal

From the same arguments the idealized kernel and the idealized reference both end with the specification's array.
-/

@[expose] public section

noncomputable section

namespace Cert.Proof

open Idealize.ShloMosaic Idealize.SL.Sem

theorem algebraic : Cert.algebraic_KernelIdeal_ReferenceIdeal := by
  intro m g m' g' hpre hargs
  have hids := ids_KernelIdeal m hpre
  refine ⟨fun c => (Cert.KernelIdeal.Gather.dat1 (Cert.KernelIdeal.Gather.E9 m) c).arrAt 4 Cert.KernelIdeal.cfg1.N, ?_, ?_⟩
  · exact (θ_run Cert.KernelIdeal.defs _ _).mono (fun _ e => e.1)
      (Cert.KernelIdeal.Gather.run m g (Cert.KernelIdeal.Gather.rowsOK m hids))
  · refine (θ_run Cert.ReferenceIdeal.defs _ _).mono (fun r e c => ⟨(e c).1.trans ?_, (e c).2⟩)
      (Cert.ReferenceIdeal.RefValue.run m' g')
    obtain ⟨h0, h1, h2, h3⟩ := hargs c
    rw [h0, h1, h2, h3]
    refine Eq.trans ?_ (Cert.KernelIdeal.Gather.out_eq m hids c).symm
    funext j
    rw [eq_ix2 j]
    exact Cert.ReferenceIdeal.RefValue.result_apply _ _ _ _ (hids c) (j 0) (j 1)

end Cert.Proof
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_ids_in_range.Gen.facts,
    frame_k, frame_ki, frame_ri, trivial, algebraic⟩

end Cert.Proof

end
